-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite [hPre_finite : Cert.Pre_finite.Facts] (m : (ℓ : Loc Cert.KernelIdeal.nD Cert.KernelIdeal.τ Cert.KernelIdeal.sig) → Buf (Elt Ideal) ℓ) : Prop :=
  ∀ c : Dev Cert.KernelIdeal.nD,
    (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))).1 = (fun _ => 1#1)
    ∧ (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))).2.1 = (fun _ => 1#1)
    ∧ (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))).2.2 = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite [hPre_finite : Cert.Pre_finite.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))).1 = (fun _ => 1#1)
    ∧ (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))).2.1 = (fun _ => 1#1)
    ∧ (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))).2.2 = (fun _ => 1#1)

def Pre_Kernel2 [hPre_in_range : Cert.Pre_in_range.Facts] (m : (ℓ : Loc Cert.Kernel2.nD Cert.Kernel2.τ Cert.Kernel2.sig) → Buf (Elt Bits) ℓ) : Prop :=
  ∀ c : Dev Cert.Kernel2.nD,
    (Cert.Pre_in_range.fn (F := Bits) (m ((c.tc : Thread Cert.Kernel2.nD Cert.Kernel2.τ).loc Cert.Kernel2.main_arg0)) (m ((c.tc : Thread Cert.Kernel2.nD Cert.Kernel2.τ).loc Cert.Kernel2.main_arg1)) (m ((c.tc : Thread Cert.Kernel2.nD Cert.Kernel2.τ).loc Cert.Kernel2.main_arg2)) (m ((c.tc : Thread Cert.Kernel2.nD Cert.Kernel2.τ).loc Cert.Kernel2.main_arg3)) (m ((c.tc : Thread Cert.Kernel2.nD Cert.Kernel2.τ).loc Cert.Kernel2.main_arg4)) (m ((c.tc : Thread Cert.Kernel2.nD Cert.Kernel2.τ).loc Cert.Kernel2.main_arg5)) (m ((c.tc : Thread Cert.Kernel2.nD Cert.Kernel2.τ).loc Cert.Kernel2.main_arg6)) (m ((c.tc : Thread Cert.Kernel2.nD Cert.Kernel2.τ).loc Cert.Kernel2.main_arg7))).1 = (fun _ => 1#1)
    ∧ (Cert.Pre_in_range.fn (F := Bits) (m ((c.tc : Thread Cert.Kernel2.nD Cert.Kernel2.τ).loc Cert.Kernel2.main_arg0)) (m ((c.tc : Thread Cert.Kernel2.nD Cert.Kernel2.τ).loc Cert.Kernel2.main_arg1)) (m ((c.tc : Thread Cert.Kernel2.nD Cert.Kernel2.τ).loc Cert.Kernel2.main_arg2)) (m ((c.tc : Thread Cert.Kernel2.nD Cert.Kernel2.τ).loc Cert.Kernel2.main_arg3)) (m ((c.tc : Thread Cert.Kernel2.nD Cert.Kernel2.τ).loc Cert.Kernel2.main_arg4)) (m ((c.tc : Thread Cert.Kernel2.nD Cert.Kernel2.τ).loc Cert.Kernel2.main_arg5)) (m ((c.tc : Thread Cert.Kernel2.nD Cert.Kernel2.τ).loc Cert.Kernel2.main_arg6)) (m ((c.tc : Thread Cert.Kernel2.nD Cert.Kernel2.τ).loc Cert.Kernel2.main_arg7))).2 = (fun _ => 1#1)

def Pre_Kernel2Ideal [hPre_in_range : Cert.Pre_in_range.Facts] (m : (ℓ : Loc Cert.Kernel2Ideal.nD Cert.Kernel2Ideal.τ Cert.Kernel2Ideal.sig) → Buf (Elt Ideal) ℓ) : Prop :=
  ∀ c : Dev Cert.Kernel2Ideal.nD,
    (Cert.Pre_in_range.fn (F := Ideal) (m ((c.tc : Thread Cert.Kernel2Ideal.nD Cert.Kernel2Ideal.τ).loc Cert.Kernel2Ideal.main_arg0)) (m ((c.tc : Thread Cert.Kernel2Ideal.nD Cert.Kernel2Ideal.τ).loc Cert.Kernel2Ideal.main_arg1)) (m ((c.tc : Thread Cert.Kernel2Ideal.nD Cert.Kernel2Ideal.τ).loc Cert.Kernel2Ideal.main_arg2)) (m ((c.tc : Thread Cert.Kernel2Ideal.nD Cert.Kernel2Ideal.τ).loc Cert.Kernel2Ideal.main_arg3)) (m ((c.tc : Thread Cert.Kernel2Ideal.nD Cert.Kernel2Ideal.τ).loc Cert.Kernel2Ideal.main_arg4)) (m ((c.tc : Thread Cert.Kernel2Ideal.nD Cert.Kernel2Ideal.τ).loc Cert.Kernel2Ideal.main_arg5)) (m ((c.tc : Thread Cert.Kernel2Ideal.nD Cert.Kernel2Ideal.τ).loc Cert.Kernel2Ideal.main_arg6)) (m ((c.tc : Thread Cert.Kernel2Ideal.nD Cert.Kernel2Ideal.τ).loc Cert.Kernel2Ideal.main_arg7))).1 = (fun _ => 1#1)
    ∧ (Cert.Pre_in_range.fn (F := Ideal) (m ((c.tc : Thread Cert.Kernel2Ideal.nD Cert.Kernel2Ideal.τ).loc Cert.Kernel2Ideal.main_arg0)) (m ((c.tc : Thread Cert.Kernel2Ideal.nD Cert.Kernel2Ideal.τ).loc Cert.Kernel2Ideal.main_arg1)) (m ((c.tc : Thread Cert.Kernel2Ideal.nD Cert.Kernel2Ideal.τ).loc Cert.Kernel2Ideal.main_arg2)) (m ((c.tc : Thread Cert.Kernel2Ideal.nD Cert.Kernel2Ideal.τ).loc Cert.Kernel2Ideal.main_arg3)) (m ((c.tc : Thread Cert.Kernel2Ideal.nD Cert.Kernel2Ideal.τ).loc Cert.Kernel2Ideal.main_arg4)) (m ((c.tc : Thread Cert.Kernel2Ideal.nD Cert.Kernel2Ideal.τ).loc Cert.Kernel2Ideal.main_arg5)) (m ((c.tc : Thread Cert.Kernel2Ideal.nD Cert.Kernel2Ideal.τ).loc Cert.Kernel2Ideal.main_arg6)) (m ((c.tc : Thread Cert.Kernel2Ideal.nD Cert.Kernel2Ideal.τ).loc Cert.Kernel2Ideal.main_arg7))).2 = (fun _ => 1#1)

def Pre_Reference2Ideal (m : (ℓ : Loc Cert.Reference2Ideal.nD Cert.Reference2Ideal.τ Cert.Reference2Ideal.sig) → Buf (Elt Ideal) ℓ) : Prop :=
  True

def Pre_Reference2Ideal_in_range [hPre_in_range : Cert.Pre_in_range.Facts] (m : (ℓ : Loc Cert.Reference2Ideal.nD Cert.Reference2Ideal.τ Cert.Reference2Ideal.sig) → Buf (Elt Ideal) ℓ) : Prop :=
  ∀ c : Dev Cert.Reference2Ideal.nD,
    (Cert.Pre_in_range.fn (F := Ideal) (m ((c.tc : Thread Cert.Reference2Ideal.nD Cert.Reference2Ideal.τ).loc Cert.Reference2Ideal.main_arg0)) (m ((c.tc : Thread Cert.Reference2Ideal.nD Cert.Reference2Ideal.τ).loc Cert.Reference2Ideal.main_arg1)) (m ((c.tc : Thread Cert.Reference2Ideal.nD Cert.Reference2Ideal.τ).loc Cert.Reference2Ideal.main_arg2)) (m ((c.tc : Thread Cert.Reference2Ideal.nD Cert.Reference2Ideal.τ).loc Cert.Reference2Ideal.main_arg3)) (m ((c.tc : Thread Cert.Reference2Ideal.nD Cert.Reference2Ideal.τ).loc Cert.Reference2Ideal.main_arg4)) (m ((c.tc : Thread Cert.Reference2Ideal.nD Cert.Reference2Ideal.τ).loc Cert.Reference2Ideal.main_arg5)) (m ((c.tc : Thread Cert.Reference2Ideal.nD Cert.Reference2Ideal.τ).loc Cert.Reference2Ideal.main_arg6)) (m ((c.tc : Thread Cert.Reference2Ideal.nD Cert.Reference2Ideal.τ).loc Cert.Reference2Ideal.main_arg7))).1 = (fun _ => 1#1)
    ∧ (Cert.Pre_in_range.fn (F := Ideal) (m ((c.tc : Thread Cert.Reference2Ideal.nD Cert.Reference2Ideal.τ).loc Cert.Reference2Ideal.main_arg0)) (m ((c.tc : Thread Cert.Reference2Ideal.nD Cert.Reference2Ideal.τ).loc Cert.Reference2Ideal.main_arg1)) (m ((c.tc : Thread Cert.Reference2Ideal.nD Cert.Reference2Ideal.τ).loc Cert.Reference2Ideal.main_arg2)) (m ((c.tc : Thread Cert.Reference2Ideal.nD Cert.Reference2Ideal.τ).loc Cert.Reference2Ideal.main_arg3)) (m ((c.tc : Thread Cert.Reference2Ideal.nD Cert.Reference2Ideal.τ).loc Cert.Reference2Ideal.main_arg4)) (m ((c.tc : Thread Cert.Reference2Ideal.nD Cert.Reference2Ideal.τ).loc Cert.Reference2Ideal.main_arg5)) (m ((c.tc : Thread Cert.Reference2Ideal.nD Cert.Reference2Ideal.τ).loc Cert.Reference2Ideal.main_arg6)) (m ((c.tc : Thread Cert.Reference2Ideal.nD Cert.Reference2Ideal.τ).loc Cert.Reference2Ideal.main_arg7))).2 = (fun _ => 1#1)

def Pre_Kernel3 (m : (ℓ : Loc Cert.Kernel3.nD Cert.Kernel3.τ Cert.Kernel3.sig) → Buf (Elt Bits) ℓ) : Prop :=
  True

def Pre_Kernel3Ideal (m : (ℓ : Loc Cert.Kernel3Ideal.nD Cert.Kernel3Ideal.τ Cert.Kernel3Ideal.sig) → Buf (Elt Ideal) ℓ) : Prop :=
  True

def Pre_Reference3Ideal (m : (ℓ : Loc Cert.Reference3Ideal.nD Cert.Reference3Ideal.τ Cert.Reference3Ideal.sig) → Buf (Elt Ideal) ℓ) : Prop :=
  True

def Pre_Kernel4 (m : (ℓ : Loc Cert.Kernel4.nD Cert.Kernel4.τ Cert.Kernel4.sig) → Buf (Elt Bits) ℓ) : Prop :=
  True

def Pre_Kernel4Ideal (m : (ℓ : Loc Cert.Kernel4Ideal.nD Cert.Kernel4Ideal.τ Cert.Kernel4Ideal.sig) → Buf (Elt Ideal) ℓ) : Prop :=
  True

def Pre_Reference4Ideal (m : (ℓ : Loc Cert.Reference4Ideal.nD Cert.Reference4Ideal.τ Cert.Reference4Ideal.sig) → Buf (Elt Ideal) ℓ) : Prop :=
  True

def Pre_Kernel5 (m : (ℓ : Loc Cert.Kernel5.nD Cert.Kernel5.τ Cert.Kernel5.sig) → Buf (Elt Bits) ℓ) : Prop :=
  True

def Pre_Kernel5Ideal (m : (ℓ : Loc Cert.Kernel5Ideal.nD Cert.Kernel5Ideal.τ Cert.Kernel5Ideal.sig) → Buf (Elt Ideal) ℓ) : Prop :=
  True

def Pre_Reference5Ideal (m : (ℓ : Loc Cert.Reference5Ideal.nD Cert.Reference5Ideal.τ Cert.Reference5Ideal.sig) → Buf (Elt Ideal) ℓ) : Prop :=
  True

def Pre_Kernel6 (m : (ℓ : Loc Cert.Kernel6.nD Cert.Kernel6.τ Cert.Kernel6.sig) → Buf (Elt Bits) ℓ) : Prop :=
  True

def Pre_Kernel6Ideal (m : (ℓ : Loc Cert.Kernel6Ideal.nD Cert.Kernel6Ideal.τ Cert.Kernel6Ideal.sig) → Buf (Elt Ideal) ℓ) : Prop :=
  True

def Pre_Reference6Ideal (m : (ℓ : Loc Cert.Reference6Ideal.nD Cert.Reference6Ideal.τ Cert.Reference6Ideal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ r.2.sem = fun _ => 0)

def quiescent_KernelIdeal_pre_finite [hKernelIdeal : Cert.KernelIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))
      ∧ r.2.sem = fun _ => 0)

def quiescent_ReferenceIdeal_pre_finite [hReferenceIdeal : Cert.ReferenceIdeal.Facts] [hPre_finite : Cert.Pre_finite.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))
      ∧ r.2.sem = fun _ => 0)

def quiescent_Kernel2 [hKernel2 : Cert.Kernel2.Facts] [hPre_in_range : Cert.Pre_in_range.Facts] : Prop :=
  ∀ (m : (ℓ : Loc Cert.Kernel2.nD Cert.Kernel2.τ Cert.Kernel2.sig) → Buf (Elt Bits) ℓ) (g : Dev Cert.Kernel2.nD → PrngReg), Pre_Kernel2 m →
    θ_run (Cert.Kernel2.defs (F := Bits)) (onTc (τ := Cert.Kernel2.τ) (Cert.Kernel2.main (F := Bits))) ⟨m, fun _ => 0, g⟩ (fun r => (∀ c : Dev Cert.Kernel2.nD,
      r.2.mem ((c.tc : Thread Cert.Kernel2.nD Cert.Kernel2.τ).loc Cert.Kernel2.main_arg0) = m ((c.tc : Thread Cert.Kernel2.nD Cert.Kernel2.τ).loc Cert.Kernel2.main_arg0)
      ∧ r.2.mem ((c.tc : Thread Cert.Kernel2.nD Cert.Kernel2.τ).loc Cert.Kernel2.main_arg1) = m ((c.tc : Thread Cert.Kernel2.nD Cert.Kernel2.τ).loc Cert.Kernel2.main_arg1)
      ∧ r.2.mem ((c.tc : Thread Cert.Kernel2.nD Cert.Kernel2.τ).loc Cert.Kernel2.main_arg2) = m ((c.tc : Thread Cert.Kernel2.nD Cert.Kernel2.τ).loc Cert.Kernel2.main_arg2)
      ∧ r.2.mem ((c.tc : Thread Cert.Kernel2.nD Cert.Kernel2.τ).loc Cert.Kernel2.main_arg3) = m ((c.tc : Thread Cert.Kernel2.nD Cert.Kernel2.τ).loc Cert.Kernel2.main_arg3)
      ∧ r.2.mem ((c.tc : Thread Cert.Kernel2.nD Cert.Kernel2.τ).loc Cert.Kernel2.main_arg4) = m ((c.tc : Thread Cert.Kernel2.nD Cert.Kernel2.τ).loc Cert.Kernel2.main_arg4)
      ∧ r.2.mem ((c.tc : Thread Cert.Kernel2.nD Cert.Kernel2.τ).loc Cert.Kernel2.main_arg5) = m ((c.tc : Thread Cert.Kernel2.nD Cert.Kernel2.τ).loc Cert.Kernel2.main_arg5)
      ∧ r.2.mem ((c.tc : Thread Cert.Kernel2.nD Cert.Kernel2.τ).loc Cert.Kernel2.main_arg6) = m ((c.tc : Thread Cert.Kernel2.nD Cert.Kernel2.τ).loc Cert.Kernel2.main_arg6)
      ∧ r.2.mem ((c.tc : Thread Cert.Kernel2.nD Cert.Kernel2.τ).loc Cert.Kernel2.main_arg7) = m ((c.tc : Thread Cert.Kernel2.nD Cert.Kernel2.τ).loc Cert.Kernel2.main_arg7))
      ∧ r.2.sem = fun _ => 0)

def quiescent_Kernel2Ideal [hKernel2Ideal : Cert.Kernel2Ideal.Facts] [hPre_in_range : Cert.Pre_in_range.Facts] : Prop :=
  ∀ (m : (ℓ : Loc Cert.Kernel2Ideal.nD Cert.Kernel2Ideal.τ Cert.Kernel2Ideal.sig) → Buf (Elt Ideal) ℓ) (g : Dev Cert.Kernel2Ideal.nD → PrngReg), Pre_Kernel2Ideal m →
    θ_run (Cert.Kernel2Ideal.defs (F := Ideal)) (onTc (τ := Cert.Kernel2Ideal.τ) (Cert.Kernel2Ideal.main (F := Ideal))) ⟨m, fun _ => 0, g⟩ (fun r => (∀ c : Dev Cert.Kernel2Ideal.nD,
      r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
      ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
      ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
      ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
      ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4)
      ∧ r.2.mem ((c.tc : Thread Cert.Kernel2Ideal.nD Cert.Kernel2Ideal.τ).loc Cert.Kernel2Ideal.main_arg5) = m ((c.tc : Thread Cert.Kernel2Ideal.nD Cert.Kernel2Ideal.τ).loc Cert.Kernel2Ideal.main_arg5)
      ∧ r.2.mem ((c.tc : Thread Cert.Kernel2Ideal.nD Cert.Kernel2Ideal.τ).loc Cert.Kernel2Ideal.main_arg6) = m ((c.tc : Thread Cert.Kernel2Ideal.nD Cert.Kernel2Ideal.τ).loc Cert.Kernel2Ideal.main_arg6)
      ∧ r.2.mem ((c.tc : Thread Cert.Kernel2Ideal.nD Cert.Kernel2Ideal.τ).loc Cert.Kernel2Ideal.main_arg7) = m ((c.tc : Thread Cert.Kernel2Ideal.nD Cert.Kernel2Ideal.τ).loc Cert.Kernel2Ideal.main_arg7))
      ∧ r.2.sem = fun _ => 0)

def quiescent_Reference2Ideal [hReference2Ideal : Cert.Reference2Ideal.Facts] : Prop :=
  ∀ (m : (ℓ : Loc Cert.Reference2Ideal.nD Cert.Reference2Ideal.τ Cert.Reference2Ideal.sig) → Buf (Elt Ideal) ℓ) (g : Dev Cert.Reference2Ideal.nD → PrngReg), Pre_Reference2Ideal m →
    θ_run (Cert.Reference2Ideal.defs (F := Ideal)) (onTc (τ := Cert.Reference2Ideal.τ) (Cert.Reference2Ideal.main (F := Ideal))) ⟨m, fun _ => 0, g⟩ (fun r => (∀ c : Dev Cert.Reference2Ideal.nD,
      r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0)
      ∧ r.2.mem ((c.tc : Thread Cert.Reference2Ideal.nD Cert.Reference2Ideal.τ).loc Cert.Reference2Ideal.main_arg1) = m ((c.tc : Thread Cert.Reference2Ideal.nD Cert.Reference2Ideal.τ).loc Cert.Reference2Ideal.main_arg1)
      ∧ r.2.mem ((c.tc : Thread Cert.Reference2Ideal.nD Cert.Reference2Ideal.τ).loc Cert.Reference2Ideal.main_arg2) = m ((c.tc : Thread Cert.Reference2Ideal.nD Cert.Reference2Ideal.τ).loc Cert.Reference2Ideal.main_arg2)
      ∧ r.2.mem ((c.tc : Thread Cert.Reference2Ideal.nD Cert.Reference2Ideal.τ).loc Cert.Reference2Ideal.main_arg3) = m ((c.tc : Thread Cert.Reference2Ideal.nD Cert.Reference2Ideal.τ).loc Cert.Reference2Ideal.main_arg3)
      ∧ r.2.mem ((c.tc : Thread Cert.Reference2Ideal.nD Cert.Reference2Ideal.τ).loc Cert.Reference2Ideal.main_arg4) = m ((c.tc : Thread Cert.Reference2Ideal.nD Cert.Reference2Ideal.τ).loc Cert.Reference2Ideal.main_arg4)
      ∧ r.2.mem ((c.tc : Thread Cert.Reference2Ideal.nD Cert.Reference2Ideal.τ).loc Cert.Reference2Ideal.main_arg5) = m ((c.tc : Thread Cert.Reference2Ideal.nD Cert.Reference2Ideal.τ).loc Cert.Reference2Ideal.main_arg5)
      ∧ r.2.mem ((c.tc : Thread Cert.Reference2Ideal.nD Cert.Reference2Ideal.τ).loc Cert.Reference2Ideal.main_arg6) = m ((c.tc : Thread Cert.Reference2Ideal.nD Cert.Reference2Ideal.τ).loc Cert.Reference2Ideal.main_arg6)
      ∧ r.2.mem ((c.tc : Thread Cert.Reference2Ideal.nD Cert.Reference2Ideal.τ).loc Cert.Reference2Ideal.main_arg7) = m ((c.tc : Thread Cert.Reference2Ideal.nD Cert.Reference2Ideal.τ).loc Cert.Reference2Ideal.main_arg7))
      ∧ r.2.sem = fun _ => 0)

def quiescent_Reference2Ideal_pre_in_range [hReference2Ideal : Cert.Reference2Ideal.Facts] [hPre_in_range : Cert.Pre_in_range.Facts] : Prop :=
  ∀ (m : (ℓ : Loc Cert.Reference2Ideal.nD Cert.Reference2Ideal.τ Cert.Reference2Ideal.sig) → Buf (Elt Ideal) ℓ) (g : Dev Cert.Reference2Ideal.nD → PrngReg), Pre_Reference2Ideal_in_range m →
    θ_run (Cert.Reference2Ideal.defs (F := Ideal)) (onTc (τ := Cert.Reference2Ideal.τ) (Cert.Reference2Ideal.main (F := Ideal))) ⟨m, fun _ => 0, g⟩ (fun r => (∀ c : Dev Cert.Reference2Ideal.nD,
      r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0)
      ∧ r.2.mem ((c.tc : Thread Cert.Reference2Ideal.nD Cert.Reference2Ideal.τ).loc Cert.Reference2Ideal.main_arg1) = m ((c.tc : Thread Cert.Reference2Ideal.nD Cert.Reference2Ideal.τ).loc Cert.Reference2Ideal.main_arg1)
      ∧ r.2.mem ((c.tc : Thread Cert.Reference2Ideal.nD Cert.Reference2Ideal.τ).loc Cert.Reference2Ideal.main_arg2) = m ((c.tc : Thread Cert.Reference2Ideal.nD Cert.Reference2Ideal.τ).loc Cert.Reference2Ideal.main_arg2)
      ∧ r.2.mem ((c.tc : Thread Cert.Reference2Ideal.nD Cert.Reference2Ideal.τ).loc Cert.Reference2Ideal.main_arg3) = m ((c.tc : Thread Cert.Reference2Ideal.nD Cert.Reference2Ideal.τ).loc Cert.Reference2Ideal.main_arg3)
      ∧ r.2.mem ((c.tc : Thread Cert.Reference2Ideal.nD Cert.Reference2Ideal.τ).loc Cert.Reference2Ideal.main_arg4) = m ((c.tc : Thread Cert.Reference2Ideal.nD Cert.Reference2Ideal.τ).loc Cert.Reference2Ideal.main_arg4)
      ∧ r.2.mem ((c.tc : Thread Cert.Reference2Ideal.nD Cert.Reference2Ideal.τ).loc Cert.Reference2Ideal.main_arg5) = m ((c.tc : Thread Cert.Reference2Ideal.nD Cert.Reference2Ideal.τ).loc Cert.Reference2Ideal.main_arg5)
      ∧ r.2.mem ((c.tc : Thread Cert.Reference2Ideal.nD Cert.Reference2Ideal.τ).loc Cert.Reference2Ideal.main_arg6) = m ((c.tc : Thread Cert.Reference2Ideal.nD Cert.Reference2Ideal.τ).loc Cert.Reference2Ideal.main_arg6)
      ∧ r.2.mem ((c.tc : Thread Cert.Reference2Ideal.nD Cert.Reference2Ideal.τ).loc Cert.Reference2Ideal.main_arg7) = m ((c.tc : Thread Cert.Reference2Ideal.nD Cert.Reference2Ideal.τ).loc Cert.Reference2Ideal.main_arg7))
      ∧ r.2.sem = fun _ => 0)

def quiescent_Kernel3 [hKernel3 : Cert.Kernel3.Facts] : Prop :=
  ∀ (m : (ℓ : Loc Cert.Kernel3.nD Cert.Kernel3.τ Cert.Kernel3.sig) → Buf (Elt Bits) ℓ) (g : Dev Cert.Kernel3.nD → PrngReg), Pre_Kernel3 m →
    θ_run (Cert.Kernel3.defs (F := Bits)) (onTc (τ := Cert.Kernel3.τ) (Cert.Kernel3.main (F := Bits))) ⟨m, fun _ => 0, g⟩ (fun r => (∀ c : Dev Cert.Kernel3.nD,
      r.2.mem ((c.tc : Thread Cert.Kernel3.nD Cert.Kernel3.τ).loc Cert.Kernel3.main_arg0) = m ((c.tc : Thread Cert.Kernel3.nD Cert.Kernel3.τ).loc Cert.Kernel3.main_arg0)
      ∧ r.2.mem ((c.tc : Thread Cert.Kernel3.nD Cert.Kernel3.τ).loc Cert.Kernel3.main_arg1) = m ((c.tc : Thread Cert.Kernel3.nD Cert.Kernel3.τ).loc Cert.Kernel3.main_arg1)
      ∧ r.2.mem ((c.tc : Thread Cert.Kernel3.nD Cert.Kernel3.τ).loc Cert.Kernel3.main_arg2) = m ((c.tc : Thread Cert.Kernel3.nD Cert.Kernel3.τ).loc Cert.Kernel3.main_arg2)
      ∧ r.2.mem ((c.tc : Thread Cert.Kernel3.nD Cert.Kernel3.τ).loc Cert.Kernel3.main_arg3) = m ((c.tc : Thread Cert.Kernel3.nD Cert.Kernel3.τ).loc Cert.Kernel3.main_arg3)
      ∧ r.2.mem ((c.tc : Thread Cert.Kernel3.nD Cert.Kernel3.τ).loc Cert.Kernel3.main_arg4) = m ((c.tc : Thread Cert.Kernel3.nD Cert.Kernel3.τ).loc Cert.Kernel3.main_arg4)
      ∧ r.2.mem ((c.tc : Thread Cert.Kernel3.nD Cert.Kernel3.τ).loc Cert.Kernel3.main_arg5) = m ((c.tc : Thread Cert.Kernel3.nD Cert.Kernel3.τ).loc Cert.Kernel3.main_arg5)
      ∧ r.2.mem ((c.tc : Thread Cert.Kernel3.nD Cert.Kernel3.τ).loc Cert.Kernel3.main_arg6) = m ((c.tc : Thread Cert.Kernel3.nD Cert.Kernel3.τ).loc Cert.Kernel3.main_arg6)
      ∧ r.2.mem ((c.tc : Thread Cert.Kernel3.nD Cert.Kernel3.τ).loc Cert.Kernel3.main_arg7) = m ((c.tc : Thread Cert.Kernel3.nD Cert.Kernel3.τ).loc Cert.Kernel3.main_arg7)
      ∧ r.2.mem ((c.tc : Thread Cert.Kernel3.nD Cert.Kernel3.τ).loc Cert.Kernel3.main_arg8) = m ((c.tc : Thread Cert.Kernel3.nD Cert.Kernel3.τ).loc Cert.Kernel3.main_arg8)
      ∧ r.2.mem ((c.tc : Thread Cert.Kernel3.nD Cert.Kernel3.τ).loc Cert.Kernel3.main_arg9) = m ((c.tc : Thread Cert.Kernel3.nD Cert.Kernel3.τ).loc Cert.Kernel3.main_arg9))
      ∧ r.2.sem = fun _ => 0)

def quiescent_Kernel3Ideal [hKernel3Ideal : Cert.Kernel3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg), Pre_Kernel3Ideal m →
    θ_run (Cert.Kernel3Ideal.defs (F := Ideal)) (onTc (τ := Cert.Kernel3Ideal.τ) (Cert.Kernel3Ideal.main (F := Ideal))) ⟨m, fun _ => 0, g⟩ (fun r => (∀ c : Dev Cert.Kernel3Ideal.nD,
      r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
      ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
      ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
      ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3)
      ∧ r.2.mem ((c.tc : Thread Cert.Kernel3Ideal.nD Cert.Kernel3Ideal.τ).loc Cert.Kernel3Ideal.main_arg4) = m ((c.tc : Thread Cert.Kernel3Ideal.nD Cert.Kernel3Ideal.τ).loc Cert.Kernel3Ideal.main_arg4)
      ∧ r.2.mem ((c.tc : Thread Cert.Kernel3Ideal.nD Cert.Kernel3Ideal.τ).loc Cert.Kernel3Ideal.main_arg5) = m ((c.tc : Thread Cert.Kernel3Ideal.nD Cert.Kernel3Ideal.τ).loc Cert.Kernel3Ideal.main_arg5)
      ∧ r.2.mem ((c.tc : Thread Cert.Kernel3Ideal.nD Cert.Kernel3Ideal.τ).loc Cert.Kernel3Ideal.main_arg6) = m ((c.tc : Thread Cert.Kernel3Ideal.nD Cert.Kernel3Ideal.τ).loc Cert.Kernel3Ideal.main_arg6)
      ∧ r.2.mem ((c.tc : Thread Cert.Kernel3Ideal.nD Cert.Kernel3Ideal.τ).loc Cert.Kernel3Ideal.main_arg7) = m ((c.tc : Thread Cert.Kernel3Ideal.nD Cert.Kernel3Ideal.τ).loc Cert.Kernel3Ideal.main_arg7)
      ∧ r.2.mem ((c.tc : Thread Cert.Kernel3Ideal.nD Cert.Kernel3Ideal.τ).loc Cert.Kernel3Ideal.main_arg8) = m ((c.tc : Thread Cert.Kernel3Ideal.nD Cert.Kernel3Ideal.τ).loc Cert.Kernel3Ideal.main_arg8)
      ∧ r.2.mem ((c.tc : Thread Cert.Kernel3Ideal.nD Cert.Kernel3Ideal.τ).loc Cert.Kernel3Ideal.main_arg9) = m ((c.tc : Thread Cert.Kernel3Ideal.nD Cert.Kernel3Ideal.τ).loc Cert.Kernel3Ideal.main_arg9))
      ∧ r.2.sem = fun _ => 0)

def quiescent_Reference3Ideal [hReference3Ideal : Cert.Reference3Ideal.Facts] : Prop :=
  ∀ (m : (ℓ : Loc Cert.Reference3Ideal.nD Cert.Reference3Ideal.τ Cert.Reference3Ideal.sig) → Buf (Elt Ideal) ℓ) (g : Dev Cert.Reference3Ideal.nD → PrngReg), Pre_Reference3Ideal m →
    θ_run (Cert.Reference3Ideal.defs (F := Ideal)) (onTc (τ := Cert.Reference3Ideal.τ) (Cert.Reference3Ideal.main (F := Ideal))) ⟨m, fun _ => 0, g⟩ (fun r => (∀ c : Dev Cert.Reference3Ideal.nD,
      r.2.mem ((c.tc : Thread Cert.Reference3Ideal.nD Cert.Reference3Ideal.τ).loc Cert.Reference3Ideal.main_arg0) = m ((c.tc : Thread Cert.Reference3Ideal.nD Cert.Reference3Ideal.τ).loc Cert.Reference3Ideal.main_arg0)
      ∧ r.2.mem ((c.tc : Thread Cert.Reference3Ideal.nD Cert.Reference3Ideal.τ).loc Cert.Reference3Ideal.main_arg1) = m ((c.tc : Thread Cert.Reference3Ideal.nD Cert.Reference3Ideal.τ).loc Cert.Reference3Ideal.main_arg1)
      ∧ r.2.mem ((c.tc : Thread Cert.Reference3Ideal.nD Cert.Reference3Ideal.τ).loc Cert.Reference3Ideal.main_arg2) = m ((c.tc : Thread Cert.Reference3Ideal.nD Cert.Reference3Ideal.τ).loc Cert.Reference3Ideal.main_arg2)
      ∧ r.2.mem ((c.tc : Thread Cert.Reference3Ideal.nD Cert.Reference3Ideal.τ).loc Cert.Reference3Ideal.main_arg3) = m ((c.tc : Thread Cert.Reference3Ideal.nD Cert.Reference3Ideal.τ).loc Cert.Reference3Ideal.main_arg3)
      ∧ r.2.mem ((c.tc : Thread Cert.Reference3Ideal.nD Cert.Reference3Ideal.τ).loc Cert.Reference3Ideal.main_arg4) = m ((c.tc : Thread Cert.Reference3Ideal.nD Cert.Reference3Ideal.τ).loc Cert.Reference3Ideal.main_arg4)
      ∧ r.2.mem ((c.tc : Thread Cert.Reference3Ideal.nD Cert.Reference3Ideal.τ).loc Cert.Reference3Ideal.main_arg5) = m ((c.tc : Thread Cert.Reference3Ideal.nD Cert.Reference3Ideal.τ).loc Cert.Reference3Ideal.main_arg5)
      ∧ r.2.mem ((c.tc : Thread Cert.Reference3Ideal.nD Cert.Reference3Ideal.τ).loc Cert.Reference3Ideal.main_arg6) = m ((c.tc : Thread Cert.Reference3Ideal.nD Cert.Reference3Ideal.τ).loc Cert.Reference3Ideal.main_arg6)
      ∧ r.2.mem ((c.tc : Thread Cert.Reference3Ideal.nD Cert.Reference3Ideal.τ).loc Cert.Reference3Ideal.main_arg7) = m ((c.tc : Thread Cert.Reference3Ideal.nD Cert.Reference3Ideal.τ).loc Cert.Reference3Ideal.main_arg7)
      ∧ r.2.mem ((c.tc : Thread Cert.Reference3Ideal.nD Cert.Reference3Ideal.τ).loc Cert.Reference3Ideal.main_arg8) = m ((c.tc : Thread Cert.Reference3Ideal.nD Cert.Reference3Ideal.τ).loc Cert.Reference3Ideal.main_arg8)
      ∧ r.2.mem ((c.tc : Thread Cert.Reference3Ideal.nD Cert.Reference3Ideal.τ).loc Cert.Reference3Ideal.main_arg9) = m ((c.tc : Thread Cert.Reference3Ideal.nD Cert.Reference3Ideal.τ).loc Cert.Reference3Ideal.main_arg9))
      ∧ r.2.sem = fun _ => 0)

def quiescent_Kernel4 [hKernel4 : Cert.Kernel4.Facts] : Prop :=
  ∀ (m : (ℓ : Loc Cert.Kernel4.nD Cert.Kernel4.τ Cert.Kernel4.sig) → Buf (Elt Bits) ℓ) (g : Dev Cert.Kernel4.nD → PrngReg), Pre_Kernel4 m →
    θ_run (Cert.Kernel4.defs (F := Bits)) (onTc (τ := Cert.Kernel4.τ) (Cert.Kernel4.main (F := Bits))) ⟨m, fun _ => 0, g⟩ (fun r => (∀ c : Dev Cert.Kernel4.nD,
      r.2.mem ((c.tc : Thread Cert.Kernel4.nD Cert.Kernel4.τ).loc Cert.Kernel4.main_arg0) = m ((c.tc : Thread Cert.Kernel4.nD Cert.Kernel4.τ).loc Cert.Kernel4.main_arg0)
      ∧ r.2.mem ((c.tc : Thread Cert.Kernel4.nD Cert.Kernel4.τ).loc Cert.Kernel4.main_arg1) = m ((c.tc : Thread Cert.Kernel4.nD Cert.Kernel4.τ).loc Cert.Kernel4.main_arg1)
      ∧ r.2.mem ((c.tc : Thread Cert.Kernel4.nD Cert.Kernel4.τ).loc Cert.Kernel4.main_arg2) = m ((c.tc : Thread Cert.Kernel4.nD Cert.Kernel4.τ).loc Cert.Kernel4.main_arg2)
      ∧ r.2.mem ((c.tc : Thread Cert.Kernel4.nD Cert.Kernel4.τ).loc Cert.Kernel4.main_arg3) = m ((c.tc : Thread Cert.Kernel4.nD Cert.Kernel4.τ).loc Cert.Kernel4.main_arg3)
      ∧ r.2.mem ((c.tc : Thread Cert.Kernel4.nD Cert.Kernel4.τ).loc Cert.Kernel4.main_arg4) = m ((c.tc : Thread Cert.Kernel4.nD Cert.Kernel4.τ).loc Cert.Kernel4.main_arg4)
      ∧ r.2.mem ((c.tc : Thread Cert.Kernel4.nD Cert.Kernel4.τ).loc Cert.Kernel4.main_arg5) = m ((c.tc : Thread Cert.Kernel4.nD Cert.Kernel4.τ).loc Cert.Kernel4.main_arg5)
      ∧ r.2.mem ((c.tc : Thread Cert.Kernel4.nD Cert.Kernel4.τ).loc Cert.Kernel4.main_arg6) = m ((c.tc : Thread Cert.Kernel4.nD Cert.Kernel4.τ).loc Cert.Kernel4.main_arg6)
      ∧ r.2.mem ((c.tc : Thread Cert.Kernel4.nD Cert.Kernel4.τ).loc Cert.Kernel4.main_arg7) = m ((c.tc : Thread Cert.Kernel4.nD Cert.Kernel4.τ).loc Cert.Kernel4.main_arg7)
      ∧ r.2.mem ((c.tc : Thread Cert.Kernel4.nD Cert.Kernel4.τ).loc Cert.Kernel4.main_arg8) = m ((c.tc : Thread Cert.Kernel4.nD Cert.Kernel4.τ).loc Cert.Kernel4.main_arg8)
      ∧ r.2.mem ((c.tc : Thread Cert.Kernel4.nD Cert.Kernel4.τ).loc Cert.Kernel4.main_arg9) = m ((c.tc : Thread Cert.Kernel4.nD Cert.Kernel4.τ).loc Cert.Kernel4.main_arg9)
      ∧ r.2.mem ((c.tc : Thread Cert.Kernel4.nD Cert.Kernel4.τ).loc Cert.Kernel4.main_arg10) = m ((c.tc : Thread Cert.Kernel4.nD Cert.Kernel4.τ).loc Cert.Kernel4.main_arg10))
      ∧ r.2.sem = fun _ => 0)

def quiescent_Kernel4Ideal [hKernel4Ideal : Cert.Kernel4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg), Pre_Kernel4Ideal m →
    θ_run (Cert.Kernel4Ideal.defs (F := Ideal)) (onTc (τ := Cert.Kernel4Ideal.τ) (Cert.Kernel4Ideal.main (F := Ideal))) ⟨m, fun _ => 0, g⟩ (fun r => (∀ c : Dev Cert.Kernel4Ideal.nD,
      r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
      ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
      ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2)
      ∧ r.2.mem ((c.tc : Thread Cert.Kernel4Ideal.nD Cert.Kernel4Ideal.τ).loc Cert.Kernel4Ideal.main_arg3) = m ((c.tc : Thread Cert.Kernel4Ideal.nD Cert.Kernel4Ideal.τ).loc Cert.Kernel4Ideal.main_arg3)
      ∧ r.2.mem ((c.tc : Thread Cert.Kernel4Ideal.nD Cert.Kernel4Ideal.τ).loc Cert.Kernel4Ideal.main_arg4) = m ((c.tc : Thread Cert.Kernel4Ideal.nD Cert.Kernel4Ideal.τ).loc Cert.Kernel4Ideal.main_arg4)
      ∧ r.2.mem ((c.tc : Thread Cert.Kernel4Ideal.nD Cert.Kernel4Ideal.τ).loc Cert.Kernel4Ideal.main_arg5) = m ((c.tc : Thread Cert.Kernel4Ideal.nD Cert.Kernel4Ideal.τ).loc Cert.Kernel4Ideal.main_arg5)
      ∧ r.2.mem ((c.tc : Thread Cert.Kernel4Ideal.nD Cert.Kernel4Ideal.τ).loc Cert.Kernel4Ideal.main_arg6) = m ((c.tc : Thread Cert.Kernel4Ideal.nD Cert.Kernel4Ideal.τ).loc Cert.Kernel4Ideal.main_arg6)
      ∧ r.2.mem ((c.tc : Thread Cert.Kernel4Ideal.nD Cert.Kernel4Ideal.τ).loc Cert.Kernel4Ideal.main_arg7) = m ((c.tc : Thread Cert.Kernel4Ideal.nD Cert.Kernel4Ideal.τ).loc Cert.Kernel4Ideal.main_arg7)
      ∧ r.2.mem ((c.tc : Thread Cert.Kernel4Ideal.nD Cert.Kernel4Ideal.τ).loc Cert.Kernel4Ideal.main_arg8) = m ((c.tc : Thread Cert.Kernel4Ideal.nD Cert.Kernel4Ideal.τ).loc Cert.Kernel4Ideal.main_arg8)
      ∧ r.2.mem ((c.tc : Thread Cert.Kernel4Ideal.nD Cert.Kernel4Ideal.τ).loc Cert.Kernel4Ideal.main_arg9) = m ((c.tc : Thread Cert.Kernel4Ideal.nD Cert.Kernel4Ideal.τ).loc Cert.Kernel4Ideal.main_arg9)
      ∧ r.2.mem ((c.tc : Thread Cert.Kernel4Ideal.nD Cert.Kernel4Ideal.τ).loc Cert.Kernel4Ideal.main_arg10) = m ((c.tc : Thread Cert.Kernel4Ideal.nD Cert.Kernel4Ideal.τ).loc Cert.Kernel4Ideal.main_arg10))
      ∧ r.2.sem = fun _ => 0)

def quiescent_Reference4Ideal [hReference4Ideal : Cert.Reference4Ideal.Facts] : Prop :=
  ∀ (m : (ℓ : Loc Cert.Reference4Ideal.nD Cert.Reference4Ideal.τ Cert.Reference4Ideal.sig) → Buf (Elt Ideal) ℓ) (g : Dev Cert.Reference4Ideal.nD → PrngReg), Pre_Reference4Ideal m →
    θ_run (Cert.Reference4Ideal.defs (F := Ideal)) (onTc (τ := Cert.Reference4Ideal.τ) (Cert.Reference4Ideal.main (F := Ideal))) ⟨m, fun _ => 0, g⟩ (fun r => (∀ c : Dev Cert.Reference4Ideal.nD,
      r.2.mem ((c.tc : Thread Cert.Reference4Ideal.nD Cert.Reference4Ideal.τ).loc Cert.Reference4Ideal.main_arg0) = m ((c.tc : Thread Cert.Reference4Ideal.nD Cert.Reference4Ideal.τ).loc Cert.Reference4Ideal.main_arg0)
      ∧ r.2.mem ((c.tc : Thread Cert.Reference4Ideal.nD Cert.Reference4Ideal.τ).loc Cert.Reference4Ideal.main_arg1) = m ((c.tc : Thread Cert.Reference4Ideal.nD Cert.Reference4Ideal.τ).loc Cert.Reference4Ideal.main_arg1)
      ∧ r.2.mem ((c.tc : Thread Cert.Reference4Ideal.nD Cert.Reference4Ideal.τ).loc Cert.Reference4Ideal.main_arg2) = m ((c.tc : Thread Cert.Reference4Ideal.nD Cert.Reference4Ideal.τ).loc Cert.Reference4Ideal.main_arg2)
      ∧ r.2.mem ((c.tc : Thread Cert.Reference4Ideal.nD Cert.Reference4Ideal.τ).loc Cert.Reference4Ideal.main_arg3) = m ((c.tc : Thread Cert.Reference4Ideal.nD Cert.Reference4Ideal.τ).loc Cert.Reference4Ideal.main_arg3)
      ∧ r.2.mem ((c.tc : Thread Cert.Reference4Ideal.nD Cert.Reference4Ideal.τ).loc Cert.Reference4Ideal.main_arg4) = m ((c.tc : Thread Cert.Reference4Ideal.nD Cert.Reference4Ideal.τ).loc Cert.Reference4Ideal.main_arg4)
      ∧ r.2.mem ((c.tc : Thread Cert.Reference4Ideal.nD Cert.Reference4Ideal.τ).loc Cert.Reference4Ideal.main_arg5) = m ((c.tc : Thread Cert.Reference4Ideal.nD Cert.Reference4Ideal.τ).loc Cert.Reference4Ideal.main_arg5)
      ∧ r.2.mem ((c.tc : Thread Cert.Reference4Ideal.nD Cert.Reference4Ideal.τ).loc Cert.Reference4Ideal.main_arg6) = m ((c.tc : Thread Cert.Reference4Ideal.nD Cert.Reference4Ideal.τ).loc Cert.Reference4Ideal.main_arg6)
      ∧ r.2.mem ((c.tc : Thread Cert.Reference4Ideal.nD Cert.Reference4Ideal.τ).loc Cert.Reference4Ideal.main_arg7) = m ((c.tc : Thread Cert.Reference4Ideal.nD Cert.Reference4Ideal.τ).loc Cert.Reference4Ideal.main_arg7)
      ∧ r.2.mem ((c.tc : Thread Cert.Reference4Ideal.nD Cert.Reference4Ideal.τ).loc Cert.Reference4Ideal.main_arg8) = m ((c.tc : Thread Cert.Reference4Ideal.nD Cert.Reference4Ideal.τ).loc Cert.Reference4Ideal.main_arg8)
      ∧ r.2.mem ((c.tc : Thread Cert.Reference4Ideal.nD Cert.Reference4Ideal.τ).loc Cert.Reference4Ideal.main_arg9) = m ((c.tc : Thread Cert.Reference4Ideal.nD Cert.Reference4Ideal.τ).loc Cert.Reference4Ideal.main_arg9)
      ∧ r.2.mem ((c.tc : Thread Cert.Reference4Ideal.nD Cert.Reference4Ideal.τ).loc Cert.Reference4Ideal.main_arg10) = m ((c.tc : Thread Cert.Reference4Ideal.nD Cert.Reference4Ideal.τ).loc Cert.Reference4Ideal.main_arg10))
      ∧ r.2.sem = fun _ => 0)

def quiescent_Kernel5 [hKernel5 : Cert.Kernel5.Facts] : Prop :=
  ∀ (m : (ℓ : Loc Cert.Kernel5.nD Cert.Kernel5.τ Cert.Kernel5.sig) → Buf (Elt Bits) ℓ) (g : Dev Cert.Kernel5.nD → PrngReg), Pre_Kernel5 m →
    θ_run (Cert.Kernel5.defs (F := Bits)) (onTc (τ := Cert.Kernel5.τ) (Cert.Kernel5.main (F := Bits))) ⟨m, fun _ => 0, g⟩ (fun r => (∀ c : Dev Cert.Kernel5.nD,
      r.2.mem ((c.tc : Thread Cert.Kernel5.nD Cert.Kernel5.τ).loc Cert.Kernel5.main_arg0) = m ((c.tc : Thread Cert.Kernel5.nD Cert.Kernel5.τ).loc Cert.Kernel5.main_arg0)
      ∧ r.2.mem ((c.tc : Thread Cert.Kernel5.nD Cert.Kernel5.τ).loc Cert.Kernel5.main_arg1) = m ((c.tc : Thread Cert.Kernel5.nD Cert.Kernel5.τ).loc Cert.Kernel5.main_arg1)
      ∧ r.2.mem ((c.tc : Thread Cert.Kernel5.nD Cert.Kernel5.τ).loc Cert.Kernel5.main_arg2) = m ((c.tc : Thread Cert.Kernel5.nD Cert.Kernel5.τ).loc Cert.Kernel5.main_arg2))
      ∧ r.2.sem = fun _ => 0)

def quiescent_Kernel5Ideal [hKernel5Ideal : Cert.Kernel5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg), Pre_Kernel5Ideal m →
    θ_run (Cert.Kernel5Ideal.defs (F := Ideal)) (onTc (τ := Cert.Kernel5Ideal.τ) (Cert.Kernel5Ideal.main (F := Ideal))) ⟨m, fun _ => 0, g⟩ (fun r => (∀ c : Dev Cert.Kernel5Ideal.nD,
      r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
      ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1)
      ∧ r.2.mem ((c.tc : Thread Cert.Kernel5Ideal.nD Cert.Kernel5Ideal.τ).loc Cert.Kernel5Ideal.main_arg2) = m ((c.tc : Thread Cert.Kernel5Ideal.nD Cert.Kernel5Ideal.τ).loc Cert.Kernel5Ideal.main_arg2))
      ∧ r.2.sem = fun _ => 0)

def quiescent_Reference5Ideal [hReference5Ideal : Cert.Reference5Ideal.Facts] : Prop :=
  ∀ (m : (ℓ : Loc Cert.Reference5Ideal.nD Cert.Reference5Ideal.τ Cert.Reference5Ideal.sig) → Buf (Elt Ideal) ℓ) (g : Dev Cert.Reference5Ideal.nD → PrngReg), Pre_Reference5Ideal m →
    θ_run (Cert.Reference5Ideal.defs (F := Ideal)) (onTc (τ := Cert.Reference5Ideal.τ) (Cert.Reference5Ideal.main (F := Ideal))) ⟨m, fun _ => 0, g⟩ (fun r => (∀ c : Dev Cert.Reference5Ideal.nD,
      r.2.mem ((c.tc : Thread Cert.Reference5Ideal.nD Cert.Reference5Ideal.τ).loc Cert.Reference5Ideal.main_arg0) = m ((c.tc : Thread Cert.Reference5Ideal.nD Cert.Reference5Ideal.τ).loc Cert.Reference5Ideal.main_arg0)
      ∧ r.2.mem ((c.tc : Thread Cert.Reference5Ideal.nD Cert.Reference5Ideal.τ).loc Cert.Reference5Ideal.main_arg1) = m ((c.tc : Thread Cert.Reference5Ideal.nD Cert.Reference5Ideal.τ).loc Cert.Reference5Ideal.main_arg1)
      ∧ r.2.mem ((c.tc : Thread Cert.Reference5Ideal.nD Cert.Reference5Ideal.τ).loc Cert.Reference5Ideal.main_arg2) = m ((c.tc : Thread Cert.Reference5Ideal.nD Cert.Reference5Ideal.τ).loc Cert.Reference5Ideal.main_arg2))
      ∧ r.2.sem = fun _ => 0)

def quiescent_Kernel6 [hKernel6 : Cert.Kernel6.Facts] : Prop :=
  ∀ (m : (ℓ : Loc Cert.Kernel6.nD Cert.Kernel6.τ Cert.Kernel6.sig) → Buf (Elt Bits) ℓ) (g : Dev Cert.Kernel6.nD → PrngReg), Pre_Kernel6 m →
    θ_run (Cert.Kernel6.defs (F := Bits)) (onTc (τ := Cert.Kernel6.τ) (Cert.Kernel6.main (F := Bits))) ⟨m, fun _ => 0, g⟩ (fun r => (∀ c : Dev Cert.Kernel6.nD,
      r.2.mem ((c.tc : Thread Cert.Kernel6.nD Cert.Kernel6.τ).loc Cert.Kernel6.main_arg0) = m ((c.tc : Thread Cert.Kernel6.nD Cert.Kernel6.τ).loc Cert.Kernel6.main_arg0))
      ∧ r.2.sem = fun _ => 0)

def quiescent_Kernel6Ideal [hKernel6Ideal : Cert.Kernel6Ideal.Facts] : Prop :=
  ∀ (m : (ℓ : Loc Cert.Kernel6Ideal.nD Cert.Kernel6Ideal.τ Cert.Kernel6Ideal.sig) → Buf (Elt Ideal) ℓ) (g : Dev Cert.Kernel6Ideal.nD → PrngReg), Pre_Kernel6Ideal m →
    θ_run (Cert.Kernel6Ideal.defs (F := Ideal)) (onTc (τ := Cert.Kernel6Ideal.τ) (Cert.Kernel6Ideal.main (F := Ideal))) ⟨m, fun _ => 0, g⟩ (fun r => (∀ c : Dev Cert.Kernel6Ideal.nD,
      r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0))
      ∧ r.2.sem = fun _ => 0)

def quiescent_Reference6Ideal [hReference6Ideal : Cert.Reference6Ideal.Facts] : Prop :=
  ∀ (m : (ℓ : Loc Cert.Reference6Ideal.nD Cert.Reference6Ideal.τ Cert.Reference6Ideal.sig) → Buf (Elt Ideal) ℓ) (g : Dev Cert.Reference6Ideal.nD → PrngReg), Pre_Reference6Ideal m →
    θ_run (Cert.Reference6Ideal.defs (F := Ideal)) (onTc (τ := Cert.Reference6Ideal.τ) (Cert.Reference6Ideal.main (F := Ideal))) ⟨m, fun _ => 0, g⟩ (fun r => (∀ c : Dev Cert.Reference6Ideal.nD,
      r.2.mem ((c.tc : Thread Cert.Reference6Ideal.nD Cert.Reference6Ideal.τ).loc Cert.Reference6Ideal.main_arg0) = m ((c.tc : Thread Cert.Reference6Ideal.nD Cert.Reference6Ideal.τ).loc Cert.Reference6Ideal.main_arg0))
      ∧ r.2.sem = fun _ => 0)

def preserves_Kernel_KernelIdeal : Prop :=
  True

def algebraic_KernelIdeal_ReferenceIdeal_pre_finite [hKernelIdeal : Cert.KernelIdeal.Facts] [hReferenceIdeal : Cert.ReferenceIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v8)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v8) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v62) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def preserves_Kernel2_Kernel2Ideal : Prop :=
  True

def algebraic_Kernel2Ideal_Reference2Ideal [hKernel2Ideal : Cert.Kernel2Ideal.Facts] [hReference2Ideal : Cert.Reference2Ideal.Facts] [hPre_in_range : Cert.Pre_in_range.Facts] : Prop :=
  ∀ (m : (ℓ : Loc Cert.Kernel2Ideal.nD Cert.Kernel2Ideal.τ Cert.Kernel2Ideal.sig) → Buf (Elt Ideal) ℓ) (g : Dev Cert.Kernel2Ideal.nD → PrngReg)
    (m' : (ℓ : Loc Cert.Reference2Ideal.nD Cert.Reference2Ideal.τ Cert.Reference2Ideal.sig) → Buf (Elt Ideal) ℓ) (g' : Dev Cert.Reference2Ideal.nD → PrngReg), Pre_Kernel2Ideal m →
    (∀ c : Dev Cert.Kernel2Ideal.nD,
      m' ((c.tc : Thread Cert.Reference2Ideal.nD Cert.Reference2Ideal.τ).loc Cert.Reference2Ideal.main_arg0) = m ((c.tc : Thread Cert.Kernel2Ideal.nD Cert.Kernel2Ideal.τ).loc Cert.Kernel2Ideal.main_arg0)
      ∧ m' ((c.tc : Thread Cert.Reference2Ideal.nD Cert.Reference2Ideal.τ).loc Cert.Reference2Ideal.main_arg1) = m ((c.tc : Thread Cert.Kernel2Ideal.nD Cert.Kernel2Ideal.τ).loc Cert.Kernel2Ideal.main_arg1)
      ∧ m' ((c.tc : Thread Cert.Reference2Ideal.nD Cert.Reference2Ideal.τ).loc Cert.Reference2Ideal.main_arg2) = m ((c.tc : Thread Cert.Kernel2Ideal.nD Cert.Kernel2Ideal.τ).loc Cert.Kernel2Ideal.main_arg2)
      ∧ m' ((c.tc : Thread Cert.Reference2Ideal.nD Cert.Reference2Ideal.τ).loc Cert.Reference2Ideal.main_arg3) = m ((c.tc : Thread Cert.Kernel2Ideal.nD Cert.Kernel2Ideal.τ).loc Cert.Kernel2Ideal.main_arg3)
      ∧ m' ((c.tc : Thread Cert.Reference2Ideal.nD Cert.Reference2Ideal.τ).loc Cert.Reference2Ideal.main_arg4) = m ((c.tc : Thread Cert.Kernel2Ideal.nD Cert.Kernel2Ideal.τ).loc Cert.Kernel2Ideal.main_arg4)
      ∧ m' ((c.tc : Thread Cert.Reference2Ideal.nD Cert.Reference2Ideal.τ).loc Cert.Reference2Ideal.main_arg5) = m ((c.tc : Thread Cert.Kernel2Ideal.nD Cert.Kernel2Ideal.τ).loc Cert.Kernel2Ideal.main_arg5)
      ∧ m' ((c.tc : Thread Cert.Reference2Ideal.nD Cert.Reference2Ideal.τ).loc Cert.Reference2Ideal.main_arg6) = m ((c.tc : Thread Cert.Kernel2Ideal.nD Cert.Kernel2Ideal.τ).loc Cert.Kernel2Ideal.main_arg6)
      ∧ m' ((c.tc : Thread Cert.Reference2Ideal.nD Cert.Reference2Ideal.τ).loc Cert.Reference2Ideal.main_arg7) = m ((c.tc : Thread Cert.Kernel2Ideal.nD Cert.Kernel2Ideal.τ).loc Cert.Kernel2Ideal.main_arg7)) →
    ∃ (v0 : (c : Dev Cert.Kernel2Ideal.nD) → Buf (Elt Ideal) ((c.tc : Thread Cert.Kernel2Ideal.nD Cert.Kernel2Ideal.τ).loc Cert.Kernel2Ideal.main_v3)),
      θ_run (Cert.Kernel2Ideal.defs (F := Ideal)) (onTc (τ := Cert.Kernel2Ideal.τ) (Cert.Kernel2Ideal.main (F := Ideal))) ⟨m, fun _ => 0, g⟩ (fun r => ∀ c : Dev Cert.Kernel2Ideal.nD,
          r.2.mem ((c.tc : Thread Cert.Kernel2Ideal.nD Cert.Kernel2Ideal.τ).loc Cert.Kernel2Ideal.main_v3) = v0 c
          ∧ r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
          ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
          ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
          ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
          ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4)
          ∧ r.2.mem ((c.tc : Thread Cert.Kernel2Ideal.nD Cert.Kernel2Ideal.τ).loc Cert.Kernel2Ideal.main_arg5) = m ((c.tc : Thread Cert.Kernel2Ideal.nD Cert.Kernel2Ideal.τ).loc Cert.Kernel2Ideal.main_arg5)
          ∧ r.2.mem ((c.tc : Thread Cert.Kernel2Ideal.nD Cert.Kernel2Ideal.τ).loc Cert.Kernel2Ideal.main_arg6) = m ((c.tc : Thread Cert.Kernel2Ideal.nD Cert.Kernel2Ideal.τ).loc Cert.Kernel2Ideal.main_arg6)
          ∧ r.2.mem ((c.tc : Thread Cert.Kernel2Ideal.nD Cert.Kernel2Ideal.τ).loc Cert.Kernel2Ideal.main_arg7) = m ((c.tc : Thread Cert.Kernel2Ideal.nD Cert.Kernel2Ideal.τ).loc Cert.Kernel2Ideal.main_arg7))
      ∧ θ_run (Cert.Reference2Ideal.defs (F := Ideal)) (onTc (τ := Cert.Reference2Ideal.τ) (Cert.Reference2Ideal.main (F := Ideal))) ⟨m', fun _ => 0, g'⟩ (fun r => ∀ c : Dev Cert.Reference2Ideal.nD,
          r.2.mem ((c.tc : Thread Cert.Reference2Ideal.nD Cert.Reference2Ideal.τ).loc Cert.Reference2Ideal.main_v76) = v0 c
          ∧ r.2.mem ((c.tc : Thread Cert.Reference2Ideal.nD Cert.Reference2Ideal.τ).loc Cert.Reference2Ideal.main_arg0) = m' ((c.tc : Thread Cert.Reference2Ideal.nD Cert.Reference2Ideal.τ).loc Cert.Reference2Ideal.main_arg0)
          ∧ r.2.mem ((c.tc : Thread Cert.Reference2Ideal.nD Cert.Reference2Ideal.τ).loc Cert.Reference2Ideal.main_arg1) = m' ((c.tc : Thread Cert.Reference2Ideal.nD Cert.Reference2Ideal.τ).loc Cert.Reference2Ideal.main_arg1)
          ∧ r.2.mem ((c.tc : Thread Cert.Reference2Ideal.nD Cert.Reference2Ideal.τ).loc Cert.Reference2Ideal.main_arg2) = m' ((c.tc : Thread Cert.Reference2Ideal.nD Cert.Reference2Ideal.τ).loc Cert.Reference2Ideal.main_arg2)
          ∧ r.2.mem ((c.tc : Thread Cert.Reference2Ideal.nD Cert.Reference2Ideal.τ).loc Cert.Reference2Ideal.main_arg3) = m' ((c.tc : Thread Cert.Reference2Ideal.nD Cert.Reference2Ideal.τ).loc Cert.Reference2Ideal.main_arg3)
          ∧ r.2.mem ((c.tc : Thread Cert.Reference2Ideal.nD Cert.Reference2Ideal.τ).loc Cert.Reference2Ideal.main_arg4) = m' ((c.tc : Thread Cert.Reference2Ideal.nD Cert.Reference2Ideal.τ).loc Cert.Reference2Ideal.main_arg4)
          ∧ r.2.mem ((c.tc : Thread Cert.Reference2Ideal.nD Cert.Reference2Ideal.τ).loc Cert.Reference2Ideal.main_arg5) = m' ((c.tc : Thread Cert.Reference2Ideal.nD Cert.Reference2Ideal.τ).loc Cert.Reference2Ideal.main_arg5)
          ∧ r.2.mem ((c.tc : Thread Cert.Reference2Ideal.nD Cert.Reference2Ideal.τ).loc Cert.Reference2Ideal.main_arg6) = m' ((c.tc : Thread Cert.Reference2Ideal.nD Cert.Reference2Ideal.τ).loc Cert.Reference2Ideal.main_arg6)
          ∧ r.2.mem ((c.tc : Thread Cert.Reference2Ideal.nD Cert.Reference2Ideal.τ).loc Cert.Reference2Ideal.main_arg7) = m' ((c.tc : Thread Cert.Reference2Ideal.nD Cert.Reference2Ideal.τ).loc Cert.Reference2Ideal.main_arg7))

def preserves_Kernel3_Kernel3Ideal : Prop :=
  True

def algebraic_Kernel3Ideal_Reference3Ideal [hKernel3Ideal : Cert.Kernel3Ideal.Facts] [hReference3Ideal : Cert.Reference3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg)
    (m' : (ℓ : Loc Cert.Reference3Ideal.nD Cert.Reference3Ideal.τ Cert.Reference3Ideal.sig) → Buf (Elt Ideal) ℓ) (g' : Dev Cert.Reference3Ideal.nD → PrngReg), Pre_Kernel3Ideal m →
    (∀ c : Dev Cert.Kernel3Ideal.nD,
      m' ((c.tc : Thread Cert.Reference3Ideal.nD Cert.Reference3Ideal.τ).loc Cert.Reference3Ideal.main_arg0) = m ((c.tc : Thread Cert.Kernel3Ideal.nD Cert.Kernel3Ideal.τ).loc Cert.Kernel3Ideal.main_arg0)
      ∧ m' ((c.tc : Thread Cert.Reference3Ideal.nD Cert.Reference3Ideal.τ).loc Cert.Reference3Ideal.main_arg1) = m ((c.tc : Thread Cert.Kernel3Ideal.nD Cert.Kernel3Ideal.τ).loc Cert.Kernel3Ideal.main_arg1)
      ∧ m' ((c.tc : Thread Cert.Reference3Ideal.nD Cert.Reference3Ideal.τ).loc Cert.Reference3Ideal.main_arg2) = m ((c.tc : Thread Cert.Kernel3Ideal.nD Cert.Kernel3Ideal.τ).loc Cert.Kernel3Ideal.main_arg2)
      ∧ m' ((c.tc : Thread Cert.Reference3Ideal.nD Cert.Reference3Ideal.τ).loc Cert.Reference3Ideal.main_arg3) = m ((c.tc : Thread Cert.Kernel3Ideal.nD Cert.Kernel3Ideal.τ).loc Cert.Kernel3Ideal.main_arg3)
      ∧ m' ((c.tc : Thread Cert.Reference3Ideal.nD Cert.Reference3Ideal.τ).loc Cert.Reference3Ideal.main_arg4) = m ((c.tc : Thread Cert.Kernel3Ideal.nD Cert.Kernel3Ideal.τ).loc Cert.Kernel3Ideal.main_arg4)
      ∧ m' ((c.tc : Thread Cert.Reference3Ideal.nD Cert.Reference3Ideal.τ).loc Cert.Reference3Ideal.main_arg5) = m ((c.tc : Thread Cert.Kernel3Ideal.nD Cert.Kernel3Ideal.τ).loc Cert.Kernel3Ideal.main_arg5)
      ∧ m' ((c.tc : Thread Cert.Reference3Ideal.nD Cert.Reference3Ideal.τ).loc Cert.Reference3Ideal.main_arg6) = m ((c.tc : Thread Cert.Kernel3Ideal.nD Cert.Kernel3Ideal.τ).loc Cert.Kernel3Ideal.main_arg6)
      ∧ m' ((c.tc : Thread Cert.Reference3Ideal.nD Cert.Reference3Ideal.τ).loc Cert.Reference3Ideal.main_arg7) = m ((c.tc : Thread Cert.Kernel3Ideal.nD Cert.Kernel3Ideal.τ).loc Cert.Kernel3Ideal.main_arg7)
      ∧ m' ((c.tc : Thread Cert.Reference3Ideal.nD Cert.Reference3Ideal.τ).loc Cert.Reference3Ideal.main_arg8) = m ((c.tc : Thread Cert.Kernel3Ideal.nD Cert.Kernel3Ideal.τ).loc Cert.Kernel3Ideal.main_arg8)
      ∧ m' ((c.tc : Thread Cert.Reference3Ideal.nD Cert.Reference3Ideal.τ).loc Cert.Reference3Ideal.main_arg9) = m ((c.tc : Thread Cert.Kernel3Ideal.nD Cert.Kernel3Ideal.τ).loc Cert.Kernel3Ideal.main_arg9)) →
    ∃ (v0 : (c : Dev Cert.Kernel3Ideal.nD) → Buf (Elt Ideal) ((c.tc : Thread Cert.Kernel3Ideal.nD Cert.Kernel3Ideal.τ).loc Cert.Kernel3Ideal.main_v26_0)) (v1 : (c : Dev Cert.Kernel3Ideal.nD) → Buf (Elt Ideal) ((c.tc : Thread Cert.Kernel3Ideal.nD Cert.Kernel3Ideal.τ).loc Cert.Kernel3Ideal.main_v26_1)),
      θ_run (Cert.Kernel3Ideal.defs (F := Ideal)) (onTc (τ := Cert.Kernel3Ideal.τ) (Cert.Kernel3Ideal.main (F := Ideal))) ⟨m, fun _ => 0, g⟩ (fun r => ∀ c : Dev Cert.Kernel3Ideal.nD,
          r.2.mem ((c.tc : Thread Cert.Kernel3Ideal.nD Cert.Kernel3Ideal.τ).loc Cert.Kernel3Ideal.main_v26_0) = v0 c
          ∧ r.2.mem ((c.tc : Thread Cert.Kernel3Ideal.nD Cert.Kernel3Ideal.τ).loc Cert.Kernel3Ideal.main_v26_1) = v1 c
          ∧ r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
          ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
          ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
          ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3)
          ∧ r.2.mem ((c.tc : Thread Cert.Kernel3Ideal.nD Cert.Kernel3Ideal.τ).loc Cert.Kernel3Ideal.main_arg4) = m ((c.tc : Thread Cert.Kernel3Ideal.nD Cert.Kernel3Ideal.τ).loc Cert.Kernel3Ideal.main_arg4)
          ∧ r.2.mem ((c.tc : Thread Cert.Kernel3Ideal.nD Cert.Kernel3Ideal.τ).loc Cert.Kernel3Ideal.main_arg5) = m ((c.tc : Thread Cert.Kernel3Ideal.nD Cert.Kernel3Ideal.τ).loc Cert.Kernel3Ideal.main_arg5)
          ∧ r.2.mem ((c.tc : Thread Cert.Kernel3Ideal.nD Cert.Kernel3Ideal.τ).loc Cert.Kernel3Ideal.main_arg6) = m ((c.tc : Thread Cert.Kernel3Ideal.nD Cert.Kernel3Ideal.τ).loc Cert.Kernel3Ideal.main_arg6)
          ∧ r.2.mem ((c.tc : Thread Cert.Kernel3Ideal.nD Cert.Kernel3Ideal.τ).loc Cert.Kernel3Ideal.main_arg7) = m ((c.tc : Thread Cert.Kernel3Ideal.nD Cert.Kernel3Ideal.τ).loc Cert.Kernel3Ideal.main_arg7)
          ∧ r.2.mem ((c.tc : Thread Cert.Kernel3Ideal.nD Cert.Kernel3Ideal.τ).loc Cert.Kernel3Ideal.main_arg8) = m ((c.tc : Thread Cert.Kernel3Ideal.nD Cert.Kernel3Ideal.τ).loc Cert.Kernel3Ideal.main_arg8)
          ∧ r.2.mem ((c.tc : Thread Cert.Kernel3Ideal.nD Cert.Kernel3Ideal.τ).loc Cert.Kernel3Ideal.main_arg9) = m ((c.tc : Thread Cert.Kernel3Ideal.nD Cert.Kernel3Ideal.τ).loc Cert.Kernel3Ideal.main_arg9))
      ∧ θ_run (Cert.Reference3Ideal.defs (F := Ideal)) (onTc (τ := Cert.Reference3Ideal.τ) (Cert.Reference3Ideal.main (F := Ideal))) ⟨m', fun _ => 0, g'⟩ (fun r => ∀ c : Dev Cert.Reference3Ideal.nD,
          r.2.mem ((c.tc : Thread Cert.Reference3Ideal.nD Cert.Reference3Ideal.τ).loc Cert.Reference3Ideal.main_v24) = v0 c
          ∧ r.2.mem ((c.tc : Thread Cert.Reference3Ideal.nD Cert.Reference3Ideal.τ).loc Cert.Reference3Ideal.main_v26) = v1 c
          ∧ r.2.mem ((c.tc : Thread Cert.Reference3Ideal.nD Cert.Reference3Ideal.τ).loc Cert.Reference3Ideal.main_arg0) = m' ((c.tc : Thread Cert.Reference3Ideal.nD Cert.Reference3Ideal.τ).loc Cert.Reference3Ideal.main_arg0)
          ∧ r.2.mem ((c.tc : Thread Cert.Reference3Ideal.nD Cert.Reference3Ideal.τ).loc Cert.Reference3Ideal.main_arg1) = m' ((c.tc : Thread Cert.Reference3Ideal.nD Cert.Reference3Ideal.τ).loc Cert.Reference3Ideal.main_arg1)
          ∧ r.2.mem ((c.tc : Thread Cert.Reference3Ideal.nD Cert.Reference3Ideal.τ).loc Cert.Reference3Ideal.main_arg2) = m' ((c.tc : Thread Cert.Reference3Ideal.nD Cert.Reference3Ideal.τ).loc Cert.Reference3Ideal.main_arg2)
          ∧ r.2.mem ((c.tc : Thread Cert.Reference3Ideal.nD Cert.Reference3Ideal.τ).loc Cert.Reference3Ideal.main_arg3) = m' ((c.tc : Thread Cert.Reference3Ideal.nD Cert.Reference3Ideal.τ).loc Cert.Reference3Ideal.main_arg3)
          ∧ r.2.mem ((c.tc : Thread Cert.Reference3Ideal.nD Cert.Reference3Ideal.τ).loc Cert.Reference3Ideal.main_arg4) = m' ((c.tc : Thread Cert.Reference3Ideal.nD Cert.Reference3Ideal.τ).loc Cert.Reference3Ideal.main_arg4)
          ∧ r.2.mem ((c.tc : Thread Cert.Reference3Ideal.nD Cert.Reference3Ideal.τ).loc Cert.Reference3Ideal.main_arg5) = m' ((c.tc : Thread Cert.Reference3Ideal.nD Cert.Reference3Ideal.τ).loc Cert.Reference3Ideal.main_arg5)
          ∧ r.2.mem ((c.tc : Thread Cert.Reference3Ideal.nD Cert.Reference3Ideal.τ).loc Cert.Reference3Ideal.main_arg6) = m' ((c.tc : Thread Cert.Reference3Ideal.nD Cert.Reference3Ideal.τ).loc Cert.Reference3Ideal.main_arg6)
          ∧ r.2.mem ((c.tc : Thread Cert.Reference3Ideal.nD Cert.Reference3Ideal.τ).loc Cert.Reference3Ideal.main_arg7) = m' ((c.tc : Thread Cert.Reference3Ideal.nD Cert.Reference3Ideal.τ).loc Cert.Reference3Ideal.main_arg7)
          ∧ r.2.mem ((c.tc : Thread Cert.Reference3Ideal.nD Cert.Reference3Ideal.τ).loc Cert.Reference3Ideal.main_arg8) = m' ((c.tc : Thread Cert.Reference3Ideal.nD Cert.Reference3Ideal.τ).loc Cert.Reference3Ideal.main_arg8)
          ∧ r.2.mem ((c.tc : Thread Cert.Reference3Ideal.nD Cert.Reference3Ideal.τ).loc Cert.Reference3Ideal.main_arg9) = m' ((c.tc : Thread Cert.Reference3Ideal.nD Cert.Reference3Ideal.τ).loc Cert.Reference3Ideal.main_arg9))

def preserves_Kernel4_Kernel4Ideal : Prop :=
  True

def algebraic_Kernel4Ideal_Reference4Ideal [hKernel4Ideal : Cert.Kernel4Ideal.Facts] [hReference4Ideal : Cert.Reference4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg)
    (m' : (ℓ : Loc Cert.Reference4Ideal.nD Cert.Reference4Ideal.τ Cert.Reference4Ideal.sig) → Buf (Elt Ideal) ℓ) (g' : Dev Cert.Reference4Ideal.nD → PrngReg), Pre_Kernel4Ideal m →
    (∀ c : Dev Cert.Kernel4Ideal.nD,
      m' ((c.tc : Thread Cert.Reference4Ideal.nD Cert.Reference4Ideal.τ).loc Cert.Reference4Ideal.main_arg0) = m ((c.tc : Thread Cert.Kernel4Ideal.nD Cert.Kernel4Ideal.τ).loc Cert.Kernel4Ideal.main_arg0)
      ∧ m' ((c.tc : Thread Cert.Reference4Ideal.nD Cert.Reference4Ideal.τ).loc Cert.Reference4Ideal.main_arg1) = m ((c.tc : Thread Cert.Kernel4Ideal.nD Cert.Kernel4Ideal.τ).loc Cert.Kernel4Ideal.main_arg1)
      ∧ m' ((c.tc : Thread Cert.Reference4Ideal.nD Cert.Reference4Ideal.τ).loc Cert.Reference4Ideal.main_arg2) = m ((c.tc : Thread Cert.Kernel4Ideal.nD Cert.Kernel4Ideal.τ).loc Cert.Kernel4Ideal.main_arg2)
      ∧ m' ((c.tc : Thread Cert.Reference4Ideal.nD Cert.Reference4Ideal.τ).loc Cert.Reference4Ideal.main_arg3) = m ((c.tc : Thread Cert.Kernel4Ideal.nD Cert.Kernel4Ideal.τ).loc Cert.Kernel4Ideal.main_arg3)
      ∧ m' ((c.tc : Thread Cert.Reference4Ideal.nD Cert.Reference4Ideal.τ).loc Cert.Reference4Ideal.main_arg4) = m ((c.tc : Thread Cert.Kernel4Ideal.nD Cert.Kernel4Ideal.τ).loc Cert.Kernel4Ideal.main_arg4)
      ∧ m' ((c.tc : Thread Cert.Reference4Ideal.nD Cert.Reference4Ideal.τ).loc Cert.Reference4Ideal.main_arg5) = m ((c.tc : Thread Cert.Kernel4Ideal.nD Cert.Kernel4Ideal.τ).loc Cert.Kernel4Ideal.main_arg5)
      ∧ m' ((c.tc : Thread Cert.Reference4Ideal.nD Cert.Reference4Ideal.τ).loc Cert.Reference4Ideal.main_arg6) = m ((c.tc : Thread Cert.Kernel4Ideal.nD Cert.Kernel4Ideal.τ).loc Cert.Kernel4Ideal.main_arg6)
      ∧ m' ((c.tc : Thread Cert.Reference4Ideal.nD Cert.Reference4Ideal.τ).loc Cert.Reference4Ideal.main_arg7) = m ((c.tc : Thread Cert.Kernel4Ideal.nD Cert.Kernel4Ideal.τ).loc Cert.Kernel4Ideal.main_arg7)
      ∧ m' ((c.tc : Thread Cert.Reference4Ideal.nD Cert.Reference4Ideal.τ).loc Cert.Reference4Ideal.main_arg8) = m ((c.tc : Thread Cert.Kernel4Ideal.nD Cert.Kernel4Ideal.τ).loc Cert.Kernel4Ideal.main_arg8)
      ∧ m' ((c.tc : Thread Cert.Reference4Ideal.nD Cert.Reference4Ideal.τ).loc Cert.Reference4Ideal.main_arg9) = m ((c.tc : Thread Cert.Kernel4Ideal.nD Cert.Kernel4Ideal.τ).loc Cert.Kernel4Ideal.main_arg9)
      ∧ m' ((c.tc : Thread Cert.Reference4Ideal.nD Cert.Reference4Ideal.τ).loc Cert.Reference4Ideal.main_arg10) = m ((c.tc : Thread Cert.Kernel4Ideal.nD Cert.Kernel4Ideal.τ).loc Cert.Kernel4Ideal.main_arg10)) →
    ∃ (v0 : (c : Dev Cert.Kernel4Ideal.nD) → Buf (Elt Ideal) ((c.tc : Thread Cert.Kernel4Ideal.nD Cert.Kernel4Ideal.τ).loc Cert.Kernel4Ideal.main_v87_0)) (v1 : (c : Dev Cert.Kernel4Ideal.nD) → Buf (Elt Ideal) ((c.tc : Thread Cert.Kernel4Ideal.nD Cert.Kernel4Ideal.τ).loc Cert.Kernel4Ideal.main_v87_1)) (v2 : (c : Dev Cert.Kernel4Ideal.nD) → Buf (Elt Ideal) ((c.tc : Thread Cert.Kernel4Ideal.nD Cert.Kernel4Ideal.τ).loc Cert.Kernel4Ideal.main_v87_2)) (v3 : (c : Dev Cert.Kernel4Ideal.nD) → Buf (Elt Ideal) ((c.tc : Thread Cert.Kernel4Ideal.nD Cert.Kernel4Ideal.τ).loc Cert.Kernel4Ideal.main_v87_3)),
      θ_run (Cert.Kernel4Ideal.defs (F := Ideal)) (onTc (τ := Cert.Kernel4Ideal.τ) (Cert.Kernel4Ideal.main (F := Ideal))) ⟨m, fun _ => 0, g⟩ (fun r => ∀ c : Dev Cert.Kernel4Ideal.nD,
          r.2.mem ((c.tc : Thread Cert.Kernel4Ideal.nD Cert.Kernel4Ideal.τ).loc Cert.Kernel4Ideal.main_v87_0) = v0 c
          ∧ r.2.mem ((c.tc : Thread Cert.Kernel4Ideal.nD Cert.Kernel4Ideal.τ).loc Cert.Kernel4Ideal.main_v87_1) = v1 c
          ∧ r.2.mem ((c.tc : Thread Cert.Kernel4Ideal.nD Cert.Kernel4Ideal.τ).loc Cert.Kernel4Ideal.main_v87_2) = v2 c
          ∧ r.2.mem ((c.tc : Thread Cert.Kernel4Ideal.nD Cert.Kernel4Ideal.τ).loc Cert.Kernel4Ideal.main_v87_3) = v3 c
          ∧ r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
          ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
          ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2)
          ∧ r.2.mem ((c.tc : Thread Cert.Kernel4Ideal.nD Cert.Kernel4Ideal.τ).loc Cert.Kernel4Ideal.main_arg3) = m ((c.tc : Thread Cert.Kernel4Ideal.nD Cert.Kernel4Ideal.τ).loc Cert.Kernel4Ideal.main_arg3)
          ∧ r.2.mem ((c.tc : Thread Cert.Kernel4Ideal.nD Cert.Kernel4Ideal.τ).loc Cert.Kernel4Ideal.main_arg4) = m ((c.tc : Thread Cert.Kernel4Ideal.nD Cert.Kernel4Ideal.τ).loc Cert.Kernel4Ideal.main_arg4)
          ∧ r.2.mem ((c.tc : Thread Cert.Kernel4Ideal.nD Cert.Kernel4Ideal.τ).loc Cert.Kernel4Ideal.main_arg5) = m ((c.tc : Thread Cert.Kernel4Ideal.nD Cert.Kernel4Ideal.τ).loc Cert.Kernel4Ideal.main_arg5)
          ∧ r.2.mem ((c.tc : Thread Cert.Kernel4Ideal.nD Cert.Kernel4Ideal.τ).loc Cert.Kernel4Ideal.main_arg6) = m ((c.tc : Thread Cert.Kernel4Ideal.nD Cert.Kernel4Ideal.τ).loc Cert.Kernel4Ideal.main_arg6)
          ∧ r.2.mem ((c.tc : Thread Cert.Kernel4Ideal.nD Cert.Kernel4Ideal.τ).loc Cert.Kernel4Ideal.main_arg7) = m ((c.tc : Thread Cert.Kernel4Ideal.nD Cert.Kernel4Ideal.τ).loc Cert.Kernel4Ideal.main_arg7)
          ∧ r.2.mem ((c.tc : Thread Cert.Kernel4Ideal.nD Cert.Kernel4Ideal.τ).loc Cert.Kernel4Ideal.main_arg8) = m ((c.tc : Thread Cert.Kernel4Ideal.nD Cert.Kernel4Ideal.τ).loc Cert.Kernel4Ideal.main_arg8)
          ∧ r.2.mem ((c.tc : Thread Cert.Kernel4Ideal.nD Cert.Kernel4Ideal.τ).loc Cert.Kernel4Ideal.main_arg9) = m ((c.tc : Thread Cert.Kernel4Ideal.nD Cert.Kernel4Ideal.τ).loc Cert.Kernel4Ideal.main_arg9)
          ∧ r.2.mem ((c.tc : Thread Cert.Kernel4Ideal.nD Cert.Kernel4Ideal.τ).loc Cert.Kernel4Ideal.main_arg10) = m ((c.tc : Thread Cert.Kernel4Ideal.nD Cert.Kernel4Ideal.τ).loc Cert.Kernel4Ideal.main_arg10))
      ∧ θ_run (Cert.Reference4Ideal.defs (F := Ideal)) (onTc (τ := Cert.Reference4Ideal.τ) (Cert.Reference4Ideal.main (F := Ideal))) ⟨m', fun _ => 0, g'⟩ (fun r => ∀ c : Dev Cert.Reference4Ideal.nD,
          r.2.mem ((c.tc : Thread Cert.Reference4Ideal.nD Cert.Reference4Ideal.τ).loc Cert.Reference4Ideal.main_v87) = v0 c
          ∧ r.2.mem ((c.tc : Thread Cert.Reference4Ideal.nD Cert.Reference4Ideal.τ).loc Cert.Reference4Ideal.main_v89) = v1 c
          ∧ r.2.mem ((c.tc : Thread Cert.Reference4Ideal.nD Cert.Reference4Ideal.τ).loc Cert.Reference4Ideal.main_v91) = v2 c
          ∧ r.2.mem ((c.tc : Thread Cert.Reference4Ideal.nD Cert.Reference4Ideal.τ).loc Cert.Reference4Ideal.main_v203) = v3 c
          ∧ r.2.mem ((c.tc : Thread Cert.Reference4Ideal.nD Cert.Reference4Ideal.τ).loc Cert.Reference4Ideal.main_arg0) = m' ((c.tc : Thread Cert.Reference4Ideal.nD Cert.Reference4Ideal.τ).loc Cert.Reference4Ideal.main_arg0)
          ∧ r.2.mem ((c.tc : Thread Cert.Reference4Ideal.nD Cert.Reference4Ideal.τ).loc Cert.Reference4Ideal.main_arg1) = m' ((c.tc : Thread Cert.Reference4Ideal.nD Cert.Reference4Ideal.τ).loc Cert.Reference4Ideal.main_arg1)
          ∧ r.2.mem ((c.tc : Thread Cert.Reference4Ideal.nD Cert.Reference4Ideal.τ).loc Cert.Reference4Ideal.main_arg2) = m' ((c.tc : Thread Cert.Reference4Ideal.nD Cert.Reference4Ideal.τ).loc Cert.Reference4Ideal.main_arg2)
          ∧ r.2.mem ((c.tc : Thread Cert.Reference4Ideal.nD Cert.Reference4Ideal.τ).loc Cert.Reference4Ideal.main_arg3) = m' ((c.tc : Thread Cert.Reference4Ideal.nD Cert.Reference4Ideal.τ).loc Cert.Reference4Ideal.main_arg3)
          ∧ r.2.mem ((c.tc : Thread Cert.Reference4Ideal.nD Cert.Reference4Ideal.τ).loc Cert.Reference4Ideal.main_arg4) = m' ((c.tc : Thread Cert.Reference4Ideal.nD Cert.Reference4Ideal.τ).loc Cert.Reference4Ideal.main_arg4)
          ∧ r.2.mem ((c.tc : Thread Cert.Reference4Ideal.nD Cert.Reference4Ideal.τ).loc Cert.Reference4Ideal.main_arg5) = m' ((c.tc : Thread Cert.Reference4Ideal.nD Cert.Reference4Ideal.τ).loc Cert.Reference4Ideal.main_arg5)
          ∧ r.2.mem ((c.tc : Thread Cert.Reference4Ideal.nD Cert.Reference4Ideal.τ).loc Cert.Reference4Ideal.main_arg6) = m' ((c.tc : Thread Cert.Reference4Ideal.nD Cert.Reference4Ideal.τ).loc Cert.Reference4Ideal.main_arg6)
          ∧ r.2.mem ((c.tc : Thread Cert.Reference4Ideal.nD Cert.Reference4Ideal.τ).loc Cert.Reference4Ideal.main_arg7) = m' ((c.tc : Thread Cert.Reference4Ideal.nD Cert.Reference4Ideal.τ).loc Cert.Reference4Ideal.main_arg7)
          ∧ r.2.mem ((c.tc : Thread Cert.Reference4Ideal.nD Cert.Reference4Ideal.τ).loc Cert.Reference4Ideal.main_arg8) = m' ((c.tc : Thread Cert.Reference4Ideal.nD Cert.Reference4Ideal.τ).loc Cert.Reference4Ideal.main_arg8)
          ∧ r.2.mem ((c.tc : Thread Cert.Reference4Ideal.nD Cert.Reference4Ideal.τ).loc Cert.Reference4Ideal.main_arg9) = m' ((c.tc : Thread Cert.Reference4Ideal.nD Cert.Reference4Ideal.τ).loc Cert.Reference4Ideal.main_arg9)
          ∧ r.2.mem ((c.tc : Thread Cert.Reference4Ideal.nD Cert.Reference4Ideal.τ).loc Cert.Reference4Ideal.main_arg10) = m' ((c.tc : Thread Cert.Reference4Ideal.nD Cert.Reference4Ideal.τ).loc Cert.Reference4Ideal.main_arg10))

def preserves_Kernel5_Kernel5Ideal : Prop :=
  True

def algebraic_Kernel5Ideal_Reference5Ideal [hKernel5Ideal : Cert.Kernel5Ideal.Facts] [hReference5Ideal : Cert.Reference5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg)
    (m' : (ℓ : Loc Cert.Reference5Ideal.nD Cert.Reference5Ideal.τ Cert.Reference5Ideal.sig) → Buf (Elt Ideal) ℓ) (g' : Dev Cert.Reference5Ideal.nD → PrngReg), Pre_Kernel5Ideal m →
    (∀ c : Dev Cert.Kernel5Ideal.nD,
      m' ((c.tc : Thread Cert.Reference5Ideal.nD Cert.Reference5Ideal.τ).loc Cert.Reference5Ideal.main_arg0) = m ((c.tc : Thread Cert.Kernel5Ideal.nD Cert.Kernel5Ideal.τ).loc Cert.Kernel5Ideal.main_arg0)
      ∧ m' ((c.tc : Thread Cert.Reference5Ideal.nD Cert.Reference5Ideal.τ).loc Cert.Reference5Ideal.main_arg1) = m ((c.tc : Thread Cert.Kernel5Ideal.nD Cert.Kernel5Ideal.τ).loc Cert.Kernel5Ideal.main_arg1)
      ∧ m' ((c.tc : Thread Cert.Reference5Ideal.nD Cert.Reference5Ideal.τ).loc Cert.Reference5Ideal.main_arg2) = m ((c.tc : Thread Cert.Kernel5Ideal.nD Cert.Kernel5Ideal.τ).loc Cert.Kernel5Ideal.main_arg2)) →
    ∃ (v0 : (c : Dev Cert.Kernel5Ideal.nD) → Buf (Elt Ideal) ((c.tc : Thread Cert.Kernel5Ideal.nD Cert.Kernel5Ideal.τ).loc Cert.Kernel5Ideal.main_v1)),
      θ_run (Cert.Kernel5Ideal.defs (F := Ideal)) (onTc (τ := Cert.Kernel5Ideal.τ) (Cert.Kernel5Ideal.main (F := Ideal))) ⟨m, fun _ => 0, g⟩ (fun r => ∀ c : Dev Cert.Kernel5Ideal.nD,
          r.2.mem ((c.tc : Thread Cert.Kernel5Ideal.nD Cert.Kernel5Ideal.τ).loc Cert.Kernel5Ideal.main_v1) = v0 c
          ∧ r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
          ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1)
          ∧ r.2.mem ((c.tc : Thread Cert.Kernel5Ideal.nD Cert.Kernel5Ideal.τ).loc Cert.Kernel5Ideal.main_arg2) = m ((c.tc : Thread Cert.Kernel5Ideal.nD Cert.Kernel5Ideal.τ).loc Cert.Kernel5Ideal.main_arg2))
      ∧ θ_run (Cert.Reference5Ideal.defs (F := Ideal)) (onTc (τ := Cert.Reference5Ideal.τ) (Cert.Reference5Ideal.main (F := Ideal))) ⟨m', fun _ => 0, g'⟩ (fun r => ∀ c : Dev Cert.Reference5Ideal.nD,
          r.2.mem ((c.tc : Thread Cert.Reference5Ideal.nD Cert.Reference5Ideal.τ).loc Cert.Reference5Ideal.main_v5) = v0 c
          ∧ r.2.mem ((c.tc : Thread Cert.Reference5Ideal.nD Cert.Reference5Ideal.τ).loc Cert.Reference5Ideal.main_arg0) = m' ((c.tc : Thread Cert.Reference5Ideal.nD Cert.Reference5Ideal.τ).loc Cert.Reference5Ideal.main_arg0)
          ∧ r.2.mem ((c.tc : Thread Cert.Reference5Ideal.nD Cert.Reference5Ideal.τ).loc Cert.Reference5Ideal.main_arg1) = m' ((c.tc : Thread Cert.Reference5Ideal.nD Cert.Reference5Ideal.τ).loc Cert.Reference5Ideal.main_arg1)
          ∧ r.2.mem ((c.tc : Thread Cert.Reference5Ideal.nD Cert.Reference5Ideal.τ).loc Cert.Reference5Ideal.main_arg2) = m' ((c.tc : Thread Cert.Reference5Ideal.nD Cert.Reference5Ideal.τ).loc Cert.Reference5Ideal.main_arg2))

def preserves_Kernel6_Kernel6Ideal : Prop :=
  True

def algebraic_Kernel6Ideal_Reference6Ideal [hKernel6Ideal : Cert.Kernel6Ideal.Facts] [hReference6Ideal : Cert.Reference6Ideal.Facts] : Prop :=
  ∀ (m : (ℓ : Loc Cert.Kernel6Ideal.nD Cert.Kernel6Ideal.τ Cert.Kernel6Ideal.sig) → Buf (Elt Ideal) ℓ) (g : Dev Cert.Kernel6Ideal.nD → PrngReg)
    (m' : (ℓ : Loc Cert.Reference6Ideal.nD Cert.Reference6Ideal.τ Cert.Reference6Ideal.sig) → Buf (Elt Ideal) ℓ) (g' : Dev Cert.Reference6Ideal.nD → PrngReg), Pre_Kernel6Ideal m →
    (∀ c : Dev Cert.Kernel6Ideal.nD,
      m' ((c.tc : Thread Cert.Reference6Ideal.nD Cert.Reference6Ideal.τ).loc Cert.Reference6Ideal.main_arg0) = m ((c.tc : Thread Cert.Kernel6Ideal.nD Cert.Kernel6Ideal.τ).loc Cert.Kernel6Ideal.main_arg0)) →
    ∃ (v0 : (c : Dev Cert.Kernel6Ideal.nD) → Buf (Elt Ideal) ((c.tc : Thread Cert.Kernel6Ideal.nD Cert.Kernel6Ideal.τ).loc Cert.Kernel6Ideal.main_v17)),
      θ_run (Cert.Kernel6Ideal.defs (F := Ideal)) (onTc (τ := Cert.Kernel6Ideal.τ) (Cert.Kernel6Ideal.main (F := Ideal))) ⟨m, fun _ => 0, g⟩ (fun r => ∀ c : Dev Cert.Kernel6Ideal.nD,
          r.2.mem ((c.tc : Thread Cert.Kernel6Ideal.nD Cert.Kernel6Ideal.τ).loc Cert.Kernel6Ideal.main_v17) = v0 c
          ∧ r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0))
      ∧ θ_run (Cert.Reference6Ideal.defs (F := Ideal)) (onTc (τ := Cert.Reference6Ideal.τ) (Cert.Reference6Ideal.main (F := Ideal))) ⟨m', fun _ => 0, g'⟩ (fun r => ∀ c : Dev Cert.Reference6Ideal.nD,
          r.2.mem ((c.tc : Thread Cert.Reference6Ideal.nD Cert.Reference6Ideal.τ).loc Cert.Reference6Ideal.main_v21) = v0 c
          ∧ r.2.mem ((c.tc : Thread Cert.Reference6Ideal.nD Cert.Reference6Ideal.τ).loc Cert.Reference6Ideal.main_arg0) = m' ((c.tc : Thread Cert.Reference6Ideal.nD Cert.Reference6Ideal.τ).loc Cert.Reference6Ideal.main_arg0))

def Claim : Prop :=
  ∃ (hKernel : Cert.Kernel.Facts) (hKernelIdeal : Cert.KernelIdeal.Facts) (hReferenceIdeal : Cert.ReferenceIdeal.Facts) (hKernel2 : Cert.Kernel2.Facts) (hKernel2Ideal : Cert.Kernel2Ideal.Facts) (hReference2Ideal : Cert.Reference2Ideal.Facts) (hKernel3 : Cert.Kernel3.Facts) (hKernel3Ideal : Cert.Kernel3Ideal.Facts) (hReference3Ideal : Cert.Reference3Ideal.Facts) (hKernel4 : Cert.Kernel4.Facts) (hKernel4Ideal : Cert.Kernel4Ideal.Facts) (hReference4Ideal : Cert.Reference4Ideal.Facts) (hKernel5 : Cert.Kernel5.Facts) (hKernel5Ideal : Cert.Kernel5Ideal.Facts) (hReference5Ideal : Cert.Reference5Ideal.Facts) (hKernel6 : Cert.Kernel6.Facts) (hKernel6Ideal : Cert.Kernel6Ideal.Facts) (hReference6Ideal : Cert.Reference6Ideal.Facts) (hPre_finite : Cert.Pre_finite.Facts) (hPre_in_range : Cert.Pre_in_range.Facts),
    quiescent_Kernel (hKernel := hKernel)
    ∧ quiescent_KernelIdeal (hKernelIdeal := hKernelIdeal)
    ∧ quiescent_KernelIdeal_pre_finite (hKernelIdeal := hKernelIdeal) (hPre_finite := hPre_finite)
    ∧ quiescent_ReferenceIdeal (hReferenceIdeal := hReferenceIdeal)
    ∧ quiescent_ReferenceIdeal_pre_finite (hReferenceIdeal := hReferenceIdeal) (hPre_finite := hPre_finite)
    ∧ quiescent_Kernel2 (hKernel2 := hKernel2) (hPre_in_range := hPre_in_range)
    ∧ quiescent_Kernel2Ideal (hKernel2Ideal := hKernel2Ideal) (hPre_in_range := hPre_in_range)
    ∧ quiescent_Reference2Ideal (hReference2Ideal := hReference2Ideal)
    ∧ quiescent_Reference2Ideal_pre_in_range (hReference2Ideal := hReference2Ideal) (hPre_in_range := hPre_in_range)
    ∧ quiescent_Kernel3 (hKernel3 := hKernel3)
    ∧ quiescent_Kernel3Ideal (hKernel3Ideal := hKernel3Ideal)
    ∧ quiescent_Reference3Ideal (hReference3Ideal := hReference3Ideal)
    ∧ quiescent_Kernel4 (hKernel4 := hKernel4)
    ∧ quiescent_Kernel4Ideal (hKernel4Ideal := hKernel4Ideal)
    ∧ quiescent_Reference4Ideal (hReference4Ideal := hReference4Ideal)
    ∧ quiescent_Kernel5 (hKernel5 := hKernel5)
    ∧ quiescent_Kernel5Ideal (hKernel5Ideal := hKernel5Ideal)
    ∧ quiescent_Reference5Ideal (hReference5Ideal := hReference5Ideal)
    ∧ quiescent_Kernel6 (hKernel6 := hKernel6)
    ∧ quiescent_Kernel6Ideal (hKernel6Ideal := hKernel6Ideal)
    ∧ quiescent_Reference6Ideal (hReference6Ideal := hReference6Ideal)
    ∧ preserves_Kernel_KernelIdeal
    ∧ algebraic_KernelIdeal_ReferenceIdeal_pre_finite (hKernelIdeal := hKernelIdeal) (hReferenceIdeal := hReferenceIdeal) (hPre_finite := hPre_finite)
    ∧ preserves_Kernel2_Kernel2Ideal
    ∧ algebraic_Kernel2Ideal_Reference2Ideal (hKernel2Ideal := hKernel2Ideal) (hReference2Ideal := hReference2Ideal) (hPre_in_range := hPre_in_range)
    ∧ preserves_Kernel3_Kernel3Ideal
    ∧ algebraic_Kernel3Ideal_Reference3Ideal (hKernel3Ideal := hKernel3Ideal) (hReference3Ideal := hReference3Ideal)
    ∧ preserves_Kernel4_Kernel4Ideal
    ∧ algebraic_Kernel4Ideal_Reference4Ideal (hKernel4Ideal := hKernel4Ideal) (hReference4Ideal := hReference4Ideal)
    ∧ preserves_Kernel5_Kernel5Ideal
    ∧ algebraic_Kernel5Ideal_Reference5Ideal (hKernel5Ideal := hKernel5Ideal) (hReference5Ideal := hReference5Ideal)
    ∧ preserves_Kernel6_Kernel6Ideal
    ∧ algebraic_Kernel6Ideal_Reference6Ideal (hKernel6Ideal := hKernel6Ideal) (hReference6Ideal := hReference6Ideal)
-- ==== Pre_finite.lean ====
abbrev S8x8192x8x64 : Shape := ⟨4, ![8, 8192, 8, 64]⟩
abbrev S8x8192x2x64 : Shape := ⟨4, ![8, 8192, 2, 64]⟩
abbrev S8 : Shape := ⟨1, ![8]⟩
abbrev S_ : Shape := ⟨0, ![]⟩

class Facts : Prop where
  bcast_S_S8x8192x8x64 : S_.BroadcastsInDim S8x8192x8x64 (![] : Fin 0 → Fin S8x8192x8x64.rank)
  bcast_S_S8x8192x2x64 : S_.BroadcastsInDim S8x8192x2x64 (![] : Fin 0 → Fin S8x8192x2x64.rank)
  bcast_S_S8 : S_.BroadcastsInDim S8 (![] : Fin 0 → Fin S8.rank)

variable [Facts]

def fn {F : FTy → Type} [FloatOps F] (main_arg0 : FVec F S8x8192x8x64 .f32) (main_arg1 : FVec F S8x8192x2x64 .f32) (main_arg2 : FVec F S8x8192x2x64 .f32) (main_arg3 : FVec F S8 .f32) : IVec S8x8192x8x64 1 × IVec S8x8192x2x64 1 × IVec S8 1 :=
  let main_v0 : FVec F S8x8192x8x64 .f32 := Host.absf main_arg0
  let main_cst : FVec F S_ .f32 := constant S_ .f32 0x7F800000#32
  let main_v1 : FVec F S8x8192x8x64 .f32 := broadcastInDim S8x8192x8x64 ![] bcast_S_S8x8192x8x64 main_cst
  let main_v2 : IVec S8x8192x8x64 1 := cmpf .olt main_v0 main_v1
  let main_v3 : FVec F S8x8192x2x64 .f32 := Host.absf main_arg1
  let main_cst_0 : FVec F S_ .f32 := constant S_ .f32 0x7F800000#32
  let main_v4 : FVec F S8x8192x2x64 .f32 := broadcastInDim S8x8192x2x64 ![] bcast_S_S8x8192x2x64 main_cst_0
  let main_v5 : IVec S8x8192x2x64 1 := cmpf .olt main_v3 main_v4
  let main_v6 : FVec F S8 .f32 := Host.absf main_arg3
  let main_cst_1 : FVec F S_ .f32 := constant S_ .f32 0x7F800000#32
  let main_v7 : FVec F S8 .f32 := broadcastInDim S8 ![] bcast_S_S8 main_cst_1
  let main_v8 : IVec S8 1 := cmpf .olt main_v6 main_v7
  (main_v2, main_v5, main_v8)
-- ==== Pre_in_range.lean ====
abbrev S546 : Shape := ⟨1, ![546]⟩
abbrev S1 : Shape := ⟨1, ![1]⟩
abbrev S279552x1024 : Shape := ⟨2, ![279552, 1024]⟩
abbrev S2x32x1024x2048 : Shape := ⟨4, ![2, 32, 1024, 2048]⟩
abbrev S2x32x2048 : Shape := ⟨3, ![2, 32, 2048]⟩
abbrev S2x32x1024x1024 : Shape := ⟨4, ![2, 32, 1024, 1024]⟩
abbrev S2x32x1024 : Shape := ⟨3, ![2, 32, 1024]⟩
abbrev S_ : Shape := ⟨0, ![]⟩

class Facts : Prop where
  bcast_S_S546 : S_.BroadcastsInDim S546 (![] : Fin 0 → Fin S546.rank)
  bcast_S_S1 : S_.BroadcastsInDim S1 (![] : Fin 0 → Fin S1.rank)

variable [Facts]

def fn {F : FTy → Type} [FloatOps F] (main_arg0 : IVec S546 32) (main_arg1 : IVec S546 32) (main_arg2 : IVec S1 32) (main_arg3 : FVec F S279552x1024 .f32) (main_arg4 : FVec F S2x32x1024x2048 .f32) (main_arg5 : FVec F S2x32x2048 .f32) (main_arg6 : FVec F S2x32x1024x1024 .f32) (main_arg7 : FVec F S2x32x1024 .f32) : IVec S546 1 × IVec S1 1 :=
  let main_c : IVec S_ 32 := constantI S_ 32 0#32
  let main_v0 : IVec S546 32 := broadcastInDim S546 ![] bcast_S_S546 main_c
  let main_v1 : IVec S546 1 := cmpi .sge main_arg0 main_v0
  let main_c_0 : IVec S_ 32 := constantI S_ 32 32#32
  let main_v2 : IVec S546 32 := broadcastInDim S546 ![] bcast_S_S546 main_c_0
  let main_v3 : IVec S546 1 := cmpi .slt main_arg0 main_v2
  let main_v4 : IVec S546 1 := andi main_v1 main_v3
  let main_c_1 : IVec S_ 32 := constantI S_ 32 1#32
  let main_v5 : IVec S1 32 := broadcastInDim S1 ![] bcast_S_S1 main_c_1
  let main_v6 : IVec S1 1 := cmpi .sge main_arg2 main_v5
  (main_v4, main_v6)
-- ==== Kernel.lean ====
abbrev S8x8192x8x64 : Shape := ⟨4, ![8, 8192, 8, 64]⟩
abbrev S8x8192x2x64 : Shape := ⟨4, ![8, 8192, 2, 64]⟩
abbrev S8 : Shape := ⟨1, ![8]⟩
abbrev S65536x512 : Shape := ⟨2, ![65536, 512]⟩
abbrev S_ : Shape := ⟨0, ![]⟩
abbrev S65536x128 : Shape := ⟨2, ![65536, 128]⟩
abbrev S512x512 : Shape := ⟨2, ![512, 512]⟩
abbrev S512x128 : Shape := ⟨2, ![512, 128]⟩
abbrev S128x128 : Shape := ⟨2, ![128, 128]⟩
abbrev S640x128 : Shape := ⟨2, ![640, 128]⟩
abbrev S512x1 : Shape := ⟨2, ![512, 1]⟩
abbrev S1 : Shape := ⟨1, ![1]⟩
abbrev S128x64 : Shape := ⟨2, ![128, 64]⟩
abbrev S512x64 : Shape := ⟨2, ![512, 64]⟩
abbrev S256x64 : Shape := ⟨2, ![256, 64]⟩
abbrev S512x256 : Shape := ⟨2, ![512, 256]⟩
abbrev S512 : Shape := ⟨1, ![512]⟩
abbrev S128x256 : Shape := ⟨2, ![128, 256]⟩

abbrev nBuf : Space → Nat
  | .hbm => 14
  | .vmem => 12
  | .smem => 1
  | _ => 0

abbrev bufTy : (tb : Table) → Fin (tcTables nBuf tb) → BufTy
  | .hbm, ⟨0, _⟩ => ⟨S8x8192x8x64, .f32⟩
  | .hbm, ⟨1, _⟩ => ⟨S8x8192x2x64, .f32⟩
  | .hbm, ⟨2, _⟩ => ⟨S8x8192x2x64, .f32⟩
  | .hbm, ⟨3, _⟩ => ⟨S8, .f32⟩
  | .hbm, ⟨4, _⟩ => ⟨S65536x512, .f32⟩
  | .hbm, ⟨5, _⟩ => ⟨S_, .f32⟩
  | .hbm, ⟨6, _⟩ => ⟨S65536x512, .f32⟩
  | .hbm, ⟨7, _⟩ => ⟨S65536x512, .f32⟩
  | .hbm, ⟨8, _⟩ => ⟨S65536x512, .bf16⟩
  | .hbm, ⟨9, _⟩ => ⟨S65536x128, .f32⟩
  | .hbm, ⟨10, _⟩ => ⟨S65536x128, .bf16⟩
  | .hbm, ⟨11, _⟩ => ⟨S65536x128, .f32⟩
  | .hbm, ⟨12, _⟩ => ⟨S65536x128, .bf16⟩
  | .hbm, ⟨13, _⟩ => ⟨S65536x512, .bf16⟩
  | .local _ .vmem, ⟨0, _⟩ => ⟨S512x512, .bf16⟩
  | .local _ .vmem, ⟨1, _⟩ => ⟨S512x512, .bf16⟩
  | .local _ .vmem, ⟨2, _⟩ => ⟨S512x128, .bf16⟩
  | .local _ .vmem, ⟨3, _⟩ => ⟨S512x128, .bf16⟩
  | .local _ .vmem, ⟨4, _⟩ => ⟨S512x128, .bf16⟩
  | .local _ .vmem, ⟨5, _⟩ => ⟨S512x128, .bf16⟩
  | .local _ .vmem, ⟨6, _⟩ => ⟨S128x128, .bf16⟩
  | .local _ .vmem, ⟨7, _⟩ => ⟨S128x128, .bf16⟩
  | .local _ .vmem, ⟨8, _⟩ => ⟨S128x128, .bf16⟩
  | .local _ .vmem, ⟨9, _⟩ => ⟨S128x128, .bf16⟩
  | .local _ .vmem, ⟨10, _⟩ => ⟨S512x512, .bf16⟩
  | .local _ .vmem, ⟨11, _⟩ => ⟨S512x512, .bf16⟩
  | .local _ .smem, ⟨0, _⟩ => ⟨S8, .f32⟩
  | _, _ => ⟨S8x8192x8x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .smem, ⟨0, _⟩ => true
  | _, _ => false

abbrev semScoped : Fin 0 → Bool
  | ⟨_, h⟩ => absurd h (Nat.not_lt_zero _)

abbrev dmaSemScoped : Fin 13 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | _ => false

abbrev sig : RefSig :=
  ofTc nBuf bufTy 0 13 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_cst : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev cc0_stg1_0 : Ref sig .tc := ⟨.vmem, 0, rfl⟩
abbrev cc0_stg1_1 : Ref sig .tc := ⟨.vmem, 1, rfl⟩
abbrev cc0_stg2_0 : Ref sig .tc := ⟨.vmem, 2, rfl⟩
abbrev cc0_stg2_1 : Ref sig .tc := ⟨.vmem, 3, rfl⟩
abbrev cc0_stg3_0 : Ref sig .tc := ⟨.vmem, 4, rfl⟩
abbrev cc0_stg3_1 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_stg6_1 : Ref sig .tc := ⟨.vmem, 11, rfl⟩
abbrev cc0_stg0_0 : Ref sig .tc := ⟨.smem, 0, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem4_1 : DmaSem sig := 8
abbrev cc0_sem5_0 : DmaSem sig := 9
abbrev cc0_sem5_1 : DmaSem sig := 10
abbrev cc0_sem6_0 : DmaSem sig := 11
abbrev cc0_sem6_1 : DmaSem sig := 12

abbrev nD : Nat := 1
abbrev τ : Topo := Topo.v7x

variable {F : FTy → Type} [FloatOps F]

abbrev grid0 : Pipeline.Grid := ⟨1, ![128], ![false]⟩

def cc0_transform_0 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c4_i32 : BitVec 32 := 4#32
  let v0 : BitVec 32 := Scalar.muli arg0 c4_i32
  let c1_i32 : BitVec 32 := 1#32
  let v1 : BitVec 32 := Scalar.subi v0 c1_i32
  let c0_i32 : BitVec 32 := 0#32
  let v2 : BitVec 32 := Scalar.maxsi v1 c0_i32
  let c0_i32_0 : BitVec 32 := 0#32
  let c0_i32_1 : BitVec 32 := 0#32
  ![v2.toNat, c0_i32_0.toNat]

def cc0_transform_5 (i : grid0.Coords) : Fin 2 → Nat :=
  let arg0 : BitVec 32 := BitVec.ofNat 32 (i 0).val
  let c4_i32 : BitVec 32 := 4#32
  let v0 : BitVec 32 := Scalar.muli arg0 c4_i32
  let c1_i32 : BitVec 32 := 1#32
  let v1 : BitVec 32 := Scalar.subi v0 c1_i32
  let c0_i32 : BitVec 32 := 0#32
  let v2 : BitVec 32 := Scalar.maxsi v1 c0_i32
  let c0_i32_0 : BitVec 32 := 0#32
  let c0_i32_1 : BitVec 32 := 0#32
  ![v2.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 1 → Memref sig .tc .smem S8 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 2 → Memref sig .tc .vmem S512x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S512x128 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S512x128 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S128x128 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S128x128 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S512x512 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]
-- ==== ReferenceIdeal.lean ====
abbrev S8x8192x8x64 : Shape := ⟨4, ![8, 8192, 8, 64]⟩
abbrev S8x8192x2x64 : Shape := ⟨4, ![8, 8192, 2, 64]⟩
abbrev S8 : Shape := ⟨1, ![8]⟩
abbrev S8x64x128x2x4x64 : Shape := ⟨6, ![8, 64, 128, 2, 4, 64]⟩
abbrev S8x64x128x2x64 : Shape := ⟨5, ![8, 64, 128, 2, 64]⟩
abbrev S8x63x128x2x64 : Shape := ⟨5, ![8, 63, 128, 2, 64]⟩
abbrev S_ : Shape := ⟨0, ![]⟩
abbrev S8x64x256x2x64 : Shape := ⟨5, ![8, 64, 256, 2, 64]⟩
abbrev S8x64x2x256x128x4 : Shape := ⟨6, ![8, 64, 2, 256, 128, 4]⟩
abbrev S8x64x2x4x128x256 : Shape := ⟨6, ![8, 64, 2, 4, 128, 256]⟩
abbrev S128 : Shape := ⟨1, ![128]⟩
abbrev S128x1 : Shape := ⟨2, ![128, 1]⟩
abbrev S256 : Shape := ⟨1, ![256]⟩
abbrev S1x256 : Shape := ⟨2, ![1, 256]⟩
abbrev S128x256 : Shape := ⟨2, ![128, 256]⟩
abbrev S64 : Shape := ⟨1, ![64]⟩
abbrev S64x1x1 : Shape := ⟨3, ![64, 1, 1]⟩
abbrev S1x1x256 : Shape := ⟨3, ![1, 1, 256]⟩
abbrev S64x1x256 : Shape := ⟨3, ![64, 1, 256]⟩
abbrev S1x128x256 : Shape := ⟨3, ![1, 128, 256]⟩
abbrev S64x128x256 : Shape := ⟨3, ![64, 128, 256]⟩
abbrev S1x64x1x1x128x256 : Shape := ⟨6, ![1, 64, 1, 1, 128, 256]⟩
abbrev S1x1x2x4x1x1 : Shape := ⟨6, ![1, 1, 2, 4, 1, 1]⟩
abbrev S8x64x2x4x128 : Shape := ⟨5, ![8, 64, 2, 4, 128]⟩
abbrev S8x64x2x4x128x1 : Shape := ⟨6, ![8, 64, 2, 4, 128, 1]⟩
abbrev S8x64x2x4x128x64 : Shape := ⟨6, ![8, 64, 2, 4, 128, 64]⟩
abbrev S65536x512 : Shape := ⟨2, ![65536, 512]⟩

abbrev nBuf : Space → Nat
  | .hbm => 83
  | .vmem => 0
  | .smem => 0
  | _ => 0

abbrev bufTy : (tb : Table) → Fin (tcTables nBuf tb) → BufTy
  | .hbm, ⟨0, _⟩ => ⟨S8x8192x8x64, .f32⟩
  | .hbm, ⟨1, _⟩ => ⟨S8x8192x2x64, .f32⟩
  | .hbm, ⟨2, _⟩ => ⟨S8x8192x2x64, .f32⟩
  | .hbm, ⟨3, _⟩ => ⟨S8, .f32⟩
  | .hbm, ⟨4, _⟩ => ⟨S8x64x128x2x4x64, .f32⟩
  | .hbm, ⟨5, _⟩ => ⟨S8x64x128x2x64, .f32⟩
  | .hbm, ⟨6, _⟩ => ⟨S8x63x128x2x64, .f32⟩
  | .hbm, ⟨7, _⟩ => ⟨S_, .i32⟩
  | .hbm, ⟨8, _⟩ => ⟨S_, .f32⟩
  | .hbm, ⟨9, _⟩ => ⟨S8x64x128x2x64, .f32⟩
  | .hbm, ⟨10, _⟩ => ⟨S8x64x256x2x64, .f32⟩
  | .hbm, ⟨11, _⟩ => ⟨S8x64x128x2x64, .f32⟩
  | .hbm, ⟨12, _⟩ => ⟨S8x63x128x2x64, .f32⟩
  | .hbm, ⟨13, _⟩ => ⟨S_, .i32⟩
  | .hbm, ⟨14, _⟩ => ⟨S_, .f32⟩
  | .hbm, ⟨15, _⟩ => ⟨S8x64x128x2x64, .f32⟩
  | .hbm, ⟨16, _⟩ => ⟨S8x64x256x2x64, .f32⟩
  | .hbm, ⟨17, _⟩ => ⟨S8x64x2x256x128x4, .f32⟩
  | .hbm, ⟨18, _⟩ => ⟨S8x64x2x4x128x256, .f32⟩
  | .hbm, ⟨19, _⟩ => ⟨S_, .f32⟩
  | .hbm, ⟨20, _⟩ => ⟨S8x64x2x4x128x256, .f32⟩
  | .hbm, ⟨21, _⟩ => ⟨S8x64x2x4x128x256, .f32⟩
  | .hbm, ⟨22, _⟩ => ⟨S128, .i32⟩
  | .hbm, ⟨23, _⟩ => ⟨S128x1, .i32⟩
  | .hbm, ⟨24, _⟩ => ⟨S256, .i32⟩
  | .hbm, ⟨25, _⟩ => ⟨S1x256, .i32⟩
  | .hbm, ⟨26, _⟩ => ⟨S_, .i32⟩
  | .hbm, ⟨27, _⟩ => ⟨S128x1, .i32⟩
  | .hbm, ⟨28, _⟩ => ⟨S128x1, .i32⟩
  | .hbm, ⟨29, _⟩ => ⟨S128x256, .i32⟩
  | .hbm, ⟨30, _⟩ => ⟨S128x256, .i32⟩
  | .hbm, ⟨31, _⟩ => ⟨S128x256, .i32⟩
  | .hbm, ⟨32, _⟩ => ⟨S64, .i32⟩
  | .hbm, ⟨33, _⟩ => ⟨S64x1x1, .i32⟩
  | .hbm, ⟨34, _⟩ => ⟨S_, .i32⟩
  | .hbm, ⟨35, _⟩ => ⟨S128x256, .i32⟩
  | .hbm, ⟨36, _⟩ => ⟨S128x256, .i1⟩
  | .hbm, ⟨37, _⟩ => ⟨S_, .i32⟩
  | .hbm, ⟨38, _⟩ => ⟨S128x256, .i32⟩
  | .hbm, ⟨39, _⟩ => ⟨S128x256, .i1⟩
  | .hbm, ⟨40, _⟩ => ⟨S128x256, .i1⟩
  | .hbm, ⟨41, _⟩ => ⟨S_, .i32⟩
  | .hbm, ⟨42, _⟩ => ⟨S64x1x1, .i32⟩
  | .hbm, ⟨43, _⟩ => ⟨S64x1x1, .i1⟩
  | .hbm, ⟨44, _⟩ => ⟨S_, .i32⟩
  | .hbm, ⟨45, _⟩ => ⟨S1x256, .i32⟩
  | .hbm, ⟨46, _⟩ => ⟨S1x256, .i1⟩
  | .hbm, ⟨47, _⟩ => ⟨S1x1x256, .i1⟩
  | .hbm, ⟨48, _⟩ => ⟨S64x1x256, .i1⟩
  | .hbm, ⟨49, _⟩ => ⟨S64x1x256, .i1⟩
  | .hbm, ⟨50, _⟩ => ⟨S64x1x256, .i1⟩
  | .hbm, ⟨51, _⟩ => ⟨S1x128x256, .i1⟩
  | .hbm, ⟨52, _⟩ => ⟨S64x128x256, .i1⟩
  | .hbm, ⟨53, _⟩ => ⟨S64x128x256, .i1⟩
  | .hbm, ⟨54, _⟩ => ⟨S64x128x256, .i1⟩
  | .hbm, ⟨55, _⟩ => ⟨S1x64x1x1x128x256, .i1⟩
  | .hbm, ⟨56, _⟩ => ⟨S_, .f32⟩
  | .hbm, ⟨57, _⟩ => ⟨S_, .f32⟩
  | .hbm, ⟨58, _⟩ => ⟨S8x64x2x4x128x256, .i1⟩
  | .hbm, ⟨59, _⟩ => ⟨S8x64x2x4x128x256, .f32⟩
  | .hbm, ⟨60, _⟩ => ⟨S8x64x2x4x128x256, .f32⟩
  | .hbm, ⟨61, _⟩ => ⟨S1x1x2x4x1x1, .f32⟩
  | .hbm, ⟨62, _⟩ => ⟨S_, .f32⟩
  | .hbm, ⟨63, _⟩ => ⟨S8x64x2x4x128, .f32⟩
  | .hbm, ⟨64, _⟩ => ⟨S8x64x2x4x128x1, .f32⟩
  | .hbm, ⟨65, _⟩ => ⟨S8x64x2x4x128x1, .f32⟩
  | .hbm, ⟨66, _⟩ => ⟨S8x64x2x4x128x1, .f32⟩
  | .hbm, ⟨67, _⟩ => ⟨S8x64x2x4x128x256, .f32⟩
  | .hbm, ⟨68, _⟩ => ⟨S8x64x2x4x128x256, .f32⟩
  | .hbm, ⟨69, _⟩ => ⟨S8x64x2x4x128x256, .f32⟩
  | .hbm, ⟨70, _⟩ => ⟨S_, .f32⟩
  | .hbm, ⟨71, _⟩ => ⟨S8x64x2x4x128, .f32⟩
  | .hbm, ⟨72, _⟩ => ⟨S8x64x2x4x128x1, .f32⟩
  | .hbm, ⟨73, _⟩ => ⟨S8x64x2x4x128x1, .f32⟩
  | .hbm, ⟨74, _⟩ => ⟨S8x64x2x4x128x1, .f32⟩
  | .hbm, ⟨75, _⟩ => ⟨S8x64x2x4x128x1, .f32⟩
  | .hbm, ⟨76, _⟩ => ⟨S8x64x2x4x128x1, .f32⟩
  | .hbm, ⟨77, _⟩ => ⟨S8x64x2x4x128x64, .f32⟩
  | .hbm, ⟨78, _⟩ => ⟨S8x64x2x4x128x64, .f32⟩
  | .hbm, ⟨79, _⟩ => ⟨S8x64x2x4x128x64, .f32⟩
  | .hbm, ⟨80, _⟩ => ⟨S8x64x128x2x4x64, .f32⟩
  | .hbm, ⟨81, _⟩ => ⟨S65536x512, .f32⟩
  | .hbm, ⟨82, _⟩ => ⟨S65536x512, .bf16⟩
  | _, _ => ⟨S8x8192x8x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_c : Ref sig .tc := ⟨.hbm, 7, rfl⟩
abbrev main_call0_v0 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_c_0 : Ref sig .tc := ⟨.hbm, 13, rfl⟩
abbrev main_call1_v0 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_c_1 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_v23 : Ref sig .tc := ⟨.hbm, 33, rfl⟩
abbrev main_c_2 : Ref sig .tc := ⟨.hbm, 34, rfl⟩
abbrev main_v24 : Ref sig .tc := ⟨.hbm, 35, rfl⟩
abbrev main_v25 : Ref sig .tc := ⟨.hbm, 36, rfl⟩
abbrev main_c_3 : Ref sig .tc := ⟨.hbm, 37, rfl⟩
abbrev main_v26 : Ref sig .tc := ⟨.hbm, 38, rfl⟩
abbrev main_v27 : Ref sig .tc := ⟨.hbm, 39, rfl⟩
abbrev main_v28 : Ref sig .tc := ⟨.hbm, 40, rfl⟩
abbrev main_c_4 : Ref sig .tc := ⟨.hbm, 41, rfl⟩
abbrev main_v29 : Ref sig .tc := ⟨.hbm, 42, rfl⟩
abbrev main_v30 : Ref sig .tc := ⟨.hbm, 43, rfl⟩
abbrev main_c_5 : Ref sig .tc := ⟨.hbm, 44, rfl⟩
abbrev main_v31 : Ref sig .tc := ⟨.hbm, 45, rfl⟩
abbrev main_v32 : Ref sig .tc := ⟨.hbm, 46, rfl⟩
abbrev main_v33 : Ref sig .tc := ⟨.hbm, 47, rfl⟩
abbrev main_v34 : Ref sig .tc := ⟨.hbm, 48, rfl⟩
abbrev main_v35 : Ref sig .tc := ⟨.hbm, 49, rfl⟩
abbrev main_v36 : Ref sig .tc := ⟨.hbm, 50, rfl⟩
abbrev main_v37 : Ref sig .tc := ⟨.hbm, 51, rfl⟩
abbrev main_v38 : Ref sig .tc := ⟨.hbm, 52, rfl⟩
abbrev main_v39 : Ref sig .tc := ⟨.hbm, 53, rfl⟩
abbrev main_v40 : Ref sig .tc := ⟨.hbm, 54, rfl⟩
abbrev main_v41 : Ref sig .tc := ⟨.hbm, 55, rfl⟩
abbrev main_cst_6 : Ref sig .tc := ⟨.hbm, 56, rfl⟩
abbrev main_call2_v0 : Ref sig .tc := ⟨.hbm, 57, rfl⟩
abbrev main_call2_v1 : Ref sig .tc := ⟨.hbm, 58, rfl⟩
abbrev main_call2_v2 : Ref sig .tc := ⟨.hbm, 59, rfl⟩
abbrev main_v42 : Ref sig .tc := ⟨.hbm, 60, rfl⟩
abbrev main_v43 : Ref sig .tc := ⟨.hbm, 61, rfl⟩
abbrev main_cst_7 : Ref sig .tc := ⟨.hbm, 62, rfl⟩
abbrev main_v44 : Ref sig .tc := ⟨.hbm, 63, rfl⟩
abbrev main_v45 : Ref sig .tc := ⟨.hbm, 64, rfl⟩
abbrev main_v46 : Ref sig .tc := ⟨.hbm, 65, rfl⟩
abbrev main_v47 : Ref sig .tc := ⟨.hbm, 66, rfl⟩
abbrev main_v48 : Ref sig .tc := ⟨.hbm, 67, rfl⟩
abbrev main_v49 : Ref sig .tc := ⟨.hbm, 68, rfl⟩
abbrev main_v50 : Ref sig .tc := ⟨.hbm, 69, rfl⟩
abbrev main_cst_8 : Ref sig .tc := ⟨.hbm, 70, rfl⟩
abbrev main_v51 : Ref sig .tc := ⟨.hbm, 71, rfl⟩
abbrev main_v52 : Ref sig .tc := ⟨.hbm, 72, rfl⟩
abbrev main_v53 : Ref sig .tc := ⟨.hbm, 73, rfl⟩
abbrev main_v54 : Ref sig .tc := ⟨.hbm, 74, rfl⟩
abbrev main_v55 : Ref sig .tc := ⟨.hbm, 75, rfl⟩
abbrev main_v56 : Ref sig .tc := ⟨.hbm, 76, rfl⟩
abbrev main_v57 : Ref sig .tc := ⟨.hbm, 77, rfl⟩
abbrev main_v58 : Ref sig .tc := ⟨.hbm, 78, rfl⟩
abbrev main_v59 : Ref sig .tc := ⟨.hbm, 79, rfl⟩
abbrev main_v60 : Ref sig .tc := ⟨.hbm, 80, rfl⟩
abbrev main_v61 : Ref sig .tc := ⟨.hbm, 81, rfl⟩
abbrev main_v62 : Ref sig .tc := ⟨.hbm, 82, rfl⟩

abbrev nD : Nat := 1
abbrev τ : Topo := Topo.v7x

variable {F : FTy → Type} [FloatOps F]
-- ==== Kernel2.lean ====
abbrev S546 : Shape := ⟨1, ![546]⟩
abbrev S1 : Shape := ⟨1, ![1]⟩
abbrev S279552x1024 : Shape := ⟨2, ![279552, 1024]⟩
abbrev S2x32x1024x2048 : Shape := ⟨4, ![2, 32, 1024, 2048]⟩
abbrev S2x32x2048 : Shape := ⟨3, ![2, 32, 2048]⟩
abbrev S2x32x1024x1024 : Shape := ⟨4, ![2, 32, 1024, 1024]⟩
abbrev S2x32x1024 : Shape := ⟨3, ![2, 32, 1024]⟩
abbrev S2x32x1x2048 : Shape := ⟨4, ![2, 32, 1, 2048]⟩
abbrev S2x32x1x1024 : Shape := ⟨4, ![2, 32, 1, 1024]⟩
abbrev S512x1024 : Shape := ⟨2, ![512, 1024]⟩
abbrev S1x1x1024x2048 : Shape := ⟨4, ![1, 1, 1024, 2048]⟩
abbrev S1x1x1x2048 : Shape := ⟨4, ![1, 1, 1, 2048]⟩
abbrev S1x1x1024x1024 : Shape := ⟨4, ![1, 1, 1024, 1024]⟩
abbrev S1x1x1x1024 : Shape := ⟨4, ![1, 1, 1, 1024]⟩
abbrev S1024x2048 : Shape := ⟨2, ![1024, 2048]⟩
abbrev S1024x1024 : Shape := ⟨2, ![1024, 1024]⟩
abbrev S512x1 : Shape := ⟨2, ![512, 1]⟩
abbrev S1024x512 : Shape := ⟨2, ![1024, 512]⟩
abbrev S512x512 : Shape := ⟨2, ![512, 512]⟩
abbrev S1x1x1x512 : Shape := ⟨4, ![1, 1, 1, 512]⟩
abbrev S1x512 : Shape := ⟨2, ![1, 512]⟩
abbrev S1x1024 : Shape := ⟨2, ![1, 1024]⟩

abbrev nBuf : Space → Nat
  | .hbm => 9
  | .vmem => 14
  | .smem => 3
  | _ => 0

abbrev bufTy : (tb : Table) → Fin (tcTables nBuf tb) → BufTy
  | .hbm, ⟨0, _⟩ => ⟨S279552x1024, .f32⟩
  | .hbm, ⟨1, _⟩ => ⟨S2x32x1024x2048, .f32⟩
  | .hbm, ⟨2, _⟩ => ⟨S2x32x2048, .f32⟩
  | .hbm, ⟨3, _⟩ => ⟨S2x32x1024x1024, .f32⟩
  | .hbm, ⟨4, _⟩ => ⟨S2x32x1024, .f32⟩
  | .hbm, ⟨5, _⟩ => ⟨S279552x1024, .bf16⟩
  | .hbm, ⟨6, _⟩ => ⟨S2x32x1x2048, .f32⟩
  | .hbm, ⟨7, _⟩ => ⟨S2x32x1x1024, .f32⟩
  | .hbm, ⟨8, _⟩ => ⟨S279552x1024, .bf16⟩
  | .local _ .vmem, ⟨0, _⟩ => ⟨S512x1024, .bf16⟩
  | .local _ .vmem, ⟨1, _⟩ => ⟨S512x1024, .bf16⟩
  | .local _ .vmem, ⟨2, _⟩ => ⟨S1x1x1024x2048, .f32⟩
  | .local _ .vmem, ⟨3, _⟩ => ⟨S1x1x1024x2048, .f32⟩
  | .local _ .vmem, ⟨4, _⟩ => ⟨S1x1x1x2048, .f32⟩
  | .local _ .vmem, ⟨5, _⟩ => ⟨S1x1x1x2048, .f32⟩
  | .local _ .vmem, ⟨6, _⟩ => ⟨S1x1x1024x1024, .f32⟩
  | .local _ .vmem, ⟨7, _⟩ => ⟨S1x1x1024x1024, .f32⟩
  | .local _ .vmem, ⟨8, _⟩ => ⟨S1x1x1x1024, .f32⟩
  | .local _ .vmem, ⟨9, _⟩ => ⟨S1x1x1x1024, .f32⟩
  | .local _ .vmem, ⟨10, _⟩ => ⟨S512x1024, .bf16⟩
  | .local _ .vmem, ⟨11, _⟩ => ⟨S512x1024, .bf16⟩
  | .local _ .vmem, ⟨12, _⟩ => ⟨S1024x2048, .bf16⟩
  | .local _ .vmem, ⟨13, _⟩ => ⟨S1024x1024, .bf16⟩
  | .local _ .smem, ⟨0, _⟩ => ⟨S546, .i32⟩
  | .local _ .smem, ⟨1, _⟩ => ⟨S546, .i32⟩
  | .local _ .smem, ⟨2, _⟩ => ⟨S1, .i32⟩
  | _, _ => ⟨S279552x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg3 : Ref sig .tc := ⟨.hbm, 0, rfl⟩
abbrev main_arg4 : Ref sig .tc := ⟨.hbm, 1, rfl⟩
abbrev main_arg5 : Ref sig .tc := ⟨.hbm, 2, rfl⟩
abbrev main_arg6 : Ref sig .tc := ⟨.hbm, 3, rfl⟩
abbrev main_arg7 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_arg0 : Ref sig .tc := ⟨.smem, 0, rfl⟩
abbrev main_arg1 : Ref sig .tc := ⟨.smem, 1, rfl⟩
abbrev main_arg2 : Ref sig .tc := ⟨.smem, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_scratch0 : Ref sig .tc := ⟨.vmem, 12, rfl⟩
abbrev cc0_scratch1 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11

abbrev nD : Nat := 1
abbrev τ : Topo := Topo.v7x

variable {F : FTy → Type} [FloatOps F]

abbrev grid0 : Pipeline.Grid := ⟨1, ![546], ![false]⟩

abbrev pre0 : Pipeline.Prefetch sig := ⟨3, ![main_arg0.idx, main_arg1.idx, main_arg2.idx], fun | 0 => main_arg0.names | 1 => main_arg1.names | 2 => main_arg2.names | ⟨_ + 3, h⟩ => absurd h (Nat.not_lt.2 (Nat.le_add_left _ _)), fun | 0 => rfl | 1 => rfl | 2 => rfl | ⟨_ + 3, h⟩ => absurd h (Nat.not_lt.2 (Nat.le_add_left _ _))⟩

def k0_off1 (i : grid0.Coords) : Fin 1 → Nat :=
  let arg0 : BitVec 32 := BitVec.ofNat 32 (i 0).val
  let v0 : Index := Scalar.indexCast arg0
  ![v0.toNat]
def k0_off2 (i : grid0.Coords) : Fin 1 → Nat :=
  let arg0 : BitVec 32 := BitVec.ofNat 32 (i 0).val
  let c1_i32 : BitVec 32 := 1#32
  let v3 : BitVec 32 := Scalar.subi arg0 c1_i32
  let c0_i32_0 : BitVec 32 := 0#32
  let v4 : BitVec 32 := Scalar.maxsi v3 c0_i32_0
  let v5 : Index := Scalar.indexCast v4
  ![v5.toNat]
def k0_off3 (i : grid0.Coords) : Fin 1 → Nat :=
  let arg0 : BitVec 32 := BitVec.ofNat 32 (i 0).val
  let v20 : Index := Scalar.indexCast arg0
  ![v20.toNat]
def k0_cond2 (i : grid0.Coords) (v11 : BitVec 32) : BitVec 1 :=
  let arg0 : BitVec 32 := BitVec.ofNat 32 (i 0).val
  let v12 : BitVec 1 := Scalar.cmpi .slt arg0 v11
  let v13 : BitVec 32 := Scalar.extui v12
  let c0_i32_2 : BitVec 32 := 0#32
  let v14 : BitVec 1 := Scalar.cmpi .ne v13 c0_i32_2
  v14

def k0_cond3 (i : grid0.Coords) (v15 : BitVec 32) : BitVec 1 :=
  let arg0 : BitVec 32 := BitVec.ofNat 32 (i 0).val
  let v16 : BitVec 1 := Scalar.cmpi .sge arg0 v15
  let v17 : BitVec 32 := Scalar.extui v16
  let c0_i32_4 : BitVec 32 := 0#32
  let v18 : BitVec 1 := Scalar.cmpi .ne v17 c0_i32_4
  v18

def cc0_transform_0 (inb_S1_S1_0 : ∀ a, (![0] : Fin 1 → Nat) a + S1.size a ≤ S1.size a) (numel1_S1 : S1.numel = 1) (pf : pre0.Contents (Elt F)) (i : grid0.Coords) : Fin 2 → Nat :=
  let arg0 : BitVec 32 := BitVec.ofNat 32 (i 0).val
  let c0 : Index := 0#32
  let v0 : BitVec 32 := pf.at 2 (Rect.unit (s := S1) ![0] S1.size inb_S1_S1_0) numel1_S1
  let c1_i32 : BitVec 32 := 1#32
  let v1 : BitVec 32 := Scalar.subi v0 c1_i32
  let v2 : BitVec 32 := Scalar.minsi arg0 v1
  let c0_i32 : BitVec 32 := 0#32
  let c0_i32_0 : BitVec 32 := 0#32
  ![v2.toNat, c0_i32.toNat]

def cc0_transform_1 (k0_off1_inb : ∀ i : grid0.Coords, ∀ a, (k0_off1 i) a + S1.size a ≤ S546.size a) (numel1_S1 : S1.numel = 1) (pf : pre0.Contents (Elt F)) (i : grid0.Coords) : Fin 4 → Nat :=
  let arg0 : BitVec 32 := BitVec.ofNat 32 (i 0).val
  let v0 : Index := Scalar.indexCast arg0
  let v1 : BitVec 32 := pf.at 0 (Rect.unit (s := S546) ![v0.toNat] S1.size (k0_off1_inb i)) numel1_S1
  let c0_i32 : BitVec 32 := 0#32
  let c0_i32_0 : BitVec 32 := 0#32
  let c0_i32_1 : BitVec 32 := 0#32
  let c0_i32_2 : BitVec 32 := 0#32
  ![c0_i32.toNat, v1.toNat, c0_i32_0.toNat, c0_i32_1.toNat]

def cc0_transform_2 (k0_off1_inb : ∀ i : grid0.Coords, ∀ a, (k0_off1 i) a + S1.size a ≤ S546.size a) (numel1_S1 : S1.numel = 1) (pf : pre0.Contents (Elt F)) (i : grid0.Coords) : Fin 4 → Nat :=
  let arg0 : BitVec 32 := BitVec.ofNat 32 (i 0).val
  let v0 : Index := Scalar.indexCast arg0
  let v1 : BitVec 32 := pf.at 0 (Rect.unit (s := S546) ![v0.toNat] S1.size (k0_off1_inb i)) numel1_S1
  let c0_i32 : BitVec 32 := 0#32
  let c0_i32_0 : BitVec 32 := 0#32
  let c0_i32_1 : BitVec 32 := 0#32
  let c0_i32_2 : BitVec 32 := 0#32
  ![c0_i32.toNat, v1.toNat, c0_i32_0.toNat, c0_i32_1.toNat]

def cc0_transform_3 (k0_off1_inb : ∀ i : grid0.Coords, ∀ a, (k0_off1 i) a + S1.size a ≤ S546.size a) (numel1_S1 : S1.numel = 1) (pf : pre0.Contents (Elt F)) (i : grid0.Coords) : Fin 4 → Nat :=
  let arg0 : BitVec 32 := BitVec.ofNat 32 (i 0).val
  let v0 : Index := Scalar.indexCast arg0
  let v1 : BitVec 32 := pf.at 0 (Rect.unit (s := S546) ![v0.toNat] S1.size (k0_off1_inb i)) numel1_S1
  let c0_i32 : BitVec 32 := 0#32
  let c0_i32_0 : BitVec 32 := 0#32
  let c0_i32_1 : BitVec 32 := 0#32
  let c0_i32_2 : BitVec 32 := 0#32
  ![c0_i32.toNat, v1.toNat, c0_i32_0.toNat, c0_i32_1.toNat]

def cc0_transform_4 (k0_off1_inb : ∀ i : grid0.Coords, ∀ a, (k0_off1 i) a + S1.size a ≤ S546.size a) (numel1_S1 : S1.numel = 1) (pf : pre0.Contents (Elt F)) (i : grid0.Coords) : Fin 4 → Nat :=
  let arg0 : BitVec 32 := BitVec.ofNat 32 (i 0).val
  let v0 : Index := Scalar.indexCast arg0
  let v1 : BitVec 32 := pf.at 0 (Rect.unit (s := S546) ![v0.toNat] S1.size (k0_off1_inb i)) numel1_S1
  let c0_i32 : BitVec 32 := 0#32
  let c0_i32_0 : BitVec 32 := 0#32
  let c0_i32_1 : BitVec 32 := 0#32
  let c0_i32_2 : BitVec 32 := 0#32
  ![c0_i32.toNat, v1.toNat, c0_i32_0.toNat, c0_i32_1.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1x1x1024x2048 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1x1x1x2048 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S1x1x1024x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S1x1x1x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S512x1024 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]
-- ==== Reference2Ideal.lean ====
abbrev S546 : Shape := ⟨1, ![546]⟩
abbrev S1 : Shape := ⟨1, ![1]⟩
abbrev S279552x1024 : Shape := ⟨2, ![279552, 1024]⟩
abbrev S2x32x1024x2048 : Shape := ⟨4, ![2, 32, 1024, 2048]⟩
abbrev S2x32x2048 : Shape := ⟨3, ![2, 32, 2048]⟩
abbrev S2x32x1024x1024 : Shape := ⟨4, ![2, 32, 1024, 1024]⟩
abbrev S2x32x1024 : Shape := ⟨3, ![2, 32, 1024]⟩
abbrev S1x32x1024x2048 : Shape := ⟨4, ![1, 32, 1024, 2048]⟩
abbrev S32x1024x2048 : Shape := ⟨3, ![32, 1024, 2048]⟩
abbrev S1x32x2048 : Shape := ⟨3, ![1, 32, 2048]⟩
abbrev S32x2048 : Shape := ⟨2, ![32, 2048]⟩
abbrev S1x32x1024x1024 : Shape := ⟨4, ![1, 32, 1024, 1024]⟩
abbrev S32x1024x1024 : Shape := ⟨3, ![32, 1024, 1024]⟩
abbrev S1x32x1024 : Shape := ⟨3, ![1, 32, 1024]⟩
abbrev S32x1024 : Shape := ⟨2, ![32, 1024]⟩
abbrev S546x512x1024 : Shape := ⟨3, ![546, 512, 1024]⟩
abbrev S512 : Shape := ⟨1, ![512]⟩
abbrev S1x512x1 : Shape := ⟨3, ![1, 512, 1]⟩
abbrev S546x1x1 : Shape := ⟨3, ![546, 1, 1]⟩
abbrev S546x512x1 : Shape := ⟨3, ![546, 512, 1]⟩
abbrev S_ : Shape := ⟨0, ![]⟩
abbrev S546x1 : Shape := ⟨2, ![546, 1]⟩
abbrev S546x1024x2048 : Shape := ⟨3, ![546, 1024, 2048]⟩
abbrev S546x512x2048 : Shape := ⟨3, ![546, 512, 2048]⟩
abbrev S546x2048 : Shape := ⟨2, ![546, 2048]⟩
abbrev S546x1x2048 : Shape := ⟨3, ![546, 1, 2048]⟩
abbrev S546x1024x1024 : Shape := ⟨3, ![546, 1024, 1024]⟩
abbrev S546x1024 : Shape := ⟨2, ![546, 1024]⟩
abbrev S546x1x1024 : Shape := ⟨3, ![546, 1, 1024]⟩

abbrev nBuf : Space → Nat
  | .hbm => 113
  | .vmem => 0
  | .smem => 0
  | _ => 0

abbrev bufTy : (tb : Table) → Fin (tcTables nBuf tb) → BufTy
  | .hbm, ⟨0, _⟩ => ⟨S546, .i32⟩
  | .hbm, ⟨1, _⟩ => ⟨S546, .i32⟩
  | .hbm, ⟨2, _⟩ => ⟨S1, .i32⟩
  | .hbm, ⟨3, _⟩ => ⟨S279552x1024, .f32⟩
  | .hbm, ⟨4, _⟩ => ⟨S2x32x1024x2048, .f32⟩
  | .hbm, ⟨5, _⟩ => ⟨S2x32x2048, .f32⟩
  | .hbm, ⟨6, _⟩ => ⟨S2x32x1024x1024, .f32⟩
  | .hbm, ⟨7, _⟩ => ⟨S2x32x1024, .f32⟩
  | .hbm, ⟨8, _⟩ => ⟨S1x32x1024x2048, .f32⟩
  | .hbm, ⟨9, _⟩ => ⟨S32x1024x2048, .f32⟩
  | .hbm, ⟨10, _⟩ => ⟨S1x32x2048, .f32⟩
  | .hbm, ⟨11, _⟩ => ⟨S32x2048, .f32⟩
  | .hbm, ⟨12, _⟩ => ⟨S1x32x1024x1024, .f32⟩
  | .hbm, ⟨13, _⟩ => ⟨S32x1024x1024, .f32⟩
  | .hbm, ⟨14, _⟩ => ⟨S1x32x1024, .f32⟩
  | .hbm, ⟨15, _⟩ => ⟨S32x1024, .f32⟩
  | .hbm, ⟨16, _⟩ => ⟨S546x512x1024, .f32⟩
  | .hbm, ⟨17, _⟩ => ⟨S512, .i32⟩
  | .hbm, ⟨18, _⟩ => ⟨S1x512x1, .i32⟩
  | .hbm, ⟨19, _⟩ => ⟨S546x1x1, .i32⟩
  | .hbm, ⟨20, _⟩ => ⟨S546x512x1, .i32⟩
  | .hbm, ⟨21, _⟩ => ⟨S546x512x1, .i32⟩
  | .hbm, ⟨22, _⟩ => ⟨S546x512x1, .i1⟩
  | .hbm, ⟨23, _⟩ => ⟨S_, .f32⟩
  | .hbm, ⟨24, _⟩ => ⟨S_, .f32⟩
  | .hbm, ⟨25, _⟩ => ⟨S546x512x1024, .i1⟩
  | .hbm, ⟨26, _⟩ => ⟨S546x512x1024, .f32⟩
  | .hbm, ⟨27, _⟩ => ⟨S546x512x1024, .f32⟩
  | .hbm, ⟨28, _⟩ => ⟨S_, .i32⟩
  | .hbm, ⟨29, _⟩ => ⟨S546, .i32⟩
  | .hbm, ⟨30, _⟩ => ⟨S546, .i1⟩
  | .hbm, ⟨31, _⟩ => ⟨S_, .i32⟩
  | .hbm, ⟨32, _⟩ => ⟨S546, .i32⟩
  | .hbm, ⟨33, _⟩ => ⟨S546, .i32⟩
  | .hbm, ⟨34, _⟩ => ⟨S546, .i32⟩
  | .hbm, ⟨35, _⟩ => ⟨S546x1, .i32⟩
  | .hbm, ⟨36, _⟩ => ⟨S546x1024x2048, .f32⟩
  | .hbm, ⟨37, _⟩ => ⟨S546x512x2048, .f32⟩
  | .hbm, ⟨38, _⟩ => ⟨S_, .i32⟩
  | .hbm, ⟨39, _⟩ => ⟨S546, .i32⟩
  | .hbm, ⟨40, _⟩ => ⟨S546, .i1⟩
  | .hbm, ⟨41, _⟩ => ⟨S_, .i32⟩
  | .hbm, ⟨42, _⟩ => ⟨S546, .i32⟩
  | .hbm, ⟨43, _⟩ => ⟨S546, .i32⟩
  | .hbm, ⟨44, _⟩ => ⟨S546, .i32⟩
  | .hbm, ⟨45, _⟩ => ⟨S546x1, .i32⟩
  | .hbm, ⟨46, _⟩ => ⟨S546x2048, .f32⟩
  | .hbm, ⟨47, _⟩ => ⟨S546x1x2048, .f32⟩
  | .hbm, ⟨48, _⟩ => ⟨S546x512x2048, .f32⟩
  | .hbm, ⟨49, _⟩ => ⟨S546x512x2048, .f32⟩
  | .hbm, ⟨50, _⟩ => ⟨S546x512x1024, .f32⟩
  | .hbm, ⟨51, _⟩ => ⟨S_, .f32⟩
  | .hbm, ⟨52, _⟩ => ⟨S546x512x1024, .f32⟩
  | .hbm, ⟨53, _⟩ => ⟨S546x512x1024, .f32⟩
  | .hbm, ⟨54, _⟩ => ⟨S546x512x1024, .f32⟩
  | .hbm, ⟨55, _⟩ => ⟨S_, .f32⟩
  | .hbm, ⟨56, _⟩ => ⟨S_, .f32⟩
  | .hbm, ⟨57, _⟩ => ⟨S_, .f32⟩
  | .hbm, ⟨58, _⟩ => ⟨S546x512x1024, .f32⟩
  | .hbm, ⟨59, _⟩ => ⟨S546x512x1024, .f32⟩
  | .hbm, ⟨60, _⟩ => ⟨S_, .f32⟩
  | .hbm, ⟨61, _⟩ => ⟨S546x512x1024, .f32⟩
  | .hbm, ⟨62, _⟩ => ⟨S546x512x1024, .f32⟩
  | .hbm, ⟨63, _⟩ => ⟨S_, .f32⟩
  | .hbm, ⟨64, _⟩ => ⟨S546x512x1024, .f32⟩
  | .hbm, ⟨65, _⟩ => ⟨S546x512x1024, .f32⟩
  | .hbm, ⟨66, _⟩ => ⟨S546x512x1024, .f32⟩
  | .hbm, ⟨67, _⟩ => ⟨S546x512x1024, .f32⟩
  | .hbm, ⟨68, _⟩ => ⟨S_, .f32⟩
  | .hbm, ⟨69, _⟩ => ⟨S546x512x1024, .f32⟩
  | .hbm, ⟨70, _⟩ => ⟨S546x512x1024, .f32⟩
  | .hbm, ⟨71, _⟩ => ⟨S_, .f32⟩
  | .hbm, ⟨72, _⟩ => ⟨S546x512x1024, .f32⟩
  | .hbm, ⟨73, _⟩ => ⟨S546x512x1024, .f32⟩
  | .hbm, ⟨74, _⟩ => ⟨S546x512x1024, .f32⟩
  | .hbm, ⟨75, _⟩ => ⟨S_, .f32⟩
  | .hbm, ⟨76, _⟩ => ⟨S546x512x1024, .f32⟩
  | .hbm, ⟨77, _⟩ => ⟨S546x512x1024, .f32⟩
  | .hbm, ⟨78, _⟩ => ⟨S546x512x1024, .f32⟩
  | .hbm, ⟨79, _⟩ => ⟨S_, .i32⟩
  | .hbm, ⟨80, _⟩ => ⟨S546, .i32⟩
  | .hbm, ⟨81, _⟩ => ⟨S546, .i1⟩
  | .hbm, ⟨82, _⟩ => ⟨S_, .i32⟩
  | .hbm, ⟨83, _⟩ => ⟨S546, .i32⟩
  | .hbm, ⟨84, _⟩ => ⟨S546, .i32⟩
  | .hbm, ⟨85, _⟩ => ⟨S546, .i32⟩
  | .hbm, ⟨86, _⟩ => ⟨S546x1, .i32⟩
  | .hbm, ⟨87, _⟩ => ⟨S546x1024x1024, .f32⟩
  | .hbm, ⟨88, _⟩ => ⟨S546x512x1024, .f32⟩
  | .hbm, ⟨89, _⟩ => ⟨S_, .i32⟩
  | .hbm, ⟨90, _⟩ => ⟨S546, .i32⟩
  | .hbm, ⟨91, _⟩ => ⟨S546, .i1⟩
  | .hbm, ⟨92, _⟩ => ⟨S_, .i32⟩
  | .hbm, ⟨93, _⟩ => ⟨S546, .i32⟩
  | .hbm, ⟨94, _⟩ => ⟨S546, .i32⟩
  | .hbm, ⟨95, _⟩ => ⟨S546, .i32⟩
  | .hbm, ⟨96, _⟩ => ⟨S546x1, .i32⟩
  | .hbm, ⟨97, _⟩ => ⟨S546x1024, .f32⟩
  | .hbm, ⟨98, _⟩ => ⟨S546x1x1024, .f32⟩
  | .hbm, ⟨99, _⟩ => ⟨S546x512x1024, .f32⟩
  | .hbm, ⟨100, _⟩ => ⟨S546x512x1024, .f32⟩
  | .hbm, ⟨101, _⟩ => ⟨S546, .i32⟩
  | .hbm, ⟨102, _⟩ => ⟨S546x1x1, .i32⟩
  | .hbm, ⟨103, _⟩ => ⟨S_, .i32⟩
  | .hbm, ⟨104, _⟩ => ⟨S546x1x1, .i32⟩
  | .hbm, ⟨105, _⟩ => ⟨S546x1x1, .i1⟩
  | .hbm, ⟨106, _⟩ => ⟨S_, .f32⟩
  | .hbm, ⟨107, _⟩ => ⟨S_, .f32⟩
  | .hbm, ⟨108, _⟩ => ⟨S546x512x1024, .i1⟩
  | .hbm, ⟨109, _⟩ => ⟨S546x512x1024, .f32⟩
  | .hbm, ⟨110, _⟩ => ⟨S546x512x1024, .f32⟩
  | .hbm, ⟨111, _⟩ => ⟨S279552x1024, .f32⟩
  | .hbm, ⟨112, _⟩ => ⟨S279552x1024, .bf16⟩
  | _, _ => ⟨S546, .i32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_cst : Ref sig .tc := ⟨.hbm, 23, rfl⟩
abbrev main_call0_v0 : Ref sig .tc := ⟨.hbm, 24, rfl⟩
abbrev main_call0_v1 : Ref sig .tc := ⟨.hbm, 25, rfl⟩
abbrev main_call0_v2 : Ref sig .tc := ⟨.hbm, 26, rfl⟩
abbrev main_v15 : Ref sig .tc := ⟨.hbm, 27, rfl⟩
abbrev main_c : Ref sig .tc := ⟨.hbm, 28, rfl⟩
abbrev main_v16 : Ref sig .tc := ⟨.hbm, 29, rfl⟩
abbrev main_v17 : Ref sig .tc := ⟨.hbm, 30, rfl⟩
abbrev main_c_0 : Ref sig .tc := ⟨.hbm, 31, rfl⟩
abbrev main_v18 : Ref sig .tc := ⟨.hbm, 32, rfl⟩
abbrev main_v19 : Ref sig .tc := ⟨.hbm, 33, rfl⟩
abbrev main_v20 : Ref sig .tc := ⟨.hbm, 34, rfl⟩
abbrev main_v21 : Ref sig .tc := ⟨.hbm, 35, rfl⟩
abbrev main_v22 : Ref sig .tc := ⟨.hbm, 36, rfl⟩
abbrev main_v23 : Ref sig .tc := ⟨.hbm, 37, rfl⟩
abbrev main_c_1 : Ref sig .tc := ⟨.hbm, 38, rfl⟩
abbrev main_v24 : Ref sig .tc := ⟨.hbm, 39, rfl⟩
abbrev main_v25 : Ref sig .tc := ⟨.hbm, 40, rfl⟩
abbrev main_c_2 : Ref sig .tc := ⟨.hbm, 41, rfl⟩
abbrev main_v26 : Ref sig .tc := ⟨.hbm, 42, rfl⟩
abbrev main_v27 : Ref sig .tc := ⟨.hbm, 43, rfl⟩
abbrev main_v28 : Ref sig .tc := ⟨.hbm, 44, rfl⟩
abbrev main_v29 : Ref sig .tc := ⟨.hbm, 45, rfl⟩
abbrev main_v30 : Ref sig .tc := ⟨.hbm, 46, rfl⟩
abbrev main_v31 : Ref sig .tc := ⟨.hbm, 47, rfl⟩
abbrev main_v32 : Ref sig .tc := ⟨.hbm, 48, rfl⟩
abbrev main_v33 : Ref sig .tc := ⟨.hbm, 49, rfl⟩
abbrev main_v34 : Ref sig .tc := ⟨.hbm, 50, rfl⟩
abbrev main_cst_3 : Ref sig .tc := ⟨.hbm, 51, rfl⟩
abbrev main_v35 : Ref sig .tc := ⟨.hbm, 52, rfl⟩
abbrev main_v36 : Ref sig .tc := ⟨.hbm, 53, rfl⟩
abbrev main_v37 : Ref sig .tc := ⟨.hbm, 54, rfl⟩
abbrev main_cst_4 : Ref sig .tc := ⟨.hbm, 55, rfl⟩
abbrev main_cst_5 : Ref sig .tc := ⟨.hbm, 56, rfl⟩
abbrev main_call1_v0 : Ref sig .tc := ⟨.hbm, 57, rfl⟩
abbrev main_call1_v1 : Ref sig .tc := ⟨.hbm, 58, rfl⟩
abbrev main_call1_v2 : Ref sig .tc := ⟨.hbm, 59, rfl⟩
abbrev main_call1_v3 : Ref sig .tc := ⟨.hbm, 60, rfl⟩
abbrev main_call1_v4 : Ref sig .tc := ⟨.hbm, 61, rfl⟩
abbrev main_v38 : Ref sig .tc := ⟨.hbm, 62, rfl⟩
abbrev main_cst_6 : Ref sig .tc := ⟨.hbm, 63, rfl⟩
abbrev main_v39 : Ref sig .tc := ⟨.hbm, 64, rfl⟩
abbrev main_v40 : Ref sig .tc := ⟨.hbm, 65, rfl⟩
abbrev main_v41 : Ref sig .tc := ⟨.hbm, 66, rfl⟩
abbrev main_v42 : Ref sig .tc := ⟨.hbm, 67, rfl⟩
abbrev main_cst_7 : Ref sig .tc := ⟨.hbm, 68, rfl⟩
abbrev main_v43 : Ref sig .tc := ⟨.hbm, 69, rfl⟩
abbrev main_v44 : Ref sig .tc := ⟨.hbm, 70, rfl⟩
abbrev main_cst_8 : Ref sig .tc := ⟨.hbm, 71, rfl⟩
abbrev main_v45 : Ref sig .tc := ⟨.hbm, 72, rfl⟩
abbrev main_v46 : Ref sig .tc := ⟨.hbm, 73, rfl⟩
abbrev main_v47 : Ref sig .tc := ⟨.hbm, 74, rfl⟩
abbrev main_cst_9 : Ref sig .tc := ⟨.hbm, 75, rfl⟩
abbrev main_v48 : Ref sig .tc := ⟨.hbm, 76, rfl⟩
abbrev main_v49 : Ref sig .tc := ⟨.hbm, 77, rfl⟩
abbrev main_v50 : Ref sig .tc := ⟨.hbm, 78, rfl⟩
abbrev main_c_10 : Ref sig .tc := ⟨.hbm, 79, rfl⟩
abbrev main_v51 : Ref sig .tc := ⟨.hbm, 80, rfl⟩
abbrev main_v52 : Ref sig .tc := ⟨.hbm, 81, rfl⟩
abbrev main_c_11 : Ref sig .tc := ⟨.hbm, 82, rfl⟩
abbrev main_v53 : Ref sig .tc := ⟨.hbm, 83, rfl⟩
abbrev main_v54 : Ref sig .tc := ⟨.hbm, 84, rfl⟩
abbrev main_v55 : Ref sig .tc := ⟨.hbm, 85, rfl⟩
abbrev main_v56 : Ref sig .tc := ⟨.hbm, 86, rfl⟩
abbrev main_v57 : Ref sig .tc := ⟨.hbm, 87, rfl⟩
abbrev main_v58 : Ref sig .tc := ⟨.hbm, 88, rfl⟩
abbrev main_c_12 : Ref sig .tc := ⟨.hbm, 89, rfl⟩
abbrev main_v59 : Ref sig .tc := ⟨.hbm, 90, rfl⟩
abbrev main_v60 : Ref sig .tc := ⟨.hbm, 91, rfl⟩
abbrev main_c_13 : Ref sig .tc := ⟨.hbm, 92, rfl⟩
abbrev main_v61 : Ref sig .tc := ⟨.hbm, 93, rfl⟩
abbrev main_v62 : Ref sig .tc := ⟨.hbm, 94, rfl⟩
abbrev main_v63 : Ref sig .tc := ⟨.hbm, 95, rfl⟩
abbrev main_v64 : Ref sig .tc := ⟨.hbm, 96, rfl⟩
abbrev main_v65 : Ref sig .tc := ⟨.hbm, 97, rfl⟩
abbrev main_v66 : Ref sig .tc := ⟨.hbm, 98, rfl⟩
abbrev main_v67 : Ref sig .tc := ⟨.hbm, 99, rfl⟩
abbrev main_v68 : Ref sig .tc := ⟨.hbm, 100, rfl⟩
abbrev main_v69 : Ref sig .tc := ⟨.hbm, 101, rfl⟩
abbrev main_v70 : Ref sig .tc := ⟨.hbm, 102, rfl⟩
abbrev main_v71 : Ref sig .tc := ⟨.hbm, 103, rfl⟩
abbrev main_v72 : Ref sig .tc := ⟨.hbm, 104, rfl⟩
abbrev main_v73 : Ref sig .tc := ⟨.hbm, 105, rfl⟩
abbrev main_cst_14 : Ref sig .tc := ⟨.hbm, 106, rfl⟩
abbrev main_call2_v0 : Ref sig .tc := ⟨.hbm, 107, rfl⟩
abbrev main_call2_v1 : Ref sig .tc := ⟨.hbm, 108, rfl⟩
abbrev main_call2_v2 : Ref sig .tc := ⟨.hbm, 109, rfl⟩
abbrev main_v74 : Ref sig .tc := ⟨.hbm, 110, rfl⟩
abbrev main_v75 : Ref sig .tc := ⟨.hbm, 111, rfl⟩
abbrev main_v76 : Ref sig .tc := ⟨.hbm, 112, rfl⟩

abbrev nD : Nat := 1
abbrev τ : Topo := Topo.v7x

variable {F : FTy → Type} [FloatOps F]
-- ==== Kernel3.lean ====
abbrev S8x8192x512 : Shape := ⟨3, ![8, 8192, 512]⟩
abbrev S8x8192x1024 : Shape := ⟨3, ![8, 8192, 1024]⟩
abbrev S8x1x1024 : Shape := ⟨3, ![8, 1, 1024]⟩
abbrev S1024 : Shape := ⟨1, ![1024]⟩
abbrev S1024x1024 : Shape := ⟨2, ![1024, 1024]⟩
abbrev S1024x32 : Shape := ⟨2, ![1024, 32]⟩
abbrev S32 : Shape := ⟨1, ![32]⟩
abbrev S512x512 : Shape := ⟨2, ![512, 512]⟩
abbrev S_ : Shape := ⟨0, ![]⟩
abbrev S256x256 : Shape := ⟨2, ![256, 256]⟩
abbrev S65536x512 : Shape := ⟨2, ![65536, 512]⟩
abbrev S65536x1024 : Shape := ⟨2, ![65536, 1024]⟩
abbrev S1x1024 : Shape := ⟨2, ![1, 1024]⟩
abbrev S512x1024 : Shape := ⟨2, ![512, 1024]⟩
abbrev S32x1024 : Shape := ⟨2, ![32, 1024]⟩
abbrev S32x1 : Shape := ⟨2, ![32, 1]⟩
abbrev S4x65536 : Shape := ⟨2, ![4, 65536]⟩
abbrev S65536x16 : Shape := ⟨2, ![65536, 16]⟩
abbrev S256x1x32 : Shape := ⟨3, ![256, 1, 32]⟩
abbrev S1x1x1024 : Shape := ⟨3, ![1, 1, 1024]⟩
abbrev S4x512 : Shape := ⟨2, ![4, 512]⟩
abbrev S512x16 : Shape := ⟨2, ![512, 16]⟩
abbrev S2x1x32 : Shape := ⟨3, ![2, 1, 32]⟩
abbrev S256x512 : Shape := ⟨2, ![256, 512]⟩
abbrev S256x1024 : Shape := ⟨2, ![256, 1024]⟩
abbrev S256 : Shape := ⟨1, ![256]⟩
abbrev S256x1 : Shape := ⟨2, ![256, 1]⟩
abbrev S32x256 : Shape := ⟨2, ![32, 256]⟩
abbrev S32x512 : Shape := ⟨2, ![32, 512]⟩
abbrev S512 : Shape := ⟨1, ![512]⟩
abbrev S1x512 : Shape := ⟨2, ![1, 512]⟩
abbrev S16x512 : Shape := ⟨2, ![16, 512]⟩
abbrev S16x256 : Shape := ⟨2, ![16, 256]⟩
abbrev S256x16 : Shape := ⟨2, ![256, 16]⟩
abbrev S8x256 : Shape := ⟨2, ![8, 256]⟩
abbrev S8x32 : Shape := ⟨2, ![8, 32]⟩
abbrev S1x32 : Shape := ⟨2, ![1, 32]⟩
abbrev S1x1x32 : Shape := ⟨3, ![1, 1, 32]⟩

abbrev nBuf : Space → Nat
  | .hbm => 84
  | .vmem => 31
  | .smem => 0
  | _ => 0

abbrev bufTy : (tb : Table) → Fin (tcTables nBuf tb) → BufTy
  | .hbm, ⟨0, _⟩ => ⟨S8x8192x512, .f32⟩
  | .hbm, ⟨1, _⟩ => ⟨S8x8192x512, .f32⟩
  | .hbm, ⟨2, _⟩ => ⟨S8x8192x1024, .f32⟩
  | .hbm, ⟨3, _⟩ => ⟨S8x1x1024, .f32⟩
  | .hbm, ⟨4, _⟩ => ⟨S8x1x1024, .f32⟩
  | .hbm, ⟨5, _⟩ => ⟨S8x1x1024, .f32⟩
  | .hbm, ⟨6, _⟩ => ⟨S1024, .f32⟩
  | .hbm, ⟨7, _⟩ => ⟨S1024x1024, .f32⟩
  | .hbm, ⟨8, _⟩ => ⟨S1024x32, .f32⟩
  | .hbm, ⟨9, _⟩ => ⟨S32, .f32⟩
  | .hbm, ⟨10, _⟩ => ⟨S512x512, .i32⟩
  | .hbm, ⟨11, _⟩ => ⟨S512x512, .i32⟩
  | .hbm, ⟨12, _⟩ => ⟨S_, .i32⟩
  | .hbm, ⟨13, _⟩ => ⟨S_, .i32⟩
  | .hbm, ⟨14, _⟩ => ⟨S512x512, .i32⟩
  | .hbm, ⟨15, _⟩ => ⟨S512x512, .i32⟩
  | .hbm, ⟨16, _⟩ => ⟨S512x512, .i32⟩
  | .hbm, ⟨17, _⟩ => ⟨S_, .i32⟩
  | .hbm, ⟨18, _⟩ => ⟨S512x512, .i32⟩
  | .hbm, ⟨19, _⟩ => ⟨S512x512, .i1⟩
  | .hbm, ⟨20, _⟩ => ⟨S512x512, .i32⟩
  | .hbm, ⟨21, _⟩ => ⟨S512x512, .i32⟩
  | .hbm, ⟨22, _⟩ => ⟨S_, .i32⟩
  | .hbm, ⟨23, _⟩ => ⟨S512x512, .i32⟩
  | .hbm, ⟨24, _⟩ => ⟨S512x512, .i1⟩
  | .hbm, ⟨25, _⟩ => ⟨S512x512, .i1⟩
  | .hbm, ⟨26, _⟩ => ⟨S_, .i32⟩
  | .hbm, ⟨27, _⟩ => ⟨S512x512, .i32⟩
  | .hbm, ⟨28, _⟩ => ⟨S512x512, .i32⟩
  | .hbm, ⟨29, _⟩ => ⟨S512x512, .i32⟩
  | .hbm, ⟨30, _⟩ => ⟨S_, .i32⟩
  | .hbm, ⟨31, _⟩ => ⟨S_, .i32⟩
  | .hbm, ⟨32, _⟩ => ⟨S512x512, .i32⟩
  | .hbm, ⟨33, _⟩ => ⟨S512x512, .i32⟩
  | .hbm, ⟨34, _⟩ => ⟨S512x512, .i32⟩
  | .hbm, ⟨35, _⟩ => ⟨S_, .i32⟩
  | .hbm, ⟨36, _⟩ => ⟨S512x512, .i32⟩
  | .hbm, ⟨37, _⟩ => ⟨S512x512, .i1⟩
  | .hbm, ⟨38, _⟩ => ⟨S512x512, .i32⟩
  | .hbm, ⟨39, _⟩ => ⟨S512x512, .i32⟩
  | .hbm, ⟨40, _⟩ => ⟨S_, .i32⟩
  | .hbm, ⟨41, _⟩ => ⟨S512x512, .i32⟩
  | .hbm, ⟨42, _⟩ => ⟨S512x512, .i1⟩
  | .hbm, ⟨43, _⟩ => ⟨S512x512, .i1⟩
  | .hbm, ⟨44, _⟩ => ⟨S_, .i32⟩
  | .hbm, ⟨45, _⟩ => ⟨S512x512, .i32⟩
  | .hbm, ⟨46, _⟩ => ⟨S512x512, .i32⟩
  | .hbm, ⟨47, _⟩ => ⟨S512x512, .i32⟩
  | .hbm, ⟨48, _⟩ => ⟨S512x512, .i1⟩
  | .hbm, ⟨49, _⟩ => ⟨S512x512, .i1⟩
  | .hbm, ⟨50, _⟩ => ⟨S512x512, .i1⟩
  | .hbm, ⟨51, _⟩ => ⟨S_, .f32⟩
  | .hbm, ⟨52, _⟩ => ⟨S_, .f32⟩
  | .hbm, ⟨53, _⟩ => ⟨S512x512, .f32⟩
  | .hbm, ⟨54, _⟩ => ⟨S512x512, .f32⟩
  | .hbm, ⟨55, _⟩ => ⟨S512x512, .f32⟩
  | .hbm, ⟨56, _⟩ => ⟨S512x512, .bf16⟩
  | .hbm, ⟨57, _⟩ => ⟨S256x256, .i32⟩
  | .hbm, ⟨58, _⟩ => ⟨S256x256, .i32⟩
  | .hbm, ⟨59, _⟩ => ⟨S256x256, .i1⟩
  | .hbm, ⟨60, _⟩ => ⟨S_, .f32⟩
  | .hbm, ⟨61, _⟩ => ⟨S_, .f32⟩
  | .hbm, ⟨62, _⟩ => ⟨S256x256, .f32⟩
  | .hbm, ⟨63, _⟩ => ⟨S256x256, .f32⟩
  | .hbm, ⟨64, _⟩ => ⟨S256x256, .f32⟩
  | .hbm, ⟨65, _⟩ => ⟨S256x256, .bf16⟩
  | .hbm, ⟨66, _⟩ => ⟨S1024x1024, .bf16⟩
  | .hbm, ⟨67, _⟩ => ⟨S65536x512, .f32⟩
  | .hbm, ⟨68, _⟩ => ⟨S65536x512, .bf16⟩
  | .hbm, ⟨69, _⟩ => ⟨S65536x512, .f32⟩
  | .hbm, ⟨70, _⟩ => ⟨S65536x512, .bf16⟩
  | .hbm, ⟨71, _⟩ => ⟨S65536x1024, .f32⟩
  | .hbm, ⟨72, _⟩ => ⟨S1x1024, .f32⟩
  | .hbm, ⟨73, _⟩ => ⟨S512x1024, .bf16⟩
  | .hbm, ⟨74, _⟩ => ⟨S512x1024, .bf16⟩
  | .hbm, ⟨75, _⟩ => ⟨S32x1024, .f32⟩
  | .hbm, ⟨76, _⟩ => ⟨S32x1024, .bf16⟩
  | .hbm, ⟨77, _⟩ => ⟨S32x1, .f32⟩
  | .hbm, ⟨78, _⟩ => ⟨S65536x1024, .f32⟩
  | .hbm, ⟨79, _⟩ => ⟨S65536x1024, .bf16⟩
  | .hbm, ⟨80, _⟩ => ⟨S4x65536, .i32⟩
  | .hbm, ⟨81, _⟩ => ⟨S4x65536, .i32⟩
  | .hbm, ⟨82, _⟩ => ⟨S65536x16, .f32⟩
  | .hbm, ⟨83, _⟩ => ⟨S256x1x32, .f32⟩
  | .local _ .vmem, ⟨0, _⟩ => ⟨S512x512, .bf16⟩
  | .local _ .vmem, ⟨1, _⟩ => ⟨S512x512, .bf16⟩
  | .local _ .vmem, ⟨2, _⟩ => ⟨S512x512, .bf16⟩
  | .local _ .vmem, ⟨3, _⟩ => ⟨S512x512, .bf16⟩
  | .local _ .vmem, ⟨4, _⟩ => ⟨S512x1024, .f32⟩
  | .local _ .vmem, ⟨5, _⟩ => ⟨S512x1024, .f32⟩
  | .local _ .vmem, ⟨6, _⟩ => ⟨S1x1x1024, .f32⟩
  | .local _ .vmem, ⟨7, _⟩ => ⟨S1x1x1024, .f32⟩
  | .local _ .vmem, ⟨8, _⟩ => ⟨S1x1x1024, .f32⟩
  | .local _ .vmem, ⟨9, _⟩ => ⟨S1x1x1024, .f32⟩
  | .local _ .vmem, ⟨10, _⟩ => ⟨S1x1x1024, .f32⟩
  | .local _ .vmem, ⟨11, _⟩ => ⟨S1x1x1024, .f32⟩
  | .local _ .vmem, ⟨12, _⟩ => ⟨S1x1024, .f32⟩
  | .local _ .vmem, ⟨13, _⟩ => ⟨S512x1024, .bf16⟩
  | .local _ .vmem, ⟨14, _⟩ => ⟨S512x1024, .bf16⟩
  | .local _ .vmem, ⟨15, _⟩ => ⟨S32x1024, .bf16⟩
  | .local _ .vmem, ⟨16, _⟩ => ⟨S32x1, .f32⟩
  | .local _ .vmem, ⟨17, _⟩ => ⟨S512x512, .bf16⟩
  | .local _ .vmem, ⟨18, _⟩ => ⟨S256x256, .bf16⟩
  | .local _ .vmem, ⟨19, _⟩ => ⟨S512x1024, .f32⟩
  | .local _ .vmem, ⟨20, _⟩ => ⟨S512x1024, .f32⟩
  | .local _ .vmem, ⟨21, _⟩ => ⟨S512x1024, .bf16⟩
  | .local _ .vmem, ⟨22, _⟩ => ⟨S512x1024, .bf16⟩
  | .local _ .vmem, ⟨23, _⟩ => ⟨S4x512, .i32⟩
  | .local _ .vmem, ⟨24, _⟩ => ⟨S4x512, .i32⟩
  | .local _ .vmem, ⟨25, _⟩ => ⟨S4x512, .i32⟩
  | .local _ .vmem, ⟨26, _⟩ => ⟨S4x512, .i32⟩
  | .local _ .vmem, ⟨27, _⟩ => ⟨S512x16, .f32⟩
  | .local _ .vmem, ⟨28, _⟩ => ⟨S512x16, .f32⟩
  | .local _ .vmem, ⟨29, _⟩ => ⟨S2x1x32, .f32⟩
  | .local _ .vmem, ⟨30, _⟩ => ⟨S2x1x32, .f32⟩
  | _, _ => ⟨S8x8192x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | _, _ => false

abbrev semScoped : Fin 0 → Bool
  | ⟨_, h⟩ => absurd h (Nat.not_lt_zero _)

abbrev dmaSemScoped : Fin 31 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | _ => false

abbrev sig : RefSig :=
  ofTc nBuf bufTy 0 31 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_v1 : Ref sig .tc := ⟨.hbm, 11, rfl⟩
abbrev main_c : Ref sig .tc := ⟨.hbm, 12, rfl⟩
abbrev main_call0_v0 : Ref sig .tc := ⟨.hbm, 13, rfl⟩
abbrev main_call0_v1 : Ref sig .tc := ⟨.hbm, 14, rfl⟩
abbrev main_call0_v2 : Ref sig .tc := ⟨.hbm, 15, rfl⟩
abbrev main_call0_v3 : Ref sig .tc := ⟨.hbm, 16, rfl⟩
abbrev main_call0_v4 : Ref sig .tc := ⟨.hbm, 17, rfl⟩
abbrev main_call0_v5 : Ref sig .tc := ⟨.hbm, 18, rfl⟩
abbrev main_call0_v6 : Ref sig .tc := ⟨.hbm, 19, rfl⟩
abbrev main_call0_v7 : Ref sig .tc := ⟨.hbm, 20, rfl⟩
abbrev main_call0_v8 : Ref sig .tc := ⟨.hbm, 21, rfl⟩
abbrev main_call0_c : Ref sig .tc := ⟨.hbm, 22, rfl⟩
abbrev main_call0_v9 : Ref sig .tc := ⟨.hbm, 23, rfl⟩
abbrev main_call0_v10 : Ref sig .tc := ⟨.hbm, 24, rfl⟩
abbrev main_call0_v11 : Ref sig .tc := ⟨.hbm, 25, rfl⟩
abbrev main_call0_c_0 : Ref sig .tc := ⟨.hbm, 26, rfl⟩
abbrev main_call0_v12 : Ref sig .tc := ⟨.hbm, 27, rfl⟩
abbrev main_call0_v13 : Ref sig .tc := ⟨.hbm, 28, rfl⟩
abbrev main_v2 : Ref sig .tc := ⟨.hbm, 29, rfl⟩
abbrev main_c_0 : Ref sig .tc := ⟨.hbm, 30, rfl⟩
abbrev main_call1_v0 : Ref sig .tc := ⟨.hbm, 31, rfl⟩
abbrev main_call1_v1 : Ref sig .tc := ⟨.hbm, 32, rfl⟩
abbrev main_call1_v2 : Ref sig .tc := ⟨.hbm, 33, rfl⟩
abbrev main_call1_v3 : Ref sig .tc := ⟨.hbm, 34, rfl⟩
abbrev main_call1_v4 : Ref sig .tc := ⟨.hbm, 35, rfl⟩
abbrev main_call1_v5 : Ref sig .tc := ⟨.hbm, 36, rfl⟩
abbrev main_call1_v6 : Ref sig .tc := ⟨.hbm, 37, rfl⟩
abbrev main_call1_v7 : Ref sig .tc := ⟨.hbm, 38, rfl⟩
abbrev main_call1_v8 : Ref sig .tc := ⟨.hbm, 39, rfl⟩
abbrev main_call1_c : Ref sig .tc := ⟨.hbm, 40, rfl⟩
abbrev main_call1_v9 : Ref sig .tc := ⟨.hbm, 41, rfl⟩
abbrev main_call1_v10 : Ref sig .tc := ⟨.hbm, 42, rfl⟩
abbrev main_call1_v11 : Ref sig .tc := ⟨.hbm, 43, rfl⟩
abbrev main_call1_c_0 : Ref sig .tc := ⟨.hbm, 44, rfl⟩
abbrev main_call1_v12 : Ref sig .tc := ⟨.hbm, 45, rfl⟩
abbrev main_call1_v13 : Ref sig .tc := ⟨.hbm, 46, rfl⟩
abbrev main_v3 : Ref sig .tc := ⟨.hbm, 47, rfl⟩
abbrev main_v4 : Ref sig .tc := ⟨.hbm, 48, rfl⟩
abbrev main_v5 : Ref sig .tc := ⟨.hbm, 49, rfl⟩
abbrev main_v6 : Ref sig .tc := ⟨.hbm, 50, rfl⟩
abbrev main_cst : Ref sig .tc := ⟨.hbm, 51, rfl⟩
abbrev main_cst_1 : Ref sig .tc := ⟨.hbm, 52, rfl⟩
abbrev main_call2_v0 : Ref sig .tc := ⟨.hbm, 53, rfl⟩
abbrev main_call2_v1 : Ref sig .tc := ⟨.hbm, 54, rfl⟩
abbrev main_v7 : Ref sig .tc := ⟨.hbm, 55, rfl⟩
abbrev main_v8 : Ref sig .tc := ⟨.hbm, 56, rfl⟩
abbrev main_v9 : Ref sig .tc := ⟨.hbm, 57, rfl⟩
abbrev main_v10 : Ref sig .tc := ⟨.hbm, 58, rfl⟩
abbrev main_v11 : Ref sig .tc := ⟨.hbm, 59, rfl⟩
abbrev main_cst_2 : Ref sig .tc := ⟨.hbm, 60, rfl⟩
abbrev main_cst_3 : Ref sig .tc := ⟨.hbm, 61, rfl⟩
abbrev main_call3_v0 : Ref sig .tc := ⟨.hbm, 62, rfl⟩
abbrev main_call3_v1 : Ref sig .tc := ⟨.hbm, 63, rfl⟩
abbrev main_v12 : Ref sig .tc := ⟨.hbm, 64, rfl⟩
abbrev main_v13 : Ref sig .tc := ⟨.hbm, 65, rfl⟩
abbrev main_v14 : Ref sig .tc := ⟨.hbm, 66, rfl⟩
abbrev main_v15 : Ref sig .tc := ⟨.hbm, 67, rfl⟩
abbrev main_v16 : Ref sig .tc := ⟨.hbm, 68, rfl⟩
abbrev main_v17 : Ref sig .tc := ⟨.hbm, 69, rfl⟩
abbrev main_v18 : Ref sig .tc := ⟨.hbm, 70, rfl⟩
abbrev main_v19 : Ref sig .tc := ⟨.hbm, 71, rfl⟩
abbrev main_v20 : Ref sig .tc := ⟨.hbm, 72, rfl⟩
abbrev main_v21 : Ref sig .tc := ⟨.hbm, 73, rfl⟩
abbrev main_v22 : Ref sig .tc := ⟨.hbm, 74, rfl⟩
abbrev main_v23 : Ref sig .tc := ⟨.hbm, 75, rfl⟩
abbrev main_v24 : Ref sig .tc := ⟨.hbm, 76, rfl⟩
abbrev main_v25 : Ref sig .tc := ⟨.hbm, 77, rfl⟩
abbrev main_v26_0 : Ref sig .tc := ⟨.hbm, 78, rfl⟩
abbrev main_v26_1 : Ref sig .tc := ⟨.hbm, 79, rfl⟩
abbrev main_v26_2 : Ref sig .tc := ⟨.hbm, 80, rfl⟩
abbrev main_v26_3 : Ref sig .tc := ⟨.hbm, 81, rfl⟩
abbrev main_v26_4 : Ref sig .tc := ⟨.hbm, 82, rfl⟩
abbrev main_v26_5 : Ref sig .tc := ⟨.hbm, 83, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg7_0 : Ref sig .tc := ⟨.vmem, 13, rfl⟩
abbrev cc0_stg8_0 : Ref sig .tc := ⟨.vmem, 14, rfl⟩
abbrev cc0_stg9_0 : Ref sig .tc := ⟨.vmem, 15, rfl⟩
abbrev cc0_stg10_0 : Ref sig .tc := ⟨.vmem, 16, rfl⟩
abbrev cc0_stg11_0 : Ref sig .tc := ⟨.vmem, 17, rfl⟩
abbrev cc0_stg12_0 : Ref sig .tc := ⟨.vmem, 18, rfl⟩
abbrev cc0_stg13_0 : Ref sig .tc := ⟨.vmem, 19, rfl⟩
abbrev cc0_stg13_1 : Ref sig .tc := ⟨.vmem, 20, rfl⟩
abbrev cc0_stg14_0 : Ref sig .tc := ⟨.vmem, 21, rfl⟩
abbrev cc0_stg14_1 : Ref sig .tc := ⟨.vmem, 22, rfl⟩
abbrev cc0_stg15_0 : Ref sig .tc := ⟨.vmem, 23, rfl⟩
abbrev cc0_stg15_1 : Ref sig .tc := ⟨.vmem, 24, rfl⟩
abbrev cc0_stg16_0 : Ref sig .tc := ⟨.vmem, 25, rfl⟩
abbrev cc0_stg16_1 : Ref sig .tc := ⟨.vmem, 26, rfl⟩
abbrev cc0_stg17_0 : Ref sig .tc := ⟨.vmem, 27, rfl⟩
abbrev cc0_stg17_1 : Ref sig .tc := ⟨.vmem, 28, rfl⟩
abbrev cc0_stg18_0 : Ref sig .tc := ⟨.vmem, 29, rfl⟩
abbrev cc0_stg18_1 : Ref sig .tc := ⟨.vmem, 30, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem7_0 : DmaSem sig := 13
abbrev cc0_sem8_0 : DmaSem sig := 14
abbrev cc0_sem9_0 : DmaSem sig := 15
abbrev cc0_sem10_0 : DmaSem sig := 16
abbrev cc0_sem11_0 : DmaSem sig := 17
abbrev cc0_sem12_0 : DmaSem sig := 18
abbrev cc0_sem13_0 : DmaSem sig := 19
abbrev cc0_sem13_1 : DmaSem sig := 20
abbrev cc0_sem14_0 : DmaSem sig := 21
abbrev cc0_sem14_1 : DmaSem sig := 22
abbrev cc0_sem15_0 : DmaSem sig := 23
abbrev cc0_sem15_1 : DmaSem sig := 24
abbrev cc0_sem16_0 : DmaSem sig := 25
abbrev cc0_sem16_1 : DmaSem sig := 26
abbrev cc0_sem17_0 : DmaSem sig := 27
abbrev cc0_sem17_1 : DmaSem sig := 28
abbrev cc0_sem18_0 : DmaSem sig := 29
abbrev cc0_sem18_1 : DmaSem sig := 30

abbrev nD : Nat := 1
abbrev τ : Topo := Topo.v7x

variable {F : FTy → Type} [FloatOps F]

abbrev grid0 : Pipeline.Grid := ⟨1, ![128], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 3 → Nat :=
  let arg0 : BitVec 32 := BitVec.ofNat 32 (i 0).val
  let c16_i32 : BitVec 32 := 16#32
  let v0 : BitVec 32 := Scalar.divsi arg0 c16_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c16_i32 c0_i32_1
  let v7 : BitVec 32 := Scalar.extui v6
  let c0_i32_2 : BitVec 32 := 0#32
  let v8 : BitVec 1 := Scalar.cmpi .slt c16_i32 c0_i32_2
  let v9 : BitVec 32 := Scalar.extui v8
  let v10 : BitVec 32 := Scalar.subi v7 v9
  let v11 : BitVec 1 := Scalar.cmpi .ne v5 v10
  let v12 : BitVec 32 := Scalar.remsi arg0 c16_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c0_i32_4 : BitVec 32 := 0#32
  let c0_i32_5 : BitVec 32 := 0#32
  let c0_i32_6 : BitVec 32 := 0#32
  ![v16.toNat, c0_i32_4.toNat, c0_i32_5.toNat]

def cc0_transform_4 (i : grid0.Coords) : Fin 3 → Nat :=
  let arg0 : BitVec 32 := BitVec.ofNat 32 (i 0).val
  let c16_i32 : BitVec 32 := 16#32
  let v0 : BitVec 32 := Scalar.divsi arg0 c16_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c16_i32 c0_i32_1
  let v7 : BitVec 32 := Scalar.extui v6
  let c0_i32_2 : BitVec 32 := 0#32
  let v8 : BitVec 1 := Scalar.cmpi .slt c16_i32 c0_i32_2
  let v9 : BitVec 32 := Scalar.extui v8
  let v10 : BitVec 32 := Scalar.subi v7 v9
  let v11 : BitVec 1 := Scalar.cmpi .ne v5 v10
  let v12 : BitVec 32 := Scalar.remsi arg0 c16_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c0_i32_4 : BitVec 32 := 0#32
  let c0_i32_5 : BitVec 32 := 0#32
  let c0_i32_6 : BitVec 32 := 0#32
  ![v16.toNat, c0_i32_4.toNat, c0_i32_5.toNat]

def cc0_transform_5 (i : grid0.Coords) : Fin 3 → Nat :=
  let arg0 : BitVec 32 := BitVec.ofNat 32 (i 0).val
  let c16_i32 : BitVec 32 := 16#32
  let v0 : BitVec 32 := Scalar.divsi arg0 c16_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c16_i32 c0_i32_1
  let v7 : BitVec 32 := Scalar.extui v6
  let c0_i32_2 : BitVec 32 := 0#32
  let v8 : BitVec 1 := Scalar.cmpi .slt c16_i32 c0_i32_2
  let v9 : BitVec 32 := Scalar.extui v8
  let v10 : BitVec 32 := Scalar.subi v7 v9
  let v11 : BitVec 1 := Scalar.cmpi .ne v5 v10
  let v12 : BitVec 32 := Scalar.remsi arg0 c16_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c0_i32_4 : BitVec 32 := 0#32
  let c0_i32_5 : BitVec 32 := 0#32
  let c0_i32_6 : BitVec 32 := 0#32
  ![v16.toNat, c0_i32_4.toNat, c0_i32_5.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_12 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_13 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_14 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_15 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_16 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_17 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_18 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S512x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S512x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S1x1x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S1x1x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S1x1x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 1 → Memref sig .tc .vmem S1x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S512x1024 .bf16 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S512x1024 .bf16 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S32x1024 .bf16 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 1 → Memref sig .tc .vmem S32x1 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]

abbrev stage0_11 : Fin 1 → Memref sig .tc .vmem S512x512 .bf16 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false]

abbrev stage0_12 : Fin 1 → Memref sig .tc .vmem S256x256 .bf16 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))
abbrev reads0_12 : Fin grid0.rank → Bool := ![false]

abbrev stage0_13 : Fin 2 → Memref sig .tc .vmem S512x1024 .f32 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![true]

abbrev stage0_14 : Fin 2 → Memref sig .tc .vmem S512x1024 .bf16 := fun | 0 => Memref.whole cc0_stg14_0 | 1 => Memref.whole cc0_stg14_1 | ⟨_ + 2, h⟩ => absurd h (Nat.not_lt.2 (Nat.le_add_left _ _))
abbrev sem0_14 : Fin 2 → DmaSem sig := fun | 0 => cc0_sem14_0 | 1 => cc0_sem14_1 | ⟨_ + 2, h⟩ => absurd h (Nat.not_lt.2 (Nat.le_add_left _ _))
abbrev reads0_14 : Fin grid0.rank → Bool := ![true]

abbrev stage0_15 : Fin 2 → Memref sig .tc .vmem S4x512 .i32 := fun | 0 => Memref.whole cc0_stg15_0 | 1 => Memref.whole cc0_stg15_1 | ⟨_ + 2, h⟩ => absurd h (Nat.not_lt.2 (Nat.le_add_left _ _))
abbrev sem0_15 : Fin 2 → DmaSem sig := fun | 0 => cc0_sem15_0 | 1 => cc0_sem15_1 | ⟨_ + 2, h⟩ => absurd h (Nat.not_lt.2 (Nat.le_add_left _ _))
abbrev reads0_15 : Fin grid0.rank → Bool := ![true]

abbrev stage0_16 : Fin 2 → Memref sig .tc .vmem S4x512 .i32 := fun | 0 => Memref.whole cc0_stg16_0 | 1 => Memref.whole cc0_stg16_1 | ⟨_ + 2, h⟩ => absurd h (Nat.not_lt.2 (Nat.le_add_left _ _))
abbrev sem0_16 : Fin 2 → DmaSem sig := fun | 0 => cc0_sem16_0 | 1 => cc0_sem16_1 | ⟨_ + 2, h⟩ => absurd h (Nat.not_lt.2 (Nat.le_add_left _ _))
abbrev reads0_16 : Fin grid0.rank → Bool := ![true]

abbrev stage0_17 : Fin 2 → Memref sig .tc .vmem S512x16 .f32 := fun | 0 => Memref.whole cc0_stg17_0 | 1 => Memref.whole cc0_stg17_1 | ⟨_ + 2, h⟩ => absurd h (Nat.not_lt.2 (Nat.le_add_left _ _))
abbrev sem0_17 : Fin 2 → DmaSem sig := fun | 0 => cc0_sem17_0 | 1 => cc0_sem17_1 | ⟨_ + 2, h⟩ => absurd h (Nat.not_lt.2 (Nat.le_add_left _ _))
abbrev reads0_17 : Fin grid0.rank → Bool := ![true]

abbrev stage0_18 : Fin 2 → Memref sig .tc .vmem S2x1x32 .f32 := fun | 0 => Memref.whole cc0_stg18_0 | 1 => Memref.whole cc0_stg18_1 | ⟨_ + 2, h⟩ => absurd h (Nat.not_lt.2 (Nat.le_add_left _ _))
abbrev sem0_18 : Fin 2 → DmaSem sig := fun | 0 => cc0_sem18_0 | 1 => cc0_sem18_1 | ⟨_ + 2, h⟩ => absurd h (Nat.not_lt.2 (Nat.le_add_left _ _))
abbrev reads0_18 : Fin grid0.rank → Bool := ![true]
-- ==== Reference3Ideal.lean ====
abbrev S8x8192x512 : Shape := ⟨3, ![8, 8192, 512]⟩
abbrev S8x8192x1024 : Shape := ⟨3, ![8, 8192, 1024]⟩
abbrev S8x1x1024 : Shape := ⟨3, ![8, 1, 1024]⟩
abbrev S1024 : Shape := ⟨1, ![1024]⟩
abbrev S1024x1024 : Shape := ⟨2, ![1024, 1024]⟩
abbrev S1024x32 : Shape := ⟨2, ![1024, 32]⟩
abbrev S32 : Shape := ⟨1, ![32]⟩
abbrev S_ : Shape := ⟨0, ![]⟩
abbrev S8x8192 : Shape := ⟨2, ![8, 8192]⟩
abbrev S8x8192x1 : Shape := ⟨3, ![8, 8192, 1]⟩
abbrev S1x1x1024 : Shape := ⟨3, ![1, 1, 1024]⟩
abbrev S65536x1024 : Shape := ⟨2, ![65536, 1024]⟩

abbrev nBuf : Space → Nat
  | .hbm => 41
  | .vmem => 0
  | .smem => 0
  | _ => 0

abbrev bufTy : (tb : Table) → Fin (tcTables nBuf tb) → BufTy
  | .hbm, ⟨0, _⟩ => ⟨S8x8192x512, .f32⟩
  | .hbm, ⟨1, _⟩ => ⟨S8x8192x512, .f32⟩
  | .hbm, ⟨2, _⟩ => ⟨S8x8192x1024, .f32⟩
  | .hbm, ⟨3, _⟩ => ⟨S8x1x1024, .f32⟩
  | .hbm, ⟨4, _⟩ => ⟨S8x1x1024, .f32⟩
  | .hbm, ⟨5, _⟩ => ⟨S8x1x1024, .f32⟩
  | .hbm, ⟨6, _⟩ => ⟨S1024, .f32⟩
  | .hbm, ⟨7, _⟩ => ⟨S1024x1024, .f32⟩
  | .hbm, ⟨8, _⟩ => ⟨S1024x32, .f32⟩
  | .hbm, ⟨9, _⟩ => ⟨S32, .f32⟩
  | .hbm, ⟨10, _⟩ => ⟨S8x8192x1024, .f32⟩
  | .hbm, ⟨11, _⟩ => ⟨S8x8192x1024, .f32⟩
  | .hbm, ⟨12, _⟩ => ⟨S8x8192x1024, .f32⟩
  | .hbm, ⟨13, _⟩ => ⟨S8x8192x1024, .f32⟩
  | .hbm, ⟨14, _⟩ => ⟨S8x8192x1024, .f32⟩
  | .hbm, ⟨15, _⟩ => ⟨S8x8192x1024, .f32⟩
  | .hbm, ⟨16, _⟩ => ⟨S_, .f32⟩
  | .hbm, ⟨17, _⟩ => ⟨S8x8192, .f32⟩
  | .hbm, ⟨18, _⟩ => ⟨S8x8192x1, .f32⟩
  | .hbm, ⟨19, _⟩ => ⟨S_, .f32⟩
  | .hbm, ⟨20, _⟩ => ⟨S8x8192x1, .f32⟩
  | .hbm, ⟨21, _⟩ => ⟨S8x8192x1, .f32⟩
  | .hbm, ⟨22, _⟩ => ⟨S_, .f32⟩
  | .hbm, ⟨23, _⟩ => ⟨S8x8192x1, .f32⟩
  | .hbm, ⟨24, _⟩ => ⟨S8x8192x1, .f32⟩
  | .hbm, ⟨25, _⟩ => ⟨S8x8192x1, .f32⟩
  | .hbm, ⟨26, _⟩ => ⟨S8x8192x1024, .f32⟩
  | .hbm, ⟨27, _⟩ => ⟨S8x8192x1024, .f32⟩
  | .hbm, ⟨28, _⟩ => ⟨S1x1x1024, .f32⟩
  | .hbm, ⟨29, _⟩ => ⟨S8x8192x1024, .f32⟩
  | .hbm, ⟨30, _⟩ => ⟨S8x8192x1024, .f32⟩
  | .hbm, ⟨31, _⟩ => ⟨S_, .f32⟩
  | .hbm, ⟨32, _⟩ => ⟨S8x1x1024, .f32⟩
  | .hbm, ⟨33, _⟩ => ⟨S8x1x1024, .f32⟩
  | .hbm, ⟨34, _⟩ => ⟨S8x8192x1024, .f32⟩
  | .hbm, ⟨35, _⟩ => ⟨S8x8192x1024, .f32⟩
  | .hbm, ⟨36, _⟩ => ⟨S8x8192x1024, .f32⟩
  | .hbm, ⟨37, _⟩ => ⟨S8x8192x1024, .f32⟩
  | .hbm, ⟨38, _⟩ => ⟨S65536x1024, .f32⟩
  | .hbm, ⟨39, _⟩ => ⟨S65536x1024, .f32⟩
  | .hbm, ⟨40, _⟩ => ⟨S65536x1024, .bf16⟩
  | _, _ => ⟨S8x8192x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_v1 : Ref sig .tc := ⟨.hbm, 11, rfl⟩
abbrev main_v2 : Ref sig .tc := ⟨.hbm, 12, rfl⟩
abbrev main_v3 : Ref sig .tc := ⟨.hbm, 13, rfl⟩
abbrev main_v4 : Ref sig .tc := ⟨.hbm, 14, rfl⟩
abbrev main_v5 : Ref sig .tc := ⟨.hbm, 15, rfl⟩
abbrev main_cst : Ref sig .tc := ⟨.hbm, 16, rfl⟩
abbrev main_v6 : Ref sig .tc := ⟨.hbm, 17, rfl⟩
abbrev main_v7 : Ref sig .tc := ⟨.hbm, 18, rfl⟩
abbrev main_cst_0 : Ref sig .tc := ⟨.hbm, 19, rfl⟩
abbrev main_v8 : Ref sig .tc := ⟨.hbm, 20, rfl⟩
abbrev main_v9 : Ref sig .tc := ⟨.hbm, 21, rfl⟩
abbrev main_cst_1 : Ref sig .tc := ⟨.hbm, 22, rfl⟩
abbrev main_v10 : Ref sig .tc := ⟨.hbm, 23, rfl⟩
abbrev main_v11 : Ref sig .tc := ⟨.hbm, 24, rfl⟩
abbrev main_v12 : Ref sig .tc := ⟨.hbm, 25, rfl⟩
abbrev main_v13 : Ref sig .tc := ⟨.hbm, 26, rfl⟩
abbrev main_v14 : Ref sig .tc := ⟨.hbm, 27, rfl⟩
abbrev main_v15 : Ref sig .tc := ⟨.hbm, 28, rfl⟩
abbrev main_v16 : Ref sig .tc := ⟨.hbm, 29, rfl⟩
abbrev main_v17 : Ref sig .tc := ⟨.hbm, 30, rfl⟩
abbrev main_cst_2 : Ref sig .tc := ⟨.hbm, 31, rfl⟩
abbrev main_v18 : Ref sig .tc := ⟨.hbm, 32, rfl⟩
abbrev main_v19 : Ref sig .tc := ⟨.hbm, 33, rfl⟩
abbrev main_v20 : Ref sig .tc := ⟨.hbm, 34, rfl⟩
abbrev main_v21 : Ref sig .tc := ⟨.hbm, 35, rfl⟩
abbrev main_v22 : Ref sig .tc := ⟨.hbm, 36, rfl⟩
abbrev main_v23 : Ref sig .tc := ⟨.hbm, 37, rfl⟩
abbrev main_v24 : Ref sig .tc := ⟨.hbm, 38, rfl⟩
abbrev main_v25 : Ref sig .tc := ⟨.hbm, 39, rfl⟩
abbrev main_v26 : Ref sig .tc := ⟨.hbm, 40, rfl⟩

abbrev nD : Nat := 1
abbrev τ : Topo := Topo.v7x

variable {F : FTy → Type} [FloatOps F]
-- ==== Kernel4.lean ====
abbrev S8x8192x1024 : Shape := ⟨3, ![8, 8192, 1024]⟩
abbrev S8x8192x8 : Shape := ⟨3, ![8, 8192, 8]⟩
abbrev S8x1x1024 : Shape := ⟨3, ![8, 1, 1024]⟩
abbrev S1024 : Shape := ⟨1, ![1024]⟩
abbrev S1024x1280 : Shape := ⟨2, ![1024, 1280]⟩
abbrev S64 : Shape := ⟨1, ![64]⟩
abbrev S4x128x128 : Shape := ⟨3, ![4, 128, 128]⟩
abbrev S4x128 : Shape := ⟨2, ![4, 128]⟩
abbrev S512 : Shape := ⟨1, ![512]⟩
abbrev S4x8x3x2x64 : Shape := ⟨5, ![4, 8, 3, 2, 64]⟩
abbrev S_ : Shape := ⟨0, ![]⟩
abbrev S32x384 : Shape := ⟨2, ![32, 384]⟩
abbrev S1x2x64 : Shape := ⟨3, ![1, 2, 64]⟩
abbrev S1x128 : Shape := ⟨2, ![1, 128]⟩
abbrev S4x64x4x64 : Shape := ⟨4, ![4, 64, 4, 64]⟩
abbrev S256x256 : Shape := ⟨2, ![256, 256]⟩
abbrev S2x64x2x64 : Shape := ⟨4, ![2, 64, 2, 64]⟩
abbrev S128x128 : Shape := ⟨2, ![128, 128]⟩
abbrev S65536x1024 : Shape := ⟨2, ![65536, 1024]⟩
abbrev S1x1024 : Shape := ⟨2, ![1, 1024]⟩
abbrev S1x64 : Shape := ⟨2, ![1, 64]⟩
abbrev S8x64 : Shape := ⟨2, ![8, 64]⟩
abbrev S1x512 : Shape := ⟨2, ![1, 512]⟩
abbrev S2x64 : Shape := ⟨2, ![2, 64]⟩
abbrev S128 : Shape := ⟨1, ![128]⟩
abbrev S65536x8 : Shape := ⟨2, ![65536, 8]⟩
abbrev S65536x32 : Shape := ⟨2, ![65536, 32]⟩
abbrev S2x128x128 : Shape := ⟨3, ![2, 128, 128]⟩
abbrev S2x128x256 : Shape := ⟨3, ![2, 128, 256]⟩
abbrev S2x256x256 : Shape := ⟨3, ![2, 256, 256]⟩
abbrev S65536x512 : Shape := ⟨2, ![65536, 512]⟩
abbrev S65536x128 : Shape := ⟨2, ![65536, 128]⟩
abbrev S1024x1024 : Shape := ⟨2, ![1024, 1024]⟩
abbrev S1x1x1024 : Shape := ⟨3, ![1, 1, 1024]⟩
abbrev S1024x32 : Shape := ⟨2, ![1024, 32]⟩
abbrev S1024x512 : Shape := ⟨2, ![1024, 512]⟩
abbrev S1024x128 : Shape := ⟨2, ![1024, 128]⟩
abbrev S16x512 : Shape := ⟨2, ![16, 512]⟩
abbrev S1024x1 : Shape := ⟨2, ![1024, 1]⟩
abbrev S1024x384 : Shape := ⟨2, ![1024, 384]⟩
abbrev S1024x256 : Shape := ⟨2, ![1024, 256]⟩
abbrev S1040x512 : Shape := ⟨2, ![1040, 512]⟩
abbrev S1040x128 : Shape := ⟨2, ![1040, 128]⟩
abbrev S1x256x256 : Shape := ⟨3, ![1, 256, 256]⟩

abbrev nBuf : Space → Nat
  | .hbm => 113
  | .vmem => 28
  | .smem => 0
  | _ => 0

abbrev bufTy : (tb : Table) → Fin (tcTables nBuf tb) → BufTy
  | .hbm, ⟨0, _⟩ => ⟨S8x8192x1024, .f32⟩
  | .hbm, ⟨1, _⟩ => ⟨S8x8192x8, .f32⟩
  | .hbm, ⟨2, _⟩ => ⟨S8x1x1024, .f32⟩
  | .hbm, ⟨3, _⟩ => ⟨S8x1x1024, .f32⟩
  | .hbm, ⟨4, _⟩ => ⟨S1024, .f32⟩
  | .hbm, ⟨5, _⟩ => ⟨S1024x1280, .f32⟩
  | .hbm, ⟨6, _⟩ => ⟨S64, .f32⟩
  | .hbm, ⟨7, _⟩ => ⟨S64, .f32⟩
  | .hbm, ⟨8, _⟩ => ⟨S4x128x128, .f32⟩
  | .hbm, ⟨9, _⟩ => ⟨S4x128, .f32⟩
  | .hbm, ⟨10, _⟩ => ⟨S512, .f32⟩
  | .hbm, ⟨11, _⟩ => ⟨S4x8x3x2x64, .i32⟩
  | .hbm, ⟨12, _⟩ => ⟨S4x8x3x2x64, .i32⟩
  | .hbm, ⟨13, _⟩ => ⟨S4x8x3x2x64, .i32⟩
  | .hbm, ⟨14, _⟩ => ⟨S4x8x3x2x64, .i32⟩
  | .hbm, ⟨15, _⟩ => ⟨S4x8x3x2x64, .i1⟩
  | .hbm, ⟨16, _⟩ => ⟨S_, .i32⟩
  | .hbm, ⟨17, _⟩ => ⟨S4x8x3x2x64, .i32⟩
  | .hbm, ⟨18, _⟩ => ⟨S4x8x3x2x64, .i32⟩
  | .hbm, ⟨19, _⟩ => ⟨S4x8x3x2x64, .i1⟩
  | .hbm, ⟨20, _⟩ => ⟨S_, .i32⟩
  | .hbm, ⟨21, _⟩ => ⟨S4x8x3x2x64, .i32⟩
  | .hbm, ⟨22, _⟩ => ⟨S4x8x3x2x64, .i1⟩
  | .hbm, ⟨23, _⟩ => ⟨S_, .i32⟩
  | .hbm, ⟨24, _⟩ => ⟨S4x8x3x2x64, .i32⟩
  | .hbm, ⟨25, _⟩ => ⟨S4x8x3x2x64, .i1⟩
  | .hbm, ⟨26, _⟩ => ⟨S4x8x3x2x64, .i1⟩
  | .hbm, ⟨27, _⟩ => ⟨S4x8x3x2x64, .i1⟩
  | .hbm, ⟨28, _⟩ => ⟨S4x8x3x2x64, .i1⟩
  | .hbm, ⟨29, _⟩ => ⟨S_, .i32⟩
  | .hbm, ⟨30, _⟩ => ⟨S4x8x3x2x64, .i32⟩
  | .hbm, ⟨31, _⟩ => ⟨S4x8x3x2x64, .i1⟩
  | .hbm, ⟨32, _⟩ => ⟨S_, .i32⟩
  | .hbm, ⟨33, _⟩ => ⟨S4x8x3x2x64, .i32⟩
  | .hbm, ⟨34, _⟩ => ⟨S4x8x3x2x64, .i1⟩
  | .hbm, ⟨35, _⟩ => ⟨S4x8x3x2x64, .i1⟩
  | .hbm, ⟨36, _⟩ => ⟨S4x8x3x2x64, .i1⟩
  | .hbm, ⟨37, _⟩ => ⟨S4x8x3x2x64, .i1⟩
  | .hbm, ⟨38, _⟩ => ⟨S_, .i32⟩
  | .hbm, ⟨39, _⟩ => ⟨S4x8x3x2x64, .i32⟩
  | .hbm, ⟨40, _⟩ => ⟨S4x8x3x2x64, .i1⟩
  | .hbm, ⟨41, _⟩ => ⟨S_, .i32⟩
  | .hbm, ⟨42, _⟩ => ⟨S4x8x3x2x64, .i32⟩
  | .hbm, ⟨43, _⟩ => ⟨S4x8x3x2x64, .i1⟩
  | .hbm, ⟨44, _⟩ => ⟨S4x8x3x2x64, .i1⟩
  | .hbm, ⟨45, _⟩ => ⟨S4x8x3x2x64, .i1⟩
  | .hbm, ⟨46, _⟩ => ⟨S4x8x3x2x64, .f32⟩
  | .hbm, ⟨47, _⟩ => ⟨S4x8x3x2x64, .f32⟩
  | .hbm, ⟨48, _⟩ => ⟨S4x8x3x2x64, .f32⟩
  | .hbm, ⟨49, _⟩ => ⟨S32x384, .f32⟩
  | .hbm, ⟨50, _⟩ => ⟨S1x2x64, .i32⟩
  | .hbm, ⟨51, _⟩ => ⟨S_, .i32⟩
  | .hbm, ⟨52, _⟩ => ⟨S1x2x64, .i32⟩
  | .hbm, ⟨53, _⟩ => ⟨S1x2x64, .i1⟩
  | .hbm, ⟨54, _⟩ => ⟨S1x2x64, .f32⟩
  | .hbm, ⟨55, _⟩ => ⟨S1x128, .f32⟩
  | .hbm, ⟨56, _⟩ => ⟨S32x384, .bf16⟩
  | .hbm, ⟨57, _⟩ => ⟨S4x64x4x64, .i32⟩
  | .hbm, ⟨58, _⟩ => ⟨S4x64x4x64, .i32⟩
  | .hbm, ⟨59, _⟩ => ⟨S4x64x4x64, .i1⟩
  | .hbm, ⟨60, _⟩ => ⟨S4x64x4x64, .f32⟩
  | .hbm, ⟨61, _⟩ => ⟨S_, .f32⟩
  | .hbm, ⟨62, _⟩ => ⟨S4x64x4x64, .f32⟩
  | .hbm, ⟨63, _⟩ => ⟨S4x64x4x64, .f32⟩
  | .hbm, ⟨64, _⟩ => ⟨S256x256, .f32⟩
  | .hbm, ⟨65, _⟩ => ⟨S256x256, .bf16⟩
  | .hbm, ⟨66, _⟩ => ⟨S2x64x2x64, .i32⟩
  | .hbm, ⟨67, _⟩ => ⟨S2x64x2x64, .i32⟩
  | .hbm, ⟨68, _⟩ => ⟨S2x64x2x64, .i1⟩
  | .hbm, ⟨69, _⟩ => ⟨S2x64x2x64, .f32⟩
  | .hbm, ⟨70, _⟩ => ⟨S_, .f32⟩
  | .hbm, ⟨71, _⟩ => ⟨S2x64x2x64, .f32⟩
  | .hbm, ⟨72, _⟩ => ⟨S2x64x2x64, .f32⟩
  | .hbm, ⟨73, _⟩ => ⟨S128x128, .f32⟩
  | .hbm, ⟨74, _⟩ => ⟨S128x128, .bf16⟩
  | .hbm, ⟨75, _⟩ => ⟨S65536x1024, .f32⟩
  | .hbm, ⟨76, _⟩ => ⟨S1x1024, .f32⟩
  | .hbm, ⟨77, _⟩ => ⟨S1024x1280, .bf16⟩
  | .hbm, ⟨78, _⟩ => ⟨S1x64, .f32⟩
  | .hbm, ⟨79, _⟩ => ⟨S8x64, .f32⟩
  | .hbm, ⟨80, _⟩ => ⟨S512, .f32⟩
  | .hbm, ⟨81, _⟩ => ⟨S1x512, .f32⟩
  | .hbm, ⟨82, _⟩ => ⟨S1x64, .f32⟩
  | .hbm, ⟨83, _⟩ => ⟨S2x64, .f32⟩
  | .hbm, ⟨84, _⟩ => ⟨S128, .f32⟩
  | .hbm, ⟨85, _⟩ => ⟨S1x128, .f32⟩
  | .hbm, ⟨86, _⟩ => ⟨S8x8192x8, .f32⟩
  | .hbm, ⟨87, _⟩ => ⟨S65536x8, .f32⟩
  | .hbm, ⟨88, _⟩ => ⟨S65536x8, .bf16⟩
  | .hbm, ⟨89, _⟩ => ⟨S65536x8, .f32⟩
  | .hbm, ⟨90, _⟩ => ⟨S65536x8, .f32⟩
  | .hbm, ⟨91, _⟩ => ⟨S65536x8, .bf16⟩
  | .hbm, ⟨92, _⟩ => ⟨S8x8192x8, .f32⟩
  | .hbm, ⟨93, _⟩ => ⟨S65536x8, .f32⟩
  | .hbm, ⟨94, _⟩ => ⟨S65536x8, .bf16⟩
  | .hbm, ⟨95, _⟩ => ⟨S65536x8, .f32⟩
  | .hbm, ⟨96, _⟩ => ⟨S65536x8, .f32⟩
  | .hbm, ⟨97, _⟩ => ⟨S65536x8, .bf16⟩
  | .hbm, ⟨98, _⟩ => ⟨S65536x32, .bf16⟩
  | .hbm, ⟨99, _⟩ => ⟨S_, .f32⟩
  | .hbm, ⟨100, _⟩ => ⟨S2x128x128, .f32⟩
  | .hbm, ⟨101, _⟩ => ⟨S2x128x128, .f32⟩
  | .hbm, ⟨102, _⟩ => ⟨S2x128x256, .f32⟩
  | .hbm, ⟨103, _⟩ => ⟨S2x128x128, .f32⟩
  | .hbm, ⟨104, _⟩ => ⟨S2x128x256, .f32⟩
  | .hbm, ⟨105, _⟩ => ⟨S2x256x256, .f32⟩
  | .hbm, ⟨106, _⟩ => ⟨S2x256x256, .bf16⟩
  | .hbm, ⟨107, _⟩ => ⟨S1x512, .f32⟩
  | .hbm, ⟨108, _⟩ => ⟨S1x512, .f32⟩
  | .hbm, ⟨109, _⟩ => ⟨S65536x512, .bf16⟩
  | .hbm, ⟨110, _⟩ => ⟨S65536x128, .bf16⟩
  | .hbm, ⟨111, _⟩ => ⟨S65536x128, .bf16⟩
  | .hbm, ⟨112, _⟩ => ⟨S65536x512, .bf16⟩
  | .local _ .vmem, ⟨0, _⟩ => ⟨S1024x1024, .f32⟩
  | .local _ .vmem, ⟨1, _⟩ => ⟨S1024x1024, .f32⟩
  | .local _ .vmem, ⟨2, _⟩ => ⟨S1x1x1024, .f32⟩
  | .local _ .vmem, ⟨3, _⟩ => ⟨S1x1x1024, .f32⟩
  | .local _ .vmem, ⟨4, _⟩ => ⟨S1x1x1024, .f32⟩
  | .local _ .vmem, ⟨5, _⟩ => ⟨S1x1x1024, .f32⟩
  | .local _ .vmem, ⟨6, _⟩ => ⟨S1x1024, .f32⟩
  | .local _ .vmem, ⟨7, _⟩ => ⟨S1024x1280, .bf16⟩
  | .local _ .vmem, ⟨8, _⟩ => ⟨S1x512, .f32⟩
  | .local _ .vmem, ⟨9, _⟩ => ⟨S1x128, .f32⟩
  | .local _ .vmem, ⟨10, _⟩ => ⟨S1024x32, .bf16⟩
  | .local _ .vmem, ⟨11, _⟩ => ⟨S1024x32, .bf16⟩
  | .local _ .vmem, ⟨12, _⟩ => ⟨S32x384, .bf16⟩
  | .local _ .vmem, ⟨13, _⟩ => ⟨S1x128, .f32⟩
  | .local _ .vmem, ⟨14, _⟩ => ⟨S256x256, .bf16⟩
  | .local _ .vmem, ⟨15, _⟩ => ⟨S128x128, .bf16⟩
  | .local _ .vmem, ⟨16, _⟩ => ⟨S2x256x256, .bf16⟩
  | .local _ .vmem, ⟨17, _⟩ => ⟨S1x512, .f32⟩
  | .local _ .vmem, ⟨18, _⟩ => ⟨S1x512, .f32⟩
  | .local _ .vmem, ⟨19, _⟩ => ⟨S1024x512, .bf16⟩
  | .local _ .vmem, ⟨20, _⟩ => ⟨S1024x512, .bf16⟩
  | .local _ .vmem, ⟨21, _⟩ => ⟨S1024x128, .bf16⟩
  | .local _ .vmem, ⟨22, _⟩ => ⟨S1024x128, .bf16⟩
  | .local _ .vmem, ⟨23, _⟩ => ⟨S1024x128, .bf16⟩
  | .local _ .vmem, ⟨24, _⟩ => ⟨S1024x128, .bf16⟩
  | .local _ .vmem, ⟨25, _⟩ => ⟨S1024x512, .bf16⟩
  | .local _ .vmem, ⟨26, _⟩ => ⟨S1024x512, .bf16⟩
  | .local _ .vmem, ⟨27, _⟩ => ⟨S16x512, .f32⟩
  | _, _ => ⟨S8x8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | _, _ => false

abbrev semScoped : Fin 0 → Bool
  | ⟨_, h⟩ => absurd h (Nat.not_lt_zero _)

abbrev dmaSemScoped : Fin 27 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | _ => false

abbrev sig : RefSig :=
  ofTc nBuf bufTy 0 27 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_v0 : Ref sig .tc := ⟨.hbm, 11, rfl⟩
abbrev main_v1 : Ref sig .tc := ⟨.hbm, 12, rfl⟩
abbrev main_v2 : Ref sig .tc := ⟨.hbm, 13, rfl⟩
abbrev main_v3 : Ref sig .tc := ⟨.hbm, 14, rfl⟩
abbrev main_v4 : Ref sig .tc := ⟨.hbm, 15, rfl⟩
abbrev main_c : Ref sig .tc := ⟨.hbm, 16, rfl⟩
abbrev main_v5 : Ref sig .tc := ⟨.hbm, 17, rfl⟩
abbrev main_v6 : Ref sig .tc := ⟨.hbm, 18, rfl⟩
abbrev main_v7 : Ref sig .tc := ⟨.hbm, 19, rfl⟩
abbrev main_c_0 : Ref sig .tc := ⟨.hbm, 20, rfl⟩
abbrev main_v8 : Ref sig .tc := ⟨.hbm, 21, rfl⟩
abbrev main_v9 : Ref sig .tc := ⟨.hbm, 22, rfl⟩
abbrev main_c_1 : Ref sig .tc := ⟨.hbm, 23, rfl⟩
abbrev main_v10 : Ref sig .tc := ⟨.hbm, 24, rfl⟩
abbrev main_v11 : Ref sig .tc := ⟨.hbm, 25, rfl⟩
abbrev main_v12 : Ref sig .tc := ⟨.hbm, 26, rfl⟩
abbrev main_v13 : Ref sig .tc := ⟨.hbm, 27, rfl⟩
abbrev main_v14 : Ref sig .tc := ⟨.hbm, 28, rfl⟩
abbrev main_c_2 : Ref sig .tc := ⟨.hbm, 29, rfl⟩
abbrev main_v15 : Ref sig .tc := ⟨.hbm, 30, rfl⟩
abbrev main_v16 : Ref sig .tc := ⟨.hbm, 31, rfl⟩
abbrev main_c_3 : Ref sig .tc := ⟨.hbm, 32, rfl⟩
abbrev main_v17 : Ref sig .tc := ⟨.hbm, 33, rfl⟩
abbrev main_v18 : Ref sig .tc := ⟨.hbm, 34, rfl⟩
abbrev main_v19 : Ref sig .tc := ⟨.hbm, 35, rfl⟩
abbrev main_v20 : Ref sig .tc := ⟨.hbm, 36, rfl⟩
abbrev main_v21 : Ref sig .tc := ⟨.hbm, 37, rfl⟩
abbrev main_c_4 : Ref sig .tc := ⟨.hbm, 38, rfl⟩
abbrev main_v22 : Ref sig .tc := ⟨.hbm, 39, rfl⟩
abbrev main_v23 : Ref sig .tc := ⟨.hbm, 40, rfl⟩
abbrev main_c_5 : Ref sig .tc := ⟨.hbm, 41, rfl⟩
abbrev main_v24 : Ref sig .tc := ⟨.hbm, 42, rfl⟩
abbrev main_v25 : Ref sig .tc := ⟨.hbm, 43, rfl⟩
abbrev main_v26 : Ref sig .tc := ⟨.hbm, 44, rfl⟩
abbrev main_v27 : Ref sig .tc := ⟨.hbm, 45, rfl⟩
abbrev main_v28 : Ref sig .tc := ⟨.hbm, 46, rfl⟩
abbrev main_v29 : Ref sig .tc := ⟨.hbm, 47, rfl⟩
abbrev main_v30 : Ref sig .tc := ⟨.hbm, 48, rfl⟩
abbrev main_v31 : Ref sig .tc := ⟨.hbm, 49, rfl⟩
abbrev main_v32 : Ref sig .tc := ⟨.hbm, 50, rfl⟩
abbrev main_c_6 : Ref sig .tc := ⟨.hbm, 51, rfl⟩
abbrev main_v33 : Ref sig .tc := ⟨.hbm, 52, rfl⟩
abbrev main_v34 : Ref sig .tc := ⟨.hbm, 53, rfl⟩
abbrev main_v35 : Ref sig .tc := ⟨.hbm, 54, rfl⟩
abbrev main_v36 : Ref sig .tc := ⟨.hbm, 55, rfl⟩
abbrev main_v37 : Ref sig .tc := ⟨.hbm, 56, rfl⟩
abbrev main_v38 : Ref sig .tc := ⟨.hbm, 57, rfl⟩
abbrev main_v39 : Ref sig .tc := ⟨.hbm, 58, rfl⟩
abbrev main_v40 : Ref sig .tc := ⟨.hbm, 59, rfl⟩
abbrev main_v41 : Ref sig .tc := ⟨.hbm, 60, rfl⟩
abbrev main_cst : Ref sig .tc := ⟨.hbm, 61, rfl⟩
abbrev main_v42 : Ref sig .tc := ⟨.hbm, 62, rfl⟩
abbrev main_v43 : Ref sig .tc := ⟨.hbm, 63, rfl⟩
abbrev main_v44 : Ref sig .tc := ⟨.hbm, 64, rfl⟩
abbrev main_v45 : Ref sig .tc := ⟨.hbm, 65, rfl⟩
abbrev main_v46 : Ref sig .tc := ⟨.hbm, 66, rfl⟩
abbrev main_v47 : Ref sig .tc := ⟨.hbm, 67, rfl⟩
abbrev main_v48 : Ref sig .tc := ⟨.hbm, 68, rfl⟩
abbrev main_v49 : Ref sig .tc := ⟨.hbm, 69, rfl⟩
abbrev main_cst_7 : Ref sig .tc := ⟨.hbm, 70, rfl⟩
abbrev main_v50 : Ref sig .tc := ⟨.hbm, 71, rfl⟩
abbrev main_v51 : Ref sig .tc := ⟨.hbm, 72, rfl⟩
abbrev main_v52 : Ref sig .tc := ⟨.hbm, 73, rfl⟩
abbrev main_v53 : Ref sig .tc := ⟨.hbm, 74, rfl⟩
abbrev main_v54 : Ref sig .tc := ⟨.hbm, 75, rfl⟩
abbrev main_v55 : Ref sig .tc := ⟨.hbm, 76, rfl⟩
abbrev main_v56 : Ref sig .tc := ⟨.hbm, 77, rfl⟩
abbrev main_v57 : Ref sig .tc := ⟨.hbm, 78, rfl⟩
abbrev main_v58 : Ref sig .tc := ⟨.hbm, 79, rfl⟩
abbrev main_v59 : Ref sig .tc := ⟨.hbm, 80, rfl⟩
abbrev main_v60 : Ref sig .tc := ⟨.hbm, 81, rfl⟩
abbrev main_v61 : Ref sig .tc := ⟨.hbm, 82, rfl⟩
abbrev main_v62 : Ref sig .tc := ⟨.hbm, 83, rfl⟩
abbrev main_v63 : Ref sig .tc := ⟨.hbm, 84, rfl⟩
abbrev main_v64 : Ref sig .tc := ⟨.hbm, 85, rfl⟩
abbrev main_v65 : Ref sig .tc := ⟨.hbm, 86, rfl⟩
abbrev main_v66 : Ref sig .tc := ⟨.hbm, 87, rfl⟩
abbrev main_v67 : Ref sig .tc := ⟨.hbm, 88, rfl⟩
abbrev main_v68 : Ref sig .tc := ⟨.hbm, 89, rfl⟩
abbrev main_v69 : Ref sig .tc := ⟨.hbm, 90, rfl⟩
abbrev main_v70 : Ref sig .tc := ⟨.hbm, 91, rfl⟩
abbrev main_v71 : Ref sig .tc := ⟨.hbm, 92, rfl⟩
abbrev main_v72 : Ref sig .tc := ⟨.hbm, 93, rfl⟩
abbrev main_v73 : Ref sig .tc := ⟨.hbm, 94, rfl⟩
abbrev main_v74 : Ref sig .tc := ⟨.hbm, 95, rfl⟩
abbrev main_v75 : Ref sig .tc := ⟨.hbm, 96, rfl⟩
abbrev main_v76 : Ref sig .tc := ⟨.hbm, 97, rfl⟩
abbrev main_v77 : Ref sig .tc := ⟨.hbm, 98, rfl⟩
abbrev main_cst_8 : Ref sig .tc := ⟨.hbm, 99, rfl⟩
abbrev main_v78 : Ref sig .tc := ⟨.hbm, 100, rfl⟩
abbrev main_v79 : Ref sig .tc := ⟨.hbm, 101, rfl⟩
abbrev main_v80 : Ref sig .tc := ⟨.hbm, 102, rfl⟩
abbrev main_v81 : Ref sig .tc := ⟨.hbm, 103, rfl⟩
abbrev main_v82 : Ref sig .tc := ⟨.hbm, 104, rfl⟩
abbrev main_v83 : Ref sig .tc := ⟨.hbm, 105, rfl⟩
abbrev main_v84 : Ref sig .tc := ⟨.hbm, 106, rfl⟩
abbrev main_v85 : Ref sig .tc := ⟨.hbm, 107, rfl⟩
abbrev main_v86 : Ref sig .tc := ⟨.hbm, 108, rfl⟩
abbrev main_v87_0 : Ref sig .tc := ⟨.hbm, 109, rfl⟩
abbrev main_v87_1 : Ref sig .tc := ⟨.hbm, 110, rfl⟩
abbrev main_v87_2 : Ref sig .tc := ⟨.hbm, 111, rfl⟩
abbrev main_v87_3 : Ref sig .tc := ⟨.hbm, 112, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg7_0 : Ref sig .tc := ⟨.vmem, 10, rfl⟩
abbrev cc0_stg7_1 : Ref sig .tc := ⟨.vmem, 11, rfl⟩
abbrev cc0_stg8_0 : Ref sig .tc := ⟨.vmem, 12, rfl⟩
abbrev cc0_stg9_0 : Ref sig .tc := ⟨.vmem, 13, rfl⟩
abbrev cc0_stg10_0 : Ref sig .tc := ⟨.vmem, 14, rfl⟩
abbrev cc0_stg11_0 : Ref sig .tc := ⟨.vmem, 15, rfl⟩
abbrev cc0_stg12_0 : Ref sig .tc := ⟨.vmem, 16, rfl⟩
abbrev cc0_stg13_0 : Ref sig .tc := ⟨.vmem, 17, rfl⟩
abbrev cc0_stg14_0 : Ref sig .tc := ⟨.vmem, 18, rfl⟩
abbrev cc0_stg15_0 : Ref sig .tc := ⟨.vmem, 19, rfl⟩
abbrev cc0_stg15_1 : Ref sig .tc := ⟨.vmem, 20, rfl⟩
abbrev cc0_stg16_0 : Ref sig .tc := ⟨.vmem, 21, rfl⟩
abbrev cc0_stg16_1 : Ref sig .tc := ⟨.vmem, 22, rfl⟩
abbrev cc0_stg17_0 : Ref sig .tc := ⟨.vmem, 23, rfl⟩
abbrev cc0_stg17_1 : Ref sig .tc := ⟨.vmem, 24, rfl⟩
abbrev cc0_stg18_0 : Ref sig .tc := ⟨.vmem, 25, rfl⟩
abbrev cc0_stg18_1 : Ref sig .tc := ⟨.vmem, 26, rfl⟩
abbrev cc0_scratch0 : Ref sig .tc := ⟨.vmem, 27, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem6_0 : DmaSem sig := 9
abbrev cc0_sem7_0 : DmaSem sig := 10
abbrev cc0_sem7_1 : DmaSem sig := 11
abbrev cc0_sem8_0 : DmaSem sig := 12
abbrev cc0_sem9_0 : DmaSem sig := 13
abbrev cc0_sem10_0 : DmaSem sig := 14
abbrev cc0_sem11_0 : DmaSem sig := 15
abbrev cc0_sem12_0 : DmaSem sig := 16
abbrev cc0_sem13_0 : DmaSem sig := 17
abbrev cc0_sem14_0 : DmaSem sig := 18
abbrev cc0_sem15_0 : DmaSem sig := 19
abbrev cc0_sem15_1 : DmaSem sig := 20
abbrev cc0_sem16_0 : DmaSem sig := 21
abbrev cc0_sem16_1 : DmaSem sig := 22
abbrev cc0_sem17_0 : DmaSem sig := 23
abbrev cc0_sem17_1 : DmaSem sig := 24
abbrev cc0_sem18_0 : DmaSem sig := 25
abbrev cc0_sem18_1 : DmaSem sig := 26

abbrev nD : Nat := 1
abbrev τ : Topo := Topo.v7x

variable {F : FTy → Type} [FloatOps F]

abbrev grid0 : Pipeline.Grid := ⟨2, ![8, 8], ![false, false]⟩

def cc0_transform_0 (i : grid0.Coords) : Fin 2 → Nat :=
  let arg0 : BitVec 32 := BitVec.ofNat 32 (i 0).val
  let arg1 : BitVec 32 := BitVec.ofNat 32 (i 1).val
  let c8_i32 : BitVec 32 := 8#32
  let v0 : BitVec 32 := Scalar.muli arg0 c8_i32
  let v1 : BitVec 32 := Scalar.addi v0 arg1
  let c0_i32 : BitVec 32 := 0#32
  let c0_i32_0 : BitVec 32 := 0#32
  ![v1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let arg1 : BitVec 32 := BitVec.ofNat 32 (i 1).val
  let c8_i32 : BitVec 32 := 8#32
  let v0 : BitVec 32 := Scalar.muli arg0 c8_i32
  let v1 : BitVec 32 := Scalar.addi v0 arg1
  let c0_i32 : BitVec 32 := 0#32
  let c0_i32_0 : BitVec 32 := 0#32
  ![v1.toNat, c0_i32.toNat]

def cc0_transform_8 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_12 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_13 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_14 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_15 (i : grid0.Coords) : Fin 2 → Nat :=
  let arg0 : BitVec 32 := BitVec.ofNat 32 (i 0).val
  let arg1 : BitVec 32 := BitVec.ofNat 32 (i 1).val
  let c8_i32 : BitVec 32 := 8#32
  let v0 : BitVec 32 := Scalar.muli arg0 c8_i32
  let v1 : BitVec 32 := Scalar.addi v0 arg1
  let c0_i32 : BitVec 32 := 0#32
  let c0_i32_0 : BitVec 32 := 0#32
  ![v1.toNat, c0_i32.toNat]

def cc0_transform_16 (i : grid0.Coords) : Fin 2 → Nat :=
  let arg0 : BitVec 32 := BitVec.ofNat 32 (i 0).val
  let arg1 : BitVec 32 := BitVec.ofNat 32 (i 1).val
  let c8_i32 : BitVec 32 := 8#32
  let v0 : BitVec 32 := Scalar.muli arg0 c8_i32
  let v1 : BitVec 32 := Scalar.addi v0 arg1
  let c0_i32 : BitVec 32 := 0#32
  let c0_i32_0 : BitVec 32 := 0#32
  ![v1.toNat, c0_i32.toNat]

def cc0_transform_17 (i : grid0.Coords) : Fin 2 → Nat :=
  let arg0 : BitVec 32 := BitVec.ofNat 32 (i 0).val
  let arg1 : BitVec 32 := BitVec.ofNat 32 (i 1).val
  let c8_i32 : BitVec 32 := 8#32
  let v0 : BitVec 32 := Scalar.muli arg0 c8_i32
  let v1 : BitVec 32 := Scalar.addi v0 arg1
  let c0_i32 : BitVec 32 := 0#32
  let c0_i32_0 : BitVec 32 := 0#32
  ![v1.toNat, c0_i32.toNat]

def cc0_transform_18 (i : grid0.Coords) : Fin 2 → Nat :=
  let arg0 : BitVec 32 := BitVec.ofNat 32 (i 0).val
  let arg1 : BitVec 32 := BitVec.ofNat 32 (i 1).val
  let c8_i32 : BitVec 32 := 8#32
  let v0 : BitVec 32 := Scalar.muli arg0 c8_i32
  let v1 : BitVec 32 := Scalar.addi v0 arg1
  let c0_i32 : BitVec 32 := 0#32
  let c0_i32_0 : BitVec 32 := 0#32
  ![v1.toNat, c0_i32.toNat]

abbrev stage0_0 : Fin 2 → Memref sig .tc .vmem S1024x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x1x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S1x1x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 1 → Memref sig .tc .vmem S1x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 1 → Memref sig .tc .vmem S1024x1280 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 1 → Memref sig .tc .vmem S1x512 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 1 → Memref sig .tc .vmem S1x128 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false, false]

abbrev stage0_7 : Fin 2 → Memref sig .tc .vmem S1024x32 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]

abbrev stage0_8 : Fin 1 → Memref sig .tc .vmem S32x384 .bf16 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false, false]

abbrev stage0_9 : Fin 1 → Memref sig .tc .vmem S1x128 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false, false]

abbrev stage0_10 : Fin 1 → Memref sig .tc .vmem S256x256 .bf16 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false, false]

abbrev stage0_11 : Fin 1 → Memref sig .tc .vmem S128x128 .bf16 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false, false]

abbrev stage0_12 : Fin 1 → Memref sig .tc .vmem S2x256x256 .bf16 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))
abbrev reads0_12 : Fin grid0.rank → Bool := ![false, false]

abbrev stage0_13 : Fin 1 → Memref sig .tc .vmem S1x512 .f32 := fun | 0 => Memref.whole cc0_stg13_0 | ⟨_ + 1, h⟩ => absurd h (Nat.not_lt.2 (Nat.le_add_left _ _))
abbrev sem0_13 : Fin 1 → DmaSem sig := fun | 0 => cc0_sem13_0 | ⟨_ + 1, h⟩ => absurd h (Nat.not_lt.2 (Nat.le_add_left _ _))
abbrev reads0_13 : Fin grid0.rank → Bool := ![false, false]

abbrev stage0_14 : Fin 1 → Memref sig .tc .vmem S1x512 .f32 := fun | 0 => Memref.whole cc0_stg14_0 | ⟨_ + 1, h⟩ => absurd h (Nat.not_lt.2 (Nat.le_add_left _ _))
abbrev sem0_14 : Fin 1 → DmaSem sig := fun | 0 => cc0_sem14_0 | ⟨_ + 1, h⟩ => absurd h (Nat.not_lt.2 (Nat.le_add_left _ _))
abbrev reads0_14 : Fin grid0.rank → Bool := ![false, false]

abbrev stage0_15 : Fin 2 → Memref sig .tc .vmem S1024x512 .bf16 := fun | 0 => Memref.whole cc0_stg15_0 | 1 => Memref.whole cc0_stg15_1 | ⟨_ + 2, h⟩ => absurd h (Nat.not_lt.2 (Nat.le_add_left _ _))
abbrev sem0_15 : Fin 2 → DmaSem sig := fun | 0 => cc0_sem15_0 | 1 => cc0_sem15_1 | ⟨_ + 2, h⟩ => absurd h (Nat.not_lt.2 (Nat.le_add_left _ _))
abbrev reads0_15 : Fin grid0.rank → Bool := ![true, true]

abbrev stage0_16 : Fin 2 → Memref sig .tc .vmem S1024x128 .bf16 := fun | 0 => Memref.whole cc0_stg16_0 | 1 => Memref.whole cc0_stg16_1 | ⟨_ + 2, h⟩ => absurd h (Nat.not_lt.2 (Nat.le_add_left _ _))
abbrev sem0_16 : Fin 2 → DmaSem sig := fun | 0 => cc0_sem16_0 | 1 => cc0_sem16_1 | ⟨_ + 2, h⟩ => absurd h (Nat.not_lt.2 (Nat.le_add_left _ _))
abbrev reads0_16 : Fin grid0.rank → Bool := ![true, true]

abbrev stage0_17 : Fin 2 → Memref sig .tc .vmem S1024x128 .bf16 := fun | 0 => Memref.whole cc0_stg17_0 | 1 => Memref.whole cc0_stg17_1 | ⟨_ + 2, h⟩ => absurd h (Nat.not_lt.2 (Nat.le_add_left _ _))
abbrev sem0_17 : Fin 2 → DmaSem sig := fun | 0 => cc0_sem17_0 | 1 => cc0_sem17_1 | ⟨_ + 2, h⟩ => absurd h (Nat.not_lt.2 (Nat.le_add_left _ _))
abbrev reads0_17 : Fin grid0.rank → Bool := ![true, true]

abbrev stage0_18 : Fin 2 → Memref sig .tc .vmem S1024x512 .bf16 := fun | 0 => Memref.whole cc0_stg18_0 | 1 => Memref.whole cc0_stg18_1 | ⟨_ + 2, h⟩ => absurd h (Nat.not_lt.2 (Nat.le_add_left _ _))
abbrev sem0_18 : Fin 2 → DmaSem sig := fun | 0 => cc0_sem18_0 | 1 => cc0_sem18_1 | ⟨_ + 2, h⟩ => absurd h (Nat.not_lt.2 (Nat.le_add_left _ _))
abbrev reads0_18 : Fin grid0.rank → Bool := ![true, true]
-- ==== Reference4Ideal.lean ====
abbrev S8x8192x1024 : Shape := ⟨3, ![8, 8192, 1024]⟩
abbrev S8x8192x8 : Shape := ⟨3, ![8, 8192, 8]⟩
abbrev S8x1x1024 : Shape := ⟨3, ![8, 1, 1024]⟩
abbrev S1024 : Shape := ⟨1, ![1024]⟩
abbrev S1024x1280 : Shape := ⟨2, ![1024, 1280]⟩
abbrev S64 : Shape := ⟨1, ![64]⟩
abbrev S4x128x128 : Shape := ⟨3, ![4, 128, 128]⟩
abbrev S4x128 : Shape := ⟨2, ![4, 128]⟩
abbrev S512 : Shape := ⟨1, ![512]⟩
abbrev S8x8192x1x8 : Shape := ⟨4, ![8, 8192, 1, 8]⟩
abbrev S_ : Shape := ⟨0, ![]⟩
abbrev S8x8192 : Shape := ⟨2, ![8, 8192]⟩
abbrev S8x8192x1 : Shape := ⟨3, ![8, 8192, 1]⟩
abbrev S1x1x1024 : Shape := ⟨3, ![1, 1, 1024]⟩
abbrev S8x8192x1280 : Shape := ⟨3, ![8, 8192, 1280]⟩
abbrev S8x8192x512 : Shape := ⟨3, ![8, 8192, 512]⟩
abbrev S8x8192x128 : Shape := ⟨3, ![8, 8192, 128]⟩
abbrev S8x8192x8x64 : Shape := ⟨4, ![8, 8192, 8, 64]⟩
abbrev S8x8192x2x64 : Shape := ⟨4, ![8, 8192, 2, 64]⟩
abbrev S8x8192x8x1 : Shape := ⟨4, ![8, 8192, 8, 1]⟩
abbrev S1x1x1x64 : Shape := ⟨4, ![1, 1, 1, 64]⟩
abbrev S8x8192x8x8 : Shape := ⟨4, ![8, 8192, 8, 8]⟩
abbrev S8x8192x8x48 : Shape := ⟨4, ![8, 8192, 8, 48]⟩
abbrev S8x8192x2 : Shape := ⟨3, ![8, 8192, 2]⟩
abbrev S8x8192x2x1 : Shape := ⟨4, ![8, 8192, 2, 1]⟩
abbrev S8x8192x2x8 : Shape := ⟨4, ![8, 8192, 2, 8]⟩
abbrev S8x8192x2x48 : Shape := ⟨4, ![8, 8192, 2, 48]⟩
abbrev S65536x512 : Shape := ⟨2, ![65536, 512]⟩
abbrev S65536x128 : Shape := ⟨2, ![65536, 128]⟩
abbrev S8x8207x512 : Shape := ⟨3, ![8, 8207, 512]⟩
abbrev S8192 : Shape := ⟨1, ![8192]⟩
abbrev S1x8192x1 : Shape := ⟨3, ![1, 8192, 1]⟩
abbrev S8x8192x1x128 : Shape := ⟨4, ![8, 8192, 1, 128]⟩
abbrev S8x8192x4x128 : Shape := ⟨4, ![8, 8192, 4, 128]⟩
abbrev S4x128x8x8192 : Shape := ⟨4, ![4, 128, 8, 8192]⟩
abbrev S1x1x4x128 : Shape := ⟨4, ![1, 1, 4, 128]⟩

abbrev nBuf : Space → Nat
  | .hbm => 237
  | .vmem => 0
  | .smem => 0
  | _ => 0

abbrev hbmTy0_0 (i : Nat) : BufTy := match i % 128 with
  | 0 => ⟨S8x8192x1024, .f32⟩
  | 1 => ⟨S8x8192x8, .f32⟩
  | 2 => ⟨S8x1x1024, .f32⟩
  | 3 => ⟨S8x1x1024, .f32⟩
  | 4 => ⟨S1024, .f32⟩
  | 5 => ⟨S1024x1280, .f32⟩
  | 6 => ⟨S64, .f32⟩
  | 7 => ⟨S64, .f32⟩
  | 8 => ⟨S4x128x128, .f32⟩
  | 9 => ⟨S4x128, .f32⟩
  | 10 => ⟨S512, .f32⟩
  | 11 => ⟨S8x8192x8, .f32⟩
  | 12 => ⟨S8x8192x1x8, .f32⟩
  | 13 => ⟨S8x8192x8, .f32⟩
  | 14 => ⟨S8x8192x1x8, .f32⟩
  | 15 => ⟨S8x8192x1024, .f32⟩
  | 16 => ⟨S_, .f32⟩
  | 17 => ⟨S8x8192, .f32⟩
  | 18 => ⟨S8x8192x1, .f32⟩
  | 19 => ⟨S_, .f32⟩
  | 20 => ⟨S8x8192x1, .f32⟩
  | 21 => ⟨S8x8192x1, .f32⟩
  | 22 => ⟨S_, .f32⟩
  | 23 => ⟨S8x8192x1, .f32⟩
  | 24 => ⟨S8x8192x1, .f32⟩
  | 25 => ⟨S8x8192x1, .f32⟩
  | 26 => ⟨S8x8192x1024, .f32⟩
  | 27 => ⟨S8x8192x1024, .f32⟩
  | 28 => ⟨S1x1x1024, .f32⟩
  | 29 => ⟨S8x8192x1024, .f32⟩
  | 30 => ⟨S8x8192x1024, .f32⟩
  | 31 => ⟨S_, .f32⟩
  | 32 => ⟨S8x1x1024, .f32⟩
  | 33 => ⟨S8x1x1024, .f32⟩
  | 34 => ⟨S8x8192x1024, .f32⟩
  | 35 => ⟨S8x8192x1024, .f32⟩
  | 36 => ⟨S8x8192x1024, .f32⟩
  | 37 => ⟨S8x8192x1024, .f32⟩
  | 38 => ⟨S8x8192x1280, .f32⟩
  | 39 => ⟨S8x8192x512, .f32⟩
  | 40 => ⟨S8x8192x128, .f32⟩
  | 41 => ⟨S8x8192x128, .f32⟩
  | 42 => ⟨S8x8192x512, .f32⟩
  | 43 => ⟨S8x8192x8x64, .f32⟩
  | 44 => ⟨S8x8192x2x64, .f32⟩
  | 45 => ⟨S8x8192x8x64, .f32⟩
  | 46 => ⟨S_, .f32⟩
  | 47 => ⟨S8x8192x8, .f32⟩
  | 48 => ⟨S8x8192x8x1, .f32⟩
  | 49 => ⟨S_, .f32⟩
  | 50 => ⟨S8x8192x8x1, .f32⟩
  | 51 => ⟨S8x8192x8x1, .f32⟩
  | 52 => ⟨S_, .f32⟩
  | 53 => ⟨S8x8192x8x1, .f32⟩
  | 54 => ⟨S8x8192x8x1, .f32⟩
  | 55 => ⟨S8x8192x8x1, .f32⟩
  | 56 => ⟨S8x8192x8x64, .f32⟩
  | 57 => ⟨S8x8192x8x64, .f32⟩
  | 58 => ⟨S1x1x1x64, .f32⟩
  | 59 => ⟨S8x8192x8x64, .f32⟩
  | 60 => ⟨S8x8192x8x64, .f32⟩
  | 61 => ⟨S8x8192x8x8, .f32⟩
  | 62 => ⟨S8x8192x8x8, .f32⟩
  | 63 => ⟨S8x8192x8x8, .f32⟩
  | 64 => ⟨S8x8192x8x8, .f32⟩
  | 65 => ⟨S8x8192x8x8, .f32⟩
  | 66 => ⟨S8x8192x8x8, .f32⟩
  | 67 => ⟨S8x8192x8x8, .f32⟩
  | 68 => ⟨S8x8192x8x8, .f32⟩
  | 69 => ⟨S8x8192x8x8, .f32⟩
  | 70 => ⟨S8x8192x8x8, .f32⟩
  | 71 => ⟨S8x8192x8x8, .f32⟩
  | 72 => ⟨S8x8192x8x8, .f32⟩
  | 73 => ⟨S8x8192x8x48, .f32⟩
  | 74 => ⟨S8x8192x8x64, .f32⟩
  | 75 => ⟨S_, .f32⟩
  | 76 => ⟨S8x8192x8x64, .f32⟩
  | 77 => ⟨S8x8192x8x64, .f32⟩
  | 78 => ⟨S8x8192x2x64, .f32⟩
  | 79 => ⟨S_, .f32⟩
  | 80 => ⟨S8x8192x2, .f32⟩
  | 81 => ⟨S8x8192x2x1, .f32⟩
  | 82 => ⟨S_, .f32⟩
  | 83 => ⟨S8x8192x2x1, .f32⟩
  | 84 => ⟨S8x8192x2x1, .f32⟩
  | 85 => ⟨S_, .f32⟩
  | 86 => ⟨S8x8192x2x1, .f32⟩
  | 87 => ⟨S8x8192x2x1, .f32⟩
  | 88 => ⟨S8x8192x2x1, .f32⟩
  | 89 => ⟨S8x8192x2x64, .f32⟩
  | 90 => ⟨S8x8192x2x64, .f32⟩
  | 91 => ⟨S1x1x1x64, .f32⟩
  | 92 => ⟨S8x8192x2x64, .f32⟩
  | 93 => ⟨S8x8192x2x64, .f32⟩
  | 94 => ⟨S8x8192x2x8, .f32⟩
  | 95 => ⟨S8x8192x2x8, .f32⟩
  | 96 => ⟨S8x8192x2x8, .f32⟩
  | 97 => ⟨S8x8192x2x8, .f32⟩
  | 98 => ⟨S8x8192x2x8, .f32⟩
  | 99 => ⟨S8x8192x2x8, .f32⟩
  | 100 => ⟨S8x8192x2x8, .f32⟩
  | 101 => ⟨S8x8192x2x8, .f32⟩
  | 102 => ⟨S8x8192x2x8, .f32⟩
  | 103 => ⟨S8x8192x2x8, .f32⟩
  | 104 => ⟨S8x8192x2x8, .f32⟩
  | 105 => ⟨S8x8192x2x8, .f32⟩
  | 106 => ⟨S8x8192x2x48, .f32⟩
  | 107 => ⟨S8x8192x2x64, .f32⟩
  | 108 => ⟨S65536x512, .f32⟩
  | 109 => ⟨S65536x512, .bf16⟩
  | 110 => ⟨S65536x128, .f32⟩
  | 111 => ⟨S65536x128, .bf16⟩
  | 112 => ⟨S65536x128, .f32⟩
  | 113 => ⟨S65536x128, .bf16⟩
  | 114 => ⟨S_, .i32⟩
  | 115 => ⟨S_, .f32⟩
  | 116 => ⟨S8x8207x512, .f32⟩
  | 117 => ⟨S8192, .f32⟩
  | 118 => ⟨S_, .f32⟩
  | 119 => ⟨S8192, .f32⟩
  | 120 => ⟨S8192, .f32⟩
  | 121 => ⟨S8x8192x128, .f32⟩
  | 122 => ⟨S_, .f32⟩
  | 123 => ⟨S8x8192x128, .f32⟩
  | 124 => ⟨S8x8192x128, .f32⟩
  | 125 => ⟨S8x8192x128, .f32⟩
  | 126 => ⟨S8x8192x128, .f32⟩
  | 127 => ⟨S_, .f32⟩
  | _ => ⟨S8x8192x1024, .f32⟩

abbrev hbmTy0_1 (i : Nat) : BufTy := match i % 128 with
  | 0 => ⟨S8192, .f32⟩
  | 1 => ⟨S8192, .f32⟩
  | 2 => ⟨S1x8192x1, .f32⟩
  | 3 => ⟨S8x8192x128, .f32⟩
  | 4 => ⟨S8x8192x128, .f32⟩
  | 5 => ⟨S8x8192x128, .f32⟩
  | 6 => ⟨S8x8192x128, .f32⟩
  | 7 => ⟨S8x8192x128, .f32⟩
  | 8 => ⟨S_, .f32⟩
  | 9 => ⟨S8x8192x128, .f32⟩
  | 10 => ⟨S8x8192x128, .f32⟩
  | 11 => ⟨S8x8192x128, .f32⟩
  | 12 => ⟨S8x8192x128, .f32⟩
  | 13 => ⟨S8x8192x128, .f32⟩
  | 14 => ⟨S8x8192x128, .f32⟩
  | 15 => ⟨S8x8192x128, .f32⟩
  | 16 => ⟨S8x8192x128, .f32⟩
  | 17 => ⟨S_, .f32⟩
  | 18 => ⟨S8192, .f32⟩
  | 19 => ⟨S8192, .f32⟩
  | 20 => ⟨S1x8192x1, .f32⟩
  | 21 => ⟨S8x8192x128, .f32⟩
  | 22 => ⟨S8x8192x128, .f32⟩
  | 23 => ⟨S8x8192x128, .f32⟩
  | 24 => ⟨S8x8192x128, .f32⟩
  | 25 => ⟨S8x8192x128, .f32⟩
  | 26 => ⟨S_, .f32⟩
  | 27 => ⟨S8x8192x128, .f32⟩
  | 28 => ⟨S8x8192x128, .f32⟩
  | 29 => ⟨S8x8192x128, .f32⟩
  | 30 => ⟨S8x8192x128, .f32⟩
  | 31 => ⟨S8x8192x128, .f32⟩
  | 32 => ⟨S8x8192x128, .f32⟩
  | 33 => ⟨S8x8192x128, .f32⟩
  | 34 => ⟨S8x8192x128, .f32⟩
  | 35 => ⟨S8x8192x128, .f32⟩
  | 36 => ⟨S8x8192x128, .f32⟩
  | 37 => ⟨S8x8192x128, .f32⟩
  | 38 => ⟨S8x8192x128, .f32⟩
  | 39 => ⟨S8x8192x128, .f32⟩
  | 40 => ⟨S8x8192x128, .f32⟩
  | 41 => ⟨S8x8192x128, .f32⟩
  | 42 => ⟨S8x8192x128, .f32⟩
  | 43 => ⟨S_, .f32⟩
  | 44 => ⟨S8192, .f32⟩
  | 45 => ⟨S8192, .f32⟩
  | 46 => ⟨S1x8192x1, .f32⟩
  | 47 => ⟨S8x8192x128, .f32⟩
  | 48 => ⟨S8x8192x128, .f32⟩
  | 49 => ⟨S8x8192x128, .f32⟩
  | 50 => ⟨S8x8192x128, .f32⟩
  | 51 => ⟨S8x8192x128, .f32⟩
  | 52 => ⟨S_, .f32⟩
  | 53 => ⟨S8x8192x128, .f32⟩
  | 54 => ⟨S8x8192x128, .f32⟩
  | 55 => ⟨S8x8192x128, .f32⟩
  | 56 => ⟨S8x8192x128, .f32⟩
  | 57 => ⟨S8x8192x128, .f32⟩
  | 58 => ⟨S8x8192x128, .f32⟩
  | 59 => ⟨S8x8192x128, .f32⟩
  | 60 => ⟨S8x8192x128, .f32⟩
  | 61 => ⟨S8x8192x128, .f32⟩
  | 62 => ⟨S8x8192x128, .f32⟩
  | 63 => ⟨S8x8192x128, .f32⟩
  | 64 => ⟨S8x8192x128, .f32⟩
  | 65 => ⟨S8x8192x128, .f32⟩
  | 66 => ⟨S8x8192x128, .f32⟩
  | 67 => ⟨S8x8192x128, .f32⟩
  | 68 => ⟨S8x8192x128, .f32⟩
  | 69 => ⟨S8x8192x128, .f32⟩
  | 70 => ⟨S8x8192x128, .f32⟩
  | 71 => ⟨S8x8192x128, .f32⟩
  | 72 => ⟨S8x8192x128, .f32⟩
  | 73 => ⟨S8x8192x128, .f32⟩
  | 74 => ⟨S8x8192x128, .f32⟩
  | 75 => ⟨S8x8192x128, .f32⟩
  | 76 => ⟨S8x8192x128, .f32⟩
  | 77 => ⟨S8x8192x128, .f32⟩
  | 78 => ⟨S8x8192x128, .f32⟩
  | 79 => ⟨S8x8192x128, .f32⟩
  | 80 => ⟨S8x8192x128, .f32⟩
  | 81 => ⟨S8x8192x128, .f32⟩
  | 82 => ⟨S8x8192x128, .f32⟩
  | 83 => ⟨S8x8192x128, .f32⟩
  | 84 => ⟨S8x8192x128, .f32⟩
  | 85 => ⟨S_, .f32⟩
  | 86 => ⟨S8192, .f32⟩
  | 87 => ⟨S8192, .f32⟩
  | 88 => ⟨S1x8192x1, .f32⟩
  | 89 => ⟨S8x8192x128, .f32⟩
  | 90 => ⟨S8x8192x128, .f32⟩
  | 91 => ⟨S8x8192x128, .f32⟩
  | 92 => ⟨S8x8192x128, .f32⟩
  | 93 => ⟨S8x8192x1x128, .f32⟩
  | 94 => ⟨S8x8192x1x128, .f32⟩
  | 95 => ⟨S8x8192x1x128, .f32⟩
  | 96 => ⟨S8x8192x1x128, .f32⟩
  | 97 => ⟨S8x8192x4x128, .f32⟩
  | 98 => ⟨S4x128x8x8192, .f32⟩
  | 99 => ⟨S8x8192x4x128, .f32⟩
  | 100 => ⟨S1x1x4x128, .f32⟩
  | 101 => ⟨S8x8192x4x128, .f32⟩
  | 102 => ⟨S8x8192x4x128, .f32⟩
  | 103 => ⟨S4x128, .f32⟩
  | 104 => ⟨S1x1x4x128, .f32⟩
  | 105 => ⟨S8x8192x4x128, .f32⟩
  | 106 => ⟨S8x8192x4x128, .f32⟩
  | 107 => ⟨S65536x512, .f32⟩
  | 108 => ⟨S65536x512, .bf16⟩
  | _ => ⟨S8x8192x1024, .f32⟩

abbrev hbmTy (i : Nat) : BufTy := match i / 128 with
  | 0 => hbmTy0_0 i
  | 1 => hbmTy0_1 i
  | _ => ⟨S8x8192x1024, .f32⟩

abbrev bufTy : (tb : Table) → Fin (tcTables nBuf tb) → BufTy
  | .hbm, ⟨i, _⟩ => hbmTy i
  | _, _ => ⟨S8x8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_v0 : Ref sig .tc := ⟨.hbm, 11, rfl⟩
abbrev main_v1 : Ref sig .tc := ⟨.hbm, 12, rfl⟩
abbrev main_v2 : Ref sig .tc := ⟨.hbm, 13, rfl⟩
abbrev main_v3 : Ref sig .tc := ⟨.hbm, 14, rfl⟩
abbrev main_v4 : Ref sig .tc := ⟨.hbm, 15, rfl⟩
abbrev main_cst : Ref sig .tc := ⟨.hbm, 16, rfl⟩
abbrev main_v5 : Ref sig .tc := ⟨.hbm, 17, rfl⟩
abbrev main_v6 : Ref sig .tc := ⟨.hbm, 18, rfl⟩
abbrev main_cst_0 : Ref sig .tc := ⟨.hbm, 19, rfl⟩
abbrev main_v7 : Ref sig .tc := ⟨.hbm, 20, rfl⟩
abbrev main_v8 : Ref sig .tc := ⟨.hbm, 21, rfl⟩
abbrev main_cst_1 : Ref sig .tc := ⟨.hbm, 22, rfl⟩
abbrev main_v9 : Ref sig .tc := ⟨.hbm, 23, rfl⟩
abbrev main_v10 : Ref sig .tc := ⟨.hbm, 24, rfl⟩
abbrev main_v11 : Ref sig .tc := ⟨.hbm, 25, rfl⟩
abbrev main_v12 : Ref sig .tc := ⟨.hbm, 26, rfl⟩
abbrev main_v13 : Ref sig .tc := ⟨.hbm, 27, rfl⟩
abbrev main_v14 : Ref sig .tc := ⟨.hbm, 28, rfl⟩
abbrev main_v15 : Ref sig .tc := ⟨.hbm, 29, rfl⟩
abbrev main_v16 : Ref sig .tc := ⟨.hbm, 30, rfl⟩
abbrev main_cst_2 : Ref sig .tc := ⟨.hbm, 31, rfl⟩
abbrev main_v17 : Ref sig .tc := ⟨.hbm, 32, rfl⟩
abbrev main_v18 : Ref sig .tc := ⟨.hbm, 33, rfl⟩
abbrev main_v19 : Ref sig .tc := ⟨.hbm, 34, rfl⟩
abbrev main_v20 : Ref sig .tc := ⟨.hbm, 35, rfl⟩
abbrev main_v21 : Ref sig .tc := ⟨.hbm, 36, rfl⟩
abbrev main_v22 : Ref sig .tc := ⟨.hbm, 37, rfl⟩
abbrev main_v23 : Ref sig .tc := ⟨.hbm, 38, rfl⟩
abbrev main_v24 : Ref sig .tc := ⟨.hbm, 39, rfl⟩
abbrev main_v25 : Ref sig .tc := ⟨.hbm, 40, rfl⟩
abbrev main_v26 : Ref sig .tc := ⟨.hbm, 41, rfl⟩
abbrev main_v27 : Ref sig .tc := ⟨.hbm, 42, rfl⟩
abbrev main_v28 : Ref sig .tc := ⟨.hbm, 43, rfl⟩
abbrev main_v29 : Ref sig .tc := ⟨.hbm, 44, rfl⟩
abbrev main_v30 : Ref sig .tc := ⟨.hbm, 45, rfl⟩
abbrev main_cst_3 : Ref sig .tc := ⟨.hbm, 46, rfl⟩
abbrev main_v31 : Ref sig .tc := ⟨.hbm, 47, rfl⟩
abbrev main_v32 : Ref sig .tc := ⟨.hbm, 48, rfl⟩
abbrev main_cst_4 : Ref sig .tc := ⟨.hbm, 49, rfl⟩
abbrev main_v33 : Ref sig .tc := ⟨.hbm, 50, rfl⟩
abbrev main_v34 : Ref sig .tc := ⟨.hbm, 51, rfl⟩
abbrev main_cst_5 : Ref sig .tc := ⟨.hbm, 52, rfl⟩
abbrev main_v35 : Ref sig .tc := ⟨.hbm, 53, rfl⟩
abbrev main_v36 : Ref sig .tc := ⟨.hbm, 54, rfl⟩
abbrev main_v37 : Ref sig .tc := ⟨.hbm, 55, rfl⟩
abbrev main_v38 : Ref sig .tc := ⟨.hbm, 56, rfl⟩
abbrev main_v39 : Ref sig .tc := ⟨.hbm, 57, rfl⟩
abbrev main_v40 : Ref sig .tc := ⟨.hbm, 58, rfl⟩
abbrev main_v41 : Ref sig .tc := ⟨.hbm, 59, rfl⟩
abbrev main_v42 : Ref sig .tc := ⟨.hbm, 60, rfl⟩
abbrev main_v43 : Ref sig .tc := ⟨.hbm, 61, rfl⟩
abbrev main_v44 : Ref sig .tc := ⟨.hbm, 62, rfl⟩
abbrev main_v45 : Ref sig .tc := ⟨.hbm, 63, rfl⟩
abbrev main_v46 : Ref sig .tc := ⟨.hbm, 64, rfl⟩
abbrev main_v47 : Ref sig .tc := ⟨.hbm, 65, rfl⟩
abbrev main_v48 : Ref sig .tc := ⟨.hbm, 66, rfl⟩
abbrev main_v49 : Ref sig .tc := ⟨.hbm, 67, rfl⟩
abbrev main_v50 : Ref sig .tc := ⟨.hbm, 68, rfl⟩
abbrev main_v51 : Ref sig .tc := ⟨.hbm, 69, rfl⟩
abbrev main_v52 : Ref sig .tc := ⟨.hbm, 70, rfl⟩
abbrev main_v53 : Ref sig .tc := ⟨.hbm, 71, rfl⟩
abbrev main_v54 : Ref sig .tc := ⟨.hbm, 72, rfl⟩
abbrev main_v55 : Ref sig .tc := ⟨.hbm, 73, rfl⟩
abbrev main_v56 : Ref sig .tc := ⟨.hbm, 74, rfl⟩
abbrev main_cst_6 : Ref sig .tc := ⟨.hbm, 75, rfl⟩
abbrev main_v57 : Ref sig .tc := ⟨.hbm, 76, rfl⟩
abbrev main_v58 : Ref sig .tc := ⟨.hbm, 77, rfl⟩
abbrev main_v59 : Ref sig .tc := ⟨.hbm, 78, rfl⟩
abbrev main_cst_7 : Ref sig .tc := ⟨.hbm, 79, rfl⟩
abbrev main_v60 : Ref sig .tc := ⟨.hbm, 80, rfl⟩
abbrev main_v61 : Ref sig .tc := ⟨.hbm, 81, rfl⟩
abbrev main_cst_8 : Ref sig .tc := ⟨.hbm, 82, rfl⟩
abbrev main_v62 : Ref sig .tc := ⟨.hbm, 83, rfl⟩
abbrev main_v63 : Ref sig .tc := ⟨.hbm, 84, rfl⟩
abbrev main_cst_9 : Ref sig .tc := ⟨.hbm, 85, rfl⟩
abbrev main_v64 : Ref sig .tc := ⟨.hbm, 86, rfl⟩
abbrev main_v65 : Ref sig .tc := ⟨.hbm, 87, rfl⟩
abbrev main_v66 : Ref sig .tc := ⟨.hbm, 88, rfl⟩
abbrev main_v67 : Ref sig .tc := ⟨.hbm, 89, rfl⟩
abbrev main_v68 : Ref sig .tc := ⟨.hbm, 90, rfl⟩
abbrev main_v69 : Ref sig .tc := ⟨.hbm, 91, rfl⟩
abbrev main_v70 : Ref sig .tc := ⟨.hbm, 92, rfl⟩
abbrev main_v71 : Ref sig .tc := ⟨.hbm, 93, rfl⟩
abbrev main_v72 : Ref sig .tc := ⟨.hbm, 94, rfl⟩
abbrev main_v73 : Ref sig .tc := ⟨.hbm, 95, rfl⟩
abbrev main_v74 : Ref sig .tc := ⟨.hbm, 96, rfl⟩
abbrev main_v75 : Ref sig .tc := ⟨.hbm, 97, rfl⟩
abbrev main_v76 : Ref sig .tc := ⟨.hbm, 98, rfl⟩
abbrev main_v77 : Ref sig .tc := ⟨.hbm, 99, rfl⟩
abbrev main_v78 : Ref sig .tc := ⟨.hbm, 100, rfl⟩
abbrev main_v79 : Ref sig .tc := ⟨.hbm, 101, rfl⟩
abbrev main_v80 : Ref sig .tc := ⟨.hbm, 102, rfl⟩
abbrev main_v81 : Ref sig .tc := ⟨.hbm, 103, rfl⟩
abbrev main_v82 : Ref sig .tc := ⟨.hbm, 104, rfl⟩
abbrev main_v83 : Ref sig .tc := ⟨.hbm, 105, rfl⟩
abbrev main_v84 : Ref sig .tc := ⟨.hbm, 106, rfl⟩
abbrev main_v85 : Ref sig .tc := ⟨.hbm, 107, rfl⟩
abbrev main_v86 : Ref sig .tc := ⟨.hbm, 108, rfl⟩
abbrev main_v87 : Ref sig .tc := ⟨.hbm, 109, rfl⟩
abbrev main_v88 : Ref sig .tc := ⟨.hbm, 110, rfl⟩
abbrev main_v89 : Ref sig .tc := ⟨.hbm, 111, rfl⟩
abbrev main_v90 : Ref sig .tc := ⟨.hbm, 112, rfl⟩
abbrev main_v91 : Ref sig .tc := ⟨.hbm, 113, rfl⟩
abbrev main_c : Ref sig .tc := ⟨.hbm, 114, rfl⟩
abbrev main_call0_v0 : Ref sig .tc := ⟨.hbm, 115, rfl⟩
abbrev main_v92 : Ref sig .tc := ⟨.hbm, 116, rfl⟩
abbrev main_v93 : Ref sig .tc := ⟨.hbm, 117, rfl⟩
abbrev main_cst_10 : Ref sig .tc := ⟨.hbm, 118, rfl⟩
abbrev main_v94 : Ref sig .tc := ⟨.hbm, 119, rfl⟩
abbrev main_v95 : Ref sig .tc := ⟨.hbm, 120, rfl⟩
abbrev main_v96 : Ref sig .tc := ⟨.hbm, 121, rfl⟩
abbrev main_cst_11 : Ref sig .tc := ⟨.hbm, 122, rfl⟩
abbrev main_v97 : Ref sig .tc := ⟨.hbm, 123, rfl⟩
abbrev main_v98 : Ref sig .tc := ⟨.hbm, 124, rfl⟩
abbrev main_v99 : Ref sig .tc := ⟨.hbm, 125, rfl⟩
abbrev main_v100 : Ref sig .tc := ⟨.hbm, 126, rfl⟩
abbrev main_cst_12 : Ref sig .tc := ⟨.hbm, 127, rfl⟩
abbrev main_v101 : Ref sig .tc := ⟨.hbm, 128, rfl⟩
abbrev main_v102 : Ref sig .tc := ⟨.hbm, 129, rfl⟩
abbrev main_v103 : Ref sig .tc := ⟨.hbm, 130, rfl⟩
abbrev main_v104 : Ref sig .tc := ⟨.hbm, 131, rfl⟩
abbrev main_v105 : Ref sig .tc := ⟨.hbm, 132, rfl⟩
abbrev main_v106 : Ref sig .tc := ⟨.hbm, 133, rfl⟩
abbrev main_v107 : Ref sig .tc := ⟨.hbm, 134, rfl⟩
abbrev main_v108 : Ref sig .tc := ⟨.hbm, 135, rfl⟩
abbrev main_cst_13 : Ref sig .tc := ⟨.hbm, 136, rfl⟩
abbrev main_v109 : Ref sig .tc := ⟨.hbm, 137, rfl⟩
abbrev main_v110 : Ref sig .tc := ⟨.hbm, 138, rfl⟩
abbrev main_v111 : Ref sig .tc := ⟨.hbm, 139, rfl⟩
abbrev main_v112 : Ref sig .tc := ⟨.hbm, 140, rfl⟩
abbrev main_v113 : Ref sig .tc := ⟨.hbm, 141, rfl⟩
abbrev main_v114 : Ref sig .tc := ⟨.hbm, 142, rfl⟩
abbrev main_v115 : Ref sig .tc := ⟨.hbm, 143, rfl⟩
abbrev main_v116 : Ref sig .tc := ⟨.hbm, 144, rfl⟩
abbrev main_cst_14 : Ref sig .tc := ⟨.hbm, 145, rfl⟩
abbrev main_v117 : Ref sig .tc := ⟨.hbm, 146, rfl⟩
abbrev main_v118 : Ref sig .tc := ⟨.hbm, 147, rfl⟩
abbrev main_v119 : Ref sig .tc := ⟨.hbm, 148, rfl⟩
abbrev main_v120 : Ref sig .tc := ⟨.hbm, 149, rfl⟩
abbrev main_v121 : Ref sig .tc := ⟨.hbm, 150, rfl⟩
abbrev main_v122 : Ref sig .tc := ⟨.hbm, 151, rfl⟩
abbrev main_v123 : Ref sig .tc := ⟨.hbm, 152, rfl⟩
abbrev main_v124 : Ref sig .tc := ⟨.hbm, 153, rfl⟩
abbrev main_cst_15 : Ref sig .tc := ⟨.hbm, 154, rfl⟩
abbrev main_v125 : Ref sig .tc := ⟨.hbm, 155, rfl⟩
abbrev main_v126 : Ref sig .tc := ⟨.hbm, 156, rfl⟩
abbrev main_v127 : Ref sig .tc := ⟨.hbm, 157, rfl⟩
abbrev main_v128 : Ref sig .tc := ⟨.hbm, 158, rfl⟩
abbrev main_v129 : Ref sig .tc := ⟨.hbm, 159, rfl⟩
abbrev main_v130 : Ref sig .tc := ⟨.hbm, 160, rfl⟩
abbrev main_v131 : Ref sig .tc := ⟨.hbm, 161, rfl⟩
abbrev main_v132 : Ref sig .tc := ⟨.hbm, 162, rfl⟩
abbrev main_v133 : Ref sig .tc := ⟨.hbm, 163, rfl⟩
abbrev main_v134 : Ref sig .tc := ⟨.hbm, 164, rfl⟩
abbrev main_v135 : Ref sig .tc := ⟨.hbm, 165, rfl⟩
abbrev main_v136 : Ref sig .tc := ⟨.hbm, 166, rfl⟩
abbrev main_v137 : Ref sig .tc := ⟨.hbm, 167, rfl⟩
abbrev main_v138 : Ref sig .tc := ⟨.hbm, 168, rfl⟩
abbrev main_v139 : Ref sig .tc := ⟨.hbm, 169, rfl⟩
abbrev main_v140 : Ref sig .tc := ⟨.hbm, 170, rfl⟩
abbrev main_cst_16 : Ref sig .tc := ⟨.hbm, 171, rfl⟩
abbrev main_v141 : Ref sig .tc := ⟨.hbm, 172, rfl⟩
abbrev main_v142 : Ref sig .tc := ⟨.hbm, 173, rfl⟩
abbrev main_v143 : Ref sig .tc := ⟨.hbm, 174, rfl⟩
abbrev main_v144 : Ref sig .tc := ⟨.hbm, 175, rfl⟩
abbrev main_v145 : Ref sig .tc := ⟨.hbm, 176, rfl⟩
abbrev main_v146 : Ref sig .tc := ⟨.hbm, 177, rfl⟩
abbrev main_v147 : Ref sig .tc := ⟨.hbm, 178, rfl⟩
abbrev main_v148 : Ref sig .tc := ⟨.hbm, 179, rfl⟩
abbrev main_cst_17 : Ref sig .tc := ⟨.hbm, 180, rfl⟩
abbrev main_v149 : Ref sig .tc := ⟨.hbm, 181, rfl⟩
abbrev main_v150 : Ref sig .tc := ⟨.hbm, 182, rfl⟩
abbrev main_v151 : Ref sig .tc := ⟨.hbm, 183, rfl⟩
abbrev main_v152 : Ref sig .tc := ⟨.hbm, 184, rfl⟩
abbrev main_v153 : Ref sig .tc := ⟨.hbm, 185, rfl⟩
abbrev main_v154 : Ref sig .tc := ⟨.hbm, 186, rfl⟩
abbrev main_v155 : Ref sig .tc := ⟨.hbm, 187, rfl⟩
abbrev main_v156 : Ref sig .tc := ⟨.hbm, 188, rfl⟩
abbrev main_v157 : Ref sig .tc := ⟨.hbm, 189, rfl⟩
abbrev main_v158 : Ref sig .tc := ⟨.hbm, 190, rfl⟩
abbrev main_v159 : Ref sig .tc := ⟨.hbm, 191, rfl⟩
abbrev main_v160 : Ref sig .tc := ⟨.hbm, 192, rfl⟩
abbrev main_v161 : Ref sig .tc := ⟨.hbm, 193, rfl⟩
abbrev main_v162 : Ref sig .tc := ⟨.hbm, 194, rfl⟩
abbrev main_v163 : Ref sig .tc := ⟨.hbm, 195, rfl⟩
abbrev main_v164 : Ref sig .tc := ⟨.hbm, 196, rfl⟩
abbrev main_v165 : Ref sig .tc := ⟨.hbm, 197, rfl⟩
abbrev main_v166 : Ref sig .tc := ⟨.hbm, 198, rfl⟩
abbrev main_v167 : Ref sig .tc := ⟨.hbm, 199, rfl⟩
abbrev main_v168 : Ref sig .tc := ⟨.hbm, 200, rfl⟩
abbrev main_v169 : Ref sig .tc := ⟨.hbm, 201, rfl⟩
abbrev main_v170 : Ref sig .tc := ⟨.hbm, 202, rfl⟩
abbrev main_v171 : Ref sig .tc := ⟨.hbm, 203, rfl⟩
abbrev main_v172 : Ref sig .tc := ⟨.hbm, 204, rfl⟩
abbrev main_v173 : Ref sig .tc := ⟨.hbm, 205, rfl⟩
abbrev main_v174 : Ref sig .tc := ⟨.hbm, 206, rfl⟩
abbrev main_v175 : Ref sig .tc := ⟨.hbm, 207, rfl⟩
abbrev main_v176 : Ref sig .tc := ⟨.hbm, 208, rfl⟩
abbrev main_v177 : Ref sig .tc := ⟨.hbm, 209, rfl⟩
abbrev main_v178 : Ref sig .tc := ⟨.hbm, 210, rfl⟩
abbrev main_v179 : Ref sig .tc := ⟨.hbm, 211, rfl⟩
abbrev main_v180 : Ref sig .tc := ⟨.hbm, 212, rfl⟩
abbrev main_cst_18 : Ref sig .tc := ⟨.hbm, 213, rfl⟩
abbrev main_v181 : Ref sig .tc := ⟨.hbm, 214, rfl⟩
abbrev main_v182 : Ref sig .tc := ⟨.hbm, 215, rfl⟩
abbrev main_v183 : Ref sig .tc := ⟨.hbm, 216, rfl⟩
abbrev main_v184 : Ref sig .tc := ⟨.hbm, 217, rfl⟩
abbrev main_v185 : Ref sig .tc := ⟨.hbm, 218, rfl⟩
abbrev main_v186 : Ref sig .tc := ⟨.hbm, 219, rfl⟩
abbrev main_v187 : Ref sig .tc := ⟨.hbm, 220, rfl⟩
abbrev main_v188 : Ref sig .tc := ⟨.hbm, 221, rfl⟩
abbrev main_v189 : Ref sig .tc := ⟨.hbm, 222, rfl⟩
abbrev main_v190 : Ref sig .tc := ⟨.hbm, 223, rfl⟩
abbrev main_v191 : Ref sig .tc := ⟨.hbm, 224, rfl⟩
abbrev main_v192 : Ref sig .tc := ⟨.hbm, 225, rfl⟩
abbrev main_v193 : Ref sig .tc := ⟨.hbm, 226, rfl⟩
abbrev main_v194 : Ref sig .tc := ⟨.hbm, 227, rfl⟩
abbrev main_v195 : Ref sig .tc := ⟨.hbm, 228, rfl⟩
abbrev main_v196 : Ref sig .tc := ⟨.hbm, 229, rfl⟩
abbrev main_v197 : Ref sig .tc := ⟨.hbm, 230, rfl⟩
abbrev main_v198 : Ref sig .tc := ⟨.hbm, 231, rfl⟩
abbrev main_v199 : Ref sig .tc := ⟨.hbm, 232, rfl⟩
abbrev main_v200 : Ref sig .tc := ⟨.hbm, 233, rfl⟩
abbrev main_v201 : Ref sig .tc := ⟨.hbm, 234, rfl⟩
abbrev main_v202 : Ref sig .tc := ⟨.hbm, 235, rfl⟩
abbrev main_v203 : Ref sig .tc := ⟨.hbm, 236, rfl⟩

abbrev nD : Nat := 1
abbrev τ : Topo := Topo.v7x

variable {F : FTy → Type} [FloatOps F]
-- ==== Kernel5.lean ====
abbrev S8x1024 : Shape := ⟨2, ![8, 1024]⟩
abbrev S2x1024x6144 : Shape := ⟨3, ![2, 1024, 6144]⟩
abbrev S2x6144 : Shape := ⟨2, ![2, 6144]⟩
abbrev S2x1x6144 : Shape := ⟨3, ![2, 1, 6144]⟩
abbrev S2x8x6144 : Shape := ⟨3, ![2, 8, 6144]⟩
abbrev S1x1024x1536 : Shape := ⟨3, ![1, 1024, 1536]⟩
abbrev S1x1x1536 : Shape := ⟨3, ![1, 1, 1536]⟩
abbrev S1x8x1536 : Shape := ⟨3, ![1, 8, 1536]⟩
abbrev S1024x1536 : Shape := ⟨2, ![1024, 1536]⟩
abbrev S8x1536 : Shape := ⟨2, ![8, 1536]⟩
abbrev S1x1536 : Shape := ⟨2, ![1, 1536]⟩

abbrev nBuf : Space → Nat
  | .hbm => 5
  | .vmem => 7
  | .smem => 0
  | _ => 0

abbrev bufTy : (tb : Table) → Fin (tcTables nBuf tb) → BufTy
  | .hbm, ⟨0, _⟩ => ⟨S8x1024, .f32⟩
  | .hbm, ⟨1, _⟩ => ⟨S2x1024x6144, .f32⟩
  | .hbm, ⟨2, _⟩ => ⟨S2x6144, .f32⟩
  | .hbm, ⟨3, _⟩ => ⟨S2x1x6144, .f32⟩
  | .hbm, ⟨4, _⟩ => ⟨S2x8x6144, .f32⟩
  | .local _ .vmem, ⟨0, _⟩ => ⟨S8x1024, .f32⟩
  | .local _ .vmem, ⟨1, _⟩ => ⟨S1x1024x1536, .f32⟩
  | .local _ .vmem, ⟨2, _⟩ => ⟨S1x1024x1536, .f32⟩
  | .local _ .vmem, ⟨3, _⟩ => ⟨S1x1x1536, .f32⟩
  | .local _ .vmem, ⟨4, _⟩ => ⟨S1x1x1536, .f32⟩
  | .local _ .vmem, ⟨5, _⟩ => ⟨S1x8x1536, .f32⟩
  | .local _ .vmem, ⟨6, _⟩ => ⟨S1x8x1536, .f32⟩
  | _, _ => ⟨S8x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4
abbrev cc0_sem3_0 : DmaSem sig := 5
abbrev cc0_sem3_1 : DmaSem sig := 6

abbrev nD : Nat := 1
abbrev τ : Topo := Topo.v7x

variable {F : FTy → Type} [FloatOps F]

abbrev grid0 : Pipeline.Grid := ⟨2, ![2, 4], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

abbrev stage0_0 : Fin 1 → Memref sig .tc .vmem S8x1024 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false, false]

abbrev stage0_1 : Fin 2 → Memref sig .tc .vmem S1x1024x1536 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x1x1536 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x8x1536 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]
-- ==== Reference5Ideal.lean ====
abbrev S8x1024 : Shape := ⟨2, ![8, 1024]⟩
abbrev S2x1024x6144 : Shape := ⟨3, ![2, 1024, 6144]⟩
abbrev S2x6144 : Shape := ⟨2, ![2, 6144]⟩
abbrev S_ : Shape := ⟨0, ![]⟩
abbrev S8x2x6144 : Shape := ⟨3, ![8, 2, 6144]⟩
abbrev S2x8x6144 : Shape := ⟨3, ![2, 8, 6144]⟩
abbrev S2x1x6144 : Shape := ⟨3, ![2, 1, 6144]⟩

abbrev nBuf : Space → Nat
  | .hbm => 17
  | .vmem => 0
  | .smem => 0
  | _ => 0

abbrev bufTy : (tb : Table) → Fin (tcTables nBuf tb) → BufTy
  | .hbm, ⟨0, _⟩ => ⟨S8x1024, .f32⟩
  | .hbm, ⟨1, _⟩ => ⟨S2x1024x6144, .f32⟩
  | .hbm, ⟨2, _⟩ => ⟨S2x6144, .f32⟩
  | .hbm, ⟨3, _⟩ => ⟨S8x1024, .f32⟩
  | .hbm, ⟨4, _⟩ => ⟨S8x1024, .f32⟩
  | .hbm, ⟨5, _⟩ => ⟨S_, .f32⟩
  | .hbm, ⟨6, _⟩ => ⟨S8x1024, .f32⟩
  | .hbm, ⟨7, _⟩ => ⟨S8x1024, .f32⟩
  | .hbm, ⟨8, _⟩ => ⟨S_, .f32⟩
  | .hbm, ⟨9, _⟩ => ⟨S8x1024, .f32⟩
  | .hbm, ⟨10, _⟩ => ⟨S8x1024, .f32⟩
  | .hbm, ⟨11, _⟩ => ⟨S8x1024, .f32⟩
  | .hbm, ⟨12, _⟩ => ⟨S8x2x6144, .f32⟩
  | .hbm, ⟨13, _⟩ => ⟨S2x8x6144, .f32⟩
  | .hbm, ⟨14, _⟩ => ⟨S2x1x6144, .f32⟩
  | .hbm, ⟨15, _⟩ => ⟨S2x8x6144, .f32⟩
  | .hbm, ⟨16, _⟩ => ⟨S2x8x6144, .f32⟩
  | _, _ => ⟨S8x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_call0_v0 : Ref sig .tc := ⟨.hbm, 3, rfl⟩
abbrev main_call0_v1 : Ref sig .tc := ⟨.hbm, 4, rfl⟩
abbrev main_call0_cst : Ref sig .tc := ⟨.hbm, 5, rfl⟩
abbrev main_call0_v2 : Ref sig .tc := ⟨.hbm, 6, rfl⟩
abbrev main_call0_v3 : Ref sig .tc := ⟨.hbm, 7, rfl⟩
abbrev main_call0_cst_0 : Ref sig .tc := ⟨.hbm, 8, rfl⟩
abbrev main_call0_v4 : Ref sig .tc := ⟨.hbm, 9, rfl⟩
abbrev main_call0_v5 : Ref sig .tc := ⟨.hbm, 10, rfl⟩
abbrev main_v0 : Ref sig .tc := ⟨.hbm, 11, rfl⟩
abbrev main_v1 : Ref sig .tc := ⟨.hbm, 12, rfl⟩
abbrev main_v2 : Ref sig .tc := ⟨.hbm, 13, rfl⟩
abbrev main_v3 : Ref sig .tc := ⟨.hbm, 14, rfl⟩
abbrev main_v4 : Ref sig .tc := ⟨.hbm, 15, rfl⟩
abbrev main_v5 : Ref sig .tc := ⟨.hbm, 16, rfl⟩

abbrev nD : Nat := 1
abbrev τ : Topo := Topo.v7x

variable {F : FTy → Type} [FloatOps F]
-- ==== Kernel6.lean ====
abbrev S8x8192 : Shape := ⟨2, ![8, 8192]⟩
abbrev S8 : Shape := ⟨1, ![8]⟩
abbrev S_ : Shape := ⟨0, ![]⟩
abbrev S1024x1024 : Shape := ⟨2, ![1024, 1024]⟩
abbrev S1x65536 : Shape := ⟨2, ![1, 65536]⟩
abbrev S8x1 : Shape := ⟨2, ![8, 1]⟩
abbrev S65536x32 : Shape := ⟨2, ![65536, 32]⟩
abbrev S1x1024 : Shape := ⟨2, ![1, 1024]⟩
abbrev S1024x32 : Shape := ⟨2, ![1024, 32]⟩
abbrev S8x1024 : Shape := ⟨2, ![8, 1024]⟩
abbrev S32x1024 : Shape := ⟨2, ![32, 1024]⟩

abbrev nBuf : Space → Nat
  | .hbm => 23
  | .vmem => 6
  | .smem => 0
  | _ => 0

abbrev bufTy : (tb : Table) → Fin (tcTables nBuf tb) → BufTy
  | .hbm, ⟨0, _⟩ => ⟨S8x8192, .i32⟩
  | .hbm, ⟨1, _⟩ => ⟨S8, .f32⟩
  | .hbm, ⟨2, _⟩ => ⟨S_, .f32⟩
  | .hbm, ⟨3, _⟩ => ⟨S8, .f32⟩
  | .hbm, ⟨4, _⟩ => ⟨S8, .f32⟩
  | .hbm, ⟨5, _⟩ => ⟨S_, .f32⟩
  | .hbm, ⟨6, _⟩ => ⟨S8, .f32⟩
  | .hbm, ⟨7, _⟩ => ⟨S8, .f32⟩
  | .hbm, ⟨8, _⟩ => ⟨S8, .f32⟩
  | .hbm, ⟨9, _⟩ => ⟨S_, .f32⟩
  | .hbm, ⟨10, _⟩ => ⟨S8, .f32⟩
  | .hbm, ⟨11, _⟩ => ⟨S8, .f32⟩
  | .hbm, ⟨12, _⟩ => ⟨S_, .f32⟩
  | .hbm, ⟨13, _⟩ => ⟨S8, .f32⟩
  | .hbm, ⟨14, _⟩ => ⟨S8, .f32⟩
  | .hbm, ⟨15, _⟩ => ⟨S1024x1024, .i32⟩
  | .hbm, ⟨16, _⟩ => ⟨S1024x1024, .i32⟩
  | .hbm, ⟨17, _⟩ => ⟨S1024x1024, .i1⟩
  | .hbm, ⟨18, _⟩ => ⟨S1024x1024, .f32⟩
  | .hbm, ⟨19, _⟩ => ⟨S1024x1024, .bf16⟩
  | .hbm, ⟨20, _⟩ => ⟨S1x65536, .i32⟩
  | .hbm, ⟨21, _⟩ => ⟨S8x1, .f32⟩
  | .hbm, ⟨22, _⟩ => ⟨S65536x32, .bf16⟩
  | .local _ .vmem, ⟨0, _⟩ => ⟨S1x1024, .i32⟩
  | .local _ .vmem, ⟨1, _⟩ => ⟨S1x1024, .i32⟩
  | .local _ .vmem, ⟨2, _⟩ => ⟨S8x1, .f32⟩
  | .local _ .vmem, ⟨3, _⟩ => ⟨S1024x1024, .bf16⟩
  | .local _ .vmem, ⟨4, _⟩ => ⟨S1024x32, .bf16⟩
  | .local _ .vmem, ⟨5, _⟩ => ⟨S1024x32, .bf16⟩
  | _, _ => ⟨S8x8192, .i32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_v0 : Ref sig .tc := ⟨.hbm, 1, rfl⟩
abbrev main_cst : Ref sig .tc := ⟨.hbm, 2, rfl⟩
abbrev main_v1 : Ref sig .tc := ⟨.hbm, 3, rfl⟩
abbrev main_v2 : Ref sig .tc := ⟨.hbm, 4, rfl⟩
abbrev main_cst_0 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_cst_1 : Ref sig .tc := ⟨.hbm, 9, rfl⟩
abbrev main_v6 : Ref sig .tc := ⟨.hbm, 10, rfl⟩
abbrev main_v7 : Ref sig .tc := ⟨.hbm, 11, rfl⟩
abbrev main_cst_2 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩
abbrev main_v14 : Ref sig .tc := ⟨.hbm, 19, rfl⟩
abbrev main_v15 : Ref sig .tc := ⟨.hbm, 20, rfl⟩
abbrev main_v16 : Ref sig .tc := ⟨.hbm, 21, rfl⟩
abbrev main_v17 : Ref sig .tc := ⟨.hbm, 22, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5

abbrev nD : Nat := 1
abbrev τ : Topo := Topo.v7x

variable {F : FTy → Type} [FloatOps F]

abbrev grid0 : Pipeline.Grid := ⟨1, ![64], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S1x1024 .i32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S8x1 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1024x1024 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S1024x32 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]
-- ==== Reference6Ideal.lean ====
abbrev S8x8192 : Shape := ⟨2, ![8, 8192]⟩
abbrev S8 : Shape := ⟨1, ![8]⟩
abbrev S_ : Shape := ⟨0, ![]⟩
abbrev S8x8192x1 : Shape := ⟨3, ![8, 8192, 1]⟩
abbrev S1x1x8 : Shape := ⟨3, ![1, 1, 8]⟩
abbrev S8x8192x8 : Shape := ⟨3, ![8, 8192, 8]⟩
abbrev S8x8192x32 : Shape := ⟨3, ![8, 8192, 32]⟩
abbrev S65536x32 : Shape := ⟨2, ![65536, 32]⟩

abbrev nBuf : Space → Nat
  | .hbm => 28
  | .vmem => 0
  | .smem => 0
  | _ => 0

abbrev bufTy : (tb : Table) → Fin (tcTables nBuf tb) → BufTy
  | .hbm, ⟨0, _⟩ => ⟨S8x8192, .i32⟩
  | .hbm, ⟨1, _⟩ => ⟨S8, .f32⟩
  | .hbm, ⟨2, _⟩ => ⟨S_, .f32⟩
  | .hbm, ⟨3, _⟩ => ⟨S8, .f32⟩
  | .hbm, ⟨4, _⟩ => ⟨S8, .f32⟩
  | .hbm, ⟨5, _⟩ => ⟨S_, .f32⟩
  | .hbm, ⟨6, _⟩ => ⟨S8, .f32⟩
  | .hbm, ⟨7, _⟩ => ⟨S8, .f32⟩
  | .hbm, ⟨8, _⟩ => ⟨S8, .f32⟩
  | .hbm, ⟨9, _⟩ => ⟨S_, .f32⟩
  | .hbm, ⟨10, _⟩ => ⟨S8, .f32⟩
  | .hbm, ⟨11, _⟩ => ⟨S8, .f32⟩
  | .hbm, ⟨12, _⟩ => ⟨S_, .f32⟩
  | .hbm, ⟨13, _⟩ => ⟨S8, .f32⟩
  | .hbm, ⟨14, _⟩ => ⟨S8, .f32⟩
  | .hbm, ⟨15, _⟩ => ⟨S8x8192, .f32⟩
  | .hbm, ⟨16, _⟩ => ⟨S8x8192x1, .f32⟩
  | .hbm, ⟨17, _⟩ => ⟨S1x1x8, .f32⟩
  | .hbm, ⟨18, _⟩ => ⟨S8x8192x8, .f32⟩
  | .hbm, ⟨19, _⟩ => ⟨S8x8192x8, .f32⟩
  | .hbm, ⟨20, _⟩ => ⟨S8x8192x8, .f32⟩
  | .hbm, ⟨21, _⟩ => ⟨S8x8192x8, .f32⟩
  | .hbm, ⟨22, _⟩ => ⟨S8x8192x8, .f32⟩
  | .hbm, ⟨23, _⟩ => ⟨S_, .f32⟩
  | .hbm, ⟨24, _⟩ => ⟨S8x8192x8, .f32⟩
  | .hbm, ⟨25, _⟩ => ⟨S8x8192x32, .f32⟩
  | .hbm, ⟨26, _⟩ => ⟨S65536x32, .f32⟩
  | .hbm, ⟨27, _⟩ => ⟨S65536x32, .bf16⟩
  | _, _ => ⟨S8x8192, .i32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_v0 : Ref sig .tc := ⟨.hbm, 1, rfl⟩
abbrev main_cst : Ref sig .tc := ⟨.hbm, 2, rfl⟩
abbrev main_v1 : Ref sig .tc := ⟨.hbm, 3, rfl⟩
abbrev main_v2 : Ref sig .tc := ⟨.hbm, 4, rfl⟩
abbrev main_cst_0 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_cst_1 : Ref sig .tc := ⟨.hbm, 9, rfl⟩
abbrev main_v6 : Ref sig .tc := ⟨.hbm, 10, rfl⟩
abbrev main_v7 : Ref sig .tc := ⟨.hbm, 11, rfl⟩
abbrev main_cst_2 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩
abbrev main_v14 : Ref sig .tc := ⟨.hbm, 19, rfl⟩
abbrev main_v15 : Ref sig .tc := ⟨.hbm, 20, rfl⟩
abbrev main_v16 : Ref sig .tc := ⟨.hbm, 21, rfl⟩
abbrev main_v17 : Ref sig .tc := ⟨.hbm, 22, rfl⟩
abbrev main_cst_3 : Ref sig .tc := ⟨.hbm, 23, rfl⟩
abbrev main_v18 : Ref sig .tc := ⟨.hbm, 24, rfl⟩
abbrev main_v19 : Ref sig .tc := ⟨.hbm, 25, rfl⟩
abbrev main_v20 : Ref sig .tc := ⟨.hbm, 26, rfl⟩
abbrev main_v21 : Ref sig .tc := ⟨.hbm, 27, rfl⟩

abbrev nD : Nat := 1
abbrev τ : Topo := Topo.v7x

variable {F : FTy → Type} [FloatOps F]
-- ==== Proof.Attn.Row.lean ====
module

public import Idealize.ShloMosaic.PureOps.Ideal.Laws

@[expose] public section

noncomputable section

/-! One row of the sliding-window attention, as the tiled program computes it and as the plain one does, over the extended
reals, and the equation between the two. No program is named here. -/

namespace Cert.Attn.Row

open Idealize.ShloMosaic

/-- A finite extended real: neither infinity. -/
def Fin' (x : EReal) : Prop := ∃ y : ℝ, x = (y : EReal)

theorem Fin'.mul {x y : EReal} (hx : Fin' x) (hy : Fin' y) : Fin' (x * y) := by
  obtain ⟨a, rfl⟩ := hx; obtain ⟨b, rfl⟩ := hy; exact ⟨a * b, (EReal.coe_mul a b).symm⟩

theorem Fin'.add {x y : EReal} (hx : Fin' x) (hy : Fin' y) : Fin' (x + y) := by
  obtain ⟨a, rfl⟩ := hx; obtain ⟨b, rfl⟩ := hy; exact ⟨a + b, (EReal.coe_add a b).symm⟩

theorem Fin'.sum {ι : Type} (s : Finset ι) (f : ι → EReal) (h : ∀ i, Fin' (f i)) : Fin' (∑ i ∈ s, f i) := by
  classical
  induction s using Finset.induction_on with
  | empty => exact ⟨0, by simp⟩
  | insert a s ha ih => rw [Finset.sum_insert ha]; exact (h a).add ih

theorem Fin'.ne_top {x : EReal} (hx : Fin' x) : x ≠ ⊤ := by obtain ⟨a, rfl⟩ := hx; exact EReal.coe_ne_top a

/-- A number that is neither infinity is finite. -/
theorem Fin'.of_abs {x : EReal} (h : max x (-x) < ⊤) : Fin' x := by
  induction x with
  | bot => simp at h
  | top => simp at h
  | coe a => exact ⟨a, rfl⟩

/-- The folded score of column `k` of row `r`: the earlier block's key where `r < k`, the block's own elsewhere; `first`
    says that there is no earlier block. -/
def score (first : Bool) (r : Fin 128) (q : Fin 64 → EReal) (kp kc : Fin 128 → Fin 64 → EReal) (k : Fin 128) : EReal :=
  if r < k then (if first then ⊥ else ∑ e, q e * kp k e) else ∑ e, q e * kc k e

/-- The largest of a row's scores and its sink. -/
def top {n : Nat} (s : Fin n → EReal) (sink : EReal) : EReal := max (Finset.univ.fold max ⊥ s) sink

/-- A row's denominator. -/
def denom {n : Nat} (s : Fin n → EReal) (sink : EReal) : EReal :=
  (∑ k, Ideal.exp (s k - top s sink)) + Ideal.exp (sink - top s sink)

/-- What the tiled program computes for one row and one column of the values, from the folded scores. -/
def kernelRow (r : Fin 128) (s : Fin 128 → EReal) (vp vc : Fin 128 → EReal) (sink : EReal) : EReal :=
  ((∑ k, (if r < k then Ideal.exp (s k - top s sink) else 0) * vp k)
    + ∑ k, (if r < k then 0 else Ideal.exp (s k - top s sink)) * vc k) * Ideal.div 1 (denom s sink)

/-- Whether key `kk` of the band of 256 is in the window of row `r`. -/
def Allowed (first : Bool) (r : Fin 128) (kk : Fin 256) : Prop :=
  r.val < kk.val ∧ kk.val ≤ r.val + 128 ∧ (first = false ∨ 128 ≤ kk.val)

instance (first : Bool) (r : Fin 128) (kk : Fin 256) : Decidable (Allowed first r kk) := by
  unfold Allowed; infer_instance

/-- The plain program's score of key `kk` of the band. -/
def bandScore (first : Bool) (r : Fin 128) (c : EReal) (q : Fin 64 → EReal) (kb : Fin 256 → Fin 64 → EReal)
    (kk : Fin 256) : EReal :=
  if Allowed first r kk then (∑ e, q e * kb kk e) * c else ⊥

/-- What the plain program computes for one row and one column of the values. -/
def refRow (s : Fin 256 → EReal) (vb : Fin 256 → EReal) (sink : EReal) : EReal :=
  Ideal.div (∑ kk, Ideal.exp (s kk - top s sink) * vb kk) (denom s sink)

theorem exp_bot_sub (m : EReal) : Ideal.exp (⊥ - m) = 0 := by
  rw [EReal.bot_sub]; rfl

theorem exp_nonneg (x : EReal) : 0 ≤ Ideal.exp x := by
  induction x with
  | bot => exact le_refl _
  | top => exact le_top
  | coe a => exact EReal.coe_nonneg.mpr (Real.exp_pos a).le

theorem fold_max_eq_sup {n : Nat} (s : Fin n → EReal) : Finset.univ.fold max ⊥ s = Finset.univ.sup s := rfl

/-- With finite scores (or absent ones) and a finite sink, the denominator is not zero. -/
theorem denom_ne_zero {n : Nat} (s : Fin n → EReal) (sink : EReal) (hs : ∀ k, s k ≠ ⊤) (hk : Fin' sink) :
    denom s sink ≠ 0 := by
  have htop : top s sink ≠ ⊤ := by
    unfold top
    rw [fold_max_eq_sup]
    refine ne_of_lt (max_lt ?_ (lt_top_iff_ne_top.mpr hk.ne_top))
    rw [Finset.sup_lt_iff (bot_lt_top)]
    exact fun k _ => lt_top_iff_ne_top.mpr (hs k)
  have hbot : top s sink ≠ ⊥ := by
    obtain ⟨y, rfl⟩ := hk
    have : (y : EReal) ≤ top s y := le_max_right _ _
    intro h; rw [h] at this; exact absurd (le_bot_iff.mp this) (EReal.coe_ne_bot y)
  obtain ⟨y, rfl⟩ := hk
  have h1 : 0 < Ideal.exp ((y : EReal) - top s y) := by
    lift top s y to ℝ using ⟨htop, hbot⟩ with t
    rw [← EReal.coe_sub]
    exact EReal.coe_pos.mpr (Real.exp_pos _)
  unfold denom
  exact ne_of_gt (lt_of_lt_of_le h1 (le_add_of_nonneg_left (Finset.sum_nonneg fun k _ => exp_nonneg _)))

/-- A sum over the band is the sum over its earlier half and over its later half. -/
theorem sum_band (f : Fin 256 → EReal) :
    ∑ kk, f kk = (∑ k : Fin 128, f ⟨k.val, by omega⟩) + ∑ k : Fin 128, f ⟨128 + k.val, by omega⟩ :=
  Fin.sum_univ_add (a := 128) (b := 128) f

/-- A finite sum of real numbers, as extended reals. -/
theorem coe_sum {n : Nat} (g : Fin n → ℝ) : (∑ i, (g i : EReal)) = ((∑ i, g i : ℝ) : EReal) :=
  (map_sum (⟨⟨Real.toEReal, EReal.coe_zero⟩, EReal.coe_add⟩ : ℝ →+ EReal) g Finset.univ).symm

/-- Multiplying by a finite number goes through a finite sum of finite numbers. -/
theorem sum_mul_coe {n : Nat} (f : Fin n → EReal) (c : ℝ) (hf : ∀ i, Fin' (f i)) :
    (∑ i, f i) * (c : EReal) = ∑ i, f i * (c : EReal) := by
  choose g hg using hf
  simp only [hg, ← EReal.coe_mul]
  rw [coe_sum, coe_sum, ← EReal.coe_mul, Finset.sum_mul]

/-- THE EQUATION of one row: the tiled program's row is the plain program's, when the queries, keys and sink are finite. -/
theorem kernelRow_eq_refRow (first : Bool) (r : Fin 128) (c : ℝ) (q q' : Fin 64 → EReal)
    (kp kc : Fin 128 → Fin 64 → EReal) (kb : Fin 256 → Fin 64 → EReal) (vp vc : Fin 128 → EReal) (vb : Fin 256 → EReal)
    (sink : EReal) (hq' : ∀ e, q' e = q e * (c : EReal))
    (hkp : first = false → ∀ k e, kb ⟨k.val, by omega⟩ e = kp k e) (hkc : ∀ k e, kb ⟨128 + k.val, by omega⟩ e = kc k e)
    (hvp : first = false → ∀ k, vb ⟨k.val, by omega⟩ = vp k) (hvc : ∀ k, vb ⟨128 + k.val, by omega⟩ = vc k)
    (fq : ∀ e, Fin' (q e)) (fk : ∀ k e, Fin' (kb k e)) (fs : Fin' sink) :
    kernelRow r (score first r q' kp kc) vp vc sink = refRow (bandScore first r c q kb) vb sink := by
  -- the scores, where both have one
  have hsum : ∀ kk, (∑ e, q e * kb kk e) * (c : EReal) = ∑ e, q' e * kb kk e := by
    intro kk
    rw [sum_mul_coe _ c fun e => (fq e).mul (fk kk e)]
    refine Finset.sum_congr rfl fun e _ => ?_
    rw [hq', mul_assoc, mul_assoc, mul_comm (kb kk e)]
  have hp : ∀ k : Fin 128, bandScore first r c q kb ⟨k.val, by omega⟩
      = if r < k then score first r q' kp kc k else ⊥ := by
    intro k
    unfold bandScore score
    rw [hsum]
    by_cases hk : r < k
    · have hk' : r.val < k.val := hk
      cases first with
      | true => rw [if_neg (fun h => by have := h.2.2; simp only [Bool.true_eq_false, false_or] at this; omega), if_pos hk, if_pos hk, if_pos rfl]
      | false =>
        rw [if_pos ⟨hk', by simp only []; omega, Or.inl rfl⟩, if_pos hk, if_pos hk, if_neg (by decide)]
        simp only [hkp rfl]
    · have hk' : ¬ r.val < k.val := hk
      rw [if_neg (fun h => hk' h.1), if_neg hk]
  have hcur : ∀ k : Fin 128, bandScore first r c q kb ⟨128 + k.val, by omega⟩
      = if r < k then ⊥ else score first r q' kp kc k := by
    intro k
    unfold bandScore score
    rw [hsum]
    by_cases hk : r < k
    · have hk' : r.val < k.val := hk
      rw [if_neg (fun h => by have := h.2.1; simp only [] at this; omega), if_pos hk]
    · have hk' : ¬ r.val < k.val := hk
      rw [if_pos ⟨by simp only []; omega, by simp only []; omega, Or.inr (by simp only []; omega)⟩, if_neg hk, if_neg hk]
      simp only [hkc]
  -- the largest
  have htop : top (bandScore first r c q kb) sink = top (score first r q' kp kc) sink := by
    unfold top
    rw [fold_max_eq_sup, fold_max_eq_sup]
    congr 1
    apply le_antisymm
    · refine Finset.sup_le fun kk _ => ?_
      by_cases h : kk.val < 128
      · have := hp ⟨kk.val, h⟩
        simp only [Fin.eta] at this
        rw [this]; split
        · exact Finset.le_sup (f := score first r q' kp kc) (Finset.mem_univ _)
        · exact bot_le
      · have := hcur ⟨kk.val - 128, by omega⟩
        rw [show (⟨128 + (⟨kk.val - 128, by omega⟩ : Fin 128).val, by omega⟩ : Fin 256) = kk from
          Fin.ext (by simp only []; omega)] at this
        rw [this]; split
        · exact bot_le
        · exact Finset.le_sup (f := score first r q' kp kc) (Finset.mem_univ _)
    · refine Finset.sup_le fun k _ => ?_
      by_cases h : r < k
      · have := hp k
        rw [if_pos h] at this
        rw [← this]; exact Finset.le_sup (f := bandScore first r c q kb) (Finset.mem_univ _)
      · have := hcur k
        rw [if_neg h] at this
        rw [← this]; exact Finset.le_sup (f := bandScore first r c q kb) (Finset.mem_univ _)
  -- the denominators
  have hden : denom (bandScore first r c q kb) sink = denom (score first r q' kp kc) sink := by
    unfold denom
    rw [htop, sum_band, ← Finset.sum_add_distrib]
    congr 1
    refine Finset.sum_congr rfl fun k _ => ?_
    rw [hp, hcur]
    by_cases h : r < k
    · simp only [if_pos h, exp_bot_sub, add_zero]
    · simp only [if_neg h, exp_bot_sub, zero_add]
  have hne : denom (score first r q' kp kc) sink ≠ 0 := by
    rw [← hden]
    refine denom_ne_zero _ _ (fun kk => ?_) fs
    unfold bandScore
    split
    · exact ((Fin'.sum _ _ fun e => (fq e).mul (fk kk e)).mul ⟨c, rfl⟩).ne_top
    · exact bot_ne_top
  unfold kernelRow refRow
  rw [hden, htop, sum_band]
  unfold Ideal.div
  rw [if_neg hne, if_neg hne, one_mul]
  congr 2
  · refine Finset.sum_congr rfl fun k _ => ?_
    rw [hp]
    by_cases h : r < k
    · simp only [if_pos h]
      cases first with
      | true =>
        have : score true r q' kp kc k = ⊥ := by unfold score; rw [if_pos h, if_pos rfl]
        rw [this, exp_bot_sub, zero_mul, zero_mul]
      | false => rw [hvp rfl]
    · simp only [if_neg h, exp_bot_sub, zero_mul]
  · refine Finset.sum_congr rfl fun k _ => ?_
    rw [hcur, hvc]
    by_cases h : r < k
    · simp only [if_pos h, exp_bot_sub, zero_mul]
    · simp only [if_neg h]

end Cert.Attn.Row
end
-- ==== Proof.Attn.Ref.lean ====
module

public import proofs.«01_k».proof.Proof.Attn.Row
public import proofs.«01_k».proof.Proof.Gen.ReferenceIdeal.Read
public import Idealize.ShloMosaic.Lib.Pointwise

@[expose] public section
set_option maxRecDepth 16384

noncomputable section

/-! What the plain attention computes, entry by entry. -/

namespace Cert.Attn.Ref

open Cert.ReferenceIdeal Cert.ReferenceIdeal.Gen Cert.ReferenceIdeal.Read Idealize.ShloMosaic Idealize.ShloMosaic.TcCoe Idealize.ShloMosaic.Tactic
open Idealize.SL Idealize.SL.Sem

theorem and_bits (a b : Bool) : IntOp.andi (BitVec.ofBool a) (BitVec.ofBool b) = BitVec.ofBool (a && b) := by
  revert a b; decide

theorem or_bits (a b : Bool) : IntOp.ori (BitVec.ofBool a) (BitVec.ofBool b) = BitVec.ofBool (a || b) := by
  revert a b; decide

/-- The distance from a query to a key, as words: within the window. -/
theorem win_word (r : Fin 128) (kk : Fin 256) :
    IntOp.andi
        (IntOp.cmpi CmpIPredicate.sge (IntOp.subi (IntOp.addi (BitVec.ofNat 32 r.val) 128#32) (BitVec.ofNat 32 kk.val)) 0#32)
        (IntOp.cmpi CmpIPredicate.slt (IntOp.subi (IntOp.addi (BitVec.ofNat 32 r.val) 128#32) (BitVec.ofNat 32 kk.val)) 128#32)
    = BitVec.ofBool (decide (r.val < kk.val) && decide (kk.val ≤ r.val + 128)) := by
  revert r kk
  decide +kernel

/-- Not the first block, or a key of the block itself, as words. -/
theorem past_word (n : Fin 64) (kk : Fin 256) :
    IntOp.ori (IntOp.cmpi CmpIPredicate.sgt (BitVec.ofNat 32 n.val) 0#32)
        (IntOp.cmpi CmpIPredicate.sge (BitVec.ofNat 32 kk.val) 128#32)
    = BitVec.ofBool (!decide (n.val = 0) || decide (128 ≤ kk.val)) := by
  revert n kk
  decide +kernel

/-- The window's mask at a query and a key of the band. -/
theorem mask_apply (n : Fin 64) (r : Fin 128) (kk : Fin 256) :
    (val_main_v40 (F := Ideal)) (ix3 n r kk) = BitVec.ofBool (decide (Row.Allowed (decide (n.val = 0)) r kk)) := by
  pointwise [val_main_v40, val_main_v38, val_main_v39, val_main_v37, val_main_v36, val_main_v35, val_main_v34, val_main_v33, val_main_v32, val_main_v31, val_main_v30, val_main_v29, val_main_v28, val_main_v27, val_main_v26, val_main_v25, val_main_v24, val_main_v23, val_main_v22, val_main_v21, val_main_v20, val_main_v19, val_main_v18, val_main_v17, val_main_v16, val_main_v15, val_main_v14, val_main_v13, val_main_c_1, val_main_c_2, val_main_c_3, val_main_c_4, val_main_c_5]
  have h1 := win_word r kk
  have h2 := past_word n kk
  rw [h1, h2]
  unfold Row.Allowed
  rw [and_bits]
  congr 1
  by_cases h0 : n.val = 0 <;> by_cases ha : r.val < kk.val <;> by_cases hb : kk.val ≤ r.val + 128 <;> by_cases hc : 128 ≤ kk.val <;>
    simp [h0, ha, hb, hc]

/-- The padding's zero. -/
theorem sitofp_zero : (FloatOps.sitofp FTy.f32 (0#32) : Ideal .f32) = (0 : EReal) := by
  show (((0#32 : BitVec 32).toInt : ℝ) : EReal) = 0
  simp

/-- The keys' band at an entry: block `n` and the one before it, zeros before the first. -/
theorem band_apply (A : Vec Ideal S8x8192x2x64 .f32) (b : Fin 8) (n : Fin 64) (kk : Fin 256) (h : Fin 2) (e : Fin 64) :
    (val_main_v4 (F := Ideal) A) (ix5 b n kk h e)
    = if h1 : kk.val < 128 then
        (if h0 : n.val = 0 then 0 else A (ix4 b ⟨(n.val - 1) * 128 + kk.val, by omega⟩ h e))
      else A (ix4 b ⟨n.val * 128 + (kk.val - 128), by omega⟩ h e) := by
  pointwise [val_main_v4, val_main_v3, val_main_v2, val_main_v1, val_main_call0_v0, val_main_c]
  by_cases h1 : kk.val < 128
  · simp only [h1, and_true, dif_pos]
    by_cases h0 : n.val = 0
    · have hc : ¬(1 ≤ n.val ∧ n.val - 1 < 63) := by omega
      simp only [h0, hc, dif_pos, dif_neg, not_false_eq_true]
      exact sitofp_zero
    · have hn := n.isLt
      have hc : 1 ≤ n.val ∧ n.val - 1 < 63 := by omega
      simp only [h0, hc, dif_pos, dif_neg, not_false_eq_true, and_self]
  · simp only [h1, dif_neg, not_false_eq_true]

/-- The values' band is read as the keys' is. -/
theorem vband_apply (A : Vec Ideal S8x8192x2x64 .f32) : val_main_v8 (F := Ideal) A = val_main_v4 (F := Ideal) A := rfl

/-- The queries at an entry. -/
theorem q_apply (A : Vec Ideal S8x8192x8x64 .f32) (b : Fin 8) (n : Fin 64) (r : Fin 128) (h : Fin 2) (g : Fin 4) (e : Fin 64) :
    (val_main_v0 (F := Ideal) A) (ix6 b n r h g e) = A (ix4 b ⟨n.val * 128 + r.val, by omega⟩ ⟨h.val * 4 + g.val, by omega⟩ e) := by
  pointwise [val_main_v0]

/-- A key entry of the band. -/
def band (A : Vec Ideal S8x8192x2x64 .f32) (b : Fin 8) (n : Fin 64) (h : Fin 2) (kk : Fin 256) (e : Fin 64) : EReal :=
  if h1 : kk.val < 128 then
    (if h0 : n.val = 0 then 0 else A (ix4 b ⟨(n.val - 1) * 128 + kk.val, by omega⟩ h e))
  else A (ix4 b ⟨n.val * 128 + (kk.val - 128), by omega⟩ h e)

/-- A query entry. -/
def query (A : Vec Ideal S8x8192x8x64 .f32) (b : Fin 8) (n : Fin 64) (r : Fin 128) (h : Fin 2) (g : Fin 4) (e : Fin 64) : EReal :=
  A (ix4 b ⟨n.val * 128 + r.val, by omega⟩ ⟨h.val * 4 + g.val, by omega⟩ e)

theorem sel_ofBool {α : Type} (b : Bool) (x y : α) : Scalar.select (BitVec.ofBool b) x y = if b then x else y := by
  cases b <;> rfl

theorem ofBits_neg_inf : Ideal.ofBits .f32 0xFF800000#32 = ⊥ := by
  unfold Ideal.ofBits Ideal.ieee; decide

/-- The masked scores at an entry. -/
theorem v42_apply (x0 : Vec Ideal S8x8192x8x64 .f32) (x1 : Vec Ideal S8x8192x2x64 .f32) (b : Fin 8) (n : Fin 64) (r : Fin 128) (h : Fin 2) (g : Fin 4) (kk : Fin 256) :
    (val_main_v42 (F := Ideal) x0 x1) (ix6 b n h g r kk)
    = Row.bandScore (decide (n.val = 0)) r (Ideal.ofBits .f32 0x3E000000#32) (query x0 b n r h g) (band x1 b n h) kk := by
  pointwise [val_main_v42, val_main_v12, val_main_v10, val_main_v9, val_main_v11, val_main_cst, val_main_call2_v1, val_main_call2_v0, val_main_call2_v2, val_main_v41, val_main_cst_6]
  rw [mask_apply, sel_ofBool]
  unfold Row.bandScore
  refine if_congr (by simp) ?_ ofBits_neg_inf
  refine congrArg (· * _) (Finset.sum_congr rfl fun e _ => ?_)
  rw [band_apply, q_apply, mul_comm]
  rfl

/-- Row maxima. -/
theorem v44_apply (x0 : Vec Ideal S8x8192x8x64 .f32) (x1 : Vec Ideal S8x8192x2x64 .f32) (b : Fin 8) (n : Fin 64) (r : Fin 128) (h : Fin 2) (g : Fin 4) :
    (val_main_v44 (F := Ideal) x0 x1) (ix5 b n h g r)
    = Finset.univ.fold max ⊥ (fun kk : Fin 256 => (val_main_v42 (F := Ideal) x0 x1) (ix6 b n h g r kk)) := by
  unfold val_main_v44
  generalize val_main_v42 (F := Ideal) x0 x1 = y0
  have hz : (val_main_cst_7 (F := Ideal)) (Shape.Idx.first h_S_) = (⊥ : EReal) := ofBits_neg_inf
  refine (Host.reduce_eq_fold_single (FloatOps.maximumf (F := Ideal) (φ := .f32)) y0 (val_main_cst_7 (F := Ideal))
    reducesTo_S8x64x2x4x128x256_S8x64x2x4x128_d5 (by decide) h_S_ (ix5 b n h g r)).trans ?_
  rw [hz]
  refine congrArg (fun f => Finset.univ.fold max ⊥ f) (funext fun kk => congrArg y0 (funext fun a => Fin.ext ?_))
  match a with | ⟨0, _⟩ => rfl | ⟨1, _⟩ => rfl | ⟨2, _⟩ => rfl | ⟨3, _⟩ => rfl | ⟨4, _⟩ => rfl | ⟨5, _⟩ => rfl

/-- The sinks in their six axes. -/
theorem v43_apply (x3 : Vec Ideal S8 .f32) (h : Fin 2) (g : Fin 4) :
    (val_main_v43 (F := Ideal) x3) (ix6 (0 : Fin 1) (0 : Fin 1) h g (0 : Fin 1) (0 : Fin 1)) = x3 (ix1 ⟨h.val * 4 + g.val, by omega⟩) := by
  unfold val_main_v43
  refine shapeCast_apply x3 _ _ _ ?_
  revert h g
  decide +kernel

end Cert.Attn.Ref

end
-- ==== Proof.Attn.RefRow.lean ====
module

public import proofs.«01_k».proof.Proof.Attn.Ref

@[expose] public section
set_option maxRecDepth 16384

noncomputable section

/-! What the plain attention computes from its scores, entry by entry. -/

namespace Cert.Attn.Ref

open Cert.ReferenceIdeal Cert.ReferenceIdeal.Gen Cert.ReferenceIdeal.Read Idealize.ShloMosaic Idealize.ShloMosaic.TcCoe Idealize.ShloMosaic.Tactic
open Idealize.SL Idealize.SL.Sem

/-- A row's largest score, or its sink. -/
theorem v47_apply (x0 : Vec Ideal S8x8192x8x64 .f32) (x1 : Vec Ideal S8x8192x2x64 .f32) (x3 : Vec Ideal S8 .f32) (b : Fin 8) (n : Fin 64) (r : Fin 128) (h : Fin 2) (g : Fin 4) :
    (val_main_v47 (F := Ideal) x0 x1 x3) (ix6 b n h g r (0 : Fin 1))
    = Row.top (fun kk : Fin 256 => (val_main_v42 (F := Ideal) x0 x1) (ix6 b n h g r kk)) (x3 (ix1 ⟨h.val * 4 + g.val, by omega⟩)) := by
  rw [val_main_v47_apply, val_main_v46_apply, val_main_v45_apply]
  unfold Row.top
  rw [← v44_apply, ← v43_apply x3 h g]
  refine (Ideal.maximumf_def _ _).trans (congrArg₂ max (congrArg _ (funext fun a => Fin.ext ?_)) (congrArg _ (funext fun a => Fin.ext ?_)))
  · match a with | ⟨0, _⟩ => rfl | ⟨1, _⟩ => rfl | ⟨2, _⟩ => rfl | ⟨3, _⟩ => rfl | ⟨4, _⟩ => rfl
  · match a with | ⟨0, _⟩ => rfl | ⟨1, _⟩ => rfl | ⟨2, _⟩ => rfl | ⟨3, _⟩ => rfl | ⟨4, _⟩ => rfl | ⟨5, _⟩ => rfl

/-- The exponentials. -/
theorem v50_apply (x0 : Vec Ideal S8x8192x8x64 .f32) (x1 : Vec Ideal S8x8192x2x64 .f32) (x3 : Vec Ideal S8 .f32) (b : Fin 8) (n : Fin 64) (r : Fin 128) (h : Fin 2) (g : Fin 4) (kk : Fin 256) :
    (val_main_v50 (F := Ideal) x0 x1 x3) (ix6 b n h g r kk)
    = Ideal.exp ((val_main_v42 (F := Ideal) x0 x1) (ix6 b n h g r kk)
        - Row.top (fun kk : Fin 256 => (val_main_v42 (F := Ideal) x0 x1) (ix6 b n h g r kk)) (x3 (ix1 ⟨h.val * 4 + g.val, by omega⟩))) := by
  pointwise [val_main_v50, val_main_v49, val_main_v48]
  rw [v47_apply]

/-- The exponentials' sum. -/
theorem v51_apply (x0 : Vec Ideal S8x8192x8x64 .f32) (x1 : Vec Ideal S8x8192x2x64 .f32) (x3 : Vec Ideal S8 .f32) (b : Fin 8) (n : Fin 64) (r : Fin 128) (h : Fin 2) (g : Fin 4) :
    (val_main_v51 (F := Ideal) x0 x1 x3) (ix5 b n h g r)
    = ∑ kk : Fin 256, (val_main_v50 (F := Ideal) x0 x1 x3) (ix6 b n h g r kk) := by
  rw [val_main_v51_apply]
  have hz : (val_main_cst_8 (F := Ideal)) (Shape.Idx.first h_S_) = (0 : EReal) := by
    show Ideal.ofBits .f32 0x00000000#32 = 0
    exact Ideal.ofBits_zero_f32
  rw [hz, zero_add]
  refine Finset.sum_congr rfl fun kk _ => congrArg _ (funext fun a => Fin.ext ?_)
  match a with | ⟨0, _⟩ => rfl | ⟨1, _⟩ => rfl | ⟨2, _⟩ => rfl | ⟨3, _⟩ => rfl | ⟨4, _⟩ => rfl | ⟨5, _⟩ => rfl

/-- The denominators. -/
theorem v56_apply (x0 : Vec Ideal S8x8192x8x64 .f32) (x1 : Vec Ideal S8x8192x2x64 .f32) (x3 : Vec Ideal S8 .f32) (b : Fin 8) (n : Fin 64) (r : Fin 128) (h : Fin 2) (g : Fin 4) :
    (val_main_v56 (F := Ideal) x0 x1 x3) (ix6 b n h g r (0 : Fin 1))
    = Row.denom (fun kk : Fin 256 => (val_main_v42 (F := Ideal) x0 x1) (ix6 b n h g r kk)) (x3 (ix1 ⟨h.val * 4 + g.val, by omega⟩)) := by
  pointwise [val_main_v56, val_main_v55, val_main_v54, val_main_v53, val_main_v52]
  rw [v43_apply, v51_apply, v47_apply]
  simp only [v50_apply]
  rfl

/-- One entry before the heads are set side by side. -/
theorem v59_apply (x0 : Vec Ideal S8x8192x8x64 .f32) (x1 x2 : Vec Ideal S8x8192x2x64 .f32) (x3 : Vec Ideal S8 .f32) (b : Fin 8) (n : Fin 64) (r : Fin 128) (h : Fin 2) (g : Fin 4) (d : Fin 64) :
    (val_main_v59 (F := Ideal) x0 x1 x2 x3) (ix6 b n h g r d)
    = Row.refRow (Row.bandScore (decide (n.val = 0)) r (Ideal.ofBits .f32 0x3E000000#32) (query x0 b n r h g) (band x1 b n h))
        (fun kk => band x2 b n h kk d) (x3 (ix1 ⟨h.val * 4 + g.val, by omega⟩)) := by
  pointwise [val_main_v59, val_main_v58, val_main_v57]
  rw [v56_apply]
  simp only [v50_apply, v42_apply, vband_apply, band_apply]
  rfl

/-- The result's entry. -/
theorem v62_apply (x0 : Vec Ideal S8x8192x8x64 .f32) (x1 x2 : Vec Ideal S8x8192x2x64 .f32) (x3 : Vec Ideal S8 .f32) (n : Fin 65536) (l : Fin 512) :
    (val_main_v62 (F := Ideal) x0 x1 x2 x3) (ix2 n l)
    = (val_main_v59 (F := Ideal) x0 x1 x2 x3) (ix6 ⟨n.val / 8192, by omega⟩ ⟨n.val / 128 % 64, by omega⟩ ⟨l.val / 256, by omega⟩
        ⟨l.val / 64 % 4, by omega⟩ ⟨n.val % 128, by omega⟩ ⟨l.val % 64, by omega⟩) := by
  pointwise [val_main_v62, val_main_v61, val_main_v60]

end Cert.Attn.Ref

end
-- ==== Proof.Attn.Tile.lean ====
module

public import proofs.«01_k».proof.Proof.Gen.KernelIdeal.Value
public import Idealize.ShloMosaic.Lib.Pointwise
public import proofs.«01_k».proof.Proof.Attn.Row

@[expose] public section
set_option maxRecDepth 16384

noncomputable section

namespace Cert.Attn.Tile

open Cert.KernelIdeal Cert.KernelIdeal.Gen Idealize.ShloMosaic Idealize.ShloMosaic.Tactic

variable {F : FTy → Type} [FloatOps F]

/-- The scores of one tile: 512 rows (four heads of 128 queries) against a band of 256 keys folded to 128 columns, the
    mask choosing the earlier block's key; `b` says that the earlier block does not exist. -/
def scores (b : BitVec 1) (mask : IVec S512x128 1) (qs : FVec F S512x64 .bf16) (kb : FVec F S256x64 .bf16) :
    FVec F S512x128 .f32 :=
  let s := matmul dot_S512x64_S256x64_S512x256_1_1_0_0_n_n none qs kb (constant S512x256 .f32 0x00000000#32)
  select mask
    (Scalar.select b (broadcast S512x128 (Scalar.ofBits .f32 0xFF800000#32 : F .f32))
      (extractStridedSlice S512x128 ![0, 0] s slices_S512x256_o0_0_S512x128))
    (extractStridedSlice S512x128 ![0, 128] s slices_S512x256_o0_128_S512x128)

/-- The largest score of each row, the sink's among them. -/
def maxes (sink : FVec F S512x1 .f32) (s : FVec F S512x128 .f32) : FVec F S512x1 .f32 :=
  maximumf (shapeCast S512x1 (multiReduction .maximumf [1] S512 s 0xFF800000#32 reduces_S512x128_S512 (.inl rfl) rfl)
    shapeCasts_S512_S512x1) sink

/-- The exponentials of the scores less the row's largest. -/
def expos (s : FVec F S512x128 .f32) (mx : FVec F S512x1 .f32) : FVec F S512x128 .f32 :=
  exp (subf s (broadcastTo S512x128 mx broadcasts_S512x1_S512x128))

/-- The denominators: the exponentials' sum and the sink's exponential. -/
def denoms (sink : FVec F S512x1 .f32) (s : FVec F S512x128 .f32) (mx : FVec F S512x1 .f32) : FVec F S512x1 .f32 :=
  addf (shapeCast S512x1 (multiReduction .add [1] S512 (expos s mx) 0x00000000#32 reduces_S512x128_S512 (.inl rfl) rfl)
    shapeCasts_S512_S512x1) (exp (subf sink mx))

/-- The exponentials spread over the band of 256 keys again. -/
def probs (mask : IVec S512x128 1) (s : FVec F S512x128 .f32) (mx : FVec F S512x1 .f32) : FVec F S512x256 .bf16 :=
  let p : FVec F S512x128 .bf16 := truncf .bf16 (expos s mx) bitsLt_bf16_f32
  let z : FVec F S512x128 .bf16 := broadcast S512x128 (Scalar.ofBits .bf16 0x0000#16 : F .bf16)
  concatenate S512x256 1 [⟨S512x128, select mask p z⟩, ⟨S512x128, select mask z p⟩]
    concatenates_S512x128_S512x128_S512x256_d1

/-- The tile's output before the heads are set side by side. -/
def mixed (p : FVec F S512x256 .bf16) (vb : FVec F S256x64 .bf16) (den : FVec F S512x1 .f32) : FVec F S512x64 .f32 :=
  mulf (matmul dot_S512x256_S256x64_S512x64_1_0_0_1_n_n none p vb (constant S512x64 .f32 0x00000000#32))
    (broadcastTo S512x64 (divf (broadcast S512x1 (Scalar.ofBits .f32 0x3F800000#32 : F .f32)) den) broadcasts_S512x1_S512x64)

/-- Four heads of 128 rows set side by side. -/
def beside (o : FVec F S512x64 .f32) : FVec F S128x256 .bf16 :=
  truncf .bf16 (concatenate S128x256 1
    [⟨S128x64, extractStridedSlice S128x64 ![0, 0] o slices_S512x64_o0_0_S128x64⟩,
     ⟨S128x64, extractStridedSlice S128x64 ![128, 0] o slices_S512x64_o128_0_S128x64⟩,
     ⟨S128x64, extractStridedSlice S128x64 ![256, 0] o slices_S512x64_o256_0_S128x64⟩,
     ⟨S128x64, extractStridedSlice S128x64 ![384, 0] o slices_S512x64_o384_0_S128x64⟩]
    concatenates_S128x64_S128x64_S128x64_S128x64_S128x256_d1) bitsLt_bf16_f32

/-- One tile of the attention, from its queries, its band of keys and values, and its sinks. -/
def tile (b : BitVec 1) (mask : IVec S512x128 1) (qs : FVec F S512x64 .bf16) (kb vb : FVec F S256x64 .bf16)
    (sink : FVec F S512x1 .f32) : FVec F S128x256 .bf16 :=
  let s := scores b mask qs kb
  let mx := maxes sink s
  beside (mixed (probs mask s mx) vb (denoms sink s mx))

/-- The bits of minus infinity. -/
theorem ofBits_neg_inf : Ideal.ofBits .f32 0xFF800000#32 = ⊥ := by
  unfold Ideal.ofBits Ideal.ieee; decide

/-- A choice by a truth value's bit. -/
theorem sel_ofBool {α : Type} (b : Bool) (x y : α) : Scalar.select (BitVec.ofBool b) x y = if b then x else y := by
  cases b <;> rfl

/-- One row of the tile before the heads are set side by side. -/
theorem mixed_apply (first : Bool) (mask : IVec S512x128 1) (qs : FVec Ideal S512x64 .bf16)
    (kb vb : FVec Ideal S256x64 .bf16) (sink : FVec Ideal S512x1 .f32) (R : Fin 512) (r : Fin 128) (d : Fin 64)
    (hm : ∀ k : Fin 128, mask (ix2 R k) = BitVec.ofBool (decide (r < k))) :
    mixed (probs mask (scores (BitVec.ofBool first) mask qs kb) (maxes sink (scores (BitVec.ofBool first) mask qs kb))) vb
      (denoms sink (scores (BitVec.ofBool first) mask qs kb) (maxes sink (scores (BitVec.ofBool first) mask qs kb))) (ix2 R d)
    = Row.kernelRow r
        (Row.score first r (fun e => qs (ix2 R e)) (fun k e => kb (ix2 (⟨k.val, by omega⟩ : Fin 256) e))
          (fun k e => kb (ix2 (⟨128 + k.val, by omega⟩ : Fin 256) e)))
        (fun k => vb (ix2 (⟨k.val, by omega⟩ : Fin 256) d)) (fun k => vb (ix2 (⟨128 + k.val, by omega⟩ : Fin 256) d))
        (sink (ix2 R (0 : Fin 1))) := by
  have hs : ∀ k : Fin 128, scores (BitVec.ofBool first) mask qs kb (ix2 R k)
      = Row.score first r (fun e => qs (ix2 R e)) (fun k e => kb (ix2 (⟨k.val, by omega⟩ : Fin 256) e))
          (fun k e => kb (ix2 (⟨128 + k.val, by omega⟩ : Fin 256) e)) k := by
    intro k
    pointwise [scores]
    simp only [hm, sel_ofBool, decide_eq_true_eq]
    unfold Row.score
    congr 1
    cases first with
    | true => pointwise; exact ofBits_neg_inf
    | false => rw [if_neg (by decide), if_neg (by decide)]; pointwise
  generalize scores (BitVec.ofBool first) mask qs kb = s at hs ⊢
  pointwise [mixed, probs, maxes, denoms, expos]
  simp only [hm, hs, ofBits_neg_inf, sel_ofBool, decide_eq_true_eq]
  unfold Row.kernelRow
  simp only [ite_mul, zero_mul]
  rfl

theorem beside_apply (o : FVec Ideal S512x64 .f32) (r : Fin 128) (x : Fin 256) (R : Fin 512) (d : Fin 64)
    (hR : R.val = x.val / 64 * 128 + r.val) (hd : d.val = x.val % 64) :
    beside o (ix2 r x) = o (ix2 R d) := by
  obtain ⟨R, hR'⟩ := R; obtain ⟨d, hd'⟩ := d
  simp only at hR hd
  subst hR hd
  pointwise [beside]
  split
  · congr 2 <;> ext <;> simp only [] <;> omega
  split
  · congr 2 <;> ext <;> simp only [] <;> omega
  split
  · congr 2 <;> ext <;> simp only [] <;> omega
  · congr 2 <;> ext <;> simp only [] <;> omega

/-- One element of a tile. -/
theorem tile_apply (first : Bool) (mask : IVec S512x128 1) (qs : FVec Ideal S512x64 .bf16)
    (kb vb : FVec Ideal S256x64 .bf16) (sink : FVec Ideal S512x1 .f32) (r : Fin 128) (x : Fin 256) (R : Fin 512)
    (d : Fin 64) (hR : R.val = x.val / 64 * 128 + r.val) (hd : d.val = x.val % 64)
    (hm : ∀ k : Fin 128, mask (ix2 R k) = BitVec.ofBool (decide (r < k))) :
    tile (BitVec.ofBool first) mask qs kb vb sink (ix2 r x)
    = Row.kernelRow r
        (Row.score first r (fun e => qs (ix2 R e)) (fun k e => kb (ix2 (⟨k.val, by omega⟩ : Fin 256) e))
          (fun k e => kb (ix2 (⟨128 + k.val, by omega⟩ : Fin 256) e)))
        (fun k => vb (ix2 (⟨k.val, by omega⟩ : Fin 256) d)) (fun k => vb (ix2 (⟨128 + k.val, by omega⟩ : Fin 256) d))
        (sink (ix2 R (0 : Fin 1))) := by
  unfold tile
  rw [beside_apply _ r x R d hR hd, mixed_apply first mask qs kb vb sink R r d hm]

end Cert.Attn.Tile
end
-- ==== Proof.Attn.Block.lean ====
module

public import proofs.«01_k».proof.Proof.Attn.Tile
public import Idealize.ShloMosaic.Lib.Pipeline.ValueKit

@[expose] public section
set_option maxRecDepth 16384

noncomputable section

/-! What one grid point of the attention leaves in its output block: `blockVal`, read at every index. -/

namespace Cert.Attn.Block

open Cert.KernelIdeal Cert.KernelIdeal.Gen Idealize.ShloMosaic Idealize.ShloMosaic.TcCoe Idealize.ShloMosaic.Tactic
open Idealize.SL Idealize.SL.Sem
open Cert.Attn.Tile

/-- Row `t` of the earlier block's 128 rows followed by the point's 512. -/
def full (xp : FVec Ideal S128x128 .bf16) (xc : FVec Ideal S512x128 .bf16) (t : Fin 640) (e : Fin 128) : EReal :=
  if h : t.val < 128 then xp (ix2 (⟨t.val, h⟩ : Fin 128) e) else xc (ix2 (⟨t.val - 128, by omega⟩ : Fin 512) e)

/-- The element that a grid point leaves at row `i` and column `l` of its block. -/
def elem (first : Bool) (x0 : FVec Ideal S8 .f32) (x1 : FVec Ideal S512x512 .bf16) (x2 x3 : FVec Ideal S512x128 .bf16)
    (x4 x5 : FVec Ideal S128x128 .bf16) (i : Fin 512) (l : Fin 512) : EReal :=
  Row.kernelRow (⟨i.val % 128, by omega⟩ : Fin 128)
    (Row.score (first && decide (i.val / 128 = 0)) (⟨i.val % 128, by omega⟩ : Fin 128)
      (fun e => x1 (ix2 i (⟨l.val / 64 * 64 + e.val, by omega⟩ : Fin 512)))
      (fun k e => full x4 x2 ⟨i.val / 128 * 128 + k.val, by omega⟩ ⟨l.val / 256 * 64 + e.val, by omega⟩)
      (fun k e => full x4 x2 ⟨i.val / 128 * 128 + (128 + k.val), by omega⟩ ⟨l.val / 256 * 64 + e.val, by omega⟩))
    (fun k => full x5 x3 ⟨i.val / 128 * 128 + k.val, by omega⟩ ⟨l.val / 256 * 64 + l.val % 64, by omega⟩)
    (fun k => full x5 x3 ⟨i.val / 128 * 128 + (128 + k.val), by omega⟩ ⟨l.val / 256 * 64 + l.val % 64, by omega⟩)
    (x0 (ix1 (⟨l.val / 64, by omega⟩ : Fin 8)))

/-- The word of a row's query within its block. -/
theorem query_word (R : Fin 512) (k : Fin 128) : k0_pay5 (ix2 R k) = BitVec.ofNat 32 (R.val % 128) := by
  pointwise [k0_pay5]
  revert R
  decide +kernel

/-- One column number after another, as words. -/
theorem after_word : ∀ r k : Fin 128,
    IntOp.cmpi CmpIPredicate.sgt (BitVec.ofNat 32 k.val) (BitVec.ofNat 32 r.val) = BitVec.ofBool (decide (r < k)) := by
  decide +kernel

/-- The block that a grid point leaves. -/
def blockVal (first : Bool) (x0 : Vec Ideal S8 .f32) (x1 : Vec Ideal S512x512 .bf16) (x2 x3 : Vec Ideal S512x128 .bf16)
    (x4 x5 : Vec Ideal S128x128 .bf16) : Vec Ideal S512x512 .bf16 :=
  fun y => elem first x0 x1 x2 x3 x4 x5 (y 0) (y 1)

/-- The mask at an index: the column's key is after the row's query within the block. -/
theorem mask_apply (R : Fin 512) (r k : Fin 128) (hr : r.val = R.val % 128) :
    k0_pay6 k0_pay5 (ix2 R k) = BitVec.ofBool (decide (r < k)) := by
  pointwise [k0_pay6]
  rw [query_word, ← hr, after_word]

/-- The word of a row's head within its group of four. -/
theorem head_word (R : Fin 512) : k0_pay7 (ix2 R (0 : Fin 1)) = BitVec.ofNat 32 (R.val / 128) := by
  pointwise [k0_pay7]
  revert R
  decide +kernel

/-- One of four, chosen by a row's head. -/
def pick {α : Type} (R : Fin 512) (a b c d : α) : α :=
  if R.val / 128 = 0 then a else if R.val / 128 = 1 then b else if R.val / 128 = 2 then c else d

theorem pick_word {α : Type} (R : Fin 512) (a b c d z : α) :
    Scalar.select (IntOp.cmpi CmpIPredicate.eq (BitVec.ofNat 32 (R.val / 128)) 3#32) d
      (Scalar.select (IntOp.cmpi CmpIPredicate.eq (BitVec.ofNat 32 (R.val / 128)) 2#32) c
        (Scalar.select (IntOp.cmpi CmpIPredicate.eq (BitVec.ofNat 32 (R.val / 128)) 1#32) b
          (Scalar.select (IntOp.cmpi CmpIPredicate.eq (BitVec.ofNat 32 (R.val / 128)) 0#32) a z)))
    = pick R a b c d := by
  have h : R.val / 128 < 4 := by omega
  unfold pick
  generalize R.val / 128 = g at h ⊢
  interval_cases g <;> rfl

/-- The first group's column of sinks. -/
theorem sink0_apply (R : Fin 512) (a b c d : Elt Ideal .f32) :
    (k0_pay10 (F := Ideal) (k0_pay8 a b c) k0_pay9 d) (ix2 R (0 : Fin 1)) = pick R a b c d := by
  pointwise [k0_pay8, k0_pay9, k0_pay10]
  simp only [head_word]
  exact pick_word R a b c d _

/-- The second group's column of sinks. -/
theorem sink1_apply (R : Fin 512) (a b c d : Elt Ideal .f32) :
    (k0_pay11 (F := Ideal) k0_pay7 a b c d) (ix2 R (0 : Fin 1)) = pick R a b c d := by
  pointwise [k0_pay11]
  simp only [head_word]
  exact pick_word R a b c d _

/-- The joined keys at an index. -/
theorem keys_apply (xp : FVec Ideal S128x128 .bf16) (xc : FVec Ideal S512x128 .bf16) (t : Fin 640) (e : Fin 128) :
    (k0_pay3 (F := Ideal) xp xc) (ix2 t e) = full xp xc t e := by
  pointwise [k0_pay3]
  rfl

/-- The joined values at an index. -/
theorem vals_apply (xp : FVec Ideal S128x128 .bf16) (xc : FVec Ideal S512x128 .bf16) (t : Fin 640) (e : Fin 128) :
    (k0_pay4 (F := Ideal) xp xc) (ix2 t e) = full xp xc t e := by
  pointwise [k0_pay4]
  rfl

/-- The tile of the query block `j` and the group `h`, from its four loads of queries, the joined keys and values, and
    the group's sinks. -/
def payload (b : BitVec 1) (K V : FVec Ideal S640x128 .bf16) (j h : Nat) (hK : Shape.Slices S640x128 ![j, h] S256x64)
    (q0 q1 q2 q3 : FVec Ideal S128x64 .bf16) (sink : FVec Ideal S512x1 .f32) : FVec Ideal S128x256 .bf16 :=
  tile b (k0_pay6 k0_pay5)
    (concatenate S512x64 0 [⟨S128x64, q0⟩, ⟨S128x64, q1⟩, ⟨S128x64, q2⟩, ⟨S128x64, q3⟩]
      concatenates_S128x64_S128x64_S128x64_S128x64_S512x64_d0)
    (extractStridedSlice S256x64 ![j, h] K hK) (extractStridedSlice S256x64 ![j, h] V hK) sink

/-- A tile is the rectangle of `blockVal` that its store names. -/
theorem payload_eq (first fb : Bool) (x0 : Vec Ideal S8 .f32) (x1 : Vec Ideal S512x512 .bf16)
    (x2 x3 : Vec Ideal S512x128 .bf16) (x4 x5 : Vec Ideal S128x128 .bf16) (j : Fin 4) (h : Fin 2) (o1 o2 oh : Nat)
    (ho1 : o1 = j.val * 128) (ho2 : o2 = h.val * 256) (hoh : oh = h.val * 64)
    (hfb : fb = (first && decide (j.val = 0))) (hK : Shape.Slices S640x128 ![o1, oh] S256x64)
    (q0 q1 q2 q3 : Vec Ideal S128x64 .bf16) (sink : FVec Ideal S512x1 .f32)
    (hq0 : ∀ (r : Fin 128) (e : Fin 64), q0 (ix2 r e) = x1 (ix2 ⟨j.val * 128 + r.val, by omega⟩ ⟨(h.val * 4 + 0) * 64 + e.val, by omega⟩))
    (hq1 : ∀ (r : Fin 128) (e : Fin 64), q1 (ix2 r e) = x1 (ix2 ⟨j.val * 128 + r.val, by omega⟩ ⟨(h.val * 4 + 1) * 64 + e.val, by omega⟩))
    (hq2 : ∀ (r : Fin 128) (e : Fin 64), q2 (ix2 r e) = x1 (ix2 ⟨j.val * 128 + r.val, by omega⟩ ⟨(h.val * 4 + 2) * 64 + e.val, by omega⟩))
    (hq3 : ∀ (r : Fin 128) (e : Fin 64), q3 (ix2 r e) = x1 (ix2 ⟨j.val * 128 + r.val, by omega⟩ ⟨(h.val * 4 + 3) * 64 + e.val, by omega⟩))
    (hs : ∀ R : Fin 512, sink (ix2 R (0 : Fin 1)) = x0 (ix1 ⟨h.val * 4 + R.val / 128, by omega⟩))
    (inb : ∀ a : Fin S512x512.rank, (![o1, o2] : Fin 2 → Nat) a + (![128, 256] : Fin 2 → Nat) a ≤ S512x512.size a)
    (y : S128x256.Idx) :
    payload (BitVec.ofBool fb) (k0_pay3 (F := Ideal) x4 x2) (k0_pay4 (F := Ideal) x5 x3) o1 oh hK q0 q1 q2 q3 sink y
    = blockVal first x0 x1 x2 x3 x4 x5 ((Rect.unit (s := S512x512) ![o1, o2] ![128, 256] inb).emb y) := by
  subst ho1 ho2 hoh
  idx_vars y; revert y0 y1; intro r l
  have hx : (Rect.unit (s := S512x512) ![j.val * 128, h.val * 256] ![128, 256] inb).emb (ix2 r l)
      = ix2 (⟨j.val * 128 + r.val, by omega⟩ : Fin 512) (⟨h.val * 256 + l.val, by omega⟩ : Fin 512) := by
    funext a
    apply Fin.ext
    refine (Rect.idx_unit_val _ _ inb _ a).trans ?_
    fin_cases a <;> rfl
  rw [hx]
  unfold payload
  rw [tile_apply fb _ _ _ _ _ r l ⟨l.val / 64 * 128 + r.val, by omega⟩ ⟨l.val % 64, by omega⟩ rfl rfl
    (fun k => mask_apply _ r k (by simp only []; omega))]
  have hq : ∀ e : Fin 64, (concatenate S512x64 0 [⟨S128x64, q0⟩, ⟨S128x64, q1⟩, ⟨S128x64, q2⟩, ⟨S128x64, q3⟩]
      concatenates_S128x64_S128x64_S128x64_S128x64_S512x64_d0)
        (ix2 (⟨l.val / 64 * 128 + r.val, by omega⟩ : Fin 512) e)
      = x1 (ix2 ⟨j.val * 128 + r.val, by omega⟩ ⟨(h.val * 256 + l.val) / 64 * 64 + e.val, by omega⟩) := by
    intro e
    pointwise
    split
    · rw [hq0]; congr 2 <;> apply Fin.ext <;> simp only [] <;> omega
    split
    · rw [hq1]; congr 2 <;> apply Fin.ext <;> simp only [] <;> omega
    split
    · rw [hq2]; congr 2 <;> apply Fin.ext <;> simp only [] <;> omega
    · rw [hq3]; congr 2 <;> apply Fin.ext <;> simp only [] <;> omega
  have hk : ∀ (K : Fin 256) (e : Fin 64), extractStridedSlice S256x64 ![j.val * 128, h.val * 64] (k0_pay3 (F := Ideal) x4 x2) hK (ix2 K e)
      = full x4 x2 ⟨j.val * 128 + K.val, by omega⟩ ⟨h.val * 64 + e.val, by omega⟩ := by
    intro K e
    rw [← keys_apply]
    pointwise
  have hv : ∀ (K : Fin 256) (e : Fin 64), extractStridedSlice S256x64 ![j.val * 128, h.val * 64] (k0_pay4 (F := Ideal) x5 x3) hK (ix2 K e)
      = full x5 x3 ⟨j.val * 128 + K.val, by omega⟩ ⟨h.val * 64 + e.val, by omega⟩ := by
    intro K e
    rw [← vals_apply]
    pointwise
  simp only [hq, hk, hv, hs]
  show _ = elem first x0 x1 x2 x3 x4 x5 ⟨j.val * 128 + r.val, by omega⟩ ⟨h.val * 256 + l.val, by omega⟩
  unfold elem
  have e1 : (j.val * 128 + r.val) % 128 = r.val := by omega
  have e2 : (j.val * 128 + r.val) / 128 = j.val := by omega
  have e3 : (h.val * 256 + l.val) / 256 = h.val := by omega
  have e4 : (h.val * 256 + l.val) % 64 = l.val % 64 := by omega
  have e5 : (l.val / 64 * 128 + r.val) / 128 = l.val / 64 := by omega
  have e6 : (h.val * 256 + l.val) / 64 = h.val * 4 + l.val / 64 := by omega
  simp only [e1, e2, e3, e4, e5, e6, hfb]

/-- A load of 128 rows by 64 columns of the queries, at an index. -/
theorem ld_apply (x1 : Vec Ideal S512x512 .bf16) (o1 o2 : Nat)
    (inb : ∀ a : Fin S512x512.rank, (![o1, o2] : Fin 2 → Nat) a + (![128, 64] : Fin 2 → Nat) a ≤ S512x512.size a)
    (r : Fin 128) (e : Fin 64) (h1 : o1 + r.val < 512) (h2 : o2 + e.val < 512) :
    (shapeCast S128x64 (View.ld (Val := Elt Ideal) (e' := .bf16) x1 (Rect.unit (s := S512x512) ![o1, o2] ![128, 64] inb) : Vec Ideal S128x64 .bf16)
      shapeCasts_S128x64_S128x64) (ix2 r e)
    = x1 (ix2 ⟨o1 + r.val, h1⟩ ⟨o2 + e.val, h2⟩) := by
  refine (congrFun (shapeCast_self (s := S128x64) _ _) _).trans ?_
  exact View.ld_unit_apply_of (Val := Elt Ideal) (e := .bf16) x1 _ _ inb (ix2 r e) _ (fun a => by fin_cases a <;> rfl)

/-- A load of one sink. -/
theorem ldS_apply (x0 : Vec Ideal S8 .f32) (o : Nat)
    (inb : ∀ a : Fin S8.rank, (![o] : Fin 1 → Nat) a + (![1] : Fin 1 → Nat) a ≤ S8.size a) (y) (h : o < 8) :
    View.ld (Val := Elt Ideal) (e' := .f32) x0 (Rect.unit (s := S8) ![o] ![1] inb) y = x0 (ix1 ⟨o, h⟩) :=
  View.ld_unit_apply_of (Val := Elt Ideal) (e := .f32) x0 _ _ inb y _ (fun a => by
    have := (y a).isLt
    fin_cases a
    have h1 : (y 0).val < 1 := this
    show o = o + (y 0).val
    omega)

/-- `payload_eq` at the kernel's own loads of queries. -/
theorem piece_eq (first fb : Bool) (x0 : Vec Ideal S8 .f32) (x1 : Vec Ideal S512x512 .bf16)
    (x2 x3 : Vec Ideal S512x128 .bf16) (x4 x5 : Vec Ideal S128x128 .bf16) (j : Fin 4) (h : Fin 2) (o1 o2 oh c1 c2 c3 : Nat)
    (ho1 : o1 = j.val * 128) (ho2 : o2 = h.val * 256) (hoh : oh = h.val * 64)
    (hc1 : c1 = o2 + 64) (hc2 : c2 = o2 + 128) (hc3 : c3 = o2 + 192)
    (hfb : fb = (first && decide (j.val = 0))) (hK : Shape.Slices S640x128 ![o1, oh] S256x64)
    (i0 : ∀ a : Fin S512x512.rank, (![o1, o2] : Fin 2 → Nat) a + (![128, 64] : Fin 2 → Nat) a ≤ S512x512.size a)
    (i1 : ∀ a : Fin S512x512.rank, (![o1, c1] : Fin 2 → Nat) a + (![128, 64] : Fin 2 → Nat) a ≤ S512x512.size a)
    (i2 : ∀ a : Fin S512x512.rank, (![o1, c2] : Fin 2 → Nat) a + (![128, 64] : Fin 2 → Nat) a ≤ S512x512.size a)
    (i3 : ∀ a : Fin S512x512.rank, (![o1, c3] : Fin 2 → Nat) a + (![128, 64] : Fin 2 → Nat) a ≤ S512x512.size a)
    (sink : FVec Ideal S512x1 .f32)
    (hs : ∀ R : Fin 512, sink (ix2 R (0 : Fin 1)) = x0 (ix1 ⟨h.val * 4 + R.val / 128, by omega⟩))
    (inb : ∀ a : Fin S512x512.rank, (![o1, o2] : Fin 2 → Nat) a + (![128, 256] : Fin 2 → Nat) a ≤ S512x512.size a)
    (y : S128x256.Idx) :
    payload (BitVec.ofBool fb) (k0_pay3 (F := Ideal) x4 x2) (k0_pay4 (F := Ideal) x5 x3) o1 oh hK
      (shapeCast S128x64 (View.ld (Val := Elt Ideal) (e' := .bf16) x1 (Rect.unit (s := S512x512) ![o1, o2] ![128, 64] i0)) shapeCasts_S128x64_S128x64)
      (shapeCast S128x64 (View.ld (Val := Elt Ideal) (e' := .bf16) x1 (Rect.unit (s := S512x512) ![o1, c1] ![128, 64] i1)) shapeCasts_S128x64_S128x64)
      (shapeCast S128x64 (View.ld (Val := Elt Ideal) (e' := .bf16) x1 (Rect.unit (s := S512x512) ![o1, c2] ![128, 64] i2)) shapeCasts_S128x64_S128x64)
      (shapeCast S128x64 (View.ld (Val := Elt Ideal) (e' := .bf16) x1 (Rect.unit (s := S512x512) ![o1, c3] ![128, 64] i3)) shapeCasts_S128x64_S128x64) sink y
    = blockVal first x0 x1 x2 x3 x4 x5 ((Rect.unit (s := S512x512) ![o1, o2] ![128, 256] inb).emb y) := by
  refine payload_eq first fb x0 x1 x2 x3 x4 x5 j h o1 o2 oh ho1 ho2 hoh hfb hK _ _ _ _ sink ?_ ?_ ?_ ?_ hs inb y <;>
    intro r e <;> refine (ld_apply x1 _ _ _ r e (by omega) (by omega)).trans ?_ <;> congr 2 <;> apply Fin.ext <;>
    simp only [] <;> omega

/-- Four sinks in a row, picked by number. -/
theorem pick_eq (x0 : Vec Ideal S8 .f32) (b : Nat) (hb : b + 3 < 8) (g : Nat) (hg : g < 4) :
    (if g = 0 then x0 (ix1 ⟨b, by omega⟩) else if g = 1 then x0 (ix1 ⟨b + 1, by omega⟩)
      else if g = 2 then x0 (ix1 ⟨b + 2, by omega⟩) else x0 (ix1 ⟨b + 3, by omega⟩)) = x0 (ix1 ⟨b + g, by omega⟩) := by
  interval_cases g <;> rfl

/-- The sinks of the first group, at the kernel's own loads. -/
theorem sinks0 (x0 : Vec Ideal S8 .f32) (i0 i1 i2 i3 y0 y1 y2 y3) (R : Fin 512) :
    (k0_pay10 (F := Ideal)
      (k0_pay8 (View.ld (Val := Elt Ideal) (e' := .f32) x0 (Rect.unit (s := S8) ![0] ![1] i0) y0)
        (View.ld (Val := Elt Ideal) (e' := .f32) x0 (Rect.unit (s := S8) ![1] ![1] i1) y1)
        (View.ld (Val := Elt Ideal) (e' := .f32) x0 (Rect.unit (s := S8) ![2] ![1] i2) y2)) k0_pay9
      (View.ld (Val := Elt Ideal) (e' := .f32) x0 (Rect.unit (s := S8) ![3] ![1] i3) y3)) (ix2 R (0 : Fin 1))
    = x0 (ix1 ⟨(0 : Fin 2).val * 4 + R.val / 128, by show 0 * 4 + R.val / 128 < 8; omega⟩) := by
  rw [sink0_apply, ldS_apply x0 0 i0 y0 (by omega), ldS_apply x0 1 i1 y1 (by omega), ldS_apply x0 2 i2 y2 (by omega),
    ldS_apply x0 3 i3 y3 (by omega)]
  exact pick_eq x0 0 (by omega) (R.val / 128) (by omega)

/-- The sinks of the second group, at the kernel's own loads. -/
theorem sinks1 (x0 : Vec Ideal S8 .f32) (i0 i1 i2 i3 y0 y1 y2 y3) (R : Fin 512) :
    (k0_pay11 (F := Ideal) k0_pay7 (View.ld (Val := Elt Ideal) (e' := .f32) x0 (Rect.unit (s := S8) ![4] ![1] i0) y0)
        (View.ld (Val := Elt Ideal) (e' := .f32) x0 (Rect.unit (s := S8) ![5] ![1] i1) y1)
        (View.ld (Val := Elt Ideal) (e' := .f32) x0 (Rect.unit (s := S8) ![6] ![1] i2) y2)
      (View.ld (Val := Elt Ideal) (e' := .f32) x0 (Rect.unit (s := S8) ![7] ![1] i3) y3)) (ix2 R (0 : Fin 1))
    = x0 (ix1 ⟨(1 : Fin 2).val * 4 + R.val / 128, by show 1 * 4 + R.val / 128 < 8; omega⟩) := by
  rw [sink1_apply, ldS_apply x0 4 i0 y0 (by omega), ldS_apply x0 5 i1 y1 (by omega), ldS_apply x0 6 i2 y2 (by omega),
    ldS_apply x0 7 i3 y3 (by omega)]
  exact pick_eq x0 4 (by omega) (R.val / 128) (by omega)

/-- The word that says "this grid point opens a sequence" is the bit of that statement. -/
theorem opens_word (t : Fin grid0.N) : (Scalar.cmpi CmpIPredicate.eq (Scalar.select (Scalar.andi (Scalar.xori (Scalar.cmpi CmpIPredicate.slt (Scalar.remsi (BitVec.ofNat 32 ((grid0.coords t 0 : Fin _) : Nat)) 16#32) 0#32) 0#1) (Scalar.cmpi CmpIPredicate.ne (Scalar.remsi (BitVec.ofNat 32 ((grid0.coords t 0 : Fin _) : Nat)) 16#32) 0#32)) (Scalar.addi (Scalar.remsi (BitVec.ofNat 32 ((grid0.coords t 0 : Fin _) : Nat)) 16#32) 16#32) (Scalar.remsi (BitVec.ofNat 32 ((grid0.coords t 0 : Fin _) : Nat)) 16#32)) 0#32) = BitVec.ofBool (decide (t.val % 16 = 0)) := by
  revert t
  decide +kernel

/-- What one grid point writes to its block of the result: `blockVal` of its input blocks. -/
theorem outsAt_eq (m : (ℓ : Loc nD τ sig) → Buf (Elt Ideal) ℓ) (c : Dev nD) (t : Fin grid0.N) :
    outsAt0 m c t = blockVal (decide (t.val % 16 = 0)) (iblk m c 0 t) (iblk m c 1 t) (iblk m c 2 t) (iblk m c 3 t) (iblk m c 4 t) (iblk m c 5 t) := by
  unfold outsAt0 out0_A_6
  rw [View.read_writes_eq_canon _ _ _ (cover0_A_6 c _ _ _ _ _ _ _ _ _ _ _ _ _ _ _ _ _ _ _ _ _)]
  unfold kernelRun0_A
  dsimp only
  sl_unfold_words
  simp only [View.readAt_eq_ld, (hs0_0 t).read_unread, (hs0_1 t).read_unread, (hs0_2 t).read_unread, (hs0_3 t).read_unread, (hs0_4 t).read_unread, (hs0_5 t).read_unread]
  rw [opens_word t]
  generalize decide (t.val % 16 = 0) = first
  have e2 : ∀ X : FVec Ideal S512x128 .bf16, View.ld (Val := Elt Ideal) (e' := .bf16) X (Rect.unit ![0, 0] ![512, 128] inb_S512x128_S512x128_0_0) = X := fun X => View.ld_unit_lit _ _ (by decide)
  have e4 : ∀ X : FVec Ideal S128x128 .bf16, View.ld (Val := Elt Ideal) (e' := .bf16) X (Rect.unit ![0, 0] ![128, 128] inb_S128x128_S128x128_0_0) = X := fun X => View.ld_unit_lit _ _ (by decide)
  rw [e2, e2, e4, e4]
  funext y
  refine View.canon_apply_of_pieces (Val := Elt Ideal) (blockVal first (iblk m c 0 t) (iblk m c 1 t) (iblk m c 2 t) (iblk m c 3 t) (iblk m c 4 t) (iblk m c 5 t)) _ ?_ _ ?_
  · simp only [List.forall_mem_cons, List.not_mem_nil, forall_false, implies_true, and_true]
    have P := fun (j : Fin 4) (h : Fin 2) (o1 o2 oh c1 c2 c3 : Nat) (fb : Bool) a1 a2 a3 a4 a5 a6 a7 =>
      piece_eq first fb (iblk m c 0 t) (iblk m c 1 t) (iblk m c 2 t) (iblk m c 3 t) (iblk m c 4 t) (iblk m c 5 t) j h o1 o2 oh c1 c2 c3 a1 a2 a3 a4 a5 a6 a7
    refine ⟨?_, ?_, ?_, ?_, ?_, ?_, ?_, ?_⟩
    · exact P 3 1 384 256 64 320 384 448 false rfl rfl rfl rfl rfl rfl (by simp) _ (by decide) (by decide) (by decide) (by decide) _ (sinks1 _ _ _ _ _ _ _ _ _) (by decide)
    · exact P 3 0 384 0 0 64 128 192 false rfl rfl rfl rfl rfl rfl (by simp) _ (by decide) (by decide) (by decide) (by decide) _ (sinks0 _ _ _ _ _ _ _ _ _) (by decide)
    · exact P 2 1 256 256 64 320 384 448 false rfl rfl rfl rfl rfl rfl (by simp) _ (by decide) (by decide) (by decide) (by decide) _ (sinks1 _ _ _ _ _ _ _ _ _) (by decide)
    · exact P 2 0 256 0 0 64 128 192 false rfl rfl rfl rfl rfl rfl (by simp) _ (by decide) (by decide) (by decide) (by decide) _ (sinks0 _ _ _ _ _ _ _ _ _) (by decide)
    · exact P 1 1 128 256 64 320 384 448 false rfl rfl rfl rfl rfl rfl (by simp) _ (by decide) (by decide) (by decide) (by decide) _ (sinks1 _ _ _ _ _ _ _ _ _) (by decide)
    · exact P 1 0 128 0 0 64 128 192 false rfl rfl rfl rfl rfl rfl (by simp) _ (by decide) (by decide) (by decide) (by decide) _ (sinks0 _ _ _ _ _ _ _ _ _) (by decide)
    · exact P 0 1 0 256 64 320 384 448 first rfl rfl rfl rfl rfl rfl (by simp) _ (by decide) (by decide) (by decide) (by decide) _ (sinks1 _ _ _ _ _ _ _ _ _) (by decide)
    · exact P 0 0 0 0 0 64 128 192 first rfl rfl rfl rfl rfl rfl (by simp) _ (by decide) (by decide) (by decide) (by decide) _ (sinks0 _ _ _ _ _ _ _ _ _) (by decide)
  · exact View.cover_of_tiledL (s := S512x512) _ ![128, 256] (by sl_kernel_rfl) y

end Cert.Attn.Block
end
-- ==== Proof.Attn.Blocks.lean ====
module

public import proofs.«01_k».proof.Proof.Attn.Block
public import Idealize.ShloMosaic.Lib.Claim

@[expose] public section
set_option maxRecDepth 16384

noncomputable section

/-! The blocks that a grid point of the attention reads, as entries of the argument arrays. -/

namespace Cert.Attn.Blocks

open Cert.KernelIdeal Cert.KernelIdeal.Gen Idealize.ShloMosaic Idealize.ShloMosaic.TcCoe Idealize.ShloMosaic.Tactic
open Idealize.SL Idealize.SL.Sem

/-- Query entry: token `n` of all, column `l` of the 512. -/
def argQ (A : Vec Ideal S8x8192x8x64 .f32) (n : Fin 65536) (l : Fin 512) : EReal :=
  A (ix4 (⟨n.val / 8192, by omega⟩ : Fin 8) (⟨n.val % 8192, by omega⟩ : Fin 8192) (⟨l.val / 64, by omega⟩ : Fin 8) (⟨l.val % 64, by omega⟩ : Fin 64))

/-- Key or value entry: token `n` of all, column `l` of the 128. -/
def argK (A : Vec Ideal S8x8192x2x64 .f32) (n : Fin 65536) (l : Fin 128) : EReal :=
  A (ix4 (⟨n.val / 8192, by omega⟩ : Fin 8) (⟨n.val % 8192, by omega⟩ : Fin 8192) (⟨l.val / 64, by omega⟩ : Fin 2) (⟨l.val % 64, by omega⟩ : Fin 64))

variable (m : (ℓ : Loc nD τ sig) → Buf (Elt Ideal) ℓ) (c : Dev nD)

/-- The queries as the call reads them: scaled by an eighth. -/
theorem V_q (n : Fin 65536) (l : Fin 512) :
    (V m c main_v3 : Vec Ideal S65536x512 .bf16) (ix2 n l)
    = argQ (m ((c : Thread nD τ).loc main_arg0)) n l * Ideal.ofBits .f32 0x3E000000#32 := by
  entry_read
  pointwise
  rfl

/-- The keys as the call reads them. -/
theorem V_k (n : Fin 65536) (l : Fin 128) :
    (V m c main_v5 : Vec Ideal S65536x128 .bf16) (ix2 n l) = argK (m ((c : Thread nD τ).loc main_arg1)) n l := by
  entry_read
  pointwise
  rfl

/-- The values as the call reads them. -/
theorem V_v (n : Fin 65536) (l : Fin 128) :
    (V m c main_v7 : Vec Ideal S65536x128 .bf16) (ix2 n l) = argK (m ((c : Thread nD τ).loc main_arg2)) n l := by
  entry_read
  pointwise
  rfl

/-- Where the blocks lie. -/
theorem idx : ∀ t : Fin grid0.N, win0_0.index t = ![0] ∧ win0_1.index t = ![t.val, 0] ∧ win0_2.index t = ![t.val, 0]
    ∧ win0_3.index t = ![t.val, 0] ∧ win0_4.index t = ![t.val * 4 - 1, 0] ∧ win0_5.index t = ![t.val * 4 - 1, 0]
    ∧ win0_6.index t = ![t.val, 0] := by
  decide +kernel

theorem blk_s (t : Fin grid0.N) (h : Fin 8) :
    (iblk m c 0 t : Vec Ideal S8 .f32) (ix1 h) = m ((c : Thread nD τ).loc main_arg3) (ix1 h) := by
  blk_ext [iblk, V, idx t]

theorem blk_q (t : Fin grid0.N) (i l : Fin 512) (h : t.val * 512 + i.val < 65536) :
    (iblk m c 1 t : Vec Ideal S512x512 .bf16) (ix2 i l) = V m c main_v3 (ix2 ⟨t.val * 512 + i.val, h⟩ l) := by
  blk_ext [iblk, idx t]

theorem blk_kc (t : Fin grid0.N) (i : Fin 512) (l : Fin 128) (h : t.val * 512 + i.val < 65536) :
    (iblk m c 2 t : Vec Ideal S512x128 .bf16) (ix2 i l) = V m c main_v5 (ix2 ⟨t.val * 512 + i.val, h⟩ l) := by
  blk_ext [iblk, idx t]

theorem blk_vc (t : Fin grid0.N) (i : Fin 512) (l : Fin 128) (h : t.val * 512 + i.val < 65536) :
    (iblk m c 3 t : Vec Ideal S512x128 .bf16) (ix2 i l) = V m c main_v7 (ix2 ⟨t.val * 512 + i.val, h⟩ l) := by
  blk_ext [iblk, idx t]

theorem blk_kp (t : Fin grid0.N) (i l : Fin 128) (h : (t.val * 4 - 1) * 128 + i.val < 65536) :
    (iblk m c 4 t : Vec Ideal S128x128 .bf16) (ix2 i l) = V m c main_v5 (ix2 ⟨(t.val * 4 - 1) * 128 + i.val, h⟩ l) := by
  blk_ext [iblk, idx t]

theorem blk_vp (t : Fin grid0.N) (i l : Fin 128) (h : (t.val * 4 - 1) * 128 + i.val < 65536) :
    (iblk m c 5 t : Vec Ideal S128x128 .bf16) (ix2 i l) = V m c main_v7 (ix2 ⟨(t.val * 4 - 1) * 128 + i.val, h⟩ l) := by
  blk_ext [iblk, idx t]

end Cert.Attn.Blocks

end
-- ==== Proof.Attn.Array.lean ====
module

public import proofs.«01_k».proof.Proof.Attn.Blocks
public import proofs.«01_k».proof.Proof.Gen.KernelIdeal.Value

@[expose] public section
set_option maxRecDepth 16384

noncomputable section

/-! The attention's result array after the run, as a function of the argument arrays. -/

namespace Cert.Attn.Array

open Cert.KernelIdeal Cert.KernelIdeal.Gen Idealize.ShloMosaic Idealize.ShloMosaic.TcCoe Idealize.ShloMosaic.Tactic
open Idealize.SL Idealize.SL.Sem
open Cert.Attn.Blocks Cert.Attn.Block

/-- Token `n`'s attention in column `l`: its head's queries against the block of keys that holds `n` and the one before. -/
def rowOut (A0 : Vec Ideal S8x8192x8x64 .f32) (A1 A2 : Vec Ideal S8x8192x2x64 .f32) (A3 : Vec Ideal S8 .f32)
    (n : Fin 65536) (l : Fin 512) : EReal :=
  Row.kernelRow (⟨n.val % 128, by omega⟩ : Fin 128)
    (Row.score (decide (n.val % 8192 / 128 = 0)) (⟨n.val % 128, by omega⟩ : Fin 128)
      (fun e => argQ A0 n ⟨l.val / 64 * 64 + e.val, by omega⟩ * Ideal.ofBits .f32 0x3E000000#32)
      (fun k e => argK A1 ⟨(n.val / 128 - 1) * 128 + k.val, by omega⟩ ⟨l.val / 256 * 64 + e.val, by omega⟩)
      (fun k e => argK A1 ⟨n.val / 128 * 128 + k.val, by omega⟩ ⟨l.val / 256 * 64 + e.val, by omega⟩))
    (fun k => argK A2 ⟨(n.val / 128 - 1) * 128 + k.val, by omega⟩ ⟨l.val / 256 * 64 + l.val % 64, by omega⟩)
    (fun k => argK A2 ⟨n.val / 128 * 128 + k.val, by omega⟩ ⟨l.val / 256 * 64 + l.val % 64, by omega⟩)
    (A3 (ix1 (⟨l.val / 64, by omega⟩ : Fin 8)))

/-- The whole result. -/
def out (A0 : Vec Ideal S8x8192x8x64 .f32) (A1 A2 : Vec Ideal S8x8192x2x64 .f32) (A3 : Vec Ideal S8 .f32) :
    Vec Ideal S65536x512 .bf16 := fun y => rowOut A0 A1 A2 A3 (y 0) (y 1)

variable (m : (ℓ : Loc nD τ sig) → Buf (Elt Ideal) ℓ) (c : Dev nD)

/-- A row of the point's keys, or values, and of the block before them, in the whole array. -/
theorem full_eq (W : Fin 65536 → Fin 128 → EReal) (xp : FVec Ideal S128x128 .bf16) (xc : FVec Ideal S512x128 .bf16) (t : Fin grid0.N)
    (hp : ∀ (i l : Fin 128) (h : (t.val * 4 - 1) * 128 + i.val < 65536), xp (ix2 i l) = W ⟨(t.val * 4 - 1) * 128 + i.val, h⟩ l)
    (hc : ∀ (i : Fin 512) (l : Fin 128) (h : t.val * 512 + i.val < 65536), xc (ix2 i l) = W ⟨t.val * 512 + i.val, h⟩ l)
    (a : Fin 640) (e : Fin 128) (n : Fin 65536)
    (hn : if a.val < 128 then n.val = (t.val * 4 - 1) * 128 + a.val else n.val + 128 = t.val * 512 + a.val) :
    full xp xc a e = W n e := by
  have ht : t.val < 128 := t.isLt
  have hn' := n.isLt
  unfold full
  split
  · rename_i h
    rw [if_pos h] at hn
    rw [hp _ _ (by show (t.val * 4 - 1) * 128 + a.val < 65536; omega)]
    exact congrArg (W · e) (Fin.ext hn.symm)
  · rename_i h
    rw [if_neg h] at hn
    rw [hc _ _ (by show t.val * 512 + (a.val - 128) < 65536; omega)]
    exact congrArg (W · e) (Fin.ext (by show t.val * 512 + (a.val - 128) = n.val; omega))

/-- A grid point's element is the whole result's at the place that the block gives it. -/
theorem elem_eq (t : Fin grid0.N) (i l : Fin 512) (n : Fin 65536) (hn : n.val = t.val * 512 + i.val) :
    elem (decide (t.val % 16 = 0)) (iblk m c 0 t) (iblk m c 1 t) (iblk m c 2 t) (iblk m c 3 t) (iblk m c 4 t) (iblk m c 5 t) i l
    = rowOut (m ((c : Thread nD τ).loc main_arg0)) (m ((c : Thread nD τ).loc main_arg1)) (m ((c : Thread nD τ).loc main_arg2))
        (m ((c : Thread nD τ).loc main_arg3)) n l := by
  have ht : t.val < 128 := t.isLt
  have hK := full_eq (argK (m ((c : Thread nD τ).loc main_arg1))) (iblk m c 4 t) (iblk m c 2 t) t
    (fun i l h => (blk_kp m c t i l h).trans (V_k m c _ _)) (fun i l h => (blk_kc m c t i l h).trans (V_k m c _ _))
  have hV := full_eq (argK (m ((c : Thread nD τ).loc main_arg2))) (iblk m c 5 t) (iblk m c 3 t) t
    (fun i l h => (blk_vp m c t i l h).trans (V_v m c _ _)) (fun i l h => (blk_vc m c t i l h).trans (V_v m c _ _))
  have hQ : ∀ l : Fin 512, (iblk m c 1 t : Vec Ideal S512x512 .bf16) (ix2 i l)
      = argQ (m ((c : Thread nD τ).loc main_arg0)) n l * Ideal.ofBits .f32 0x3E000000#32 := fun l => by
    rw [blk_q m c t i l (by omega), V_q]
    exact congrArg (argQ _ · l * _) (Fin.ext hn.symm)
  have hfirst : (decide (t.val % 16 = 0) && decide (i.val / 128 = 0)) = decide (n.val % 8192 / 128 = 0) := by
    rw [← Bool.decide_and]; exact decide_eq_decide.mpr (by omega)
  have hr : (⟨i.val % 128, by omega⟩ : Fin 128) = ⟨n.val % 128, by omega⟩ := Fin.ext (by show i.val % 128 = n.val % 128; omega)
  unfold elem rowOut
  rw [hfirst, hr, blk_s m c t]
  simp only [hQ]
  congr 1
  · congr 1
    · funext k e
      exact hK _ _ _ (by split <;> simp only [] at * <;> omega)
    · funext k e
      exact hK _ _ _ (by split <;> simp only [] at * <;> omega)
  · funext k
    exact hV _ _ _ (by split <;> simp only [] at * <;> omega)
  · funext k
    exact hV _ _ _ (by split <;> simp only [] at * <;> omega)

/-- The result array after the run. -/
theorem arr_eq : (dats m 0 c).arrAt 6 cfg0.N
    = out (m ((c : Thread nD τ).loc main_arg0)) (m ((c : Thread nD τ).loc main_arg1)) (m ((c : Thread nD τ).loc main_arg2))
        (m ((c : Thread nD τ).loc main_arg3)) := by
  refine (dats m 0 c).arrAt_eq_of_covers 6 _ (by decide +kernel) fun t hf y => ?_
  blk_simp
  rw [after0_6, outsAt_eq]
  refine (elem_eq m c t (y 0) (y 1) (((cfg0.win 6).blk t).view.emb y 0) ?_).trans ?_
  · blk_simp [idx t]
  · refine congrArg (rowOut _ _ _ _ _) (Fin.ext ?_)
    blk_simp [idx t]

end Cert.Attn.Array

end
-- ==== Proof.Attn.Equation.lean ====
module

public import proofs.«01_k».proof.Proof.Attn.RefRow
public import proofs.«01_k».proof.Proof.Attn.Array
public import proofs.«01_k».proof.Pre_finite

@[expose] public section
set_option maxRecDepth 16384

noncomputable section

/-! The tiled attention's result and the plain one's are the same where queries, keys and sinks are finite. -/

namespace Cert.Attn.Equation

open Cert.KernelIdeal Idealize.ShloMosaic Idealize.ShloMosaic.TcCoe Idealize.ShloMosaic.Tactic
open Idealize.SL Idealize.SL.Sem
open Cert.Attn.Blocks Cert.Attn.Ref

/-- The scale that both programs write is an eighth. -/
theorem scale_eq : Ideal.ofBits .f32 0x3E000000#32 = ((1 / 8 : ℝ) : EReal) := by
  simp [Ideal.ofBits, Ideal.ieee, -EReal.coe_mul]
  norm_num

/-- The largest pattern is `⊤`. -/
theorem top_eq : Ideal.ofBits .f32 0x7F800000#32 = (⊤ : EReal) := by
  simp [Ideal.ofBits, Ideal.ieee]

/-- The precondition's comparison, read at one entry. -/
theorem fin_of_lt {s : Shape} {d : Fin 0 → Fin s.rank} (h : S_.BroadcastsInDim s d) (x : Vec Ideal s .f32)
    (hx : cmpf .olt (Host.absf (F := Ideal) (φ := .f32) x) (broadcastInDim s d h (constant (F := Ideal) S_ .f32 0x7F800000#32)) = fun _ => 1#1)
    (i : s.Idx) : Row.Fin' (x i) := by
  apply Row.Fin'.of_abs
  have h1 := congrFun hx i
  pointwise at h1
  rw [top_eq] at h1
  have h2 : decide (max (x i) (-x i) < ⊤) = true := by
    by_contra hn
    have hn2 : decide (max (x i) (-x i) < ⊤) = false := Bool.not_eq_true _ ▸ hn
    have h3 : BitVec.ofBool (decide (max (x i) (-x i) < ⊤)) = 1#1 := h1
    rw [hn2] at h3
    exact absurd h3 (by decide)
  exact of_decide_eq_true h2

/-- A query read by token and column, and by block, row and head. -/
theorem query_eq (A : Vec Ideal S8x8192x8x64 .f32) (n : Fin 65536) (l : Fin 512) (e : Fin 64) :
    argQ A n ⟨l.val / 64 * 64 + e.val, by omega⟩
    = query A ⟨n.val / 8192, by omega⟩ ⟨n.val / 128 % 64, by omega⟩ ⟨n.val % 128, by omega⟩ ⟨l.val / 256, by omega⟩ ⟨l.val / 64 % 4, by omega⟩ e := by
  unfold argQ query
  blk_ext

/-- A key of the block before, where there is one. -/
theorem prev_eq (A : Vec Ideal S8x8192x2x64 .f32) (n : Fin 65536) (h : Fin 2) (e : Fin 64) (k : Fin 128)
    (hn : n.val % 8192 / 128 ≠ 0) (w : Fin 128) (hw : w.val = h.val * 64 + e.val) :
    band A ⟨n.val / 8192, by omega⟩ ⟨n.val / 128 % 64, by omega⟩ h ⟨k.val, by omega⟩ e
    = argK A ⟨(n.val / 128 - 1) * 128 + k.val, by omega⟩ w := by
  unfold band argK
  have h0 : ¬ n.val / 128 % 64 = 0 := by omega
  rw [dif_pos (show (⟨k.val, by omega⟩ : Fin 256).val < 128 from k.isLt), dif_neg h0]
  blk_ext

/-- A key of the block itself. -/
theorem cur_eq (A : Vec Ideal S8x8192x2x64 .f32) (n : Fin 65536) (h : Fin 2) (e : Fin 64) (k : Fin 128)
    (w : Fin 128) (hw : w.val = h.val * 64 + e.val) :
    band A ⟨n.val / 8192, by omega⟩ ⟨n.val / 128 % 64, by omega⟩ h ⟨128 + k.val, by omega⟩ e
    = argK A ⟨n.val / 128 * 128 + k.val, by omega⟩ w := by
  unfold band argK
  rw [dif_neg (show ¬ (⟨128 + k.val, by omega⟩ : Fin 256).val < 128 by simp)]
  blk_ext

/-- The two results are equal. -/
theorem out_eq (A0 : Vec Ideal S8x8192x8x64 .f32) (A1 A2 : Vec Ideal S8x8192x2x64 .f32) (A3 : Vec Ideal S8 .f32)
    (f0 : ∀ i, Row.Fin' (A0 i)) (f1 : ∀ i, Row.Fin' (A1 i)) (f3 : ∀ i, Row.Fin' (A3 i)) :
    Cert.Attn.Array.out A0 A1 A2 A3 = Cert.ReferenceIdeal.Read.val_main_v62 (F := Ideal) A0 A1 A2 A3 := by
  funext y
  idx_vars y
  rw [v62_apply, v59_apply]
  show Cert.Attn.Array.rowOut A0 A1 A2 A3 y0 y1 = _
  unfold Cert.Attn.Array.rowOut
  have hd : (decide (y0.val % 8192 / 128 = 0)) = decide (y0.val / 128 % 64 = 0) := decide_eq_decide.mpr (by omega)
  have hs : (⟨y1.val / 64, by omega⟩ : Fin 8) = ⟨y1.val / 256 * 4 + y1.val / 64 % 4, by omega⟩ := Fin.ext (by show y1.val / 64 = y1.val / 256 * 4 + y1.val / 64 % 4; omega)
  rw [hd, hs]
  rw [scale_eq]
  refine Row.kernelRow_eq_refRow _ _ (1 / 8) _ _ _ _ _ _ _ _ _ (fun e => ?_) (fun hf k e => ?_) (fun k e => cur_eq A1 y0 _ e k _ rfl)
    (fun hf k => ?_) (fun k => cur_eq A2 y0 _ ⟨y1.val % 64, by omega⟩ k _ rfl) (fun e => f0 _) (fun k e => ?_) (f3 _)
  · rw [query_eq]
  · exact prev_eq A1 y0 _ e k (by have := of_decide_eq_false hf; omega) _ rfl
  · exact prev_eq A2 y0 _ ⟨y1.val % 64, by omega⟩ k (by have := of_decide_eq_false hf; omega) _ rfl
  · unfold band
    split
    · split
      · exact ⟨0, rfl⟩
      · exact f1 _
    · exact f1 _

end Cert.Attn.Equation

end
-- ==== Proof.Experts.Setup.lean ====
module

public import proofs.«01_k».proof.Proof.Gen.Kernel2Ideal.Launch
public import proofs.«01_k».proof.Proof.Gen.Kernel2Ideal.Skeleton
public import Idealize.ShloMosaic.Lib.Pipeline.FrameBody
public import Idealize.ShloMosaic.Lib.Pipeline.Frame
public import Idealize.ShloMosaic.Lib.VecWindow
public import Idealize.ShloMosaic.Lib.Tactic
public import Idealize.ShloMosaic.Lib.WordCmp

@[expose] public section

set_option maxRecDepth 16384

noncomputable section

/-! The experts call's launch, set up: the memory the call finds, the prefetched tables, the blocks of its windows,
and the buffers its body is handed at each point. -/

namespace Cert.Experts

open Cert.Kernel2Ideal Cert.Kernel2Ideal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The memory the call finds -/

/-- The buffers when the call is entered: the launch memory after the host's cast and reshapes. -/
abbrev V (c : Dev nD) (b : Ref sig .tc) : Buf (Elt F) ((c : Thread nD τ).loc b) :=
  StableHlo.after hostOps0 (fun b => m (c, b)) b

theorem hostOps0_fresh : (hostOps0 : List (HloOp τ sig (Elt F))).Forall fun op => op.fresh = ∅ := by
  simp only [List.Forall]; repeat' constructor

set_option maxHeartbeats 800000 in
/-- The program runs its host operations and then the call. -/
theorem hmain (𝒱₀ : Variants) : Pipeline.HMainP (Ix := Unit) (Name := ℕ) (U := UR sig nD τ) (Lvl := ℕ) pcfgs 0 defs₀ 𝒱₀ m
    (main (F := F)) (V m) :=
  Pipeline.hmainP_prefix pcfgs 0 defs₀ 𝒱₀ m main hostOps0 hostOps0_sub hostOps0_fresh main_chain

/-- A buffer that is none of the host operations' results is found as launched. -/
theorem V_of_ne (c : Dev nD) (b : Ref sig .tc) (h0 : b ≠ main_v0) (h1 : b ≠ main_v1) (h2 : b ≠ main_v2) :
    V m c b = m ((c : Thread nD τ).loc b) :=
  StableHlo.after_of_forall_not_mem (b := Proc.devRef .tc b) _ _ (List.forall_iff_forall_mem.mp (by
    simp only [hostOps0, List.Forall, StableHlo.unary_writes, StableHlo.reshape_writes, Finset.mem_singleton]
    exact ⟨StableHlo.devRef_ne_of_ne h0, StableHlo.devRef_ne_of_ne h1, StableHlo.devRef_ne_of_ne h2⟩))

/-! ## The prefetched tables -/

/-- The tables' contents when the call is entered. -/
def tbl : pre0.Contents (Elt F) := fun j => V m (0 : Dev nD) (pre0.ref j)

theorem V_pre (c : Dev nD) (j : Fin 3) : V m c (pre0.ref j) = tbl m j := by
  obtain rfl : c = 0 := Subsingleton.elim _ _; rfl

/-- Every block the tables select lies in its array. -/
abbrev Ok : Prop := ok0 (F := F) (tbl m)
abbrev adm (hO : Ok m) : (pcfg0 (F := F)).Adm := ⟨tbl m, hO⟩
abbrev cfgM (hO : Ok m) : Pipeline.Cfg sig Λ₀ := cfg0 (adm m hO)

/-- The tables as the body is handed them: the blocks' experts, the blocks' counts of tokens, the count of blocks used. -/
abbrev tb0 : Memref sig .tc .smem S546 .i32 := Memref.whole main_arg0
abbrev tb1 : Memref sig .tc .smem S546 .i32 := Memref.whole main_arg1
abbrev tb2 : Memref sig .tc .smem S1 .i32 := Memref.whole main_arg2

/-- A table held at half the full share: the pipeline keeps the other half. -/
abbrev TbBuf (c : Dev nD) {S : Shape} {e : EltTy} (M : Memref sig .tc .smem S e) : Type := Buf (Elt F) (M.view.loc (c : Thread nD τ))
abbrev tbPt (c : Dev nD) {S : Shape} {e : EltTy} (M : Memref sig .tc .smem S e) (f : TbBuf (F := F) c M) : sProp 𝕄 :=
  M.view.loc (c : Thread nD τ) ↦{fullShare.right} f

theorem PhiT_eq (c : Dev nD) : (Pipeline.ΦT pre0 (tbl m) c : sProp 𝕄)
    = iprop(tbPt c tb0 (tbl m 0) ∗ tbPt c tb1 (tbl m 1) ∗ tbPt c tb2 (tbl m 2)) := by
  unfold Pipeline.ΦT Pipeline.prefHeld
  rw [show (Finset.univ : Finset (Fin 3)) = insert (0 : Fin 3) (insert (1 : Fin 3) {(2 : Fin 3)}) from by decide,
    bigSep_insert (by decide), bigSep_insert (by decide), bigSep_singleton]
  rfl

/-! ## The windows' blocks -/

/-- Window `w`'s block at point `t`, of the array as the call finds it. -/
def iblk (hO : Ok m) (c : Dev nD) (w : Fin (cfgM m hO).W) (t : Fin (cfgM m hO).N) :
    (((cfgM m hO).win w).xblock ((cfgM m hO).grid.coords t)).Idx → Elt F ((cfgM m hO).win w).elt :=
  (((cfgM m hO).win w).blk t).view.read (Elt F) (V m c (Pipeline.arrRef spec0 w))

/-- Before the body an input's staging buffer holds its block, fetched at this point or at an earlier one. -/
theorem before_0 (hO : Ok m) {c : Dev nD} (dat : Dat τ (Elt F) Unit ℕ (UR sig nD τ) ℕ (cfgM m hO) c)
    (hA : dat.A 0 = V m c (Pipeline.arrRef spec0 0)) (hafter : ∀ t, dat.after 0 t = iblk m hO c 0 t)
    (t : Fin (cfgM m hO).N) (d) : dat.before 0 t d = iblk m hO c 0 t :=
  (dat.before_in_eq_fetched 0 rfl (fun _ => rfl) (fun _ _ _ => rfl)
    (fun t => by rw [hafter]; unfold Dat.blockOf iblk; rw [hA]; try rfl) t d).trans
    (by unfold Dat.fetched Dat.blockOf iblk; rw [hA]; try rfl)
theorem before_1 (hO : Ok m) {c : Dev nD} (dat : Dat τ (Elt F) Unit ℕ (UR sig nD τ) ℕ (cfgM m hO) c)
    (hA : dat.A 1 = V m c (Pipeline.arrRef spec0 1)) (hafter : ∀ t, dat.after 1 t = iblk m hO c 1 t)
    (t : Fin (cfgM m hO).N) (d) : dat.before 1 t d = iblk m hO c 1 t :=
  (dat.before_in_eq_fetched 1 rfl (fun _ => rfl) (fun _ _ _ => rfl)
    (fun t => by rw [hafter]; unfold Dat.blockOf iblk; rw [hA]; try rfl) t d).trans
    (by unfold Dat.fetched Dat.blockOf iblk; rw [hA]; try rfl)
theorem before_2 (hO : Ok m) {c : Dev nD} (dat : Dat τ (Elt F) Unit ℕ (UR sig nD τ) ℕ (cfgM m hO) c)
    (hA : dat.A 2 = V m c (Pipeline.arrRef spec0 2)) (hafter : ∀ t, dat.after 2 t = iblk m hO c 2 t)
    (t : Fin (cfgM m hO).N) (d) : dat.before 2 t d = iblk m hO c 2 t :=
  (dat.before_in_eq_fetched 2 rfl (fun _ => rfl) (fun _ _ _ => rfl)
    (fun t => by rw [hafter]; unfold Dat.blockOf iblk; rw [hA]; try rfl) t d).trans
    (by unfold Dat.fetched Dat.blockOf iblk; rw [hA]; try rfl)
theorem before_3 (hO : Ok m) {c : Dev nD} (dat : Dat τ (Elt F) Unit ℕ (UR sig nD τ) ℕ (cfgM m hO) c)
    (hA : dat.A 3 = V m c (Pipeline.arrRef spec0 3)) (hafter : ∀ t, dat.after 3 t = iblk m hO c 3 t)
    (t : Fin (cfgM m hO).N) (d) : dat.before 3 t d = iblk m hO c 3 t :=
  (dat.before_in_eq_fetched 3 rfl (fun _ => rfl) (fun _ _ _ => rfl)
    (fun t => by rw [hafter]; unfold Dat.blockOf iblk; rw [hA]; try rfl) t d).trans
    (by unfold Dat.fetched Dat.blockOf iblk; rw [hA]; try rfl)
theorem before_4 (hO : Ok m) {c : Dev nD} (dat : Dat τ (Elt F) Unit ℕ (UR sig nD τ) ℕ (cfgM m hO) c)
    (hA : dat.A 4 = V m c (Pipeline.arrRef spec0 4)) (hafter : ∀ t, dat.after 4 t = iblk m hO c 4 t)
    (t : Fin (cfgM m hO).N) (d) : dat.before 4 t d = iblk m hO c 4 t :=
  (dat.before_in_eq_fetched 4 rfl (fun _ => rfl) (fun _ _ _ => rfl)
    (fun t => by rw [hafter]; unfold Dat.blockOf iblk; rw [hA]; try rfl) t d).trans
    (by unfold Dat.fetched Dat.blockOf iblk; rw [hA]; try rfl)

/-! ## The buffers at a point -/

abbrev ms0 (hO : Ok m) (t : Fin (cfgM m hO).N) : Memref sig .tc .vmem S512x1024 .bf16 := spec0_0.stage ((cfgM m hO).slots t 0)
abbrev hs0 (hO : Ok m) (t : Fin (cfgM m hO).N) : (ms0 m hO t).IsWhole := hstage0_0 (((cfgM m hO).slots t 0).cast nbuf0_0)
abbrev ms1 (hO : Ok m) (t : Fin (cfgM m hO).N) : Memref sig .tc .vmem S1x1x1024x2048 .f32 := spec0_1.stage ((cfgM m hO).slots t 1)
abbrev hs1 (hO : Ok m) (t : Fin (cfgM m hO).N) : (ms1 m hO t).IsWhole := hstage0_1 (((cfgM m hO).slots t 1).cast nbuf0_1)
abbrev ms2 (hO : Ok m) (t : Fin (cfgM m hO).N) : Memref sig .tc .vmem S1x1x1x2048 .f32 := spec0_2.stage ((cfgM m hO).slots t 2)
abbrev hs2 (hO : Ok m) (t : Fin (cfgM m hO).N) : (ms2 m hO t).IsWhole := hstage0_2 (((cfgM m hO).slots t 2).cast nbuf0_2)
abbrev ms3 (hO : Ok m) (t : Fin (cfgM m hO).N) : Memref sig .tc .vmem S1x1x1024x1024 .f32 := spec0_3.stage ((cfgM m hO).slots t 3)
abbrev hs3 (hO : Ok m) (t : Fin (cfgM m hO).N) : (ms3 m hO t).IsWhole := hstage0_3 (((cfgM m hO).slots t 3).cast nbuf0_3)
abbrev ms4 (hO : Ok m) (t : Fin (cfgM m hO).N) : Memref sig .tc .vmem S1x1x1x1024 .f32 := spec0_4.stage ((cfgM m hO).slots t 4)
abbrev hs4 (hO : Ok m) (t : Fin (cfgM m hO).N) : (ms4 m hO t).IsWhole := hstage0_4 (((cfgM m hO).slots t 4).cast nbuf0_4)
abbrev ms5 (hO : Ok m) (t : Fin (cfgM m hO).N) : Memref sig .tc .vmem S512x1024 .bf16 := spec0_5.stage ((cfgM m hO).slots t 5)
abbrev hs5 (hO : Ok m) (t : Fin (cfgM m hO).N) : (ms5 m hO t).IsWhole := hstage0_5 (((cfgM m hO).slots t 5).cast nbuf0_5)
/-- The two buffers kept between points: the cast weights of the expert at hand. -/
abbrev sc0 : Memref sig .tc .vmem S1024x2048 .bf16 := Memref.whole cc0_scratch0
abbrev sc1 : Memref sig .tc .vmem S1024x1024 .bf16 := Memref.whole cc0_scratch1

theorem PhiA_eq (c : Dev nD) : (Pipeline.ΦA spec0 c : sProp 𝕄)
    = iprop(iprop((∃ d, owns (c : Thread nD τ) sc0 fullShare d) ∗ (∃ d, owns (c : Thread nD τ) sc1 fullShare d)) ∗ (∃ r, prngReg c r)) := by
  unfold Pipeline.ΦA; rw [scopedRest0_eq]; simp only [sc0, sc1, owns_whole]; try rfl

/-- The body at point `t`, on the buffers the pipeline calls it with. -/
abbrev bodyAt (hO : Ok m) (t : Fin (cfgM m hO).N) : Prog (TpuEff nD τ sig (Elt F) Λ₀ .tc) PUnit :=
  cc0_experts (grid0.coords t) tb0 (Memref.isWhole_whole _) tb1 (Memref.isWhole_whole _) tb2 (Memref.isWhole_whole _)
    (ms0 m hO t) (hs0 m hO t) (ms1 m hO t) (hs1 m hO t) (ms2 m hO t) (hs2 m hO t) (ms3 m hO t) (hs3 m hO t)
    (ms4 m hO t) (hs4 m hO t) (ms5 m hO t) (hs5 m hO t) sc0 (Memref.isWhole_whole _) sc1 (Memref.isWhole_whole _)

/-! ## The words the body reads from the tables -/

/-- The expert of the block at hand, and that of the block before it (of the block at hand at the first point). -/
abbrev expertNow (c : Dev nD) (i : grid0.Coords) (x : TbBuf (F := F) c tb0) : BitVec 32 :=
  tb0.view.readAt (Elt F) (Rect.unit (s := S546) (k0_off1 i) S1.size (k0_off1_inb i)).toLoadRect x (Shape.Idx.first (numel1_S1.symm ▸ Nat.one_pos))
abbrev expertBefore (c : Dev nD) (i : grid0.Coords) (x : TbBuf (F := F) c tb0) : BitVec 32 :=
  tb0.view.readAt (Elt F) (Rect.unit (s := S546) (k0_off2 i) S1.size (k0_off2_inb i)).toLoadRect x (Shape.Idx.first (numel1_S1.symm ▸ Nat.one_pos))
/-- The block's count of tokens, and the count of blocks used. -/
abbrev valid (c : Dev nD) (i : grid0.Coords) (x : TbBuf (F := F) c tb1) : BitVec 32 :=
  tb1.view.readAt (Elt F) (Rect.unit (s := S546) (k0_off3 i) S1.size (k0_off3_inb i)).toLoadRect x (Shape.Idx.first (numel1_S1.symm ▸ Nat.one_pos))
abbrev used (c : Dev nD) (x : TbBuf (F := F) c tb2) : BitVec 32 :=
  tb2.view.readAt (Elt F) (Rect.unit (s := S1) ![0] S1.size inb_S1_S1_0).toLoadRect x (Shape.Idx.first (numel1_S1.symm ▸ Nat.one_pos))

/-- The body casts the expert's weights: at the first point, and where the expert is not the one before. -/
abbrev reload (i : grid0.Coords) (v w : BitVec 32) : Prop :=
  Scalar.cmpi .ne (Scalar.extui (Scalar.ori (Scalar.cmpi .eq (BitVec.ofNat 32 (i 0).val) 0#32) (Scalar.cmpi .ne v w))) 0#32 = 1#1

end Cert.Experts

end
-- ==== Proof.Experts.Rows.lean ====
module

public import proofs.«01_k».proof.Proof.Experts.Setup

@[expose] public section

set_option maxRecDepth 16384

noncomputable section

/-! What one run of the body leaves in the block of results. -/

namespace Cert.Experts

open Cert.Kernel2Ideal Cert.Kernel2Ideal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄" => MT nD τ sig Unit (Elt F) ℕ (UR sig nD τ) ℕ

/-- The columns of the first weights (from `o`), of their bias, and the rows of the second weights that one half of the
body's feed-forward columns reads. -/
abbrev cols0 (W : Vec F S1024x2048 .bf16) : Vec F S1024x512 .bf16 := View.ld W (Rect.unit (s := S1024x2048) ![0, 0] S1024x512.size inb_S1024x2048_S1024x512_0_0)
abbrev cols512 (W : Vec F S1024x2048 .bf16) : Vec F S1024x512 .bf16 := View.ld W (Rect.unit (s := S1024x2048) ![0, 512] S1024x512.size inb_S1024x2048_S1024x512_0_512)
abbrev cols1024 (W : Vec F S1024x2048 .bf16) : Vec F S1024x512 .bf16 := View.ld W (Rect.unit (s := S1024x2048) ![0, 1024] S1024x512.size inb_S1024x2048_S1024x512_0_1024)
abbrev cols1536 (W : Vec F S1024x2048 .bf16) : Vec F S1024x512 .bf16 := View.ld W (Rect.unit (s := S1024x2048) ![0, 1536] S1024x512.size inb_S1024x2048_S1024x512_0_1536)
abbrev bias0 (b : Vec F S1x1x1x2048 .f32) : Vec F S1x1x1x512 .f32 := View.ld b (Rect.unit (s := S1x1x1x2048) ![0, 0, 0, 0] S1x1x1x512.size inb_S1x1x1x2048_S1x1x1x512_0_0_0_0)
abbrev bias512 (b : Vec F S1x1x1x2048 .f32) : Vec F S1x1x1x512 .f32 := View.ld b (Rect.unit (s := S1x1x1x2048) ![0, 0, 0, 512] S1x1x1x512.size inb_S1x1x1x2048_S1x1x1x512_0_0_0_512)
abbrev bias1024 (b : Vec F S1x1x1x2048 .f32) : Vec F S1x1x1x512 .f32 := View.ld b (Rect.unit (s := S1x1x1x2048) ![0, 0, 0, 1024] S1x1x1x512.size inb_S1x1x1x2048_S1x1x1x512_0_0_0_1024)
abbrev bias1536 (b : Vec F S1x1x1x2048 .f32) : Vec F S1x1x1x512 .f32 := View.ld b (Rect.unit (s := S1x1x1x2048) ![0, 0, 0, 1536] S1x1x1x512.size inb_S1x1x1x2048_S1x1x1x512_0_0_0_1536)
abbrev rows0 (D : Vec F S1024x1024 .bf16) : Vec F S512x1024 .bf16 := View.ld D (Rect.unit (s := S1024x1024) ![0, 0] S512x1024.size inb_S1024x1024_S512x1024_0_0)
abbrev rows512 (D : Vec F S1024x1024 .bf16) : Vec F S512x1024 .bf16 := View.ld D (Rect.unit (s := S1024x1024) ![512, 0] S512x1024.size inb_S1024x1024_S512x1024_512_0)

/-- What the body leaves of a block used: from its count of tokens, its rows, the expert's weights (cast) and biases. -/
def rowsOut (n : BitVec 32) (x : Vec F S512x1024 .bf16) (W : Vec F S1024x2048 .bf16) (b : Vec F S1x1x1x2048 .f32)
    (D : Vec F S1024x1024 .bf16) (d : Vec F S1x1x1x1024 .f32) : FVec F S512x1024 .bf16 :=
  k0_pay3 (k0_pay8 (k0_pay6 n x (cols1024 W) (bias1024 b)) (k0_pay7 n x (cols0 W) (bias0 b)) (rows0 D))
    (k0_pay9 (k0_pay5 n x) (cols512 W) (bias512 b) (cols1536 W) (bias1536 b)) (rows512 D) d

end Cert.Experts

end
-- ==== Proof.Experts.Words.lean ====
module

public import proofs.«01_k».proof.Proof.Experts.Rows
public import Idealize.ShloMosaic.Lib.Pipeline.ValueKit
public import Idealize.ShloMosaic.Lib.Claim

@[expose] public section

set_option maxRecDepth 16384

noncomputable section

/-! What the words of the tables decide at a point: whether the expert's weights are cast anew, and whether the block is
among those used. -/

namespace Cert.Experts

open Cert.Kernel2Ideal Cert.Kernel2Ideal.Gen
open Idealize.ShloMosaic Idealize.ShloMosaic.TcCoe Idealize.ShloMosaic.Tactic
open Idealize.SL Idealize.SL.RA Idealize.SL.BI Idealize.SL.Sem

variable {F : FTy → Type} [FloatOps F]

/-- A one-bit word that is not one is zero. -/
theorem bit_cases (b : BitVec 1) : b = 1#1 ∨ b = 0#1 := by
  revert b; decide

/-- Widened and compared with zero a bit is itself. -/
theorem bit_widened (b : BitVec 1) : Scalar.cmpi .ne (Scalar.extui b : BitVec 32) 0#32 = b := by
  revert b; decide

theorem ofBool_iff (b : Bool) : BitVec.ofBool b = 1#1 ↔ b = true := by
  cases b <;> decide

theorem slt_not (x y : BitVec 32) : y.sle x = !x.slt y := by
  simp only [BitVec.slt_eq_decide, BitVec.sle_eq_decide]
  rw [← decide_not, decide_eq_decide]; omega

theorem used_iff (i : grid0.Coords) (v : BitVec 32) : k0_cond2 i v = 1#1 ↔ (BitVec.ofNat 32 (i 0).val).slt v = true := by
  unfold k0_cond2
  simp only [bit_widened]
  exact ofBool_iff _

theorem unused_iff (i : grid0.Coords) (v : BitVec 32) : k0_cond3 i v = 1#1 ↔ ¬ k0_cond2 i v = 1#1 := by
  rw [used_iff]
  unfold k0_cond3
  simp only [bit_widened]
  refine (ofBool_iff _).trans ?_
  show v.sle (BitVec.ofNat 32 (i 0).val) = true ↔ _
  rw [slt_not]; cases (BitVec.ofNat 32 (i 0).val).slt v <;> decide

/-- At the first point the weights are cast. -/
theorem reload_first (i : grid0.Coords) (h : (i 0).val = 0) (v w : BitVec 32) : reload i v w := by
  unfold reload
  rw [bit_widened, h]
  rcases bit_cases (Scalar.cmpi .ne v w) with e | e <;> rw [e] <;> decide

/-- Where they are not cast, the expert is the one before. -/
theorem same_of_keep (i : grid0.Coords) (v w : BitVec 32) (h : ¬ reload i v w) : v = w := by
  by_contra hne
  refine h ?_
  unfold reload
  rw [bit_widened]
  have e' : Scalar.cmpi .ne v w = 1#1 := (ofBool_iff _).mpr (bne_iff_ne.mpr hne)
  rw [e']
  rcases bit_cases (Scalar.cmpi .eq (BitVec.ofNat 32 (i 0).val) 0#32) with e | e <;> rw [e] <;> decide

/-- The coordinate of a point of the grid. -/
theorem coords_val (t : Fin grid0.N) : (grid0.coords t 0).val = t.val := by
  revert t; decide +kernel

/-- The block before, as the body computes it. -/
theorem off2_eq (t : Fin grid0.N) : k0_off2 (grid0.coords t) = ![t.val - 1] := by
  revert t; decide +kernel

/-- A word read from a table is the table's entry. -/
theorem expertNow_eq (c : Dev nD) (t : Fin grid0.N) (x : TbBuf (F := F) c tb0) (h : t.val < 546) :
    expertNow c (grid0.coords t) x = x (ix1 ⟨t.val, h⟩) := by
  unfold expertNow
  show x _ = x _
  congr 1
  funext a
  match a with
  | 0 => exact Fin.ext ((Nat.add_zero _).trans (congrFun ((k0_off1_eq _).trans (congrArg (fun n => ![n]) (coords_val t))) 0))

theorem expertBefore_eq (c : Dev nD) (t : Fin grid0.N) (x : TbBuf (F := F) c tb0) (h : t.val - 1 < 546) :
    expertBefore c (grid0.coords t) x = x (ix1 ⟨t.val - 1, h⟩) := by
  unfold expertBefore
  show x _ = x _
  congr 1
  funext a
  match a with
  | 0 => exact Fin.ext ((Nat.add_zero _).trans (congrFun (off2_eq t) 0))

theorem valid_eq (c : Dev nD) (t : Fin grid0.N) (x : TbBuf (F := F) c tb1) (h : t.val < 546) :
    valid c (grid0.coords t) x = x (ix1 ⟨t.val, h⟩) := by
  unfold valid
  show x _ = x _
  congr 1
  funext a
  match a with
  | 0 => exact Fin.ext ((Nat.add_zero _).trans (congrFun ((k0_off3_eq _).trans (congrArg (fun n => ![n]) (coords_val t))) 0))

theorem used_eq (c : Dev nD) (x : TbBuf (F := F) c tb2) : used c x = x (ix1 0) := by
  unfold used
  show x _ = x _
  congr 1
  funext a
  match a with
  | 0 => exact Fin.ext rfl

end Cert.Experts

end
-- ==== Proof.Experts.CastUsed.lean ====
module

public import proofs.«01_k».proof.Proof.Experts.Rows

@[expose] public section

set_option maxRecDepth 16384

noncomputable section

/-! A run of the body at a block used whose expert is not the one before. -/

namespace Cert.Experts

open Cert.Kernel2Ideal Cert.Kernel2Ideal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄" => MT nD τ sig Unit (Elt F) ℕ (UR sig nD τ) ℕ

set_option maxHeartbeats 2000000 in
/-- The body at a block used whose expert is not the one before: it casts the expert's weights and leaves the block's rows. -/
theorem body_cast_used (c : Dev nD) (i : grid0.Coords) (arg4 : Memref sig .tc .vmem S512x1024 .bf16) (harg4 : arg4.IsWhole) (arg5 : Memref sig .tc .vmem S1x1x1024x2048 .f32) (harg5 : arg5.IsWhole)
    (arg6 : Memref sig .tc .vmem S1x1x1x2048 .f32) (harg6 : arg6.IsWhole) (arg7 : Memref sig .tc .vmem S1x1x1024x1024 .f32) (harg7 : arg7.IsWhole)
    (arg8 : Memref sig .tc .vmem S1x1x1x1024 .f32) (harg8 : arg8.IsWhole) (arg9 : Memref sig .tc .vmem S512x1024 .bf16) (harg9 : arg9.IsWhole)
    (arg10 : Memref sig .tc .vmem S1024x2048 .bf16) (harg10 : arg10.IsWhole) (arg11 : Memref sig .tc .vmem S1024x1024 .bf16) (harg11 : arg11.IsWhole)
    (x0 : Vec F S512x1024 .bf16) (x1 : Vec F S1x1x1024x2048 .f32) (x2 : Vec F S1x1x1x2048 .f32) (x3 : Vec F S1x1x1024x1024 .f32) (x4 : Vec F S1x1x1x1024 .f32)
    (y0 : TbBuf (F := F) c tb0) (y1 : TbBuf (F := F) c tb1) (y2 : TbBuf (F := F) c tb2)
    (hc1 : reload i (expertNow c i y0) (expertBefore c i y0)) (hc2 : k0_cond2 i (used c y2) = 1#1) (hc3 : ¬ k0_cond3 i (used c y2) = 1#1)
    (E : Set ℕ) (K : PUnit → sProp 𝕄) :
    iprop(owns (c : Thread nD τ) arg4 fullShare x0 ∗ owns (c : Thread nD τ) arg5 fullShare x1 ∗ owns (c : Thread nD τ) arg6 fullShare x2 ∗ owns (c : Thread nD τ) arg7 fullShare x3 ∗ owns (c : Thread nD τ) arg8 fullShare x4
        ∗ (∃ d, owns (c : Thread nD τ) arg9 fullShare d) ∗ (∃ d, owns (c : Thread nD τ) arg10 fullShare d) ∗ (∃ d, owns (c : Thread nD τ) arg11 fullShare d) ∗ tbPt c tb0 y0 ∗ tbPt c tb1 y1 ∗ tbPt c tb2 y2
        ∗ (iprop(owns (c : Thread nD τ) arg4 fullShare x0 ∗ owns (c : Thread nD τ) arg5 fullShare x1 ∗ owns (c : Thread nD τ) arg6 fullShare x2 ∗ owns (c : Thread nD τ) arg7 fullShare x3 ∗ owns (c : Thread nD τ) arg8 fullShare x4
            ∗ owns (c : Thread nD τ) arg9 fullShare (rowsOut (valid c i y1) x0 (k0_pay1 x1) x2 (k0_pay2 x3) x4) ∗ owns (c : Thread nD τ) arg10 fullShare (k0_pay1 x1) ∗ owns (c : Thread nD τ) arg11 fullShare (k0_pay2 x3)
            ∗ tbPt c tb0 y0 ∗ tbPt c tb1 y1 ∗ tbPt c tb2 y2) -∗ K ⟨⟩))
      ⊢ wp frame (wpE (defs₀ (F := F)) Variants.none c none) E (cc0_experts i tb0 (Memref.isWhole_whole _) tb1 (Memref.isWhole_whole _) tb2 (Memref.isWhole_whole _)
          arg4 harg4 arg5 harg5 arg6 harg6 arg7 harg7 arg8 harg8 arg9 harg9 arg10 harg10 arg11 harg11) K := by
  simp only [cc0_experts_eq_skeleton]; unfold cc0_experts_skel
  simp only [k0_part1_eq_skeleton, k0_part2_eq_skeleton]
  unfold owns
  iintro ⟨⟨%f0, %hf0, H0⟩, ⟨%f1, %hf1, H1⟩, ⟨%f2, %hf2, H2⟩, ⟨%f3, %hf3, H3⟩, ⟨%f4, %hf4, H4⟩, ⟨%d5, %f5, -, H5⟩, ⟨%ds0, %fs0, -, HS0⟩, ⟨%ds1, %fs1, -, HS1⟩, HT0, HT1, HT2, Hk⟩
  obtain rfl := harg4.eq_unread hf0; obtain rfl := harg5.eq_unread hf1; obtain rfl := harg6.eq_unread hf2
  obtain rfl := harg7.eq_unread hf3; obtain rfl := harg8.eq_unread hf4
  sl_exec (disch := first | sl_exact hc1 | sl_exact hc2 | sl_exact hc3)
  sl_step
  iapply Hk
  isplitl [H0]
  · iexists _; isplitr; · ipureintro; exact harg4.read_unread _
    iexact H0
  isplitl [H1]
  · iexists _; isplitr; · ipureintro; exact harg5.read_unread _
    iexact H1
  isplitl [H2]
  · iexists _; isplitr; · ipureintro; exact harg6.read_unread _
    iexact H2
  isplitl [H3]
  · iexists _; isplitr; · ipureintro; exact harg7.read_unread _
    iexact H3
  isplitl [H4]
  · iexists _; isplitr; · ipureintro; exact harg8.read_unread _
    iexact H4
  isplitl [H5]
  · iexists _; isplitr; swap; · iexact H5
    ipureintro; sl_unfold_run_names
    rw [View.read_writes_full]
    rw [View.readAt_full arg5.view, View.readAt_full arg7.view, harg5.read_unread, harg7.read_unread,
      View.readAt_full arg4.view, View.readAt_full arg8.view, harg4.read_unread, harg8.read_unread]
    simp only [View.readCov, View.readAt_eq_ld, harg6.read_unread]
    rw [View.read_writes_full arg10.view, View.read_writes_full arg11.view]
    rfl
  isplitl [HS0]
  · iexists _; isplitr; swap; · iexact HS0
    ipureintro; sl_unfold_run_names
    rw [View.read_writes_full, View.readAt_full, harg5.read_unread]
  isplitl [HS1]
  · iexists _; isplitr; swap; · iexact HS1
    ipureintro; sl_unfold_run_names
    rw [View.read_writes_full, View.readAt_full, harg7.read_unread]
  isplitl [HT0]; · iexact HT0
  isplitl [HT1]; · iexact HT1
  iexact HT2

end Cert.Experts

end
-- ==== Proof.Experts.CastUnused.lean ====
module

public import proofs.«01_k».proof.Proof.Experts.Rows

@[expose] public section

set_option maxRecDepth 16384

noncomputable section

/-! A run of the body at a block not used whose expert is not the one before. -/

namespace Cert.Experts

open Cert.Kernel2Ideal Cert.Kernel2Ideal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄" => MT nD τ sig Unit (Elt F) ℕ (UR sig nD τ) ℕ

set_option maxHeartbeats 2000000 in
/-- The body at a block not used whose expert is not the one before: it casts the weights and leaves zeros. -/
theorem body_cast_unused (c : Dev nD) (i : grid0.Coords) (arg4 : Memref sig .tc .vmem S512x1024 .bf16) (harg4 : arg4.IsWhole) (arg5 : Memref sig .tc .vmem S1x1x1024x2048 .f32) (harg5 : arg5.IsWhole)
    (arg6 : Memref sig .tc .vmem S1x1x1x2048 .f32) (harg6 : arg6.IsWhole) (arg7 : Memref sig .tc .vmem S1x1x1024x1024 .f32) (harg7 : arg7.IsWhole)
    (arg8 : Memref sig .tc .vmem S1x1x1x1024 .f32) (harg8 : arg8.IsWhole) (arg9 : Memref sig .tc .vmem S512x1024 .bf16) (harg9 : arg9.IsWhole)
    (arg10 : Memref sig .tc .vmem S1024x2048 .bf16) (harg10 : arg10.IsWhole) (arg11 : Memref sig .tc .vmem S1024x1024 .bf16) (harg11 : arg11.IsWhole)
    (x0 : Vec F S512x1024 .bf16) (x1 : Vec F S1x1x1024x2048 .f32) (x2 : Vec F S1x1x1x2048 .f32) (x3 : Vec F S1x1x1024x1024 .f32) (x4 : Vec F S1x1x1x1024 .f32)
    (y0 : TbBuf (F := F) c tb0) (y1 : TbBuf (F := F) c tb1) (y2 : TbBuf (F := F) c tb2)
    (hc1 : reload i (expertNow c i y0) (expertBefore c i y0)) (hc2 : ¬ k0_cond2 i (used c y2) = 1#1) (hc3 : k0_cond3 i (used c y2) = 1#1)
    (E : Set ℕ) (K : PUnit → sProp 𝕄) :
    iprop(owns (c : Thread nD τ) arg4 fullShare x0 ∗ owns (c : Thread nD τ) arg5 fullShare x1 ∗ owns (c : Thread nD τ) arg6 fullShare x2 ∗ owns (c : Thread nD τ) arg7 fullShare x3 ∗ owns (c : Thread nD τ) arg8 fullShare x4
        ∗ (∃ d, owns (c : Thread nD τ) arg9 fullShare d) ∗ (∃ d, owns (c : Thread nD τ) arg10 fullShare d) ∗ (∃ d, owns (c : Thread nD τ) arg11 fullShare d) ∗ tbPt c tb0 y0 ∗ tbPt c tb1 y1 ∗ tbPt c tb2 y2
        ∗ (iprop(owns (c : Thread nD τ) arg4 fullShare x0 ∗ owns (c : Thread nD τ) arg5 fullShare x1 ∗ owns (c : Thread nD τ) arg6 fullShare x2 ∗ owns (c : Thread nD τ) arg7 fullShare x3 ∗ owns (c : Thread nD τ) arg8 fullShare x4
            ∗ owns (c : Thread nD τ) arg9 fullShare (k0_pay4) ∗ owns (c : Thread nD τ) arg10 fullShare (k0_pay1 x1) ∗ owns (c : Thread nD τ) arg11 fullShare (k0_pay2 x3)
            ∗ tbPt c tb0 y0 ∗ tbPt c tb1 y1 ∗ tbPt c tb2 y2) -∗ K ⟨⟩))
      ⊢ wp frame (wpE (defs₀ (F := F)) Variants.none c none) E (cc0_experts i tb0 (Memref.isWhole_whole _) tb1 (Memref.isWhole_whole _) tb2 (Memref.isWhole_whole _)
          arg4 harg4 arg5 harg5 arg6 harg6 arg7 harg7 arg8 harg8 arg9 harg9 arg10 harg10 arg11 harg11) K := by
  simp only [cc0_experts_eq_skeleton]; unfold cc0_experts_skel
  simp only [k0_part1_eq_skeleton, k0_part2_eq_skeleton]
  unfold owns
  iintro ⟨⟨%f0, %hf0, H0⟩, ⟨%f1, %hf1, H1⟩, ⟨%f2, %hf2, H2⟩, ⟨%f3, %hf3, H3⟩, ⟨%f4, %hf4, H4⟩, ⟨%d5, %f5, -, H5⟩, ⟨%ds0, %fs0, -, HS0⟩, ⟨%ds1, %fs1, -, HS1⟩, HT0, HT1, HT2, Hk⟩
  obtain rfl := harg4.eq_unread hf0; obtain rfl := harg5.eq_unread hf1; obtain rfl := harg6.eq_unread hf2
  obtain rfl := harg7.eq_unread hf3; obtain rfl := harg8.eq_unread hf4
  sl_exec (disch := first | sl_exact hc1 | sl_exact hc2 | sl_exact hc3)
  sl_step
  iapply Hk
  isplitl [H0]
  · iexists _; isplitr; · ipureintro; exact harg4.read_unread _
    iexact H0
  isplitl [H1]
  · iexists _; isplitr; · ipureintro; exact harg5.read_unread _
    iexact H1
  isplitl [H2]
  · iexists _; isplitr; · ipureintro; exact harg6.read_unread _
    iexact H2
  isplitl [H3]
  · iexists _; isplitr; · ipureintro; exact harg7.read_unread _
    iexact H3
  isplitl [H4]
  · iexists _; isplitr; · ipureintro; exact harg8.read_unread _
    iexact H4
  isplitl [H5]
  · iexists _; isplitr; swap; · iexact H5
    ipureintro; sl_unfold_run_names
    exact View.read_writes_full _ _ _ _ _
  isplitl [HS0]
  · iexists _; isplitr; swap; · iexact HS0
    ipureintro; sl_unfold_run_names
    rw [View.read_writes_full, View.readAt_full, harg5.read_unread]
  isplitl [HS1]
  · iexists _; isplitr; swap; · iexact HS1
    ipureintro; sl_unfold_run_names
    rw [View.read_writes_full, View.readAt_full, harg7.read_unread]
  isplitl [HT0]; · iexact HT0
  isplitl [HT1]; · iexact HT1
  iexact HT2

end Cert.Experts

end
-- ==== Proof.Experts.KeepUsed.lean ====
module

public import proofs.«01_k».proof.Proof.Experts.Rows

@[expose] public section

set_option maxRecDepth 16384

noncomputable section

/-! A run of the body at a block used whose expert is the one before. -/

namespace Cert.Experts

open Cert.Kernel2Ideal Cert.Kernel2Ideal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄" => MT nD τ sig Unit (Elt F) ℕ (UR sig nD τ) ℕ

set_option maxHeartbeats 2000000 in
/-- The body at a block used whose expert is the one before: it leaves the block's rows, from the weights kept. -/
theorem body_keep_used (c : Dev nD) (i : grid0.Coords) (arg4 : Memref sig .tc .vmem S512x1024 .bf16) (harg4 : arg4.IsWhole) (arg5 : Memref sig .tc .vmem S1x1x1024x2048 .f32) (harg5 : arg5.IsWhole)
    (arg6 : Memref sig .tc .vmem S1x1x1x2048 .f32) (harg6 : arg6.IsWhole) (arg7 : Memref sig .tc .vmem S1x1x1024x1024 .f32) (harg7 : arg7.IsWhole)
    (arg8 : Memref sig .tc .vmem S1x1x1x1024 .f32) (harg8 : arg8.IsWhole) (arg9 : Memref sig .tc .vmem S512x1024 .bf16) (harg9 : arg9.IsWhole)
    (arg10 : Memref sig .tc .vmem S1024x2048 .bf16) (harg10 : arg10.IsWhole) (arg11 : Memref sig .tc .vmem S1024x1024 .bf16) (harg11 : arg11.IsWhole)
    (x0 : Vec F S512x1024 .bf16) (x1 : Vec F S1x1x1024x2048 .f32) (x2 : Vec F S1x1x1x2048 .f32) (x3 : Vec F S1x1x1024x1024 .f32) (x4 : Vec F S1x1x1x1024 .f32)
    (y0 : TbBuf (F := F) c tb0) (y1 : TbBuf (F := F) c tb1) (y2 : TbBuf (F := F) c tb2) (W : Vec F S1024x2048 .bf16) (D : Vec F S1024x1024 .bf16)
    (hc1 : ¬ reload i (expertNow c i y0) (expertBefore c i y0)) (hc2 : k0_cond2 i (used c y2) = 1#1) (hc3 : ¬ k0_cond3 i (used c y2) = 1#1)
    (E : Set ℕ) (K : PUnit → sProp 𝕄) :
    iprop(owns (c : Thread nD τ) arg4 fullShare x0 ∗ owns (c : Thread nD τ) arg5 fullShare x1 ∗ owns (c : Thread nD τ) arg6 fullShare x2 ∗ owns (c : Thread nD τ) arg7 fullShare x3 ∗ owns (c : Thread nD τ) arg8 fullShare x4
        ∗ (∃ d, owns (c : Thread nD τ) arg9 fullShare d) ∗ owns (c : Thread nD τ) arg10 fullShare W ∗ owns (c : Thread nD τ) arg11 fullShare D ∗ tbPt c tb0 y0 ∗ tbPt c tb1 y1 ∗ tbPt c tb2 y2
        ∗ (iprop(owns (c : Thread nD τ) arg4 fullShare x0 ∗ owns (c : Thread nD τ) arg5 fullShare x1 ∗ owns (c : Thread nD τ) arg6 fullShare x2 ∗ owns (c : Thread nD τ) arg7 fullShare x3 ∗ owns (c : Thread nD τ) arg8 fullShare x4
            ∗ owns (c : Thread nD τ) arg9 fullShare (rowsOut (valid c i y1) x0 W x2 D x4) ∗ owns (c : Thread nD τ) arg10 fullShare W ∗ owns (c : Thread nD τ) arg11 fullShare D
            ∗ tbPt c tb0 y0 ∗ tbPt c tb1 y1 ∗ tbPt c tb2 y2) -∗ K ⟨⟩))
      ⊢ wp frame (wpE (defs₀ (F := F)) Variants.none c none) E (cc0_experts i tb0 (Memref.isWhole_whole _) tb1 (Memref.isWhole_whole _) tb2 (Memref.isWhole_whole _)
          arg4 harg4 arg5 harg5 arg6 harg6 arg7 harg7 arg8 harg8 arg9 harg9 arg10 harg10 arg11 harg11) K := by
  simp only [cc0_experts_eq_skeleton]; unfold cc0_experts_skel
  simp only [k0_part1_eq_skeleton, k0_part2_eq_skeleton]
  unfold owns
  iintro ⟨⟨%f0, %hf0, H0⟩, ⟨%f1, %hf1, H1⟩, ⟨%f2, %hf2, H2⟩, ⟨%f3, %hf3, H3⟩, ⟨%f4, %hf4, H4⟩, ⟨%d5, %f5, -, H5⟩, ⟨%fs0, %hfs0, HS0⟩, ⟨%fs1, %hfs1, HS1⟩, HT0, HT1, HT2, Hk⟩
  obtain rfl := harg4.eq_unread hf0; obtain rfl := harg5.eq_unread hf1; obtain rfl := harg6.eq_unread hf2
  obtain rfl := harg7.eq_unread hf3; obtain rfl := harg8.eq_unread hf4
  obtain rfl := harg10.eq_unread hfs0; obtain rfl := harg11.eq_unread hfs1
  sl_exec (disch := first | sl_exact hc1 | sl_exact hc2 | sl_exact hc3)
  sl_step
  iapply Hk
  isplitl [H0]
  · iexists _; isplitr; · ipureintro; exact harg4.read_unread _
    iexact H0
  isplitl [H1]
  · iexists _; isplitr; · ipureintro; exact harg5.read_unread _
    iexact H1
  isplitl [H2]
  · iexists _; isplitr; · ipureintro; exact harg6.read_unread _
    iexact H2
  isplitl [H3]
  · iexists _; isplitr; · ipureintro; exact harg7.read_unread _
    iexact H3
  isplitl [H4]
  · iexists _; isplitr; · ipureintro; exact harg8.read_unread _
    iexact H4
  isplitl [H5]
  · iexists _; isplitr; swap; · iexact H5
    ipureintro; sl_unfold_run_names
    rw [View.read_writes_full]
    rw [View.readAt_full arg4.view, View.readAt_full arg8.view, harg4.read_unread, harg8.read_unread]
    simp only [View.readCov, View.readAt_eq_ld, harg6.read_unread, harg10.read_unread, harg11.read_unread]
    rfl
  isplitl [HS0]
  · iexists _; isplitr; · ipureintro; exact harg10.read_unread _
    iexact HS0
  isplitl [HS1]
  · iexists _; isplitr; · ipureintro; exact harg11.read_unread _
    iexact HS1
  isplitl [HT0]; · iexact HT0
  isplitl [HT1]; · iexact HT1
  iexact HT2

end Cert.Experts

end
-- ==== Proof.Experts.KeepUnused.lean ====
module

public import proofs.«01_k».proof.Proof.Experts.Rows

@[expose] public section

set_option maxRecDepth 16384

noncomputable section

/-! A run of the body at a block not used whose expert is the one before. -/

namespace Cert.Experts

open Cert.Kernel2Ideal Cert.Kernel2Ideal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄" => MT nD τ sig Unit (Elt F) ℕ (UR sig nD τ) ℕ

set_option maxHeartbeats 2000000 in
/-- The body at a block not used whose expert is the one before: it leaves zeros. -/
theorem body_keep_unused (c : Dev nD) (i : grid0.Coords) (arg4 : Memref sig .tc .vmem S512x1024 .bf16) (harg4 : arg4.IsWhole) (arg5 : Memref sig .tc .vmem S1x1x1024x2048 .f32) (harg5 : arg5.IsWhole)
    (arg6 : Memref sig .tc .vmem S1x1x1x2048 .f32) (harg6 : arg6.IsWhole) (arg7 : Memref sig .tc .vmem S1x1x1024x1024 .f32) (harg7 : arg7.IsWhole)
    (arg8 : Memref sig .tc .vmem S1x1x1x1024 .f32) (harg8 : arg8.IsWhole) (arg9 : Memref sig .tc .vmem S512x1024 .bf16) (harg9 : arg9.IsWhole)
    (arg10 : Memref sig .tc .vmem S1024x2048 .bf16) (harg10 : arg10.IsWhole) (arg11 : Memref sig .tc .vmem S1024x1024 .bf16) (harg11 : arg11.IsWhole)
    (x0 : Vec F S512x1024 .bf16) (x1 : Vec F S1x1x1024x2048 .f32) (x2 : Vec F S1x1x1x2048 .f32) (x3 : Vec F S1x1x1024x1024 .f32) (x4 : Vec F S1x1x1x1024 .f32)
    (y0 : TbBuf (F := F) c tb0) (y1 : TbBuf (F := F) c tb1) (y2 : TbBuf (F := F) c tb2) (W : Vec F S1024x2048 .bf16) (D : Vec F S1024x1024 .bf16)
    (hc1 : ¬ reload i (expertNow c i y0) (expertBefore c i y0)) (hc2 : ¬ k0_cond2 i (used c y2) = 1#1) (hc3 : k0_cond3 i (used c y2) = 1#1)
    (E : Set ℕ) (K : PUnit → sProp 𝕄) :
    iprop(owns (c : Thread nD τ) arg4 fullShare x0 ∗ owns (c : Thread nD τ) arg5 fullShare x1 ∗ owns (c : Thread nD τ) arg6 fullShare x2 ∗ owns (c : Thread nD τ) arg7 fullShare x3 ∗ owns (c : Thread nD τ) arg8 fullShare x4
        ∗ (∃ d, owns (c : Thread nD τ) arg9 fullShare d) ∗ owns (c : Thread nD τ) arg10 fullShare W ∗ owns (c : Thread nD τ) arg11 fullShare D ∗ tbPt c tb0 y0 ∗ tbPt c tb1 y1 ∗ tbPt c tb2 y2
        ∗ (iprop(owns (c : Thread nD τ) arg4 fullShare x0 ∗ owns (c : Thread nD τ) arg5 fullShare x1 ∗ owns (c : Thread nD τ) arg6 fullShare x2 ∗ owns (c : Thread nD τ) arg7 fullShare x3 ∗ owns (c : Thread nD τ) arg8 fullShare x4
            ∗ owns (c : Thread nD τ) arg9 fullShare (k0_pay4) ∗ owns (c : Thread nD τ) arg10 fullShare W ∗ owns (c : Thread nD τ) arg11 fullShare D
            ∗ tbPt c tb0 y0 ∗ tbPt c tb1 y1 ∗ tbPt c tb2 y2) -∗ K ⟨⟩))
      ⊢ wp frame (wpE (defs₀ (F := F)) Variants.none c none) E (cc0_experts i tb0 (Memref.isWhole_whole _) tb1 (Memref.isWhole_whole _) tb2 (Memref.isWhole_whole _)
          arg4 harg4 arg5 harg5 arg6 harg6 arg7 harg7 arg8 harg8 arg9 harg9 arg10 harg10 arg11 harg11) K := by
  simp only [cc0_experts_eq_skeleton]; unfold cc0_experts_skel
  simp only [k0_part1_eq_skeleton, k0_part2_eq_skeleton]
  unfold owns
  iintro ⟨⟨%f0, %hf0, H0⟩, ⟨%f1, %hf1, H1⟩, ⟨%f2, %hf2, H2⟩, ⟨%f3, %hf3, H3⟩, ⟨%f4, %hf4, H4⟩, ⟨%d5, %f5, -, H5⟩, ⟨%fs0, %hfs0, HS0⟩, ⟨%fs1, %hfs1, HS1⟩, HT0, HT1, HT2, Hk⟩
  obtain rfl := harg4.eq_unread hf0; obtain rfl := harg5.eq_unread hf1; obtain rfl := harg6.eq_unread hf2
  obtain rfl := harg7.eq_unread hf3; obtain rfl := harg8.eq_unread hf4
  obtain rfl := harg10.eq_unread hfs0; obtain rfl := harg11.eq_unread hfs1
  sl_exec (disch := first | sl_exact hc1 | sl_exact hc2 | sl_exact hc3)
  sl_step
  iapply Hk
  isplitl [H0]
  · iexists _; isplitr; · ipureintro; exact harg4.read_unread _
    iexact H0
  isplitl [H1]
  · iexists _; isplitr; · ipureintro; exact harg5.read_unread _
    iexact H1
  isplitl [H2]
  · iexists _; isplitr; · ipureintro; exact harg6.read_unread _
    iexact H2
  isplitl [H3]
  · iexists _; isplitr; · ipureintro; exact harg7.read_unread _
    iexact H3
  isplitl [H4]
  · iexists _; isplitr; · ipureintro; exact harg8.read_unread _
    iexact H4
  isplitl [H5]
  · iexists _; isplitr; swap; · iexact H5
    ipureintro; sl_unfold_run_names
    exact View.read_writes_full _ _ _ _ _
  isplitl [HS0]
  · iexists _; isplitr; · ipureintro; exact harg10.read_unread _
    iexact HS0
  isplitl [HS1]
  · iexists _; isplitr; · ipureintro; exact harg11.read_unread _
    iexact HS1
  isplitl [HT0]; · iexact HT0
  isplitl [HT1]; · iexact HT1
  iexact HT2

end Cert.Experts

end
-- ==== Proof.Experts.Point.lean ====
module

public import proofs.«01_k».proof.Proof.Experts.Words
public import proofs.«01_k».proof.Proof.Experts.CastUsed
public import proofs.«01_k».proof.Proof.Experts.CastUnused
public import proofs.«01_k».proof.Proof.Experts.KeepUsed
public import proofs.«01_k».proof.Proof.Experts.KeepUnused

@[expose] public section

set_option maxRecDepth 16384

noncomputable section

/-! The experts call point by point: what the body finds and what it leaves. -/

namespace Cert.Experts

open Cert.Kernel2Ideal Cert.Kernel2Ideal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- The cast weights of the expert of point `t`. -/
abbrev castGu (hO : Ok m) (c : Dev nD) (t : Fin (cfgM m hO).N) : Vec F S1024x2048 .bf16 := k0_pay1 (iblk m hO c 1 t)
abbrev castDown (hO : Ok m) (c : Dev nD) (t : Fin (cfgM m hO).N) : Vec F S1024x1024 .bf16 := k0_pay2 (iblk m hO c 3 t)

/-- The output block the body leaves at point `t`: the expert's rows, or zeros past the blocks used. -/
def outBlk (hO : Ok m) (c : Dev nD) (t : Fin (cfgM m hO).N) : Vec F S512x1024 .bf16 :=
  if k0_cond2 (grid0.coords t) (used c (tbl m 2)) = 1#1 then
    rowsOut (valid c (grid0.coords t) (tbl m 1)) (iblk m hO c 0 t) (castGu m hO c t) (iblk m hO c 2 t) (castDown m hO c t) (iblk m hO c 4 t)
  else k0_pay4

/-- What is kept before point `n`: before the first anything, later the cast weights of the expert at hand. -/
def kept (hO : Ok m) (c : Dev nD) : (n : ℕ) → n ≤ (cfgM m hO).N → sProp 𝕄
  | 0, _ => iprop(Pipeline.ΦA spec0 c ∗ Pipeline.ΦT pre0 (tbl m) c)
  | n + 1, hn => iprop(iprop(iprop(owns (c : Thread nD τ) sc0 fullShare (castGu m hO c ⟨n, hn⟩)
      ∗ owns (c : Thread nD τ) sc1 fullShare (castDown m hO c ⟨n, hn⟩)) ∗ (∃ r, prngReg c r)) ∗ Pipeline.ΦT pre0 (tbl m) c)

theorem kept_zero (hO : Ok m) (c : Dev nD) (n : ℕ) (h : n ≤ (cfgM m hO).N) (hz : n = 0) :
    kept m hO c n h = iprop(Pipeline.ΦA spec0 c ∗ Pipeline.ΦT pre0 (tbl m) c) := by
  subst hz; rfl

theorem kept_succ (hO : Ok m) (c : Dev nD) (n : ℕ) (hn : n < (cfgM m hO).N) :
    kept m hO c (n + 1) hn = iprop(iprop(iprop(owns (c : Thread nD τ) sc0 fullShare (castGu m hO c ⟨n, hn⟩)
      ∗ owns (c : Thread nD τ) sc1 fullShare (castDown m hO c ⟨n, hn⟩)) ∗ (∃ r, prngReg c r)) ∗ Pipeline.ΦT pre0 (tbl m) c) := rfl

theorem kept_pos (hO : Ok m) (c : Dev nD) (n : ℕ) (h : n ≤ (cfgM m hO).N) (hz : n ≠ 0) :
    kept m hO c n h = iprop(iprop(iprop(owns (c : Thread nD τ) sc0 fullShare (castGu m hO c ⟨n - 1, by omega⟩)
      ∗ owns (c : Thread nD τ) sc1 fullShare (castDown m hO c ⟨n - 1, by omega⟩)) ∗ (∃ r, prngReg c r)) ∗ Pipeline.ΦT pre0 (tbl m) c) := by
  cases n with
  | zero => exact absurd rfl hz
  | succ n => rfl

/-- The call's proof data: each input's buffer at its block, the output's at `outBlk`, and what is kept between points. -/
def dats (hO : Ok m) (_ : Fin 1) (c : Dev nD) : Dat τ (Elt F) Unit ℕ (UR sig nD τ) ℕ (cfgM m hO) c where
  A w := V m c (Pipeline.arrRef spec0 w)
  after w t := match w with
    | ⟨0, _⟩ => iblk m hO c 0 t
    | ⟨1, _⟩ => iblk m hO c 1 t
    | ⟨2, _⟩ => iblk m hO c 2 t
    | ⟨3, _⟩ => iblk m hO c 3 t
    | ⟨4, _⟩ => iblk m hO c 4 t
    | ⟨5, _⟩ => outBlk m hO c t
  Φ t := kept m hO c t.val (Nat.le_of_lt_succ t.isLt)
  q _ := fullShare
  owed _ := 0

theorem A_eq (hO : Ok m) (c : Dev nD) (w : Fin (cfgM m hO).W) : (dats m hO 0 c).A w = V m c (Pipeline.arrRef spec0 w) := by
  dsimp only [dats]

theorem kept_castSucc (hO : Ok m) (c : Dev nD) (t : Fin (cfgM m hO).N) :
    (dats m hO 0 c).Φ t.castSucc = kept m hO c t.val (Nat.le_of_lt t.isLt) := by
  dsimp only [dats]; exact Pipeline.Dat.Φ_castSucc (kept m hO c) t

theorem after_0 (hO : Ok m) (c : Dev nD) (t : Fin (cfgM m hO).N) : (dats m hO 0 c).after 0 t = iblk m hO c 0 t := by dsimp only [dats]; try rfl
theorem after_1 (hO : Ok m) (c : Dev nD) (t : Fin (cfgM m hO).N) : (dats m hO 0 c).after 1 t = iblk m hO c 1 t := by dsimp only [dats]; try rfl
theorem after_2 (hO : Ok m) (c : Dev nD) (t : Fin (cfgM m hO).N) : (dats m hO 0 c).after 2 t = iblk m hO c 2 t := by dsimp only [dats]; try rfl
theorem after_3 (hO : Ok m) (c : Dev nD) (t : Fin (cfgM m hO).N) : (dats m hO 0 c).after 3 t = iblk m hO c 3 t := by dsimp only [dats]; try rfl
theorem after_4 (hO : Ok m) (c : Dev nD) (t : Fin (cfgM m hO).N) : (dats m hO 0 c).after 4 t = iblk m hO c 4 t := by dsimp only [dats]; try rfl
theorem after_5 (hO : Ok m) (c : Dev nD) (t : Fin (cfgM m hO).N) : (dats m hO 0 c).after 5 t = outBlk m hO c t := by dsimp only [dats]; try rfl

theorem found_0 (hO : Ok m) (c : Dev nD) (t : Fin (cfgM m hO).N) (d) : (dats m hO 0 c).before 0 t d = iblk m hO c 0 t :=
  before_0 m hO (dats m hO 0 c) (A_eq m hO c 0) (after_0 m hO c) t d
theorem found_1 (hO : Ok m) (c : Dev nD) (t : Fin (cfgM m hO).N) (d) : (dats m hO 0 c).before 1 t d = iblk m hO c 1 t :=
  before_1 m hO (dats m hO 0 c) (A_eq m hO c 1) (after_1 m hO c) t d
theorem found_2 (hO : Ok m) (c : Dev nD) (t : Fin (cfgM m hO).N) (d) : (dats m hO 0 c).before 2 t d = iblk m hO c 2 t :=
  before_2 m hO (dats m hO 0 c) (A_eq m hO c 2) (after_2 m hO c) t d
theorem found_3 (hO : Ok m) (c : Dev nD) (t : Fin (cfgM m hO).N) (d) : (dats m hO 0 c).before 3 t d = iblk m hO c 3 t :=
  before_3 m hO (dats m hO 0 c) (A_eq m hO c 3) (after_3 m hO c) t d
theorem found_4 (hO : Ok m) (c : Dev nD) (t : Fin (cfgM m hO).N) (d) : (dats m hO 0 c).before 4 t d = iblk m hO c 4 t :=
  before_4 m hO (dats m hO 0 c) (A_eq m hO c 4) (after_4 m hO c) t d

/-! ## Where the weights are kept they are those of the point's own expert -/

/-- The block before the one at point `t`. -/
abbrev prev (hO : Ok m) (t : Fin (cfgM m hO).N) : Fin (cfgM m hO).N := ⟨t.val - 1, Nat.lt_of_le_of_lt (Nat.sub_le _ _) t.isLt⟩

/-- Where a window selects the block it selected at another point, it holds the same block. -/
theorem iblk_congr_1 (hO : Ok m) (c : Dev nD) (t t' : Fin (cfgM m hO).N)
    (h : ((cfgM m hO).win 1).index t = ((cfgM m hO).win 1).index t') : iblk m hO c 1 t = iblk m hO c 1 t' := by
  have d : Vec F S1x1x1024x2048 .f32 := iblk m hO c 1 t
  rw [← found_1 m hO c t d, ← found_1 m hO c t' d]
  exact ((dats m hO 0 c).before_in_eq_fetched 1 rfl (fun _ => rfl) (fun _ _ _ => rfl)
      (fun t => by rw [after_1]; unfold Dat.blockOf iblk; rw [A_eq]; try rfl) t d).trans
    (((dats m hO 0 c).fetched_congr 1 h rfl d).trans
      ((dats m hO 0 c).before_in_eq_fetched 1 rfl (fun _ => rfl) (fun _ _ _ => rfl)
        (fun t => by rw [after_1]; unfold Dat.blockOf iblk; rw [A_eq]; try rfl) t' d).symm)

theorem iblk_congr_3 (hO : Ok m) (c : Dev nD) (t t' : Fin (cfgM m hO).N)
    (h : ((cfgM m hO).win 3).index t = ((cfgM m hO).win 3).index t') : iblk m hO c 3 t = iblk m hO c 3 t' := by
  have d : Vec F S1x1x1024x1024 .f32 := iblk m hO c 3 t
  rw [← found_3 m hO c t d, ← found_3 m hO c t' d]
  exact ((dats m hO 0 c).before_in_eq_fetched 3 rfl (fun _ => rfl) (fun _ _ _ => rfl)
      (fun t => by rw [after_3]; unfold Dat.blockOf iblk; rw [A_eq]; try rfl) t d).trans
    (((dats m hO 0 c).fetched_congr 3 h rfl d).trans
      ((dats m hO 0 c).before_in_eq_fetched 3 rfl (fun _ => rfl) (fun _ _ _ => rfl)
        (fun t => by rw [after_3]; unfold Dat.blockOf iblk; rw [A_eq]; try rfl) t' d).symm)

/-- The weight windows' blocks are those of the expert the table names. -/
theorem index_1 (hO : Ok m) (t : Fin (cfgM m hO).N) :
    ((cfgM m hO).win 1).index t = ![0, (expertNow 0 (grid0.coords t) (tbl m 0) : BitVec 32).toNat, 0, 0] := rfl
theorem index_3 (hO : Ok m) (t : Fin (cfgM m hO).N) :
    ((cfgM m hO).win 3).index t = ![0, (expertNow 0 (grid0.coords t) (tbl m 0) : BitVec 32).toNat, 0, 0] := rfl

theorem not_reload (hO : Ok m) (c : Dev nD) (t : Fin (cfgM m hO).N)
    (h : ¬ reload (grid0.coords t) (expertNow c (grid0.coords t) (tbl m 0)) (expertBefore c (grid0.coords t) (tbl m 0))) :
    t.val ≠ 0 ∧ castGu m hO c t = castGu m hO c (prev m hO t) ∧ castDown m hO c t = castDown m hO c (prev m hO t) := by
  have hN : t.val < 546 := lt_of_lt_of_eq t.isLt (show (cfgM m hO).N = 546 from N_0)
  have h0 : t.val ≠ 0 := fun e => h (reload_first _ ((coords_val t).trans e) _ _)
  have hs := same_of_keep _ _ _ h
  obtain rfl : c = 0 := Subsingleton.elim _ _
  rw [expertBefore_eq 0 t (tbl m 0) (by omega)] at hs
  have hp := expertNow_eq 0 (prev m hO t) (tbl m 0) (by show t.val - 1 < 546; omega)
  have he : expertNow 0 (grid0.coords t) (tbl m 0) = expertNow 0 (grid0.coords (prev m hO t)) (tbl m 0) := hs.trans hp.symm
  refine ⟨h0, congrArg k0_pay1 (iblk_congr_1 m hO 0 _ _ ?_), congrArg k0_pay2 (iblk_congr_3 m hO 0 _ _ ?_)⟩
  · rw [index_1, index_1, he]
  · rw [index_3, index_3, he]

/-! ## The body obligation -/

def bodyPre (hO : Ok m) (c : Dev nD) (t : Fin (cfgM m hO).N) : sProp 𝕄 :=
  iprop((dats m hO 0 c).Φ t.castSucc ∗ (dats m hO 0 c).owesAt () t.castSucc
    ∗ (∃ d, owns (c : Thread nD τ) (ms0 m hO t) fullShare ((dats m hO 0 c).before 0 t d))
    ∗ (∃ d, owns (c : Thread nD τ) (ms1 m hO t) fullShare ((dats m hO 0 c).before 1 t d))
    ∗ (∃ d, owns (c : Thread nD τ) (ms2 m hO t) fullShare ((dats m hO 0 c).before 2 t d))
    ∗ (∃ d, owns (c : Thread nD τ) (ms3 m hO t) fullShare ((dats m hO 0 c).before 3 t d))
    ∗ (∃ d, owns (c : Thread nD τ) (ms4 m hO t) fullShare ((dats m hO 0 c).before 4 t d))
    ∗ (∃ d, owns (c : Thread nD τ) (ms5 m hO t) fullShare ((dats m hO 0 c).before 5 t d)))

def bodyPost (hO : Ok m) (c : Dev nD) (t : Fin (cfgM m hO).N) : sProp 𝕄 :=
  iprop((dats m hO 0 c).Φ t.succ ∗ (dats m hO 0 c).owesAt () t.succ
    ∗ owns (c : Thread nD τ) (ms0 m hO t) fullShare ((dats m hO 0 c).after 0 t)
    ∗ owns (c : Thread nD τ) (ms1 m hO t) fullShare ((dats m hO 0 c).after 1 t)
    ∗ owns (c : Thread nD τ) (ms2 m hO t) fullShare ((dats m hO 0 c).after 2 t)
    ∗ owns (c : Thread nD τ) (ms3 m hO t) fullShare ((dats m hO 0 c).after 3 t)
    ∗ owns (c : Thread nD τ) (ms4 m hO t) fullShare ((dats m hO 0 c).after 4 t)
    ∗ owns (c : Thread nD τ) (ms5 m hO t) fullShare ((dats m hO 0 c).after 5 t))

set_option maxHeartbeats 3200000 in
/-- A point that casts the weights of a block used. -/
theorem sound_cast_used (hO : Ok m) (c : Dev nD) (t : Fin (cfgM m hO).N)
    (h1 : reload (grid0.coords t) (expertNow c (grid0.coords t) (tbl m 0)) (expertBefore c (grid0.coords t) (tbl m 0)))
    (h2 : k0_cond2 (grid0.coords t) (used c (tbl m 2)) = 1#1) :
    bodyPre m hO c t ⊢ wp frame (wpE (defs₀ (F := F)) Variants.none c none) Set.univ (bodyAt m hO t) (fun _ => bodyPost m hO c t) := by
  have h3 : ¬ k0_cond3 (grid0.coords t) (used c (tbl m 2)) = 1#1 := by rw [unused_iff]; exact not_not.mpr h2
  unfold bodyPre bodyPost
  simp only [found_0, found_1, found_2, found_3, found_4]
  rw [show (dats m hO 0 c).owesAt () t.succ = (dats m hO 0 c).owesAt () t.castSucc from rfl,
    after_0, after_1, after_2, after_3, after_4, after_5]
  rw [show outBlk m hO c t = _ from if_pos h2]
  rw [show (dats m hO 0 c).Φ t.succ = kept m hO c (t.val + 1) t.isLt from rfl, kept_succ, PhiT_eq]
  rw [kept_castSucc m hO c t]
  by_cases hz : t.val = 0
  · rw [kept_zero m hO c _ _ hz, PhiT_eq, PhiA_eq]
    iintro ⟨⟨⟨⟨HS0, HS1⟩, Hg⟩, ⟨HT0, HT1, HT2⟩⟩, Ho, ⟨%d0, H0⟩, ⟨%d1, H1⟩, ⟨%d2, H2⟩, ⟨%d3, H3⟩, ⟨%d4, H4⟩, ⟨%d5, H5⟩⟩
    iapply (body_cast_used c (grid0.coords t) _ (hs0 m hO t) _ (hs1 m hO t) _ (hs2 m hO t) _ (hs3 m hO t) _ (hs4 m hO t) _ (hs5 m hO t) sc0 (Memref.isWhole_whole _) sc1 (Memref.isWhole_whole _) (iblk m hO c 0 t) (iblk m hO c 1 t) (iblk m hO c 2 t) (iblk m hO c 3 t) (iblk m hO c 4 t) (tbl m 0) (tbl m 1) (tbl m 2) h1 h2 h3 Set.univ _)
    isplitl [H0]; · iexact H0
    isplitl [H1]; · iexact H1
    isplitl [H2]; · iexact H2
    isplitl [H3]; · iexact H3
    isplitl [H4]; · iexact H4
    isplitl [H5]; · iexists _; iexact H5
    isplitl [HS0]; · iexact HS0
    isplitl [HS1]; · iexact HS1
    isplitl [HT0]; · iexact HT0
    isplitl [HT1]; · iexact HT1
    isplitl [HT2]; · iexact HT2
    iintro ⟨H0, H1, H2, H3, H4, H5, HS0, HS1, HT0, HT1, HT2⟩
    isplitl [HS0 HS1 Hg HT0 HT1 HT2]
    · isplitl [HS0 HS1 Hg]
      · isplitl [HS0 HS1]
        · isplitl [HS0]; · iexact HS0
          iexact HS1
        iexact Hg
      isplitl [HT0]; · iexact HT0
      isplitl [HT1]; · iexact HT1
      iexact HT2
    isplitl [Ho]; · iexact Ho
    isplitl [H0]; · iexact H0
    isplitl [H1]; · iexact H1
    isplitl [H2]; · iexact H2
    isplitl [H3]; · iexact H3
    isplitl [H4]; · iexact H4
    iexact H5
  · rw [kept_pos m hO c _ _ hz, PhiT_eq]
    iintro ⟨⟨⟨⟨HS0, HS1⟩, Hg⟩, ⟨HT0, HT1, HT2⟩⟩, Ho, ⟨%d0, H0⟩, ⟨%d1, H1⟩, ⟨%d2, H2⟩, ⟨%d3, H3⟩, ⟨%d4, H4⟩, ⟨%d5, H5⟩⟩
    iapply (body_cast_used c (grid0.coords t) _ (hs0 m hO t) _ (hs1 m hO t) _ (hs2 m hO t) _ (hs3 m hO t) _ (hs4 m hO t) _ (hs5 m hO t) sc0 (Memref.isWhole_whole _) sc1 (Memref.isWhole_whole _) (iblk m hO c 0 t) (iblk m hO c 1 t) (iblk m hO c 2 t) (iblk m hO c 3 t) (iblk m hO c 4 t) (tbl m 0) (tbl m 1) (tbl m 2) h1 h2 h3 Set.univ _)
    isplitl [H0]; · iexact H0
    isplitl [H1]; · iexact H1
    isplitl [H2]; · iexact H2
    isplitl [H3]; · iexact H3
    isplitl [H4]; · iexact H4
    isplitl [H5]; · iexists _; iexact H5
    isplitl [HS0]; · iexists _; iexact HS0
    isplitl [HS1]; · iexists _; iexact HS1
    isplitl [HT0]; · iexact HT0
    isplitl [HT1]; · iexact HT1
    isplitl [HT2]; · iexact HT2
    iintro ⟨H0, H1, H2, H3, H4, H5, HS0, HS1, HT0, HT1, HT2⟩
    isplitl [HS0 HS1 Hg HT0 HT1 HT2]
    · isplitl [HS0 HS1 Hg]
      · isplitl [HS0 HS1]
        · isplitl [HS0]; · iexact HS0
          iexact HS1
        iexact Hg
      isplitl [HT0]; · iexact HT0
      isplitl [HT1]; · iexact HT1
      iexact HT2
    isplitl [Ho]; · iexact Ho
    isplitl [H0]; · iexact H0
    isplitl [H1]; · iexact H1
    isplitl [H2]; · iexact H2
    isplitl [H3]; · iexact H3
    isplitl [H4]; · iexact H4
    iexact H5

set_option maxHeartbeats 3200000 in
/-- A point that casts the weights of a block past those used. -/
theorem sound_cast_unused (hO : Ok m) (c : Dev nD) (t : Fin (cfgM m hO).N)
    (h1 : reload (grid0.coords t) (expertNow c (grid0.coords t) (tbl m 0)) (expertBefore c (grid0.coords t) (tbl m 0)))
    (h2 : ¬ k0_cond2 (grid0.coords t) (used c (tbl m 2)) = 1#1) :
    bodyPre m hO c t ⊢ wp frame (wpE (defs₀ (F := F)) Variants.none c none) Set.univ (bodyAt m hO t) (fun _ => bodyPost m hO c t) := by
  have h3 : k0_cond3 (grid0.coords t) (used c (tbl m 2)) = 1#1 := by rw [unused_iff]; exact h2
  unfold bodyPre bodyPost
  simp only [found_0, found_1, found_2, found_3, found_4]
  rw [show (dats m hO 0 c).owesAt () t.succ = (dats m hO 0 c).owesAt () t.castSucc from rfl,
    after_0, after_1, after_2, after_3, after_4, after_5]
  rw [show outBlk m hO c t = _ from if_neg h2]
  rw [show (dats m hO 0 c).Φ t.succ = kept m hO c (t.val + 1) t.isLt from rfl, kept_succ, PhiT_eq]
  rw [kept_castSucc m hO c t]
  by_cases hz : t.val = 0
  · rw [kept_zero m hO c _ _ hz, PhiT_eq, PhiA_eq]
    iintro ⟨⟨⟨⟨HS0, HS1⟩, Hg⟩, ⟨HT0, HT1, HT2⟩⟩, Ho, ⟨%d0, H0⟩, ⟨%d1, H1⟩, ⟨%d2, H2⟩, ⟨%d3, H3⟩, ⟨%d4, H4⟩, ⟨%d5, H5⟩⟩
    iapply (body_cast_unused c (grid0.coords t) _ (hs0 m hO t) _ (hs1 m hO t) _ (hs2 m hO t) _ (hs3 m hO t) _ (hs4 m hO t) _ (hs5 m hO t) sc0 (Memref.isWhole_whole _) sc1 (Memref.isWhole_whole _) (iblk m hO c 0 t) (iblk m hO c 1 t) (iblk m hO c 2 t) (iblk m hO c 3 t) (iblk m hO c 4 t) (tbl m 0) (tbl m 1) (tbl m 2) h1 h2 h3 Set.univ _)
    isplitl [H0]; · iexact H0
    isplitl [H1]; · iexact H1
    isplitl [H2]; · iexact H2
    isplitl [H3]; · iexact H3
    isplitl [H4]; · iexact H4
    isplitl [H5]; · iexists _; iexact H5
    isplitl [HS0]; · iexact HS0
    isplitl [HS1]; · iexact HS1
    isplitl [HT0]; · iexact HT0
    isplitl [HT1]; · iexact HT1
    isplitl [HT2]; · iexact HT2
    iintro ⟨H0, H1, H2, H3, H4, H5, HS0, HS1, HT0, HT1, HT2⟩
    isplitl [HS0 HS1 Hg HT0 HT1 HT2]
    · isplitl [HS0 HS1 Hg]
      · isplitl [HS0 HS1]
        · isplitl [HS0]; · iexact HS0
          iexact HS1
        iexact Hg
      isplitl [HT0]; · iexact HT0
      isplitl [HT1]; · iexact HT1
      iexact HT2
    isplitl [Ho]; · iexact Ho
    isplitl [H0]; · iexact H0
    isplitl [H1]; · iexact H1
    isplitl [H2]; · iexact H2
    isplitl [H3]; · iexact H3
    isplitl [H4]; · iexact H4
    iexact H5
  · rw [kept_pos m hO c _ _ hz, PhiT_eq]
    iintro ⟨⟨⟨⟨HS0, HS1⟩, Hg⟩, ⟨HT0, HT1, HT2⟩⟩, Ho, ⟨%d0, H0⟩, ⟨%d1, H1⟩, ⟨%d2, H2⟩, ⟨%d3, H3⟩, ⟨%d4, H4⟩, ⟨%d5, H5⟩⟩
    iapply (body_cast_unused c (grid0.coords t) _ (hs0 m hO t) _ (hs1 m hO t) _ (hs2 m hO t) _ (hs3 m hO t) _ (hs4 m hO t) _ (hs5 m hO t) sc0 (Memref.isWhole_whole _) sc1 (Memref.isWhole_whole _) (iblk m hO c 0 t) (iblk m hO c 1 t) (iblk m hO c 2 t) (iblk m hO c 3 t) (iblk m hO c 4 t) (tbl m 0) (tbl m 1) (tbl m 2) h1 h2 h3 Set.univ _)
    isplitl [H0]; · iexact H0
    isplitl [H1]; · iexact H1
    isplitl [H2]; · iexact H2
    isplitl [H3]; · iexact H3
    isplitl [H4]; · iexact H4
    isplitl [H5]; · iexists _; iexact H5
    isplitl [HS0]; · iexists _; iexact HS0
    isplitl [HS1]; · iexists _; iexact HS1
    isplitl [HT0]; · iexact HT0
    isplitl [HT1]; · iexact HT1
    isplitl [HT2]; · iexact HT2
    iintro ⟨H0, H1, H2, H3, H4, H5, HS0, HS1, HT0, HT1, HT2⟩
    isplitl [HS0 HS1 Hg HT0 HT1 HT2]
    · isplitl [HS0 HS1 Hg]
      · isplitl [HS0 HS1]
        · isplitl [HS0]; · iexact HS0
          iexact HS1
        iexact Hg
      isplitl [HT0]; · iexact HT0
      isplitl [HT1]; · iexact HT1
      iexact HT2
    isplitl [Ho]; · iexact Ho
    isplitl [H0]; · iexact H0
    isplitl [H1]; · iexact H1
    isplitl [H2]; · iexact H2
    isplitl [H3]; · iexact H3
    isplitl [H4]; · iexact H4
    iexact H5

set_option maxHeartbeats 3200000 in
/-- A point that keeps the weights, for a block used. -/
theorem sound_keep_used (hO : Ok m) (c : Dev nD) (t : Fin (cfgM m hO).N)
    (h1 : ¬ reload (grid0.coords t) (expertNow c (grid0.coords t) (tbl m 0)) (expertBefore c (grid0.coords t) (tbl m 0)))
    (h2 : k0_cond2 (grid0.coords t) (used c (tbl m 2)) = 1#1) :
    bodyPre m hO c t ⊢ wp frame (wpE (defs₀ (F := F)) Variants.none c none) Set.univ (bodyAt m hO t) (fun _ => bodyPost m hO c t) := by
  have h3 : ¬ k0_cond3 (grid0.coords t) (used c (tbl m 2)) = 1#1 := by rw [unused_iff]; exact not_not.mpr h2
  unfold bodyPre bodyPost
  simp only [found_0, found_1, found_2, found_3, found_4]
  rw [show (dats m hO 0 c).owesAt () t.succ = (dats m hO 0 c).owesAt () t.castSucc from rfl,
    after_0, after_1, after_2, after_3, after_4, after_5]
  rw [show outBlk m hO c t = _ from if_pos h2]
  rw [show (dats m hO 0 c).Φ t.succ = kept m hO c (t.val + 1) t.isLt from rfl, kept_succ, PhiT_eq]
  obtain ⟨hz, hg, hd⟩ := not_reload m hO c t h1
  rw [kept_castSucc m hO c t, kept_pos m hO c _ _ hz, PhiT_eq]
  rw [show castGu m hO c ⟨t.val, t.isLt⟩ = castGu m hO c (prev m hO t) from hg, show castDown m hO c ⟨t.val, t.isLt⟩ = castDown m hO c (prev m hO t) from hd]
  iintro ⟨⟨⟨⟨HS0, HS1⟩, Hg⟩, ⟨HT0, HT1, HT2⟩⟩, Ho, ⟨%d0, H0⟩, ⟨%d1, H1⟩, ⟨%d2, H2⟩, ⟨%d3, H3⟩, ⟨%d4, H4⟩, ⟨%d5, H5⟩⟩
  iapply (body_keep_used c (grid0.coords t) _ (hs0 m hO t) _ (hs1 m hO t) _ (hs2 m hO t) _ (hs3 m hO t) _ (hs4 m hO t) _ (hs5 m hO t) sc0 (Memref.isWhole_whole _) sc1 (Memref.isWhole_whole _) (iblk m hO c 0 t) (iblk m hO c 1 t) (iblk m hO c 2 t) (iblk m hO c 3 t) (iblk m hO c 4 t) (tbl m 0) (tbl m 1) (tbl m 2) _ _ h1 h2 h3 Set.univ _)
  isplitl [H0]; · iexact H0
  isplitl [H1]; · iexact H1
  isplitl [H2]; · iexact H2
  isplitl [H3]; · iexact H3
  isplitl [H4]; · iexact H4
  isplitl [H5]; · iexists _; iexact H5
  isplitl [HS0]; · iexact HS0
  isplitl [HS1]; · iexact HS1
  isplitl [HT0]; · iexact HT0
  isplitl [HT1]; · iexact HT1
  isplitl [HT2]; · iexact HT2
  iintro ⟨H0, H1, H2, H3, H4, H5, HS0, HS1, HT0, HT1, HT2⟩
  isplitl [HS0 HS1 Hg HT0 HT1 HT2]
  · isplitl [HS0 HS1 Hg]
    · isplitl [HS0 HS1]
      · isplitl [HS0]; · iexact HS0
        iexact HS1
      iexact Hg
    isplitl [HT0]; · iexact HT0
    isplitl [HT1]; · iexact HT1
    iexact HT2
  isplitl [Ho]; · iexact Ho
  isplitl [H0]; · iexact H0
  isplitl [H1]; · iexact H1
  isplitl [H2]; · iexact H2
  isplitl [H3]; · iexact H3
  isplitl [H4]; · iexact H4
  iexact H5

set_option maxHeartbeats 3200000 in
/-- A point that keeps the weights, for a block past those used. -/
theorem sound_keep_unused (hO : Ok m) (c : Dev nD) (t : Fin (cfgM m hO).N)
    (h1 : ¬ reload (grid0.coords t) (expertNow c (grid0.coords t) (tbl m 0)) (expertBefore c (grid0.coords t) (tbl m 0)))
    (h2 : ¬ k0_cond2 (grid0.coords t) (used c (tbl m 2)) = 1#1) :
    bodyPre m hO c t ⊢ wp frame (wpE (defs₀ (F := F)) Variants.none c none) Set.univ (bodyAt m hO t) (fun _ => bodyPost m hO c t) := by
  have h3 : k0_cond3 (grid0.coords t) (used c (tbl m 2)) = 1#1 := by rw [unused_iff]; exact h2
  unfold bodyPre bodyPost
  simp only [found_0, found_1, found_2, found_3, found_4]
  rw [show (dats m hO 0 c).owesAt () t.succ = (dats m hO 0 c).owesAt () t.castSucc from rfl,
    after_0, after_1, after_2, after_3, after_4, after_5]
  rw [show outBlk m hO c t = _ from if_neg h2]
  rw [show (dats m hO 0 c).Φ t.succ = kept m hO c (t.val + 1) t.isLt from rfl, kept_succ, PhiT_eq]
  obtain ⟨hz, hg, hd⟩ := not_reload m hO c t h1
  rw [kept_castSucc m hO c t, kept_pos m hO c _ _ hz, PhiT_eq]
  rw [show castGu m hO c ⟨t.val, t.isLt⟩ = castGu m hO c (prev m hO t) from hg, show castDown m hO c ⟨t.val, t.isLt⟩ = castDown m hO c (prev m hO t) from hd]
  iintro ⟨⟨⟨⟨HS0, HS1⟩, Hg⟩, ⟨HT0, HT1, HT2⟩⟩, Ho, ⟨%d0, H0⟩, ⟨%d1, H1⟩, ⟨%d2, H2⟩, ⟨%d3, H3⟩, ⟨%d4, H4⟩, ⟨%d5, H5⟩⟩
  iapply (body_keep_unused c (grid0.coords t) _ (hs0 m hO t) _ (hs1 m hO t) _ (hs2 m hO t) _ (hs3 m hO t) _ (hs4 m hO t) _ (hs5 m hO t) sc0 (Memref.isWhole_whole _) sc1 (Memref.isWhole_whole _) (iblk m hO c 0 t) (iblk m hO c 1 t) (iblk m hO c 2 t) (iblk m hO c 3 t) (iblk m hO c 4 t) (tbl m 0) (tbl m 1) (tbl m 2) _ _ h1 h2 h3 Set.univ _)
  isplitl [H0]; · iexact H0
  isplitl [H1]; · iexact H1
  isplitl [H2]; · iexact H2
  isplitl [H3]; · iexact H3
  isplitl [H4]; · iexact H4
  isplitl [H5]; · iexists _; iexact H5
  isplitl [HS0]; · iexact HS0
  isplitl [HS1]; · iexact HS1
  isplitl [HT0]; · iexact HT0
  isplitl [HT1]; · iexact HT1
  isplitl [HT2]; · iexact HT2
  iintro ⟨H0, H1, H2, H3, H4, H5, HS0, HS1, HT0, HT1, HT2⟩
  isplitl [HS0 HS1 Hg HT0 HT1 HT2]
  · isplitl [HS0 HS1 Hg]
    · isplitl [HS0 HS1]
      · isplitl [HS0]; · iexact HS0
        iexact HS1
      iexact Hg
    isplitl [HT0]; · iexact HT0
    isplitl [HT1]; · iexact HT1
    iexact HT2
  isplitl [Ho]; · iexact Ho
  isplitl [H0]; · iexact H0
  isplitl [H1]; · iexact H1
  isplitl [H2]; · iexact H2
  isplitl [H3]; · iexact H3
  isplitl [H4]; · iexact H4
  iexact H5

theorem sound_body (hO : Ok m) (c : Dev nD) (t : Fin (cfgM m hO).N) :
    bodyPre m hO c t ⊢ wp frame (wpE (defs₀ (F := F)) Variants.none c none) Set.univ (bodyAt m hO t) (fun _ => bodyPost m hO c t) := by
  by_cases h1 : reload (grid0.coords t) (expertNow c (grid0.coords t) (tbl m 0)) (expertBefore c (grid0.coords t) (tbl m 0))
  · by_cases h2 : k0_cond2 (grid0.coords t) (used c (tbl m 2)) = 1#1
    · exact sound_cast_used m hO c t h1 h2
    · exact sound_cast_unused m hO c t h1 h2
  · by_cases h2 : k0_cond2 (grid0.coords t) (used c (tbl m 2)) = 1#1
    · exact sound_keep_used m hO c t h1 h2
    · exact sound_keep_unused m hO c t h1 h2

end Cert.Experts

end
-- ==== Proof.Experts.Frame.lean ====
module

public import proofs.«01_k».proof.Proof.Experts.Point

@[expose] public section

set_option maxRecDepth 16384

noncomputable section

/-! The experts call's launch and its frame: it ends, its counters at zero and its arguments as they were. -/

namespace Cert.Experts

open Cert.Kernel2Ideal Cert.Kernel2Ideal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- A flag that is raised only where both of two words are zero. -/
theorem idle_words (a b : BitVec 1) (h : a = 1#1 ∨ b = 1#1) : (!(a == 1#1) && !(b == 1#1)) = false := by
  revert a b; decide

/-- Every point stores the output block: the rows or the zeros. -/
theorem stores (i : grid0.Coords) (v : BitVec 32) : k0_cond2 i v = 1#1 ∨ k0_cond3 i v = 1#1 := by
  by_cases h : k0_cond2 i v = 1#1
  · exact .inl h
  · exact .inr ((unused_iff i v).mpr h)

theorem live0 (pf : pre0.Contents (Elt F)) (i : grid0.Coords) : ∀ w : Fin 6, idle0 pf w i = false
  | 0 => rfl
  | 1 => rfl
  | 2 => rfl
  | 3 => rfl
  | 4 => rfl
  | 5 => idle_words _ _ (stores _ _)

theorem live (hO : Ok m) (w : Fin (cfgM m hO).W) (t : Fin (cfgM m hO).N) : (cfgM m hO).idle w ((cfgM m hO).grid.coords t) = false :=
  live0 (tbl m) (grid0.coords t) w

/-- A body that stores every output at every point owes each window's buffer at what it leaves there. -/
theorem obligation_of_live {cfg : Cfg sig Λ₀} {c : Dev nD} (dat : Dat τ (Elt F) Unit ℕ (UR sig nD τ) ℕ cfg c)
    (hl : ∀ w t, cfg.idle w (cfg.grid.coords t) = false)
    (h : ∀ t : Fin cfg.N, iprop(dat.Φ t.castSucc ∗ dat.owesAt () t.castSucc
        ∗ bigSep Finset.univ fun w : Fin cfg.W => iprop(∃ d, owns (c : Thread nD τ) ((cfg.win w).stage (cfg.slots t w)) fullShare (dat.before w t d)))
      ⊢ wp Idealize.ShloMosaic.frame (wpE (defs₀ (F := F)) Variants.none c none) Set.univ (defs₀ .tc cfg.body (cfg.bodyArgs t (cfg.slots t))) fun _ =>
        iprop(dat.Φ t.succ ∗ dat.owesAt () t.succ
          ∗ bigSep Finset.univ fun w : Fin cfg.W => owns (c : Thread nD τ) ((cfg.win w).stage (cfg.slots t w)) fullShare (dat.after w t))) :
    BodyObligation dat (defs₀ (F := F)) Variants.none () Set.univ := fun t => by
  simp only [hl]
  exact h t

theorem defs₀_row (hO : Ok m) (t : Fin (cfgM m hO).N) :
    defs₀ (F := F) .tc (cfgM m hO).body ((cfgM m hO).bodyArgs t ((cfgM m hO).slots t)) = bodyAt m hO t := by
  unfold defs₀; rw [Defs.onTc_tc]

theorem body_obligation (hO : Ok m) (c : Dev nD) : BodyObligation (dats (F := F) m hO 0 c) (defs₀ (F := F)) Variants.none () Set.univ :=
  obligation_of_live (dats m hO 0 c) (live m hO) fun t => by
    rw [bigSep_W0, bigSep_W0, defs₀_row m hO]
    exact triple_restated (sound_body m hO c t) rfl .rfl fun _ => .rfl

theorem hin (hO : Ok m) (c : Dev nD) : iprop(Pipeline.ΦA spec0 c ∗ Pipeline.ΦT pre0 (tbl m) c) ⊢ (dats m hO 0 c).Φ 0 := by
  rw [show (dats m hO 0 c).Φ 0 = kept m hO c 0 (Nat.zero_le _) from rfl, kept_zero m hO c 0 _ rfl]
  try exact Idealize.SL.BI.Entails.refl _

theorem hout (hO : Ok m) (c : Dev nD) : (dats m hO 0 c).Φ (Fin.last (cfgM m hO).N) ⊢ Pipeline.ΦA spec0 c := by
  rw [show (dats m hO 0 c).Φ (Fin.last (cfgM m hO).N) = kept m hO c (cfgM m hO).N le_rfl from rfl,
    kept_pos m hO c _ _ (by rw [show (cfgM m hO).N = 546 from N_0]; decide), PhiA_eq]
  iintro ⟨⟨⟨HS0, HS1⟩, Hg⟩, -⟩
  isplitl [HS0 HS1]
  · isplitl [HS0]
    · iexists _; iexact HS0
    iexists _; iexact HS1
  iexact Hg

set_option backward.isDefEq.respectTransparency.types false in
/-- The launch: every run ends with the arrays at what the points left and the counters at zero. -/
theorem run_main (hO : Ok m) : θ_run defs (onTc (τ := τ) (main (F := F))) (s₀ m ρ)
    (fun r => (Pipeline.FramePost (Pipeline.pin pcfgs fun _ => adm m hO) (dats m hO) 0 (V m)) r ∧ r.2.sem = fun _ => 0) :=
  Pipeline.θ_run_frameP_track (Q' := _) pcfgs (fun _ => adm m hO) (dats m hO) (0 : Fin 1) launch0 defs₀ Variants.none m ρ main
    (hbody := fun c => (body_obligation m hO c).loose) (hshare := fun c => (dats m hO 0 c).share_full fun _ => rfl)
    (howed := fun _ _ => rfl) (V := V m) (hmain := hmain m Variants.none) (hA := A_eq m hO) (hpf := V_pre m)
    (hin := hin m hO) (hout := hout m hO)

/-- An array the call only reads, or does not touch, ends as launched. -/
theorem args_kept (hO : Ok m) (r : PUnit × MemSt nD τ sig (Elt F))
    (h : Pipeline.FramePost (Pipeline.pin pcfgs fun _ => adm m hO) (dats m hO) 0 (V m) r) (c : Dev nD) :
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7) := by
  have rest : ∀ b : Ref sig .tc, b ∈ Pipeline.restRefs sig spec0 → b ≠ main_v0 → b ≠ main_v1 → b ≠ main_v2 →
      r.2.mem ((c.tc : Thread nD τ).loc b) = m ((c.tc : Thread nD τ).loc b) := fun b hb h0 h1 h2 =>
    ((h c).2 b hb).trans (V_of_ne m c b h0 h1 h2)
  refine ⟨rest _ (by decide) (by decide) (by decide) (by decide), rest _ (by decide) (by decide) (by decide) (by decide),
    rest _ (by decide) (by decide) (by decide) (by decide), rest _ (by decide) (by decide) (by decide) (by decide), ?_,
    rest _ (by decide) (by decide) (by decide) (by decide), ?_, rest _ (by decide) (by decide) (by decide) (by decide)⟩
  · exact ((h c).1 1).trans (((dats m hO 0 c).arrAt_in 1 rfl _).trans ((A_eq m hO c 1).trans (V_of_ne m c main_arg4 (by decide) (by decide) (by decide))))
  · exact ((h c).1 3).trans (((dats m hO 0 c).arrAt_in 3 rfl _).trans ((A_eq m hO c 3).trans (V_of_ne m c main_arg6 (by decide) (by decide) (by decide))))

/-- The frame: every run ends, the arguments as they were and the counters at zero. -/
theorem frame (hO : Ok m) : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7))
      ∧ r.2.sem = fun _ => 0) :=
  (θ_run defs _ _).mono (fun r h => ⟨fun c => args_kept m hO r h.1 c, h.2⟩) (run_main m ρ hO)

end Cert.Experts

end
-- ==== Proof.Experts.Range.lean ====
module

public import proofs.«01_k».proof.Proof.Experts.Words
public import proofs.«01_k».proof.Defs

@[expose] public section

set_option maxRecDepth 16384

noncomputable section

/-! With an expert named for every block and at least one block used, every block the tables select lies in its array. -/

namespace Cert.Experts

open Cert.Kernel2Ideal Cert.Kernel2Ideal.Gen
open Idealize.ShloMosaic Idealize.ShloMosaic.TcCoe Idealize.ShloMosaic.Tactic
open Idealize.SL Idealize.SL.Sem

variable {F : FTy → Type} [FloatOps F]

variable (m : (ℓ : Loc nD τ sig) → Buf (Elt F) ℓ)

/-- The shape facts the precondition states. -/
theorem preFacts : Cert.Pre_in_range.Facts := ⟨by decide, by decide⟩

/-- A word between 0 and 32, compared signed, is one of the 32 experts. -/
theorem lt_of_range (x : BitVec 32) (h : IntOp.andi (IntOp.cmpi .sge x 0#32) (IntOp.cmpi .slt x 32#32) = 1#1) : x.toNat < 32 := by
  have h1 : IntOp.cmpi .sge x 0#32 = 1#1 := by
    rcases bit_cases (IntOp.cmpi .sge x 0#32) with e | e
    · exact e
    · rw [e] at h; rcases bit_cases (IntOp.cmpi .slt x 32#32) with e' | e' <;> rw [e'] at h <;> exact absurd h (by decide)
  have h2 : IntOp.cmpi .slt x 32#32 = 1#1 := by
    rw [h1] at h
    rcases bit_cases (IntOp.cmpi .slt x 32#32) with e | e
    · exact e
    · rw [e] at h; exact absurd h (by decide)
  have h1' : (0#32).sle x = true := (ofBool_iff _).mp h1
  have h2' : x.slt 32#32 = true := (ofBool_iff _).mp h2
  simp only [BitVec.sle_eq_decide, BitVec.slt_eq_decide, decide_eq_true_eq] at h1' h2'
  have e0 : (0#32).toInt = 0 := by decide
  have e32 : (32#32).toInt = 32 := by decide
  rw [e0] at h1'
  rw [e32] at h2'
  rw [BitVec.toInt_eq_toNat_cond] at h1' h2'
  have := x.isLt
  split at h1' <;> omega

theorem one_le_of_range (x : BitVec 32) (h : IntOp.cmpi .sge x 1#32 = 1#1) : 1 ≤ x.toInt := by
  have h1 : (1#32).sle x = true := (ofBool_iff _).mp h
  simp only [BitVec.sle_eq_decide, decide_eq_true_eq] at h1
  exact h1

/-- The row block a point reads: its own, or the last one used. -/
theorem rowBlock_eq (k : ℕ) (hk : k < 546) (x : BitVec 32) (h : 1 ≤ x.toInt) :
    (Scalar.minsi (BitVec.ofNat 32 k) (Scalar.subi x 1#32)).toNat = min k (x.toNat - 1) := by
  have hx : x.toNat < 2 ^ 31 ∧ 1 ≤ x.toNat := by
    rw [BitVec.toInt_eq_toNat_cond] at h
    have := x.isLt
    split at h <;> omega
  have hs : (x - 1#32).toNat = x.toNat - 1 := by
    rw [BitVec.toNat_sub]
    have := x.isLt
    norm_num; omega
  have hk' : (BitVec.ofNat 32 k).toNat = k := by
    rw [BitVec.toNat_ofNat]; omega
  show (IntOp.minsi (BitVec.ofNat 32 k) (x - 1#32)).toNat = _
  unfold IntOp.minsi
  have e : (BitVec.ofNat 32 k).slt (x - 1#32) = decide (k < x.toNat - 1) := by
    simp only [BitVec.slt_eq_decide]
    rw [BitVec.toInt_eq_toNat_cond, BitVec.toInt_eq_toNat_cond, hs, hk', decide_eq_decide]
    split <;> split <;> omega
  rw [e]
  by_cases hl : k < x.toNat - 1
  · rw [if_pos (decide_eq_true hl), hk']; omega
  · rw [if_neg (by rw [decide_eq_true_eq]; exact hl), hs]; omega

end Cert.Experts

end
-- ==== Proof.Experts.Ok.lean ====
module

public import proofs.«01_k».proof.Proof.Experts.Frame
public import proofs.«01_k».proof.Proof.Experts.Range

@[expose] public section

set_option maxRecDepth 16384

noncomputable section

/-! With an expert named for every block and at least one block used, every block the tables select lies in its array. -/

namespace Cert.Experts

open Cert.Kernel2Ideal Cert.Kernel2Ideal.Gen
open Idealize.ShloMosaic Idealize.ShloMosaic.TcCoe Idealize.ShloMosaic.Tactic
open Idealize.SL Idealize.SL.Sem

variable {F : FTy → Type} [FloatOps F]

variable (m : (ℓ : Loc nD τ sig) → Buf (Elt F) ℓ)

/-- Every block's expert is one of the 32, and some block is used. -/
def InRange : Prop :=
  (∀ k : Fin 546, (tbl m 0 (ix1 k) : BitVec 32).toNat < 32) ∧ 1 ≤ (tbl m 2 (ix1 0) : BitVec 32).toInt

theorem tbl0_eq (c : Dev nD) : (tbl m 0 : IVec S546 32) = m ((c.tc : Thread nD τ).loc main_arg0) := by
  obtain rfl : c = 0 := Subsingleton.elim _ _
  exact V_of_ne m 0 main_arg0 (by decide) (by decide) (by decide)
theorem tbl1_eq (c : Dev nD) : (tbl m 1 : IVec S546 32) = m ((c.tc : Thread nD τ).loc main_arg1) := by
  obtain rfl : c = 0 := Subsingleton.elim _ _
  exact V_of_ne m 0 main_arg1 (by decide) (by decide) (by decide)
theorem tbl2_eq (c : Dev nD) : (tbl m 2 : IVec S1 32) = m ((c.tc : Thread nD τ).loc main_arg2) := by
  obtain rfl : c = 0 := Subsingleton.elim _ _
  exact V_of_ne m 0 main_arg2 (by decide) (by decide) (by decide)

/-- What the precondition's words say. -/
theorem inRange_of_pre (x0 : IVec S546 32) (x1 : IVec S546 32) (x2 : IVec S1 32) (x3 : FVec F S279552x1024 .f32)
    (x4 : FVec F S2x32x1024x2048 .f32) (x5 : FVec F Cert.Pre_in_range.S2x32x2048 .f32) (x6 : FVec F S2x32x1024x1024 .f32)
    (x7 : FVec F Cert.Pre_in_range.S2x32x1024 .f32)
    (h : (@Cert.Pre_in_range.fn preFacts F _ x0 x1 x2 x3 x4 x5 x6 x7).1 = (fun _ => 1#1)
      ∧ (@Cert.Pre_in_range.fn preFacts F _ x0 x1 x2 x3 x4 x5 x6 x7).2 = (fun _ => 1#1))
    (h0 : (tbl m 0 : IVec S546 32) = x0) (h2 : (tbl m 2 : IVec S1 32) = x2) : InRange m := by
  obtain ⟨ha, hb⟩ := h
  subst h0 h2
  refine ⟨fun k => ?_, ?_⟩
  · have := congrFun ha (ix1 k)
    exact lt_of_range _ this
  · have := congrFun hb (ix1 0)
    exact one_le_of_range _ this

/-- The row block window 0 reads at a point. -/
theorem index_rows (i : grid0.Coords) (hR : InRange m) :
    cc0_transform_0 inb_S1_S1_0 numel1_S1 (tbl m) i = ![min (i 0).val ((tbl m 2 (ix1 0) : BitVec 32).toNat - 1), 0] := by
  have e := rowBlock_eq (i 0).val (i 0).isLt _ hR.2
  have u : (tbl m).at 2 (Rect.unit (s := S1) ![0] S1.size inb_S1_S1_0) numel1_S1 = (tbl m 2 (ix1 0) : BitVec 32) := used_eq 0 (tbl m 2)
  unfold cc0_transform_0
  rw [u]
  dsimp only
  rw [e]; rfl

/-- The expert windows 1 to 4 read at a point. -/
theorem expert_lt (i : grid0.Coords) (hR : InRange m) : (expertNow 0 i (tbl m 0) : BitVec 32).toNat < 32 := by
  have hi : (i 0).val < 546 := (i 0).isLt
  have e : expertNow 0 i (tbl m 0) = (tbl m 0 (ix1 ⟨(i 0).val, hi⟩) : BitVec 32) := by
    unfold expertNow
    show (tbl m 0 : IVec S546 32) _ = (tbl m 0 : IVec S546 32) _
    congr 1
    funext a
    match a with
    | 0 => exact Fin.ext ((Nat.add_zero _).trans (congrFun (k0_off1_eq i) 0))
  rw [e]; exact hR.1 _

theorem ok_of_range (hR : InRange m) : Ok m := by
  refine ⟨fun i => ⟨?_, .inr (Affine.block_words_dvd (of_decide_eq_true rfl) (by decide))⟩, fun i => ⟨?_, .inl rfl⟩,
    fun i => ⟨?_, .inl rfl⟩, fun i => ⟨?_, .inl rfl⟩, fun i => ⟨?_, .inl rfl⟩⟩
  · rw [index_rows m i hR]
    have hi : (i 0).val < 546 := (i 0).isLt
    intro a
    match a with
    | 0 => show (min _ _ + 1) * 512 ≤ 279552; omega
    | 1 => show (0 + 1) * 1024 ≤ 1024; omega
  all_goals
    have he := expert_lt m i hR
    intro a
    match a with
    | 0 => exact Nat.le_of_ble_eq_true rfl
    | 1 => show ((expertNow 0 i (tbl m 0) : BitVec 32).toNat + 1) * 1 ≤ 32; omega
    | 2 => exact Nat.le_of_ble_eq_true rfl
    | 3 => exact Nat.le_of_ble_eq_true rfl

end Cert.Experts

end
-- ==== Proof.Experts.Text.lean ====
module

public import proofs.«01_k».proof.Proof.Gen.Kernel2
public import proofs.«01_k».proof.Proof.Gen.Kernel2Ideal
public import Idealize.ShloMosaic.PureOps.BitExact
public import Idealize.ShloMosaic.Adequacy
public import Idealize.ShloMosaic.Init

@[expose] public section

set_option maxRecDepth 16384

noncomputable section

/-! The experts' program over machine floats is the idealized one, read over those floats: no rule rewrote any of it. -/

namespace Cert.Experts

open Idealize.ShloMosaic
open Idealize.SL Idealize.SL.Sem

attribute [local instance] Cert.Kernel2.Gen.facts Cert.Kernel2Ideal.Gen.facts

theorem bodies_eq : Cert.Kernel2.defs₀ (F := Bits) = Cert.Kernel2Ideal.defs₀ (F := Bits) :=
  congrArg Defs.onTc (funext fun ℓ => by
    match ℓ with
    | 0 => exact funext fun ⟨t, s⟩ => rfl)

theorem defs_eq : Cert.Kernel2.defs (F := Bits) = Cert.Kernel2Ideal.defs (F := Bits) :=
  congrArg (Pipeline.defs Cert.Kernel2.pcfgs) bodies_eq

set_option maxHeartbeats 4000000 in
/-- What a run of the one program meets, a run of the other does. -/
theorem run_bits (s : MemSt Cert.Kernel2Ideal.nD Cert.Kernel2Ideal.τ Cert.Kernel2Ideal.sig (Elt Bits))
    (P : PUnit × MemSt Cert.Kernel2Ideal.nD Cert.Kernel2Ideal.τ Cert.Kernel2Ideal.sig (Elt Bits) → Prop)
    (h : θ_run (Cert.Kernel2Ideal.defs (F := Bits)) (onTc (τ := Cert.Kernel2Ideal.τ) (Cert.Kernel2Ideal.main (F := Bits))) s P) :
    θ_run (Cert.Kernel2.defs (F := Bits)) (onTc (τ := Cert.Kernel2.τ) (Cert.Kernel2.main (F := Bits))) s P :=
  (congrArg (fun D => θ_run D (onTc (τ := Cert.Kernel2.τ) (Cert.Kernel2.main (F := Bits))) s P) defs_eq).mpr h

end Cert.Experts

end
-- ==== Proof.Experts.Value.lean ====
module

public import proofs.«01_k».proof.Proof.Experts.Rows
public import Idealize.ShloMosaic.Lib.Pipeline.ValueKit
public import Idealize.ShloMosaic.Lib.Claim
public import Idealize.ShloMosaic.Lib.Pointwise

@[expose] public section

set_option maxRecDepth 16384

noncomputable section

/-! What the body leaves of a block, entry by entry: a row's feed-forward, the two halves of its columns put together. -/

namespace Cert.Experts

open Cert.Kernel2Ideal Cert.Kernel2Ideal.Gen
open Idealize.ShloMosaic Idealize.ShloMosaic.TcCoe Idealize.ShloMosaic.Tactic
open Idealize.SL Idealize.SL.Sem

/-- The gated product of a gate and an up column, with the constants the programs write. -/
def swiglu (g u : EReal) : EReal :=
  min g (Ideal.ofBits .f32 0x40E00000#32)
    * Ideal.div 1 (1 + Ideal.exp (Ideal.ofBits .f32 0xBFD9DB23#32 * min g (Ideal.ofBits .f32 0x40E00000#32)))
    * (min (Ideal.ofBits .f32 0x40E00000#32) (max (Ideal.ofBits .f32 0xC0E00000#32) u) + 1)

/-- A row's product with the first weights, and their bias. -/
def lin (x : Fin 1024 → EReal) (W : Fin 1024 → Fin 2048 → EReal) (b : Fin 2048 → EReal) (f : Fin 2048) : EReal :=
  ∑ e, x e * W e f + b f

/-- A row's feed-forward activation: gates in the first half of the columns, the rest in the second. -/
def act (x : Fin 1024 → EReal) (W : Fin 1024 → Fin 2048 → EReal) (b : Fin 2048 → EReal) (f : Fin 1024) : EReal :=
  swiglu (lin x W b ⟨f.val, by omega⟩) (lin x W b ⟨1024 + f.val, by omega⟩)

/-- A row's feed-forward. -/
def ffn (x : Fin 1024 → EReal) (W : Fin 1024 → Fin 2048 → EReal) (b : Fin 2048 → EReal) (D : Fin 1024 → Fin 1024 → EReal)
    (d : Fin 1024 → EReal) (j : Fin 1024) : EReal :=
  ∑ f, act x W b f * D f j + d j

/-- A row's entry, or zero past the block's count of tokens. -/
def masked (n : BitVec 32) (r : ℕ) (v : EReal) : EReal :=
  Scalar.select (IntOp.cmpi CmpIPredicate.slt (BitVec.ofNat 32 r) n) v (0 : EReal)

theorem masked_apply (n : BitVec 32) (x : Vec Ideal S512x1024 .bf16) (r : Fin 512) (e : Fin 1024) :
    k0_pay5 (F := Ideal) n x (ix2 r e) = masked n r.val (x (ix2 r e)) := by
  pointwise [k0_pay5]
  rfl

/-! The pieces of the weights and biases that the halves read. -/

theorem cols0_apply (W : Vec Ideal S1024x2048 .bf16) (e : Fin 1024) (f : Fin 512) :
    cols0 (F := Ideal) W (ix2 e f) = W (ix2 e ⟨f.val, by omega⟩) := by
  pointwise [cols0]
theorem bias0_apply (b : Vec Ideal S1x1x1x2048 .f32) (f : Fin 512) :
    bias0 (F := Ideal) b (ix4 0 0 0 f) = b (ix4 0 0 0 ⟨f.val, by omega⟩) := by
  pointwise [bias0]
theorem cols512_apply (W : Vec Ideal S1024x2048 .bf16) (e : Fin 1024) (f : Fin 512) :
    cols512 (F := Ideal) W (ix2 e f) = W (ix2 e ⟨512 + f.val, by omega⟩) := by
  pointwise [cols512]
theorem bias512_apply (b : Vec Ideal S1x1x1x2048 .f32) (f : Fin 512) :
    bias512 (F := Ideal) b (ix4 0 0 0 f) = b (ix4 0 0 0 ⟨512 + f.val, by omega⟩) := by
  pointwise [bias512]
theorem cols1024_apply (W : Vec Ideal S1024x2048 .bf16) (e : Fin 1024) (f : Fin 512) :
    cols1024 (F := Ideal) W (ix2 e f) = W (ix2 e ⟨1024 + f.val, by omega⟩) := by
  pointwise [cols1024]
theorem bias1024_apply (b : Vec Ideal S1x1x1x2048 .f32) (f : Fin 512) :
    bias1024 (F := Ideal) b (ix4 0 0 0 f) = b (ix4 0 0 0 ⟨1024 + f.val, by omega⟩) := by
  pointwise [bias1024]
theorem cols1536_apply (W : Vec Ideal S1024x2048 .bf16) (e : Fin 1024) (f : Fin 512) :
    cols1536 (F := Ideal) W (ix2 e f) = W (ix2 e ⟨1536 + f.val, by omega⟩) := by
  pointwise [cols1536]
theorem bias1536_apply (b : Vec Ideal S1x1x1x2048 .f32) (f : Fin 512) :
    bias1536 (F := Ideal) b (ix4 0 0 0 f) = b (ix4 0 0 0 ⟨1536 + f.val, by omega⟩) := by
  pointwise [bias1536]
theorem rows0_apply (D : Vec Ideal S1024x1024 .bf16) (f : Fin 512) (j : Fin 1024) :
    rows0 (F := Ideal) D (ix2 f j) = D (ix2 ⟨f.val, by omega⟩ j) := by
  pointwise [rows0]
theorem rows512_apply (D : Vec Ideal S1024x1024 .bf16) (f : Fin 512) (j : Fin 1024) :
    rows512 (F := Ideal) D (ix2 f j) = D (ix2 ⟨512 + f.val, by omega⟩ j) := by
  pointwise [rows512]

/-- A column of the activation, from the pieces that hold its gate and its other factor. -/
theorem act_of_pieces (X : Fin 1024 → EReal) (W : Vec Ideal S1024x2048 .bf16) (b : Vec Ideal S1x1x1x2048 .f32)
    (Wg Wu : Vec Ideal S1024x512 .bf16) (bg bu : Vec Ideal S1x1x1x512 .f32) (f : Fin 512) (k : Fin 1024)
    (hWg : ∀ e, Wg (ix2 e f) = W (ix2 e ⟨k.val, by omega⟩)) (hWu : ∀ e, Wu (ix2 e f) = W (ix2 e ⟨1024 + k.val, by omega⟩))
    (hbg : bg (ix4 0 0 0 f) = b (ix4 0 0 0 ⟨k.val, by omega⟩)) (hbu : bu (ix4 0 0 0 f) = b (ix4 0 0 0 ⟨1024 + k.val, by omega⟩)) :
    swiglu (∑ e, X e * Wg (ix2 e f) + bg (ix4 0 0 0 f)) (∑ e, X e * Wu (ix2 e f) + bu (ix4 0 0 0 f))
    = act X (fun e f => W (ix2 e f)) (fun f => b (ix4 0 0 0 f)) k := by
  simp only [hWg, hWu, hbg, hbu]
  rfl

/-- The first half of the columns. -/
theorem half0_apply (n : BitVec 32) (x : Vec Ideal S512x1024 .bf16) (W : Vec Ideal S1024x2048 .bf16) (b : Vec Ideal S1x1x1x2048 .f32)
    (D : Vec Ideal S1024x1024 .bf16) (r : Fin 512) (j : Fin 1024) :
    k0_pay8 (k0_pay6 (F := Ideal) n x (cols1024 W) (bias1024 b)) (k0_pay7 n x (cols0 W) (bias0 b)) (rows0 D) (ix2 r j)
    = ∑ f : Fin 512, act (fun e => masked n r.val (x (ix2 r e))) (fun e f => W (ix2 e f)) (fun f => b (ix4 0 0 0 f)) ⟨f.val, by omega⟩
        * D (ix2 ⟨f.val, by omega⟩ j) := by
  pointwise [k0_pay8]
  refine Finset.sum_congr rfl fun f _ => ?_
  rw [← act_of_pieces _ W b _ _ _ _ f ⟨f.val, by omega⟩ (fun e => cols0_apply W e f) (fun e => cols1024_apply W e f)
    (bias0_apply b f) (bias1024_apply b f), ← rows0_apply D f j]
  pointwise [k0_pay6, k0_pay7]
  simp only [masked_apply]
  rfl

/-- The second half. -/
theorem half1_apply (n : BitVec 32) (x : Vec Ideal S512x1024 .bf16) (W : Vec Ideal S1024x2048 .bf16) (b : Vec Ideal S1x1x1x2048 .f32)
    (r : Fin 512) (f : Fin 512) :
    k0_pay9 (F := Ideal) (k0_pay5 n x) (cols512 W) (bias512 b) (cols1536 W) (bias1536 b) (ix2 r f)
    = act (fun e => masked n r.val (x (ix2 r e))) (fun e f => W (ix2 e f)) (fun f => b (ix4 0 0 0 f)) ⟨512 + f.val, by omega⟩ := by
  have e : (⟨1024 + (⟨512 + f.val, by omega⟩ : Fin 1024).val, by simp only []; omega⟩ : Fin 2048) = ⟨1536 + f.val, by omega⟩ :=
    Fin.ext (by simp only []; omega)
  rw [← act_of_pieces _ W b _ _ _ _ f ⟨512 + f.val, by omega⟩ (fun e => cols512_apply W e f)
    (fun e' => (cols1536_apply W e' f).trans (congrArg (fun z => W (ix2 e' z)) e.symm))
    (bias512_apply b f) ((bias1536_apply b f).trans (congrArg (fun z => b (ix4 0 0 0 z)) e.symm))]
  pointwise [k0_pay9]
  simp only [masked_apply]
  rfl

/-- What the body leaves of a block used, at an entry. -/
theorem rowsOut_apply (n : BitVec 32) (x : Vec Ideal S512x1024 .bf16) (W : Vec Ideal S1024x2048 .bf16) (b : Vec Ideal S1x1x1x2048 .f32)
    (D : Vec Ideal S1024x1024 .bf16) (d : Vec Ideal S1x1x1x1024 .f32) (r : Fin 512) (j : Fin 1024) :
    rowsOut (F := Ideal) n x W b D d (ix2 r j)
    = ffn (fun e => masked n r.val (x (ix2 r e))) (fun e f => W (ix2 e f)) (fun f => b (ix4 0 0 0 f)) (fun f j => D (ix2 f j))
        (fun j => d (ix4 0 0 0 j)) j := by
  unfold rowsOut ffn
  pointwise [k0_pay3]
  rw [half0_apply]
  refine congrArg (· + _) (Eq.trans (congrArg (_ + ·) (Finset.sum_congr rfl fun f _ => ?_)) (Fin.sum_univ_add (a := 512) (b := 512) (fun f : Fin (512 + 512) =>
      act (fun e => masked n r.val (x (ix2 r e))) (fun e f => W (ix2 e f)) (fun f => b (ix4 0 0 0 f)) f * D (ix2 f j))).symm)
  rw [half1_apply, rows512_apply]
  rfl

/-- The cast weights at an entry. -/
theorem castGu_apply (W : Vec Ideal S1x1x1024x2048 .f32) (e : Fin 1024) (f : Fin 2048) :
    k0_pay1 (F := Ideal) W (ix2 e f) = W (ix4 0 0 e f) := by
  pointwise [k0_pay1]

theorem castDown_apply (D : Vec Ideal S1x1x1024x1024 .f32) (f : Fin 1024) (j : Fin 1024) :
    k0_pay2 (F := Ideal) D (ix2 f j) = D (ix4 0 0 f j) := by
  pointwise [k0_pay2]

/-- A block not used is zero. -/
theorem zero_apply (r : Fin 512) (j : Fin 1024) : k0_pay4 (F := Ideal) (ix2 r j) = 0 := by
  pointwise [k0_pay4]

end Cert.Experts

end
-- ==== Proof.Experts.Blocks.lean ====
module

public import proofs.«01_k».proof.Proof.Experts.Ok
public import proofs.«01_k».proof.Proof.Experts.Value

@[expose] public section

set_option maxRecDepth 16384

noncomputable section

/-! The blocks that a grid point of the experts reads, as entries of the argument arrays. -/

namespace Cert.Experts

open Cert.Kernel2Ideal Cert.Kernel2Ideal.Gen
open Idealize.ShloMosaic Idealize.ShloMosaic.TcCoe Idealize.ShloMosaic.Tactic
open Idealize.SL Idealize.SL.Sem

variable (m : (ℓ : Loc nD τ sig) → Buf (Elt Ideal) ℓ) (c : Dev nD)

/-- The rows as the call reads them. -/
theorem V_rows (n : Fin 279552) (e : Fin 1024) :
    (V m c main_v0 : Vec Ideal S279552x1024 .bf16) (ix2 n e) = m ((c.tc : Thread nD τ).loc main_arg3) (ix2 n e) := by
  entry_read
  rfl

/-- The first biases as the call reads them. -/
theorem V_biasGu (l : Fin 2) (x : Fin 32) (f : Fin 2048) :
    (V m c main_v1 : Vec Ideal S2x32x1x2048 .f32) (ix4 l x 0 f) = m ((c.tc : Thread nD τ).loc main_arg5) (ix3 l x f) := by
  entry_read
  pointwise
  blk_ext

/-- The second biases as the call reads them. -/
theorem V_biasDown (l : Fin 2) (x : Fin 32) (f : Fin 1024) :
    (V m c main_v2 : Vec Ideal S2x32x1x1024 .f32) (ix4 l x 0 f) = m ((c.tc : Thread nD τ).loc main_arg7) (ix3 l x f) := by
  entry_read
  pointwise
  blk_ext

/-- Where the rows of a point lie. -/
theorem index_0 (hO : Ok m) (hR : InRange m) (t : Fin (cfgM m hO).N) :
    ((cfgM m hO).win 0).index t = ![min t.val ((tbl m 2 (ix1 0) : BitVec 32).toNat - 1), 0] := by
  have h := index_rows m (grid0.coords t) hR
  rw [coords_val t] at h
  exact h

theorem blk_rows (hO : Ok m) (hR : InRange m) (t : Fin (cfgM m hO).N) (r : Fin 512) (e : Fin 1024)
    (ht : t.val ≤ (tbl m 2 (ix1 0) : BitVec 32).toNat - 1) (h : t.val * 512 + r.val < 279552) :
    (iblk m hO c 0 t : Vec Ideal S512x1024 .bf16) (ix2 r e) = V m c main_v0 (ix2 ⟨t.val * 512 + r.val, h⟩ e) := by
  have hi := index_0 m hO hR t
  rw [Nat.min_eq_left ht] at hi
  blk_ext [iblk, hi]

/-- The expert of a point's block. -/
theorem expertNow_arg (t : Fin grid0.N) (h : t.val < 546) :
    (expertNow 0 (grid0.coords t) (tbl m 0) : BitVec 32) = m ((c.tc : Thread nD τ).loc main_arg0) (ix1 ⟨t.val, h⟩) :=
  (expertNow_eq 0 t (tbl m 0) h).trans (congrFun (tbl0_eq m c) _)

theorem index_2 (hO : Ok m) (t : Fin (cfgM m hO).N) :
    ((cfgM m hO).win 2).index t = ![0, (expertNow 0 (grid0.coords t) (tbl m 0) : BitVec 32).toNat, 0, 0] := rfl
theorem index_4 (hO : Ok m) (t : Fin (cfgM m hO).N) :
    ((cfgM m hO).win 4).index t = ![0, (expertNow 0 (grid0.coords t) (tbl m 0) : BitVec 32).toNat, 0, 0] := rfl

theorem blk_gu (hO : Ok m) (t : Fin (cfgM m hO).N) (x : Fin 32) (hx : (expertNow 0 (grid0.coords t) (tbl m 0) : BitVec 32).toNat = x.val)
    (e : Fin 1024) (f : Fin 2048) :
    (iblk m hO c 1 t : Vec Ideal S1x1x1024x2048 .f32) (ix4 0 0 e f) = m ((c.tc : Thread nD τ).loc main_arg4) (ix4 0 x e f) := by
  have hi := index_1 m hO t
  rw [hx] at hi
  refine Eq.trans ?_ (congrFun (V_of_ne m c main_arg4 (by decide) (by decide) (by decide)) (ix4 0 x e f))
  blk_ext [iblk, hi]

theorem blk_biasGu (hO : Ok m) (t : Fin (cfgM m hO).N) (x : Fin 32) (hx : (expertNow 0 (grid0.coords t) (tbl m 0) : BitVec 32).toNat = x.val)
    (f : Fin 2048) :
    (iblk m hO c 2 t : Vec Ideal S1x1x1x2048 .f32) (ix4 0 0 0 f) = m ((c.tc : Thread nD τ).loc main_arg5) (ix3 0 x f) := by
  have hi := index_2 m hO t
  rw [hx] at hi
  refine Eq.trans ?_ (V_biasGu m c 0 x f)
  blk_ext [iblk, hi]

theorem blk_down (hO : Ok m) (t : Fin (cfgM m hO).N) (x : Fin 32) (hx : (expertNow 0 (grid0.coords t) (tbl m 0) : BitVec 32).toNat = x.val)
    (f j : Fin 1024) :
    (iblk m hO c 3 t : Vec Ideal S1x1x1024x1024 .f32) (ix4 0 0 f j) = m ((c.tc : Thread nD τ).loc main_arg6) (ix4 0 x f j) := by
  have hi := index_3 m hO t
  rw [hx] at hi
  refine Eq.trans ?_ (congrFun (V_of_ne m c main_arg6 (by decide) (by decide) (by decide)) (ix4 0 x f j))
  blk_ext [iblk, hi]

theorem blk_biasDown (hO : Ok m) (t : Fin (cfgM m hO).N) (x : Fin 32) (hx : (expertNow 0 (grid0.coords t) (tbl m 0) : BitVec 32).toNat = x.val)
    (j : Fin 1024) :
    (iblk m hO c 4 t : Vec Ideal S1x1x1x1024 .f32) (ix4 0 0 0 j) = m ((c.tc : Thread nD τ).loc main_arg7) (ix3 0 x j) := by
  have hi := index_4 m hO t
  rw [hx] at hi
  refine Eq.trans ?_ (V_biasDown m c 0 x j)
  blk_ext [iblk, hi]

end Cert.Experts

end
-- ==== Proof.Experts.Array.lean ====
module

public import proofs.«01_k».proof.Proof.Experts.Blocks
public import Idealize.ShloMosaic.Lib.Pipeline.Covers

@[expose] public section

set_option maxRecDepth 16384

noncomputable section

/-! The experts' result array after the run, as a function of the argument arrays. -/

namespace Cert.Experts

open Cert.Kernel2Ideal Cert.Kernel2Ideal.Gen
open Idealize.ShloMosaic Idealize.ShloMosaic.TcCoe Idealize.ShloMosaic.Tactic
open Idealize.SL Idealize.SL.Sem

/-- The expert that a word of the table names. -/
def expertOf (v : BitVec 32) : Fin 32 := ⟨min v.toNat 31, by omega⟩

/-- Row `n` of all, the `r`-th of block `b`, in column `j`: its feed-forward by the block's expert, zero past the blocks used. -/
def entry (A0 A1 : IVec S546 32) (A2 : IVec S1 32) (A3 : Vec Ideal S279552x1024 .f32) (A4 : Vec Ideal S2x32x1024x2048 .f32)
    (A5 : Vec Ideal S2x32x2048 .f32) (A6 : Vec Ideal S2x32x1024x1024 .f32) (A7 : Vec Ideal S2x32x1024 .f32)
    (b : Fin 546) (r : Fin 512) (n : Fin 279552) (j : Fin 1024) : EReal :=
  Scalar.select (IntOp.cmpi CmpIPredicate.slt (BitVec.ofNat 32 b.val) (A2 (ix1 0)))
    (ffn (fun e => masked (A1 (ix1 b)) r.val (A3 (ix2 n e))) (fun e f => A4 (ix4 0 (expertOf (A0 (ix1 b))) e f))
      (fun f => A5 (ix3 0 (expertOf (A0 (ix1 b))) f)) (fun f j => A6 (ix4 0 (expertOf (A0 (ix1 b))) f j))
      (fun j => A7 (ix3 0 (expertOf (A0 (ix1 b))) j)) j) 0

/-- The whole result. -/
def out (A0 A1 : IVec S546 32) (A2 : IVec S1 32) (A3 : Vec Ideal S279552x1024 .f32) (A4 : Vec Ideal S2x32x1024x2048 .f32)
    (A5 : Vec Ideal S2x32x2048 .f32) (A6 : Vec Ideal S2x32x1024x1024 .f32) (A7 : Vec Ideal S2x32x1024 .f32) :
    Vec Ideal S279552x1024 .bf16 := fun y =>
  entry A0 A1 A2 A3 A4 A5 A6 A7 ⟨(y 0).val / 512, by have : (y 0).val < 279552 := (y 0).isLt; omega⟩ ⟨(y 0).val % 512, by omega⟩ (y 0) (y 1)

variable (m : (ℓ : Loc nD τ sig) → Buf (Elt Ideal) ℓ) (c : Dev nD)

/-- A block used comes before the last that is. -/
theorem le_of_used (k : ℕ) (hk : k < 546) (v : BitVec 32) (h : (BitVec.ofNat 32 k).slt v = true) : k ≤ v.toNat - 1 := by
  rw [BitVec.slt_eq_decide, decide_eq_true_eq, BitVec.toInt_eq_toNat_cond, BitVec.toInt_eq_toNat_cond] at h
  have e : (BitVec.ofNat 32 k).toNat = k := by rw [BitVec.toNat_ofNat]; omega
  have hv := v.isLt
  rw [e] at h
  split at h <;> split at h <;> omega

/-- A block's rows from its pieces. -/
theorem rowsOut_of_pieces (n v : BitVec 32) (x : Vec Ideal S512x1024 .bf16) (W : Vec Ideal S1024x2048 .bf16) (b : Vec Ideal S1x1x1x2048 .f32)
    (D : Vec Ideal S1024x1024 .bf16) (d : Vec Ideal S1x1x1x1024 .f32) (r : Fin 512) (j : Fin 1024)
    (x' : Fin 1024 → EReal) (W' : Fin 1024 → Fin 2048 → EReal) (b' : Fin 2048 → EReal) (D' : Fin 1024 → Fin 1024 → EReal)
    (d' : Fin 1024 → EReal) (hn : n = v) (hx : ∀ e, x (ix2 r e) = x' e) (hW : ∀ e f, W (ix2 e f) = W' e f)
    (hb : ∀ f, b (ix4 0 0 0 f) = b' f) (hD : ∀ f j, D (ix2 f j) = D' f j) (hd : ∀ j, d (ix4 0 0 0 j) = d' j) :
    rowsOut (F := Ideal) n x W b D d (ix2 r j) = ffn (fun e => masked v r.val (x' e)) W' b' D' d' j := by
  subst hn
  rw [rowsOut_apply, funext hb, funext hd, funext fun f => funext (hD f), funext fun f => funext (hW f)]
  simp only [hx]

set_option maxHeartbeats 1600000 in
/-- What the body leaves at a point, entry by entry. -/
theorem outBlk_apply (hO : Ok m) (hR : InRange m) (t : Fin (cfgM m hO).N) (b : Fin 546) (hb : b.val = t.val)
    (r : Fin 512) (j : Fin 1024) (n : Fin 279552) (hn : n.val = t.val * 512 + r.val) :
    outBlk m hO c t (ix2 r j) = entry (m ((c.tc : Thread nD τ).loc main_arg0)) (m ((c.tc : Thread nD τ).loc main_arg1))
      (m ((c.tc : Thread nD τ).loc main_arg2)) (m ((c.tc : Thread nD τ).loc main_arg3)) (m ((c.tc : Thread nD τ).loc main_arg4))
      (m ((c.tc : Thread nD τ).loc main_arg5)) (m ((c.tc : Thread nD τ).loc main_arg6)) (m ((c.tc : Thread nD τ).loc main_arg7)) b r n j := by
  have ht : t.val < 546 := hb ▸ b.isLt
  have hbt : b = ⟨t.val, ht⟩ := Fin.ext hb
  have hnu : used c (tbl m 2) = m ((c.tc : Thread nD τ).loc main_arg2) (ix1 0) :=
    (used_eq c (tbl m 2)).trans (congrFun (tbl2_eq m c) _)
  have hnv : valid c (grid0.coords t) (tbl m 1) = m ((c.tc : Thread nD τ).loc main_arg1) (ix1 b) := by
    rw [hbt]; exact (valid_eq c t (tbl m 1) ht).trans (congrFun (tbl1_eq m c) _)
  have hbe : (expertNow 0 (grid0.coords t) (tbl m 0) : BitVec 32) = m ((c.tc : Thread nD τ).loc main_arg0) (ix1 b) := by
    rw [hbt]; exact expertNow_arg m c t ht
  have hx : (expertNow 0 (grid0.coords t) (tbl m 0) : BitVec 32).toNat = (expertOf (m ((c.tc : Thread nD τ).loc main_arg0) (ix1 b))).val := by
    have := expert_lt m (grid0.coords t) hR
    rw [← hbe]
    show _ = min _ 31
    omega
  unfold entry outBlk
  rw [hnu]
  by_cases hu : (BitVec.ofNat 32 b.val).slt (m ((c.tc : Thread nD τ).loc main_arg2) (ix1 0)) = true
  · have hu' : (BitVec.ofNat 32 (grid0.coords t 0).val).slt (m ((c.tc : Thread nD τ).loc main_arg2) (ix1 0)) = true := by
      rw [coords_val t, ← hb]; exact hu
    have hle : t.val ≤ (tbl m 2 (ix1 0) : BitVec 32).toNat - 1 :=
      le_of_used t.val ht _ (by rw [← hb]; exact (congrFun (tbl2_eq m c) (ix1 0)) ▸ hu)
    rw [if_pos ((used_iff _ _).mpr hu')]
    refine Eq.trans ?_ (if_pos ((ofBool_iff _).mpr hu)).symm
    have e0 : ∀ e : Fin 1024, (iblk m hO c 0 t : Vec Ideal S512x1024 .bf16) (ix2 r e) = m ((c.tc : Thread nD τ).loc main_arg3) (ix2 n e) := fun e => by
      rw [blk_rows m c hO hR t r e hle (hn ▸ n.isLt), V_rows]
      exact congrArg (fun k => m ((c.tc : Thread nD τ).loc main_arg3) (ix2 k e)) (Fin.ext hn.symm)
    have e1 : ∀ (e : Fin 1024) (f : Fin 2048), castGu m hO c t (ix2 e f) = m ((c.tc : Thread nD τ).loc main_arg4)
        (ix4 0 (expertOf (m ((c.tc : Thread nD τ).loc main_arg0) (ix1 b))) e f) := fun e f =>
      (castGu_apply _ e f).trans (blk_gu m c hO t _ hx e f)
    have e3 : ∀ (f j : Fin 1024), castDown m hO c t (ix2 f j) = m ((c.tc : Thread nD τ).loc main_arg6)
        (ix4 0 (expertOf (m ((c.tc : Thread nD τ).loc main_arg0) (ix1 b))) f j) := fun f j =>
      (castDown_apply _ f j).trans (blk_down m c hO t _ hx f j)
    have e2 := blk_biasGu m c hO t _ hx
    have e4 := blk_biasDown m c hO t _ hx
    exact rowsOut_of_pieces _ _ _ _ _ _ _ r j _ _ _ _ _ hnv e0 e1 e2 e3 e4
  · have hu' : ¬ (BitVec.ofNat 32 (grid0.coords t 0).val).slt (m ((c.tc : Thread nD τ).loc main_arg2) (ix1 0)) = true := by
      rw [coords_val t, ← hb]; exact hu
    rw [if_neg (fun h => hu' ((used_iff _ _).mp h))]
    exact (zero_apply r j).trans (if_neg (fun h => hu ((ofBool_iff _).mp h))).symm

/-- Where the result's blocks lie. -/
theorem index_5 (hO : Ok m) (t : Fin (cfgM m hO).N) : ((cfgM m hO).win 5).index t = ![t.val, 0] := by
  have h : ∀ t : Fin grid0.N, cc0_transform_5 (grid0.coords t) = ![t.val, 0] := by decide +kernel
  exact h t

/-- They cover the result. -/
theorem covers_5 (hO : Ok m) : ((cfgM m hO).win 5).Covers := by
  refine Pipeline.Window.covers_of_index_surj _ rfl (fun a => (by decide : ∀ a : Fin 2, 0 < S512x1024.size a) a) fun β => ?_
  have h0 : (β (0 : Fin 2)).val < 546 := lt_of_lt_of_eq (β (0 : Fin 2)).isLt (show (279552 + 512 - 1) / 512 = 546 from rfl)
  have h1 : (β (1 : Fin 2)).val < 1 := lt_of_lt_of_eq (β (1 : Fin 2)).isLt (show (1024 + 1024 - 1) / 1024 = 1 from rfl)
  refine ⟨⟨(β (0 : Fin 2)).val, lt_of_lt_of_eq h0 N_0.symm⟩, fun a => ?_⟩
  rw [index_5]
  match a with
  | (0 : Fin 2) => rfl
  | (1 : Fin 2) => show 0 = (β (1 : Fin 2)).val; omega

/-- What the body leaves at a point is the whole result at the places that the block gives it. -/
theorem outBlk_eq (hO : Ok m) (hR : InRange m) (t : Fin (cfgM m hO).N) (y : S512x1024.Idx) (i : S279552x1024.Idx)
    (h0 : (i 0).val = t.val * 512 + (y 0).val) (h1 : (i 1).val = (y 1).val) :
    outBlk m hO c t y = out (m ((c.tc : Thread nD τ).loc main_arg0)) (m ((c.tc : Thread nD τ).loc main_arg1))
      (m ((c.tc : Thread nD τ).loc main_arg2)) (m ((c.tc : Thread nD τ).loc main_arg3)) (m ((c.tc : Thread nD τ).loc main_arg4))
      (m ((c.tc : Thread nD τ).loc main_arg5)) (m ((c.tc : Thread nD τ).loc main_arg6)) (m ((c.tc : Thread nD τ).loc main_arg7)) i := by
  idx_vars y
  have h0' : (i 0).val = t.val * 512 + y0.val := h0
  have hi : (i 0).val < 279552 := (i 0).isLt
  have hr : y0 = ⟨(i 0).val % 512, by omega⟩ := Fin.ext (by show y0.val = (i 0).val % 512; have := y0.isLt; omega)
  have hj : y1 = i 1 := Fin.ext h1.symm
  rw [outBlk_apply m c hO hR t ⟨(i 0).val / 512, by omega⟩ (by show (i 0).val / 512 = t.val; have := y0.isLt; omega) y0 y1 (i 0) h0']
  unfold out
  rw [← hr, hj]

/-- The result array after the run. -/
theorem arr_eq (hO : Ok m) (hR : InRange m) : (dats m hO 0 c).arrAt 5 (cfgM m hO).N
    = out (m ((c.tc : Thread nD τ).loc main_arg0)) (m ((c.tc : Thread nD τ).loc main_arg1))
      (m ((c.tc : Thread nD τ).loc main_arg2)) (m ((c.tc : Thread nD τ).loc main_arg3)) (m ((c.tc : Thread nD τ).loc main_arg4))
      (m ((c.tc : Thread nD τ).loc main_arg5)) (m ((c.tc : Thread nD τ).loc main_arg6)) (m ((c.tc : Thread nD τ).loc main_arg7)) := by
  refine (dats m hO 0 c).arrAt_eq_of_covers 5 _ (covers_5 m hO) fun t hf y => ?_
  have hi := index_5 m hO t
  blk_simp
  rw [after_5]
  refine outBlk_eq m c hO hR t y _ ?_ ?_
  · blk_simp [hi]
  · blk_simp [hi]

end Cert.Experts

end
-- ==== Proof.Experts.Pick.lean ====
module

public import proofs.«01_k».proof.Proof.Gen.Reference2Ideal.Read
public import Idealize.ShloMosaic.Lib.Pipeline.ValueKit
public import Idealize.ShloMosaic.Lib.Pointwise

@[expose] public section

set_option maxRecDepth 16384

noncomputable section

/-! The plain experts' weights and biases, picked out by each block's expert. -/

namespace Cert.Experts.Ref

open Cert.Reference2Ideal Cert.Reference2Ideal.Gen Cert.Reference2Ideal.Read
open Idealize.ShloMosaic Idealize.ShloMosaic.TcCoe Idealize.ShloMosaic.Tactic
open Idealize.SL Idealize.SL.Sem

/-- The expert that a word of the table picks. -/
def pick (v : BitVec 32) : Fin 32 := ⟨min v.toInt.toNat 31, by omega⟩

theorem gather_gu (x : Vec Ideal S32x1024x2048 .f32) (ix : IVec S546x1 32) (b : Fin 546) (e : Fin 1024) (f : Fin 2048) :
    Host.gather gather_S32x1024x2048_S546x1_S546x1024x2048_12_0_n_n_0_1_110242048 x ix (ix3 b e f)
    = x (ix3 (pick (ix (ix2 b 0))) e f) := by
  show x _ = x _
  congr 1
  funext a
  match a with
  | 0 =>
    have hs : gather_S32x1024x2048_S546x1_S546x1024x2048_12_0_n_n_0_1_110242048.siIdx (ix3 b e f) ⟨0, by decide⟩ = ix2 b 0 :=
      funext fun a => match a with
        | 0 => Fin.ext rfl
        | 1 => Fin.ext rfl
    exact Fin.ext (congrArg (fun k => min (ix k).toInt.toNat 31) hs)
  | 1 => exact Fin.ext (show 0 + 0 + e.val = e.val by omega)
  | 2 => exact Fin.ext (show 0 + 0 + f.val = f.val by omega)

theorem gather_biasGu (x : Vec Ideal S32x2048 .f32) (ix : IVec S546x1 32) (b : Fin 546) (f : Fin 2048) :
    Host.gather gather_S32x2048_S546x1_S546x2048_1_0_n_n_0_1_12048 x ix (ix2 b f) = x (ix2 (pick (ix (ix2 b 0))) f) := by
  show x _ = x _
  congr 1
  funext a
  match a with
  | 0 =>
    have hs : gather_S32x2048_S546x1_S546x2048_1_0_n_n_0_1_12048.siIdx (ix2 b f) ⟨0, by decide⟩ = ix2 b 0 :=
      funext fun a => match a with
        | 0 => Fin.ext rfl
        | 1 => Fin.ext rfl
    exact Fin.ext (congrArg (fun k => min (ix k).toInt.toNat 31) hs)
  | 1 => exact Fin.ext (show 0 + 0 + f.val = f.val by omega)

theorem gather_down (x : Vec Ideal S32x1024x1024 .f32) (ix : IVec S546x1 32) (b : Fin 546) (f j : Fin 1024) :
    Host.gather gather_S32x1024x1024_S546x1_S546x1024x1024_12_0_n_n_0_1_110241024 x ix (ix3 b f j)
    = x (ix3 (pick (ix (ix2 b 0))) f j) := by
  show x _ = x _
  congr 1
  funext a
  match a with
  | 0 =>
    have hs : gather_S32x1024x1024_S546x1_S546x1024x1024_12_0_n_n_0_1_110241024.siIdx (ix3 b f j) ⟨0, by decide⟩ = ix2 b 0 :=
      funext fun a => match a with
        | 0 => Fin.ext rfl
        | 1 => Fin.ext rfl
    exact Fin.ext (congrArg (fun k => min (ix k).toInt.toNat 31) hs)
  | 1 => exact Fin.ext (show 0 + 0 + f.val = f.val by omega)
  | 2 => exact Fin.ext (show 0 + 0 + j.val = j.val by omega)

theorem gather_biasDown (x : Vec Ideal S32x1024 .f32) (ix : IVec S546x1 32) (b : Fin 546) (j : Fin 1024) :
    Host.gather gather_S32x1024_S546x1_S546x1024_1_0_n_n_0_1_11024 x ix (ix2 b j) = x (ix2 (pick (ix (ix2 b 0))) j) := by
  show x _ = x _
  congr 1
  funext a
  match a with
  | 0 =>
    have hs : gather_S32x1024_S546x1_S546x1024_1_0_n_n_0_1_11024.siIdx (ix2 b j) ⟨0, by decide⟩ = ix2 b 0 :=
      funext fun a => match a with
        | 0 => Fin.ext rfl
        | 1 => Fin.ext rfl
    exact Fin.ext (congrArg (fun k => min (ix k).toInt.toNat 31) hs)
  | 1 => exact Fin.ext (show 0 + 0 + j.val = j.val by omega)

/-- A word in range needs no wrapping round from the end. -/
theorem wrap_eq (v : BitVec 32) (h : v.toNat < 32) :
    Scalar.select (IntOp.cmpi CmpIPredicate.slt v 0#32) (IntOp.addi v 32#32) v = v := by
  refine if_neg fun hc => ?_
  have h1 : v.slt 0#32 = true := by
    cases hs : v.slt 0#32
    · rw [show IntOp.cmpi CmpIPredicate.slt v 0#32 = BitVec.ofBool (v.slt 0#32) from rfl, hs] at hc
      exact absurd hc (by decide)
    · rfl
  rw [BitVec.slt_eq_decide, decide_eq_true_eq, BitVec.toInt_eq_toNat_cond] at h1
  have e0 : (0#32).toInt = 0 := by decide
  rw [e0] at h1
  split at h1 <;> omega

/-- In range, the expert picked is the one the word names. -/
theorem pick_val (v : BitVec 32) (h : v.toNat < 32) : (pick v).val = v.toNat := by
  show min v.toInt.toNat 31 = v.toNat
  rw [BitVec.toInt_eq_toNat_cond]
  split <;> omega

variable (x0 : IVec S546 32) (b : Fin 546) (h : (x0 (ix1 b)).toNat < 32)

include h in
theorem gu_apply (x4 : Vec Ideal S2x32x1024x2048 .f32) (e : Fin 1024) (f : Fin 2048) :
    val_main_v22 (F := Ideal) x0 x4 (ix3 b e f) = x4 (ix4 0 (pick (x0 (ix1 b))) e f) := by
  unfold val_main_v22
  rw [gather_gu]
  have e1 : val_main_v21 (F := Ideal) x0 (ix2 b 0) = x0 (ix1 b) := by
    pointwise [val_main_v21, val_main_v20, val_main_v19, val_main_v18, val_main_v17, val_main_v16, val_main_c, val_main_c_0]
    exact wrap_eq _ h
  rw [e1]
  generalize pick (x0 (ix1 b)) = k
  pointwise [val_main_v1, val_main_v0]
  blk_ext

include h in
theorem biasGu_apply (x5 : Vec Ideal S2x32x2048 .f32) (r : Fin 512) (f : Fin 2048) :
    val_main_v32 (F := Ideal) x0 x5 (ix3 b r f) = x5 (ix3 0 (pick (x0 (ix1 b))) f) := by
  have e1 : val_main_v29 (F := Ideal) x0 (ix2 b 0) = x0 (ix1 b) := by
    pointwise [val_main_v29, val_main_v28, val_main_v27, val_main_v26, val_main_v25, val_main_v24, val_main_c_1, val_main_c_2]
    exact wrap_eq _ h
  rw [val_main_v32_apply, val_main_v31_apply]
  refine Eq.trans (b := val_main_v30 (F := Ideal) x0 x5 (ix2 b f)) ?_ ?_
  · congr 1; blk_ext
  unfold val_main_v30
  rw [gather_biasGu, e1]
  generalize pick (x0 (ix1 b)) = k
  pointwise [val_main_v3, val_main_v2]
  blk_ext

include h in
theorem down_apply (x6 : Vec Ideal S2x32x1024x1024 .f32) (f j : Fin 1024) :
    val_main_v57 (F := Ideal) x0 x6 (ix3 b f j) = x6 (ix4 0 (pick (x0 (ix1 b))) f j) := by
  unfold val_main_v57
  rw [gather_down]
  have e1 : val_main_v56 (F := Ideal) x0 (ix2 b 0) = x0 (ix1 b) := by
    pointwise [val_main_v56, val_main_v55, val_main_v54, val_main_v53, val_main_v52, val_main_v51, val_main_c_10, val_main_c_11]
    exact wrap_eq _ h
  rw [e1]
  generalize pick (x0 (ix1 b)) = k
  pointwise [val_main_v5, val_main_v4]
  blk_ext

include h in
theorem biasDown_apply (x7 : Vec Ideal S2x32x1024 .f32) (r : Fin 512) (j : Fin 1024) :
    val_main_v67 (F := Ideal) x0 x7 (ix3 b r j) = x7 (ix3 0 (pick (x0 (ix1 b))) j) := by
  have e1 : val_main_v64 (F := Ideal) x0 (ix2 b 0) = x0 (ix1 b) := by
    pointwise [val_main_v64, val_main_v63, val_main_v62, val_main_v61, val_main_v60, val_main_v59, val_main_c_12, val_main_c_13]
    exact wrap_eq _ h
  rw [val_main_v67_apply, val_main_v66_apply]
  refine Eq.trans (b := val_main_v65 (F := Ideal) x0 x7 (ix2 b j)) ?_ ?_
  · congr 1; blk_ext
  unfold val_main_v65
  rw [gather_biasDown, e1]
  generalize pick (x0 (ix1 b)) = k
  pointwise [val_main_v7, val_main_v6]
  blk_ext

end Cert.Experts.Ref

end
-- ==== Proof.Experts.Plain.lean ====
module

public import proofs.«01_k».proof.Proof.Experts.Pick
public import proofs.«01_k».proof.Proof.Experts.Value

@[expose] public section

set_option maxRecDepth 16384

noncomputable section

/-! What the plain experts compute, entry by entry. -/

namespace Cert.Experts.Ref

open Cert.Reference2Ideal Cert.Reference2Ideal.Gen Cert.Reference2Ideal.Read
open Idealize.ShloMosaic Idealize.ShloMosaic.TcCoe Idealize.ShloMosaic.Tactic
open Idealize.SL Idealize.SL.Sem

/-- The one program multiplies by the slope and negates; the other multiplies by the negated slope. -/
theorem slope_eq : Ideal.ofBits .f32 0xBFD9DB23#32 = - Ideal.ofBits .f32 0x3FD9DB23#32 := by
  simp [Ideal.ofBits, Ideal.ieee, -EReal.coe_mul]

theorem zero_eq : Ideal.ofBits .f32 0x00000000#32 = (0 : EReal) := by
  simp [Ideal.ofBits, Ideal.ieee]

theorem one_eq : Ideal.ofBits .f32 0x3F800000#32 = (1 : EReal) := by
  simp [Ideal.ofBits, Ideal.ieee, -EReal.coe_mul]
  norm_num

/-- The sigmoid's argument. -/
theorem neg_slope (g : EReal) : -(g * Ideal.ofBits .f32 0x3FD9DB23#32) = Ideal.ofBits .f32 0xBFD9DB23#32 * g := by
  rw [slope_eq, EReal.neg_mul, mul_comm]

variable (x0 x1 : IVec S546 32) (x2 : IVec S1 32) (x3 : Vec Ideal S279552x1024 .f32) (x4 : Vec Ideal S2x32x1024x2048 .f32)
  (x5 : Vec Ideal S2x32x2048 .f32) (x6 : Vec Ideal S2x32x1024x1024 .f32) (x7 : Vec Ideal S2x32x1024 .f32)
  (b : Fin 546) (r : Fin 512) (n : Fin 279552) (hn : n.val = b.val * 512 + r.val) (h : (x0 (ix1 b)).toNat < 32)

include hn in
/-- A row of a block, zero past the block's count. -/
theorem rows_apply (e : Fin 1024) : val_main_v15 (F := Ideal) x1 x3 (ix3 b r e) = masked (x1 (ix1 b)) r.val (x3 (ix2 n e)) := by
  rw [val_main_v15_apply, val_main_v8_apply]
  have e1 : idx_main_v8 (ix3 b r e) = ix2 n e := by blk_ext
  rw [e1]
  generalize x3 (ix2 n e) = v
  pointwise [val_main_call0_v1, val_main_call0_v2, val_main_call0_v0, val_main_cst, val_main_v14, val_main_v13, val_main_v12, val_main_v11, val_main_v10, val_main_v9]
  exact congrArg (Scalar.select (IntOp.cmpi CmpIPredicate.slt (BitVec.ofNat 32 r.val) (x1 (ix1 b))) v) zero_eq

include hn h in
/-- A row times the first weights. -/
theorem lin_apply (f : Fin 2048) : val_main_v33 (F := Ideal) x0 x1 x3 x4 x5 (ix3 b r f)
    = lin (fun e => masked (x1 (ix1 b)) r.val (x3 (ix2 n e))) (fun e f => x4 (ix4 0 (pick (x0 (ix1 b))) e f))
        (fun f => x5 (ix3 0 (pick (x0 (ix1 b))) f)) f := by
  rw [val_main_v33_apply, val_main_v23_apply, biasGu_apply x0 b h]
  refine congrArg (· + _) (Finset.sum_congr rfl fun e _ => ?_)
  have e1 : lidx_main_v23 (ix3 b r f) e = ix3 b r e := by blk_ext
  have e2 : ridx_main_v23 (ix3 b r f) e = ix3 b e f := by blk_ext
  rw [e1, e2, rows_apply x1 x3 b r n hn, gu_apply x0 b h]

include hn h in
/-- The activation. -/
theorem act_apply (f : Fin 1024) : val_main_v50 (F := Ideal) x0 x1 x3 x4 x5 (ix3 b r f)
    = act (fun e => masked (x1 (ix1 b)) r.val (x3 (ix2 n e))) (fun e f => x4 (ix4 0 (pick (x0 (ix1 b))) e f))
        (fun f => x5 (ix3 0 (pick (x0 (ix1 b))) f)) f := by
  have hg : val_main_v34 (F := Ideal) x0 x1 x3 x4 x5 (ix3 b r f) = lin (fun e => masked (x1 (ix1 b)) r.val (x3 (ix2 n e)))
      (fun e f => x4 (ix4 0 (pick (x0 (ix1 b))) e f)) (fun f => x5 (ix3 0 (pick (x0 (ix1 b))) f)) ⟨f.val, by omega⟩ := by
    rw [val_main_v34_apply, ← lin_apply x0 x1 x3 x4 x5 b r n hn h]
    congr 1
    blk_ext
  have hu : val_main_v37 (F := Ideal) x0 x1 x3 x4 x5 (ix3 b r f) = lin (fun e => masked (x1 (ix1 b)) r.val (x3 (ix2 n e)))
      (fun e f => x4 (ix4 0 (pick (x0 (ix1 b))) e f)) (fun f => x5 (ix3 0 (pick (x0 (ix1 b))) f)) ⟨1024 + f.val, by omega⟩ := by
    rw [val_main_v37_apply, ← lin_apply x0 x1 x3 x4 x5 b r n hn h]
    congr 1
    blk_ext
  rw [val_main_v50_apply, val_main_v49_apply, val_main_v48_apply, val_main_v47_apply, val_main_v46_apply, val_main_v45_apply,
    val_main_v44_apply, val_main_v43_apply, val_main_v42_apply, val_main_v41_apply, val_main_v40_apply, val_main_v39_apply,
    val_main_v38_apply, val_main_call1_v4_apply, val_main_call1_v3_apply, val_main_call1_v2_apply, val_main_call1_v1_apply,
    val_main_call1_v0_apply, val_main_v36_apply, val_main_v35_apply, hg, hu,
    val_main_cst_3_apply, val_main_cst_4_apply, val_main_cst_5_apply, val_main_cst_6_apply, val_main_cst_7_apply, val_main_cst_8_apply,
    val_main_cst_9_apply]
  unfold act swiglu
  generalize lin _ _ _ (⟨f.val, _⟩ : Fin 2048) = g
  generalize lin _ _ _ (⟨1024 + f.val, _⟩ : Fin 2048) = u
  show min g (Ideal.ofBits .f32 0x40E00000#32)
      * Ideal.div (Ideal.ofBits .f32 0x3F800000#32) (Ideal.ofBits .f32 0x3F800000#32
        + Ideal.exp (-(min g (Ideal.ofBits .f32 0x40E00000#32) * Ideal.ofBits .f32 0x3FD9DB23#32)))
      * (min (Ideal.ofBits .f32 0x40E00000#32) (max (Ideal.ofBits .f32 0xC0E00000#32) u) + Ideal.ofBits .f32 0x3F800000#32) = _
  rw [neg_slope, one_eq]

include hn h in
/-- A row's feed-forward. -/
theorem ffn_apply (j : Fin 1024) : val_main_v68 (F := Ideal) x0 x1 x3 x4 x5 x6 x7 (ix3 b r j)
    = ffn (fun e => masked (x1 (ix1 b)) r.val (x3 (ix2 n e))) (fun e f => x4 (ix4 0 (pick (x0 (ix1 b))) e f))
        (fun f => x5 (ix3 0 (pick (x0 (ix1 b))) f)) (fun f j => x6 (ix4 0 (pick (x0 (ix1 b))) f j))
        (fun j => x7 (ix3 0 (pick (x0 (ix1 b))) j)) j := by
  rw [val_main_v68_apply, val_main_v58_apply, biasDown_apply x0 b h]
  refine congrArg (· + _) (Finset.sum_congr rfl fun f _ => ?_)
  have e1 : lidx_main_v58 (ix3 b r j) f = ix3 b r f := by blk_ext
  have e2 : ridx_main_v58 (ix3 b r j) f = ix3 b f j := by blk_ext
  rw [e1, e2, act_apply x0 x1 x3 x4 x5 b r n hn h, down_apply x0 b h]

include hn h in
/-- The result: zero past the blocks used. -/
theorem result_apply (j : Fin 1024) : val_main_v74 (F := Ideal) x0 x1 x2 x3 x4 x5 x6 x7 (ix3 b r j)
    = Scalar.select (IntOp.cmpi CmpIPredicate.slt (BitVec.ofNat 32 b.val) (x2 (ix1 0)))
        (ffn (fun e => masked (x1 (ix1 b)) r.val (x3 (ix2 n e))) (fun e f => x4 (ix4 0 (pick (x0 (ix1 b))) e f))
          (fun f => x5 (ix3 0 (pick (x0 (ix1 b))) f)) (fun f j => x6 (ix4 0 (pick (x0 (ix1 b))) f j))
          (fun j => x7 (ix3 0 (pick (x0 (ix1 b))) j)) j) 0 := by
  rw [val_main_v74_apply, ffn_apply x0 x1 x3 x4 x5 x6 x7 b r n hn h]
  generalize ffn _ _ _ _ _ j = v
  pointwise [val_main_call2_v1, val_main_call2_v2, val_main_call2_v0, val_main_cst_14, val_main_v73, val_main_v72, val_main_v71, val_main_v70, val_main_v69]
  exact congrArg (Scalar.select (IntOp.cmpi CmpIPredicate.slt (BitVec.ofNat 32 b.val) (x2 (ix1 0))) v) zero_eq

end Cert.Experts.Ref

end
-- ==== Proof.Experts.Equation.lean ====
module

public import proofs.«01_k».proof.Proof.Experts.Array
public import proofs.«01_k».proof.Proof.Experts.Plain

@[expose] public section

set_option maxRecDepth 16384

noncomputable section

/-! The experts' two results are equal. -/

namespace Cert.Experts

open Cert.Reference2Ideal.Read
open Idealize.ShloMosaic Idealize.ShloMosaic.TcCoe Idealize.ShloMosaic.Tactic
open Idealize.SL Idealize.SL.Sem

/-- In range the two ways of picking an expert agree. -/
theorem pick_eq (v : BitVec 32) (h : v.toNat < 32) : Ref.pick v = expertOf v :=
  Fin.ext ((Ref.pick_val v h).trans (by show v.toNat = min v.toNat 31; omega))

theorem out_eq (A0 A1 : IVec Cert.Kernel2Ideal.S546 32) (A2 : IVec Cert.Kernel2Ideal.S1 32)
    (A3 : Vec Ideal Cert.Kernel2Ideal.S279552x1024 .f32) (A4 : Vec Ideal Cert.Kernel2Ideal.S2x32x1024x2048 .f32)
    (A5 : Vec Ideal Cert.Kernel2Ideal.S2x32x2048 .f32) (A6 : Vec Ideal Cert.Kernel2Ideal.S2x32x1024x1024 .f32)
    (A7 : Vec Ideal Cert.Kernel2Ideal.S2x32x1024 .f32) (h : ∀ k : Fin 546, (A0 (ix1 k)).toNat < 32) :
    out A0 A1 A2 A3 A4 A5 A6 A7 = val_main_v76 (F := Ideal) A0 A1 A2 A3 A4 A5 A6 A7 := by
  funext y
  idx_vars y
  have hy0 := y0.isLt
  have e := Ref.result_apply A0 A1 A2 A3 A4 A5 A6 A7 ⟨y0.val / 512, by omega⟩ ⟨y0.val % 512, by omega⟩ y0
    (by show y0.val = y0.val / 512 * 512 + y0.val % 512; omega) (h _) y1
  have hi : idx_main_v75 (ix2 y0 y1) = ix3 (⟨y0.val / 512, by omega⟩ : Fin 546) (⟨y0.val % 512, by omega⟩ : Fin 512) y1 := by
    have hy1 := y1.isLt
    blk_ext
  rw [val_main_v76_apply, val_main_v75_apply, hi, e, pick_eq _ (h _)]
  rfl

end Cert.Experts

end
-- ==== Proof.OutProj.Row.lean ====
module

public import Idealize.ShloMosaic.Lib.ValueIdx
public import Idealize.ShloMosaic.PureOps.Ideal.Laws

@[expose] public section

noncomputable section

/-! One token's residual stream after the output projection, and its modulated norm. -/

namespace Cert.OutProj

open Idealize.ShloMosaic

/-- The residual stream: what came in, plus the gate times the attention's and the pooling's projections. -/
def stream (a p : Fin 512 → EReal) (wa wp : Fin 512 → Fin 1024 → EReal) (x g : Fin 1024 → EReal) (j : Fin 1024) : EReal :=
  x j + g j * (∑ k : Fin 512, a k * wa k j + ∑ k : Fin 512, p k * wp k j)

theorem stream_congr {a a' p p' : Fin 512 → EReal} {wa wa' wp wp' : Fin 512 → Fin 1024 → EReal} {x x' g g' : Fin 1024 → EReal}
    (ha : ∀ k, a k = a' k) (hp : ∀ k, p k = p' k) (hwa : ∀ k j, wa k j = wa' k j) (hwp : ∀ k j, wp k j = wp' k j)
    (hx : ∀ j, x j = x' j) (hg : ∀ j, g j = g' j) (j : Fin 1024) : stream a p wa wp x g j = stream a' p' wa' wp' x' g' j := by
  have hwa' : wa = wa' := funext fun k => funext (hwa k)
  have hwp' : wp = wp' := funext fun k => funext (hwp k)
  rw [funext ha, funext hp, hwa', hwp', funext hx, funext hg]

/-- One over the root of a row's mean square. -/
def rstd (v : Fin 1024 → EReal) : EReal :=
  Ideal.rsqrt (Ideal.div (∑ k : Fin 1024, v k * v k) (Ideal.ofBits .f32 0x44800000#32) + Ideal.ofBits .f32 0x358637BD#32)

/-- The modulated norm of a row: the weight is scaled before it meets the row. -/
def normed (v w sc sh : Fin 1024 → EReal) (j : Fin 1024) : EReal :=
  v j * rstd v * (w j * (1 + sc j)) + sh j

theorem normed_congr {v v' w w' sc sc' sh sh' : Fin 1024 → EReal} (hv : ∀ j, v j = v' j) (hw : ∀ j, w j = w' j)
    (hsc : ∀ j, sc j = sc' j) (hsh : ∀ j, sh j = sh' j) (j : Fin 1024) : normed v w sc sh j = normed v' w' sc' sh' j := by
  rw [funext hv, funext hw, funext hsc, funext hsh]

end Cert.OutProj

end
-- ==== Proof.OutProj.Body.lean ====
module

public import proofs.«01_k».proof.Proof.OutProj.Row
public import proofs.«01_k».proof.Proof.Gen.Kernel3Ideal.Frame
public import Idealize.ShloMosaic.Lib.Pipeline.ValueKit
public import Idealize.ShloMosaic.Lib.Claim

@[expose] public section

set_option maxRecDepth 16384

noncomputable section

/-! What a grid point of the output projection stores, entry by entry. -/

namespace Cert.OutProj

open Cert.Kernel3Ideal Cert.Kernel3Ideal.Gen
open Idealize.ShloMosaic Idealize.ShloMosaic.TcCoe Idealize.ShloMosaic.Tactic
open Idealize.SL Idealize.SL.Sem

section Halves

variable (a p : Vec Ideal S256x512 .bf16) (wa wp : Vec Ideal S512x1024 .bf16) (x : Vec Ideal S256x1024 .f32)
  (g sh sc : Vec Ideal S1x1x1024 .f32) (w : Vec Ideal S1x1024 .f32)

/-- The first half of the rows. -/
theorem first_apply (i : Fin 256) (j : Fin 1024) : k0_pay4 a wa p wp x g (ix2 i j)
    = stream (fun k => a (ix2 i k)) (fun k => p (ix2 i k)) (fun k j => wa (ix2 k j)) (fun k j => wp (ix2 k j))
        (fun j => x (ix2 i j)) (fun j => g (ix3 0 0 j)) j := by
  pointwise [k0_pay4]
  rfl

/-- The second half of the rows. -/
theorem second_apply (i : Fin 256) (j : Fin 1024) : k0_pay6 (k0_pay3 a wa p wp) (k0_pay5 x) g (ix2 i j)
    = stream (fun k => a (ix2 i k)) (fun k => p (ix2 i k)) (fun k j => wa (ix2 k j)) (fun k j => wp (ix2 k j))
        (fun j => x (ix2 i j)) (fun j => g (ix3 0 0 j)) j := by
  pointwise [k0_pay6, k0_pay3, k0_pay5]
  rfl

variable (v : FVec Ideal S256x1024 .f32)

/-- The first half's norm. -/
theorem firstNorm_apply (i : Fin 256) (j : Fin 1024) : k0_pay8 v w sc sh (ix2 i j)
    = normed (fun j => v (ix2 i j)) (fun j => w (ix2 0 j)) (fun j => sc (ix3 0 0 j)) (fun j => sh (ix3 0 0 j)) j := by
  pointwise [k0_pay8, k0_pay7]
  rfl

variable (u t : FVec Ideal S256x1024 .f32)

/-- The second half's norm. -/
theorem secondNorm_apply (i : Fin 256) (j : Fin 1024) :
    k0_pay10 (k0_pay6 u t g) (k0_pay7 w sc) (k0_pay9 u t g) (Scalar.ofBits .f32 0x44800000#32) sh (ix2 i j)
    = normed (fun j => k0_pay6 u t g (ix2 i j)) (fun j => w (ix2 0 j)) (fun j => sc (ix3 0 0 j)) (fun j => sh (ix3 0 0 j)) j := by
  pointwise [k0_pay10, k0_pay7, k0_pay9, k0_pay6]
  rfl

end Halves

section Block

variable (x0 x1 : Vec Ideal S512x512 .bf16) (x2 : Vec Ideal S512x1024 .f32) (x3 x4 x5 : Vec Ideal S1x1x1024 .f32)
  (x6 : Vec Ideal S1x1024 .f32) (x7 x8 : Vec Ideal S512x1024 .bf16) (x9 : Vec Ideal S32x1024 .bf16) (x10 : Vec Ideal S32x1 .f32)
  (x11 : Vec Ideal S512x512 .bf16) (x12 : Vec Ideal S256x256 .bf16)

/-- The residual stream of a row of the block. -/
def blockStream (i : Fin 512) (j : Fin 1024) : EReal :=
  stream (fun k => x0 (ix2 i k)) (fun k => x1 (ix2 i k)) (fun k j => x7 (ix2 k j)) (fun k j => x8 (ix2 k j))
    (fun j => x2 (ix2 i j)) (fun j => x3 (ix3 0 0 j)) j

/-- The norm of a row of the block. -/
def blockNormed (i : Fin 512) (j : Fin 1024) : EReal :=
  normed (blockStream x0 x1 x2 x3 x7 x8 i) (fun j => x6 (ix2 0 j)) (fun j => x5 (ix3 0 0 j)) (fun j => x4 (ix3 0 0 j)) j

/-- A read of the whole of a window reads the window. -/
theorem ld_w (x : Vec Ideal S512x1024 .bf16) : View.ld (Val := Elt Ideal) (e' := .bf16) x r0_1 = x := View.ld_unit_lit _ _ (by decide)

theorem ld_row3 (x : Vec Ideal S1x1x1024 .f32) : View.ld (Val := Elt Ideal) (e' := .f32) x r0_4 = x := View.ld_unit_lit _ _ (by decide)

theorem ld_row2 (x : Vec Ideal S1x1024 .f32) : View.ld (Val := Elt Ideal) (e' := .f32) x r0_6 = x := View.ld_unit_lit _ _ (by decide)

/-- Where the first and the last 256 rows lie. -/
theorem emb_lo (i : Fin 256) (k : Fin 512) : r0_0.emb (ix2 i k) = (ix2 (⟨i.val, by omega⟩ : Fin 512) k : S512x512.Idx) := by
  funext a
  refine Fin.ext ((ValueKit.rect_emb_unit_val _ _ _ _ _).trans ?_)
  fin_cases a <;> exact Nat.zero_add _

theorem emb_hi (i : Fin 256) (k : Fin 512) : r0_2.emb (ix2 i k) = (ix2 (⟨256 + i.val, by omega⟩ : Fin 512) k : S512x512.Idx) := by
  funext a
  refine Fin.ext ((ValueKit.rect_emb_unit_val _ _ _ _ _).trans ?_)
  fin_cases a
  · rfl
  · exact Nat.zero_add _

theorem embx_lo (i : Fin 256) (k : Fin 1024) : r0_3.emb (ix2 i k) = (ix2 (⟨i.val, by omega⟩ : Fin 512) k : S512x1024.Idx) := by
  funext a
  refine Fin.ext ((ValueKit.rect_emb_unit_val _ _ _ _ _).trans ?_)
  fin_cases a <;> exact Nat.zero_add _

theorem embx_hi (i : Fin 256) (k : Fin 1024) : r0_5.emb (ix2 i k) = (ix2 (⟨256 + i.val, by omega⟩ : Fin 512) k : S512x1024.Idx) := by
  funext a
  refine Fin.ext ((ValueKit.rect_emb_unit_val _ _ _ _ _).trans ?_)
  fin_cases a
  · rfl
  · exact Nat.zero_add _

/-- The reads of those rows. -/
theorem ld_lo (x : Vec Ideal S512x512 .bf16) (i : Fin 256) (k : Fin 512) :
    View.ld (Val := Elt Ideal) (e' := .bf16) x r0_0 (ix2 i k) = x (ix2 ⟨i.val, by omega⟩ k) := congrArg x (emb_lo i k)

theorem ld_hi (x : Vec Ideal S512x512 .bf16) (i : Fin 256) (k : Fin 512) :
    View.ld (Val := Elt Ideal) (e' := .bf16) x r0_2 (ix2 i k) = x (ix2 ⟨256 + i.val, by omega⟩ k) := congrArg x (emb_hi i k)

theorem ldx_lo (x : Vec Ideal S512x1024 .f32) (i : Fin 256) (k : Fin 1024) :
    View.ld (Val := Elt Ideal) (e' := .f32) x r0_3 (ix2 i k) = x (ix2 ⟨i.val, by omega⟩ k) := congrArg x (embx_lo i k)

theorem ldx_hi (x : Vec Ideal S512x1024 .f32) (i : Fin 256) (k : Fin 1024) :
    View.ld (Val := Elt Ideal) (e' := .f32) x r0_5 (ix2 i k) = x (ix2 ⟨256 + i.val, by omega⟩ k) := congrArg x (embx_hi i k)

/-- What the first store writes of the residual stream. -/
theorem lo_apply (i : Fin 256) (j : Fin 1024) : k0_pay51 x0 x1 x2 x3 x4 x5 x6 x7 x8 x9 x10 x11 x12 (ix2 i j)
    = blockStream x0 x1 x2 x3 x7 x8 ⟨i.val, by omega⟩ j := by
  unfold k0_pay51
  rw [first_apply, ld_w, ld_w, ld_row3]
  exact stream_congr (ld_lo x0 i) (ld_lo x1 i) (fun _ _ => rfl) (fun _ _ => rfl) (ldx_lo x2 i) (fun _ => rfl) j

/-- What the second store writes of it. -/
theorem hi_apply (i : Fin 256) (j : Fin 1024) :
    k0_pay6 (k0_pay50 x0 x1 x2 x3 x4 x5 x6 x7 x8 x9 x10 x11 x12) (k0_pay52 x0 x1 x2 x3 x4 x5 x6 x7 x8 x9 x10 x11 x12) (View.ld x3 r0_4) (ix2 i j)
    = blockStream x0 x1 x2 x3 x7 x8 ⟨256 + i.val, by omega⟩ j := by
  unfold k0_pay50 k0_pay52
  rw [second_apply, ld_w, ld_w, ld_row3]
  exact stream_congr (ld_hi x0 i) (ld_hi x1 i) (fun _ _ => rfl) (fun _ _ => rfl) (ldx_hi x2 i) (fun _ => rfl) j

/-- The stream's block after the body. -/
theorem out13_eq : out0_13 x0 x1 x2 x3 x4 x5 x6 x7 x8 x9 x10 x11 x12 = fun y => blockStream x0 x1 x2 x3 x7 x8 (y 0) (y 1) := by
  unfold out0_13
  funext y
  refine View.canon_apply_of_pieces (Val := Elt Ideal) (fun y : S512x1024.Idx => blockStream x0 x1 x2 x3 x7 x8 (y 0) (y 1)) _ ?_ _ (cover0_13 _ _ y)
  simp only [List.forall_mem_cons, List.not_mem_nil, forall_false, implies_true, and_true]
  refine ⟨fun z => ?_, fun z => ?_⟩
  · idx_vars z
    exact (hi_apply x0 x1 x2 x3 x4 x5 x6 x7 x8 x9 x10 x11 x12 z0 z1).trans
      (congrArg (fun y : S512x1024.Idx => blockStream x0 x1 x2 x3 x7 x8 (y 0) (y 1)) (embx_hi z0 z1).symm)
  · idx_vars z
    exact (lo_apply x0 x1 x2 x3 x4 x5 x6 x7 x8 x9 x10 x11 x12 z0 z1).trans
      (congrArg (fun y : S512x1024.Idx => blockStream x0 x1 x2 x3 x7 x8 (y 0) (y 1)) (embx_lo z0 z1).symm)

/-- The norm's block after the body. -/
theorem out14_eq : out0_14 x0 x1 x2 x3 x4 x5 x6 x7 x8 x9 x10 x11 x12 = fun y => blockNormed x0 x1 x2 x3 x4 x5 x6 x7 x8 (y 0) (y 1) := by
  unfold out0_14 k0_pay53 k0_pay54 k0_pay56
  funext y
  refine View.canon_apply_of_pieces (Val := Elt Ideal) (fun y : S512x1024.Idx => blockNormed x0 x1 x2 x3 x4 x5 x6 x7 x8 (y 0) (y 1)) _ ?_ _ (cover0_14 _ _ y)
  simp only [List.forall_mem_cons, List.not_mem_nil, forall_false, implies_true, and_true]
  refine ⟨fun z => ?_, fun z => ?_⟩
  · idx_vars z
    rw [secondNorm_apply, ld_row2, ld_row3 x5, ld_row3 x4]
    exact (congrArg (fun v => normed v (fun j => x6 (ix2 0 j)) (fun j => x5 (ix3 0 0 j)) (fun j => x4 (ix3 0 0 j)) z1)
      (funext fun j => hi_apply x0 x1 x2 x3 x4 x5 x6 x7 x8 x9 x10 x11 x12 z0 j)).trans
      (congrArg (fun y : S512x1024.Idx => blockNormed x0 x1 x2 x3 x4 x5 x6 x7 x8 (y 0) (y 1)) (embx_hi z0 z1).symm)
  · idx_vars z
    rw [firstNorm_apply, ld_row2, ld_row3 x5, ld_row3 x4]
    exact (congrArg (fun v => normed v (fun j => x6 (ix2 0 j)) (fun j => x5 (ix3 0 0 j)) (fun j => x4 (ix3 0 0 j)) z1)
      (funext fun j => lo_apply x0 x1 x2 x3 x4 x5 x6 x7 x8 x9 x10 x11 x12 z0 j)).trans
      (congrArg (fun y : S512x1024.Idx => blockNormed x0 x1 x2 x3 x4 x5 x6 x7 x8 (y 0) (y 1)) (embx_lo z0 z1).symm)

end Block

end Cert.OutProj

end
-- ==== Proof.OutProj.Array.lean ====
module

public import proofs.«01_k».proof.Proof.OutProj.Body
public import proofs.«01_k».proof.Proof.Gen.Kernel3Ideal.Value

@[expose] public section

set_option maxRecDepth 16384

noncomputable section

/-! The residual stream and its norm after the run, as functions of the argument arrays. -/

namespace Cert.OutProj

open Cert.Kernel3Ideal Cert.Kernel3Ideal.Gen
open Idealize.ShloMosaic Idealize.ShloMosaic.TcCoe Idealize.ShloMosaic.Tactic
open Idealize.SL Idealize.SL.Sem

/-- Token `n` of all, in its sequence. -/
def seq (n : Fin 65536) : Fin 8 := ⟨n.val / 8192, by omega⟩

def pos (n : Fin 65536) : Fin 8192 := ⟨n.val % 8192, by omega⟩

variable (m : (ℓ : Loc nD τ sig) → Buf (Elt Ideal) ℓ) (c : Dev nD)

/-- The buffers before the last stretch of host operations. -/
def W (b : DevRef τ sig) : Buf (Elt Ideal) (c, b) :=
  StableHlo.after (List.flatten [hostOps0, hostOps0_1, hostOps0_2, hostOps0_3, hostOps0_4, hostOps0_5, hostOps0_6, hostOps0_7]) (fun b => m (c, b)) b

/-- The call's buffers are what the last stretch makes of those. -/
theorem V_eq (b : Ref sig .tc) : V m c b = StableHlo.after hostOps0_8 (W m c) b := by
  show StableHlo.after (List.flatten ([hostOps0, hostOps0_1, hostOps0_2, hostOps0_3, hostOps0_4, hostOps0_5, hostOps0_6, hostOps0_7] ++ [hostOps0_8])) _ _ = _
  rw [List.flatten_append, StableHlo.after_append, List.flatten_singleton]
  rfl

/-- The earlier stretches write no argument. -/
theorem W_arg0 : W m c (Proc.devRef .tc main_arg0) = m ((c.tc : Thread nD τ).loc main_arg0) := by
  rw [← V_main_arg0 m c, V_eq]
  entry_read
  rfl

theorem W_arg1 : W m c (Proc.devRef .tc main_arg1) = m ((c.tc : Thread nD τ).loc main_arg1) := by
  rw [← V_main_arg1 m c, V_eq]
  entry_read
  rfl

theorem W_arg2 : W m c (Proc.devRef .tc main_arg2) = m ((c.tc : Thread nD τ).loc main_arg2) := by
  rw [← V_main_arg2 m c, V_eq]
  entry_read
  rfl

theorem W_arg6 : W m c (Proc.devRef .tc main_arg6) = m ((c.tc : Thread nD τ).loc main_arg6) := by
  rw [← V_main_arg6 m c, V_eq]
  entry_read
  rfl

theorem W_arg7 : W m c (Proc.devRef .tc main_arg7) = m ((c.tc : Thread nD τ).loc main_arg7) := by
  rw [← V_main_arg7 m c, V_eq]
  entry_read
  rfl

/-- The attention's rows as the call reads them. -/
theorem V_attn (n : Fin 65536) (k : Fin 512) :
    (V m c main_v16 : Vec Ideal S65536x512 .bf16) (ix2 n k) = m ((c.tc : Thread nD τ).loc main_arg0) (ix3 (seq n) (pos n) k) := by
  rw [V_eq, ← W_arg0 m c]
  entry_read
  pointwise
  rfl

/-- The pooling's rows. -/
theorem V_pool (n : Fin 65536) (k : Fin 512) :
    (V m c main_v18 : Vec Ideal S65536x512 .bf16) (ix2 n k) = m ((c.tc : Thread nD τ).loc main_arg1) (ix3 (seq n) (pos n) k) := by
  rw [V_eq, ← W_arg1 m c]
  entry_read
  pointwise
  rfl

/-- The residual stream's rows. -/
theorem V_x (n : Fin 65536) (j : Fin 1024) :
    (V m c main_v19 : Vec Ideal S65536x1024 .f32) (ix2 n j) = m ((c.tc : Thread nD τ).loc main_arg2) (ix3 (seq n) (pos n) j) := by
  rw [V_eq, ← W_arg2 m c]
  entry_read
  pointwise
  rfl

/-- The norm's weight. -/
theorem V_w (j : Fin 1024) :
    (V m c main_v20 : Vec Ideal S1x1024 .f32) (ix2 0 j) = m ((c.tc : Thread nD τ).loc main_arg6) (ix1 j) := by
  rw [V_eq, ← W_arg6 m c]
  entry_read
  pointwise
  blk_ext

/-- The attention's half of the weights. -/
theorem V_wa (k : Fin 512) (j : Fin 1024) :
    (V m c main_v21 : Vec Ideal S512x1024 .bf16) (ix2 k j) = m ((c.tc : Thread nD τ).loc main_arg7) (ix2 ⟨k.val, by omega⟩ j) := by
  rw [V_eq, ← W_arg7 m c]
  entry_read
  pointwise
  blk_ext

/-- The pooling's half. -/
theorem V_wp (k : Fin 512) (j : Fin 1024) :
    (V m c main_v22 : Vec Ideal S512x1024 .bf16) (ix2 k j) = m ((c.tc : Thread nD τ).loc main_arg7) (ix2 ⟨512 + k.val, by omega⟩ j) := by
  rw [V_eq, ← W_arg7 m c]
  entry_read
  pointwise
  blk_ext

/-- Where the blocks lie. -/
theorem idx : ∀ t : Fin grid0.N, win0_0.index t = ![t.val, 0] ∧ win0_1.index t = ![t.val, 0] ∧ win0_2.index t = ![t.val, 0]
    ∧ win0_3.index t = ![t.val / 16, 0, 0] ∧ win0_4.index t = ![t.val / 16, 0, 0] ∧ win0_5.index t = ![t.val / 16, 0, 0]
    ∧ win0_6.index t = ![0, 0] ∧ win0_7.index t = ![0, 0] ∧ win0_8.index t = ![0, 0]
    ∧ win0_13.index t = ![t.val, 0] ∧ win0_14.index t = ![t.val, 0] := by
  decide +kernel

variable (t : Fin grid0.N)

theorem blk_attn (i : Fin 512) (k : Fin 512) (h : t.val * 512 + i.val < 65536) :
    (iblk m c 0 t : Vec Ideal S512x512 .bf16) (ix2 i k) = V m c main_v16 (ix2 ⟨t.val * 512 + i.val, h⟩ k) := by
  blk_ext [iblk, idx t]

theorem blk_pool (i : Fin 512) (k : Fin 512) (h : t.val * 512 + i.val < 65536) :
    (iblk m c 1 t : Vec Ideal S512x512 .bf16) (ix2 i k) = V m c main_v18 (ix2 ⟨t.val * 512 + i.val, h⟩ k) := by
  blk_ext [iblk, idx t]

theorem blk_x (i : Fin 512) (j : Fin 1024) (h : t.val * 512 + i.val < 65536) :
    (iblk m c 2 t : Vec Ideal S512x1024 .f32) (ix2 i j) = V m c main_v19 (ix2 ⟨t.val * 512 + i.val, h⟩ j) := by
  blk_ext [iblk, idx t]

theorem blk_gate (j : Fin 1024) (h : t.val / 16 < 8) :
    (iblk m c 3 t : Vec Ideal S1x1x1024 .f32) (ix3 0 0 j) = m ((c.tc : Thread nD τ).loc main_arg3) (ix3 ⟨t.val / 16, h⟩ 0 j) := by
  blk_ext [iblk, V, idx t]

theorem blk_shift (j : Fin 1024) (h : t.val / 16 < 8) :
    (iblk m c 4 t : Vec Ideal S1x1x1024 .f32) (ix3 0 0 j) = m ((c.tc : Thread nD τ).loc main_arg4) (ix3 ⟨t.val / 16, h⟩ 0 j) := by
  blk_ext [iblk, V, idx t]

theorem blk_scale (j : Fin 1024) (h : t.val / 16 < 8) :
    (iblk m c 5 t : Vec Ideal S1x1x1024 .f32) (ix3 0 0 j) = m ((c.tc : Thread nD τ).loc main_arg5) (ix3 ⟨t.val / 16, h⟩ 0 j) := by
  blk_ext [iblk, V, idx t]

theorem blk_w (j : Fin 1024) : (iblk m c 6 t : Vec Ideal S1x1024 .f32) (ix2 0 j) = V m c main_v20 (ix2 0 j) := by
  blk_ext [iblk, idx t]

theorem blk_wa (k : Fin 512) (j : Fin 1024) : (iblk m c 7 t : Vec Ideal S512x1024 .bf16) (ix2 k j) = V m c main_v21 (ix2 k j) := by
  blk_ext [iblk, idx t]

theorem blk_wp (k : Fin 512) (j : Fin 1024) : (iblk m c 8 t : Vec Ideal S512x1024 .bf16) (ix2 k j) = V m c main_v22 (ix2 k j) := by
  blk_ext [iblk, idx t]

/-- The residual stream, of the argument arrays. -/
def streamOf (A0 A1 : Vec Ideal S8x8192x512 .f32) (A2 : Vec Ideal S8x8192x1024 .f32) (A3 : Vec Ideal S8x1x1024 .f32)
    (A7 : Vec Ideal S1024x1024 .f32) (n : Fin 65536) (j : Fin 1024) : EReal :=
  stream (fun k => A0 (ix3 (seq n) (pos n) k)) (fun k => A1 (ix3 (seq n) (pos n) k))
    (fun k j => A7 (ix2 (⟨k.val, by omega⟩ : Fin 1024) j)) (fun k j => A7 (ix2 (⟨512 + k.val, by omega⟩ : Fin 1024) j))
    (fun j => A2 (ix3 (seq n) (pos n) j)) (fun j => A3 (ix3 (seq n) 0 j)) j

/-- Its norm. -/
def normedOf (A0 A1 : Vec Ideal S8x8192x512 .f32) (A2 : Vec Ideal S8x8192x1024 .f32) (A3 A4 A5 : Vec Ideal S8x1x1024 .f32)
    (A6 : Vec Ideal S1024 .f32) (A7 : Vec Ideal S1024x1024 .f32) (n : Fin 65536) (j : Fin 1024) : EReal :=
  normed (streamOf A0 A1 A2 A3 A7 n) (fun j => A6 (ix1 j)) (fun j => A5 (ix3 (seq n) 0 j)) (fun j => A4 (ix3 (seq n) 0 j)) j

/-- A grid point's row of the stream is the whole's at the place that the block gives it. -/
theorem blockStream_eq (i : Fin 512) (j : Fin 1024) (n : Fin 65536) (hn : n.val = t.val * 512 + i.val) :
    blockStream (iblk m c 0 t) (iblk m c 1 t) (iblk m c 2 t) (iblk m c 3 t) (iblk m c 7 t) (iblk m c 8 t) i j
    = streamOf (m ((c.tc : Thread nD τ).loc main_arg0)) (m ((c.tc : Thread nD τ).loc main_arg1)) (m ((c.tc : Thread nD τ).loc main_arg2))
        (m ((c.tc : Thread nD τ).loc main_arg3)) (m ((c.tc : Thread nD τ).loc main_arg7)) n j := by
  have ht : t.val < 128 := t.isLt
  have hs : (⟨t.val / 16, by omega⟩ : Fin 8) = seq n := Fin.ext (by show t.val / 16 = n.val / 8192; omega)
  have hb : t.val * 512 + i.val < 65536 := by omega
  obtain rfl : n = ⟨t.val * 512 + i.val, hb⟩ := Fin.ext hn
  unfold blockStream streamOf
  exact stream_congr (fun k => (blk_attn m c t i k _).trans (V_attn m c _ k)) (fun k => (blk_pool m c t i k _).trans (V_pool m c _ k))
    (fun k j => (blk_wa m c t k j).trans (V_wa m c k j)) (fun k j => (blk_wp m c t k j).trans (V_wp m c k j))
    (fun j => (blk_x m c t i j _).trans (V_x m c _ j)) (fun j => by rw [blk_gate m c t j (by omega), hs]) j

/-- And of the norm. -/
theorem blockNormed_eq (i : Fin 512) (j : Fin 1024) (n : Fin 65536) (hn : n.val = t.val * 512 + i.val) :
    blockNormed (iblk m c 0 t) (iblk m c 1 t) (iblk m c 2 t) (iblk m c 3 t) (iblk m c 4 t) (iblk m c 5 t) (iblk m c 6 t)
      (iblk m c 7 t) (iblk m c 8 t) i j
    = normedOf (m ((c.tc : Thread nD τ).loc main_arg0)) (m ((c.tc : Thread nD τ).loc main_arg1)) (m ((c.tc : Thread nD τ).loc main_arg2))
        (m ((c.tc : Thread nD τ).loc main_arg3)) (m ((c.tc : Thread nD τ).loc main_arg4)) (m ((c.tc : Thread nD τ).loc main_arg5))
        (m ((c.tc : Thread nD τ).loc main_arg6)) (m ((c.tc : Thread nD τ).loc main_arg7)) n j := by
  have ht : t.val < 128 := t.isLt
  have hs : (⟨t.val / 16, by omega⟩ : Fin 8) = seq n := Fin.ext (by show t.val / 16 = n.val / 8192; omega)
  unfold blockNormed normedOf
  exact normed_congr (fun j => blockStream_eq m c t i j n hn) (fun j => (blk_w m c t j).trans (V_w m c j))
    (fun j => by rw [blk_scale m c t j (by omega), hs]) (fun j => by rw [blk_shift m c t j (by omega), hs]) j

/-- The residual stream after the run. -/
theorem arr13_eq : (dats m 0 c).arrAt 13 cfg0.N = (fun y : S65536x1024.Idx =>
    streamOf (m ((c.tc : Thread nD τ).loc main_arg0)) (m ((c.tc : Thread nD τ).loc main_arg1)) (m ((c.tc : Thread nD τ).loc main_arg2))
      (m ((c.tc : Thread nD τ).loc main_arg3)) (m ((c.tc : Thread nD τ).loc main_arg7)) (y 0) (y 1) : Vec Ideal S65536x1024 .f32) := by
  refine (dats m 0 c).arrAt_eq_of_covers 13 _ (by decide +kernel) fun t hf y => ?_
  blk_simp
  rw [after0_13, out13_eq]
  refine (blockStream_eq m c t (y 0) (y 1) (((cfg0.win 13).blk t).view.emb y 0) ?_).trans ?_
  · blk_simp [idx t]
  · refine congrArg (streamOf _ _ _ _ _ _) (Fin.ext ?_)
    blk_simp [idx t]

/-- Its norm after the run. -/
theorem arr14_eq : (dats m 0 c).arrAt 14 cfg0.N = (fun y : S65536x1024.Idx =>
    normedOf (m ((c.tc : Thread nD τ).loc main_arg0)) (m ((c.tc : Thread nD τ).loc main_arg1)) (m ((c.tc : Thread nD τ).loc main_arg2))
      (m ((c.tc : Thread nD τ).loc main_arg3)) (m ((c.tc : Thread nD τ).loc main_arg4)) (m ((c.tc : Thread nD τ).loc main_arg5))
      (m ((c.tc : Thread nD τ).loc main_arg6)) (m ((c.tc : Thread nD τ).loc main_arg7)) (y 0) (y 1) : Vec Ideal S65536x1024 .bf16) := by
  refine (dats m 0 c).arrAt_eq_of_covers 14 _ (by decide +kernel) fun t hf y => ?_
  blk_simp
  rw [after0_14, out14_eq]
  refine (blockNormed_eq m c t (y 0) (y 1) (((cfg0.win 14).blk t).view.emb y 0) ?_).trans ?_
  · blk_simp [idx t]
  · refine congrArg (normedOf _ _ _ _ _ _ _ _ _) (Fin.ext ?_)
    blk_simp [idx t]

end Cert.OutProj

end
-- ==== Proof.OutProj.Equation.lean ====
module

public import proofs.«01_k».proof.Proof.OutProj.Array
public import proofs.«01_k».proof.Proof.Gen.Reference3Ideal.Read

@[expose] public section

set_option maxRecDepth 16384

noncomputable section

/-! What the plain program computes, entry by entry, and that it is what the kernel computes. -/

namespace Cert.OutProj.Ref

open Cert.Reference3Ideal Cert.Reference3Ideal.Gen Cert.Reference3Ideal.Read
open Idealize.ShloMosaic Idealize.ShloMosaic.TcCoe Idealize.ShloMosaic.Tactic
open Idealize.SL Idealize.SL.Sem

theorem zero_eq : Ideal.ofBits .f32 0x00000000#32 = (0 : EReal) := by
  simp [Ideal.ofBits, Ideal.ieee]

theorem one_eq : Ideal.ofBits .f32 0x3F800000#32 = (1 : EReal) := by
  simp [Ideal.ofBits, Ideal.ieee, -EReal.coe_mul]
  norm_num

variable (x0 x1 : Vec Ideal S8x8192x512 .f32) (x2 : Vec Ideal S8x8192x1024 .f32) (x3 x4 x5 : Vec Ideal S8x1x1024 .f32)
  (x6 : Vec Ideal S1024 .f32) (x7 : Vec Ideal S1024x1024 .f32) (b : Fin 8) (s : Fin 8192)

/-- The joined rows: the attention's columns come first. -/
theorem joined_lo (k : Fin 512) : val_main_v0 (F := Ideal) x0 x1 (ix3 b s (Fin.castAdd 512 k : Fin (512 + 512))) = x0 (ix3 b s k) := by
  pointwise [val_main_v0]
  exact dif_pos k.isLt

/-- And the pooling's after them. -/
theorem joined_hi (k : Fin 512) : val_main_v0 (F := Ideal) x0 x1 (ix3 b s (Fin.natAdd 512 k : Fin (512 + 512))) = x1 (ix3 b s k) := by
  pointwise [val_main_v0]
  refine (dif_neg (Nat.not_lt.mpr (Nat.le_add_right 512 k.val))).trans (congrArg (fun k => x1 (ix3 b s k)) (Fin.ext ?_))
  exact Nat.add_sub_cancel_left 512 k.val

/-- One product over both halves is the sum of the two. -/
theorem mixed_apply (j : Fin 1024) : val_main_v1 (F := Ideal) x0 x1 x7 (ix3 b s j)
    = ∑ k : Fin 512, x0 (ix3 b s k) * x7 (ix2 (⟨k.val, by omega⟩ : Fin 1024) j)
      + ∑ k : Fin 512, x1 (ix3 b s k) * x7 (ix2 (⟨512 + k.val, by omega⟩ : Fin 1024) j) := by
  rw [val_main_v1_apply]
  refine (Fin.sum_univ_add (a := 512) (b := 512) _).trans (congrArg₂ (· + ·) (Finset.sum_congr rfl fun k _ => ?_) (Finset.sum_congr rfl fun k _ => ?_))
  · have e1 : lidx_main_v1 (ix3 b s j) (Fin.castAdd 512 k : Fin (512 + 512)) = ix3 b s (Fin.castAdd 512 k : Fin (512 + 512)) := by blk_ext
    have e2 : ridx_main_v1 (ix3 b s j) (Fin.castAdd 512 k : Fin (512 + 512)) = ix2 (⟨k.val, by omega⟩ : Fin 1024) j := by
      blk_ext
      rfl
    rw [e1, e2, joined_lo]
  · have e1 : lidx_main_v1 (ix3 b s j) (Fin.natAdd 512 k : Fin (512 + 512)) = ix3 b s (Fin.natAdd 512 k : Fin (512 + 512)) := by blk_ext
    have e2 : ridx_main_v1 (ix3 b s j) (Fin.natAdd 512 k : Fin (512 + 512)) = ix2 (⟨512 + k.val, by omega⟩ : Fin 1024) j := by
      blk_ext
      rfl
    rw [e1, e2, joined_hi]

/-- The residual stream. -/
theorem stream_apply (j : Fin 1024) : val_main_v4 (F := Ideal) x0 x1 x2 x3 x7 (ix3 b s j)
    = stream (fun k => x0 (ix3 b s k)) (fun k => x1 (ix3 b s k))
        (fun k j => x7 (ix2 (⟨k.val, by omega⟩ : Fin 1024) j)) (fun k j => x7 (ix2 (⟨512 + k.val, by omega⟩ : Fin 1024) j))
        (fun j => x2 (ix3 b s j)) (fun j => x3 (ix3 b 0 j)) j := by
  rw [val_main_v4_apply, val_main_v3_apply, mixed_apply, val_main_v2_apply]
  have e : idx_main_v2 (ix3 b s j) = ix3 b 0 j := by blk_ext
  rw [e]
  rfl

/-- One over the root of the mean square. -/
theorem rstd_apply (i : S8x8192x1.Idx) (hb : i 0 = b) (hs : i 1 = s) : val_main_v12 (F := Ideal) x0 x1 x2 x3 x7 i
    = rstd (fun j => val_main_v4 (F := Ideal) x0 x1 x2 x3 x7 (ix3 b s j)) := by
  rw [val_main_v12_apply, val_main_v11_apply, val_main_v10_apply, val_main_v9_apply, val_main_v8_apply, val_main_v7_apply, val_main_v6_apply,
    val_main_cst_apply, val_main_cst_0_apply, val_main_cst_1_apply]
  have e : ∀ k, idx_main_v6 (idx_main_v7 i) k = ix3 b s k := fun k => by subst hb hs; blk_ext
  simp only [e, val_main_v5_apply]
  unfold rstd
  refine congrArg (fun z => Ideal.rsqrt (Ideal.div z _ + _)) ?_
  exact (congrArg (· + _) zero_eq).trans (zero_add _)

/-- The norm, its weight scaled before or after it meets the row. -/
theorem normed_apply (j : Fin 1024) : val_main_v23 (F := Ideal) x0 x1 x2 x3 x4 x5 x6 x7 (ix3 b s j)
    = normed (fun j => val_main_v4 (F := Ideal) x0 x1 x2 x3 x7 (ix3 b s j)) (fun j => x6 (ix1 j))
        (fun j => x5 (ix3 b 0 j)) (fun j => x4 (ix3 b 0 j)) j := by
  rw [val_main_v23_apply, val_main_v22_apply, val_main_v21_apply, val_main_v20_apply, val_main_v19_apply, val_main_v18_apply,
    val_main_v17_apply, val_main_v16_apply, val_main_v15_apply, val_main_v14_apply, val_main_v13_apply, val_main_cst_2_apply,
    rstd_apply x0 x1 x2 x3 x7 b s _ rfl rfl]
  have e1 : idx_main_v15 (idx_main_v16 (ix3 b s j)) = ix1 j := by blk_ext
  have e2 : idx_main_v20 (ix3 b s j) = ix3 b 0 j := by blk_ext
  have e3 : idx_main_v22 (ix3 b s j) = ix3 b 0 j := by blk_ext
  rw [e1, e2, e3]
  unfold normed
  rw [← mul_assoc, ← one_eq]
  rfl

/-- The plain program's residual stream is the kernel's. -/
theorem out_stream : val_main_v24 (F := Ideal) x0 x1 x2 x3 x7 = fun y : S65536x1024.Idx => streamOf x0 x1 x2 x3 x7 (y 0) (y 1) := by
  funext y
  idx_vars y
  rw [val_main_v24_apply]
  have e : idx_main_v24 (ix2 y0 y1) = ix3 (seq y0) (pos y0) y1 := by
    unfold seq pos
    blk_ext
  rw [e, stream_apply]
  rfl

/-- And so is its norm. -/
theorem out_normed : val_main_v26 (F := Ideal) x0 x1 x2 x3 x4 x5 x6 x7
    = fun y : S65536x1024.Idx => normedOf x0 x1 x2 x3 x4 x5 x6 x7 (y 0) (y 1) := by
  funext y
  idx_vars y
  rw [val_main_v26_apply, val_main_v25_apply]
  have e : idx_main_v25 (ix2 y0 y1) = ix3 (seq y0) (pos y0) y1 := by
    unfold seq pos
    blk_ext
  rw [e, normed_apply]
  simp only [stream_apply]
  rfl

end Cert.OutProj.Ref

end
-- ==== Proof.InProj.RunOpen.lean ====
module

public import proofs.«01_k».proof.Proof.Gen.Kernel4Ideal.Frame.Runs

@[expose] public section

set_option maxRecDepth 16384

noncomputable section

/-! The body at a grid point that opens a sequence: the carried rows are set to zero first. -/

namespace Cert.InProj.Run

open Cert.Kernel4Ideal Cert.Kernel4Ideal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option maxHeartbeats 8000000 in

/-- From its input blocks the body runs to its end, and each output block and the carried rows have had these pieces written. -/
noncomputable def kernelRun0_A (c : Dev nD) (i : grid0.Coords) (arg2 : Memref sig .tc .vmem S1024x1024 .f32) (harg2 : arg2.IsWhole) (arg3 : Memref sig .tc .vmem S1x1x1024 .f32) (harg3 : arg3.IsWhole) (arg4 : Memref sig .tc .vmem S1x1x1024 .f32) (harg4 : arg4.IsWhole) (arg5 : Memref sig .tc .vmem S1x1024 .f32) (harg5 : arg5.IsWhole) (arg6 : Memref sig .tc .vmem S1024x1280 .bf16) (harg6 : arg6.IsWhole) (arg7 : Memref sig .tc .vmem S1x512 .f32) (harg7 : arg7.IsWhole) (arg8 : Memref sig .tc .vmem S1x128 .f32) (harg8 : arg8.IsWhole) (arg9 : Memref sig .tc .vmem S1024x32 .bf16) (harg9 : arg9.IsWhole) (arg10 : Memref sig .tc .vmem S32x384 .bf16) (harg10 : arg10.IsWhole) (arg11 : Memref sig .tc .vmem S1x128 .f32) (harg11 : arg11.IsWhole) (arg12 : Memref sig .tc .vmem S256x256 .bf16) (harg12 : arg12.IsWhole) (arg13 : Memref sig .tc .vmem S128x128 .bf16) (harg13 : arg13.IsWhole) (arg14 : Memref sig .tc .vmem S2x256x256 .bf16) (harg14 : arg14.IsWhole) (arg15 : Memref sig .tc .vmem S1x512 .f32) (harg15 : arg15.IsWhole) (arg16 : Memref sig .tc .vmem S1x512 .f32) (harg16 : arg16.IsWhole) (arg17 : Memref sig .tc .vmem S1024x512 .bf16) (harg17 : arg17.IsWhole) (arg18 : Memref sig .tc .vmem S1024x128 .bf16) (harg18 : arg18.IsWhole) (arg19 : Memref sig .tc .vmem S1024x128 .bf16) (harg19 : arg19.IsWhole) (arg20 : Memref sig .tc .vmem S1024x512 .bf16) (harg20 : arg20.IsWhole) (arg21 : Memref sig .tc .vmem S16x512 .f32) (harg21 : arg21.IsWhole) (hc0 : cond0_0 i)
    (x0 : Vec F S1024x1024 .f32) (x1 : Vec F S1x1x1024 .f32) (x2 : Vec F S1x1x1024 .f32) (x3 : Vec F S1x1024 .f32) (x4 : Vec F S1024x1280 .bf16) (x5 : Vec F S1x512 .f32) (x6 : Vec F S1x128 .f32) (x7 : Vec F S1024x32 .bf16) (x8 : Vec F S32x384 .bf16) (x9 : Vec F S1x128 .f32) (x10 : Vec F S256x256 .bf16) (x11 : Vec F S128x128 .bf16) (x12 : Vec F S2x256x256 .bf16) (x13 : Vec F S1x512 .f32) (x14 : Vec F S1x512 .f32) :
    Σ' (L15 : List (View.Piece (Elt F) S1024x512 .bf16)), Σ' (L16 : List (View.Piece (Elt F) S1024x128 .bf16)), Σ' (L17 : List (View.Piece (Elt F) S1024x128 .bf16)), Σ' (L18 : List (View.Piece (Elt F) S1024x512 .bf16)), { LS0 : List (View.Piece (Elt F) S16x512 .f32) //
      ∀ (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare x7 ∗ owns (c : Thread nD τ) arg10 fullShare x8 ∗ owns (c : Thread nD τ) arg11 fullShare x9 ∗ owns (c : Thread nD τ) arg12 fullShare x10 ∗ owns (c : Thread nD τ) arg13 fullShare x11 ∗ owns (c : Thread nD τ) arg14 fullShare x12 ∗ owns (c : Thread nD τ) arg15 fullShare x13 ∗ owns (c : Thread nD τ) arg16 fullShare x14 ∗ (∃ d, owns (c : Thread nD τ) arg17 fullShare d) ∗ (∃ d, owns (c : Thread nD τ) arg18 fullShare d) ∗ (∃ d, owns (c : Thread nD τ) arg19 fullShare d) ∗ (∃ d, owns (c : Thread nD τ) arg20 fullShare d) ∗ (∃ d, owns (c : Thread nD τ) arg21 fullShare d)
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare x7 ∗ owns (c : Thread nD τ) arg10 fullShare x8 ∗ owns (c : Thread nD τ) arg11 fullShare x9 ∗ owns (c : Thread nD τ) arg12 fullShare x10 ∗ owns (c : Thread nD τ) arg13 fullShare x11 ∗ owns (c : Thread nD τ) arg14 fullShare x12 ∗ owns (c : Thread nD τ) arg15 fullShare x13 ∗ owns (c : Thread nD τ) arg16 fullShare x14 ∗ (∃ f, arg17.view.loc (c : Thread nD τ) ↦[arg17.view.set]{fullShare} arg17.view.writes (Elt F) f L15) ∗ (∃ f, arg18.view.loc (c : Thread nD τ) ↦[arg18.view.set]{fullShare} arg18.view.writes (Elt F) f L16) ∗ (∃ f, arg19.view.loc (c : Thread nD τ) ↦[arg19.view.set]{fullShare} arg19.view.writes (Elt F) f L17) ∗ (∃ f, arg20.view.loc (c : Thread nD τ) ↦[arg20.view.set]{fullShare} arg20.view.writes (Elt F) f L18) ∗ (∃ f, arg21.view.loc (c : Thread nD τ) ↦[arg21.view.set]{fullShare} arg21.view.writes (Elt F) f LS0)) -∗ K ⟨⟩))
          ⊢ wp frame (wpE (defs₀ (F := F)) Variants.none c none) E (cc0_inproj i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21) K } := by
  refine ⟨?_, ?_, ?_, ?_, ?_, fun E K => ?run⟩
  case run =>
    simp only [cc0_inproj_eq_skeleton]; unfold cc0_inproj_skel
    simp only [k0_part1_eq_skeleton, k0_part2_eq_skeleton, k0_part3_eq_skeleton, k0_part4_eq_skeleton, k0_part5_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%f11, %hf11, H11⟩, ⟨%f12, %hf12, H12⟩, ⟨%f13, %hf13, H13⟩, ⟨%f14, %hf14, H14⟩, ⟨%d15, %f15, -, H15⟩, ⟨%d16, %f16, -, H16⟩, ⟨%d17, %f17, -, H17⟩, ⟨%d18, %f18, -, H18⟩, ⟨%ds0, %fs0, -, HS0⟩, Hk⟩
    obtain rfl := harg2.eq_unread hf0; obtain rfl := harg3.eq_unread hf1; obtain rfl := harg4.eq_unread hf2; obtain rfl := harg5.eq_unread hf3; obtain rfl := harg6.eq_unread hf4; obtain rfl := harg7.eq_unread hf5; obtain rfl := harg8.eq_unread hf6; obtain rfl := harg9.eq_unread hf7; obtain rfl := harg10.eq_unread hf8; obtain rfl := harg11.eq_unread hf9; obtain rfl := harg12.eq_unread hf10; obtain rfl := harg13.eq_unread hf11; obtain rfl := harg14.eq_unread hf12; obtain rfl := harg15.eq_unread hf13; obtain rfl := harg16.eq_unread hf14
    sl_exec (disch := first | sl_exact hc0)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]
    · iexists _; isplitr; · ipureintro; exact harg7.read_unread _
      iexact H5
    isplitl [H6]
    · iexists _; isplitr; · ipureintro; exact harg8.read_unread _
      iexact H6
    isplitl [H7]
    · iexists _; isplitr; · ipureintro; exact harg9.read_unread _
      iexact H7
    isplitl [H8]
    · iexists _; isplitr; · ipureintro; exact harg10.read_unread _
      iexact H8
    isplitl [H9]
    · iexists _; isplitr; · ipureintro; exact harg11.read_unread _
      iexact H9
    isplitl [H10]
    · iexists _; isplitr; · ipureintro; exact harg12.read_unread _
      iexact H10
    isplitl [H11]
    · iexists _; isplitr; · ipureintro; exact harg13.read_unread _
      iexact H11
    isplitl [H12]
    · iexists _; isplitr; · ipureintro; exact harg14.read_unread _
      iexact H12
    isplitl [H13]
    · iexists _; isplitr; · ipureintro; exact harg15.read_unread _
      iexact H13
    isplitl [H14]
    · iexists _; isplitr; · ipureintro; exact harg16.read_unread _
      iexact H14
    isplitl [H15]; · iexists _; iexact H15
    isplitl [H16]; · iexists _; iexact H16
    isplitl [H17]; · iexists _; iexact H17
    isplitl [H18]; · iexists _; iexact H18
    iexists _; iexact HS0

end Cert.InProj.Run

end
-- ==== Proof.InProj.Frame.lean ====
module

public import proofs.«01_k».proof.Proof.InProj.RunNext
public import Idealize.ShloMosaic.Lib.Claim

@[expose] public section

set_option maxRecDepth 16384

noncomputable section

/-! The input projection runs to its end: what each grid point leaves, and the launch over all of them. -/

namespace Cert.InProj.Run

open Cert.Kernel4Ideal Cert.Kernel4Ideal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- What the body stores into window 15 covers its block (case A: A opens a sequence, B does not). -/
theorem cover0_A_15 (c : Dev nD) (i : grid0.Coords) (arg2 : Memref sig .tc .vmem S1024x1024 .f32) (harg2 : arg2.IsWhole) (arg3 : Memref sig .tc .vmem S1x1x1024 .f32) (harg3 : arg3.IsWhole) (arg4 : Memref sig .tc .vmem S1x1x1024 .f32) (harg4 : arg4.IsWhole) (arg5 : Memref sig .tc .vmem S1x1024 .f32) (harg5 : arg5.IsWhole) (arg6 : Memref sig .tc .vmem S1024x1280 .bf16) (harg6 : arg6.IsWhole) (arg7 : Memref sig .tc .vmem S1x512 .f32) (harg7 : arg7.IsWhole) (arg8 : Memref sig .tc .vmem S1x128 .f32) (harg8 : arg8.IsWhole) (arg9 : Memref sig .tc .vmem S1024x32 .bf16) (harg9 : arg9.IsWhole) (arg10 : Memref sig .tc .vmem S32x384 .bf16) (harg10 : arg10.IsWhole) (arg11 : Memref sig .tc .vmem S1x128 .f32) (harg11 : arg11.IsWhole) (arg12 : Memref sig .tc .vmem S256x256 .bf16) (harg12 : arg12.IsWhole) (arg13 : Memref sig .tc .vmem S128x128 .bf16) (harg13 : arg13.IsWhole) (arg14 : Memref sig .tc .vmem S2x256x256 .bf16) (harg14 : arg14.IsWhole) (arg15 : Memref sig .tc .vmem S1x512 .f32) (harg15 : arg15.IsWhole) (arg16 : Memref sig .tc .vmem S1x512 .f32) (harg16 : arg16.IsWhole) (arg17 : Memref sig .tc .vmem S1024x512 .bf16) (harg17 : arg17.IsWhole) (arg18 : Memref sig .tc .vmem S1024x128 .bf16) (harg18 : arg18.IsWhole) (arg19 : Memref sig .tc .vmem S1024x128 .bf16) (harg19 : arg19.IsWhole) (arg20 : Memref sig .tc .vmem S1024x512 .bf16) (harg20 : arg20.IsWhole) (arg21 : Memref sig .tc .vmem S16x512 .f32) (harg21 : arg21.IsWhole) (hc0 : cond0_0 i)
    (x0 : Vec F S1024x1024 .f32) (x1 : Vec F S1x1x1024 .f32) (x2 : Vec F S1x1x1024 .f32) (x3 : Vec F S1x1024 .f32) (x4 : Vec F S1024x1280 .bf16) (x5 : Vec F S1x512 .f32) (x6 : Vec F S1x128 .f32) (x7 : Vec F S1024x32 .bf16) (x8 : Vec F S32x384 .bf16) (x9 : Vec F S1x128 .f32) (x10 : Vec F S256x256 .bf16) (x11 : Vec F S128x128 .bf16) (x12 : Vec F S2x256x256 .bf16) (x13 : Vec F S1x512 .f32) (x14 : Vec F S1x512 .f32) (y : S1024x512.Idx) :
    ∃ pc ∈ (kernelRun0_A c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 hc0 x0 x1 x2 x3 x4 x5 x6 x7 x8 x9 x10 x11 x12 x13 x14).1, y ∈ pc.1.set :=
  View.cover_of_tiledL (kernelRun0_A c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 hc0 x0 x1 x2 x3 x4 x5 x6 x7 x8 x9 x10 x11 x12 x13 x14).1 S1024x512.size (by sl_kernel_rfl) y

/-- What the body leaves in the block of window 15, in case A. -/
def out0_A_15 (c : Dev nD) (i : grid0.Coords) (arg2 : Memref sig .tc .vmem S1024x1024 .f32) (harg2 : arg2.IsWhole) (arg3 : Memref sig .tc .vmem S1x1x1024 .f32) (harg3 : arg3.IsWhole) (arg4 : Memref sig .tc .vmem S1x1x1024 .f32) (harg4 : arg4.IsWhole) (arg5 : Memref sig .tc .vmem S1x1024 .f32) (harg5 : arg5.IsWhole) (arg6 : Memref sig .tc .vmem S1024x1280 .bf16) (harg6 : arg6.IsWhole) (arg7 : Memref sig .tc .vmem S1x512 .f32) (harg7 : arg7.IsWhole) (arg8 : Memref sig .tc .vmem S1x128 .f32) (harg8 : arg8.IsWhole) (arg9 : Memref sig .tc .vmem S1024x32 .bf16) (harg9 : arg9.IsWhole) (arg10 : Memref sig .tc .vmem S32x384 .bf16) (harg10 : arg10.IsWhole) (arg11 : Memref sig .tc .vmem S1x128 .f32) (harg11 : arg11.IsWhole) (arg12 : Memref sig .tc .vmem S256x256 .bf16) (harg12 : arg12.IsWhole) (arg13 : Memref sig .tc .vmem S128x128 .bf16) (harg13 : arg13.IsWhole) (arg14 : Memref sig .tc .vmem S2x256x256 .bf16) (harg14 : arg14.IsWhole) (arg15 : Memref sig .tc .vmem S1x512 .f32) (harg15 : arg15.IsWhole) (arg16 : Memref sig .tc .vmem S1x512 .f32) (harg16 : arg16.IsWhole) (arg17 : Memref sig .tc .vmem S1024x512 .bf16) (harg17 : arg17.IsWhole) (arg18 : Memref sig .tc .vmem S1024x128 .bf16) (harg18 : arg18.IsWhole) (arg19 : Memref sig .tc .vmem S1024x128 .bf16) (harg19 : arg19.IsWhole) (arg20 : Memref sig .tc .vmem S1024x512 .bf16) (harg20 : arg20.IsWhole) (arg21 : Memref sig .tc .vmem S16x512 .f32) (harg21 : arg21.IsWhole) (hc0 : cond0_0 i)
    (x0 : Vec F S1024x1024 .f32) (x1 : Vec F S1x1x1024 .f32) (x2 : Vec F S1x1x1024 .f32) (x3 : Vec F S1x1024 .f32) (x4 : Vec F S1024x1280 .bf16) (x5 : Vec F S1x512 .f32) (x6 : Vec F S1x128 .f32) (x7 : Vec F S1024x32 .bf16) (x8 : Vec F S32x384 .bf16) (x9 : Vec F S1x128 .f32) (x10 : Vec F S256x256 .bf16) (x11 : Vec F S128x128 .bf16) (x12 : Vec F S2x256x256 .bf16) (x13 : Vec F S1x512 .f32) (x14 : Vec F S1x512 .f32) : Vec F S1024x512 .bf16 :=
  VO0_15.read (Elt F) (VO0_15.writes (Elt F) VO0_15.junk (kernelRun0_A c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 hc0 x0 x1 x2 x3 x4 x5 x6 x7 x8 x9 x10 x11 x12 x13 x14).1)

/-- What the body stores into window 16 covers its block (case A: A opens a sequence, B does not). -/
theorem cover0_A_16 (c : Dev nD) (i : grid0.Coords) (arg2 : Memref sig .tc .vmem S1024x1024 .f32) (harg2 : arg2.IsWhole) (arg3 : Memref sig .tc .vmem S1x1x1024 .f32) (harg3 : arg3.IsWhole) (arg4 : Memref sig .tc .vmem S1x1x1024 .f32) (harg4 : arg4.IsWhole) (arg5 : Memref sig .tc .vmem S1x1024 .f32) (harg5 : arg5.IsWhole) (arg6 : Memref sig .tc .vmem S1024x1280 .bf16) (harg6 : arg6.IsWhole) (arg7 : Memref sig .tc .vmem S1x512 .f32) (harg7 : arg7.IsWhole) (arg8 : Memref sig .tc .vmem S1x128 .f32) (harg8 : arg8.IsWhole) (arg9 : Memref sig .tc .vmem S1024x32 .bf16) (harg9 : arg9.IsWhole) (arg10 : Memref sig .tc .vmem S32x384 .bf16) (harg10 : arg10.IsWhole) (arg11 : Memref sig .tc .vmem S1x128 .f32) (harg11 : arg11.IsWhole) (arg12 : Memref sig .tc .vmem S256x256 .bf16) (harg12 : arg12.IsWhole) (arg13 : Memref sig .tc .vmem S128x128 .bf16) (harg13 : arg13.IsWhole) (arg14 : Memref sig .tc .vmem S2x256x256 .bf16) (harg14 : arg14.IsWhole) (arg15 : Memref sig .tc .vmem S1x512 .f32) (harg15 : arg15.IsWhole) (arg16 : Memref sig .tc .vmem S1x512 .f32) (harg16 : arg16.IsWhole) (arg17 : Memref sig .tc .vmem S1024x512 .bf16) (harg17 : arg17.IsWhole) (arg18 : Memref sig .tc .vmem S1024x128 .bf16) (harg18 : arg18.IsWhole) (arg19 : Memref sig .tc .vmem S1024x128 .bf16) (harg19 : arg19.IsWhole) (arg20 : Memref sig .tc .vmem S1024x512 .bf16) (harg20 : arg20.IsWhole) (arg21 : Memref sig .tc .vmem S16x512 .f32) (harg21 : arg21.IsWhole) (hc0 : cond0_0 i)
    (x0 : Vec F S1024x1024 .f32) (x1 : Vec F S1x1x1024 .f32) (x2 : Vec F S1x1x1024 .f32) (x3 : Vec F S1x1024 .f32) (x4 : Vec F S1024x1280 .bf16) (x5 : Vec F S1x512 .f32) (x6 : Vec F S1x128 .f32) (x7 : Vec F S1024x32 .bf16) (x8 : Vec F S32x384 .bf16) (x9 : Vec F S1x128 .f32) (x10 : Vec F S256x256 .bf16) (x11 : Vec F S128x128 .bf16) (x12 : Vec F S2x256x256 .bf16) (x13 : Vec F S1x512 .f32) (x14 : Vec F S1x512 .f32) (y : S1024x128.Idx) :
    ∃ pc ∈ (kernelRun0_A c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 hc0 x0 x1 x2 x3 x4 x5 x6 x7 x8 x9 x10 x11 x12 x13 x14).2.1, y ∈ pc.1.set :=
  View.cover_of_tiledL (kernelRun0_A c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 hc0 x0 x1 x2 x3 x4 x5 x6 x7 x8 x9 x10 x11 x12 x13 x14).2.1 S1024x128.size (by sl_kernel_rfl) y

/-- What the body leaves in the block of window 16, in case A. -/
def out0_A_16 (c : Dev nD) (i : grid0.Coords) (arg2 : Memref sig .tc .vmem S1024x1024 .f32) (harg2 : arg2.IsWhole) (arg3 : Memref sig .tc .vmem S1x1x1024 .f32) (harg3 : arg3.IsWhole) (arg4 : Memref sig .tc .vmem S1x1x1024 .f32) (harg4 : arg4.IsWhole) (arg5 : Memref sig .tc .vmem S1x1024 .f32) (harg5 : arg5.IsWhole) (arg6 : Memref sig .tc .vmem S1024x1280 .bf16) (harg6 : arg6.IsWhole) (arg7 : Memref sig .tc .vmem S1x512 .f32) (harg7 : arg7.IsWhole) (arg8 : Memref sig .tc .vmem S1x128 .f32) (harg8 : arg8.IsWhole) (arg9 : Memref sig .tc .vmem S1024x32 .bf16) (harg9 : arg9.IsWhole) (arg10 : Memref sig .tc .vmem S32x384 .bf16) (harg10 : arg10.IsWhole) (arg11 : Memref sig .tc .vmem S1x128 .f32) (harg11 : arg11.IsWhole) (arg12 : Memref sig .tc .vmem S256x256 .bf16) (harg12 : arg12.IsWhole) (arg13 : Memref sig .tc .vmem S128x128 .bf16) (harg13 : arg13.IsWhole) (arg14 : Memref sig .tc .vmem S2x256x256 .bf16) (harg14 : arg14.IsWhole) (arg15 : Memref sig .tc .vmem S1x512 .f32) (harg15 : arg15.IsWhole) (arg16 : Memref sig .tc .vmem S1x512 .f32) (harg16 : arg16.IsWhole) (arg17 : Memref sig .tc .vmem S1024x512 .bf16) (harg17 : arg17.IsWhole) (arg18 : Memref sig .tc .vmem S1024x128 .bf16) (harg18 : arg18.IsWhole) (arg19 : Memref sig .tc .vmem S1024x128 .bf16) (harg19 : arg19.IsWhole) (arg20 : Memref sig .tc .vmem S1024x512 .bf16) (harg20 : arg20.IsWhole) (arg21 : Memref sig .tc .vmem S16x512 .f32) (harg21 : arg21.IsWhole) (hc0 : cond0_0 i)
    (x0 : Vec F S1024x1024 .f32) (x1 : Vec F S1x1x1024 .f32) (x2 : Vec F S1x1x1024 .f32) (x3 : Vec F S1x1024 .f32) (x4 : Vec F S1024x1280 .bf16) (x5 : Vec F S1x512 .f32) (x6 : Vec F S1x128 .f32) (x7 : Vec F S1024x32 .bf16) (x8 : Vec F S32x384 .bf16) (x9 : Vec F S1x128 .f32) (x10 : Vec F S256x256 .bf16) (x11 : Vec F S128x128 .bf16) (x12 : Vec F S2x256x256 .bf16) (x13 : Vec F S1x512 .f32) (x14 : Vec F S1x512 .f32) : Vec F S1024x128 .bf16 :=
  VO0_16.read (Elt F) (VO0_16.writes (Elt F) VO0_16.junk (kernelRun0_A c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 hc0 x0 x1 x2 x3 x4 x5 x6 x7 x8 x9 x10 x11 x12 x13 x14).2.1)

/-- What the body stores into window 17 covers its block (case A: A opens a sequence, B does not). -/
theorem cover0_A_17 (c : Dev nD) (i : grid0.Coords) (arg2 : Memref sig .tc .vmem S1024x1024 .f32) (harg2 : arg2.IsWhole) (arg3 : Memref sig .tc .vmem S1x1x1024 .f32) (harg3 : arg3.IsWhole) (arg4 : Memref sig .tc .vmem S1x1x1024 .f32) (harg4 : arg4.IsWhole) (arg5 : Memref sig .tc .vmem S1x1024 .f32) (harg5 : arg5.IsWhole) (arg6 : Memref sig .tc .vmem S1024x1280 .bf16) (harg6 : arg6.IsWhole) (arg7 : Memref sig .tc .vmem S1x512 .f32) (harg7 : arg7.IsWhole) (arg8 : Memref sig .tc .vmem S1x128 .f32) (harg8 : arg8.IsWhole) (arg9 : Memref sig .tc .vmem S1024x32 .bf16) (harg9 : arg9.IsWhole) (arg10 : Memref sig .tc .vmem S32x384 .bf16) (harg10 : arg10.IsWhole) (arg11 : Memref sig .tc .vmem S1x128 .f32) (harg11 : arg11.IsWhole) (arg12 : Memref sig .tc .vmem S256x256 .bf16) (harg12 : arg12.IsWhole) (arg13 : Memref sig .tc .vmem S128x128 .bf16) (harg13 : arg13.IsWhole) (arg14 : Memref sig .tc .vmem S2x256x256 .bf16) (harg14 : arg14.IsWhole) (arg15 : Memref sig .tc .vmem S1x512 .f32) (harg15 : arg15.IsWhole) (arg16 : Memref sig .tc .vmem S1x512 .f32) (harg16 : arg16.IsWhole) (arg17 : Memref sig .tc .vmem S1024x512 .bf16) (harg17 : arg17.IsWhole) (arg18 : Memref sig .tc .vmem S1024x128 .bf16) (harg18 : arg18.IsWhole) (arg19 : Memref sig .tc .vmem S1024x128 .bf16) (harg19 : arg19.IsWhole) (arg20 : Memref sig .tc .vmem S1024x512 .bf16) (harg20 : arg20.IsWhole) (arg21 : Memref sig .tc .vmem S16x512 .f32) (harg21 : arg21.IsWhole) (hc0 : cond0_0 i)
    (x0 : Vec F S1024x1024 .f32) (x1 : Vec F S1x1x1024 .f32) (x2 : Vec F S1x1x1024 .f32) (x3 : Vec F S1x1024 .f32) (x4 : Vec F S1024x1280 .bf16) (x5 : Vec F S1x512 .f32) (x6 : Vec F S1x128 .f32) (x7 : Vec F S1024x32 .bf16) (x8 : Vec F S32x384 .bf16) (x9 : Vec F S1x128 .f32) (x10 : Vec F S256x256 .bf16) (x11 : Vec F S128x128 .bf16) (x12 : Vec F S2x256x256 .bf16) (x13 : Vec F S1x512 .f32) (x14 : Vec F S1x512 .f32) (y : S1024x128.Idx) :
    ∃ pc ∈ (kernelRun0_A c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 hc0 x0 x1 x2 x3 x4 x5 x6 x7 x8 x9 x10 x11 x12 x13 x14).2.2.1, y ∈ pc.1.set :=
  View.cover_of_tiledL (kernelRun0_A c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 hc0 x0 x1 x2 x3 x4 x5 x6 x7 x8 x9 x10 x11 x12 x13 x14).2.2.1 S1024x128.size (by sl_kernel_rfl) y

/-- What the body leaves in the block of window 17, in case A. -/
def out0_A_17 (c : Dev nD) (i : grid0.Coords) (arg2 : Memref sig .tc .vmem S1024x1024 .f32) (harg2 : arg2.IsWhole) (arg3 : Memref sig .tc .vmem S1x1x1024 .f32) (harg3 : arg3.IsWhole) (arg4 : Memref sig .tc .vmem S1x1x1024 .f32) (harg4 : arg4.IsWhole) (arg5 : Memref sig .tc .vmem S1x1024 .f32) (harg5 : arg5.IsWhole) (arg6 : Memref sig .tc .vmem S1024x1280 .bf16) (harg6 : arg6.IsWhole) (arg7 : Memref sig .tc .vmem S1x512 .f32) (harg7 : arg7.IsWhole) (arg8 : Memref sig .tc .vmem S1x128 .f32) (harg8 : arg8.IsWhole) (arg9 : Memref sig .tc .vmem S1024x32 .bf16) (harg9 : arg9.IsWhole) (arg10 : Memref sig .tc .vmem S32x384 .bf16) (harg10 : arg10.IsWhole) (arg11 : Memref sig .tc .vmem S1x128 .f32) (harg11 : arg11.IsWhole) (arg12 : Memref sig .tc .vmem S256x256 .bf16) (harg12 : arg12.IsWhole) (arg13 : Memref sig .tc .vmem S128x128 .bf16) (harg13 : arg13.IsWhole) (arg14 : Memref sig .tc .vmem S2x256x256 .bf16) (harg14 : arg14.IsWhole) (arg15 : Memref sig .tc .vmem S1x512 .f32) (harg15 : arg15.IsWhole) (arg16 : Memref sig .tc .vmem S1x512 .f32) (harg16 : arg16.IsWhole) (arg17 : Memref sig .tc .vmem S1024x512 .bf16) (harg17 : arg17.IsWhole) (arg18 : Memref sig .tc .vmem S1024x128 .bf16) (harg18 : arg18.IsWhole) (arg19 : Memref sig .tc .vmem S1024x128 .bf16) (harg19 : arg19.IsWhole) (arg20 : Memref sig .tc .vmem S1024x512 .bf16) (harg20 : arg20.IsWhole) (arg21 : Memref sig .tc .vmem S16x512 .f32) (harg21 : arg21.IsWhole) (hc0 : cond0_0 i)
    (x0 : Vec F S1024x1024 .f32) (x1 : Vec F S1x1x1024 .f32) (x2 : Vec F S1x1x1024 .f32) (x3 : Vec F S1x1024 .f32) (x4 : Vec F S1024x1280 .bf16) (x5 : Vec F S1x512 .f32) (x6 : Vec F S1x128 .f32) (x7 : Vec F S1024x32 .bf16) (x8 : Vec F S32x384 .bf16) (x9 : Vec F S1x128 .f32) (x10 : Vec F S256x256 .bf16) (x11 : Vec F S128x128 .bf16) (x12 : Vec F S2x256x256 .bf16) (x13 : Vec F S1x512 .f32) (x14 : Vec F S1x512 .f32) : Vec F S1024x128 .bf16 :=
  VO0_17.read (Elt F) (VO0_17.writes (Elt F) VO0_17.junk (kernelRun0_A c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 hc0 x0 x1 x2 x3 x4 x5 x6 x7 x8 x9 x10 x11 x12 x13 x14).2.2.1)

/-- What the body stores into window 18 covers its block (case A: A opens a sequence, B does not). -/
theorem cover0_A_18 (c : Dev nD) (i : grid0.Coords) (arg2 : Memref sig .tc .vmem S1024x1024 .f32) (harg2 : arg2.IsWhole) (arg3 : Memref sig .tc .vmem S1x1x1024 .f32) (harg3 : arg3.IsWhole) (arg4 : Memref sig .tc .vmem S1x1x1024 .f32) (harg4 : arg4.IsWhole) (arg5 : Memref sig .tc .vmem S1x1024 .f32) (harg5 : arg5.IsWhole) (arg6 : Memref sig .tc .vmem S1024x1280 .bf16) (harg6 : arg6.IsWhole) (arg7 : Memref sig .tc .vmem S1x512 .f32) (harg7 : arg7.IsWhole) (arg8 : Memref sig .tc .vmem S1x128 .f32) (harg8 : arg8.IsWhole) (arg9 : Memref sig .tc .vmem S1024x32 .bf16) (harg9 : arg9.IsWhole) (arg10 : Memref sig .tc .vmem S32x384 .bf16) (harg10 : arg10.IsWhole) (arg11 : Memref sig .tc .vmem S1x128 .f32) (harg11 : arg11.IsWhole) (arg12 : Memref sig .tc .vmem S256x256 .bf16) (harg12 : arg12.IsWhole) (arg13 : Memref sig .tc .vmem S128x128 .bf16) (harg13 : arg13.IsWhole) (arg14 : Memref sig .tc .vmem S2x256x256 .bf16) (harg14 : arg14.IsWhole) (arg15 : Memref sig .tc .vmem S1x512 .f32) (harg15 : arg15.IsWhole) (arg16 : Memref sig .tc .vmem S1x512 .f32) (harg16 : arg16.IsWhole) (arg17 : Memref sig .tc .vmem S1024x512 .bf16) (harg17 : arg17.IsWhole) (arg18 : Memref sig .tc .vmem S1024x128 .bf16) (harg18 : arg18.IsWhole) (arg19 : Memref sig .tc .vmem S1024x128 .bf16) (harg19 : arg19.IsWhole) (arg20 : Memref sig .tc .vmem S1024x512 .bf16) (harg20 : arg20.IsWhole) (arg21 : Memref sig .tc .vmem S16x512 .f32) (harg21 : arg21.IsWhole) (hc0 : cond0_0 i)
    (x0 : Vec F S1024x1024 .f32) (x1 : Vec F S1x1x1024 .f32) (x2 : Vec F S1x1x1024 .f32) (x3 : Vec F S1x1024 .f32) (x4 : Vec F S1024x1280 .bf16) (x5 : Vec F S1x512 .f32) (x6 : Vec F S1x128 .f32) (x7 : Vec F S1024x32 .bf16) (x8 : Vec F S32x384 .bf16) (x9 : Vec F S1x128 .f32) (x10 : Vec F S256x256 .bf16) (x11 : Vec F S128x128 .bf16) (x12 : Vec F S2x256x256 .bf16) (x13 : Vec F S1x512 .f32) (x14 : Vec F S1x512 .f32) (y : S1024x512.Idx) :
    ∃ pc ∈ (kernelRun0_A c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 hc0 x0 x1 x2 x3 x4 x5 x6 x7 x8 x9 x10 x11 x12 x13 x14).2.2.2.1, y ∈ pc.1.set :=
  View.cover_of_tiledL (kernelRun0_A c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 hc0 x0 x1 x2 x3 x4 x5 x6 x7 x8 x9 x10 x11 x12 x13 x14).2.2.2.1 S1024x512.size (by sl_kernel_rfl) y

/-- What the body leaves in the block of window 18, in case A. -/
def out0_A_18 (c : Dev nD) (i : grid0.Coords) (arg2 : Memref sig .tc .vmem S1024x1024 .f32) (harg2 : arg2.IsWhole) (arg3 : Memref sig .tc .vmem S1x1x1024 .f32) (harg3 : arg3.IsWhole) (arg4 : Memref sig .tc .vmem S1x1x1024 .f32) (harg4 : arg4.IsWhole) (arg5 : Memref sig .tc .vmem S1x1024 .f32) (harg5 : arg5.IsWhole) (arg6 : Memref sig .tc .vmem S1024x1280 .bf16) (harg6 : arg6.IsWhole) (arg7 : Memref sig .tc .vmem S1x512 .f32) (harg7 : arg7.IsWhole) (arg8 : Memref sig .tc .vmem S1x128 .f32) (harg8 : arg8.IsWhole) (arg9 : Memref sig .tc .vmem S1024x32 .bf16) (harg9 : arg9.IsWhole) (arg10 : Memref sig .tc .vmem S32x384 .bf16) (harg10 : arg10.IsWhole) (arg11 : Memref sig .tc .vmem S1x128 .f32) (harg11 : arg11.IsWhole) (arg12 : Memref sig .tc .vmem S256x256 .bf16) (harg12 : arg12.IsWhole) (arg13 : Memref sig .tc .vmem S128x128 .bf16) (harg13 : arg13.IsWhole) (arg14 : Memref sig .tc .vmem S2x256x256 .bf16) (harg14 : arg14.IsWhole) (arg15 : Memref sig .tc .vmem S1x512 .f32) (harg15 : arg15.IsWhole) (arg16 : Memref sig .tc .vmem S1x512 .f32) (harg16 : arg16.IsWhole) (arg17 : Memref sig .tc .vmem S1024x512 .bf16) (harg17 : arg17.IsWhole) (arg18 : Memref sig .tc .vmem S1024x128 .bf16) (harg18 : arg18.IsWhole) (arg19 : Memref sig .tc .vmem S1024x128 .bf16) (harg19 : arg19.IsWhole) (arg20 : Memref sig .tc .vmem S1024x512 .bf16) (harg20 : arg20.IsWhole) (arg21 : Memref sig .tc .vmem S16x512 .f32) (harg21 : arg21.IsWhole) (hc0 : cond0_0 i)
    (x0 : Vec F S1024x1024 .f32) (x1 : Vec F S1x1x1024 .f32) (x2 : Vec F S1x1x1024 .f32) (x3 : Vec F S1x1024 .f32) (x4 : Vec F S1024x1280 .bf16) (x5 : Vec F S1x512 .f32) (x6 : Vec F S1x128 .f32) (x7 : Vec F S1024x32 .bf16) (x8 : Vec F S32x384 .bf16) (x9 : Vec F S1x128 .f32) (x10 : Vec F S256x256 .bf16) (x11 : Vec F S128x128 .bf16) (x12 : Vec F S2x256x256 .bf16) (x13 : Vec F S1x512 .f32) (x14 : Vec F S1x512 .f32) : Vec F S1024x512 .bf16 :=
  VO0_18.read (Elt F) (VO0_18.writes (Elt F) VO0_18.junk (kernelRun0_A c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 hc0 x0 x1 x2 x3 x4 x5 x6 x7 x8 x9 x10 x11 x12 x13 x14).2.2.2.1)

/-- What the body stores into the carried rows covers them, in case A. -/
theorem scover0_A_0 (c : Dev nD) (i : grid0.Coords) (arg2 : Memref sig .tc .vmem S1024x1024 .f32) (harg2 : arg2.IsWhole) (arg3 : Memref sig .tc .vmem S1x1x1024 .f32) (harg3 : arg3.IsWhole) (arg4 : Memref sig .tc .vmem S1x1x1024 .f32) (harg4 : arg4.IsWhole) (arg5 : Memref sig .tc .vmem S1x1024 .f32) (harg5 : arg5.IsWhole) (arg6 : Memref sig .tc .vmem S1024x1280 .bf16) (harg6 : arg6.IsWhole) (arg7 : Memref sig .tc .vmem S1x512 .f32) (harg7 : arg7.IsWhole) (arg8 : Memref sig .tc .vmem S1x128 .f32) (harg8 : arg8.IsWhole) (arg9 : Memref sig .tc .vmem S1024x32 .bf16) (harg9 : arg9.IsWhole) (arg10 : Memref sig .tc .vmem S32x384 .bf16) (harg10 : arg10.IsWhole) (arg11 : Memref sig .tc .vmem S1x128 .f32) (harg11 : arg11.IsWhole) (arg12 : Memref sig .tc .vmem S256x256 .bf16) (harg12 : arg12.IsWhole) (arg13 : Memref sig .tc .vmem S128x128 .bf16) (harg13 : arg13.IsWhole) (arg14 : Memref sig .tc .vmem S2x256x256 .bf16) (harg14 : arg14.IsWhole) (arg15 : Memref sig .tc .vmem S1x512 .f32) (harg15 : arg15.IsWhole) (arg16 : Memref sig .tc .vmem S1x512 .f32) (harg16 : arg16.IsWhole) (arg17 : Memref sig .tc .vmem S1024x512 .bf16) (harg17 : arg17.IsWhole) (arg18 : Memref sig .tc .vmem S1024x128 .bf16) (harg18 : arg18.IsWhole) (arg19 : Memref sig .tc .vmem S1024x128 .bf16) (harg19 : arg19.IsWhole) (arg20 : Memref sig .tc .vmem S1024x512 .bf16) (harg20 : arg20.IsWhole) (arg21 : Memref sig .tc .vmem S16x512 .f32) (harg21 : arg21.IsWhole) (hc0 : cond0_0 i)
    (x0 : Vec F S1024x1024 .f32) (x1 : Vec F S1x1x1024 .f32) (x2 : Vec F S1x1x1024 .f32) (x3 : Vec F S1x1024 .f32) (x4 : Vec F S1024x1280 .bf16) (x5 : Vec F S1x512 .f32) (x6 : Vec F S1x128 .f32) (x7 : Vec F S1024x32 .bf16) (x8 : Vec F S32x384 .bf16) (x9 : Vec F S1x128 .f32) (x10 : Vec F S256x256 .bf16) (x11 : Vec F S128x128 .bf16) (x12 : Vec F S2x256x256 .bf16) (x13 : Vec F S1x512 .f32) (x14 : Vec F S1x512 .f32) (y : S16x512.Idx) :
    ∃ pc ∈ (kernelRun0_A c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 hc0 x0 x1 x2 x3 x4 x5 x6 x7 x8 x9 x10 x11 x12 x13 x14).2.2.2.2.1, y ∈ pc.1.set :=
  View.cover_of_tiledL (kernelRun0_A c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 hc0 x0 x1 x2 x3 x4 x5 x6 x7 x8 x9 x10 x11 x12 x13 x14).2.2.2.2.1 S16x512.size (by sl_kernel_rfl) y

/-- What the body leaves in the carried rows, in case A. -/
def sout0_A_0 (c : Dev nD) (i : grid0.Coords) (arg2 : Memref sig .tc .vmem S1024x1024 .f32) (harg2 : arg2.IsWhole) (arg3 : Memref sig .tc .vmem S1x1x1024 .f32) (harg3 : arg3.IsWhole) (arg4 : Memref sig .tc .vmem S1x1x1024 .f32) (harg4 : arg4.IsWhole) (arg5 : Memref sig .tc .vmem S1x1024 .f32) (harg5 : arg5.IsWhole) (arg6 : Memref sig .tc .vmem S1024x1280 .bf16) (harg6 : arg6.IsWhole) (arg7 : Memref sig .tc .vmem S1x512 .f32) (harg7 : arg7.IsWhole) (arg8 : Memref sig .tc .vmem S1x128 .f32) (harg8 : arg8.IsWhole) (arg9 : Memref sig .tc .vmem S1024x32 .bf16) (harg9 : arg9.IsWhole) (arg10 : Memref sig .tc .vmem S32x384 .bf16) (harg10 : arg10.IsWhole) (arg11 : Memref sig .tc .vmem S1x128 .f32) (harg11 : arg11.IsWhole) (arg12 : Memref sig .tc .vmem S256x256 .bf16) (harg12 : arg12.IsWhole) (arg13 : Memref sig .tc .vmem S128x128 .bf16) (harg13 : arg13.IsWhole) (arg14 : Memref sig .tc .vmem S2x256x256 .bf16) (harg14 : arg14.IsWhole) (arg15 : Memref sig .tc .vmem S1x512 .f32) (harg15 : arg15.IsWhole) (arg16 : Memref sig .tc .vmem S1x512 .f32) (harg16 : arg16.IsWhole) (arg17 : Memref sig .tc .vmem S1024x512 .bf16) (harg17 : arg17.IsWhole) (arg18 : Memref sig .tc .vmem S1024x128 .bf16) (harg18 : arg18.IsWhole) (arg19 : Memref sig .tc .vmem S1024x128 .bf16) (harg19 : arg19.IsWhole) (arg20 : Memref sig .tc .vmem S1024x512 .bf16) (harg20 : arg20.IsWhole) (arg21 : Memref sig .tc .vmem S16x512 .f32) (harg21 : arg21.IsWhole) (hc0 : cond0_0 i)
    (x0 : Vec F S1024x1024 .f32) (x1 : Vec F S1x1x1024 .f32) (x2 : Vec F S1x1x1024 .f32) (x3 : Vec F S1x1024 .f32) (x4 : Vec F S1024x1280 .bf16) (x5 : Vec F S1x512 .f32) (x6 : Vec F S1x128 .f32) (x7 : Vec F S1024x32 .bf16) (x8 : Vec F S32x384 .bf16) (x9 : Vec F S1x128 .f32) (x10 : Vec F S256x256 .bf16) (x11 : Vec F S128x128 .bf16) (x12 : Vec F S2x256x256 .bf16) (x13 : Vec F S1x512 .f32) (x14 : Vec F S1x512 .f32) : Vec F S16x512 .f32 :=
  VS0_0.read (Elt F) (VS0_0.writes (Elt F) VS0_0.junk (kernelRun0_A c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 hc0 x0 x1 x2 x3 x4 x5 x6 x7 x8 x9 x10 x11 x12 x13 x14).2.2.2.2.1)

/-- What the body stores into window 15 covers its block (case B: A opens a sequence, B does not). -/
theorem cover0_B_15 (c : Dev nD) (i : grid0.Coords) (arg2 : Memref sig .tc .vmem S1024x1024 .f32) (harg2 : arg2.IsWhole) (arg3 : Memref sig .tc .vmem S1x1x1024 .f32) (harg3 : arg3.IsWhole) (arg4 : Memref sig .tc .vmem S1x1x1024 .f32) (harg4 : arg4.IsWhole) (arg5 : Memref sig .tc .vmem S1x1024 .f32) (harg5 : arg5.IsWhole) (arg6 : Memref sig .tc .vmem S1024x1280 .bf16) (harg6 : arg6.IsWhole) (arg7 : Memref sig .tc .vmem S1x512 .f32) (harg7 : arg7.IsWhole) (arg8 : Memref sig .tc .vmem S1x128 .f32) (harg8 : arg8.IsWhole) (arg9 : Memref sig .tc .vmem S1024x32 .bf16) (harg9 : arg9.IsWhole) (arg10 : Memref sig .tc .vmem S32x384 .bf16) (harg10 : arg10.IsWhole) (arg11 : Memref sig .tc .vmem S1x128 .f32) (harg11 : arg11.IsWhole) (arg12 : Memref sig .tc .vmem S256x256 .bf16) (harg12 : arg12.IsWhole) (arg13 : Memref sig .tc .vmem S128x128 .bf16) (harg13 : arg13.IsWhole) (arg14 : Memref sig .tc .vmem S2x256x256 .bf16) (harg14 : arg14.IsWhole) (arg15 : Memref sig .tc .vmem S1x512 .f32) (harg15 : arg15.IsWhole) (arg16 : Memref sig .tc .vmem S1x512 .f32) (harg16 : arg16.IsWhole) (arg17 : Memref sig .tc .vmem S1024x512 .bf16) (harg17 : arg17.IsWhole) (arg18 : Memref sig .tc .vmem S1024x128 .bf16) (harg18 : arg18.IsWhole) (arg19 : Memref sig .tc .vmem S1024x128 .bf16) (harg19 : arg19.IsWhole) (arg20 : Memref sig .tc .vmem S1024x512 .bf16) (harg20 : arg20.IsWhole) (arg21 : Memref sig .tc .vmem S16x512 .f32) (harg21 : arg21.IsWhole) (hc0 : ¬cond0_0 i)
    (x0 : Vec F S1024x1024 .f32) (x1 : Vec F S1x1x1024 .f32) (x2 : Vec F S1x1x1024 .f32) (x3 : Vec F S1x1024 .f32) (x4 : Vec F S1024x1280 .bf16) (x5 : Vec F S1x512 .f32) (x6 : Vec F S1x128 .f32) (x7 : Vec F S1024x32 .bf16) (x8 : Vec F S32x384 .bf16) (x9 : Vec F S1x128 .f32) (x10 : Vec F S256x256 .bf16) (x11 : Vec F S128x128 .bf16) (x12 : Vec F S2x256x256 .bf16) (x13 : Vec F S1x512 .f32) (x14 : Vec F S1x512 .f32) (xs0 : Vec F S16x512 .f32) (y : S1024x512.Idx) :
    ∃ pc ∈ (kernelRun0_B c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 hc0 x0 x1 x2 x3 x4 x5 x6 x7 x8 x9 x10 x11 x12 x13 x14 xs0).1, y ∈ pc.1.set :=
  View.cover_of_tiledL (kernelRun0_B c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 hc0 x0 x1 x2 x3 x4 x5 x6 x7 x8 x9 x10 x11 x12 x13 x14 xs0).1 S1024x512.size (by sl_kernel_rfl) y

/-- What the body leaves in the block of window 15, in case B. -/
def out0_B_15 (c : Dev nD) (i : grid0.Coords) (arg2 : Memref sig .tc .vmem S1024x1024 .f32) (harg2 : arg2.IsWhole) (arg3 : Memref sig .tc .vmem S1x1x1024 .f32) (harg3 : arg3.IsWhole) (arg4 : Memref sig .tc .vmem S1x1x1024 .f32) (harg4 : arg4.IsWhole) (arg5 : Memref sig .tc .vmem S1x1024 .f32) (harg5 : arg5.IsWhole) (arg6 : Memref sig .tc .vmem S1024x1280 .bf16) (harg6 : arg6.IsWhole) (arg7 : Memref sig .tc .vmem S1x512 .f32) (harg7 : arg7.IsWhole) (arg8 : Memref sig .tc .vmem S1x128 .f32) (harg8 : arg8.IsWhole) (arg9 : Memref sig .tc .vmem S1024x32 .bf16) (harg9 : arg9.IsWhole) (arg10 : Memref sig .tc .vmem S32x384 .bf16) (harg10 : arg10.IsWhole) (arg11 : Memref sig .tc .vmem S1x128 .f32) (harg11 : arg11.IsWhole) (arg12 : Memref sig .tc .vmem S256x256 .bf16) (harg12 : arg12.IsWhole) (arg13 : Memref sig .tc .vmem S128x128 .bf16) (harg13 : arg13.IsWhole) (arg14 : Memref sig .tc .vmem S2x256x256 .bf16) (harg14 : arg14.IsWhole) (arg15 : Memref sig .tc .vmem S1x512 .f32) (harg15 : arg15.IsWhole) (arg16 : Memref sig .tc .vmem S1x512 .f32) (harg16 : arg16.IsWhole) (arg17 : Memref sig .tc .vmem S1024x512 .bf16) (harg17 : arg17.IsWhole) (arg18 : Memref sig .tc .vmem S1024x128 .bf16) (harg18 : arg18.IsWhole) (arg19 : Memref sig .tc .vmem S1024x128 .bf16) (harg19 : arg19.IsWhole) (arg20 : Memref sig .tc .vmem S1024x512 .bf16) (harg20 : arg20.IsWhole) (arg21 : Memref sig .tc .vmem S16x512 .f32) (harg21 : arg21.IsWhole) (hc0 : ¬cond0_0 i)
    (x0 : Vec F S1024x1024 .f32) (x1 : Vec F S1x1x1024 .f32) (x2 : Vec F S1x1x1024 .f32) (x3 : Vec F S1x1024 .f32) (x4 : Vec F S1024x1280 .bf16) (x5 : Vec F S1x512 .f32) (x6 : Vec F S1x128 .f32) (x7 : Vec F S1024x32 .bf16) (x8 : Vec F S32x384 .bf16) (x9 : Vec F S1x128 .f32) (x10 : Vec F S256x256 .bf16) (x11 : Vec F S128x128 .bf16) (x12 : Vec F S2x256x256 .bf16) (x13 : Vec F S1x512 .f32) (x14 : Vec F S1x512 .f32) (xs0 : Vec F S16x512 .f32) : Vec F S1024x512 .bf16 :=
  VO0_15.read (Elt F) (VO0_15.writes (Elt F) VO0_15.junk (kernelRun0_B c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 hc0 x0 x1 x2 x3 x4 x5 x6 x7 x8 x9 x10 x11 x12 x13 x14 xs0).1)

/-- What the body stores into window 16 covers its block (case B: A opens a sequence, B does not). -/
theorem cover0_B_16 (c : Dev nD) (i : grid0.Coords) (arg2 : Memref sig .tc .vmem S1024x1024 .f32) (harg2 : arg2.IsWhole) (arg3 : Memref sig .tc .vmem S1x1x1024 .f32) (harg3 : arg3.IsWhole) (arg4 : Memref sig .tc .vmem S1x1x1024 .f32) (harg4 : arg4.IsWhole) (arg5 : Memref sig .tc .vmem S1x1024 .f32) (harg5 : arg5.IsWhole) (arg6 : Memref sig .tc .vmem S1024x1280 .bf16) (harg6 : arg6.IsWhole) (arg7 : Memref sig .tc .vmem S1x512 .f32) (harg7 : arg7.IsWhole) (arg8 : Memref sig .tc .vmem S1x128 .f32) (harg8 : arg8.IsWhole) (arg9 : Memref sig .tc .vmem S1024x32 .bf16) (harg9 : arg9.IsWhole) (arg10 : Memref sig .tc .vmem S32x384 .bf16) (harg10 : arg10.IsWhole) (arg11 : Memref sig .tc .vmem S1x128 .f32) (harg11 : arg11.IsWhole) (arg12 : Memref sig .tc .vmem S256x256 .bf16) (harg12 : arg12.IsWhole) (arg13 : Memref sig .tc .vmem S128x128 .bf16) (harg13 : arg13.IsWhole) (arg14 : Memref sig .tc .vmem S2x256x256 .bf16) (harg14 : arg14.IsWhole) (arg15 : Memref sig .tc .vmem S1x512 .f32) (harg15 : arg15.IsWhole) (arg16 : Memref sig .tc .vmem S1x512 .f32) (harg16 : arg16.IsWhole) (arg17 : Memref sig .tc .vmem S1024x512 .bf16) (harg17 : arg17.IsWhole) (arg18 : Memref sig .tc .vmem S1024x128 .bf16) (harg18 : arg18.IsWhole) (arg19 : Memref sig .tc .vmem S1024x128 .bf16) (harg19 : arg19.IsWhole) (arg20 : Memref sig .tc .vmem S1024x512 .bf16) (harg20 : arg20.IsWhole) (arg21 : Memref sig .tc .vmem S16x512 .f32) (harg21 : arg21.IsWhole) (hc0 : ¬cond0_0 i)
    (x0 : Vec F S1024x1024 .f32) (x1 : Vec F S1x1x1024 .f32) (x2 : Vec F S1x1x1024 .f32) (x3 : Vec F S1x1024 .f32) (x4 : Vec F S1024x1280 .bf16) (x5 : Vec F S1x512 .f32) (x6 : Vec F S1x128 .f32) (x7 : Vec F S1024x32 .bf16) (x8 : Vec F S32x384 .bf16) (x9 : Vec F S1x128 .f32) (x10 : Vec F S256x256 .bf16) (x11 : Vec F S128x128 .bf16) (x12 : Vec F S2x256x256 .bf16) (x13 : Vec F S1x512 .f32) (x14 : Vec F S1x512 .f32) (xs0 : Vec F S16x512 .f32) (y : S1024x128.Idx) :
    ∃ pc ∈ (kernelRun0_B c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 hc0 x0 x1 x2 x3 x4 x5 x6 x7 x8 x9 x10 x11 x12 x13 x14 xs0).2.1, y ∈ pc.1.set :=
  View.cover_of_tiledL (kernelRun0_B c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 hc0 x0 x1 x2 x3 x4 x5 x6 x7 x8 x9 x10 x11 x12 x13 x14 xs0).2.1 S1024x128.size (by sl_kernel_rfl) y

/-- What the body leaves in the block of window 16, in case B. -/
def out0_B_16 (c : Dev nD) (i : grid0.Coords) (arg2 : Memref sig .tc .vmem S1024x1024 .f32) (harg2 : arg2.IsWhole) (arg3 : Memref sig .tc .vmem S1x1x1024 .f32) (harg3 : arg3.IsWhole) (arg4 : Memref sig .tc .vmem S1x1x1024 .f32) (harg4 : arg4.IsWhole) (arg5 : Memref sig .tc .vmem S1x1024 .f32) (harg5 : arg5.IsWhole) (arg6 : Memref sig .tc .vmem S1024x1280 .bf16) (harg6 : arg6.IsWhole) (arg7 : Memref sig .tc .vmem S1x512 .f32) (harg7 : arg7.IsWhole) (arg8 : Memref sig .tc .vmem S1x128 .f32) (harg8 : arg8.IsWhole) (arg9 : Memref sig .tc .vmem S1024x32 .bf16) (harg9 : arg9.IsWhole) (arg10 : Memref sig .tc .vmem S32x384 .bf16) (harg10 : arg10.IsWhole) (arg11 : Memref sig .tc .vmem S1x128 .f32) (harg11 : arg11.IsWhole) (arg12 : Memref sig .tc .vmem S256x256 .bf16) (harg12 : arg12.IsWhole) (arg13 : Memref sig .tc .vmem S128x128 .bf16) (harg13 : arg13.IsWhole) (arg14 : Memref sig .tc .vmem S2x256x256 .bf16) (harg14 : arg14.IsWhole) (arg15 : Memref sig .tc .vmem S1x512 .f32) (harg15 : arg15.IsWhole) (arg16 : Memref sig .tc .vmem S1x512 .f32) (harg16 : arg16.IsWhole) (arg17 : Memref sig .tc .vmem S1024x512 .bf16) (harg17 : arg17.IsWhole) (arg18 : Memref sig .tc .vmem S1024x128 .bf16) (harg18 : arg18.IsWhole) (arg19 : Memref sig .tc .vmem S1024x128 .bf16) (harg19 : arg19.IsWhole) (arg20 : Memref sig .tc .vmem S1024x512 .bf16) (harg20 : arg20.IsWhole) (arg21 : Memref sig .tc .vmem S16x512 .f32) (harg21 : arg21.IsWhole) (hc0 : ¬cond0_0 i)
    (x0 : Vec F S1024x1024 .f32) (x1 : Vec F S1x1x1024 .f32) (x2 : Vec F S1x1x1024 .f32) (x3 : Vec F S1x1024 .f32) (x4 : Vec F S1024x1280 .bf16) (x5 : Vec F S1x512 .f32) (x6 : Vec F S1x128 .f32) (x7 : Vec F S1024x32 .bf16) (x8 : Vec F S32x384 .bf16) (x9 : Vec F S1x128 .f32) (x10 : Vec F S256x256 .bf16) (x11 : Vec F S128x128 .bf16) (x12 : Vec F S2x256x256 .bf16) (x13 : Vec F S1x512 .f32) (x14 : Vec F S1x512 .f32) (xs0 : Vec F S16x512 .f32) : Vec F S1024x128 .bf16 :=
  VO0_16.read (Elt F) (VO0_16.writes (Elt F) VO0_16.junk (kernelRun0_B c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 hc0 x0 x1 x2 x3 x4 x5 x6 x7 x8 x9 x10 x11 x12 x13 x14 xs0).2.1)

/-- What the body stores into window 17 covers its block (case B: A opens a sequence, B does not). -/
theorem cover0_B_17 (c : Dev nD) (i : grid0.Coords) (arg2 : Memref sig .tc .vmem S1024x1024 .f32) (harg2 : arg2.IsWhole) (arg3 : Memref sig .tc .vmem S1x1x1024 .f32) (harg3 : arg3.IsWhole) (arg4 : Memref sig .tc .vmem S1x1x1024 .f32) (harg4 : arg4.IsWhole) (arg5 : Memref sig .tc .vmem S1x1024 .f32) (harg5 : arg5.IsWhole) (arg6 : Memref sig .tc .vmem S1024x1280 .bf16) (harg6 : arg6.IsWhole) (arg7 : Memref sig .tc .vmem S1x512 .f32) (harg7 : arg7.IsWhole) (arg8 : Memref sig .tc .vmem S1x128 .f32) (harg8 : arg8.IsWhole) (arg9 : Memref sig .tc .vmem S1024x32 .bf16) (harg9 : arg9.IsWhole) (arg10 : Memref sig .tc .vmem S32x384 .bf16) (harg10 : arg10.IsWhole) (arg11 : Memref sig .tc .vmem S1x128 .f32) (harg11 : arg11.IsWhole) (arg12 : Memref sig .tc .vmem S256x256 .bf16) (harg12 : arg12.IsWhole) (arg13 : Memref sig .tc .vmem S128x128 .bf16) (harg13 : arg13.IsWhole) (arg14 : Memref sig .tc .vmem S2x256x256 .bf16) (harg14 : arg14.IsWhole) (arg15 : Memref sig .tc .vmem S1x512 .f32) (harg15 : arg15.IsWhole) (arg16 : Memref sig .tc .vmem S1x512 .f32) (harg16 : arg16.IsWhole) (arg17 : Memref sig .tc .vmem S1024x512 .bf16) (harg17 : arg17.IsWhole) (arg18 : Memref sig .tc .vmem S1024x128 .bf16) (harg18 : arg18.IsWhole) (arg19 : Memref sig .tc .vmem S1024x128 .bf16) (harg19 : arg19.IsWhole) (arg20 : Memref sig .tc .vmem S1024x512 .bf16) (harg20 : arg20.IsWhole) (arg21 : Memref sig .tc .vmem S16x512 .f32) (harg21 : arg21.IsWhole) (hc0 : ¬cond0_0 i)
    (x0 : Vec F S1024x1024 .f32) (x1 : Vec F S1x1x1024 .f32) (x2 : Vec F S1x1x1024 .f32) (x3 : Vec F S1x1024 .f32) (x4 : Vec F S1024x1280 .bf16) (x5 : Vec F S1x512 .f32) (x6 : Vec F S1x128 .f32) (x7 : Vec F S1024x32 .bf16) (x8 : Vec F S32x384 .bf16) (x9 : Vec F S1x128 .f32) (x10 : Vec F S256x256 .bf16) (x11 : Vec F S128x128 .bf16) (x12 : Vec F S2x256x256 .bf16) (x13 : Vec F S1x512 .f32) (x14 : Vec F S1x512 .f32) (xs0 : Vec F S16x512 .f32) (y : S1024x128.Idx) :
    ∃ pc ∈ (kernelRun0_B c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 hc0 x0 x1 x2 x3 x4 x5 x6 x7 x8 x9 x10 x11 x12 x13 x14 xs0).2.2.1, y ∈ pc.1.set :=
  View.cover_of_tiledL (kernelRun0_B c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 hc0 x0 x1 x2 x3 x4 x5 x6 x7 x8 x9 x10 x11 x12 x13 x14 xs0).2.2.1 S1024x128.size (by sl_kernel_rfl) y

/-- What the body leaves in the block of window 17, in case B. -/
def out0_B_17 (c : Dev nD) (i : grid0.Coords) (arg2 : Memref sig .tc .vmem S1024x1024 .f32) (harg2 : arg2.IsWhole) (arg3 : Memref sig .tc .vmem S1x1x1024 .f32) (harg3 : arg3.IsWhole) (arg4 : Memref sig .tc .vmem S1x1x1024 .f32) (harg4 : arg4.IsWhole) (arg5 : Memref sig .tc .vmem S1x1024 .f32) (harg5 : arg5.IsWhole) (arg6 : Memref sig .tc .vmem S1024x1280 .bf16) (harg6 : arg6.IsWhole) (arg7 : Memref sig .tc .vmem S1x512 .f32) (harg7 : arg7.IsWhole) (arg8 : Memref sig .tc .vmem S1x128 .f32) (harg8 : arg8.IsWhole) (arg9 : Memref sig .tc .vmem S1024x32 .bf16) (harg9 : arg9.IsWhole) (arg10 : Memref sig .tc .vmem S32x384 .bf16) (harg10 : arg10.IsWhole) (arg11 : Memref sig .tc .vmem S1x128 .f32) (harg11 : arg11.IsWhole) (arg12 : Memref sig .tc .vmem S256x256 .bf16) (harg12 : arg12.IsWhole) (arg13 : Memref sig .tc .vmem S128x128 .bf16) (harg13 : arg13.IsWhole) (arg14 : Memref sig .tc .vmem S2x256x256 .bf16) (harg14 : arg14.IsWhole) (arg15 : Memref sig .tc .vmem S1x512 .f32) (harg15 : arg15.IsWhole) (arg16 : Memref sig .tc .vmem S1x512 .f32) (harg16 : arg16.IsWhole) (arg17 : Memref sig .tc .vmem S1024x512 .bf16) (harg17 : arg17.IsWhole) (arg18 : Memref sig .tc .vmem S1024x128 .bf16) (harg18 : arg18.IsWhole) (arg19 : Memref sig .tc .vmem S1024x128 .bf16) (harg19 : arg19.IsWhole) (arg20 : Memref sig .tc .vmem S1024x512 .bf16) (harg20 : arg20.IsWhole) (arg21 : Memref sig .tc .vmem S16x512 .f32) (harg21 : arg21.IsWhole) (hc0 : ¬cond0_0 i)
    (x0 : Vec F S1024x1024 .f32) (x1 : Vec F S1x1x1024 .f32) (x2 : Vec F S1x1x1024 .f32) (x3 : Vec F S1x1024 .f32) (x4 : Vec F S1024x1280 .bf16) (x5 : Vec F S1x512 .f32) (x6 : Vec F S1x128 .f32) (x7 : Vec F S1024x32 .bf16) (x8 : Vec F S32x384 .bf16) (x9 : Vec F S1x128 .f32) (x10 : Vec F S256x256 .bf16) (x11 : Vec F S128x128 .bf16) (x12 : Vec F S2x256x256 .bf16) (x13 : Vec F S1x512 .f32) (x14 : Vec F S1x512 .f32) (xs0 : Vec F S16x512 .f32) : Vec F S1024x128 .bf16 :=
  VO0_17.read (Elt F) (VO0_17.writes (Elt F) VO0_17.junk (kernelRun0_B c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 hc0 x0 x1 x2 x3 x4 x5 x6 x7 x8 x9 x10 x11 x12 x13 x14 xs0).2.2.1)

/-- What the body stores into window 18 covers its block (case B: A opens a sequence, B does not). -/
theorem cover0_B_18 (c : Dev nD) (i : grid0.Coords) (arg2 : Memref sig .tc .vmem S1024x1024 .f32) (harg2 : arg2.IsWhole) (arg3 : Memref sig .tc .vmem S1x1x1024 .f32) (harg3 : arg3.IsWhole) (arg4 : Memref sig .tc .vmem S1x1x1024 .f32) (harg4 : arg4.IsWhole) (arg5 : Memref sig .tc .vmem S1x1024 .f32) (harg5 : arg5.IsWhole) (arg6 : Memref sig .tc .vmem S1024x1280 .bf16) (harg6 : arg6.IsWhole) (arg7 : Memref sig .tc .vmem S1x512 .f32) (harg7 : arg7.IsWhole) (arg8 : Memref sig .tc .vmem S1x128 .f32) (harg8 : arg8.IsWhole) (arg9 : Memref sig .tc .vmem S1024x32 .bf16) (harg9 : arg9.IsWhole) (arg10 : Memref sig .tc .vmem S32x384 .bf16) (harg10 : arg10.IsWhole) (arg11 : Memref sig .tc .vmem S1x128 .f32) (harg11 : arg11.IsWhole) (arg12 : Memref sig .tc .vmem S256x256 .bf16) (harg12 : arg12.IsWhole) (arg13 : Memref sig .tc .vmem S128x128 .bf16) (harg13 : arg13.IsWhole) (arg14 : Memref sig .tc .vmem S2x256x256 .bf16) (harg14 : arg14.IsWhole) (arg15 : Memref sig .tc .vmem S1x512 .f32) (harg15 : arg15.IsWhole) (arg16 : Memref sig .tc .vmem S1x512 .f32) (harg16 : arg16.IsWhole) (arg17 : Memref sig .tc .vmem S1024x512 .bf16) (harg17 : arg17.IsWhole) (arg18 : Memref sig .tc .vmem S1024x128 .bf16) (harg18 : arg18.IsWhole) (arg19 : Memref sig .tc .vmem S1024x128 .bf16) (harg19 : arg19.IsWhole) (arg20 : Memref sig .tc .vmem S1024x512 .bf16) (harg20 : arg20.IsWhole) (arg21 : Memref sig .tc .vmem S16x512 .f32) (harg21 : arg21.IsWhole) (hc0 : ¬cond0_0 i)
    (x0 : Vec F S1024x1024 .f32) (x1 : Vec F S1x1x1024 .f32) (x2 : Vec F S1x1x1024 .f32) (x3 : Vec F S1x1024 .f32) (x4 : Vec F S1024x1280 .bf16) (x5 : Vec F S1x512 .f32) (x6 : Vec F S1x128 .f32) (x7 : Vec F S1024x32 .bf16) (x8 : Vec F S32x384 .bf16) (x9 : Vec F S1x128 .f32) (x10 : Vec F S256x256 .bf16) (x11 : Vec F S128x128 .bf16) (x12 : Vec F S2x256x256 .bf16) (x13 : Vec F S1x512 .f32) (x14 : Vec F S1x512 .f32) (xs0 : Vec F S16x512 .f32) (y : S1024x512.Idx) :
    ∃ pc ∈ (kernelRun0_B c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 hc0 x0 x1 x2 x3 x4 x5 x6 x7 x8 x9 x10 x11 x12 x13 x14 xs0).2.2.2.1, y ∈ pc.1.set :=
  View.cover_of_tiledL (kernelRun0_B c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 hc0 x0 x1 x2 x3 x4 x5 x6 x7 x8 x9 x10 x11 x12 x13 x14 xs0).2.2.2.1 S1024x512.size (by sl_kernel_rfl) y

/-- What the body leaves in the block of window 18, in case B. -/
def out0_B_18 (c : Dev nD) (i : grid0.Coords) (arg2 : Memref sig .tc .vmem S1024x1024 .f32) (harg2 : arg2.IsWhole) (arg3 : Memref sig .tc .vmem S1x1x1024 .f32) (harg3 : arg3.IsWhole) (arg4 : Memref sig .tc .vmem S1x1x1024 .f32) (harg4 : arg4.IsWhole) (arg5 : Memref sig .tc .vmem S1x1024 .f32) (harg5 : arg5.IsWhole) (arg6 : Memref sig .tc .vmem S1024x1280 .bf16) (harg6 : arg6.IsWhole) (arg7 : Memref sig .tc .vmem S1x512 .f32) (harg7 : arg7.IsWhole) (arg8 : Memref sig .tc .vmem S1x128 .f32) (harg8 : arg8.IsWhole) (arg9 : Memref sig .tc .vmem S1024x32 .bf16) (harg9 : arg9.IsWhole) (arg10 : Memref sig .tc .vmem S32x384 .bf16) (harg10 : arg10.IsWhole) (arg11 : Memref sig .tc .vmem S1x128 .f32) (harg11 : arg11.IsWhole) (arg12 : Memref sig .tc .vmem S256x256 .bf16) (harg12 : arg12.IsWhole) (arg13 : Memref sig .tc .vmem S128x128 .bf16) (harg13 : arg13.IsWhole) (arg14 : Memref sig .tc .vmem S2x256x256 .bf16) (harg14 : arg14.IsWhole) (arg15 : Memref sig .tc .vmem S1x512 .f32) (harg15 : arg15.IsWhole) (arg16 : Memref sig .tc .vmem S1x512 .f32) (harg16 : arg16.IsWhole) (arg17 : Memref sig .tc .vmem S1024x512 .bf16) (harg17 : arg17.IsWhole) (arg18 : Memref sig .tc .vmem S1024x128 .bf16) (harg18 : arg18.IsWhole) (arg19 : Memref sig .tc .vmem S1024x128 .bf16) (harg19 : arg19.IsWhole) (arg20 : Memref sig .tc .vmem S1024x512 .bf16) (harg20 : arg20.IsWhole) (arg21 : Memref sig .tc .vmem S16x512 .f32) (harg21 : arg21.IsWhole) (hc0 : ¬cond0_0 i)
    (x0 : Vec F S1024x1024 .f32) (x1 : Vec F S1x1x1024 .f32) (x2 : Vec F S1x1x1024 .f32) (x3 : Vec F S1x1024 .f32) (x4 : Vec F S1024x1280 .bf16) (x5 : Vec F S1x512 .f32) (x6 : Vec F S1x128 .f32) (x7 : Vec F S1024x32 .bf16) (x8 : Vec F S32x384 .bf16) (x9 : Vec F S1x128 .f32) (x10 : Vec F S256x256 .bf16) (x11 : Vec F S128x128 .bf16) (x12 : Vec F S2x256x256 .bf16) (x13 : Vec F S1x512 .f32) (x14 : Vec F S1x512 .f32) (xs0 : Vec F S16x512 .f32) : Vec F S1024x512 .bf16 :=
  VO0_18.read (Elt F) (VO0_18.writes (Elt F) VO0_18.junk (kernelRun0_B c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 hc0 x0 x1 x2 x3 x4 x5 x6 x7 x8 x9 x10 x11 x12 x13 x14 xs0).2.2.2.1)

/-- What the body stores into the carried rows covers them, in case B. -/
theorem scover0_B_0 (c : Dev nD) (i : grid0.Coords) (arg2 : Memref sig .tc .vmem S1024x1024 .f32) (harg2 : arg2.IsWhole) (arg3 : Memref sig .tc .vmem S1x1x1024 .f32) (harg3 : arg3.IsWhole) (arg4 : Memref sig .tc .vmem S1x1x1024 .f32) (harg4 : arg4.IsWhole) (arg5 : Memref sig .tc .vmem S1x1024 .f32) (harg5 : arg5.IsWhole) (arg6 : Memref sig .tc .vmem S1024x1280 .bf16) (harg6 : arg6.IsWhole) (arg7 : Memref sig .tc .vmem S1x512 .f32) (harg7 : arg7.IsWhole) (arg8 : Memref sig .tc .vmem S1x128 .f32) (harg8 : arg8.IsWhole) (arg9 : Memref sig .tc .vmem S1024x32 .bf16) (harg9 : arg9.IsWhole) (arg10 : Memref sig .tc .vmem S32x384 .bf16) (harg10 : arg10.IsWhole) (arg11 : Memref sig .tc .vmem S1x128 .f32) (harg11 : arg11.IsWhole) (arg12 : Memref sig .tc .vmem S256x256 .bf16) (harg12 : arg12.IsWhole) (arg13 : Memref sig .tc .vmem S128x128 .bf16) (harg13 : arg13.IsWhole) (arg14 : Memref sig .tc .vmem S2x256x256 .bf16) (harg14 : arg14.IsWhole) (arg15 : Memref sig .tc .vmem S1x512 .f32) (harg15 : arg15.IsWhole) (arg16 : Memref sig .tc .vmem S1x512 .f32) (harg16 : arg16.IsWhole) (arg17 : Memref sig .tc .vmem S1024x512 .bf16) (harg17 : arg17.IsWhole) (arg18 : Memref sig .tc .vmem S1024x128 .bf16) (harg18 : arg18.IsWhole) (arg19 : Memref sig .tc .vmem S1024x128 .bf16) (harg19 : arg19.IsWhole) (arg20 : Memref sig .tc .vmem S1024x512 .bf16) (harg20 : arg20.IsWhole) (arg21 : Memref sig .tc .vmem S16x512 .f32) (harg21 : arg21.IsWhole) (hc0 : ¬cond0_0 i)
    (x0 : Vec F S1024x1024 .f32) (x1 : Vec F S1x1x1024 .f32) (x2 : Vec F S1x1x1024 .f32) (x3 : Vec F S1x1024 .f32) (x4 : Vec F S1024x1280 .bf16) (x5 : Vec F S1x512 .f32) (x6 : Vec F S1x128 .f32) (x7 : Vec F S1024x32 .bf16) (x8 : Vec F S32x384 .bf16) (x9 : Vec F S1x128 .f32) (x10 : Vec F S256x256 .bf16) (x11 : Vec F S128x128 .bf16) (x12 : Vec F S2x256x256 .bf16) (x13 : Vec F S1x512 .f32) (x14 : Vec F S1x512 .f32) (xs0 : Vec F S16x512 .f32) (y : S16x512.Idx) :
    ∃ pc ∈ (kernelRun0_B c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 hc0 x0 x1 x2 x3 x4 x5 x6 x7 x8 x9 x10 x11 x12 x13 x14 xs0).2.2.2.2.1, y ∈ pc.1.set :=
  View.cover_of_tiledL (kernelRun0_B c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 hc0 x0 x1 x2 x3 x4 x5 x6 x7 x8 x9 x10 x11 x12 x13 x14 xs0).2.2.2.2.1 S16x512.size (by sl_kernel_rfl) y

/-- What the body leaves in the carried rows, in case B. -/
def sout0_B_0 (c : Dev nD) (i : grid0.Coords) (arg2 : Memref sig .tc .vmem S1024x1024 .f32) (harg2 : arg2.IsWhole) (arg3 : Memref sig .tc .vmem S1x1x1024 .f32) (harg3 : arg3.IsWhole) (arg4 : Memref sig .tc .vmem S1x1x1024 .f32) (harg4 : arg4.IsWhole) (arg5 : Memref sig .tc .vmem S1x1024 .f32) (harg5 : arg5.IsWhole) (arg6 : Memref sig .tc .vmem S1024x1280 .bf16) (harg6 : arg6.IsWhole) (arg7 : Memref sig .tc .vmem S1x512 .f32) (harg7 : arg7.IsWhole) (arg8 : Memref sig .tc .vmem S1x128 .f32) (harg8 : arg8.IsWhole) (arg9 : Memref sig .tc .vmem S1024x32 .bf16) (harg9 : arg9.IsWhole) (arg10 : Memref sig .tc .vmem S32x384 .bf16) (harg10 : arg10.IsWhole) (arg11 : Memref sig .tc .vmem S1x128 .f32) (harg11 : arg11.IsWhole) (arg12 : Memref sig .tc .vmem S256x256 .bf16) (harg12 : arg12.IsWhole) (arg13 : Memref sig .tc .vmem S128x128 .bf16) (harg13 : arg13.IsWhole) (arg14 : Memref sig .tc .vmem S2x256x256 .bf16) (harg14 : arg14.IsWhole) (arg15 : Memref sig .tc .vmem S1x512 .f32) (harg15 : arg15.IsWhole) (arg16 : Memref sig .tc .vmem S1x512 .f32) (harg16 : arg16.IsWhole) (arg17 : Memref sig .tc .vmem S1024x512 .bf16) (harg17 : arg17.IsWhole) (arg18 : Memref sig .tc .vmem S1024x128 .bf16) (harg18 : arg18.IsWhole) (arg19 : Memref sig .tc .vmem S1024x128 .bf16) (harg19 : arg19.IsWhole) (arg20 : Memref sig .tc .vmem S1024x512 .bf16) (harg20 : arg20.IsWhole) (arg21 : Memref sig .tc .vmem S16x512 .f32) (harg21 : arg21.IsWhole) (hc0 : ¬cond0_0 i)
    (x0 : Vec F S1024x1024 .f32) (x1 : Vec F S1x1x1024 .f32) (x2 : Vec F S1x1x1024 .f32) (x3 : Vec F S1x1024 .f32) (x4 : Vec F S1024x1280 .bf16) (x5 : Vec F S1x512 .f32) (x6 : Vec F S1x128 .f32) (x7 : Vec F S1024x32 .bf16) (x8 : Vec F S32x384 .bf16) (x9 : Vec F S1x128 .f32) (x10 : Vec F S256x256 .bf16) (x11 : Vec F S128x128 .bf16) (x12 : Vec F S2x256x256 .bf16) (x13 : Vec F S1x512 .f32) (x14 : Vec F S1x512 .f32) (xs0 : Vec F S16x512 .f32) : Vec F S16x512 .f32 :=
  VS0_0.read (Elt F) (VS0_0.writes (Elt F) VS0_0.junk (kernelRun0_B c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 hc0 x0 x1 x2 x3 x4 x5 x6 x7 x8 x9 x10 x11 x12 x13 x14 xs0).2.2.2.2.1)

/-- What the output blocks and the carried rows hold after each grid point, from the first on. -/
def outsAt0 (c : Dev nD) : (n : ℕ) → n < cfg0.N → Vec F S1024x512 .bf16 × Vec F S1024x128 .bf16 × Vec F S1024x128 .bf16 × Vec F S1024x512 .bf16 × Vec F S16x512 .f32
  | 0, hn => (out0_A_15 c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) (ms0_3 ⟨0, hn⟩) (hs0_3 ⟨0, hn⟩) (ms0_4 ⟨0, hn⟩) (hs0_4 ⟨0, hn⟩) (ms0_5 ⟨0, hn⟩) (hs0_5 ⟨0, hn⟩) (ms0_6 ⟨0, hn⟩) (hs0_6 ⟨0, hn⟩) (ms0_7 ⟨0, hn⟩) (hs0_7 ⟨0, hn⟩) (ms0_8 ⟨0, hn⟩) (hs0_8 ⟨0, hn⟩) (ms0_9 ⟨0, hn⟩) (hs0_9 ⟨0, hn⟩) (ms0_10 ⟨0, hn⟩) (hs0_10 ⟨0, hn⟩) (ms0_11 ⟨0, hn⟩) (hs0_11 ⟨0, hn⟩) (ms0_12 ⟨0, hn⟩) (hs0_12 ⟨0, hn⟩) (ms0_13 ⟨0, hn⟩) (hs0_13 ⟨0, hn⟩) (ms0_14 ⟨0, hn⟩) (hs0_14 ⟨0, hn⟩) (ms0_15 ⟨0, hn⟩) (hs0_15 ⟨0, hn⟩) (ms0_16 ⟨0, hn⟩) (hs0_16 ⟨0, hn⟩) (ms0_17 ⟨0, hn⟩) (hs0_17 ⟨0, hn⟩) (ms0_18 ⟨0, hn⟩) (hs0_18 ⟨0, hn⟩) scM0_0 (Memref.isWhole_whole _) ((hcond0_0 ⟨0, hn⟩).mpr (Nat.zero_mod _)) (iblk m c 0 ⟨0, hn⟩) (iblk m c 1 ⟨0, hn⟩) (iblk m c 2 ⟨0, hn⟩) (iblk m c 3 ⟨0, hn⟩) (iblk m c 4 ⟨0, hn⟩) (iblk m c 5 ⟨0, hn⟩) (iblk m c 6 ⟨0, hn⟩) (iblk m c 7 ⟨0, hn⟩) (iblk m c 8 ⟨0, hn⟩) (iblk m c 9 ⟨0, hn⟩) (iblk m c 10 ⟨0, hn⟩) (iblk m c 11 ⟨0, hn⟩) (iblk m c 12 ⟨0, hn⟩) (iblk m c 13 ⟨0, hn⟩) (iblk m c 14 ⟨0, hn⟩), out0_A_16 c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) (ms0_3 ⟨0, hn⟩) (hs0_3 ⟨0, hn⟩) (ms0_4 ⟨0, hn⟩) (hs0_4 ⟨0, hn⟩) (ms0_5 ⟨0, hn⟩) (hs0_5 ⟨0, hn⟩) (ms0_6 ⟨0, hn⟩) (hs0_6 ⟨0, hn⟩) (ms0_7 ⟨0, hn⟩) (hs0_7 ⟨0, hn⟩) (ms0_8 ⟨0, hn⟩) (hs0_8 ⟨0, hn⟩) (ms0_9 ⟨0, hn⟩) (hs0_9 ⟨0, hn⟩) (ms0_10 ⟨0, hn⟩) (hs0_10 ⟨0, hn⟩) (ms0_11 ⟨0, hn⟩) (hs0_11 ⟨0, hn⟩) (ms0_12 ⟨0, hn⟩) (hs0_12 ⟨0, hn⟩) (ms0_13 ⟨0, hn⟩) (hs0_13 ⟨0, hn⟩) (ms0_14 ⟨0, hn⟩) (hs0_14 ⟨0, hn⟩) (ms0_15 ⟨0, hn⟩) (hs0_15 ⟨0, hn⟩) (ms0_16 ⟨0, hn⟩) (hs0_16 ⟨0, hn⟩) (ms0_17 ⟨0, hn⟩) (hs0_17 ⟨0, hn⟩) (ms0_18 ⟨0, hn⟩) (hs0_18 ⟨0, hn⟩) scM0_0 (Memref.isWhole_whole _) ((hcond0_0 ⟨0, hn⟩).mpr (Nat.zero_mod _)) (iblk m c 0 ⟨0, hn⟩) (iblk m c 1 ⟨0, hn⟩) (iblk m c 2 ⟨0, hn⟩) (iblk m c 3 ⟨0, hn⟩) (iblk m c 4 ⟨0, hn⟩) (iblk m c 5 ⟨0, hn⟩) (iblk m c 6 ⟨0, hn⟩) (iblk m c 7 ⟨0, hn⟩) (iblk m c 8 ⟨0, hn⟩) (iblk m c 9 ⟨0, hn⟩) (iblk m c 10 ⟨0, hn⟩) (iblk m c 11 ⟨0, hn⟩) (iblk m c 12 ⟨0, hn⟩) (iblk m c 13 ⟨0, hn⟩) (iblk m c 14 ⟨0, hn⟩), out0_A_17 c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) (ms0_3 ⟨0, hn⟩) (hs0_3 ⟨0, hn⟩) (ms0_4 ⟨0, hn⟩) (hs0_4 ⟨0, hn⟩) (ms0_5 ⟨0, hn⟩) (hs0_5 ⟨0, hn⟩) (ms0_6 ⟨0, hn⟩) (hs0_6 ⟨0, hn⟩) (ms0_7 ⟨0, hn⟩) (hs0_7 ⟨0, hn⟩) (ms0_8 ⟨0, hn⟩) (hs0_8 ⟨0, hn⟩) (ms0_9 ⟨0, hn⟩) (hs0_9 ⟨0, hn⟩) (ms0_10 ⟨0, hn⟩) (hs0_10 ⟨0, hn⟩) (ms0_11 ⟨0, hn⟩) (hs0_11 ⟨0, hn⟩) (ms0_12 ⟨0, hn⟩) (hs0_12 ⟨0, hn⟩) (ms0_13 ⟨0, hn⟩) (hs0_13 ⟨0, hn⟩) (ms0_14 ⟨0, hn⟩) (hs0_14 ⟨0, hn⟩) (ms0_15 ⟨0, hn⟩) (hs0_15 ⟨0, hn⟩) (ms0_16 ⟨0, hn⟩) (hs0_16 ⟨0, hn⟩) (ms0_17 ⟨0, hn⟩) (hs0_17 ⟨0, hn⟩) (ms0_18 ⟨0, hn⟩) (hs0_18 ⟨0, hn⟩) scM0_0 (Memref.isWhole_whole _) ((hcond0_0 ⟨0, hn⟩).mpr (Nat.zero_mod _)) (iblk m c 0 ⟨0, hn⟩) (iblk m c 1 ⟨0, hn⟩) (iblk m c 2 ⟨0, hn⟩) (iblk m c 3 ⟨0, hn⟩) (iblk m c 4 ⟨0, hn⟩) (iblk m c 5 ⟨0, hn⟩) (iblk m c 6 ⟨0, hn⟩) (iblk m c 7 ⟨0, hn⟩) (iblk m c 8 ⟨0, hn⟩) (iblk m c 9 ⟨0, hn⟩) (iblk m c 10 ⟨0, hn⟩) (iblk m c 11 ⟨0, hn⟩) (iblk m c 12 ⟨0, hn⟩) (iblk m c 13 ⟨0, hn⟩) (iblk m c 14 ⟨0, hn⟩), out0_A_18 c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) (ms0_3 ⟨0, hn⟩) (hs0_3 ⟨0, hn⟩) (ms0_4 ⟨0, hn⟩) (hs0_4 ⟨0, hn⟩) (ms0_5 ⟨0, hn⟩) (hs0_5 ⟨0, hn⟩) (ms0_6 ⟨0, hn⟩) (hs0_6 ⟨0, hn⟩) (ms0_7 ⟨0, hn⟩) (hs0_7 ⟨0, hn⟩) (ms0_8 ⟨0, hn⟩) (hs0_8 ⟨0, hn⟩) (ms0_9 ⟨0, hn⟩) (hs0_9 ⟨0, hn⟩) (ms0_10 ⟨0, hn⟩) (hs0_10 ⟨0, hn⟩) (ms0_11 ⟨0, hn⟩) (hs0_11 ⟨0, hn⟩) (ms0_12 ⟨0, hn⟩) (hs0_12 ⟨0, hn⟩) (ms0_13 ⟨0, hn⟩) (hs0_13 ⟨0, hn⟩) (ms0_14 ⟨0, hn⟩) (hs0_14 ⟨0, hn⟩) (ms0_15 ⟨0, hn⟩) (hs0_15 ⟨0, hn⟩) (ms0_16 ⟨0, hn⟩) (hs0_16 ⟨0, hn⟩) (ms0_17 ⟨0, hn⟩) (hs0_17 ⟨0, hn⟩) (ms0_18 ⟨0, hn⟩) (hs0_18 ⟨0, hn⟩) scM0_0 (Memref.isWhole_whole _) ((hcond0_0 ⟨0, hn⟩).mpr (Nat.zero_mod _)) (iblk m c 0 ⟨0, hn⟩) (iblk m c 1 ⟨0, hn⟩) (iblk m c 2 ⟨0, hn⟩) (iblk m c 3 ⟨0, hn⟩) (iblk m c 4 ⟨0, hn⟩) (iblk m c 5 ⟨0, hn⟩) (iblk m c 6 ⟨0, hn⟩) (iblk m c 7 ⟨0, hn⟩) (iblk m c 8 ⟨0, hn⟩) (iblk m c 9 ⟨0, hn⟩) (iblk m c 10 ⟨0, hn⟩) (iblk m c 11 ⟨0, hn⟩) (iblk m c 12 ⟨0, hn⟩) (iblk m c 13 ⟨0, hn⟩) (iblk m c 14 ⟨0, hn⟩), sout0_A_0 c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) (ms0_3 ⟨0, hn⟩) (hs0_3 ⟨0, hn⟩) (ms0_4 ⟨0, hn⟩) (hs0_4 ⟨0, hn⟩) (ms0_5 ⟨0, hn⟩) (hs0_5 ⟨0, hn⟩) (ms0_6 ⟨0, hn⟩) (hs0_6 ⟨0, hn⟩) (ms0_7 ⟨0, hn⟩) (hs0_7 ⟨0, hn⟩) (ms0_8 ⟨0, hn⟩) (hs0_8 ⟨0, hn⟩) (ms0_9 ⟨0, hn⟩) (hs0_9 ⟨0, hn⟩) (ms0_10 ⟨0, hn⟩) (hs0_10 ⟨0, hn⟩) (ms0_11 ⟨0, hn⟩) (hs0_11 ⟨0, hn⟩) (ms0_12 ⟨0, hn⟩) (hs0_12 ⟨0, hn⟩) (ms0_13 ⟨0, hn⟩) (hs0_13 ⟨0, hn⟩) (ms0_14 ⟨0, hn⟩) (hs0_14 ⟨0, hn⟩) (ms0_15 ⟨0, hn⟩) (hs0_15 ⟨0, hn⟩) (ms0_16 ⟨0, hn⟩) (hs0_16 ⟨0, hn⟩) (ms0_17 ⟨0, hn⟩) (hs0_17 ⟨0, hn⟩) (ms0_18 ⟨0, hn⟩) (hs0_18 ⟨0, hn⟩) scM0_0 (Memref.isWhole_whole _) ((hcond0_0 ⟨0, hn⟩).mpr (Nat.zero_mod _)) (iblk m c 0 ⟨0, hn⟩) (iblk m c 1 ⟨0, hn⟩) (iblk m c 2 ⟨0, hn⟩) (iblk m c 3 ⟨0, hn⟩) (iblk m c 4 ⟨0, hn⟩) (iblk m c 5 ⟨0, hn⟩) (iblk m c 6 ⟨0, hn⟩) (iblk m c 7 ⟨0, hn⟩) (iblk m c 8 ⟨0, hn⟩) (iblk m c 9 ⟨0, hn⟩) (iblk m c 10 ⟨0, hn⟩) (iblk m c 11 ⟨0, hn⟩) (iblk m c 12 ⟨0, hn⟩) (iblk m c 13 ⟨0, hn⟩) (iblk m c 14 ⟨0, hn⟩))
  | n + 1, hn =>
    if h0 : (n + 1) % 8 = 0 then
      (out0_A_15 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) (ms0_8 ⟨n + 1, hn⟩) (hs0_8 ⟨n + 1, hn⟩) (ms0_9 ⟨n + 1, hn⟩) (hs0_9 ⟨n + 1, hn⟩) (ms0_10 ⟨n + 1, hn⟩) (hs0_10 ⟨n + 1, hn⟩) (ms0_11 ⟨n + 1, hn⟩) (hs0_11 ⟨n + 1, hn⟩) (ms0_12 ⟨n + 1, hn⟩) (hs0_12 ⟨n + 1, hn⟩) (ms0_13 ⟨n + 1, hn⟩) (hs0_13 ⟨n + 1, hn⟩) (ms0_14 ⟨n + 1, hn⟩) (hs0_14 ⟨n + 1, hn⟩) (ms0_15 ⟨n + 1, hn⟩) (hs0_15 ⟨n + 1, hn⟩) (ms0_16 ⟨n + 1, hn⟩) (hs0_16 ⟨n + 1, hn⟩) (ms0_17 ⟨n + 1, hn⟩) (hs0_17 ⟨n + 1, hn⟩) (ms0_18 ⟨n + 1, hn⟩) (hs0_18 ⟨n + 1, hn⟩) scM0_0 (Memref.isWhole_whole _) ((hcond0_0 ⟨n + 1, hn⟩).mpr h0) (iblk m c 0 ⟨n + 1, hn⟩) (iblk m c 1 ⟨n + 1, hn⟩) (iblk m c 2 ⟨n + 1, hn⟩) (iblk m c 3 ⟨n + 1, hn⟩) (iblk m c 4 ⟨n + 1, hn⟩) (iblk m c 5 ⟨n + 1, hn⟩) (iblk m c 6 ⟨n + 1, hn⟩) (iblk m c 7 ⟨n + 1, hn⟩) (iblk m c 8 ⟨n + 1, hn⟩) (iblk m c 9 ⟨n + 1, hn⟩) (iblk m c 10 ⟨n + 1, hn⟩) (iblk m c 11 ⟨n + 1, hn⟩) (iblk m c 12 ⟨n + 1, hn⟩) (iblk m c 13 ⟨n + 1, hn⟩) (iblk m c 14 ⟨n + 1, hn⟩), out0_A_16 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) (ms0_8 ⟨n + 1, hn⟩) (hs0_8 ⟨n + 1, hn⟩) (ms0_9 ⟨n + 1, hn⟩) (hs0_9 ⟨n + 1, hn⟩) (ms0_10 ⟨n + 1, hn⟩) (hs0_10 ⟨n + 1, hn⟩) (ms0_11 ⟨n + 1, hn⟩) (hs0_11 ⟨n + 1, hn⟩) (ms0_12 ⟨n + 1, hn⟩) (hs0_12 ⟨n + 1, hn⟩) (ms0_13 ⟨n + 1, hn⟩) (hs0_13 ⟨n + 1, hn⟩) (ms0_14 ⟨n + 1, hn⟩) (hs0_14 ⟨n + 1, hn⟩) (ms0_15 ⟨n + 1, hn⟩) (hs0_15 ⟨n + 1, hn⟩) (ms0_16 ⟨n + 1, hn⟩) (hs0_16 ⟨n + 1, hn⟩) (ms0_17 ⟨n + 1, hn⟩) (hs0_17 ⟨n + 1, hn⟩) (ms0_18 ⟨n + 1, hn⟩) (hs0_18 ⟨n + 1, hn⟩) scM0_0 (Memref.isWhole_whole _) ((hcond0_0 ⟨n + 1, hn⟩).mpr h0) (iblk m c 0 ⟨n + 1, hn⟩) (iblk m c 1 ⟨n + 1, hn⟩) (iblk m c 2 ⟨n + 1, hn⟩) (iblk m c 3 ⟨n + 1, hn⟩) (iblk m c 4 ⟨n + 1, hn⟩) (iblk m c 5 ⟨n + 1, hn⟩) (iblk m c 6 ⟨n + 1, hn⟩) (iblk m c 7 ⟨n + 1, hn⟩) (iblk m c 8 ⟨n + 1, hn⟩) (iblk m c 9 ⟨n + 1, hn⟩) (iblk m c 10 ⟨n + 1, hn⟩) (iblk m c 11 ⟨n + 1, hn⟩) (iblk m c 12 ⟨n + 1, hn⟩) (iblk m c 13 ⟨n + 1, hn⟩) (iblk m c 14 ⟨n + 1, hn⟩), out0_A_17 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) (ms0_8 ⟨n + 1, hn⟩) (hs0_8 ⟨n + 1, hn⟩) (ms0_9 ⟨n + 1, hn⟩) (hs0_9 ⟨n + 1, hn⟩) (ms0_10 ⟨n + 1, hn⟩) (hs0_10 ⟨n + 1, hn⟩) (ms0_11 ⟨n + 1, hn⟩) (hs0_11 ⟨n + 1, hn⟩) (ms0_12 ⟨n + 1, hn⟩) (hs0_12 ⟨n + 1, hn⟩) (ms0_13 ⟨n + 1, hn⟩) (hs0_13 ⟨n + 1, hn⟩) (ms0_14 ⟨n + 1, hn⟩) (hs0_14 ⟨n + 1, hn⟩) (ms0_15 ⟨n + 1, hn⟩) (hs0_15 ⟨n + 1, hn⟩) (ms0_16 ⟨n + 1, hn⟩) (hs0_16 ⟨n + 1, hn⟩) (ms0_17 ⟨n + 1, hn⟩) (hs0_17 ⟨n + 1, hn⟩) (ms0_18 ⟨n + 1, hn⟩) (hs0_18 ⟨n + 1, hn⟩) scM0_0 (Memref.isWhole_whole _) ((hcond0_0 ⟨n + 1, hn⟩).mpr h0) (iblk m c 0 ⟨n + 1, hn⟩) (iblk m c 1 ⟨n + 1, hn⟩) (iblk m c 2 ⟨n + 1, hn⟩) (iblk m c 3 ⟨n + 1, hn⟩) (iblk m c 4 ⟨n + 1, hn⟩) (iblk m c 5 ⟨n + 1, hn⟩) (iblk m c 6 ⟨n + 1, hn⟩) (iblk m c 7 ⟨n + 1, hn⟩) (iblk m c 8 ⟨n + 1, hn⟩) (iblk m c 9 ⟨n + 1, hn⟩) (iblk m c 10 ⟨n + 1, hn⟩) (iblk m c 11 ⟨n + 1, hn⟩) (iblk m c 12 ⟨n + 1, hn⟩) (iblk m c 13 ⟨n + 1, hn⟩) (iblk m c 14 ⟨n + 1, hn⟩), out0_A_18 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) (ms0_8 ⟨n + 1, hn⟩) (hs0_8 ⟨n + 1, hn⟩) (ms0_9 ⟨n + 1, hn⟩) (hs0_9 ⟨n + 1, hn⟩) (ms0_10 ⟨n + 1, hn⟩) (hs0_10 ⟨n + 1, hn⟩) (ms0_11 ⟨n + 1, hn⟩) (hs0_11 ⟨n + 1, hn⟩) (ms0_12 ⟨n + 1, hn⟩) (hs0_12 ⟨n + 1, hn⟩) (ms0_13 ⟨n + 1, hn⟩) (hs0_13 ⟨n + 1, hn⟩) (ms0_14 ⟨n + 1, hn⟩) (hs0_14 ⟨n + 1, hn⟩) (ms0_15 ⟨n + 1, hn⟩) (hs0_15 ⟨n + 1, hn⟩) (ms0_16 ⟨n + 1, hn⟩) (hs0_16 ⟨n + 1, hn⟩) (ms0_17 ⟨n + 1, hn⟩) (hs0_17 ⟨n + 1, hn⟩) (ms0_18 ⟨n + 1, hn⟩) (hs0_18 ⟨n + 1, hn⟩) scM0_0 (Memref.isWhole_whole _) ((hcond0_0 ⟨n + 1, hn⟩).mpr h0) (iblk m c 0 ⟨n + 1, hn⟩) (iblk m c 1 ⟨n + 1, hn⟩) (iblk m c 2 ⟨n + 1, hn⟩) (iblk m c 3 ⟨n + 1, hn⟩) (iblk m c 4 ⟨n + 1, hn⟩) (iblk m c 5 ⟨n + 1, hn⟩) (iblk m c 6 ⟨n + 1, hn⟩) (iblk m c 7 ⟨n + 1, hn⟩) (iblk m c 8 ⟨n + 1, hn⟩) (iblk m c 9 ⟨n + 1, hn⟩) (iblk m c 10 ⟨n + 1, hn⟩) (iblk m c 11 ⟨n + 1, hn⟩) (iblk m c 12 ⟨n + 1, hn⟩) (iblk m c 13 ⟨n + 1, hn⟩) (iblk m c 14 ⟨n + 1, hn⟩), sout0_A_0 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) (ms0_8 ⟨n + 1, hn⟩) (hs0_8 ⟨n + 1, hn⟩) (ms0_9 ⟨n + 1, hn⟩) (hs0_9 ⟨n + 1, hn⟩) (ms0_10 ⟨n + 1, hn⟩) (hs0_10 ⟨n + 1, hn⟩) (ms0_11 ⟨n + 1, hn⟩) (hs0_11 ⟨n + 1, hn⟩) (ms0_12 ⟨n + 1, hn⟩) (hs0_12 ⟨n + 1, hn⟩) (ms0_13 ⟨n + 1, hn⟩) (hs0_13 ⟨n + 1, hn⟩) (ms0_14 ⟨n + 1, hn⟩) (hs0_14 ⟨n + 1, hn⟩) (ms0_15 ⟨n + 1, hn⟩) (hs0_15 ⟨n + 1, hn⟩) (ms0_16 ⟨n + 1, hn⟩) (hs0_16 ⟨n + 1, hn⟩) (ms0_17 ⟨n + 1, hn⟩) (hs0_17 ⟨n + 1, hn⟩) (ms0_18 ⟨n + 1, hn⟩) (hs0_18 ⟨n + 1, hn⟩) scM0_0 (Memref.isWhole_whole _) ((hcond0_0 ⟨n + 1, hn⟩).mpr h0) (iblk m c 0 ⟨n + 1, hn⟩) (iblk m c 1 ⟨n + 1, hn⟩) (iblk m c 2 ⟨n + 1, hn⟩) (iblk m c 3 ⟨n + 1, hn⟩) (iblk m c 4 ⟨n + 1, hn⟩) (iblk m c 5 ⟨n + 1, hn⟩) (iblk m c 6 ⟨n + 1, hn⟩) (iblk m c 7 ⟨n + 1, hn⟩) (iblk m c 8 ⟨n + 1, hn⟩) (iblk m c 9 ⟨n + 1, hn⟩) (iblk m c 10 ⟨n + 1, hn⟩) (iblk m c 11 ⟨n + 1, hn⟩) (iblk m c 12 ⟨n + 1, hn⟩) (iblk m c 13 ⟨n + 1, hn⟩) (iblk m c 14 ⟨n + 1, hn⟩))
    else
      (out0_B_15 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) (ms0_8 ⟨n + 1, hn⟩) (hs0_8 ⟨n + 1, hn⟩) (ms0_9 ⟨n + 1, hn⟩) (hs0_9 ⟨n + 1, hn⟩) (ms0_10 ⟨n + 1, hn⟩) (hs0_10 ⟨n + 1, hn⟩) (ms0_11 ⟨n + 1, hn⟩) (hs0_11 ⟨n + 1, hn⟩) (ms0_12 ⟨n + 1, hn⟩) (hs0_12 ⟨n + 1, hn⟩) (ms0_13 ⟨n + 1, hn⟩) (hs0_13 ⟨n + 1, hn⟩) (ms0_14 ⟨n + 1, hn⟩) (hs0_14 ⟨n + 1, hn⟩) (ms0_15 ⟨n + 1, hn⟩) (hs0_15 ⟨n + 1, hn⟩) (ms0_16 ⟨n + 1, hn⟩) (hs0_16 ⟨n + 1, hn⟩) (ms0_17 ⟨n + 1, hn⟩) (hs0_17 ⟨n + 1, hn⟩) (ms0_18 ⟨n + 1, hn⟩) (hs0_18 ⟨n + 1, hn⟩) scM0_0 (Memref.isWhole_whole _) (fun h => h0 ((hcond0_0 ⟨n + 1, hn⟩).mp h)) (iblk m c 0 ⟨n + 1, hn⟩) (iblk m c 1 ⟨n + 1, hn⟩) (iblk m c 2 ⟨n + 1, hn⟩) (iblk m c 3 ⟨n + 1, hn⟩) (iblk m c 4 ⟨n + 1, hn⟩) (iblk m c 5 ⟨n + 1, hn⟩) (iblk m c 6 ⟨n + 1, hn⟩) (iblk m c 7 ⟨n + 1, hn⟩) (iblk m c 8 ⟨n + 1, hn⟩) (iblk m c 9 ⟨n + 1, hn⟩) (iblk m c 10 ⟨n + 1, hn⟩) (iblk m c 11 ⟨n + 1, hn⟩) (iblk m c 12 ⟨n + 1, hn⟩) (iblk m c 13 ⟨n + 1, hn⟩) (iblk m c 14 ⟨n + 1, hn⟩) (outsAt0 c n (Nat.lt_of_succ_lt hn)).2.2.2.2, out0_B_16 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) (ms0_8 ⟨n + 1, hn⟩) (hs0_8 ⟨n + 1, hn⟩) (ms0_9 ⟨n + 1, hn⟩) (hs0_9 ⟨n + 1, hn⟩) (ms0_10 ⟨n + 1, hn⟩) (hs0_10 ⟨n + 1, hn⟩) (ms0_11 ⟨n + 1, hn⟩) (hs0_11 ⟨n + 1, hn⟩) (ms0_12 ⟨n + 1, hn⟩) (hs0_12 ⟨n + 1, hn⟩) (ms0_13 ⟨n + 1, hn⟩) (hs0_13 ⟨n + 1, hn⟩) (ms0_14 ⟨n + 1, hn⟩) (hs0_14 ⟨n + 1, hn⟩) (ms0_15 ⟨n + 1, hn⟩) (hs0_15 ⟨n + 1, hn⟩) (ms0_16 ⟨n + 1, hn⟩) (hs0_16 ⟨n + 1, hn⟩) (ms0_17 ⟨n + 1, hn⟩) (hs0_17 ⟨n + 1, hn⟩) (ms0_18 ⟨n + 1, hn⟩) (hs0_18 ⟨n + 1, hn⟩) scM0_0 (Memref.isWhole_whole _) (fun h => h0 ((hcond0_0 ⟨n + 1, hn⟩).mp h)) (iblk m c 0 ⟨n + 1, hn⟩) (iblk m c 1 ⟨n + 1, hn⟩) (iblk m c 2 ⟨n + 1, hn⟩) (iblk m c 3 ⟨n + 1, hn⟩) (iblk m c 4 ⟨n + 1, hn⟩) (iblk m c 5 ⟨n + 1, hn⟩) (iblk m c 6 ⟨n + 1, hn⟩) (iblk m c 7 ⟨n + 1, hn⟩) (iblk m c 8 ⟨n + 1, hn⟩) (iblk m c 9 ⟨n + 1, hn⟩) (iblk m c 10 ⟨n + 1, hn⟩) (iblk m c 11 ⟨n + 1, hn⟩) (iblk m c 12 ⟨n + 1, hn⟩) (iblk m c 13 ⟨n + 1, hn⟩) (iblk m c 14 ⟨n + 1, hn⟩) (outsAt0 c n (Nat.lt_of_succ_lt hn)).2.2.2.2, out0_B_17 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) (ms0_8 ⟨n + 1, hn⟩) (hs0_8 ⟨n + 1, hn⟩) (ms0_9 ⟨n + 1, hn⟩) (hs0_9 ⟨n + 1, hn⟩) (ms0_10 ⟨n + 1, hn⟩) (hs0_10 ⟨n + 1, hn⟩) (ms0_11 ⟨n + 1, hn⟩) (hs0_11 ⟨n + 1, hn⟩) (ms0_12 ⟨n + 1, hn⟩) (hs0_12 ⟨n + 1, hn⟩) (ms0_13 ⟨n + 1, hn⟩) (hs0_13 ⟨n + 1, hn⟩) (ms0_14 ⟨n + 1, hn⟩) (hs0_14 ⟨n + 1, hn⟩) (ms0_15 ⟨n + 1, hn⟩) (hs0_15 ⟨n + 1, hn⟩) (ms0_16 ⟨n + 1, hn⟩) (hs0_16 ⟨n + 1, hn⟩) (ms0_17 ⟨n + 1, hn⟩) (hs0_17 ⟨n + 1, hn⟩) (ms0_18 ⟨n + 1, hn⟩) (hs0_18 ⟨n + 1, hn⟩) scM0_0 (Memref.isWhole_whole _) (fun h => h0 ((hcond0_0 ⟨n + 1, hn⟩).mp h)) (iblk m c 0 ⟨n + 1, hn⟩) (iblk m c 1 ⟨n + 1, hn⟩) (iblk m c 2 ⟨n + 1, hn⟩) (iblk m c 3 ⟨n + 1, hn⟩) (iblk m c 4 ⟨n + 1, hn⟩) (iblk m c 5 ⟨n + 1, hn⟩) (iblk m c 6 ⟨n + 1, hn⟩) (iblk m c 7 ⟨n + 1, hn⟩) (iblk m c 8 ⟨n + 1, hn⟩) (iblk m c 9 ⟨n + 1, hn⟩) (iblk m c 10 ⟨n + 1, hn⟩) (iblk m c 11 ⟨n + 1, hn⟩) (iblk m c 12 ⟨n + 1, hn⟩) (iblk m c 13 ⟨n + 1, hn⟩) (iblk m c 14 ⟨n + 1, hn⟩) (outsAt0 c n (Nat.lt_of_succ_lt hn)).2.2.2.2, out0_B_18 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) (ms0_8 ⟨n + 1, hn⟩) (hs0_8 ⟨n + 1, hn⟩) (ms0_9 ⟨n + 1, hn⟩) (hs0_9 ⟨n + 1, hn⟩) (ms0_10 ⟨n + 1, hn⟩) (hs0_10 ⟨n + 1, hn⟩) (ms0_11 ⟨n + 1, hn⟩) (hs0_11 ⟨n + 1, hn⟩) (ms0_12 ⟨n + 1, hn⟩) (hs0_12 ⟨n + 1, hn⟩) (ms0_13 ⟨n + 1, hn⟩) (hs0_13 ⟨n + 1, hn⟩) (ms0_14 ⟨n + 1, hn⟩) (hs0_14 ⟨n + 1, hn⟩) (ms0_15 ⟨n + 1, hn⟩) (hs0_15 ⟨n + 1, hn⟩) (ms0_16 ⟨n + 1, hn⟩) (hs0_16 ⟨n + 1, hn⟩) (ms0_17 ⟨n + 1, hn⟩) (hs0_17 ⟨n + 1, hn⟩) (ms0_18 ⟨n + 1, hn⟩) (hs0_18 ⟨n + 1, hn⟩) scM0_0 (Memref.isWhole_whole _) (fun h => h0 ((hcond0_0 ⟨n + 1, hn⟩).mp h)) (iblk m c 0 ⟨n + 1, hn⟩) (iblk m c 1 ⟨n + 1, hn⟩) (iblk m c 2 ⟨n + 1, hn⟩) (iblk m c 3 ⟨n + 1, hn⟩) (iblk m c 4 ⟨n + 1, hn⟩) (iblk m c 5 ⟨n + 1, hn⟩) (iblk m c 6 ⟨n + 1, hn⟩) (iblk m c 7 ⟨n + 1, hn⟩) (iblk m c 8 ⟨n + 1, hn⟩) (iblk m c 9 ⟨n + 1, hn⟩) (iblk m c 10 ⟨n + 1, hn⟩) (iblk m c 11 ⟨n + 1, hn⟩) (iblk m c 12 ⟨n + 1, hn⟩) (iblk m c 13 ⟨n + 1, hn⟩) (iblk m c 14 ⟨n + 1, hn⟩) (outsAt0 c n (Nat.lt_of_succ_lt hn)).2.2.2.2, sout0_B_0 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) (ms0_8 ⟨n + 1, hn⟩) (hs0_8 ⟨n + 1, hn⟩) (ms0_9 ⟨n + 1, hn⟩) (hs0_9 ⟨n + 1, hn⟩) (ms0_10 ⟨n + 1, hn⟩) (hs0_10 ⟨n + 1, hn⟩) (ms0_11 ⟨n + 1, hn⟩) (hs0_11 ⟨n + 1, hn⟩) (ms0_12 ⟨n + 1, hn⟩) (hs0_12 ⟨n + 1, hn⟩) (ms0_13 ⟨n + 1, hn⟩) (hs0_13 ⟨n + 1, hn⟩) (ms0_14 ⟨n + 1, hn⟩) (hs0_14 ⟨n + 1, hn⟩) (ms0_15 ⟨n + 1, hn⟩) (hs0_15 ⟨n + 1, hn⟩) (ms0_16 ⟨n + 1, hn⟩) (hs0_16 ⟨n + 1, hn⟩) (ms0_17 ⟨n + 1, hn⟩) (hs0_17 ⟨n + 1, hn⟩) (ms0_18 ⟨n + 1, hn⟩) (hs0_18 ⟨n + 1, hn⟩) scM0_0 (Memref.isWhole_whole _) (fun h => h0 ((hcond0_0 ⟨n + 1, hn⟩).mp h)) (iblk m c 0 ⟨n + 1, hn⟩) (iblk m c 1 ⟨n + 1, hn⟩) (iblk m c 2 ⟨n + 1, hn⟩) (iblk m c 3 ⟨n + 1, hn⟩) (iblk m c 4 ⟨n + 1, hn⟩) (iblk m c 5 ⟨n + 1, hn⟩) (iblk m c 6 ⟨n + 1, hn⟩) (iblk m c 7 ⟨n + 1, hn⟩) (iblk m c 8 ⟨n + 1, hn⟩) (iblk m c 9 ⟨n + 1, hn⟩) (iblk m c 10 ⟨n + 1, hn⟩) (iblk m c 11 ⟨n + 1, hn⟩) (iblk m c 12 ⟨n + 1, hn⟩) (iblk m c 13 ⟨n + 1, hn⟩) (iblk m c 14 ⟨n + 1, hn⟩) (outsAt0 c n (Nat.lt_of_succ_lt hn)).2.2.2.2)

/-- At a point that opens a sequence. -/
theorem outsAt0_A (c : Dev nD) (t : Fin cfg0.N) (h0 : t.val % 8 = 0) :
    outsAt0 m c t.val t.isLt = (out0_A_15 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) (ms0_16 t) (hs0_16 t) (ms0_17 t) (hs0_17 t) (ms0_18 t) (hs0_18 t) scM0_0 (Memref.isWhole_whole _) ((hcond0_0 t).mpr h0) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t), out0_A_16 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) (ms0_16 t) (hs0_16 t) (ms0_17 t) (hs0_17 t) (ms0_18 t) (hs0_18 t) scM0_0 (Memref.isWhole_whole _) ((hcond0_0 t).mpr h0) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t), out0_A_17 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) (ms0_16 t) (hs0_16 t) (ms0_17 t) (hs0_17 t) (ms0_18 t) (hs0_18 t) scM0_0 (Memref.isWhole_whole _) ((hcond0_0 t).mpr h0) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t), out0_A_18 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) (ms0_16 t) (hs0_16 t) (ms0_17 t) (hs0_17 t) (ms0_18 t) (hs0_18 t) scM0_0 (Memref.isWhole_whole _) ((hcond0_0 t).mpr h0) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t), sout0_A_0 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) (ms0_16 t) (hs0_16 t) (ms0_17 t) (hs0_17 t) (ms0_18 t) (hs0_18 t) scM0_0 (Memref.isWhole_whole _) ((hcond0_0 t).mpr h0) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t)) := by
  obtain ⟨n, hn⟩ := t
  cases n with
  | zero => exact rfl
  | succ n => exact (dif_pos h0).trans rfl

/-- At any other point, over what the point before left. -/
theorem outsAt0_B (c : Dev nD) (t : Fin cfg0.N) (h0 : ¬t.val % 8 = 0) :
    outsAt0 m c t.val t.isLt = (out0_B_15 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) (ms0_16 t) (hs0_16 t) (ms0_17 t) (hs0_17 t) (ms0_18 t) (hs0_18 t) scM0_0 (Memref.isWhole_whole _) (fun h => h0 ((hcond0_0 t).mp h)) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (outsAt0 m c (t.val - 1) (Nat.lt_of_le_of_lt (Nat.sub_le _ _) t.isLt)).2.2.2.2, out0_B_16 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) (ms0_16 t) (hs0_16 t) (ms0_17 t) (hs0_17 t) (ms0_18 t) (hs0_18 t) scM0_0 (Memref.isWhole_whole _) (fun h => h0 ((hcond0_0 t).mp h)) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (outsAt0 m c (t.val - 1) (Nat.lt_of_le_of_lt (Nat.sub_le _ _) t.isLt)).2.2.2.2, out0_B_17 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) (ms0_16 t) (hs0_16 t) (ms0_17 t) (hs0_17 t) (ms0_18 t) (hs0_18 t) scM0_0 (Memref.isWhole_whole _) (fun h => h0 ((hcond0_0 t).mp h)) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (outsAt0 m c (t.val - 1) (Nat.lt_of_le_of_lt (Nat.sub_le _ _) t.isLt)).2.2.2.2, out0_B_18 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) (ms0_16 t) (hs0_16 t) (ms0_17 t) (hs0_17 t) (ms0_18 t) (hs0_18 t) scM0_0 (Memref.isWhole_whole _) (fun h => h0 ((hcond0_0 t).mp h)) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (outsAt0 m c (t.val - 1) (Nat.lt_of_le_of_lt (Nat.sub_le _ _) t.isLt)).2.2.2.2, sout0_B_0 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) (ms0_16 t) (hs0_16 t) (ms0_17 t) (hs0_17 t) (ms0_18 t) (hs0_18 t) scM0_0 (Memref.isWhole_whole _) (fun h => h0 ((hcond0_0 t).mp h)) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (outsAt0 m c (t.val - 1) (Nat.lt_of_le_of_lt (Nat.sub_le _ _) t.isLt)).2.2.2.2) := by
  obtain ⟨n, hn⟩ := t
  cases n with
  | zero => exact (by exfalso; (try dsimp only at h0); exact absurd (Nat.zero_mod _) h0)
  | succ n => exact (dif_neg h0).trans rfl

/-- What holds of the carried rows before a point: anything before the first, what the point before left afterwards. -/
def PhiS (c : Dev nD) : (n : ℕ) → n ≤ cfg0.N → sProp 𝕄
  | 0, _ => Pipeline.ΦA spec0 c
  | n + 1, hn => iprop(iprop(owns (c : Thread nD τ) scM0_0 fullShare ((outsAt0 m c n hn).2.2.2.2)) ∗ (∃ r, prngReg c r))

/-- Before the first point. -/
theorem PhiS_zero (c : Dev nD) (n : ℕ) (h : n ≤ cfg0.N) (hz : n = 0) : PhiS m c n h = Pipeline.ΦA spec0 c := by
  subst hz; rfl

/-- After a point. -/
theorem PhiS_succ (c : Dev nD) (n : ℕ) (hn : n < cfg0.N) :
    PhiS m c (n + 1) hn = iprop(iprop(owns (c : Thread nD τ) scM0_0 fullShare ((outsAt0 m c n hn).2.2.2.2)) ∗ (∃ r, prngReg c r)) := rfl

/-- Before a point that is not the first. -/
theorem PhiS_pos (c : Dev nD) (n : ℕ) (h : n ≤ cfg0.N) (hz : n ≠ 0) :
    PhiS m c n h = iprop(iprop(owns (c : Thread nD τ) scM0_0 fullShare ((outsAt0 m c (n - 1) (by omega)).2.2.2.2)) ∗ (∃ r, prngReg c r)) := by
  cases n with
  | zero => exact absurd rfl hz
  | succ n => rfl

/-- The data of the pipelined run: the arrays, and what each point leaves in the blocks. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, _⟩ => iblk m c 7 t
    | ⟨8, _⟩ => iblk m c 8 t
    | ⟨9, _⟩ => iblk m c 9 t
    | ⟨10, _⟩ => iblk m c 10 t
    | ⟨11, _⟩ => iblk m c 11 t
    | ⟨12, _⟩ => iblk m c 12 t
    | ⟨13, _⟩ => iblk m c 13 t
    | ⟨14, _⟩ => iblk m c 14 t
    | ⟨15, _⟩ => (outsAt0 m c t.val t.isLt).1
    | ⟨16, _⟩ => (outsAt0 m c t.val t.isLt).2.1
    | ⟨17, _⟩ => (outsAt0 m c t.val t.isLt).2.2.1
    | ⟨18, _⟩ => (outsAt0 m c t.val t.isLt).2.2.2.1
    | ⟨_ + 19, h⟩ => absurd h (Nat.not_lt.2 (Nat.le_add_left _ _))
  Φ t := PhiS m c t.val (Nat.le_of_lt_succ t.isLt)
  q _ := fullShare
  owed _ := 0

/-- The arrays are those at the call. -/
theorem A_eq (c : Dev nD) (w : Fin cfg0.W) : (dats m 0 c).A w = V m c (Pipeline.arrRef spec0 w) := by
  dsimp only [dats]

/-- What holds at the start of a point. -/
theorem PhiS_castSucc (c : Dev nD) (t : Fin cfg0.N) :
    (dats m 0 c).Φ t.castSucc = PhiS m c t.val (Nat.le_of_lt t.isLt) := by
  dsimp only [dats]; exact Pipeline.Dat.Φ_castSucc (PhiS m c) t

/-- What a point leaves in the block of window 0. -/
theorem after0_0 (c : Dev nD) (t : Fin cfg0.N) : (dats m 0 c).after 0 t = iblk m c 0 t := by dsimp only [dats]
/-- What a point leaves in the block of window 1. -/
theorem after0_1 (c : Dev nD) (t : Fin cfg0.N) : (dats m 0 c).after 1 t = iblk m c 1 t := by dsimp only [dats]
/-- What a point leaves in the block of window 2. -/
theorem after0_2 (c : Dev nD) (t : Fin cfg0.N) : (dats m 0 c).after 2 t = iblk m c 2 t := by dsimp only [dats]
/-- What a point leaves in the block of window 3. -/
theorem after0_3 (c : Dev nD) (t : Fin cfg0.N) : (dats m 0 c).after 3 t = iblk m c 3 t := by dsimp only [dats]
/-- What a point leaves in the block of window 4. -/
theorem after0_4 (c : Dev nD) (t : Fin cfg0.N) : (dats m 0 c).after 4 t = iblk m c 4 t := by dsimp only [dats]
/-- What a point leaves in the block of window 5. -/
theorem after0_5 (c : Dev nD) (t : Fin cfg0.N) : (dats m 0 c).after 5 t = iblk m c 5 t := by dsimp only [dats]
/-- What a point leaves in the block of window 6. -/
theorem after0_6 (c : Dev nD) (t : Fin cfg0.N) : (dats m 0 c).after 6 t = iblk m c 6 t := by dsimp only [dats]
/-- What a point leaves in the block of window 7. -/
theorem after0_7 (c : Dev nD) (t : Fin cfg0.N) : (dats m 0 c).after 7 t = iblk m c 7 t := by dsimp only [dats]
/-- What a point leaves in the block of window 8. -/
theorem after0_8 (c : Dev nD) (t : Fin cfg0.N) : (dats m 0 c).after 8 t = iblk m c 8 t := by dsimp only [dats]
/-- What a point leaves in the block of window 9. -/
theorem after0_9 (c : Dev nD) (t : Fin cfg0.N) : (dats m 0 c).after 9 t = iblk m c 9 t := by dsimp only [dats]
/-- What a point leaves in the block of window 10. -/
theorem after0_10 (c : Dev nD) (t : Fin cfg0.N) : (dats m 0 c).after 10 t = iblk m c 10 t := by dsimp only [dats]
/-- What a point leaves in the block of window 11. -/
theorem after0_11 (c : Dev nD) (t : Fin cfg0.N) : (dats m 0 c).after 11 t = iblk m c 11 t := by dsimp only [dats]
/-- What a point leaves in the block of window 12. -/
theorem after0_12 (c : Dev nD) (t : Fin cfg0.N) : (dats m 0 c).after 12 t = iblk m c 12 t := by dsimp only [dats]
/-- What a point leaves in the block of window 13. -/
theorem after0_13 (c : Dev nD) (t : Fin cfg0.N) : (dats m 0 c).after 13 t = iblk m c 13 t := by dsimp only [dats]
/-- What a point leaves in the block of window 14. -/
theorem after0_14 (c : Dev nD) (t : Fin cfg0.N) : (dats m 0 c).after 14 t = iblk m c 14 t := by dsimp only [dats]
/-- What a point leaves in the block of window 15. -/
theorem after0_15 (c : Dev nD) (t : Fin cfg0.N) : (dats m 0 c).after 15 t = (outsAt0 m c t.val t.isLt).1 := by dsimp only [dats]
/-- What a point leaves in the block of window 16. -/
theorem after0_16 (c : Dev nD) (t : Fin cfg0.N) : (dats m 0 c).after 16 t = (outsAt0 m c t.val t.isLt).2.1 := by dsimp only [dats]
/-- What a point leaves in the block of window 17. -/
theorem after0_17 (c : Dev nD) (t : Fin cfg0.N) : (dats m 0 c).after 17 t = (outsAt0 m c t.val t.isLt).2.2.1 := by dsimp only [dats]
/-- What a point leaves in the block of window 18. -/
theorem after0_18 (c : Dev nD) (t : Fin cfg0.N) : (dats m 0 c).after 18 t = (outsAt0 m c t.val t.isLt).2.2.2.1 := by dsimp only [dats]

/-- What a point finds in the block of window 0. -/
theorem before0_0 (c : Dev nD) (t : Fin cfg0.N) (d) : (dats m 0 c).before 0 t d = iblk m c 0 t :=
  before0_0_of m (dats m 0 c) (A_eq m c 0) (after0_0 m c) t d
/-- What a point finds in the block of window 1. -/
theorem before0_1 (c : Dev nD) (t : Fin cfg0.N) (d) : (dats m 0 c).before 1 t d = iblk m c 1 t :=
  before0_1_of m (dats m 0 c) (A_eq m c 1) (after0_1 m c) t d
/-- What a point finds in the block of window 2. -/
theorem before0_2 (c : Dev nD) (t : Fin cfg0.N) (d) : (dats m 0 c).before 2 t d = iblk m c 2 t :=
  before0_2_of m (dats m 0 c) (A_eq m c 2) (after0_2 m c) t d
/-- What a point finds in the block of window 3. -/
theorem before0_3 (c : Dev nD) (t : Fin cfg0.N) (d) : (dats m 0 c).before 3 t d = iblk m c 3 t :=
  before0_3_of m (dats m 0 c) (A_eq m c 3) (after0_3 m c) t d
/-- What a point finds in the block of window 4. -/
theorem before0_4 (c : Dev nD) (t : Fin cfg0.N) (d) : (dats m 0 c).before 4 t d = iblk m c 4 t :=
  before0_4_of m (dats m 0 c) (A_eq m c 4) (after0_4 m c) t d
/-- What a point finds in the block of window 5. -/
theorem before0_5 (c : Dev nD) (t : Fin cfg0.N) (d) : (dats m 0 c).before 5 t d = iblk m c 5 t :=
  before0_5_of m (dats m 0 c) (A_eq m c 5) (after0_5 m c) t d
/-- What a point finds in the block of window 6. -/
theorem before0_6 (c : Dev nD) (t : Fin cfg0.N) (d) : (dats m 0 c).before 6 t d = iblk m c 6 t :=
  before0_6_of m (dats m 0 c) (A_eq m c 6) (after0_6 m c) t d
/-- What a point finds in the block of window 7. -/
theorem before0_7 (c : Dev nD) (t : Fin cfg0.N) (d) : (dats m 0 c).before 7 t d = iblk m c 7 t :=
  before0_7_of m (dats m 0 c) (A_eq m c 7) (after0_7 m c) t d
/-- What a point finds in the block of window 8. -/
theorem before0_8 (c : Dev nD) (t : Fin cfg0.N) (d) : (dats m 0 c).before 8 t d = iblk m c 8 t :=
  before0_8_of m (dats m 0 c) (A_eq m c 8) (after0_8 m c) t d
/-- What a point finds in the block of window 9. -/
theorem before0_9 (c : Dev nD) (t : Fin cfg0.N) (d) : (dats m 0 c).before 9 t d = iblk m c 9 t :=
  before0_9_of m (dats m 0 c) (A_eq m c 9) (after0_9 m c) t d
/-- What a point finds in the block of window 10. -/
theorem before0_10 (c : Dev nD) (t : Fin cfg0.N) (d) : (dats m 0 c).before 10 t d = iblk m c 10 t :=
  before0_10_of m (dats m 0 c) (A_eq m c 10) (after0_10 m c) t d
/-- What a point finds in the block of window 11. -/
theorem before0_11 (c : Dev nD) (t : Fin cfg0.N) (d) : (dats m 0 c).before 11 t d = iblk m c 11 t :=
  before0_11_of m (dats m 0 c) (A_eq m c 11) (after0_11 m c) t d
/-- What a point finds in the block of window 12. -/
theorem before0_12 (c : Dev nD) (t : Fin cfg0.N) (d) : (dats m 0 c).before 12 t d = iblk m c 12 t :=
  before0_12_of m (dats m 0 c) (A_eq m c 12) (after0_12 m c) t d
/-- What a point finds in the block of window 13. -/
theorem before0_13 (c : Dev nD) (t : Fin cfg0.N) (d) : (dats m 0 c).before 13 t d = iblk m c 13 t :=
  before0_13_of m (dats m 0 c) (A_eq m c 13) (after0_13 m c) t d
/-- What a point finds in the block of window 14. -/
theorem before0_14 (c : Dev nD) (t : Fin cfg0.N) (d) : (dats m 0 c).before 14 t d = iblk m c 14 t :=
  before0_14_of m (dats m 0 c) (A_eq m c 14) (after0_14 m c) t d

/-- What the body is called with. -/
def bodyPre (c : Dev nD) (t : Fin cfg0.N) : sProp 𝕄 :=
  iprop((dats m 0 c).Φ t.castSucc ∗ (dats m 0 c).owesAt () t.castSucc
    ∗ (∃ d, owns (c : Thread nD τ) (ms0_0 t) fullShare ((dats m 0 c).before 0 t d))
    ∗ (∃ d, owns (c : Thread nD τ) (ms0_1 t) fullShare ((dats m 0 c).before 1 t d))
    ∗ (∃ d, owns (c : Thread nD τ) (ms0_2 t) fullShare ((dats m 0 c).before 2 t d))
    ∗ (∃ d, owns (c : Thread nD τ) (ms0_3 t) fullShare ((dats m 0 c).before 3 t d))
    ∗ (∃ d, owns (c : Thread nD τ) (ms0_4 t) fullShare ((dats m 0 c).before 4 t d))
    ∗ (∃ d, owns (c : Thread nD τ) (ms0_5 t) fullShare ((dats m 0 c).before 5 t d))
    ∗ (∃ d, owns (c : Thread nD τ) (ms0_6 t) fullShare ((dats m 0 c).before 6 t d))
    ∗ (∃ d, owns (c : Thread nD τ) (ms0_7 t) fullShare ((dats m 0 c).before 7 t d))
    ∗ (∃ d, owns (c : Thread nD τ) (ms0_8 t) fullShare ((dats m 0 c).before 8 t d))
    ∗ (∃ d, owns (c : Thread nD τ) (ms0_9 t) fullShare ((dats m 0 c).before 9 t d))
    ∗ (∃ d, owns (c : Thread nD τ) (ms0_10 t) fullShare ((dats m 0 c).before 10 t d))
    ∗ (∃ d, owns (c : Thread nD τ) (ms0_11 t) fullShare ((dats m 0 c).before 11 t d))
    ∗ (∃ d, owns (c : Thread nD τ) (ms0_12 t) fullShare ((dats m 0 c).before 12 t d))
    ∗ (∃ d, owns (c : Thread nD τ) (ms0_13 t) fullShare ((dats m 0 c).before 13 t d))
    ∗ (∃ d, owns (c : Thread nD τ) (ms0_14 t) fullShare ((dats m 0 c).before 14 t d))
    ∗ (∃ d, owns (c : Thread nD τ) (ms0_15 t) fullShare ((dats m 0 c).before 15 t d))
    ∗ (∃ d, owns (c : Thread nD τ) (ms0_16 t) fullShare ((dats m 0 c).before 16 t d))
    ∗ (∃ d, owns (c : Thread nD τ) (ms0_17 t) fullShare ((dats m 0 c).before 17 t d))
    ∗ (∃ d, owns (c : Thread nD τ) (ms0_18 t) fullShare ((dats m 0 c).before 18 t d)))

/-- What it returns. -/
def bodyPost (c : Dev nD) (t : Fin cfg0.N) : sProp 𝕄 :=
  iprop((dats m 0 c).Φ t.succ ∗ (dats m 0 c).owesAt () t.succ
    ∗ owns (c : Thread nD τ) (ms0_0 t) fullShare ((dats m 0 c).after 0 t)
    ∗ owns (c : Thread nD τ) (ms0_1 t) fullShare ((dats m 0 c).after 1 t)
    ∗ owns (c : Thread nD τ) (ms0_2 t) fullShare ((dats m 0 c).after 2 t)
    ∗ owns (c : Thread nD τ) (ms0_3 t) fullShare ((dats m 0 c).after 3 t)
    ∗ owns (c : Thread nD τ) (ms0_4 t) fullShare ((dats m 0 c).after 4 t)
    ∗ owns (c : Thread nD τ) (ms0_5 t) fullShare ((dats m 0 c).after 5 t)
    ∗ owns (c : Thread nD τ) (ms0_6 t) fullShare ((dats m 0 c).after 6 t)
    ∗ owns (c : Thread nD τ) (ms0_7 t) fullShare ((dats m 0 c).after 7 t)
    ∗ owns (c : Thread nD τ) (ms0_8 t) fullShare ((dats m 0 c).after 8 t)
    ∗ owns (c : Thread nD τ) (ms0_9 t) fullShare ((dats m 0 c).after 9 t)
    ∗ owns (c : Thread nD τ) (ms0_10 t) fullShare ((dats m 0 c).after 10 t)
    ∗ owns (c : Thread nD τ) (ms0_11 t) fullShare ((dats m 0 c).after 11 t)
    ∗ owns (c : Thread nD τ) (ms0_12 t) fullShare ((dats m 0 c).after 12 t)
    ∗ owns (c : Thread nD τ) (ms0_13 t) fullShare ((dats m 0 c).after 13 t)
    ∗ owns (c : Thread nD τ) (ms0_14 t) fullShare ((dats m 0 c).after 14 t)
    ∗ owns (c : Thread nD τ) (ms0_15 t) fullShare ((dats m 0 c).after 15 t)
    ∗ owns (c : Thread nD τ) (ms0_16 t) fullShare ((dats m 0 c).after 16 t)
    ∗ owns (c : Thread nD τ) (ms0_17 t) fullShare ((dats m 0 c).after 17 t)
    ∗ owns (c : Thread nD τ) (ms0_18 t) fullShare ((dats m 0 c).after 18 t))

set_option maxHeartbeats 16000000 in

/-- The body at any point meets what the run asks of it. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1, before0_2, before0_3, before0_4, before0_5, before0_6, before0_7, before0_8, before0_9, before0_10, before0_11, before0_12, before0_13, before0_14]
  rw [show (dats m 0 c).owesAt () t.succ = (dats m 0 c).owesAt () t.castSucc from rfl,
    after0_0, after0_1, after0_2, after0_3, after0_4, after0_5, after0_6, after0_7, after0_8, after0_9, after0_10, after0_11, after0_12, after0_13, after0_14, after0_15, after0_16, after0_17, after0_18]
  rw [show (dats m 0 c).Φ t.succ = PhiS m c (t.val + 1) t.isLt from rfl, PhiS_succ]
  have hN : t.val < 64 := lt_of_lt_of_eq t.isLt (show cfg0.N = 64 from N_0)
  by_cases h0 : t.val % 8 = 0
  · by_cases hz : t.val = 0
    · rw [PhiS_castSucc m c t, PhiS_zero m c _ _ hz, PhiA0_eq]
      rw [outsAt0_A m c t h0]
      unfold out0_A_15 out0_A_16 out0_A_17 out0_A_18 sout0_A_0; (try dsimp only)
      iintro ⟨⟨HS0, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩, ⟨%d13, H13⟩, ⟨%d14, H14⟩, ⟨%d15, H15⟩, ⟨%d16, H16⟩, ⟨%d17, H17⟩, ⟨%d18, H18⟩⟩
      iapply ((kernelRun0_A c (grid0.coords t) _ _ _ _ _ _ _ _ _ _ _ _ _ _ _ _ _ _ _ _ _ _ _ _ _ _ _ _ _ _ _ _ _ _ _ _ _ _ _ _ ((hcond0_0 t).mpr h0) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t)).2.2.2.2.2 Set.univ _)
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      isplitl [H8]; · iexact H8
      isplitl [H9]; · iexact H9
      isplitl [H10]; · iexact H10
      isplitl [H11]; · iexact H11
      isplitl [H12]; · iexact H12
      isplitl [H13]; · iexact H13
      isplitl [H14]; · iexact H14
      isplitl [H15]; · iexists _; iexact H15
      isplitl [H16]; · iexists _; iexact H16
      isplitl [H17]; · iexists _; iexact H17
      isplitl [H18]; · iexists _; iexact H18
      isplitl [HS0]; · iexact HS0
      iintro ⟨H0, H1, H2, H3, H4, H5, H6, H7, H8, H9, H10, H11, H12, H13, H14, ⟨%e15, H15⟩, ⟨%e16, H16⟩, ⟨%e17, H17⟩, ⟨%e18, H18⟩, ⟨%es0, HS0⟩⟩
      isplitl [HS0 Hg]
      · isplitl [HS0]
        · unfold owns; iexists _; isplitr
          swap; · iexact HS0
          ipureintro; exact View.read_writes_of_cover _ _ _ _ _ (scover0_A_0 c _ _ _ _ _ _ _ _ _ _ _ _ _ _ _ _ _ _ _ _ _ _ _ _ _ _ _ _ _ _ _ _ _ _ _ _ _ _ _ _ _ _ _ _ _ _ _ _ _ _ _ _ _ _ _ _ _)
        iexact Hg
      isplitl [Ho]; · iexact Ho
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      isplitl [H8]; · iexact H8
      isplitl [H9]; · iexact H9
      isplitl [H10]; · iexact H10
      isplitl [H11]; · iexact H11
      isplitl [H12]; · iexact H12
      isplitl [H13]; · iexact H13
      isplitl [H14]; · iexact H14
      isplitl [H15]
      · unfold owns; iexists _; isplitr
        swap; · iexact H15
        ipureintro; exact View.read_writes_of_cover _ _ _ _ _ (cover0_A_15 c _ _ _ _ _ _ _ _ _ _ _ _ _ _ _ _ _ _ _ _ _ _ _ _ _ _ _ _ _ _ _ _ _ _ _ _ _ _ _ _ _ _ _ _ _ _ _ _ _ _ _ _ _ _ _ _ _)
      isplitl [H16]
      · unfold owns; iexists _; isplitr
        swap; · iexact H16
        ipureintro; exact View.read_writes_of_cover _ _ _ _ _ (cover0_A_16 c _ _ _ _ _ _ _ _ _ _ _ _ _ _ _ _ _ _ _ _ _ _ _ _ _ _ _ _ _ _ _ _ _ _ _ _ _ _ _ _ _ _ _ _ _ _ _ _ _ _ _ _ _ _ _ _ _)
      isplitl [H17]
      · unfold owns; iexists _; isplitr
        swap; · iexact H17
        ipureintro; exact View.read_writes_of_cover _ _ _ _ _ (cover0_A_17 c _ _ _ _ _ _ _ _ _ _ _ _ _ _ _ _ _ _ _ _ _ _ _ _ _ _ _ _ _ _ _ _ _ _ _ _ _ _ _ _ _ _ _ _ _ _ _ _ _ _ _ _ _ _ _ _ _)
      unfold owns; iexists _; isplitr
      swap; · iexact H18
      ipureintro; exact View.read_writes_of_cover _ _ _ _ _ (cover0_A_18 c _ _ _ _ _ _ _ _ _ _ _ _ _ _ _ _ _ _ _ _ _ _ _ _ _ _ _ _ _ _ _ _ _ _ _ _ _ _ _ _ _ _ _ _ _ _ _ _ _ _ _ _ _ _ _ _ _)
    · rw [PhiS_castSucc m c t, PhiS_pos m c _ _ hz]
      rw [outsAt0_A m c t h0]
      unfold out0_A_15 out0_A_16 out0_A_17 out0_A_18 sout0_A_0; (try dsimp only)
      iintro ⟨⟨HS0, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩, ⟨%d13, H13⟩, ⟨%d14, H14⟩, ⟨%d15, H15⟩, ⟨%d16, H16⟩, ⟨%d17, H17⟩, ⟨%d18, H18⟩⟩
      iapply ((kernelRun0_A c (grid0.coords t) _ _ _ _ _ _ _ _ _ _ _ _ _ _ _ _ _ _ _ _ _ _ _ _ _ _ _ _ _ _ _ _ _ _ _ _ _ _ _ _ ((hcond0_0 t).mpr h0) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t)).2.2.2.2.2 Set.univ _)
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      isplitl [H8]; · iexact H8
      isplitl [H9]; · iexact H9
      isplitl [H10]; · iexact H10
      isplitl [H11]; · iexact H11
      isplitl [H12]; · iexact H12
      isplitl [H13]; · iexact H13
      isplitl [H14]; · iexact H14
      isplitl [H15]; · iexists _; iexact H15
      isplitl [H16]; · iexists _; iexact H16
      isplitl [H17]; · iexists _; iexact H17
      isplitl [H18]; · iexists _; iexact H18
      isplitl [HS0]; · iexists _; iexact HS0
      iintro ⟨H0, H1, H2, H3, H4, H5, H6, H7, H8, H9, H10, H11, H12, H13, H14, ⟨%e15, H15⟩, ⟨%e16, H16⟩, ⟨%e17, H17⟩, ⟨%e18, H18⟩, ⟨%es0, HS0⟩⟩
      isplitl [HS0 Hg]
      · isplitl [HS0]
        · unfold owns; iexists _; isplitr
          swap; · iexact HS0
          ipureintro; exact View.read_writes_of_cover _ _ _ _ _ (scover0_A_0 c _ _ _ _ _ _ _ _ _ _ _ _ _ _ _ _ _ _ _ _ _ _ _ _ _ _ _ _ _ _ _ _ _ _ _ _ _ _ _ _ _ _ _ _ _ _ _ _ _ _ _ _ _ _ _ _ _)
        iexact Hg
      isplitl [Ho]; · iexact Ho
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      isplitl [H8]; · iexact H8
      isplitl [H9]; · iexact H9
      isplitl [H10]; · iexact H10
      isplitl [H11]; · iexact H11
      isplitl [H12]; · iexact H12
      isplitl [H13]; · iexact H13
      isplitl [H14]; · iexact H14
      isplitl [H15]
      · unfold owns; iexists _; isplitr
        swap; · iexact H15
        ipureintro; exact View.read_writes_of_cover _ _ _ _ _ (cover0_A_15 c _ _ _ _ _ _ _ _ _ _ _ _ _ _ _ _ _ _ _ _ _ _ _ _ _ _ _ _ _ _ _ _ _ _ _ _ _ _ _ _ _ _ _ _ _ _ _ _ _ _ _ _ _ _ _ _ _)
      isplitl [H16]
      · unfold owns; iexists _; isplitr
        swap; · iexact H16
        ipureintro; exact View.read_writes_of_cover _ _ _ _ _ (cover0_A_16 c _ _ _ _ _ _ _ _ _ _ _ _ _ _ _ _ _ _ _ _ _ _ _ _ _ _ _ _ _ _ _ _ _ _ _ _ _ _ _ _ _ _ _ _ _ _ _ _ _ _ _ _ _ _ _ _ _)
      isplitl [H17]
      · unfold owns; iexists _; isplitr
        swap; · iexact H17
        ipureintro; exact View.read_writes_of_cover _ _ _ _ _ (cover0_A_17 c _ _ _ _ _ _ _ _ _ _ _ _ _ _ _ _ _ _ _ _ _ _ _ _ _ _ _ _ _ _ _ _ _ _ _ _ _ _ _ _ _ _ _ _ _ _ _ _ _ _ _ _ _ _ _ _ _)
      unfold owns; iexists _; isplitr
      swap; · iexact H18
      ipureintro; exact View.read_writes_of_cover _ _ _ _ _ (cover0_A_18 c _ _ _ _ _ _ _ _ _ _ _ _ _ _ _ _ _ _ _ _ _ _ _ _ _ _ _ _ _ _ _ _ _ _ _ _ _ _ _ _ _ _ _ _ _ _ _ _ _ _ _ _ _ _ _ _ _)
  · by_cases hz : t.val = 0
    · exfalso; have hN : t.val < 64 := lt_of_lt_of_eq t.isLt (show cfg0.N = 64 from N_0); omega
    · rw [PhiS_castSucc m c t, PhiS_pos m c _ _ hz]
      rw [outsAt0_B m c t h0]
      unfold out0_B_15 out0_B_16 out0_B_17 out0_B_18 sout0_B_0; (try dsimp only)
      iintro ⟨⟨HS0, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩, ⟨%d13, H13⟩, ⟨%d14, H14⟩, ⟨%d15, H15⟩, ⟨%d16, H16⟩, ⟨%d17, H17⟩, ⟨%d18, H18⟩⟩
      iapply ((kernelRun0_B c (grid0.coords t) _ _ _ _ _ _ _ _ _ _ _ _ _ _ _ _ _ _ _ _ _ _ _ _ _ _ _ _ _ _ _ _ _ _ _ _ _ _ _ _ (fun h => h0 ((hcond0_0 t).mp h)) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) _).2.2.2.2.2 Set.univ _)
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      isplitl [H8]; · iexact H8
      isplitl [H9]; · iexact H9
      isplitl [H10]; · iexact H10
      isplitl [H11]; · iexact H11
      isplitl [H12]; · iexact H12
      isplitl [H13]; · iexact H13
      isplitl [H14]; · iexact H14
      isplitl [H15]; · iexists _; iexact H15
      isplitl [H16]; · iexists _; iexact H16
      isplitl [H17]; · iexists _; iexact H17
      isplitl [H18]; · iexists _; iexact H18
      isplitl [HS0]; · iexact HS0
      iintro ⟨H0, H1, H2, H3, H4, H5, H6, H7, H8, H9, H10, H11, H12, H13, H14, ⟨%e15, H15⟩, ⟨%e16, H16⟩, ⟨%e17, H17⟩, ⟨%e18, H18⟩, ⟨%es0, HS0⟩⟩
      isplitl [HS0 Hg]
      · isplitl [HS0]
        · unfold owns; iexists _; isplitr
          swap; · iexact HS0
          ipureintro; exact View.read_writes_of_cover _ _ _ _ _ (scover0_B_0 c _ _ _ _ _ _ _ _ _ _ _ _ _ _ _ _ _ _ _ _ _ _ _ _ _ _ _ _ _ _ _ _ _ _ _ _ _ _ _ _ _ _ _ _ _ _ _ _ _ _ _ _ _ _ _ _ _ _)
        iexact Hg
      isplitl [Ho]; · iexact Ho
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      isplitl [H8]; · iexact H8
      isplitl [H9]; · iexact H9
      isplitl [H10]; · iexact H10
      isplitl [H11]; · iexact H11
      isplitl [H12]; · iexact H12
      isplitl [H13]; · iexact H13
      isplitl [H14]; · iexact H14
      isplitl [H15]
      · unfold owns; iexists _; isplitr
        swap; · iexact H15
        ipureintro; exact View.read_writes_of_cover _ _ _ _ _ (cover0_B_15 c _ _ _ _ _ _ _ _ _ _ _ _ _ _ _ _ _ _ _ _ _ _ _ _ _ _ _ _ _ _ _ _ _ _ _ _ _ _ _ _ _ _ _ _ _ _ _ _ _ _ _ _ _ _ _ _ _ _)
      isplitl [H16]
      · unfold owns; iexists _; isplitr
        swap; · iexact H16
        ipureintro; exact View.read_writes_of_cover _ _ _ _ _ (cover0_B_16 c _ _ _ _ _ _ _ _ _ _ _ _ _ _ _ _ _ _ _ _ _ _ _ _ _ _ _ _ _ _ _ _ _ _ _ _ _ _ _ _ _ _ _ _ _ _ _ _ _ _ _ _ _ _ _ _ _ _)
      isplitl [H17]
      · unfold owns; iexists _; isplitr
        swap; · iexact H17
        ipureintro; exact View.read_writes_of_cover _ _ _ _ _ (cover0_B_17 c _ _ _ _ _ _ _ _ _ _ _ _ _ _ _ _ _ _ _ _ _ _ _ _ _ _ _ _ _ _ _ _ _ _ _ _ _ _ _ _ _ _ _ _ _ _ _ _ _ _ _ _ _ _ _ _ _ _)
      unfold owns; iexists _; isplitr
      swap; · iexact H18
      ipureintro; exact View.read_writes_of_cover _ _ _ _ _ (cover0_B_18 c _ _ _ _ _ _ _ _ _ _ _ _ _ _ _ _ _ _ _ _ _ _ _ _ _ _ _ _ _ _ _ _ _ _ _ _ _ _ _ _ _ _ _ _ _ _ _ _ _ _ _ _ _ _ _ _ _ _)

/-- The body's row in the table of functions. -/
theorem defs₀_row (t : Fin cfg0.N) :
    defs₀ (F := F) .tc cfg0.body (cfg0.bodyArgs t (cfg0.slots t)) = bodyAt0 t := by
  unfold defs₀; rw [Defs.onTc_tc]

/-- The same, as the run states it. -/
theorem body_obligation (c : Dev nD) : BodyObligation (dats (F := F) m 0 c) (defs₀ (F := F)) Variants.none () Set.univ := fun t => by
  rw [bigSep_W0, bigSep_W0, defs₀_row]
  exact triple_restated (sound_body m c t) rfl .rfl fun _ => .rfl

/-- What the launch gives is what holds before the first point. -/
theorem hin (c : Dev nD) : Pipeline.ΦA spec0 c ⊢ (dats m 0 c).Φ 0 := by
  rw [show (dats m 0 c).Φ 0 = PhiS m c 0 (Nat.zero_le _) from rfl, PhiS_zero m c 0 _ rfl]
  try exact Idealize.SL.BI.Entails.refl _

/-- After any point but the first nothing more is owed. -/
theorem Phi_out (c : Dev nD) (t : Fin (cfg0.N + 1)) (ht : t.val ≠ 0) : (dats m 0 c).Φ t ⊢ Pipeline.ΦA spec0 c := by
  rw [show (dats m 0 c).Φ t = PhiS m c t.val (Nat.le_of_lt_succ t.isLt) from rfl, PhiS_pos m c _ _ ht, PhiA0_eq]
  iintro ⟨HS0, Hg⟩
  isplitl [HS0]
  · iexists _; iexact HS0
  iexact Hg

/-- And after the last. -/
theorem hout (c : Dev nD) : (dats m 0 c).Φ (Fin.last cfg0.N) ⊢ Pipeline.ΦA spec0 c :=
  Phi_out m c _ (by rw [Fin.val_last]; have : cfg0.N = 64 := N_0; omega)

set_option backward.isDefEq.respectTransparency.types false in

/-- The program runs to its end, the arrays as the data says and every counter at zero. -/
theorem run_main_quiescent : θ_run defs (onTc (τ := τ) (main (F := F))) (s₀ m ρ) (fun r => (Pipeline.FramePost cfgs (dats m) 0 (V m)) r ∧ r.2.sem = fun _ => 0) :=
  Pipeline.θ_run_frame_track (Q' := _) cfgs (dats m) (0 : Fin 1) launch0 defs₀ Variants.none m ρ main
    (hbody := fun c => (body_obligation m c).loose) (hshare := fun c => (dats m 0 c).share_full fun _ => rfl)
    (howed := fun _ _ => rfl) (V := V m) (hmain := hmain m Variants.none) (hA := A_eq m) (hin := hin m) (hout := hout m)

/-- The program runs to its end, the arrays as the data says. -/
theorem run_main : θ_run defs (onTc (τ := τ) (main (F := F))) (s₀ m ρ) (Pipeline.FramePost cfgs (dats m) 0 (V m)) :=
  (θ_run defs _ _).mono (fun _ h => h.1) (run_main_quiescent m ρ)

/-- Its arguments end as they began. -/
theorem unchanged : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)) :=
  frame_of m ρ (dats m) (A_eq m) (run_main m ρ)

/-- Its arguments end as they began, and every counter is at zero. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10))
      ∧ r.2.sem = fun _ => 0) :=
  θ_run_and (unchanged m ρ) ((θ_run defs _ _).mono (fun _ h => h.2) (run_main_quiescent m ρ))

end Cert.InProj.Run

end
-- ==== Proof.InProj.Text.lean ====
module

public import proofs.«01_k».proof.Proof.Gen.Kernel4
public import proofs.«01_k».proof.Proof.Gen.Kernel4Ideal
public import Idealize.ShloMosaic.PureOps.BitExact
public import Idealize.ShloMosaic.Adequacy
public import Idealize.ShloMosaic.Init

@[expose] public section

set_option maxRecDepth 16384

noncomputable section

/-! The input projection's program over machine floats is the idealized one, read over those floats: no rule rewrote any of it. -/

namespace Cert.InProj

open Idealize.ShloMosaic
open Idealize.SL Idealize.SL.Sem

attribute [local instance] Cert.Kernel4.Gen.facts Cert.Kernel4Ideal.Gen.facts

set_option maxHeartbeats 8000000 in
/-- The bodies are one text. -/
theorem bodies_eq : Cert.Kernel4.defs₀ (F := Bits) = Cert.Kernel4Ideal.defs₀ (F := Bits) :=
  congrArg Defs.onTc (funext fun ℓ => by
    match ℓ with
    | 0 => exact funext fun ⟨t, s⟩ => rfl)

set_option maxHeartbeats 8000000 in
/-- So the launches are. -/
theorem defs_eq : Cert.Kernel4.defs (F := Bits) = Cert.Kernel4Ideal.defs (F := Bits) :=
  congrArg (Pipeline.defs Cert.Kernel4.pcfgs) bodies_eq

set_option maxHeartbeats 8000000 in
/-- What a run of the one program meets, a run of the other does. -/
theorem run_bits (s : MemSt Cert.Kernel4Ideal.nD Cert.Kernel4Ideal.τ Cert.Kernel4Ideal.sig (Elt Bits))
    (P : PUnit × MemSt Cert.Kernel4Ideal.nD Cert.Kernel4Ideal.τ Cert.Kernel4Ideal.sig (Elt Bits) → Prop)
    (h : θ_run (Cert.Kernel4Ideal.defs (F := Bits)) (onTc (τ := Cert.Kernel4Ideal.τ) (Cert.Kernel4Ideal.main (F := Bits))) s P) :
    θ_run (Cert.Kernel4.defs (F := Bits)) (onTc (τ := Cert.Kernel4.τ) (Cert.Kernel4.main (F := Bits))) s P :=
  (congrArg (fun D => θ_run D (onTc (τ := Cert.Kernel4.τ) (Cert.Kernel4.main (F := Bits))) s P) defs_eq).mpr h

end Cert.InProj

end
-- ==== Proof.InProj.Row.lean ====
module

public import proofs.«01_k».proof.Proof.OutProj.Row

@[expose] public section

set_option maxRecDepth 16384

noncomputable section

/-! One head of one token after the input projection: its norm, the rotation of its first sixteen channels, and how a
product with a constant matrix lays the mean squares and the rotary factors out over the lanes. -/

namespace Cert.InProj

open Idealize.ShloMosaic

/-- A truth value as a number. -/
def bit (b : Bool) : EReal := if b then 1 else 0

/-- The divisor of a head's mean. -/
def width : EReal := Ideal.ofBits .f32 0x42800000#32

theorem width_eq : width = ((64 : ℝ) : EReal) := by
  simp [width, Ideal.ofBits, Ideal.ieee, -EReal.coe_mul]
  norm_num

theorem div_width (x : EReal) : Ideal.div x width = x * ((64 : ℝ)⁻¹ : ℝ) := by
  unfold Ideal.div
  rw [width_eq, if_neg (by exact_mod_cast (by norm_num : (64 : ℝ) ≠ 0)), ← EReal.coe_inv]

/-- A nonnegative real factor leaves a sum. -/
theorem sum_mul_real {ι : Type} (s : Finset ι) (f : ι → EReal) (r : ℝ) (hr : 0 ≤ r) :
    ∑ k ∈ s, f k * (r : EReal) = (∑ k ∈ s, f k) * (r : EReal) := by
  classical
  induction s using Finset.induction_on with
  | empty => simp
  | insert a s ha ih =>
    rw [Finset.sum_insert ha, Finset.sum_insert ha, ih]
    exact (EReal.right_distrib_of_nonneg_of_ne_top (by exact_mod_cast hr) (EReal.coe_ne_top r) _ _).symm

/-- The entries of the matrix that spreads each head's mean over its lanes. -/
def meanEntry (k l : Nat) : EReal := Ideal.div (bit (decide (k / 64 = l / 64))) width

/-- The product with it is the mean over the lane's own head. -/
theorem mean_eq {n : Nat} (f : Fin n → EReal) (l : Nat) (h : ∀ d : Fin 64, 64 * (l / 64) + d.val < n) :
    ∑ k : Fin n, f k * meanEntry k.val l = Ideal.div (∑ d : Fin 64, f ⟨64 * (l / 64) + d.val, h d⟩) width := by
  rw [div_width, ← sum_mul_real _ _ _ (by positivity)]
  symm
  refine Finset.sum_of_injOn (fun d : Fin 64 => (⟨64 * (l / 64) + d.val, h d⟩ : Fin n)) ?_ (fun _ _ => Finset.mem_coe.2 (Finset.mem_univ _)) ?_ ?_
  · intro a _ b _ hab
    have := congrArg Fin.val hab
    exact Fin.ext (by simpa using this)
  · intro k _ hk
    have hne : ¬ k.val / 64 = l / 64 := fun e => hk ⟨⟨k.val % 64, Nat.mod_lt _ (by norm_num)⟩, Finset.mem_coe.2 (Finset.mem_univ _), Fin.ext (by
      show 64 * (l / 64) + k.val % 64 = k.val
      omega)⟩
    unfold meanEntry
    rw [decide_eq_false hne, div_width]
    simp [bit]
  · intro d _
    have he : (64 * (l / 64) + d.val) / 64 = l / 64 := by omega
    show _ = f _ * meanEntry (64 * (l / 64) + d.val) l
    unfold meanEntry
    rw [decide_eq_true he, div_width]
    simp [bit]

/-- A head's channels over the root of its mean square, times the gain. -/
def headNormed (t g : Fin 64 → EReal) (d : Fin 64) : EReal :=
  t d * Ideal.rsqrt (Ideal.div (∑ e : Fin 64, t e * t e) width + Ideal.ofBits .f32 0x358637BD#32) * g d

/-- The first eight channels rotate against the next eight; the others stay. -/
def rotated (t : Fin 64 → EReal) (c s : Fin 8 → EReal) (d : Fin 64) : EReal :=
  if h : d.val < 8 then t d * c ⟨d.val, h⟩ - t ⟨d.val + 8, by omega⟩ * s ⟨d.val, h⟩
  else if h' : d.val < 16 then t d * c ⟨d.val - 8, by omega⟩ + t ⟨d.val - 8, by omega⟩ * s ⟨d.val - 8, by omega⟩
  else t d

/-- A row of the rotary table: the cosines, what rounding left of them, the sines, what rounding left of them. -/
def ropeRow (c s : Fin 8 → EReal) (k : Fin 32) : EReal :=
  if h : k.val < 8 then c ⟨k.val, h⟩ else if h' : k.val < 16 then c ⟨k.val - 8, by omega⟩ - c ⟨k.val - 8, by omega⟩
  else if h'' : k.val < 24 then s ⟨k.val - 16, by omega⟩ else s ⟨k.val - 24, by omega⟩ - s ⟨k.val - 24, by omega⟩

/-- Which entries of the selecting matrix are one. -/
def plus (k l : Nat) : Bool :=
  (decide (k / 8 < 2) && decide (l / 128 = 0) && (decide (l % 64 = k % 8) || decide (l % 64 = k % 8 + 8)))
    || (decide (2 ≤ k / 8) && decide (l / 128 = 2) && decide (l % 64 = k % 8 + 8))

/-- And which are minus one. -/
def minus (k l : Nat) : Bool := decide (2 ≤ k / 8) && decide (l / 128 = 1) && decide (l % 64 = k % 8)

def selEntry (k l : Nat) : EReal := bit (plus k l) - bit (minus k l)

theorem sel_one {k l : Nat} (h : plus k l = true ∧ minus k l = false) : selEntry k l = 1 := by
  simp [selEntry, h.1, h.2, bit]

theorem sel_neg {k l : Nat} (h : plus k l = false ∧ minus k l = true) : selEntry k l = -1 := by
  simp [selEntry, h.1, h.2, bit]

theorem sel_zero {k l : Nat} (h : plus k l = false ∧ minus k l = false) : selEntry k l = 0 := by
  simp [selEntry, h.1, h.2, bit]

/-- A number that is not plus infinity is itself and what rounding left of it. -/
theorem add_left {x : EReal} (h : x ≠ ⊤) : x + (x - x) = x := by
  induction x with
  | bot => rfl
  | top => exact absurd rfl h
  | coe r => rw [← EReal.coe_sub, sub_self, EReal.coe_zero, add_zero]

/-- The same with the sign turned. -/
theorem neg_left {x : EReal} (h : x ≠ ⊤) : x * -1 + (x - x) * -1 = -x := by
  rw [mul_neg, mul_neg, mul_one, mul_one]
  induction x with
  | bot => rfl
  | top => exact absurd rfl h
  | coe r => rw [← EReal.coe_sub, sub_self, EReal.coe_zero, neg_zero, add_zero]

section Table

variable (c s : Fin 8 → EReal) (hc : ∀ d, c d ≠ ⊤) (hs : ∀ d, s d ≠ ⊤)

/-- Lane `l` of the table times the selecting matrix. -/
def lane (l : Nat) : EReal := ∑ k : Fin 32, ropeRow c s k * selEntry k.val l

/-- A lane that selects nothing. -/
theorem lane_zero (l : Nat) (h : ∀ k : Fin 32, plus k.val l = false ∧ minus k.val l = false) : lane c s l = 0 :=
  Finset.sum_eq_zero fun k _ => by rw [sel_zero (h k), mul_zero]

/-- A lane that selects two entries. -/
theorem lane_two (l : Nat) (a b : Fin 32) (hab : a ≠ b)
    (h : ∀ k : Fin 32, k ≠ a ∧ k ≠ b → plus k.val l = false ∧ minus k.val l = false) :
    lane c s l = ropeRow c s a * selEntry a.val l + ropeRow c s b * selEntry b.val l :=
  Fintype.sum_eq_add a b hab fun k hk => by rw [sel_zero (h k hk), mul_zero]

theorem cos_pick : ∀ (l : Fin 128), l.val % 64 < 16 →
    (plus (l.val % 8) l.val = true ∧ minus (l.val % 8) l.val = false) ∧ (plus (l.val % 8 + 8) l.val = true ∧ minus (l.val % 8 + 8) l.val = false)
    ∧ ∀ k : Fin 32, k.val ≠ l.val % 8 → k.val ≠ l.val % 8 + 8 → plus k.val l.val = false ∧ minus k.val l.val = false := by
  decide +kernel

theorem cos_none : ∀ (l : Fin 128), ¬ l.val % 64 < 16 → ∀ k : Fin 32, plus k.val l.val = false ∧ minus k.val l.val = false := by
  decide +kernel

theorem sina_pick : ∀ (l : Fin 128), l.val % 64 < 8 →
    (plus (l.val % 8 + 16) (128 + l.val) = false ∧ minus (l.val % 8 + 16) (128 + l.val) = true)
    ∧ (plus (l.val % 8 + 24) (128 + l.val) = false ∧ minus (l.val % 8 + 24) (128 + l.val) = true)
    ∧ ∀ k : Fin 32, k.val ≠ l.val % 8 + 16 → k.val ≠ l.val % 8 + 24 → plus k.val (128 + l.val) = false ∧ minus k.val (128 + l.val) = false := by
  decide +kernel

theorem sina_none : ∀ (l : Fin 128), ¬ l.val % 64 < 8 → ∀ k : Fin 32, plus k.val (128 + l.val) = false ∧ minus k.val (128 + l.val) = false := by
  decide +kernel

theorem sinb_pick : ∀ (l : Fin 128), 8 ≤ l.val % 64 ∧ l.val % 64 < 16 →
    (plus (l.val % 8 + 16) (256 + l.val) = true ∧ minus (l.val % 8 + 16) (256 + l.val) = false)
    ∧ (plus (l.val % 8 + 24) (256 + l.val) = true ∧ minus (l.val % 8 + 24) (256 + l.val) = false)
    ∧ ∀ k : Fin 32, k.val ≠ l.val % 8 + 16 → k.val ≠ l.val % 8 + 24 → plus k.val (256 + l.val) = false ∧ minus k.val (256 + l.val) = false := by
  decide +kernel

theorem sinb_none : ∀ (l : Fin 128), ¬ (8 ≤ l.val % 64 ∧ l.val % 64 < 16) →
    ∀ k : Fin 32, plus k.val (256 + l.val) = false ∧ minus k.val (256 + l.val) = false := by
  decide +kernel

theorem row_cos (r : Nat) (hr : r < 8) : ropeRow c s ⟨r, by omega⟩ = c ⟨r, hr⟩ := dif_pos hr

theorem row_cosLow (r : Nat) (hr : r < 8) : ropeRow c s ⟨r + 8, by omega⟩ = c ⟨r, hr⟩ - c ⟨r, hr⟩ := by
  unfold ropeRow
  rw [dif_neg (by show ¬ r + 8 < 8; omega), dif_pos (by show r + 8 < 16; omega)]
  rfl

theorem row_sin (r : Nat) (hr : r < 8) : ropeRow c s ⟨r + 16, by omega⟩ = s ⟨r, hr⟩ := by
  unfold ropeRow
  rw [dif_neg (by show ¬ r + 16 < 8; omega), dif_neg (by show ¬ r + 16 < 16; omega), dif_pos (by show r + 16 < 24; omega)]
  rfl

theorem row_sinLow (r : Nat) (hr : r < 8) : ropeRow c s ⟨r + 24, by omega⟩ = s ⟨r, hr⟩ - s ⟨r, hr⟩ := by
  unfold ropeRow
  rw [dif_neg (by show ¬ r + 24 < 8; omega), dif_neg (by show ¬ r + 24 < 16; omega), dif_neg (by show ¬ r + 24 < 24; omega)]
  rfl

include hc in
theorem lane_cos (l : Fin 128) (h : l.val % 64 < 16) : lane c s l.val = c ⟨l.val % 8, by omega⟩ := by
  obtain ⟨h1, h2, h3⟩ := cos_pick l h
  rw [lane_two c s l.val ⟨l.val % 8, by omega⟩ ⟨l.val % 8 + 8, by omega⟩ (fun e => by have := congrArg Fin.val e; simp at this)
      (fun k hk => h3 k (fun e => hk.1 (Fin.ext e)) (fun e => hk.2 (Fin.ext e))),
    sel_one h1, sel_one h2, mul_one, mul_one, row_cos c s _ (by omega), row_cosLow c s _ (by omega)]
  exact add_left (hc _)

include hs in
theorem lane_sina (l : Fin 128) (h : l.val % 64 < 8) : lane c s (128 + l.val) = -s ⟨l.val % 8, by omega⟩ := by
  obtain ⟨h1, h2, h3⟩ := sina_pick l h
  rw [lane_two c s (128 + l.val) ⟨l.val % 8 + 16, by omega⟩ ⟨l.val % 8 + 24, by omega⟩ (fun e => by have := congrArg Fin.val e; simp at this)
      (fun k hk => h3 k (fun e => hk.1 (Fin.ext e)) (fun e => hk.2 (Fin.ext e))),
    sel_neg h1, sel_neg h2, row_sin c s _ (by omega), row_sinLow c s _ (by omega)]
  exact neg_left (hs _)

include hs in
theorem lane_sinb (l : Fin 128) (h : 8 ≤ l.val % 64 ∧ l.val % 64 < 16) : lane c s (256 + l.val) = s ⟨l.val % 8, by omega⟩ := by
  obtain ⟨h1, h2, h3⟩ := sinb_pick l h
  rw [lane_two c s (256 + l.val) ⟨l.val % 8 + 16, by omega⟩ ⟨l.val % 8 + 24, by omega⟩ (fun e => by have := congrArg Fin.val e; simp at this)
      (fun k hk => h3 k (fun e => hk.1 (Fin.ext e)) (fun e => hk.2 (Fin.ext e))),
    sel_one h1, sel_one h2, mul_one, mul_one, row_sin c s _ (by omega), row_sinLow c s _ (by omega)]
  exact add_left (hs _)

include hc hs in
/-- The sum of a lane and its two neighbours, each times its factor, is the lane's channel rotated within its head. -/
theorem lanes_rotate (u : Fin 128 → EReal) (l : Fin 128) :
    u l * (lane c s l.val + bit (decide (16 ≤ l.val % 64))) + u ⟨(l.val + 8) % 128, by omega⟩ * lane c s (128 + l.val)
      + u ⟨(l.val + 120) % 128, by omega⟩ * lane c s (256 + l.val)
    = rotated (fun d => u ⟨64 * (l.val / 64) + d.val, by omega⟩) c s ⟨l.val % 64, by omega⟩ := by
  have e0 : (⟨64 * (l.val / 64) + l.val % 64, by omega⟩ : Fin 128) = l := Fin.ext (by show 64 * (l.val / 64) + l.val % 64 = l.val; omega)
  unfold rotated
  by_cases h8 : l.val % 64 < 8
  · rw [dif_pos h8, lane_cos c s hc l (by omega), lane_sina c s hs l h8, lane_zero c s (256 + l.val) (sinb_none l (by omega)),
      mul_zero, add_zero, decide_eq_false (by omega)]
    have e1 : (⟨(l.val + 8) % 128, by omega⟩ : Fin 128) = ⟨64 * (l.val / 64) + (l.val % 64 + 8), by omega⟩ :=
      Fin.ext (by show (l.val + 8) % 128 = 64 * (l.val / 64) + (l.val % 64 + 8); omega)
    have e2 : (⟨l.val % 8, by omega⟩ : Fin 8) = ⟨l.val % 64, h8⟩ := Fin.ext (by show l.val % 8 = l.val % 64; omega)
    simp only [e0, e1, e2, bit, Bool.false_eq_true, if_false, add_zero, mul_neg]
    rfl
  · rw [dif_neg h8, lane_zero c s (128 + l.val) (sina_none l h8), mul_zero, add_zero]
    by_cases h16 : l.val % 64 < 16
    · rw [dif_pos h16, lane_cos c s hc l h16, lane_sinb c s hs l ⟨by omega, h16⟩, decide_eq_false (by omega)]
      have e1 : (⟨(l.val + 120) % 128, by omega⟩ : Fin 128) = ⟨64 * (l.val / 64) + (l.val % 64 - 8), by omega⟩ :=
        Fin.ext (by show (l.val + 120) % 128 = 64 * (l.val / 64) + (l.val % 64 - 8); omega)
      have e2 : (⟨l.val % 8, by omega⟩ : Fin 8) = ⟨l.val % 64 - 8, by omega⟩ := Fin.ext (by show l.val % 8 = l.val % 64 - 8; omega)
      simp only [e0, e1, e2, bit, Bool.false_eq_true, if_false, add_zero]
    · rw [dif_neg h16, lane_zero c s l.val (cos_none l h16), lane_zero c s (256 + l.val) (sinb_none l (by omega)), mul_zero, add_zero,
        decide_eq_true (by omega)]
      simp only [e0, bit, if_true, zero_add, mul_one]

end Table

end Cert.InProj

end
-- ==== Proof.InProj.Payload.lean ====
module

public import proofs.«01_k».proof.Proof.InProj.Row
public import proofs.«01_k».proof.Proof.Gen.Kernel4Ideal.Skeleton
public import Idealize.ShloMosaic.Lib.Pipeline.ValueKit
public import Idealize.ShloMosaic.Lib.KernelVsHost
public import Idealize.ShloMosaic.Lib.Claim

@[expose] public section

set_option maxRecDepth 16384

noncomputable section

/-! What each step of the body computes, entry by entry. -/

namespace Cert.InProj

open Cert.Kernel4Ideal Cert.Kernel4Ideal.Gen
open Idealize.ShloMosaic Idealize.ShloMosaic.TcCoe Idealize.ShloMosaic.Tactic
open Idealize.SL Idealize.SL.Sem

/-- The modulated norm of the rows. -/
theorem hidden_apply (x : Vec Ideal S1024x1024 .f32) (w : Vec Ideal S1x1024 .f32) (sc sh : Vec Ideal S1x1x1024 .f32) (i j : Fin 1024) :
    k0_pay3 x w sc sh (ix2 i j) = OutProj.normed (fun j => x (ix2 i j)) (fun j => w (ix2 0 j)) (fun j => sc (ix3 0 0 j)) (fun j => sh (ix3 0 0 j)) j := by
  pointwise [k0_pay3]
  rfl

section Products

variable (h : FVec Ideal S1024x1024 .bf16)

/-- The values: the rows times their columns of the weights. -/
theorem value_apply (w : Vec Ideal S1024x128 .bf16) (i : Fin 1024) (l : Fin 128) :
    k0_pay16 h w (ix2 i l) = ∑ k : Fin 1024, h (ix2 i k) * w (ix2 k l) := by
  pointwise [k0_pay16]

/-- The keys over the roots of their heads' mean squares. -/
theorem key_apply (w : Vec Ideal S1024x128 .bf16) (b : Vec Ideal S128x128 .bf16) (i : Fin 1024) (l : Fin 128) :
    k0_pay14 h w b (ix2 i l) = (∑ k : Fin 1024, h (ix2 i k) * w (ix2 k l))
      * Ideal.rsqrt (∑ e : Fin 128, (∑ k : Fin 1024, h (ix2 i k) * w (ix2 k e)) * (∑ k : Fin 1024, h (ix2 i k) * w (ix2 k e)) * b (ix2 e l)
        + Ideal.ofBits .f32 0x358637BD#32) := by
  pointwise [k0_pay14]

/-- The queries over the roots of their heads' mean squares, times the gain: the mean squares are products of the first and
of the last 256 columns with one matrix. -/
theorem query_apply (w : Vec Ideal S1024x512 .bf16) (b b' : Vec Ideal S256x256 .bf16) (g : Vec Ideal S1x512 .f32) (i : Fin 1024) (l : Fin 512) :
    k0_pay9 h w b b' g (ix2 i l) = (∑ k : Fin 1024, h (ix2 i k) * w (ix2 k l))
      * Ideal.rsqrt ((if hl : l.val < 256 then
            ∑ e : Fin 256, (∑ k : Fin 1024, h (ix2 i k) * w (ix2 k ⟨e.val, by omega⟩)) * (∑ k : Fin 1024, h (ix2 i k) * w (ix2 k ⟨e.val, by omega⟩))
              * b (ix2 e ⟨l.val, hl⟩)
          else
            ∑ e : Fin 256, (∑ k : Fin 1024, h (ix2 i k) * w (ix2 k ⟨256 + e.val, by omega⟩)) * (∑ k : Fin 1024, h (ix2 i k) * w (ix2 k ⟨256 + e.val, by omega⟩))
              * b' (ix2 e ⟨l.val - 256, by omega⟩))
        + Ideal.ofBits .f32 0x358637BD#32) * g (ix2 0 l) := by
  pointwise [k0_pay9]

end Products

section Rotation

variable (r : Vec Ideal S1024x32 .bf16) (s : Vec Ideal S32x384 .bf16) (n : Vec Ideal S1x128 .f32)

/-- The cosines over the lanes. -/
theorem cos_apply (i : Fin 1024) (l : Fin 128) : k0_pay6 (k0_pay5 r s) n (ix2 i l)
    = ∑ k : Fin 32, r (ix2 i k) * s (ix2 k ⟨l.val, by omega⟩) + n (ix2 0 l) := by
  pointwise [k0_pay6, k0_pay5, k0_pay4]

/-- The sines that meet the channels eight ahead. -/
theorem sina_apply (i : Fin 1024) (l : Fin 128) : k0_pay7 (k0_pay4 r s) (ix2 i l) = ∑ k : Fin 32, r (ix2 i k) * s (ix2 k ⟨128 + l.val, by omega⟩) := by
  pointwise [k0_pay7, k0_pay4]

/-- The sines that meet the channels eight behind. -/
theorem sinb_apply (i : Fin 1024) (l : Fin 128) : k0_pay8 (k0_pay4 r s) (ix2 i l) = ∑ k : Fin 32, r (ix2 i k) * s (ix2 k ⟨256 + l.val, by omega⟩) := by
  pointwise [k0_pay8, k0_pay4]

variable (a b c u : FVec Ideal S1024x128 .f32)

/-- Lanes moved by eight. -/
theorem ahead_apply (i : Fin 1024) (l : Fin 128) : dynamicRotate 1 120#32 none u rotates_S1024x128_d1 (ix2 i l) = u (ix2 i ⟨(l.val + 8) % 128, by omega⟩) := by
  refine dynamicRotate_apply _ _ _ _ _ _ fun b => ?_
  fin_cases b
  · rfl
  · show (l.val + 8) % 128 = (l.val + 128 - 120 % 128) % 128
    omega

theorem behind_apply (i : Fin 1024) (l : Fin 128) : dynamicRotate 1 8#32 none u rotates_S1024x128_d1 (ix2 i l) = u (ix2 i ⟨(l.val + 120) % 128, by omega⟩) := by
  refine dynamicRotate_apply _ _ _ _ _ _ fun b => ?_
  fin_cases b
  · rfl
  · show (l.val + 120) % 128 = (l.val + 128 - 8 % 128) % 128
    omega

/-- The same lanes, counted the way the rotation counts them. -/
theorem ahead_eq (l : Fin 128) (h : (l.val + 128 - 120) % 128 < 128) : (⟨(l.val + 128 - 120) % 128, h⟩ : Fin 128) = ⟨(l.val + 8) % 128, by omega⟩ :=
  Fin.ext (by show (l.val + 128 - 120) % 128 = (l.val + 8) % 128; omega)

theorem behind_eq (l : Fin 128) (h : (l.val + 128 - 8) % 128 < 128) : (⟨(l.val + 128 - 8) % 128, h⟩ : Fin 128) = ⟨(l.val + 120) % 128, by omega⟩ :=
  Fin.ext (by show (l.val + 128 - 8) % 128 = (l.val + 120) % 128; omega)

/-- The keys, rotated. -/
theorem keyRot_apply (g : Vec Ideal S1x128 .f32) (i : Fin 1024) (l : Fin 128) : k0_pay15 a b c u g (ix2 i l)
    = u (ix2 i l) * g (ix2 0 l) * a (ix2 i l)
      + u (ix2 i ⟨(l.val + 8) % 128, by omega⟩) * g (ix2 0 ⟨(l.val + 8) % 128, by omega⟩) * b (ix2 i l)
      + u (ix2 i ⟨(l.val + 120) % 128, by omega⟩) * g (ix2 0 ⟨(l.val + 120) % 128, by omega⟩) * c (ix2 i l) := by
  pointwise [k0_pay15]
  simp only [ahead_eq, behind_eq]

/-- A lane of the queries moved by some lanes within its 128. -/
def moved (l : Fin 512) (k : ℕ) : Fin 512 := ⟨128 * (l.val / 128) + (l.val % 128 + k) % 128, by omega⟩

/-- A lane's place within its 128. -/
def within (l : Fin 512) : Fin 128 := ⟨l.val % 128, by omega⟩

/-- The queries, rotated 128 lanes at a time. -/
theorem queryRot_apply (h : FVec Ideal S1024x1024 .bf16) (v33 : FVec Ideal S1024x384 .f32) (v34 : FVec Ideal S1024x128 .f32) (n : Vec Ideal S1x128 .f32)
    (w : Vec Ideal S1024x512 .bf16) (d d' : Vec Ideal S256x256 .bf16) (g : Vec Ideal S1x512 .f32) (i : Fin 1024) (l : Fin 512) :
    k0_pay13 (k0_pay6 v34 n) (k0_pay7 v33) (k0_pay8 v33) (k0_pay9 h w d d' g) (k0_pay10 h v33 v34 n w d d' g) (k0_pay11 h w d d' g)
        (k0_pay12 h v33 v34 n w d d' g) (ix2 i l)
    = (k0_pay9 h w d d' g (ix2 i l) * k0_pay6 v34 n (ix2 i (within l))
      + k0_pay9 h w d d' g (ix2 i (moved l 8)) * k0_pay7 v33 (ix2 i (within l))
      + k0_pay9 h w d d' g (ix2 i (moved l 120)) * k0_pay8 v33 (ix2 i (within l))) * Ideal.ofBits .f32 0x3E000000#32 := by
  unfold k0_pay10 k0_pay12 k0_pay11
  generalize k0_pay9 h w d d' g = q
  generalize k0_pay6 v34 n = a
  generalize k0_pay7 v33 = b
  generalize k0_pay8 v33 = c
  pointwise [k0_pay13]
  have hl := l.isLt
  by_cases h1 : l.val < 128
  · rw [dif_pos h1]
    have w : ∀ h, (⟨l.val, h⟩ : Fin 128) = within l := fun _ => Fin.ext (by show l.val = l.val % 128; omega)
    have f : ∀ h, (⟨(l.val + 128 - 120) % 128, h⟩ : Fin 512) = moved l 8 := fun _ => Fin.ext (by show (l.val + 128 - 120) % 128 = 128 * (l.val / 128) + (l.val % 128 + 8) % 128; omega)
    have k : ∀ h, (⟨(l.val + 128 - 8) % 128, h⟩ : Fin 512) = moved l 120 := fun _ => Fin.ext (by show (l.val + 128 - 8) % 128 = 128 * (l.val / 128) + (l.val % 128 + 120) % 128; omega)
    simp only [w, f, k]
  by_cases h2 : l.val - 128 < 128
  · rw [dif_neg h1, dif_pos h2]
    have e : ∀ h, (⟨128 + (l.val - 128), h⟩ : Fin 512) = l := fun _ => Fin.ext (by show 128 + (l.val - 128) = l.val; omega)
    have w : ∀ h, (⟨l.val - 128, h⟩ : Fin 128) = within l := fun _ => Fin.ext (by show l.val - 128 = l.val % 128; omega)
    have f : ∀ h, (⟨128 + (l.val - 128 + 128 - 120) % 128, h⟩ : Fin 512) = moved l 8 := fun _ => Fin.ext (by show 128 + (l.val - 128 + 128 - 120) % 128 = 128 * (l.val / 128) + (l.val % 128 + 8) % 128; omega)
    have k : ∀ h, (⟨128 + (l.val - 128 + 128 - 8) % 128, h⟩ : Fin 512) = moved l 120 := fun _ => Fin.ext (by show 128 + (l.val - 128 + 128 - 8) % 128 = 128 * (l.val / 128) + (l.val % 128 + 120) % 128; omega)
    simp only [e, w, f, k]
  by_cases h3 : l.val - 128 - 128 < 128
  · rw [dif_neg h1, dif_neg h2, dif_pos h3]
    have e : ∀ h, (⟨256 + (l.val - 128 - 128), h⟩ : Fin 512) = l := fun _ => Fin.ext (by show 256 + (l.val - 128 - 128) = l.val; omega)
    have w : ∀ h, (⟨l.val - 128 - 128, h⟩ : Fin 128) = within l := fun _ => Fin.ext (by show l.val - 128 - 128 = l.val % 128; omega)
    have f : ∀ h, (⟨256 + (l.val - 128 - 128 + 128 - 120) % 128, h⟩ : Fin 512) = moved l 8 := fun _ => Fin.ext (by show 256 + (l.val - 128 - 128 + 128 - 120) % 128 = 128 * (l.val / 128) + (l.val % 128 + 8) % 128; omega)
    have k : ∀ h, (⟨256 + (l.val - 128 - 128 + 128 - 8) % 128, h⟩ : Fin 512) = moved l 120 := fun _ => Fin.ext (by show 256 + (l.val - 128 - 128 + 128 - 8) % 128 = 128 * (l.val / 128) + (l.val % 128 + 120) % 128; omega)
    simp only [e, w, f, k]
  · rw [dif_neg h1, dif_neg h2, dif_neg h3]
    have e : ∀ h, (⟨384 + (l.val - 128 - 128 - 128), h⟩ : Fin 512) = l := fun _ => Fin.ext (by show 384 + (l.val - 128 - 128 - 128) = l.val; omega)
    have w : ∀ h, (⟨l.val - 128 - 128 - 128, h⟩ : Fin 128) = within l := fun _ => Fin.ext (by show l.val - 128 - 128 - 128 = l.val % 128; omega)
    have f : ∀ h, (⟨384 + (l.val - 128 - 128 - 128 + 128 - 120) % 128, h⟩ : Fin 512) = moved l 8 := fun _ => Fin.ext (by show 384 + (l.val - 128 - 128 - 128 + 128 - 120) % 128 = 128 * (l.val / 128) + (l.val % 128 + 8) % 128; omega)
    have k : ∀ h, (⟨384 + (l.val - 128 - 128 - 128 + 128 - 8) % 128, h⟩ : Fin 512) = moved l 120 := fun _ => Fin.ext (by show 384 + (l.val - 128 - 128 - 128 + 128 - 8) % 128 = 128 * (l.val / 128) + (l.val % 128 + 120) % 128; omega)
    simp only [e, w, f, k]

end Rotation

end Cert.InProj

end
-- ==== Proof.InProj.Block.lean ====
module

public import proofs.«01_k».proof.Proof.InProj.Frame
public import proofs.«01_k».proof.Proof.InProj.Payload

@[expose] public section

set_option maxRecDepth 16384
set_option maxHeartbeats 1000000

noncomputable section

/-! What a grid point stores of the queries, the keys and the values: the body's steps over the blocks it reads. Whether the
point opens a sequence makes no difference to them. -/

namespace Cert.InProj

open Cert.Kernel4Ideal Cert.Kernel4Ideal.Gen Cert.InProj.Run
open Idealize.ShloMosaic Idealize.ShloMosaic.TcCoe Idealize.ShloMosaic.Tactic
open Idealize.SL Idealize.SL.Sem

/-- The weights' columns from a given one on. -/
def columns (n b : ℕ) (h : b + n ≤ 1280) (x : Vec Ideal S1024x1280 .bf16) : Vec Ideal ⟨2, ![1024, n]⟩ .bf16 := fun y => x (ix2 (y 0) ⟨b + (y 1).val, by
  have : (y 1).val < n := (y 1).isLt
  omega⟩)

/-- The queries' columns. -/
theorem ld_queries (x : Vec Ideal S1024x1280 .bf16) (h) :
    View.ld (Val := Elt Ideal) (e' := .bf16) x (Rect.unit (s := S1024x1280) ![0, 0] ![1024, 512] h) = columns 512 0 (by omega) x := by
  funext y
  idx_vars y
  refine congrArg x (funext fun a => Fin.ext ((ValueKit.rect_emb_unit_val _ _ _ _ _).trans ?_))
  fin_cases a
  · exact Nat.zero_add _
  · rfl

/-- The keys'. -/
theorem ld_keys (x : Vec Ideal S1024x1280 .bf16) (h) :
    View.ld (Val := Elt Ideal) (e' := .bf16) x (Rect.unit (s := S1024x1280) ![0, 512] ![1024, 128] h) = columns 128 512 (by omega) x := by
  funext y
  idx_vars y
  refine congrArg x (funext fun a => Fin.ext ((ValueKit.rect_emb_unit_val _ _ _ _ _).trans ?_))
  fin_cases a
  · exact Nat.zero_add _
  · rfl

/-- The values'. -/
theorem ld_values (x : Vec Ideal S1024x1280 .bf16) (h) :
    View.ld (Val := Elt Ideal) (e' := .bf16) x (Rect.unit (s := S1024x1280) ![0, 640] ![1024, 128] h) = columns 128 640 (by omega) x := by
  funext y
  idx_vars y
  refine congrArg x (funext fun a => Fin.ext ((ValueKit.rect_emb_unit_val _ _ _ _ _).trans ?_))
  fin_cases a
  · exact Nat.zero_add _
  · rfl

/-! A read of the whole of a window reads the window. -/

theorem ld_w2_1024_1024 (x : Vec Ideal S1024x1024 .f32) (h) : View.ld (Val := Elt Ideal) (e' := .f32) x (Rect.unit (s := S1024x1024) ![0, 0] ![1024, 1024] h) = x := View.ld_unit_lit _ _ (by decide)

theorem ld_w2_1_1024 (x : Vec Ideal S1x1024 .f32) (h) : View.ld (Val := Elt Ideal) (e' := .f32) x (Rect.unit (s := S1x1024) ![0, 0] ![1, 1024] h) = x := View.ld_unit_lit _ _ (by decide)

theorem ld_w3_1024 (x : Vec Ideal S1x1x1024 .f32) (h) : View.ld (Val := Elt Ideal) (e' := .f32) x (Rect.unit (s := S1x1x1024) ![0, 0, 0] ![1, 1, 1024] h) = x := View.ld_unit_lit _ _ (by decide)

theorem ld_w2_1_512 (x : Vec Ideal S1x512 .f32) (h) : View.ld (Val := Elt Ideal) (e' := .f32) x (Rect.unit (s := S1x512) ![0, 0] ![1, 512] h) = x := View.ld_unit_lit _ _ (by decide)

theorem ld_w2_1_128 (x : Vec Ideal S1x128 .f32) (h) : View.ld (Val := Elt Ideal) (e' := .f32) x (Rect.unit (s := S1x128) ![0, 0] ![1, 128] h) = x := View.ld_unit_lit _ _ (by decide)

theorem ld_w2_1024_32 (x : Vec Ideal S1024x32 .bf16) (h) : View.ld (Val := Elt Ideal) (e' := .bf16) x (Rect.unit (s := S1024x32) ![0, 0] ![1024, 32] h) = x := View.ld_unit_lit _ _ (by decide)

theorem ld_w2_32_384 (x : Vec Ideal S32x384 .bf16) (h) : View.ld (Val := Elt Ideal) (e' := .bf16) x (Rect.unit (s := S32x384) ![0, 0] ![32, 384] h) = x := View.ld_unit_lit _ _ (by decide)

theorem ld_w2_256 (x : Vec Ideal S256x256 .bf16) (h) : View.ld (Val := Elt Ideal) (e' := .bf16) x (Rect.unit (s := S256x256) ![0, 0] ![256, 256] h) = x := View.ld_unit_lit _ _ (by decide)

theorem ld_w2_128 (x : Vec Ideal S128x128 .bf16) (h) : View.ld (Val := Elt Ideal) (e' := .bf16) x (Rect.unit (s := S128x128) ![0, 0] ![128, 128] h) = x := View.ld_unit_lit _ _ (by decide)

variable (m : (ℓ : Loc nD τ sig) → Buf (Elt Ideal) ℓ) (c : Dev nD)

/-- The rows a grid point normalizes. -/
def hidden (t : Fin cfg0.N) : FVec Ideal S1024x1024 .bf16 := k0_pay3 (iblk m c 0 t) (iblk m c 3 t) (iblk m c 2 t) (iblk m c 1 t)

/-- What a grid point stores of the queries. -/
theorem out15_eq (t : Fin cfg0.N) : (outsAt0 m c t.val t.isLt).1
    = k0_pay13 (k0_pay6 (k0_pay5 (iblk m c 7 t) (iblk m c 8 t)) (iblk m c 9 t)) (k0_pay7 (k0_pay4 (iblk m c 7 t) (iblk m c 8 t))) (k0_pay8 (k0_pay4 (iblk m c 7 t) (iblk m c 8 t))) (k0_pay9 (hidden m c t) (columns 512 0 (by omega) (iblk m c 4 t)) (iblk m c 10 t) (iblk m c 10 t) (iblk m c 5 t))
      (k0_pay10 (hidden m c t) (k0_pay4 (iblk m c 7 t) (iblk m c 8 t)) (k0_pay5 (iblk m c 7 t) (iblk m c 8 t)) (iblk m c 9 t) (columns 512 0 (by omega) (iblk m c 4 t)) (iblk m c 10 t) (iblk m c 10 t) (iblk m c 5 t))
      (k0_pay11 (hidden m c t) (columns 512 0 (by omega) (iblk m c 4 t)) (iblk m c 10 t) (iblk m c 10 t) (iblk m c 5 t))
      (k0_pay12 (hidden m c t) (k0_pay4 (iblk m c 7 t) (iblk m c 8 t)) (k0_pay5 (iblk m c 7 t) (iblk m c 8 t)) (iblk m c 9 t) (columns 512 0 (by omega) (iblk m c 4 t)) (iblk m c 10 t) (iblk m c 10 t) (iblk m c 5 t)) := by
  unfold hidden
  by_cases h0 : t.val % 8 = 0
  · rw [outsAt0_A m c t h0]
    dsimp only
    unfold out0_A_15
    rw [View.read_writes_eq_canon _ _ _ (cover0_A_15 c _ _ _ _ _ _ _ _ _ _ _ _ _ _ _ _ _ _ _ _ _ _ _ _ _ _ _ _ _ _ _ _ _ _ _ _ _ _ _ _ _ _ _ _ _ _ _ _ _ _ _ _ _ _ _ _ _)]
    unfold kernelRun0_A
    dsimp only
    sl_unfold_words
    simp only [View.readAt_eq_ld, (hs0_0 t).read_unread, (hs0_1 t).read_unread, (hs0_2 t).read_unread, (hs0_3 t).read_unread, (hs0_4 t).read_unread, (hs0_5 t).read_unread, (hs0_6 t).read_unread, (hs0_7 t).read_unread, (hs0_8 t).read_unread, (hs0_9 t).read_unread, (hs0_10 t).read_unread, (hs0_11 t).read_unread]
    refine (View.canon_cons_unit_lit _ _ _ (by decide)).trans ?_
    simp only [ld_w2_1024_1024, ld_w2_1_1024, ld_w3_1024, ld_w2_1_512, ld_w2_1_128, ld_w2_1024_32, ld_w2_32_384, ld_w2_256, ld_w2_128, ld_queries, ld_keys, ld_values]
  · rw [outsAt0_B m c t h0]
    dsimp only
    unfold out0_B_15
    rw [View.read_writes_eq_canon _ _ _ (cover0_B_15 c _ _ _ _ _ _ _ _ _ _ _ _ _ _ _ _ _ _ _ _ _ _ _ _ _ _ _ _ _ _ _ _ _ _ _ _ _ _ _ _ _ _ _ _ _ _ _ _ _ _ _ _ _ _ _ _ _ _)]
    unfold kernelRun0_B
    dsimp only
    sl_unfold_words
    simp only [View.readAt_eq_ld, (hs0_0 t).read_unread, (hs0_1 t).read_unread, (hs0_2 t).read_unread, (hs0_3 t).read_unread, (hs0_4 t).read_unread, (hs0_5 t).read_unread, (hs0_6 t).read_unread, (hs0_7 t).read_unread, (hs0_8 t).read_unread, (hs0_9 t).read_unread, (hs0_10 t).read_unread, (hs0_11 t).read_unread]
    refine (View.canon_cons_unit_lit _ _ _ (by decide)).trans ?_
    simp only [ld_w2_1024_1024, ld_w2_1_1024, ld_w3_1024, ld_w2_1_512, ld_w2_1_128, ld_w2_1024_32, ld_w2_32_384, ld_w2_256, ld_w2_128, ld_queries, ld_keys, ld_values]

/-- What a grid point stores of the keys. -/
theorem out16_eq (t : Fin cfg0.N) : (outsAt0 m c t.val t.isLt).2.1
    = k0_pay15 (k0_pay6 (k0_pay5 (iblk m c 7 t) (iblk m c 8 t)) (iblk m c 9 t)) (k0_pay7 (k0_pay4 (iblk m c 7 t) (iblk m c 8 t))) (k0_pay8 (k0_pay4 (iblk m c 7 t) (iblk m c 8 t))) (k0_pay14 (hidden m c t) (columns 128 512 (by omega) (iblk m c 4 t)) (iblk m c 11 t)) (iblk m c 6 t) := by
  unfold hidden
  by_cases h0 : t.val % 8 = 0
  · rw [outsAt0_A m c t h0]
    dsimp only
    unfold out0_A_16
    rw [View.read_writes_eq_canon _ _ _ (cover0_A_16 c _ _ _ _ _ _ _ _ _ _ _ _ _ _ _ _ _ _ _ _ _ _ _ _ _ _ _ _ _ _ _ _ _ _ _ _ _ _ _ _ _ _ _ _ _ _ _ _ _ _ _ _ _ _ _ _ _)]
    unfold kernelRun0_A
    dsimp only
    sl_unfold_words
    simp only [View.readAt_eq_ld, (hs0_0 t).read_unread, (hs0_1 t).read_unread, (hs0_2 t).read_unread, (hs0_3 t).read_unread, (hs0_4 t).read_unread, (hs0_5 t).read_unread, (hs0_6 t).read_unread, (hs0_7 t).read_unread, (hs0_8 t).read_unread, (hs0_9 t).read_unread, (hs0_10 t).read_unread, (hs0_11 t).read_unread]
    refine (View.canon_cons_unit_lit _ _ _ (by decide)).trans ?_
    simp only [ld_w2_1024_1024, ld_w2_1_1024, ld_w3_1024, ld_w2_1_512, ld_w2_1_128, ld_w2_1024_32, ld_w2_32_384, ld_w2_256, ld_w2_128, ld_queries, ld_keys, ld_values]
  · rw [outsAt0_B m c t h0]
    dsimp only
    unfold out0_B_16
    rw [View.read_writes_eq_canon _ _ _ (cover0_B_16 c _ _ _ _ _ _ _ _ _ _ _ _ _ _ _ _ _ _ _ _ _ _ _ _ _ _ _ _ _ _ _ _ _ _ _ _ _ _ _ _ _ _ _ _ _ _ _ _ _ _ _ _ _ _ _ _ _ _)]
    unfold kernelRun0_B
    dsimp only
    sl_unfold_words
    simp only [View.readAt_eq_ld, (hs0_0 t).read_unread, (hs0_1 t).read_unread, (hs0_2 t).read_unread, (hs0_3 t).read_unread, (hs0_4 t).read_unread, (hs0_5 t).read_unread, (hs0_6 t).read_unread, (hs0_7 t).read_unread, (hs0_8 t).read_unread, (hs0_9 t).read_unread, (hs0_10 t).read_unread, (hs0_11 t).read_unread]
    refine (View.canon_cons_unit_lit _ _ _ (by decide)).trans ?_
    simp only [ld_w2_1024_1024, ld_w2_1_1024, ld_w3_1024, ld_w2_1_512, ld_w2_1_128, ld_w2_1024_32, ld_w2_32_384, ld_w2_256, ld_w2_128, ld_queries, ld_keys, ld_values]

/-- What a grid point stores of the values. -/
theorem out17_eq (t : Fin cfg0.N) : (outsAt0 m c t.val t.isLt).2.2.1
    = k0_pay16 (hidden m c t) (columns 128 640 (by omega) (iblk m c 4 t)) := by
  unfold hidden
  by_cases h0 : t.val % 8 = 0
  · rw [outsAt0_A m c t h0]
    dsimp only
    unfold out0_A_17
    rw [View.read_writes_eq_canon _ _ _ (cover0_A_17 c _ _ _ _ _ _ _ _ _ _ _ _ _ _ _ _ _ _ _ _ _ _ _ _ _ _ _ _ _ _ _ _ _ _ _ _ _ _ _ _ _ _ _ _ _ _ _ _ _ _ _ _ _ _ _ _ _)]
    unfold kernelRun0_A
    dsimp only
    sl_unfold_words
    simp only [View.readAt_eq_ld, (hs0_0 t).read_unread, (hs0_1 t).read_unread, (hs0_2 t).read_unread, (hs0_3 t).read_unread, (hs0_4 t).read_unread, (hs0_5 t).read_unread, (hs0_6 t).read_unread, (hs0_7 t).read_unread, (hs0_8 t).read_unread, (hs0_9 t).read_unread, (hs0_10 t).read_unread, (hs0_11 t).read_unread]
    refine (View.canon_cons_unit_lit _ _ _ (by decide)).trans ?_
    simp only [ld_w2_1024_1024, ld_w2_1_1024, ld_w3_1024, ld_w2_1_512, ld_w2_1_128, ld_w2_1024_32, ld_w2_32_384, ld_w2_256, ld_w2_128, ld_queries, ld_keys, ld_values]
  · rw [outsAt0_B m c t h0]
    dsimp only
    unfold out0_B_17
    rw [View.read_writes_eq_canon _ _ _ (cover0_B_17 c _ _ _ _ _ _ _ _ _ _ _ _ _ _ _ _ _ _ _ _ _ _ _ _ _ _ _ _ _ _ _ _ _ _ _ _ _ _ _ _ _ _ _ _ _ _ _ _ _ _ _ _ _ _ _ _ _ _)]
    unfold kernelRun0_B
    dsimp only
    sl_unfold_words
    simp only [View.readAt_eq_ld, (hs0_0 t).read_unread, (hs0_1 t).read_unread, (hs0_2 t).read_unread, (hs0_3 t).read_unread, (hs0_4 t).read_unread, (hs0_5 t).read_unread, (hs0_6 t).read_unread, (hs0_7 t).read_unread, (hs0_8 t).read_unread, (hs0_9 t).read_unread, (hs0_10 t).read_unread, (hs0_11 t).read_unread]
    refine (View.canon_cons_unit_lit _ _ _ (by decide)).trans ?_
    simp only [ld_w2_1024_1024, ld_w2_1_1024, ld_w3_1024, ld_w2_1_512, ld_w2_1_128, ld_w2_1024_32, ld_w2_32_384, ld_w2_256, ld_w2_128, ld_queries, ld_keys, ld_values]

end Cert.InProj

end
-- ==== Proof.InProj.Lanes.lean ====
module

public import proofs.«01_k».proof.Proof.InProj.Payload

@[expose] public section

set_option maxRecDepth 16384

noncomputable section

/-! A lane of the queries or of the keys after the body is a channel of its head, normalized and rotated. -/

namespace Cert.InProj

open Cert.Kernel4Ideal Cert.Kernel4Ideal.Gen
open Idealize.ShloMosaic Idealize.ShloMosaic.TcCoe Idealize.ShloMosaic.Tactic
open Idealize.SL Idealize.SL.Sem

variable (h : FVec Ideal S1024x1024 .bf16) (i : Fin 1024)

section Norm

variable (gain : Fin 64 → EReal)

/-- A column of the keys' product. -/
def keyProd (w : Vec Ideal S1024x128 .bf16) (l : Fin 128) : EReal := ∑ k : Fin 1024, h (ix2 i k) * w (ix2 k l)

/-- A column of the queries' product. -/
def queryProd (w : Vec Ideal S1024x512 .bf16) (l : Fin 512) : EReal := ∑ k : Fin 1024, h (ix2 i k) * w (ix2 k l)

/-- A lane of the keys before the rotation. -/
theorem key_lane (w : Vec Ideal S1024x128 .bf16) (b : Vec Ideal S128x128 .bf16) (g : Vec Ideal S1x128 .f32) (l : Fin 128)
    (hb : ∀ e l : Fin 128, b (ix2 e l) = meanEntry e.val l.val) (hg : ∀ l : Fin 128, g (ix2 0 l) = gain ⟨l.val % 64, by omega⟩) :
    k0_pay14 h w b (ix2 i l) * g (ix2 0 l)
    = headNormed (fun d => keyProd h i w ⟨64 * (l.val / 64) + d.val, by omega⟩) gain ⟨l.val % 64, by omega⟩ := by
  rw [key_apply, hg]
  simp only [hb]
  have hl : (⟨64 * (l.val / 64) + l.val % 64, by omega⟩ : Fin 128) = l := Fin.ext (by show 64 * (l.val / 64) + l.val % 64 = l.val; omega)
  unfold headNormed
  refine congrArg (· * _) (congrArg₂ (· * ·) (congrArg (keyProd h i w) hl.symm) (congrArg (fun z => Ideal.rsqrt (z + _)) ?_))
  exact mean_eq (fun e : Fin 128 => keyProd h i w e * keyProd h i w e) l.val (by omega)

/-- A lane of the queries before the rotation. -/
theorem query_lane (w : Vec Ideal S1024x512 .bf16) (b : Vec Ideal S256x256 .bf16) (g : Vec Ideal S1x512 .f32) (l : Fin 512)
    (hb : ∀ e l : Fin 256, b (ix2 e l) = meanEntry e.val l.val) (hg : ∀ l : Fin 512, g (ix2 0 l) = gain ⟨l.val % 64, by omega⟩) :
    k0_pay9 h w b b g (ix2 i l)
    = headNormed (fun d => queryProd h i w ⟨64 * (l.val / 64) + d.val, by omega⟩) gain ⟨l.val % 64, by omega⟩ := by
  rw [query_apply, hg]
  simp only [hb]
  have hl : (⟨64 * (l.val / 64) + l.val % 64, by omega⟩ : Fin 512) = l := Fin.ext (by show 64 * (l.val / 64) + l.val % 64 = l.val; omega)
  unfold headNormed
  refine congrArg (· * _) (congrArg₂ (· * ·) (congrArg (queryProd h i w) hl.symm) (congrArg (fun z => Ideal.rsqrt (z + _)) ?_))
  by_cases hc : l.val < 256
  · rw [dif_pos hc]
    exact mean_eq (fun e : Fin 256 => queryProd h i w ⟨e.val, by omega⟩ * queryProd h i w ⟨e.val, by omega⟩) l.val (by omega)
  · rw [dif_neg hc]
    refine (mean_eq (fun e : Fin 256 => queryProd h i w ⟨256 + e.val, by omega⟩ * queryProd h i w ⟨256 + e.val, by omega⟩) (l.val - 256) (by omega)).trans ?_
    refine congrArg (fun z => Ideal.div z width) (Finset.sum_congr rfl fun d _ => ?_)
    have e : (⟨256 + (64 * ((l.val - 256) / 64) + d.val), by omega⟩ : Fin 512) = ⟨64 * (l.val / 64) + d.val, by omega⟩ :=
      Fin.ext (by show 256 + (64 * ((l.val - 256) / 64) + d.val) = 64 * (l.val / 64) + d.val; omega)
    show queryProd h i w ⟨256 + (64 * ((l.val - 256) / 64) + d.val), _⟩ * queryProd h i w ⟨256 + (64 * ((l.val - 256) / 64) + d.val), _⟩ = _
    rw [e]

end Norm

section Rotation

variable (r : Vec Ideal S1024x32 .bf16) (s : Vec Ideal S32x384 .bf16) (n : Vec Ideal S1x128 .f32) (gain co si : Fin 64 → EReal)
  (cs sn : Fin 8 → EReal) (hcs : ∀ d, cs d ≠ ⊤) (hsn : ∀ d, sn d ≠ ⊤)
  (hr : ∀ k : Fin 32, r (ix2 i k) = ropeRow cs sn k) (hs : ∀ (k : Fin 32) (l : Fin 384), s (ix2 k l) = selEntry k.val l.val)
  (hn : ∀ l : Fin 128, n (ix2 0 l) = bit (decide (16 ≤ l.val % 64)))

include hr hs hn

theorem cos_lane (l : Fin 128) : k0_pay6 (k0_pay5 r s) n (ix2 i l) = lane cs sn l.val + bit (decide (16 ≤ l.val % 64)) := by
  rw [cos_apply, hn]
  simp only [hr, hs]
  rfl

omit hn in
theorem sina_lane (l : Fin 128) : k0_pay7 (k0_pay4 r s) (ix2 i l) = lane cs sn (128 + l.val) := by
  rw [sina_apply]
  simp only [hr, hs]
  rfl

omit hn in
theorem sinb_lane (l : Fin 128) : k0_pay8 (k0_pay4 r s) (ix2 i l) = lane cs sn (256 + l.val) := by
  rw [sinb_apply]
  simp only [hr, hs]
  rfl

include hcs hsn

/-- A lane of the keys after the rotation. -/
theorem key_rotated (w : Vec Ideal S1024x128 .bf16) (b : Vec Ideal S128x128 .bf16) (g : Vec Ideal S1x128 .f32) (l : Fin 128)
    (hb : ∀ e l : Fin 128, b (ix2 e l) = meanEntry e.val l.val) (hg : ∀ l : Fin 128, g (ix2 0 l) = gain ⟨l.val % 64, by omega⟩) :
    k0_pay15 (k0_pay6 (k0_pay5 r s) n) (k0_pay7 (k0_pay4 r s)) (k0_pay8 (k0_pay4 r s)) (k0_pay14 h w b) g (ix2 i l)
    = rotated (headNormed (fun d => keyProd h i w ⟨64 * (l.val / 64) + d.val, by omega⟩) gain) cs sn ⟨l.val % 64, by omega⟩ := by
  rw [keyRot_apply, cos_lane i r s n cs sn hr hs hn, sina_lane i r s cs sn hr hs, sinb_lane i r s cs sn hr hs]
  refine (lanes_rotate cs sn hcs hsn (fun l => k0_pay14 h w b (ix2 i l) * g (ix2 0 l)) l).trans ?_
  refine congrArg (fun t => rotated t cs sn _) (funext fun d => ?_)
  refine (key_lane h i gain w b g _ hb hg).trans ?_
  have e1 : (64 * (l.val / 64) + d.val) / 64 = l.val / 64 := by omega
  have e2 : (⟨(64 * (l.val / 64) + d.val) % 64, by omega⟩ : Fin 64) = d := Fin.ext (by show (64 * (l.val / 64) + d.val) % 64 = d.val; omega)
  refine (congrArg (headNormed _ gain) e2).trans (congrArg (fun t => headNormed t gain d) (funext fun x => congrArg (keyProd h i w) (Fin.ext ?_)))
  show 64 * ((64 * (l.val / 64) + d.val) / 64) + x.val = 64 * (l.val / 64) + x.val
  rw [e1]

/-- A lane of the queries after the rotation. -/
theorem query_rotated (w : Vec Ideal S1024x512 .bf16) (b : Vec Ideal S256x256 .bf16) (g : Vec Ideal S1x512 .f32) (l : Fin 512)
    (hb : ∀ e l : Fin 256, b (ix2 e l) = meanEntry e.val l.val) (hg : ∀ l : Fin 512, g (ix2 0 l) = gain ⟨l.val % 64, by omega⟩) :
    k0_pay13 (k0_pay6 (k0_pay5 r s) n) (k0_pay7 (k0_pay4 r s)) (k0_pay8 (k0_pay4 r s)) (k0_pay9 h w b b g)
      (k0_pay10 h (k0_pay4 r s) (k0_pay5 r s) n w b b g)
      (k0_pay11 h w b b g)
      (k0_pay12 h (k0_pay4 r s) (k0_pay5 r s) n w b b g) (ix2 i l)
    = rotated (headNormed (fun d => queryProd h i w ⟨64 * (l.val / 64) + d.val, by omega⟩) gain) cs sn ⟨l.val % 64, by omega⟩
      * Ideal.ofBits .f32 0x3E000000#32 := by
  rw [queryRot_apply, cos_lane i r s n cs sn hr hs hn, sina_lane i r s cs sn hr hs, sinb_lane i r s cs sn hr hs]
  refine congrArg (· * _) ?_
  have hl : (⟨128 * (l.val / 128) + (within l).val, by unfold within; omega⟩ : Fin 512) = l := Fin.ext (by
    show 128 * (l.val / 128) + l.val % 128 = l.val
    omega)
  have key := lanes_rotate cs sn hcs hsn (fun x => k0_pay9 h w b b g (ix2 i (⟨128 * (l.val / 128) + x.val, by omega⟩ : Fin 512))) (within l)
  rw [hl] at key
  refine key.trans ?_
  have e0 : (⟨(within l).val % 64, by omega⟩ : Fin 64) = ⟨l.val % 64, by omega⟩ := Fin.ext (by show l.val % 128 % 64 = l.val % 64; omega)
  rw [e0]
  refine congrArg (fun t => rotated t cs sn _) (funext fun d => ?_)
  refine (query_lane h i gain w b g _ hb hg).trans ?_
  have e1 : (128 * (l.val / 128) + (64 * (l.val % 128 / 64) + d.val)) / 64 = l.val / 64 := by omega
  have e2 : (⟨(128 * (l.val / 128) + (64 * (l.val % 128 / 64) + d.val)) % 64, by omega⟩ : Fin 64) = d := Fin.ext (by
    show (128 * (l.val / 128) + (64 * (l.val % 128 / 64) + d.val)) % 64 = d.val
    omega)
  refine (congrArg (headNormed _ gain) e2).trans (congrArg (fun t => headNormed t gain d) (funext fun x => congrArg (queryProd h i w) (Fin.ext ?_)))
  show 64 * ((128 * (l.val / 128) + (64 * (l.val % 128 / 64) + d.val)) / 64) + x.val = 64 * (l.val / 64) + x.val
  rw [e1]

end Rotation

end Cert.InProj

end
-- ==== Proof.InProj.Host.lean ====
module

public import proofs.«01_k».proof.Proof.InProj.Row
public import proofs.«01_k».proof.Proof.OutProj.Array
public import proofs.«01_k».proof.Proof.Gen.Kernel4Ideal.Frame.Runs
public import Idealize.ShloMosaic.Lib.Pipeline.ValueKit
public import Idealize.ShloMosaic.Lib.Claim

@[expose] public section

set_option maxRecDepth 16384

noncomputable section

/-! The arrays that the host code hands to the input projection's call: the arguments, the rotary table and the constant
matrices. -/

namespace Cert.InProj

open Cert.Kernel4Ideal Cert.Kernel4Ideal.Gen
open Cert.OutProj (seq pos)
open Idealize.ShloMosaic Idealize.ShloMosaic.TcCoe Idealize.ShloMosaic.Tactic
open Idealize.SL Idealize.SL.Sem

variable (m : (ℓ : Loc nD τ sig) → Buf (Elt Ideal) ℓ) (c : Dev nD)

/-- The residual stream's rows. -/
theorem V_x (n : Fin 65536) (j : Fin 1024) :
    (V m c main_v54 : Vec Ideal S65536x1024 .f32) (ix2 n j) = m ((c.tc : Thread nD τ).loc main_arg0) (ix3 (seq n) (pos n) j) := by
  entry_read
  pointwise
  rfl

/-- The norm's weight. -/
theorem V_g1 (j : Fin 1024) :
    (V m c main_v55 : Vec Ideal S1x1024 .f32) (ix2 0 j) = m ((c.tc : Thread nD τ).loc main_arg4) (ix1 j) := by
  entry_read
  pointwise

/-- The weights. -/
theorem V_w (k : Fin 1024) (j : Fin 1280) :
    (V m c main_v56 : Vec Ideal S1024x1280 .bf16) (ix2 k j) = m ((c.tc : Thread nD τ).loc main_arg5) (ix2 k j) := by
  entry_read
  pointwise

/-- The queries' gain, once for each head. -/
theorem V_qg (l : Fin 512) :
    (V m c main_v60 : Vec Ideal S1x512 .f32) (ix2 0 l) = m ((c.tc : Thread nD τ).loc main_arg6) (ix1 ⟨l.val % 64, by omega⟩) := by
  entry_read
  pointwise
  blk_ext

/-- The keys' gain. -/
theorem V_kg (l : Fin 128) :
    (V m c main_v64 : Vec Ideal S1x128 .f32) (ix2 0 l) = m ((c.tc : Thread nD τ).loc main_arg7) (ix1 ⟨l.val % 64, by omega⟩) := by
  entry_read
  pointwise
  blk_ext

/-- A bit read as a number. -/
theorem uitofp_bit (b : Bool) : (FloatOps.uitofp .f32 (BitVec.ofBool b) : Ideal .f32) = bit b := by
  cases b <;> simp [FloatOps.uitofp, bit] <;> rfl

theorem unrot_word (l : Fin 128) : IntOp.cmpi CmpIPredicate.sge (BitVec.ofNat 32 (l.val % 64)) 16#32 = BitVec.ofBool (decide (16 ≤ l.val % 64)) := by
  revert l
  decide +kernel

theorem head_word (k l : Fin 4) : IntOp.cmpi CmpIPredicate.eq (BitVec.ofNat 32 k.val) (BitVec.ofNat 32 l.val) = BitVec.ofBool (decide (k.val = l.val)) := by
  revert k l
  decide +kernel

theorem plus_word (k : Fin 32) (l : Fin 384) :
    IntOp.ori
      (IntOp.andi
        (IntOp.andi (IntOp.cmpi CmpIPredicate.slt (BitVec.ofNat 32 (k.val / 8)) 2#32)
          (IntOp.cmpi CmpIPredicate.eq (BitVec.ofNat 32 (l.val / 128)) 0#32))
        (IntOp.ori (IntOp.cmpi CmpIPredicate.eq (BitVec.ofNat 32 (l.val % 64)) (BitVec.ofNat 32 (k.val % 8)))
          (IntOp.cmpi CmpIPredicate.eq (BitVec.ofNat 32 (l.val % 64)) (IntOp.addi (BitVec.ofNat 32 (k.val % 8)) 8#32))))
      (IntOp.andi
        (IntOp.andi (IntOp.cmpi CmpIPredicate.sge (BitVec.ofNat 32 (k.val / 8)) 2#32)
          (IntOp.cmpi CmpIPredicate.eq (BitVec.ofNat 32 (l.val / 128)) 2#32))
        (IntOp.cmpi CmpIPredicate.eq (BitVec.ofNat 32 (l.val % 64)) (IntOp.addi (BitVec.ofNat 32 (k.val % 8)) 8#32)))
    = BitVec.ofBool (plus k.val l.val) := by
  revert k l
  decide +kernel

theorem minus_word (k : Fin 32) (l : Fin 384) :
    IntOp.andi
      (IntOp.andi (IntOp.cmpi CmpIPredicate.sge (BitVec.ofNat 32 (k.val / 8)) 2#32)
        (IntOp.cmpi CmpIPredicate.eq (BitVec.ofNat 32 (l.val / 128)) 1#32))
      (IntOp.cmpi CmpIPredicate.eq (BitVec.ofNat 32 (l.val % 64)) (BitVec.ofNat 32 (k.val % 8)))
    = BitVec.ofBool (minus k.val l.val) := by
  revert k l
  decide +kernel

/-- The lanes beyond the rotated channels. -/
theorem V_unrot (l : Fin 128) : (V m c main_v36 : Vec Ideal S1x128 .f32) (ix2 0 l) = bit (decide (16 ≤ l.val % 64)) := by
  entry_read
  pointwise
  rw [unrot_word, uitofp_bit]

/-- The selecting matrix. -/
theorem V_sel (k : Fin 32) (l : Fin 384) : (V m c main_v37 : Vec Ideal S32x384 .bf16) (ix2 k l) = selEntry k.val l.val := by
  entry_read
  pointwise
  rw [plus_word, minus_word, uitofp_bit, uitofp_bit]
  rfl

/-- The matrix of the queries' means. -/
theorem V_bdq (k l : Fin 256) : (V m c main_v45 : Vec Ideal S256x256 .bf16) (ix2 k l) = meanEntry k.val l.val := by
  entry_read
  pointwise
  rw [head_word ⟨k.val / 64, by omega⟩ ⟨l.val / 64, by omega⟩, uitofp_bit]
  rfl

/-- The matrix of the keys' means. -/
theorem V_bdk (k l : Fin 128) : (V m c main_v53 : Vec Ideal S128x128 .bf16) (ix2 k l) = meanEntry k.val l.val := by
  entry_read
  pointwise
  rw [head_word ⟨k.val / 64, by omega⟩ ⟨l.val / 64, by omega⟩, uitofp_bit]
  rfl

end Cert.InProj

end
-- ==== Proof.InProj.Table.lean ====
module

public import proofs.«01_k».proof.Proof.InProj.Row
public import proofs.«01_k».proof.Proof.OutProj.Array
public import proofs.«01_k».proof.Proof.Gen.Kernel4Ideal.Frame.Runs
public import Idealize.ShloMosaic.Lib.Pipeline.ValueKit
public import Idealize.ShloMosaic.Lib.StableHlo.RunRead
public import Idealize.ShloMosaic.Lib.Claim

@[expose] public section

set_option maxRecDepth 16384

noncomputable section

/-! The rotary table that the host code hands to the input projection's call. -/

namespace Cert.InProj

open Cert.Kernel4Ideal Cert.Kernel4Ideal.Gen
open Cert.OutProj (seq pos)
open Idealize.ShloMosaic Idealize.ShloMosaic.TcCoe Idealize.ShloMosaic.Tactic
open Idealize.SL Idealize.SL.Sem

variable (m : (ℓ : Loc nD τ sig) → Buf (Elt Ideal) ℓ) (c : Dev nD)

/-- The cosines as the table holds them. -/
theorem V_cos (n : Fin 65536) (d : Fin 8) : (V m c main_v67 : Vec Ideal S65536x8 .bf16) (ix2 n d)
    = Ideal.cos (m ((c.tc : Thread nD τ).loc main_arg1) (ix3 (seq n) (pos n) d)) := by
  entry_read
  pointwise
  rfl

/-- What rounding left of them. -/
theorem V_cosRest (n : Fin 65536) (d : Fin 8) : (V m c main_v70 : Vec Ideal S65536x8 .bf16) (ix2 n d)
    = Ideal.cos (m ((c.tc : Thread nD τ).loc main_arg1) (ix3 (seq n) (pos n) d)) - Ideal.cos (m ((c.tc : Thread nD τ).loc main_arg1) (ix3 (seq n) (pos n) d)) := by
  entry_read
  pointwise
  rfl

/-- The sines as the table holds them. -/
theorem V_sin (n : Fin 65536) (d : Fin 8) : (V m c main_v73 : Vec Ideal S65536x8 .bf16) (ix2 n d)
    = Ideal.sin (m ((c.tc : Thread nD τ).loc main_arg1) (ix3 (seq n) (pos n) d)) := by
  entry_read
  pointwise
  rfl

/-- What rounding left of them. -/
theorem V_sinRest (n : Fin 65536) (d : Fin 8) : (V m c main_v76 : Vec Ideal S65536x8 .bf16) (ix2 n d)
    = Ideal.sin (m ((c.tc : Thread nD τ).loc main_arg1) (ix3 (seq n) (pos n) d)) - Ideal.sin (m ((c.tc : Thread nD τ).loc main_arg1) (ix3 (seq n) (pos n) d)) := by
  entry_read
  pointwise
  rfl

/-- What the host code writes after the table. -/
def later : List (Ref sig .tc) := [main_cst_8, main_v78, main_v79, main_v80, main_v81, main_v82, main_v83, main_v84, main_v85, main_v86]

/-- The buffers before the table is joined. -/
def before (b : DevRef τ sig) : Buf (Elt Ideal) (c, b) := StableHlo.upto hostOps0 (fun b => m (c, b)) 87 b

/-- What the host code wrote before the table keeps its contents. -/
theorem V_before (r : Ref sig .tc) (h : r ∉ main_v77 :: later) : V m c r = before m c (Proc.devRef .tc r) := by
  show StableHlo.after (hostOps0.take 87 ++ hostOps0.drop 87) _ _ = _
  rw [StableHlo.after_append]
  exact StableHlo.after_unwritten (main_v77 :: later) rfl h _

/-- The table is the four put side by side. -/
theorem V_table : V m c main_v77 = (concatenate S65536x32 1 [⟨S65536x8, (V m c main_v67 : Vec Ideal S65536x8 .bf16)⟩, ⟨S65536x8, (V m c main_v70 : Vec Ideal S65536x8 .bf16)⟩,
      ⟨S65536x8, (V m c main_v73 : Vec Ideal S65536x8 .bf16)⟩, ⟨S65536x8, (V m c main_v76 : Vec Ideal S65536x8 .bf16)⟩]
      concatenates_S65536x8_S65536x8_S65536x8_S65536x8_S65536x32_d1 : Vec Ideal S65536x32 .bf16) := by
  rw [V_before m c main_v67 (by decide), V_before m c main_v70 (by decide), V_before m c main_v73 (by decide), V_before m c main_v76 (by decide)]
  have h := StableHlo.after_last_write (ops := (hostOps0 : List (HloOp τ sig (Elt Ideal)))) (i := 87) later (r := main_v77) rfl rfl (by decide) (fun b => m (c, b))
  refine h.trans ?_
  rw [StableHlo.nary_result]
  rfl

/-- The rotary table. -/
theorem V_rope (n : Fin 65536) (k : Fin 32) :
    (V m c main_v77 : Vec Ideal S65536x32 .bf16) (ix2 n k)
    = ropeRow (fun d => Ideal.cos (m ((c.tc : Thread nD τ).loc main_arg1) (ix3 (seq n) (pos n) d)))
        (fun d => Ideal.sin (m ((c.tc : Thread nD τ).loc main_arg1) (ix3 (seq n) (pos n) d))) k := by
  rw [V_table]
  have h1 := V_cos m c n
  have h2 := V_cosRest m c n
  have h3 := V_sin m c n
  have h4 := V_sinRest m c n
  generalize (V m c main_v67 : Vec Ideal S65536x8 .bf16) = a at *
  generalize (V m c main_v70 : Vec Ideal S65536x8 .bf16) = a' at *
  generalize (V m c main_v73 : Vec Ideal S65536x8 .bf16) = b at *
  generalize (V m c main_v76 : Vec Ideal S65536x8 .bf16) = b' at *
  pointwise
  simp only [h1, h2, h3, h4]
  unfold ropeRow
  have hk := k.isLt
  by_cases e1 : k.val < 8
  · rw [dif_pos e1, dif_pos e1]
  · rw [dif_neg e1, dif_neg e1]
    by_cases e2 : k.val < 16
    · rw [dif_pos e2, dif_pos (show k.val - 8 < 8 by omega)]
    · rw [dif_neg e2, dif_neg (show ¬ k.val - 8 < 8 by omega)]
      by_cases e3 : k.val < 24
      · rw [dif_pos e3, dif_pos (show k.val - 8 - 8 < 8 by omega)]
        exact congrArg (fun d => Ideal.sin (m ((c.tc : Thread nD τ).loc main_arg1) (ix3 (seq n) (pos n) d))) (Fin.ext (by
          show k.val - 8 - 8 = k.val - 16
          omega))
      · rw [dif_neg e3, dif_neg (show ¬ k.val - 8 - 8 < 8 by omega)]
        exact congrArg (fun d => Ideal.sin (m ((c.tc : Thread nD τ).loc main_arg1) (ix3 (seq n) (pos n) d))
          - Ideal.sin (m ((c.tc : Thread nD τ).loc main_arg1) (ix3 (seq n) (pos n) d))) (Fin.ext (by
          show k.val - 8 - 8 - 8 = k.val - 24
          omega))

end Cert.InProj

end
-- ==== Proof.InProj.Array.lean ====
module

public import proofs.«01_k».proof.Proof.InProj.Block
public import proofs.«01_k».proof.Proof.InProj.Lanes
public import proofs.«01_k».proof.Proof.InProj.Host
public import proofs.«01_k».proof.Proof.InProj.Table

@[expose] public section

set_option maxRecDepth 16384

noncomputable section

/-! The queries, the keys and the values after the run, as functions of the argument arrays. -/

namespace Cert.InProj

open Cert.Kernel4Ideal Cert.Kernel4Ideal.Gen Cert.InProj.Run
open Cert.OutProj (seq pos)
open Idealize.ShloMosaic Idealize.ShloMosaic.TcCoe Idealize.ShloMosaic.Tactic
open Idealize.SL Idealize.SL.Sem

/-- A cosine is a real number or minus infinity. -/
theorem cos_ne_top (x : EReal) : Ideal.cos x ≠ ⊤ := by
  induction x with
  | bot => exact bot_ne_top
  | top => exact bot_ne_top
  | coe r => exact EReal.coe_ne_top _

/-- And so is a sine. -/
theorem sin_ne_top (x : EReal) : Ideal.sin x ≠ ⊤ := by
  induction x with
  | bot => exact bot_ne_top
  | top => exact bot_ne_top
  | coe r => exact EReal.coe_ne_top _

section Of

variable (A0 : Vec Ideal S8x8192x1024 .f32) (A1 : Vec Ideal S8x8192x8 .f32) (A2 A3 : Vec Ideal S8x1x1024 .f32) (A4 : Vec Ideal S1024 .f32)
  (A5 : Vec Ideal S1024x1280 .f32) (A6 A7 : Vec Ideal S64 .f32) (n : Fin 65536)

/-- A token's modulated norm, of the argument arrays. -/
def hiddenOf (j : Fin 1024) : EReal :=
  OutProj.normed (fun j => A0 (ix3 (seq n) (pos n) j)) (fun j => A4 (ix1 j)) (fun j => A3 (ix3 (seq n) 0 j)) (fun j => A2 (ix3 (seq n) 0 j)) j

/-- A column of its product with the weights. -/
def prodOf (l : Fin 1280) : EReal := ∑ k : Fin 1024, hiddenOf A0 A2 A3 A4 n k * A5 (ix2 k l)

/-- Its angles' cosines and sines. -/
def cosOf (d : Fin 8) : EReal := Ideal.cos (A1 (ix3 (seq n) (pos n) d))

def sinOf (d : Fin 8) : EReal := Ideal.sin (A1 (ix3 (seq n) (pos n) d))

/-- Its queries: eight heads of 64 channels, normalized, rotated and scaled. -/
def queryOf (l : Fin 512) : EReal :=
  rotated (headNormed (fun d => prodOf A0 A2 A3 A4 A5 n ⟨64 * (l.val / 64) + d.val, by omega⟩) (fun d => A6 (ix1 d))) (cosOf A1 n) (sinOf A1 n)
    ⟨l.val % 64, by omega⟩ * Ideal.ofBits .f32 0x3E000000#32

/-- Its keys: two heads. -/
def keyOf (l : Fin 128) : EReal :=
  rotated (headNormed (fun d => prodOf A0 A2 A3 A4 A5 n ⟨512 + (64 * (l.val / 64) + d.val), by omega⟩) (fun d => A7 (ix1 d))) (cosOf A1 n) (sinOf A1 n)
    ⟨l.val % 64, by omega⟩

/-- Its values. -/
def valueOf (l : Fin 128) : EReal := prodOf A0 A2 A3 A4 A5 n ⟨640 + l.val, by omega⟩

end Of

variable (m : (ℓ : Loc nD τ sig) → Buf (Elt Ideal) ℓ) (c : Dev nD)

/-- Where the blocks lie. -/
theorem idx : ∀ t : Fin grid0.N, win0_0.index t = ![t.val, 0] ∧ win0_1.index t = ![t.val / 8, 0, 0] ∧ win0_2.index t = ![t.val / 8, 0, 0]
    ∧ win0_3.index t = ![0, 0] ∧ win0_4.index t = ![0, 0] ∧ win0_5.index t = ![0, 0] ∧ win0_6.index t = ![0, 0] ∧ win0_7.index t = ![t.val, 0]
    ∧ win0_8.index t = ![0, 0] ∧ win0_9.index t = ![0, 0] ∧ win0_10.index t = ![0, 0] ∧ win0_11.index t = ![0, 0]
    ∧ win0_15.index t = ![t.val, 0] ∧ win0_16.index t = ![t.val, 0] ∧ win0_17.index t = ![t.val, 0] := by
  decide +kernel

variable (t : Fin grid0.N)

theorem blk_x (i : Fin 1024) (j : Fin 1024) (h : t.val * 1024 + i.val < 65536) :
    (iblk m c 0 t : Vec Ideal S1024x1024 .f32) (ix2 i j) = V m c main_v54 (ix2 ⟨t.val * 1024 + i.val, h⟩ j) := by
  blk_ext [iblk, idx t]

theorem blk_shift (j : Fin 1024) (h : t.val / 8 < 8) :
    (iblk m c 1 t : Vec Ideal S1x1x1024 .f32) (ix3 0 0 j) = m ((c.tc : Thread nD τ).loc main_arg2) (ix3 ⟨t.val / 8, h⟩ 0 j) := by
  rw [← V_main_arg2 m c]
  blk_ext [iblk, idx t]

theorem blk_scale (j : Fin 1024) (h : t.val / 8 < 8) :
    (iblk m c 2 t : Vec Ideal S1x1x1024 .f32) (ix3 0 0 j) = m ((c.tc : Thread nD τ).loc main_arg3) (ix3 ⟨t.val / 8, h⟩ 0 j) := by
  rw [← V_main_arg3 m c]
  blk_ext [iblk, idx t]

theorem blk_g1 (j : Fin 1024) : (iblk m c 3 t : Vec Ideal S1x1024 .f32) (ix2 0 j) = V m c main_v55 (ix2 0 j) := by
  blk_ext [iblk, idx t]

theorem blk_w (k : Fin 1024) (j : Fin 1280) : (iblk m c 4 t : Vec Ideal S1024x1280 .bf16) (ix2 k j) = V m c main_v56 (ix2 k j) := by
  blk_ext [iblk, idx t]

theorem blk_qg (l : Fin 512) : (iblk m c 5 t : Vec Ideal S1x512 .f32) (ix2 0 l) = V m c main_v60 (ix2 0 l) := by
  blk_ext [iblk, idx t]

theorem blk_kg (l : Fin 128) : (iblk m c 6 t : Vec Ideal S1x128 .f32) (ix2 0 l) = V m c main_v64 (ix2 0 l) := by
  blk_ext [iblk, idx t]

theorem blk_rope (i : Fin 1024) (k : Fin 32) (h : t.val * 1024 + i.val < 65536) :
    (iblk m c 7 t : Vec Ideal S1024x32 .bf16) (ix2 i k) = V m c main_v77 (ix2 ⟨t.val * 1024 + i.val, h⟩ k) := by
  blk_ext [iblk, idx t]

theorem blk_sel (k : Fin 32) (l : Fin 384) : (iblk m c 8 t : Vec Ideal S32x384 .bf16) (ix2 k l) = V m c main_v37 (ix2 k l) := by
  blk_ext [iblk, idx t]

theorem blk_unrot (l : Fin 128) : (iblk m c 9 t : Vec Ideal S1x128 .f32) (ix2 0 l) = V m c main_v36 (ix2 0 l) := by
  blk_ext [iblk, idx t]

theorem blk_bdq (k l : Fin 256) : (iblk m c 10 t : Vec Ideal S256x256 .bf16) (ix2 k l) = V m c main_v45 (ix2 k l) := by
  blk_ext [iblk, idx t]

theorem blk_bdk (k l : Fin 128) : (iblk m c 11 t : Vec Ideal S128x128 .bf16) (ix2 k l) = V m c main_v53 (ix2 k l) := by
  blk_ext [iblk, idx t]

section Point

variable (i : Fin 1024) (n : Fin 65536) (hn : n.val = t.val * 1024 + i.val)

include hn

/-- A row that a grid point normalizes is its token's norm. -/
theorem hidden_eq (j : Fin 1024) : hidden m c t (ix2 i j)
    = hiddenOf (m ((c.tc : Thread nD τ).loc main_arg0)) (m ((c.tc : Thread nD τ).loc main_arg2)) (m ((c.tc : Thread nD τ).loc main_arg3))
        (m ((c.tc : Thread nD τ).loc main_arg4)) n j := by
  have ht : t.val < 64 := t.isLt
  have hs : (⟨t.val / 8, by omega⟩ : Fin 8) = seq n := Fin.ext (by show t.val / 8 = n.val / 8192; omega)
  have hb : t.val * 1024 + i.val < 65536 := by omega
  obtain rfl : n = ⟨t.val * 1024 + i.val, hb⟩ := Fin.ext hn
  unfold hidden hiddenOf
  rw [hidden_apply]
  exact OutProj.normed_congr (fun j => (blk_x m c t i j _).trans (V_x m c _ j)) (fun j => (blk_g1 m c t j).trans (V_g1 m c j))
    (fun j => by rw [blk_scale m c t j (by omega), hs]) (fun j => by rw [blk_shift m c t j (by omega), hs]) j

/-- A product of such a row with columns of the weights. -/
theorem prod_eq (a b : ℕ) (h : b + a ≤ 1280) (l : Fin a) (col : Fin 1280) (hc : col.val = b + l.val) :
    ∑ k : Fin 1024, hidden m c t (ix2 i k) * columns a b h (iblk m c 4 t) (ix2 k l)
    = prodOf (m ((c.tc : Thread nD τ).loc main_arg0)) (m ((c.tc : Thread nD τ).loc main_arg2)) (m ((c.tc : Thread nD τ).loc main_arg3))
        (m ((c.tc : Thread nD τ).loc main_arg4)) (m ((c.tc : Thread nD τ).loc main_arg5)) n col := by
  have hl : b + l.val < 1280 := by omega
  obtain rfl : col = ⟨b + l.val, hl⟩ := Fin.ext hc
  unfold prodOf
  refine Finset.sum_congr rfl fun k _ => congrArg₂ (· * ·) (hidden_eq m c t i n hn k) ?_
  exact (blk_w m c t k ⟨b + l.val, hl⟩).trans (V_w m c k _)

/-- The rotary row of the token. -/
theorem rope_eq (k : Fin 32) : (iblk m c 7 t : Vec Ideal S1024x32 .bf16) (ix2 i k)
    = ropeRow (cosOf (m ((c.tc : Thread nD τ).loc main_arg1)) n) (sinOf (m ((c.tc : Thread nD τ).loc main_arg1)) n) k := by
  have ht : t.val < 64 := t.isLt
  have hb : t.val * 1024 + i.val < 65536 := by omega
  obtain rfl : n = ⟨t.val * 1024 + i.val, hb⟩ := Fin.ext hn
  exact (blk_rope m c t i k hb).trans (V_rope m c _ k)

/-- What a grid point stores of the values, at its token. -/
theorem value_eq (l : Fin 128) : (outsAt0 m c t.val t.isLt).2.2.1 (ix2 i l)
    = valueOf (m ((c.tc : Thread nD τ).loc main_arg0)) (m ((c.tc : Thread nD τ).loc main_arg2)) (m ((c.tc : Thread nD τ).loc main_arg3))
        (m ((c.tc : Thread nD τ).loc main_arg4)) (m ((c.tc : Thread nD τ).loc main_arg5)) n l := by
  rw [out17_eq, value_apply]
  exact prod_eq m c t i n hn 128 640 _ l _ rfl

/-- Of the keys. -/
theorem key_eq (l : Fin 128) : (outsAt0 m c t.val t.isLt).2.1 (ix2 i l)
    = keyOf (m ((c.tc : Thread nD τ).loc main_arg0)) (m ((c.tc : Thread nD τ).loc main_arg1)) (m ((c.tc : Thread nD τ).loc main_arg2))
        (m ((c.tc : Thread nD τ).loc main_arg3)) (m ((c.tc : Thread nD τ).loc main_arg4)) (m ((c.tc : Thread nD τ).loc main_arg5))
        (m ((c.tc : Thread nD τ).loc main_arg7)) n l := by
  rw [out16_eq]
  refine (key_rotated (hidden m c t) i (iblk m c 7 t) (iblk m c 8 t) (iblk m c 9 t) (fun d => m ((c.tc : Thread nD τ).loc main_arg7) (ix1 d))
    (cosOf (m ((c.tc : Thread nD τ).loc main_arg1)) n) (sinOf (m ((c.tc : Thread nD τ).loc main_arg1)) n)
    (fun d => cos_ne_top _) (fun d => sin_ne_top _) (rope_eq m c t i n hn) (fun k l => (blk_sel m c t k l).trans (V_sel m c k l))
    (fun l => (blk_unrot m c t l).trans (V_unrot m c l)) _ _ _ l (fun e l => (blk_bdk m c t e l).trans (V_bdk m c e l))
    (fun l => (blk_kg m c t l).trans (V_kg m c l))).trans ?_
  refine congrArg (fun T => rotated (headNormed T _) _ _ _) (funext fun d => ?_)
  exact prod_eq m c t i n hn 128 512 _ _ _ rfl

/-- Of the queries. -/
theorem query_eq (l : Fin 512) : (outsAt0 m c t.val t.isLt).1 (ix2 i l)
    = queryOf (m ((c.tc : Thread nD τ).loc main_arg0)) (m ((c.tc : Thread nD τ).loc main_arg1)) (m ((c.tc : Thread nD τ).loc main_arg2))
        (m ((c.tc : Thread nD τ).loc main_arg3)) (m ((c.tc : Thread nD τ).loc main_arg4)) (m ((c.tc : Thread nD τ).loc main_arg5))
        (m ((c.tc : Thread nD τ).loc main_arg6)) n l := by
  rw [out15_eq]
  refine (query_rotated (hidden m c t) i (iblk m c 7 t) (iblk m c 8 t) (iblk m c 9 t) (fun d => m ((c.tc : Thread nD τ).loc main_arg6) (ix1 d))
    (cosOf (m ((c.tc : Thread nD τ).loc main_arg1)) n) (sinOf (m ((c.tc : Thread nD τ).loc main_arg1)) n)
    (fun d => cos_ne_top _) (fun d => sin_ne_top _) (rope_eq m c t i n hn) (fun k l => (blk_sel m c t k l).trans (V_sel m c k l))
    (fun l => (blk_unrot m c t l).trans (V_unrot m c l)) _ _ _ l (fun e l => (blk_bdq m c t e l).trans (V_bdq m c e l))
    (fun l => (blk_qg m c t l).trans (V_qg m c l))).trans ?_
  refine congrArg (fun T => rotated (headNormed T _) _ _ _ * _) (funext fun d => ?_)
  exact prod_eq m c t i n hn 512 0 _ _ _ (Nat.zero_add _).symm

end Point

/-- The queries after the run. -/
theorem arr15_eq : (dats m 0 c).arrAt 15 cfg0.N = (fun y : S65536x512.Idx =>
    queryOf (m ((c.tc : Thread nD τ).loc main_arg0)) (m ((c.tc : Thread nD τ).loc main_arg1)) (m ((c.tc : Thread nD τ).loc main_arg2))
        (m ((c.tc : Thread nD τ).loc main_arg3)) (m ((c.tc : Thread nD τ).loc main_arg4)) (m ((c.tc : Thread nD τ).loc main_arg5))
        (m ((c.tc : Thread nD τ).loc main_arg6)) (y 0) (y 1) : Vec Ideal S65536x512 .bf16) := by
  refine (dats m 0 c).arrAt_eq_of_covers 15 _ (by decide +kernel) fun t hf y => ?_
  blk_simp
  rw [after0_15]
  idx_vars y
  refine (query_eq m c t y0 (((cfg0.win 15).blk t).view.emb (ix2 y0 y1) 0) ?_ y1).trans ?_
  · blk_simp [idx t]
  · refine congrArg (queryOf _ _ _ _ _ _ _ _) (Fin.ext ?_)
    blk_simp [idx t]

/-- The keys after the run. -/
theorem arr16_eq : (dats m 0 c).arrAt 16 cfg0.N = (fun y : S65536x128.Idx =>
    keyOf (m ((c.tc : Thread nD τ).loc main_arg0)) (m ((c.tc : Thread nD τ).loc main_arg1)) (m ((c.tc : Thread nD τ).loc main_arg2))
        (m ((c.tc : Thread nD τ).loc main_arg3)) (m ((c.tc : Thread nD τ).loc main_arg4)) (m ((c.tc : Thread nD τ).loc main_arg5))
        (m ((c.tc : Thread nD τ).loc main_arg7)) (y 0) (y 1) : Vec Ideal S65536x128 .bf16) := by
  refine (dats m 0 c).arrAt_eq_of_covers 16 _ (by decide +kernel) fun t hf y => ?_
  blk_simp
  rw [after0_16]
  idx_vars y
  refine (key_eq m c t y0 (((cfg0.win 16).blk t).view.emb (ix2 y0 y1) 0) ?_ y1).trans ?_
  · blk_simp [idx t]
  · refine congrArg (keyOf _ _ _ _ _ _ _ _) (Fin.ext ?_)
    blk_simp [idx t]

/-- The values after the run. -/
theorem arr17_eq : (dats m 0 c).arrAt 17 cfg0.N = (fun y : S65536x128.Idx =>
    valueOf (m ((c.tc : Thread nD τ).loc main_arg0)) (m ((c.tc : Thread nD τ).loc main_arg2)) (m ((c.tc : Thread nD τ).loc main_arg3))
        (m ((c.tc : Thread nD τ).loc main_arg4)) (m ((c.tc : Thread nD τ).loc main_arg5)) (y 0) (y 1) : Vec Ideal S65536x128 .bf16) := by
  refine (dats m 0 c).arrAt_eq_of_covers 17 _ (by decide +kernel) fun t hf y => ?_
  blk_simp
  rw [after0_17]
  idx_vars y
  refine (value_eq m c t y0 (((cfg0.win 17).blk t).view.emb (ix2 y0 y1) 0) ?_ y1).trans ?_
  · blk_simp [idx t]
  · refine congrArg (valueOf _ _ _ _ _ _) (Fin.ext ?_)
    blk_simp [idx t]

end Cert.InProj

end
-- ==== Proof.InProj.Equation.lean ====
module

public import proofs.«01_k».proof.Proof.InProj.Array
public import proofs.«01_k».proof.Proof.Gen.Reference4Ideal.Read

@[expose] public section

set_option maxRecDepth 16384

noncomputable section

/-! What the plain program computes, entry by entry, and that it is what the kernel computes. -/

namespace Cert.InProj.Ref

open Cert.Reference4Ideal Cert.Reference4Ideal.Gen Cert.Reference4Ideal.Read
open Cert.OutProj (seq pos normed rstd)
open Idealize.ShloMosaic Idealize.ShloMosaic.TcCoe Idealize.ShloMosaic.Tactic
open Idealize.SL Idealize.SL.Sem

theorem zero_eq : Ideal.ofBits .f32 0x00000000#32 = (0 : EReal) := by
  simp [Ideal.ofBits, Ideal.ieee]

theorem one_eq : Ideal.ofBits .f32 0x3F800000#32 = (1 : EReal) := by
  simp [Ideal.ofBits, Ideal.ieee, -EReal.coe_mul]
  norm_num

variable (x0 : Vec Ideal S8x8192x1024 .f32) (x1 : Vec Ideal S8x8192x8 .f32) (x2 x3 : Vec Ideal S8x1x1024 .f32) (x4 : Vec Ideal S1024 .f32)
  (x5 : Vec Ideal S1024x1280 .f32) (x6 x7 : Vec Ideal S64 .f32) (b : Fin 8) (s : Fin 8192)

/-- One over the root of the mean square. -/
theorem rstd_apply (i : S8x8192x1.Idx) (hb : i 0 = b) (hs : i 1 = s) : val_main_v11 (F := Ideal) x0 i = rstd (fun j => x0 (ix3 b s j)) := by
  rw [val_main_v11_apply, val_main_v10_apply, val_main_v9_apply, val_main_v8_apply, val_main_v7_apply, val_main_v6_apply, val_main_v5_apply,
    val_main_cst_apply, val_main_cst_0_apply, val_main_cst_1_apply]
  have e : ∀ k, idx_main_v5 (idx_main_v6 i) k = ix3 b s k := fun k => by subst hb hs; blk_ext
  simp only [e, val_main_v4_apply]
  unfold rstd
  refine congrArg (fun z => Ideal.rsqrt (Ideal.div z _ + _)) ?_
  exact (congrArg (· + _) zero_eq).trans (zero_add _)

/-- The modulated norm: the weight scaled before or after it meets the row. -/
theorem normed_apply (j : Fin 1024) : val_main_v22 (F := Ideal) x0 x2 x3 x4 (ix3 b s j)
    = normed (fun j => x0 (ix3 b s j)) (fun j => x4 (ix1 j)) (fun j => x3 (ix3 b 0 j)) (fun j => x2 (ix3 b 0 j)) j := by
  rw [val_main_v22_apply, val_main_v21_apply, val_main_v20_apply, val_main_v19_apply, val_main_v18_apply, val_main_v17_apply,
    val_main_v16_apply, val_main_v15_apply, val_main_v14_apply, val_main_v13_apply, val_main_v12_apply, val_main_cst_2_apply,
    rstd_apply x0 b s _ rfl rfl]
  have e1 : idx_main_v14 (idx_main_v15 (ix3 b s j)) = ix1 j := by blk_ext
  have e2 : idx_main_v19 (ix3 b s j) = ix3 b 0 j := by blk_ext
  have e3 : idx_main_v21 (ix3 b s j) = ix3 b 0 j := by blk_ext
  rw [e1, e2, e3]
  unfold normed
  rw [← mul_assoc, ← one_eq]
  rfl

/-- A column of its product with the weights. -/
theorem prod_apply (n : Fin 65536) (l : Fin 1280) : val_main_v23 (F := Ideal) x0 x2 x3 x4 x5 (ix3 (seq n) (pos n) l) = prodOf x0 x2 x3 x4 x5 n l := by
  rw [val_main_v23_apply]
  unfold prodOf hiddenOf
  refine Finset.sum_congr rfl fun k _ => ?_
  have e1 : lidx_main_v23 (ix3 (seq n) (pos n) l) k = ix3 (seq n) (pos n) k := by blk_ext
  have e2 : ridx_main_v23 (ix3 (seq n) (pos n) l) k = ix2 k l := by blk_ext
  rw [e1, e2, normed_apply]

/-- The plain program's values are the kernel's. -/
theorem out_value : val_main_v91 (F := Ideal) x0 x2 x3 x4 x5 = fun y : S65536x128.Idx => valueOf x0 x2 x3 x4 x5 (y 0) (y 1) := by
  funext y
  idx_vars y
  rw [val_main_v91_apply, val_main_v90_apply, val_main_v26_apply]
  have e : idx_main_v26 (idx_main_v90 (ix2 y0 y1)) = ix3 (seq y0) (pos y0) (⟨640 + y1.val, by omega⟩ : Fin 1280) := by
    unfold seq pos
    blk_ext
  rw [e, prod_apply]
  rfl

section key

variable (hd : Fin 2)

/-- One over the root of a head's mean square. -/
theorem key_rstd (i : S8x8192x2x1.Idx) (hb : i 0 = b) (hs : i 1 = s) (hh : i 2 = hd) : val_main_v66 (F := Ideal) x0 x2 x3 x4 x5 i
    = Ideal.rsqrt (Ideal.div (∑ e : Fin 64, val_main_v29 (F := Ideal) x0 x2 x3 x4 x5 (ix4 b s hd e) * val_main_v29 (F := Ideal) x0 x2 x3 x4 x5 (ix4 b s hd e)) width
        + Ideal.ofBits .f32 0x358637BD#32) := by
  rw [val_main_v66_apply, val_main_v65_apply, val_main_v64_apply, val_main_v63_apply, val_main_v62_apply, val_main_v61_apply, val_main_v60_apply,
    val_main_cst_7_apply, val_main_cst_8_apply, val_main_cst_9_apply]
  have e : ∀ k, idx_main_v60 (idx_main_v61 i) k = ix4 b s hd k := fun k => by subst hb hs hh; blk_ext
  simp only [e, val_main_v59_apply]
  refine congrArg (fun z => Ideal.rsqrt (Ideal.div z _ + _)) ?_
  exact (congrArg (· + _) zero_eq).trans (zero_add _)

/-- A head's normalized channels. -/
theorem key_normed (d : Fin 64) : val_main_v71 (F := Ideal) x0 x2 x3 x4 x5 x7 (ix4 b s hd d)
    = headNormed (fun d => val_main_v29 (F := Ideal) x0 x2 x3 x4 x5 (ix4 b s hd d)) (fun d => x7 (ix1 d)) d := by
  rw [val_main_v71_apply, val_main_v70_apply, val_main_v69_apply, val_main_v68_apply, val_main_v67_apply, key_rstd x0 x2 x3 x4 x5 b s hd _ rfl rfl rfl]
  have e1 : idx_main_v69 (idx_main_v70 (ix4 b s hd d)) = ix1 d := by blk_ext
  rw [e1]
  rfl

/-- The angles' cosines, for every head. -/
theorem key_cos (d : Fin 8) : val_main_v74 (F := Ideal) x1 (ix4 b s hd d) = Ideal.cos (x1 (ix3 b s d)) := by
  rw [val_main_v74_apply, val_main_v1_apply, val_main_v0_apply]
  have e : idx_main_v1 (idx_main_v74 (ix4 b s hd d)) = ix3 b s d := by blk_ext
  rw [e]
  rfl

theorem key_cos' (d : Fin 8) : val_main_v79 (F := Ideal) x1 (ix4 b s hd d) = Ideal.cos (x1 (ix3 b s d)) := by
  rw [val_main_v79_apply, val_main_v1_apply, val_main_v0_apply]
  have e : idx_main_v1 (idx_main_v79 (ix4 b s hd d)) = ix3 b s d := by blk_ext
  rw [e]
  rfl

/-- And their sines. -/
theorem key_sin (d : Fin 8) : val_main_v76 (F := Ideal) x1 (ix4 b s hd d) = Ideal.sin (x1 (ix3 b s d)) := by
  rw [val_main_v76_apply, val_main_v3_apply, val_main_v2_apply]
  have e : idx_main_v3 (idx_main_v76 (ix4 b s hd d)) = ix3 b s d := by blk_ext
  rw [e]
  rfl

theorem key_sin' (d : Fin 8) : val_main_v81 (F := Ideal) x1 (ix4 b s hd d) = Ideal.sin (x1 (ix3 b s d)) := by
  rw [val_main_v81_apply, val_main_v3_apply, val_main_v2_apply]
  have e : idx_main_v3 (idx_main_v81 (ix4 b s hd d)) = ix3 b s d := by blk_ext
  rw [e]
  rfl

/-- The first eight channels of a head. -/
theorem key_lo (d : Fin 8) : val_main_v72 (F := Ideal) x0 x2 x3 x4 x5 x7 (ix4 b s hd d)
    = val_main_v71 (F := Ideal) x0 x2 x3 x4 x5 x7 (ix4 b s hd (⟨d.val, by omega⟩ : Fin 64)) := by
  rw [val_main_v72_apply]
  refine congrArg (val_main_v71 (F := Ideal) x0 x2 x3 x4 x5 x7) ?_
  blk_ext

/-- The next eight. -/
theorem key_hi (d : Fin 8) : val_main_v73 (F := Ideal) x0 x2 x3 x4 x5 x7 (ix4 b s hd d)
    = val_main_v71 (F := Ideal) x0 x2 x3 x4 x5 x7 (ix4 b s hd (⟨d.val + 8, by omega⟩ : Fin 64)) := by
  rw [val_main_v73_apply]
  refine congrArg (val_main_v71 (F := Ideal) x0 x2 x3 x4 x5 x7) ?_
  blk_ext

/-- The others. -/
theorem key_rest (d : Fin 48) : val_main_v84 (F := Ideal) x0 x2 x3 x4 x5 x7 (ix4 b s hd d)
    = val_main_v71 (F := Ideal) x0 x2 x3 x4 x5 x7 (ix4 b s hd (⟨d.val + 16, by omega⟩ : Fin 64)) := by
  rw [val_main_v84_apply]
  refine congrArg (val_main_v71 (F := Ideal) x0 x2 x3 x4 x5 x7) ?_
  blk_ext

/-- The rotated channels of a head. -/
theorem key_rotated (d : Fin 64) : val_main_v85 (F := Ideal) x0 x1 x2 x3 x4 x5 x7 (ix4 b s hd d)
    = rotated (fun d => val_main_v71 (F := Ideal) x0 x2 x3 x4 x5 x7 (ix4 b s hd d)) (fun d => Ideal.cos (x1 (ix3 b s d)))
        (fun d => Ideal.sin (x1 (ix3 b s d))) d := by
  pointwise [val_main_v85]
  unfold rotated
  by_cases h : d.val < 8
  · rw [dif_pos h, dif_pos h]
    refine (val_main_v78_apply (F := Ideal) x0 x1 x2 x3 x4 x5 x7 (ix4 b s hd (⟨d.val, h⟩ : Fin 8))).trans ?_
    rw [val_main_v75_apply, val_main_v77_apply, key_lo, key_hi, key_cos, key_sin]
    rfl
  · rw [dif_neg h, dif_neg h]
    by_cases h' : d.val < 16
    · have h8 : d.val - 8 < 8 := by omega
      rw [dif_pos h8, dif_pos h']
      refine (val_main_v83_apply (F := Ideal) x0 x1 x2 x3 x4 x5 x7 (ix4 b s hd (⟨d.val - 8, h8⟩ : Fin 8))).trans ?_
      rw [val_main_v80_apply, val_main_v82_apply, key_lo, key_hi, key_cos', key_sin']
      have e : (⟨d.val - 8 + 8, by omega⟩ : Fin 64) = d := Fin.ext (by show d.val - 8 + 8 = d.val; omega)
      rw [e]
      rfl
    · have h8 : ¬ d.val - 8 < 8 := by omega
      have h48 : d.val - 8 - 8 < 48 := by omega
      rw [dif_neg h8, dif_neg h']
      refine (key_rest x0 x2 x3 x4 x5 x7 b s hd ⟨d.val - 8 - 8, h48⟩).trans ?_
      have e : (⟨d.val - 8 - 8 + 16, by omega⟩ : Fin 64) = d := Fin.ext (by show d.val - 8 - 8 + 16 = d.val; omega)
      rw [e]

/-- A head's channels are columns of the product. -/
theorem key_head (n : Fin 65536) (d : Fin 64) : val_main_v29 (F := Ideal) x0 x2 x3 x4 x5 (ix4 (seq n) (pos n) hd d)
    = prodOf x0 x2 x3 x4 x5 n ⟨512 + (64 * hd.val + d.val), by omega⟩ := by
  rw [val_main_v29_apply, val_main_v25_apply, ← prod_apply]
  refine congrArg (val_main_v23 (F := Ideal) x0 x2 x3 x4 x5) ?_
  unfold seq pos
  blk_ext
  <;> omega

end key

/-- The plain program's keys are the kernel's. -/
theorem out_key : val_main_v89 (F := Ideal) x0 x1 x2 x3 x4 x5 x7 = fun y : S65536x128.Idx => keyOf x0 x1 x2 x3 x4 x5 x7 (y 0) (y 1) := by
  funext y
  idx_vars y
  rw [val_main_v89_apply, val_main_v88_apply]
  have e : idx_main_v88 (ix2 y0 y1) = ix4 (seq y0) (pos y0) (⟨y1.val / 64, by omega⟩ : Fin 2) (⟨y1.val % 64, by omega⟩ : Fin 64) := by
    unfold seq pos
    blk_ext
  rw [e, key_rotated]
  unfold keyOf cosOf sinOf
  refine congrArg (fun T => rotated T _ _ _) (funext fun d => ?_)
  rw [key_normed]
  exact congrArg (fun T => headNormed T _ d) (funext fun d => key_head x0 x2 x3 x4 x5 _ y0 d)

section query

variable (hd : Fin 8)

/-- One over the root of a head's mean square. -/
theorem query_rstd (i : S8x8192x8x1.Idx) (hb : i 0 = b) (hs : i 1 = s) (hh : i 2 = hd) : val_main_v37 (F := Ideal) x0 x2 x3 x4 x5 i
    = Ideal.rsqrt (Ideal.div (∑ e : Fin 64, val_main_v28 (F := Ideal) x0 x2 x3 x4 x5 (ix4 b s hd e) * val_main_v28 (F := Ideal) x0 x2 x3 x4 x5 (ix4 b s hd e)) width
        + Ideal.ofBits .f32 0x358637BD#32) := by
  rw [val_main_v37_apply, val_main_v36_apply, val_main_v35_apply, val_main_v34_apply, val_main_v33_apply, val_main_v32_apply, val_main_v31_apply,
    val_main_cst_3_apply, val_main_cst_4_apply, val_main_cst_5_apply]
  have e : ∀ k, idx_main_v31 (idx_main_v32 i) k = ix4 b s hd k := fun k => by subst hb hs hh; blk_ext
  simp only [e, val_main_v30_apply]
  refine congrArg (fun z => Ideal.rsqrt (Ideal.div z _ + _)) ?_
  exact (congrArg (· + _) zero_eq).trans (zero_add _)

/-- A head's normalized channels. -/
theorem query_normed (d : Fin 64) : val_main_v42 (F := Ideal) x0 x2 x3 x4 x5 x6 (ix4 b s hd d)
    = headNormed (fun d => val_main_v28 (F := Ideal) x0 x2 x3 x4 x5 (ix4 b s hd d)) (fun d => x6 (ix1 d)) d := by
  rw [val_main_v42_apply, val_main_v41_apply, val_main_v40_apply, val_main_v39_apply, val_main_v38_apply, query_rstd x0 x2 x3 x4 x5 b s hd _ rfl rfl rfl]
  have e1 : idx_main_v40 (idx_main_v41 (ix4 b s hd d)) = ix1 d := by blk_ext
  rw [e1]
  rfl

/-- The angles' cosines, for every head. -/
theorem query_cos (d : Fin 8) : val_main_v45 (F := Ideal) x1 (ix4 b s hd d) = Ideal.cos (x1 (ix3 b s d)) := by
  rw [val_main_v45_apply, val_main_v1_apply, val_main_v0_apply]
  have e : idx_main_v1 (idx_main_v45 (ix4 b s hd d)) = ix3 b s d := by blk_ext
  rw [e]
  rfl

theorem query_cos' (d : Fin 8) : val_main_v50 (F := Ideal) x1 (ix4 b s hd d) = Ideal.cos (x1 (ix3 b s d)) := by
  rw [val_main_v50_apply, val_main_v1_apply, val_main_v0_apply]
  have e : idx_main_v1 (idx_main_v50 (ix4 b s hd d)) = ix3 b s d := by blk_ext
  rw [e]
  rfl

/-- And their sines. -/
theorem query_sin (d : Fin 8) : val_main_v47 (F := Ideal) x1 (ix4 b s hd d) = Ideal.sin (x1 (ix3 b s d)) := by
  rw [val_main_v47_apply, val_main_v3_apply, val_main_v2_apply]
  have e : idx_main_v3 (idx_main_v47 (ix4 b s hd d)) = ix3 b s d := by blk_ext
  rw [e]
  rfl

theorem query_sin' (d : Fin 8) : val_main_v52 (F := Ideal) x1 (ix4 b s hd d) = Ideal.sin (x1 (ix3 b s d)) := by
  rw [val_main_v52_apply, val_main_v3_apply, val_main_v2_apply]
  have e : idx_main_v3 (idx_main_v52 (ix4 b s hd d)) = ix3 b s d := by blk_ext
  rw [e]
  rfl

/-- The first eight channels of a head. -/
theorem query_lo (d : Fin 8) : val_main_v43 (F := Ideal) x0 x2 x3 x4 x5 x6 (ix4 b s hd d)
    = val_main_v42 (F := Ideal) x0 x2 x3 x4 x5 x6 (ix4 b s hd (⟨d.val, by omega⟩ : Fin 64)) := by
  rw [val_main_v43_apply]
  refine congrArg (val_main_v42 (F := Ideal) x0 x2 x3 x4 x5 x6) ?_
  blk_ext

/-- The next eight. -/
theorem query_hi (d : Fin 8) : val_main_v44 (F := Ideal) x0 x2 x3 x4 x5 x6 (ix4 b s hd d)
    = val_main_v42 (F := Ideal) x0 x2 x3 x4 x5 x6 (ix4 b s hd (⟨d.val + 8, by omega⟩ : Fin 64)) := by
  rw [val_main_v44_apply]
  refine congrArg (val_main_v42 (F := Ideal) x0 x2 x3 x4 x5 x6) ?_
  blk_ext

/-- The others. -/
theorem query_rest (d : Fin 48) : val_main_v55 (F := Ideal) x0 x2 x3 x4 x5 x6 (ix4 b s hd d)
    = val_main_v42 (F := Ideal) x0 x2 x3 x4 x5 x6 (ix4 b s hd (⟨d.val + 16, by omega⟩ : Fin 64)) := by
  rw [val_main_v55_apply]
  refine congrArg (val_main_v42 (F := Ideal) x0 x2 x3 x4 x5 x6) ?_
  blk_ext

/-- The rotated channels of a head. -/
theorem query_rotated (d : Fin 64) : val_main_v56 (F := Ideal) x0 x1 x2 x3 x4 x5 x6 (ix4 b s hd d)
    = rotated (fun d => val_main_v42 (F := Ideal) x0 x2 x3 x4 x5 x6 (ix4 b s hd d)) (fun d => Ideal.cos (x1 (ix3 b s d)))
        (fun d => Ideal.sin (x1 (ix3 b s d))) d := by
  pointwise [val_main_v56]
  unfold rotated
  by_cases h : d.val < 8
  · rw [dif_pos h, dif_pos h]
    refine (val_main_v49_apply (F := Ideal) x0 x1 x2 x3 x4 x5 x6 (ix4 b s hd (⟨d.val, h⟩ : Fin 8))).trans ?_
    rw [val_main_v46_apply, val_main_v48_apply, query_lo, query_hi, query_cos, query_sin]
    rfl
  · rw [dif_neg h, dif_neg h]
    by_cases h' : d.val < 16
    · have h8 : d.val - 8 < 8 := by omega
      rw [dif_pos h8, dif_pos h']
      refine (val_main_v54_apply (F := Ideal) x0 x1 x2 x3 x4 x5 x6 (ix4 b s hd (⟨d.val - 8, h8⟩ : Fin 8))).trans ?_
      rw [val_main_v51_apply, val_main_v53_apply, query_lo, query_hi, query_cos', query_sin']
      have e : (⟨d.val - 8 + 8, by omega⟩ : Fin 64) = d := Fin.ext (by show d.val - 8 + 8 = d.val; omega)
      rw [e]
      rfl
    · have h8 : ¬ d.val - 8 < 8 := by omega
      have h48 : d.val - 8 - 8 < 48 := by omega
      rw [dif_neg h8, dif_neg h']
      refine (query_rest x0 x2 x3 x4 x5 x6 b s hd ⟨d.val - 8 - 8, h48⟩).trans ?_
      have e : (⟨d.val - 8 - 8 + 16, by omega⟩ : Fin 64) = d := Fin.ext (by show d.val - 8 - 8 + 16 = d.val; omega)
      rw [e]

/-- A head's channels are columns of the product. -/
theorem query_head (n : Fin 65536) (d : Fin 64) : val_main_v28 (F := Ideal) x0 x2 x3 x4 x5 (ix4 (seq n) (pos n) hd d)
    = prodOf x0 x2 x3 x4 x5 n ⟨64 * hd.val + d.val, by omega⟩ := by
  rw [val_main_v28_apply, val_main_v24_apply, ← prod_apply]
  refine congrArg (val_main_v23 (F := Ideal) x0 x2 x3 x4 x5) ?_
  unfold seq pos
  blk_ext
  <;> omega

end query

/-- The plain program's queries are the kernel's. -/
theorem out_query : val_main_v87 (F := Ideal) x0 x1 x2 x3 x4 x5 x6 = fun y : S65536x512.Idx => queryOf x0 x1 x2 x3 x4 x5 x6 (y 0) (y 1) := by
  funext y
  idx_vars y
  rw [val_main_v87_apply, val_main_v86_apply]
  have e : idx_main_v86 (ix2 y0 y1) = ix4 (seq y0) (pos y0) (⟨y1.val / 64, by omega⟩ : Fin 8) (⟨y1.val % 64, by omega⟩ : Fin 64) := by
    unfold seq pos
    blk_ext
  rw [e, val_main_v58_apply, val_main_v57_apply, val_main_cst_6_apply, query_rotated]
  unfold queryOf cosOf sinOf
  refine congrArg (fun T => rotated T _ _ _ * _) (funext fun d => ?_)
  rw [query_normed]
  exact congrArg (fun T => headNormed T _ d) (funext fun d => query_head x0 x2 x3 x4 x5 _ y0 d)

/-! The same from equal arguments. -/

section Same

variable {x0 x1 x2 x3 x4 x5 x6 x7} {y0 : Vec Ideal S8x8192x1024 .f32} {y1 : Vec Ideal S8x8192x8 .f32} {y2 y3 : Vec Ideal S8x1x1024 .f32}
  {y4 : Vec Ideal S1024 .f32} {y5 : Vec Ideal S1024x1280 .f32} {y6 y7 : Vec Ideal S64 .f32}

theorem query_same (h0 : y0 = x0) (h1 : y1 = x1) (h2 : y2 = x2) (h3 : y3 = x3) (h4 : y4 = x4) (h5 : y5 = x5) (h6 : y6 = x6) :
    val_main_v87 (F := Ideal) y0 y1 y2 y3 y4 y5 y6 = fun y : S65536x512.Idx => queryOf x0 x1 x2 x3 x4 x5 x6 (y 0) (y 1) := by
  rw [h0, h1, h2, h3, h4, h5, h6, out_query]

theorem key_same (h0 : y0 = x0) (h1 : y1 = x1) (h2 : y2 = x2) (h3 : y3 = x3) (h4 : y4 = x4) (h5 : y5 = x5) (h7 : y7 = x7) :
    val_main_v89 (F := Ideal) y0 y1 y2 y3 y4 y5 y7 = fun y : S65536x128.Idx => keyOf x0 x1 x2 x3 x4 x5 x7 (y 0) (y 1) := by
  rw [h0, h1, h2, h3, h4, h5, h7, out_key]

theorem value_same (h0 : y0 = x0) (h2 : y2 = x2) (h3 : y3 = x3) (h4 : y4 = x4) (h5 : y5 = x5) :
    val_main_v91 (F := Ideal) y0 y2 y3 y4 y5 = fun y : S65536x128.Idx => valueOf x0 x2 x3 x4 x5 (y 0) (y 1) := by
  rw [h0, h2, h3, h4, h5, out_value]

end Same
end Cert.InProj.Ref

end
-- ==== Proof.InProj.PoolRow.lean ====
module

public import proofs.«01_k».proof.Proof.InProj.Payload

@[expose] public section

set_option maxRecDepth 16384

noncomputable section

/-! The trailing sums of the pooling: what doubling a window adds up is the plain sum over the window. -/

namespace Cert.InProj

open Cert.Kernel4Ideal Cert.Kernel4Ideal.Gen
open Idealize.ShloMosaic Idealize.ShloMosaic.TcCoe Idealize.ShloMosaic.Tactic
open Idealize.SL Idealize.SL.Sem

/-- The row a number of places before a given one, around the end of the sixteen carried rows and the tile's own. -/
def back (r : Fin 1040) (d : ℕ) : Fin 1040 := ⟨(r.val + 1040 - d) % 1040, Nat.mod_lt _ (by decide)⟩

/-- One step of the doubling: a row and the one a number of places before it. -/
def doubled (n : ℕ) (E : Fin 1040 → EReal) (r : Fin 1040) : EReal := E r + E (back r n)

/-- The plain sum of a window that ends at a row. -/
def window (w : ℕ) (E : Fin 1040 → EReal) (r : Fin 1040) : EReal := ∑ d ∈ Finset.range w, E (back r d)

theorem doubled_window (n : ℕ) (hn : n ≤ 16) (E : Fin 1040 → EReal) : doubled n (window n E) = window (n + n) E := by
  funext r
  unfold doubled window
  rw [Finset.sum_range_add]
  refine congrArg (_ + ·) (Finset.sum_congr rfl fun d hd => congrArg E (Fin.ext ?_))
  have := Finset.mem_range.mp hd
  unfold back
  dsimp only
  omega

theorem window_one (E : Fin 1040 → EReal) : window 1 E = E := by
  funext r
  unfold window
  rw [Finset.sum_range_one]
  refine congrArg E (Fin.ext ?_)
  unfold back
  dsimp only
  omega

theorem doubled_one (E : Fin 1040 → EReal) : doubled 1 E = window 2 E := by
  rw [← doubled_window 1 (by decide), window_one]

theorem doubled_two (E : Fin 1040 → EReal) : doubled 2 (doubled 1 E) = window 4 E := by
  rw [doubled_one, doubled_window 2 (by decide)]

theorem doubled_four (E : Fin 1040 → EReal) : doubled 4 (doubled 2 (doubled 1 E)) = window 8 E := by
  rw [doubled_two, doubled_window 4 (by decide)]

theorem doubled_eight (E : Fin 1040 → EReal) : doubled 8 (doubled 4 (doubled 2 (doubled 1 E))) = window 16 E := by
  rw [doubled_four, doubled_window 8 (by decide)]

end Cert.InProj

end
-- ==== Proof.InProj.PoolPayload.lean ====
module

public import proofs.«01_k».proof.Proof.InProj.PoolRow

@[expose] public section

set_option maxRecDepth 16384

noncomputable section

/-! What each step of the pooling computes, entry by entry. -/

namespace Cert.InProj

open Cert.Kernel4Ideal Cert.Kernel4Ideal.Gen
open Idealize.ShloMosaic Idealize.ShloMosaic.TcCoe Idealize.ShloMosaic.Tactic
open Idealize.SL Idealize.SL.Sem

/-- The pooling's columns: the rows times their columns of the weights. -/
theorem u_apply (h : FVec Ideal S1024x1024 .bf16) (w : Vec Ideal S1024x512 .bf16) (i : Fin 1024) (l : Fin 512) :
    k0_pay17 h w (ix2 i l) = ∑ k : Fin 1024, h (ix2 i k) * w (ix2 k l) := by
  pointwise [k0_pay17]

/-- The carried rows above the tile's own. -/
theorem ext_apply (h : FVec Ideal S1024x1024 .bf16) (w : Vec Ideal S1024x512 .bf16) (x : Vec Ideal S16x512 .f32) (r : Fin 1040) (l : Fin 512) :
    k0_pay18 h w x (ix2 r l) = if hr : r.val < 16 then x (ix2 ⟨r.val, hr⟩ l) else k0_pay17 h w (ix2 ⟨r.val - 16, by omega⟩ l) := by
  pointwise [k0_pay18]

/-- The rows left for the next tile: the last sixteen. -/
theorem carry_apply (h : FVec Ideal S1024x1024 .bf16) (w : Vec Ideal S1024x512 .bf16) (r : Fin 16) (l : Fin 512) :
    k0_pay19 h w (ix2 r l) = k0_pay17 h w (ix2 ⟨1008 + r.val, by omega⟩ l) := by
  pointwise [k0_pay19]

theorem zero_apply (r : Fin 16) (l : Fin 512) : k0_pay2 (F := Ideal) (ix2 r l) = Ideal.ofBits .f32 0x00000000#32 := by
  pointwise [k0_pay2]

variable (u : FVec Ideal S1024x512 .f32) (e : FVec Ideal S1040x512 .f32) (n : FVec Ideal S1024x128 .f32)

/-- The row of the window's end. -/
def own (i : Fin 1024) : Fin 1040 := ⟨16 + i.val, by omega⟩

/-- The entries of the mean, less the row's own. -/
def less (E : Fin 1040 → EReal) (w : BitVec 32) (n own : EReal) (i : Fin 1024) : EReal :=
  E (InProj.own i) * Ideal.div 1 (min n (Ideal.ofBits .f32 w)) - own

/-- Windows of two. -/
theorem two_apply (h : FVec Ideal S1024x1024 .bf16) (w : Vec Ideal S1024x512 .bf16) (x : Vec Ideal S16x512 .f32) (i : Fin 1024) (l : Fin 128) :
    k0_pay23 u n (k0_pay21 h w x) (k0_pay22 h w x) (ix2 i l)
    = less (doubled 1 fun r => k0_pay18 h w x (ix2 r ⟨l.val, by omega⟩)) 0x40000000#32 (n (ix2 i l)) (u (ix2 i ⟨l.val, by omega⟩)) i := by
  unfold less doubled back own
  pointwise [k0_pay23, k0_pay22, k0_pay21]

/-- Windows of four. -/
theorem four_apply (i : Fin 1024) (l : Fin 128) : k0_pay24 u e n (ix2 i l)
    = less (doubled 2 (doubled 1 fun r => e (ix2 r ⟨128 + l.val, by omega⟩))) 0x40800000#32 (n (ix2 i l)) (u (ix2 i ⟨128 + l.val, by omega⟩)) i := by
  unfold less doubled back own
  pointwise [k0_pay24]

set_option maxHeartbeats 2000000 in
/-- Windows of eight. -/
theorem eight_apply (i : Fin 1024) (l : Fin 128) : k0_pay25 u e n (ix2 i l)
    = less (doubled 4 (doubled 2 (doubled 1 fun r => e (ix2 r ⟨256 + l.val, by omega⟩)))) 0x41000000#32 (n (ix2 i l)) (u (ix2 i ⟨256 + l.val, by omega⟩)) i := by
  unfold less doubled back own
  pointwise [k0_pay25]

/-- The sums of four that the windows of sixteen start from. -/
theorem sums_apply (r : Fin 1040) (l : Fin 128) : k0_pay26 e (ix2 r l)
    = doubled 2 (doubled 1 fun r => e (ix2 r ⟨384 + l.val, by omega⟩)) r := by
  unfold doubled back
  pointwise [k0_pay26]

theorem rolled_apply (r : Fin 1040) (l : Fin 128) : k0_pay27 e (ix2 r l) = k0_pay26 e (ix2 (back r 4) l) := by
  unfold back
  pointwise [k0_pay27]

/-- The count of a row. -/
theorem count_apply (a : BitVec 32) (ha : a.toNat < 8) (i : Fin 1024) (l : Fin 128) : k0_pay20 (F := Ideal) a (ix2 i l)
    = (((a.toNat * 1024 + i.val : ℕ) : ℝ) : EReal) + 1 := by
  pointwise [k0_pay20]
  have e : (IntOp.addi (BitVec.ofNat 32 i.val) (Scalar.addi (Scalar.muli a 1024#32) 1#32)).toInt = ((a.toNat * 1024 + i.val : ℕ) : ℤ) + 1 := by
    have hi : i.val < 1024 := i.isLt
    have hn : (IntOp.addi (BitVec.ofNat 32 i.val) (Scalar.addi (Scalar.muli a 1024#32) 1#32)).toNat = a.toNat * 1024 + i.val + 1 := by
      show (BitVec.ofNat 32 i.val + (a * 1024#32 + 1#32)).toNat = _
      simp only [BitVec.toNat_add, BitVec.toNat_mul, BitVec.toNat_ofNat]
      omega
    rw [BitVec.toInt_eq_toNat_of_lt (by rw [hn]; omega), hn]
    push_cast
    ring
  show ((((IntOp.addi (BitVec.ofNat 32 i.val) (Scalar.addi (Scalar.muli a 1024#32) 1#32)).toInt : ℤ) : ℝ) : EReal) = _
  rw [e]
  push_cast
  rfl

/-- The four groups side by side. -/
def pieces (v164 v178 v194 : FVec Ideal S1024x128 .bf16) (a b : FVec Ideal S1040x128 .f32) (i : Fin 1024) (x : Fin 512) : EReal :=
  if h : x.val < 128 then v164 (ix2 i ⟨x.val, h⟩)
  else if h : x.val - 128 < 128 then v178 (ix2 i ⟨x.val - 128, h⟩)
  else if h : x.val - 128 - 128 < 128 then v194 (ix2 i ⟨x.val - 128 - 128, h⟩)
  else (a (ix2 (own i) ⟨x.val - 128 - 128 - 128, by omega⟩) + b (ix2 (own i) ⟨x.val - 128 - 128 - 128, by omega⟩)
      + (a (ix2 (back (own i) 8) ⟨x.val - 128 - 128 - 128, by omega⟩) + b (ix2 (back (own i) 8) ⟨x.val - 128 - 128 - 128, by omega⟩)))
    * Ideal.div 1 (min (n (ix2 i ⟨x.val - 128 - 128 - 128, by omega⟩)) (Ideal.ofBits .f32 0x41800000#32)) - u (ix2 i ⟨384 + (x.val - 128 - 128 - 128), by omega⟩)

set_option maxHeartbeats 2000000 in
/-- The map of each pair of groups, with the bias and the scale. -/
theorem mapped_apply (v164 v178 v194 : FVec Ideal S1024x128 .bf16) (a b : FVec Ideal S1040x128 .f32) (w w' : Vec Ideal S1x256x256 .bf16) (bb sc : Vec Ideal S1x512 .f32)
    (i : Fin 1024) (l : Fin 512) :
    k0_pay1 u n v164 v178 v194 a b w w' bb sc (ix2 i l)
    = ((if h : l.val < 256 then ∑ x : Fin 256, pieces u n v164 v178 v194 a b i ⟨x.val, by omega⟩ * w (ix3 0 x ⟨l.val, h⟩)
        else ∑ x : Fin 256, pieces u n v164 v178 v194 a b i ⟨256 + x.val, by omega⟩ * w' (ix3 0 x ⟨l.val - 256, by omega⟩)) + bb (ix2 0 l)) * sc (ix2 0 l) := by
  unfold pieces back own
  pointwise [k0_pay1]

end Cert.InProj

end
-- ==== Proof.InProj.PoolBlock.lean ====
module

public import proofs.«01_k».proof.Proof.InProj.Block
public import proofs.«01_k».proof.Proof.InProj.PoolPayload

@[expose] public section

set_option maxRecDepth 16384
set_option maxHeartbeats 1000000

noncomputable section

/-! What a grid point stores of the pooling and what it leaves for the next point: the body's steps over the blocks it reads
and over the rows the point before left. -/

namespace Cert.InProj

open Cert.Kernel4Ideal Cert.Kernel4Ideal.Gen Cert.InProj.Run
open Idealize.ShloMosaic Idealize.ShloMosaic.TcCoe Idealize.ShloMosaic.Tactic
open Idealize.SL Idealize.SL.Sem

/-- The pooling's columns. -/
theorem ld_pool (x : Vec Ideal S1024x1280 .bf16) (h) :
    View.ld (Val := Elt Ideal) (e' := .bf16) x (Rect.unit (s := S1024x1280) ![0, 768] ![1024, 512] h) = columns 512 768 (by omega) x := by
  funext y
  idx_vars y
  refine congrArg x (funext fun a => Fin.ext ((ValueKit.rect_emb_unit_val _ _ _ _ _).trans ?_))
  fin_cases a
  · exact Nat.zero_add _
  · rfl

/-- One of the two matrices that map the groups. -/
def pairMap (p : Fin 2) (x : Vec Ideal S2x256x256 .bf16) : Vec Ideal S1x256x256 .bf16 := fun y => x (ix3 p (y 1) (y 2))

theorem ld_top (x : Vec Ideal S2x256x256 .bf16) (h) :
    View.ld (Val := Elt Ideal) (e' := .bf16) x (Rect.unit (s := S2x256x256) ![0, 0, 0] ![1, 256, 256] h) = pairMap 0 x := by
  funext y
  idx_vars y
  refine congrArg x (funext fun a => Fin.ext ((ValueKit.rect_emb_unit_val _ _ _ _ _).trans ?_))
  fin_cases a
  · exact (Nat.zero_add _).trans (by have := y0.isLt; show y0.val = 0; omega)
  · exact Nat.zero_add _
  · exact Nat.zero_add _

theorem ld_bottom (x : Vec Ideal S2x256x256 .bf16) (h) :
    View.ld (Val := Elt Ideal) (e' := .bf16) x (Rect.unit (s := S2x256x256) ![1, 0, 0] ![1, 256, 256] h) = pairMap 1 x := by
  funext y
  idx_vars y
  refine congrArg x (funext fun a => Fin.ext ((ValueKit.rect_emb_unit_val _ _ _ _ _).trans ?_))
  fin_cases a
  · show 1 + y0.val = 1; have := y0.isLt; omega
  · exact Nat.zero_add _
  · exact Nat.zero_add _

theorem ld_w2_16_512 (x : Vec Ideal S16x512 .f32) (h) : View.ld (Val := Elt Ideal) (e' := .f32) x (Rect.unit (s := S16x512) ![0, 0] ![16, 512] h) = x := View.ld_unit_lit _ _ (by decide)

/-- The carried rows read back. -/
theorem read_carried (h : (Memref.whole cc0_scratch0).IsWhole) (x : Vec Ideal S16x512 .f32) :
    View.read (Elt Ideal) (View.whole cc0_scratch0) (h.unread x) = x := h.read_unread x

/-- And what was just stored over them. -/
theorem read_zeroed (x : Vec Ideal S16x512 .f32) (h) :
    (View.whole cc0_scratch0).readCov (Val := Elt Ideal) [(⟨Rect.unit (s := S16x512) ![0, 0] ![16, 512] h, x⟩ : View.Piece (Elt Ideal) S16x512 .f32)]
      (Rect.unit (s := S16x512) ![0, 0] ![16, 512] h).toLoadRect = x :=
  View.readCov_unit_lit (S := S16x512) _ _ _ (by decide)

variable (m : (ℓ : Loc nD τ sig) → Buf (Elt Ideal) ℓ) (c : Dev nD)

/-- What a grid point leaves for the next one. -/
def left (t : Fin cfg0.N) : Vec Ideal S16x512 .f32 := k0_pay19 (hidden m c t) (columns 512 768 (by omega) (iblk m c 4 t))

/-- What a grid point stores of the pooling, over the rows above its own. -/
def pooled (t : Fin cfg0.N) (x : Vec Ideal S16x512 .f32) : Vec Ideal S1024x512 .bf16 :=
  k0_pay1 (k0_pay17 (hidden m c t) (columns 512 768 (by omega) (iblk m c 4 t))) (k0_pay20 (BitVec.ofNat 32 (grid0.coords t 1).val))
    (k0_pay23 (k0_pay17 (hidden m c t) (columns 512 768 (by omega) (iblk m c 4 t))) (k0_pay20 (BitVec.ofNat 32 (grid0.coords t 1).val))
      (k0_pay21 (hidden m c t) (columns 512 768 (by omega) (iblk m c 4 t)) x) (k0_pay22 (hidden m c t) (columns 512 768 (by omega) (iblk m c 4 t)) x))
    (k0_pay24 (k0_pay17 (hidden m c t) (columns 512 768 (by omega) (iblk m c 4 t))) (k0_pay18 (hidden m c t) (columns 512 768 (by omega) (iblk m c 4 t)) x)
      (k0_pay20 (BitVec.ofNat 32 (grid0.coords t 1).val)))
    (k0_pay25 (k0_pay17 (hidden m c t) (columns 512 768 (by omega) (iblk m c 4 t))) (k0_pay18 (hidden m c t) (columns 512 768 (by omega) (iblk m c 4 t)) x)
      (k0_pay20 (BitVec.ofNat 32 (grid0.coords t 1).val)))
    (k0_pay26 (k0_pay18 (hidden m c t) (columns 512 768 (by omega) (iblk m c 4 t)) x))
    (k0_pay27 (k0_pay18 (hidden m c t) (columns 512 768 (by omega) (iblk m c 4 t)) x))
    (pairMap 0 (iblk m c 12 t)) (pairMap 1 (iblk m c 12 t)) (iblk m c 13 t) (iblk m c 14 t)

theorem left_eq (t : Fin cfg0.N) : (outsAt0 m c t.val t.isLt).2.2.2.2 = left m c t := by
  unfold left hidden
  by_cases h0 : t.val % 8 = 0
  · rw [outsAt0_A m c t h0]
    dsimp only
    unfold sout0_A_0
    rw [View.read_writes_eq_canon _ _ _ (scover0_A_0 c _ _ _ _ _ _ _ _ _ _ _ _ _ _ _ _ _ _ _ _ _ _ _ _ _ _ _ _ _ _ _ _ _ _ _ _ _ _ _ _ _ _ _ _ _ _ _ _ _ _ _ _ _ _ _ _ _)]
    unfold kernelRun0_A
    dsimp only
    sl_unfold_words
    simp only [View.readAt_eq_ld, (hs0_0 t).read_unread, (hs0_1 t).read_unread, (hs0_2 t).read_unread, (hs0_3 t).read_unread, (hs0_4 t).read_unread, (hs0_5 t).read_unread, (hs0_6 t).read_unread, (hs0_7 t).read_unread, (hs0_8 t).read_unread, (hs0_9 t).read_unread, (hs0_10 t).read_unread, (hs0_11 t).read_unread, (hs0_12 t).read_unread, (hs0_13 t).read_unread, (hs0_14 t).read_unread]
    refine (View.canon_cons_unit_lit _ _ _ (by decide)).trans ?_
    simp only [ld_w2_1024_1024, ld_w2_1_1024, ld_w3_1024, ld_w2_1_512, ld_w2_1_128, ld_w2_1024_32, ld_w2_32_384, ld_w2_256, ld_w2_128, ld_queries, ld_keys, ld_values, ld_pool, ld_top, ld_bottom, ld_w2_16_512]
  · rw [outsAt0_B m c t h0]
    dsimp only
    unfold sout0_B_0
    rw [View.read_writes_eq_canon _ _ _ (scover0_B_0 c _ _ _ _ _ _ _ _ _ _ _ _ _ _ _ _ _ _ _ _ _ _ _ _ _ _ _ _ _ _ _ _ _ _ _ _ _ _ _ _ _ _ _ _ _ _ _ _ _ _ _ _ _ _ _ _ _ _)]
    unfold kernelRun0_B
    dsimp only
    sl_unfold_words
    simp only [View.readAt_eq_ld, (hs0_0 t).read_unread, (hs0_1 t).read_unread, (hs0_2 t).read_unread, (hs0_3 t).read_unread, (hs0_4 t).read_unread, (hs0_5 t).read_unread, (hs0_6 t).read_unread, (hs0_7 t).read_unread, (hs0_8 t).read_unread, (hs0_9 t).read_unread, (hs0_10 t).read_unread, (hs0_11 t).read_unread, (hs0_12 t).read_unread, (hs0_13 t).read_unread, (hs0_14 t).read_unread]
    refine (View.canon_cons_unit_lit _ _ _ (by decide)).trans ?_
    simp only [ld_w2_1024_1024, ld_w2_1_1024, ld_w3_1024, ld_w2_1_512, ld_w2_1_128, ld_w2_1024_32, ld_w2_32_384, ld_w2_256, ld_w2_128, ld_queries, ld_keys, ld_values, ld_pool, ld_top, ld_bottom, ld_w2_16_512]

/-- At a point that opens a sequence: over zeros. -/
theorem out18_A (t : Fin cfg0.N) (h0 : t.val % 8 = 0) : (outsAt0 m c t.val t.isLt).2.2.2.1 = pooled m c t (k0_pay2 (F := Ideal)) := by
    unfold pooled hidden
    rw [outsAt0_A m c t h0]
    dsimp only
    unfold out0_A_18
    rw [View.read_writes_eq_canon _ _ _ (cover0_A_18 c _ _ _ _ _ _ _ _ _ _ _ _ _ _ _ _ _ _ _ _ _ _ _ _ _ _ _ _ _ _ _ _ _ _ _ _ _ _ _ _ _ _ _ _ _ _ _ _ _ _ _ _ _ _ _ _ _)]
    unfold kernelRun0_A
    dsimp only
    sl_unfold_words
    simp only [View.readAt_eq_ld, (hs0_0 t).read_unread, (hs0_1 t).read_unread, (hs0_2 t).read_unread, (hs0_3 t).read_unread, (hs0_4 t).read_unread, (hs0_5 t).read_unread, (hs0_6 t).read_unread, (hs0_7 t).read_unread, (hs0_8 t).read_unread, (hs0_9 t).read_unread, (hs0_10 t).read_unread, (hs0_11 t).read_unread, (hs0_12 t).read_unread, (hs0_13 t).read_unread, (hs0_14 t).read_unread]
    refine (View.canon_cons_unit_lit _ _ _ (by decide)).trans ?_
    simp only [ld_w2_1024_1024, ld_w2_1_1024, ld_w3_1024, ld_w2_1_512, ld_w2_1_128, ld_w2_1024_32, ld_w2_32_384, ld_w2_256, ld_w2_128, ld_queries, ld_keys, ld_values, ld_pool, ld_top, ld_bottom, ld_w2_16_512]
    exact congrArg (pooled m c t) (read_zeroed (k0_pay2 (F := Ideal)) inb_S16x512_S16x512_0_0)

/-- At any other point: over what the point before left. -/
theorem out18_B (t : Fin cfg0.N) (h0 : ¬t.val % 8 = 0) : (outsAt0 m c t.val t.isLt).2.2.2.1
    = pooled m c t (left m c ⟨t.val - 1, Nat.lt_of_le_of_lt (Nat.sub_le _ _) t.isLt⟩) := by
    rw [← left_eq m c ⟨t.val - 1, Nat.lt_of_le_of_lt (Nat.sub_le _ _) t.isLt⟩]
    unfold pooled hidden
    rw [outsAt0_B m c t h0]
    dsimp only
    unfold out0_B_18
    rw [View.read_writes_eq_canon _ _ _ (cover0_B_18 c _ _ _ _ _ _ _ _ _ _ _ _ _ _ _ _ _ _ _ _ _ _ _ _ _ _ _ _ _ _ _ _ _ _ _ _ _ _ _ _ _ _ _ _ _ _ _ _ _ _ _ _ _ _ _ _ _ _)]
    unfold kernelRun0_B
    dsimp only
    sl_unfold_words
    simp only [View.readAt_eq_ld, (hs0_0 t).read_unread, (hs0_1 t).read_unread, (hs0_2 t).read_unread, (hs0_3 t).read_unread, (hs0_4 t).read_unread, (hs0_5 t).read_unread, (hs0_6 t).read_unread, (hs0_7 t).read_unread, (hs0_8 t).read_unread, (hs0_9 t).read_unread, (hs0_10 t).read_unread, (hs0_11 t).read_unread, (hs0_12 t).read_unread, (hs0_13 t).read_unread, (hs0_14 t).read_unread]
    refine (View.canon_cons_unit_lit _ _ _ (by decide)).trans ?_
    simp only [ld_w2_1024_1024, ld_w2_1_1024, ld_w3_1024, ld_w2_1_512, ld_w2_1_128, ld_w2_1024_32, ld_w2_32_384, ld_w2_256, ld_w2_128, ld_queries, ld_keys, ld_values, ld_pool, ld_top, ld_bottom, ld_w2_16_512]
    simp only [read_carried]

/-- The rows above a tile's own: zeros where it opens a sequence, elsewhere what the tile before left. -/
def above (t : Fin cfg0.N) : Vec Ideal S16x512 .f32 :=
  if t.val % 8 = 0 then (k0_pay2 (F := Ideal)) else left m c ⟨t.val - 1, Nat.lt_of_le_of_lt (Nat.sub_le _ _) t.isLt⟩

theorem out18_eq (t : Fin cfg0.N) : (outsAt0 m c t.val t.isLt).2.2.2.1 = pooled m c t (above m c t) := by
  unfold above
  by_cases h0 : t.val % 8 = 0
  · rw [if_pos h0]
    exact out18_A m c t h0
  · rw [if_neg h0]
    exact out18_B m c t h0

end Cert.InProj

end
-- ==== Proof.InProj.PoolHost.lean ====
module

public import proofs.«01_k».proof.Proof.InProj.Host

@[expose] public section

set_option maxRecDepth 16384
set_option maxHeartbeats 1000000

noncomputable section

/-! The arrays that the host code hands to the pooling: the groups' maps in pairs, the bias and the scale. -/

namespace Cert.InProj

open Cert.Kernel4Ideal Cert.Kernel4Ideal.Gen
open Idealize.ShloMosaic Idealize.ShloMosaic.TcCoe Idealize.ShloMosaic.Tactic
open Idealize.SL Idealize.SL.Sem

variable (m : (ℓ : Loc nD τ sig) → Buf (Elt Ideal) ℓ) (c : Dev nD)

/-- Equal coordinates give one index. -/
theorem ix3_congr {a b d : ℕ} {i i' : Fin a} {j j' : Fin b} {k k' : Fin d} (hi : i = i') (hj : j = j') (hk : k = k') : ix3 i j k = ix3 i' j' k' := by
  rw [hi, hj, hk]

/-- The pairs' maps: a pair's matrix holds its two groups' maps on the diagonal. -/
theorem V_map (p : Fin 2) (k l : Fin 256) : (V m c main_v84 : Vec Ideal S2x256x256 .bf16) (ix3 p k l)
    = if k.val / 128 = l.val / 128 then
        m ((c.tc : Thread nD τ).loc main_arg8) (ix3 ⟨2 * p.val + k.val / 128, by omega⟩ ⟨k.val % 128, by omega⟩ ⟨l.val % 128, by omega⟩)
      else (0 : EReal) := by
  entry_read
  pointwise
  by_cases hk : k.val < 128
  · by_cases hl : l.val < 128
    · have hkl : k.val / 128 = l.val / 128 := by omega
      rw [dif_pos hk, dif_pos hl]
      refine Eq.trans ?_ (if_pos hkl).symm
      refine congrArg (m ((c.tc : Thread nD τ).loc main_arg8)) (ix3_congr (Fin.ext ?_) (Fin.ext ?_) (Fin.ext ?_)) <;> dsimp only <;> omega
    · rw [dif_pos hk, dif_neg hl, if_neg (by omega)]
  · by_cases hl : l.val < 128
    · rw [dif_neg hk, dif_pos hl, if_neg (by omega)]
    · have hkl : k.val / 128 = l.val / 128 := by omega
      rw [dif_neg hk, dif_neg hl]
      refine Eq.trans ?_ (if_pos hkl).symm
      refine congrArg (m ((c.tc : Thread nD τ).loc main_arg8)) (ix3_congr (Fin.ext ?_) (Fin.ext ?_) (Fin.ext ?_)) <;> dsimp only <;> omega

/-- The bias. -/
theorem V_bias (l : Fin 512) : (V m c main_v85 : Vec Ideal S1x512 .f32) (ix2 0 l)
    = m ((c.tc : Thread nD τ).loc main_arg9) (ix2 ⟨l.val / 128, by omega⟩ ⟨l.val % 128, by omega⟩) := by
  entry_read
  pointwise
  blk_ext

/-- The scale. -/
theorem V_gain (l : Fin 512) : (V m c main_v86 : Vec Ideal S1x512 .f32) (ix2 0 l) = m ((c.tc : Thread nD τ).loc main_arg10) (ix1 l) := by
  entry_read
  pointwise

end Cert.InProj

end
-- ==== Proof.InProj.PoolArray.lean ====
module

public import proofs.«01_k».proof.Proof.InProj.Array
public import proofs.«01_k».proof.Proof.InProj.PoolBlock
public import proofs.«01_k».proof.Proof.InProj.PoolHost

@[expose] public section

set_option maxRecDepth 16384
set_option maxHeartbeats 1000000

noncomputable section

/-! The pooling after the run, as a function of the argument arrays. -/

namespace Cert.InProj

open Cert.Kernel4Ideal Cert.Kernel4Ideal.Gen Cert.InProj.Run
open Cert.OutProj (seq pos)
open Idealize.ShloMosaic Idealize.ShloMosaic.TcCoe Idealize.ShloMosaic.Tactic
open Idealize.SL Idealize.SL.Sem

section Of

variable (A0 : Vec Ideal S8x8192x1024 .f32) (A2 A3 : Vec Ideal S8x1x1024 .f32) (A4 : Vec Ideal S1024 .f32)
  (A5 : Vec Ideal S1024x1280 .f32) (A8 : Vec Ideal S4x128x128 .f32) (A9 : Vec Ideal S4x128 .f32) (A10 : Vec Ideal S512 .f32) (n : Fin 65536)

/-- A token's pooling columns. -/
def uOf (l : Fin 512) : EReal := prodOf A0 A2 A3 A4 A5 n ⟨768 + l.val, by omega⟩

/-- Those of the token some places before it, zero before the sequence's start. -/
def trailing (d : ℕ) (l : Fin 512) : EReal := if d ≤ (pos n).val then uOf A0 A2 A3 A4 A5 ⟨n.val - d, by omega⟩ l else 0

/-- How many tokens its sequence holds up to it. -/
def countOf : EReal := ((((pos n).val : ℕ) : ℝ) : EReal) + 1

/-- The mean over a trailing window, less the token's own. -/
def lessOf (w : ℕ) (b : BitVec 32) (l : Fin 512) : EReal :=
  (∑ d ∈ Finset.range w, trailing A0 A2 A3 A4 A5 n d l) * Ideal.div 1 (min (countOf n) (Ideal.ofBits .f32 b)) - uOf A0 A2 A3 A4 A5 n l

/-- The four groups, each with its own window. -/
def pooledOf (l : Fin 512) : EReal :=
  if l.val < 128 then lessOf A0 A2 A3 A4 A5 n 2 0x40000000#32 l
  else if l.val - 128 < 128 then lessOf A0 A2 A3 A4 A5 n 4 0x40800000#32 l
  else if l.val - 128 - 128 < 128 then lessOf A0 A2 A3 A4 A5 n 8 0x41000000#32 l
  else lessOf A0 A2 A3 A4 A5 n 16 0x41800000#32 l

/-- Each group through its map, with the bias and the scale. -/
def poolOf (l : Fin 512) : EReal :=
  ((∑ e : Fin 128, pooledOf A0 A2 A3 A4 A5 n ⟨128 * (l.val / 128) + e.val, by omega⟩ * A8 (ix3 ⟨l.val / 128, by omega⟩ e ⟨l.val % 128, by omega⟩))
    + A9 (ix2 ⟨l.val / 128, by omega⟩ ⟨l.val % 128, by omega⟩)) * A10 (ix1 l)

end Of

theorem zero_bits : Ideal.ofBits .f32 0x00000000#32 = (0 : EReal) := by
  simp [Ideal.ofBits, Ideal.ieee]

/-- A product with a matrix of two blocks on the diagonal keeps the half that meets the block. -/
theorem half_sum (f W : Fin 256 → EReal) (q : Fin 256) : ∑ x : Fin 256, f x * (if x.val / 128 = q.val / 128 then W x else 0)
    = ∑ e : Fin 128, f ⟨128 * (q.val / 128) + e.val, by omega⟩ * W ⟨128 * (q.val / 128) + e.val, by omega⟩ := by
  rw [show (∑ x : Fin 256, f x * (if x.val / 128 = q.val / 128 then W x else 0)) = _ from
    Fin.sum_univ_add (a := 128) (b := 128) (fun x : Fin (128 + 128) => f x * (if x.val / 128 = q.val / 128 then W x else 0))]
  by_cases hq : q.val < 128
  · refine (congrArg₂ (· + ·) (Finset.sum_congr rfl fun e _ => ?_) (Finset.sum_eq_zero fun e _ => ?_)).trans (add_zero _)
    · rw [if_pos (by rw [Fin.val_castAdd]; omega)]
      have e1 : (Fin.castAdd 128 e : Fin 256) = ⟨128 * (q.val / 128) + e.val, by omega⟩ := Fin.ext (by rw [Fin.val_castAdd]; dsimp only; omega)
      rw [e1]
    · rw [if_neg (by rw [Fin.val_natAdd]; omega), mul_zero]
  · refine (congrArg₂ (· + ·) (Finset.sum_eq_zero fun e _ => ?_) (Finset.sum_congr rfl fun e _ => ?_)).trans (zero_add _)
    · rw [if_neg (by rw [Fin.val_castAdd]; omega), mul_zero]
    · rw [if_pos (by rw [Fin.val_natAdd]; omega)]
      have e1 : (Fin.natAdd 128 e : Fin 256) = ⟨128 * (q.val / 128) + e.val, by omega⟩ := Fin.ext (by rw [Fin.val_natAdd]; dsimp only; omega)
      rw [e1]

variable (m : (ℓ : Loc nD τ sig) → Buf (Elt Ideal) ℓ) (c : Dev nD)

/-- Where the pooling's blocks lie. -/
theorem idx_pool : ∀ t : Fin grid0.N, win0_12.index t = ![0, 0, 0] ∧ win0_13.index t = ![0, 0] ∧ win0_14.index t = ![0, 0]
    ∧ win0_18.index t = ![t.val, 0] := by
  decide +kernel

/-- A tile's place in its sequence. -/
theorem tile_coord : ∀ t : Fin grid0.N, (grid0.coords t 1).val = t.val % 8 := by
  decide +kernel

variable (t : Fin grid0.N)

theorem blk_map (p : Fin 2) (k l : Fin 256) : (iblk m c 12 t : Vec Ideal S2x256x256 .bf16) (ix3 p k l) = V m c main_v84 (ix3 p k l) := by
  blk_ext [iblk, idx_pool t]

theorem blk_bias (l : Fin 512) : (iblk m c 13 t : Vec Ideal S1x512 .f32) (ix2 0 l) = V m c main_v85 (ix2 0 l) := by
  blk_ext [iblk, idx_pool t]

theorem blk_gain (l : Fin 512) : (iblk m c 14 t : Vec Ideal S1x512 .f32) (ix2 0 l) = V m c main_v86 (ix2 0 l) := by
  blk_ext [iblk, idx_pool t]

section Point

variable (i : Fin 1024) (n : Fin 65536) (hn : n.val = t.val * 1024 + i.val)

include hn

theorem own_u (l : Fin 512) : k0_pay17 (hidden m c t) (columns 512 768 (by omega) (iblk m c 4 t)) (ix2 i l) = uOf (m ((c.tc : Thread nD τ).loc main_arg0)) (m ((c.tc : Thread nD τ).loc main_arg2)) (m ((c.tc : Thread nD τ).loc main_arg3)) (m ((c.tc : Thread nD τ).loc main_arg4)) (m ((c.tc : Thread nD τ).loc main_arg5)) n l := by
  rw [u_apply]
  exact prod_eq m c t i n hn 512 768 _ l _ rfl

/-- The rows that a window reaches back to are the sequence's, and zero before its start. -/
theorem ext_back (d : ℕ) (hd : d < 16) (l : Fin 512) : (k0_pay18 (hidden m c t) (columns 512 768 (by omega) (iblk m c 4 t)) (above m c t)) (ix2 (back (own i) d) l) = trailing (m ((c.tc : Thread nD τ).loc main_arg0)) (m ((c.tc : Thread nD τ).loc main_arg2)) (m ((c.tc : Thread nD τ).loc main_arg3)) (m ((c.tc : Thread nD τ).loc main_arg4)) (m ((c.tc : Thread nD τ).loc main_arg5)) n d l := by
  have ht : t.val < 64 := t.isLt
  have hi : i.val < 1024 := i.isLt
  have hp : (pos n).val = t.val % 8 * 1024 + i.val := by
    show n.val % 8192 = _
    omega
  have hb : (back (own i) d).val = 16 + i.val - d := by
    show (16 + i.val + 1040 - d) % 1040 = _
    omega
  rw [ext_apply]
  unfold trailing
  by_cases h : d ≤ i.val
  · rw [dif_neg (by omega), if_pos (by omega)]
    exact own_u m c t ⟨(back (own i) d).val - 16, by omega⟩ ⟨n.val - d, by omega⟩ (by show n.val - d = t.val * 1024 + ((back (own i) d).val - 16); omega) l
  · rw [dif_pos (by omega)]
    unfold above
    by_cases h0 : t.val % 8 = 0
    · rw [if_pos h0, if_neg (by omega)]
      exact (zero_apply _ _).trans zero_bits
    · rw [if_neg h0, if_pos (by omega)]
      unfold left
      rw [carry_apply]
      exact own_u m c ⟨t.val - 1, by have : t.val < cfg0.N := t.isLt; exact Nat.lt_of_le_of_lt (Nat.sub_le _ _) t.isLt⟩ ⟨1008 + (back (own i) d).val, by omega⟩ ⟨n.val - d, by omega⟩
        (by show n.val - d = (t.val - 1) * 1024 + (1008 + (back (own i) d).val); omega) l

theorem count_eq (l : Fin 128) : (k0_pay20 (F := Ideal) (BitVec.ofNat 32 (grid0.coords t 1).val)) (ix2 i l) = countOf n := by
  have ht := tile_coord t
  have e : (BitVec.ofNat 32 (grid0.coords t 1).val).toNat = t.val % 8 := by
    rw [ht, BitVec.toNat_ofNat]
    omega
  rw [count_apply _ (by rw [e]; omega), e]
  unfold countOf
  have hp : (pos n).val = t.val % 8 * 1024 + i.val := by
    show n.val % 8192 = _
    omega
  rw [hp]

/-- A group's mean less its own. -/
theorem less_eq (w : ℕ) (hw : w ≤ 16) (b : BitVec 32) (l : Fin 512) (l' : Fin 128) :
    less (window w fun r => (k0_pay18 (hidden m c t) (columns 512 768 (by omega) (iblk m c 4 t)) (above m c t)) (ix2 r l)) b ((k0_pay20 (F := Ideal) (BitVec.ofNat 32 (grid0.coords t 1).val)) (ix2 i l')) ((k0_pay17 (hidden m c t) (columns 512 768 (by omega) (iblk m c 4 t))) (ix2 i l)) i
    = lessOf (m ((c.tc : Thread nD τ).loc main_arg0)) (m ((c.tc : Thread nD τ).loc main_arg2)) (m ((c.tc : Thread nD τ).loc main_arg3)) (m ((c.tc : Thread nD τ).loc main_arg4)) (m ((c.tc : Thread nD τ).loc main_arg5)) n w b l := by
  unfold less lessOf
  rw [count_eq t i n hn, own_u m c t i n hn]
  refine congrArg (fun z : EReal => z * _ - _) ?_
  unfold window
  exact Finset.sum_congr rfl fun d hd => ext_back m c t i n hn d (lt_of_lt_of_le (Finset.mem_range.mp hd) hw) l

/-- The four groups side by side. -/
theorem pieces_eq (x : Fin 512) : pieces (k0_pay17 (hidden m c t) (columns 512 768 (by omega) (iblk m c 4 t))) (k0_pay20 (F := Ideal) (BitVec.ofNat 32 (grid0.coords t 1).val))
      (k0_pay23 (k0_pay17 (hidden m c t) (columns 512 768 (by omega) (iblk m c 4 t))) (k0_pay20 (F := Ideal) (BitVec.ofNat 32 (grid0.coords t 1).val)) (k0_pay21 (hidden m c t) (columns 512 768 (by omega) (iblk m c 4 t)) (above m c t)) (k0_pay22 (hidden m c t) (columns 512 768 (by omega) (iblk m c 4 t)) (above m c t)))
      (k0_pay24 (k0_pay17 (hidden m c t) (columns 512 768 (by omega) (iblk m c 4 t))) (k0_pay18 (hidden m c t) (columns 512 768 (by omega) (iblk m c 4 t)) (above m c t)) (k0_pay20 (F := Ideal) (BitVec.ofNat 32 (grid0.coords t 1).val))) (k0_pay25 (k0_pay17 (hidden m c t) (columns 512 768 (by omega) (iblk m c 4 t))) (k0_pay18 (hidden m c t) (columns 512 768 (by omega) (iblk m c 4 t)) (above m c t)) (k0_pay20 (F := Ideal) (BitVec.ofNat 32 (grid0.coords t 1).val))) (k0_pay26 (k0_pay18 (hidden m c t) (columns 512 768 (by omega) (iblk m c 4 t)) (above m c t))) (k0_pay27 (k0_pay18 (hidden m c t) (columns 512 768 (by omega) (iblk m c 4 t)) (above m c t))) i x
    = pooledOf (m ((c.tc : Thread nD τ).loc main_arg0)) (m ((c.tc : Thread nD τ).loc main_arg2)) (m ((c.tc : Thread nD τ).loc main_arg3)) (m ((c.tc : Thread nD τ).loc main_arg4)) (m ((c.tc : Thread nD τ).loc main_arg5)) n x := by
  unfold pieces pooledOf
  by_cases h1 : x.val < 128
  · rw [dif_pos h1, if_pos h1, two_apply, doubled_one]
    exact less_eq m c t i n hn 2 (by decide) _ x _
  rw [dif_neg h1, if_neg h1]
  by_cases h2 : x.val - 128 < 128
  · rw [dif_pos h2, if_pos h2, four_apply, doubled_two]
    exact (less_eq m c t i n hn 4 (by decide) _ ⟨128 + (x.val - 128), by omega⟩ _).trans (congrArg (lessOf _ _ _ _ _ _ _ _) (Fin.ext (by dsimp only; omega)))
  rw [dif_neg h2, if_neg h2]
  by_cases h3 : x.val - 128 - 128 < 128
  · rw [dif_pos h3, if_pos h3, eight_apply, doubled_four]
    exact (less_eq m c t i n hn 8 (by decide) _ ⟨256 + (x.val - 128 - 128), by omega⟩ _).trans (congrArg (lessOf _ _ _ _ _ _ _ _) (Fin.ext (by dsimp only; omega)))
  rw [dif_neg h3, if_neg h3]
  simp only [rolled_apply, sums_apply]
  refine Eq.trans ?_ ((less_eq m c t i n hn 16 (by decide) 0x41800000#32 ⟨384 + (x.val - 128 - 128 - 128), by omega⟩ ⟨x.val - 128 - 128 - 128, by omega⟩).trans
    (congrArg (lessOf _ _ _ _ _ _ _ _) (Fin.ext (by dsimp only; omega))))
  rw [← doubled_eight]
  rfl

end Point

/-- A half of the columns through its pair's map. -/
theorem map_eq (p : Fin 2) (q : Fin 256) (f : Fin 512 → EReal) (l : Fin 512) (hl : l.val = 256 * p.val + q.val) :
    ∑ x : Fin 256, f ⟨256 * p.val + x.val, by omega⟩ * pairMap p (iblk m c 12 t) (ix3 0 x q)
    = ∑ e : Fin 128, f ⟨128 * (l.val / 128) + e.val, by omega⟩
        * (m ((c.tc : Thread nD τ).loc main_arg8) : Vec Ideal S4x128x128 .f32) (ix3 ⟨l.val / 128, by omega⟩ e ⟨l.val % 128, by omega⟩) := by
  have e1 : ∀ x : Fin 256, pairMap p (iblk m c 12 t) (ix3 0 x q) = _ := fun x => (blk_map m c t p x q).trans (V_map m c p x q)
  simp only [e1]
  refine (half_sum (fun x => f ⟨256 * p.val + x.val, by omega⟩)
    (fun x => m ((c.tc : Thread nD τ).loc main_arg8) (ix3 ⟨2 * p.val + x.val / 128, by omega⟩ ⟨x.val % 128, by omega⟩ ⟨q.val % 128, by omega⟩)) q).trans ?_
  refine Finset.sum_congr rfl fun e _ => congrArg₂ (· * ·) (congrArg f (Fin.ext ?_))
    (congrArg (m ((c.tc : Thread nD τ).loc main_arg8)) (ix3_congr (Fin.ext ?_) (Fin.ext ?_) (Fin.ext ?_))) <;> dsimp only <;> omega

/-- What a grid point stores of the pooling, at its token. -/
theorem pool_eq (i : Fin 1024) (n : Fin 65536) (hn : n.val = t.val * 1024 + i.val) (l : Fin 512) : (outsAt0 m c t.val t.isLt).2.2.2.1 (ix2 i l)
    = poolOf (m ((c.tc : Thread nD τ).loc main_arg0)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg8)) (m ((c.tc : Thread nD τ).loc main_arg9)) (m ((c.tc : Thread nD τ).loc main_arg10)) n l := by
  rw [out18_eq]
  unfold pooled
  rw [mapped_apply]
  unfold poolOf
  refine congrArg₂ (· * ·) (congrArg₂ (· + ·) ?_ ((blk_bias m c t l).trans (V_bias m c l))) ((blk_gain m c t l).trans (V_gain m c l))
  simp only [pieces_eq m c t i n hn]
  by_cases h : l.val < 256
  · rw [dif_pos h]
    refine Eq.trans (Finset.sum_congr rfl fun x _ => ?_) (map_eq m c t 0 ⟨l.val, h⟩ _ l (by show l.val = 256 * 0 + l.val; omega))
    exact congrArg (fun z => pooledOf _ _ _ _ _ n z * _) (Fin.ext (by show x.val = 256 * 0 + x.val; omega))
  · rw [dif_neg h]
    refine Eq.trans (Finset.sum_congr rfl fun x _ => ?_) (map_eq m c t 1 ⟨l.val - 256, by omega⟩ _ l (by show l.val = 256 * 1 + (l.val - 256); omega))
    exact congrArg (fun z => pooledOf _ _ _ _ _ n z * _) (Fin.ext (by show 256 + x.val = 256 * 1 + x.val; omega))

/-- The pooling after the run. -/
theorem arr18_eq : (dats m 0 c).arrAt 18 cfg0.N = (fun y : S65536x512.Idx =>
    poolOf (m ((c.tc : Thread nD τ).loc main_arg0)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg8)) (m ((c.tc : Thread nD τ).loc main_arg9)) (m ((c.tc : Thread nD τ).loc main_arg10)) (y 0) (y 1) : Vec Ideal S65536x512 .bf16) := by
  refine (dats m 0 c).arrAt_eq_of_covers 18 _ (by decide +kernel) fun t hf y => ?_
  blk_simp
  rw [after0_18]
  idx_vars y
  refine (pool_eq m c t y0 (((cfg0.win 18).blk t).view.emb (ix2 y0 y1) 0) ?_ y1).trans ?_
  · blk_simp [idx_pool t]
  · refine congrArg (poolOf _ _ _ _ _ _ _ _ _) (Fin.ext ?_)
    blk_simp [idx_pool t]

end Cert.InProj

end
-- ==== Proof.InProj.PoolEquation.lean ====
module

public import proofs.«01_k».proof.Proof.InProj.Equation
public import proofs.«01_k».proof.Proof.InProj.PoolArray

@[expose] public section

set_option maxRecDepth 16384
set_option maxHeartbeats 1000000

noncomputable section

/-! What the plain program's pooling computes, entry by entry, and that it is what the kernel computes. -/

namespace Cert.InProj.Ref

open Cert.Reference4Ideal Cert.Reference4Ideal.Gen Cert.Reference4Ideal.Read
open Cert.OutProj (seq pos normed rstd)
open Idealize.ShloMosaic Idealize.ShloMosaic.TcCoe Idealize.ShloMosaic.Tactic
open Idealize.SL Idealize.SL.Sem

theorem bits_two : Ideal.ofBits .f32 0x40000000#32 = ((2 : ℝ) : EReal) := by
  simp [Ideal.ofBits, Ideal.ieee, -EReal.coe_mul]
  norm_num

theorem bits_four : Ideal.ofBits .f32 0x40800000#32 = ((4 : ℝ) : EReal) := by
  simp [Ideal.ofBits, Ideal.ieee, -EReal.coe_mul]
  norm_num

theorem bits_eight : Ideal.ofBits .f32 0x41000000#32 = ((8 : ℝ) : EReal) := by
  simp [Ideal.ofBits, Ideal.ieee, -EReal.coe_mul]
  norm_num

theorem bits_sixteen : Ideal.ofBits .f32 0x41800000#32 = ((16 : ℝ) : EReal) := by
  simp [Ideal.ofBits, Ideal.ieee, -EReal.coe_mul]
  norm_num

/-- Over the count of a window, or times one over it. -/
theorem quotient (n : Fin 65536) (z : EReal) (w : ℝ) (hw : 0 < w) {b : BitVec 32} (hb : Ideal.ofBits .f32 b = ((w : ℝ) : EReal)) :
    Ideal.div z (min (countOf n) (Ideal.ofBits .f32 b)) = z * Ideal.div 1 (min (countOf n) (Ideal.ofBits .f32 b)) := by
  have e : min (countOf n) (Ideal.ofBits .f32 b) = ((min (((pos n).val : ℝ) + 1) w : ℝ) : EReal) := by
    rw [hb]
    unfold countOf
    rw [← EReal.coe_one, ← EReal.coe_add]
    exact (EReal.coe_strictMono.monotone.map_min).symm
  have h0 : (min (((pos n).val : ℝ) + 1) w : ℝ) ≠ 0 := ne_of_gt (lt_min (by positivity) hw)
  rw [e, Ideal.div_coe h0, Ideal.div_coe h0, one_mul]

variable (x0 : Vec Ideal S8x8192x1024 .f32) (x2 x3 : Vec Ideal S8x1x1024 .f32) (x4 : Vec Ideal S1024 .f32)
  (x5 : Vec Ideal S1024x1280 .f32) (x8 : Vec Ideal S4x128x128 .f32) (x9 : Vec Ideal S4x128 .f32) (x10 : Vec Ideal S512 .f32) (n : Fin 65536)

/-- The pooling's columns. -/
theorem u_apply (l : Fin 512) : val_main_v27 (F := Ideal) x0 x2 x3 x4 x5 (ix3 (seq n) (pos n) l) = uOf x0 x2 x3 x4 x5 n l := by
  rw [val_main_v27_apply]
  have e : idx_main_v27 (ix3 (seq n) (pos n) l) = ix3 (seq n) (pos n) (⟨768 + l.val, by omega⟩ : Fin 1280) := by blk_ext
  rw [e, prod_apply]
  rfl

/-- The rows shifted down, zeros above them. -/
theorem pad_apply (b : Fin 8) (r : Fin 8207) (l : Fin 512) : val_main_v92 (F := Ideal) x0 x2 x3 x4 x5 (ix3 b r l)
    = if h : 15 ≤ r.val then val_main_v27 (F := Ideal) x0 x2 x3 x4 x5 (ix3 b ⟨r.val - 15, by omega⟩ l) else 0 := by
  unfold val_main_v92
  generalize val_main_v27 (F := Ideal) x0 x2 x3 x4 x5 = y
  pointwise [val_main_call0_v0]
  have hr : r.val < 8207 := r.isLt
  by_cases h : 15 ≤ r.val
  · rw [dif_pos ⟨h, by omega⟩, dif_pos h]
  · rw [dif_neg (fun q => h q.1), dif_neg h]
    show ((((0#32 : BitVec 32).toInt : ℤ) : ℝ) : EReal) = 0
    simp

/-- Such a row is the token some places before. -/
theorem pad_trailing (d : ℕ) (hd : d < 16) (i : S8x8207x512.Idx) (l : Fin 512) (h0 : i 0 = seq n) (h1 : (i 1).val + d = 15 + (pos n).val)
    (h2 : (i 2).val = l.val) : val_main_v92 (F := Ideal) x0 x2 x3 x4 x5 i = trailing x0 x2 x3 x4 x5 n d l := by
  idx_vars i
  have h1' : i1.val + d = 15 + (pos n).val := h1
  obtain rfl : i0 = seq n := h0
  obtain rfl : i2 = l := Fin.ext h2
  rw [pad_apply]
  unfold trailing
  by_cases h : d ≤ (pos n).val
  · rw [dif_pos (by omega), if_pos h, ← u_apply]
    have hp : (pos n).val = n.val % 8192 := rfl
    refine congrArg (val_main_v27 (F := Ideal) x0 x2 x3 x4 x5) (ix3_congr (Fin.ext ?_) (Fin.ext ?_) rfl)
    · show n.val / 8192 = (n.val - d) / 8192
      omega
    · show i1.val - 15 = (n.val - d) % 8192
      omega
  · rw [dif_neg (by omega), if_neg h]

theorem iota_apply (s : Fin 8192) : val_main_v93 (F := Ideal) (ix1 s) = (((s.val : ℕ) : ℝ) : EReal) := by
  pointwise [val_main_v93]
  have hs : s.val < 8192 := s.isLt
  have hn : (BitVec.ofNat 32 s.val).toNat = s.val := by
    rw [BitVec.toNat_ofNat]
    omega
  have e : (BitVec.ofNat 32 s.val).toInt = (s.val : ℤ) := by
    rw [BitVec.toInt_eq_toNat_of_lt (by rw [hn]; omega), hn]
  show ((((BitVec.ofNat 32 s.val).toInt : ℤ) : ℝ) : EReal) = _
  rw [e]
  push_cast
  rfl

/-- How many tokens the sequence holds. -/
theorem count_apply : val_main_v95 (F := Ideal) (ix1 (pos n)) = countOf n := by
  rw [val_main_v95_apply, val_main_v94_apply, val_main_cst_10_apply, iota_apply]
  unfold countOf
  exact (congrArg (· + _) one_eq).trans (add_comm _ _)

/-- The group with windows of two. -/
theorem two_apply (e : Fin 128) : val_main_v107 (F := Ideal) x0 x2 x3 x4 x5 (ix3 (seq n) (pos n) e) = lessOf x0 x2 x3 x4 x5 n 2 0x40000000#32 ⟨e.val, by omega⟩ := by
  have p0 := pad_trailing x0 x2 x3 x4 x5 n 0 (by decide) (idx_main_v96 (ix3 (seq n) (pos n) e)) ⟨e.val, by omega⟩ rfl (by show 15 + (pos n).val + 0 = 15 + (pos n).val; omega) rfl
  have p1 := pad_trailing x0 x2 x3 x4 x5 n 1 (by decide) (idx_main_v99 (ix3 (seq n) (pos n) e)) ⟨e.val, by omega⟩ rfl (by show 14 + (pos n).val + 1 = 15 + (pos n).val; omega) rfl
  have pu : val_main_v27 (F := Ideal) x0 x2 x3 x4 x5 (idx_main_v106 (ix3 (seq n) (pos n) e)) = uOf x0 x2 x3 x4 x5 n ⟨e.val, by omega⟩ :=
    (congrArg (val_main_v27 (F := Ideal) x0 x2 x3 x4 x5) (by blk_ext)).trans (u_apply x0 x2 x3 x4 x5 n ⟨e.val, by omega⟩)
  have pc : val_main_v95 (F := Ideal) (idx_main_v103 (idx_main_v104 (ix3 (seq n) (pos n) e))) = countOf n :=
    (congrArg (val_main_v95 (F := Ideal)) (by blk_ext)).trans (count_apply n)
  simp only [val_main_v107_apply, val_main_v106_apply, val_main_v105_apply, val_main_v104_apply, val_main_v103_apply, val_main_v102_apply, val_main_v101_apply, val_main_v100_apply, val_main_v99_apply, val_main_v98_apply, val_main_v97_apply, val_main_v96_apply, val_main_cst_11_apply, val_main_cst_12_apply, p0, p1, pu, pc]
  rw [show (FloatOps.ofBits .f32 0x00000000#32 : Ideal .f32) = (0 : EReal) from zero_eq]
  unfold lessOf
  simp only [Finset.sum_range_succ, Finset.sum_range_zero]
  exact congrArg (fun z : EReal => z - _) (quotient _ _ _ (by norm_num) (bits_two))

/-- The group with windows of four. -/
theorem four_apply (e : Fin 128) : val_main_v123 (F := Ideal) x0 x2 x3 x4 x5 (ix3 (seq n) (pos n) e) = lessOf x0 x2 x3 x4 x5 n 4 0x40800000#32 ⟨128 + e.val, by omega⟩ := by
  have p0 := pad_trailing x0 x2 x3 x4 x5 n 0 (by decide) (idx_main_v108 (ix3 (seq n) (pos n) e)) ⟨128 + e.val, by omega⟩ rfl (by show 15 + (pos n).val + 0 = 15 + (pos n).val; omega) rfl
  have p1 := pad_trailing x0 x2 x3 x4 x5 n 1 (by decide) (idx_main_v111 (ix3 (seq n) (pos n) e)) ⟨128 + e.val, by omega⟩ rfl (by show 14 + (pos n).val + 1 = 15 + (pos n).val; omega) rfl
  have p2 := pad_trailing x0 x2 x3 x4 x5 n 2 (by decide) (idx_main_v113 (ix3 (seq n) (pos n) e)) ⟨128 + e.val, by omega⟩ rfl (by show 13 + (pos n).val + 2 = 15 + (pos n).val; omega) rfl
  have p3 := pad_trailing x0 x2 x3 x4 x5 n 3 (by decide) (idx_main_v115 (ix3 (seq n) (pos n) e)) ⟨128 + e.val, by omega⟩ rfl (by show 12 + (pos n).val + 3 = 15 + (pos n).val; omega) rfl
  have pu : val_main_v27 (F := Ideal) x0 x2 x3 x4 x5 (idx_main_v122 (ix3 (seq n) (pos n) e)) = uOf x0 x2 x3 x4 x5 n ⟨128 + e.val, by omega⟩ :=
    (congrArg (val_main_v27 (F := Ideal) x0 x2 x3 x4 x5) (by blk_ext)).trans (u_apply x0 x2 x3 x4 x5 n ⟨128 + e.val, by omega⟩)
  have pc : val_main_v95 (F := Ideal) (idx_main_v119 (idx_main_v120 (ix3 (seq n) (pos n) e))) = countOf n :=
    (congrArg (val_main_v95 (F := Ideal)) (by blk_ext)).trans (count_apply n)
  simp only [val_main_v123_apply, val_main_v122_apply, val_main_v121_apply, val_main_v120_apply, val_main_v119_apply, val_main_v118_apply, val_main_v117_apply, val_main_v116_apply, val_main_v115_apply, val_main_v114_apply, val_main_v113_apply, val_main_v112_apply, val_main_v111_apply, val_main_v110_apply, val_main_v109_apply, val_main_v108_apply, val_main_cst_13_apply, val_main_cst_14_apply, p0, p1, p2, p3, pu, pc]
  rw [show (FloatOps.ofBits .f32 0x00000000#32 : Ideal .f32) = (0 : EReal) from zero_eq]
  unfold lessOf
  simp only [Finset.sum_range_succ, Finset.sum_range_zero]
  exact congrArg (fun z : EReal => z - _) (quotient _ _ _ (by norm_num) (bits_four))

/-- The group with windows of eight. -/
theorem eight_apply (e : Fin 128) : val_main_v147 (F := Ideal) x0 x2 x3 x4 x5 (ix3 (seq n) (pos n) e) = lessOf x0 x2 x3 x4 x5 n 8 0x41000000#32 ⟨256 + e.val, by omega⟩ := by
  have p0 := pad_trailing x0 x2 x3 x4 x5 n 0 (by decide) (idx_main_v124 (ix3 (seq n) (pos n) e)) ⟨256 + e.val, by omega⟩ rfl (by show 15 + (pos n).val + 0 = 15 + (pos n).val; omega) rfl
  have p1 := pad_trailing x0 x2 x3 x4 x5 n 1 (by decide) (idx_main_v127 (ix3 (seq n) (pos n) e)) ⟨256 + e.val, by omega⟩ rfl (by show 14 + (pos n).val + 1 = 15 + (pos n).val; omega) rfl
  have p2 := pad_trailing x0 x2 x3 x4 x5 n 2 (by decide) (idx_main_v129 (ix3 (seq n) (pos n) e)) ⟨256 + e.val, by omega⟩ rfl (by show 13 + (pos n).val + 2 = 15 + (pos n).val; omega) rfl
  have p3 := pad_trailing x0 x2 x3 x4 x5 n 3 (by decide) (idx_main_v131 (ix3 (seq n) (pos n) e)) ⟨256 + e.val, by omega⟩ rfl (by show 12 + (pos n).val + 3 = 15 + (pos n).val; omega) rfl
  have p4 := pad_trailing x0 x2 x3 x4 x5 n 4 (by decide) (idx_main_v133 (ix3 (seq n) (pos n) e)) ⟨256 + e.val, by omega⟩ rfl (by show 11 + (pos n).val + 4 = 15 + (pos n).val; omega) rfl
  have p5 := pad_trailing x0 x2 x3 x4 x5 n 5 (by decide) (idx_main_v135 (ix3 (seq n) (pos n) e)) ⟨256 + e.val, by omega⟩ rfl (by show 10 + (pos n).val + 5 = 15 + (pos n).val; omega) rfl
  have p6 := pad_trailing x0 x2 x3 x4 x5 n 6 (by decide) (idx_main_v137 (ix3 (seq n) (pos n) e)) ⟨256 + e.val, by omega⟩ rfl (by show 9 + (pos n).val + 6 = 15 + (pos n).val; omega) rfl
  have p7 := pad_trailing x0 x2 x3 x4 x5 n 7 (by decide) (idx_main_v139 (ix3 (seq n) (pos n) e)) ⟨256 + e.val, by omega⟩ rfl (by show 8 + (pos n).val + 7 = 15 + (pos n).val; omega) rfl
  have pu : val_main_v27 (F := Ideal) x0 x2 x3 x4 x5 (idx_main_v146 (ix3 (seq n) (pos n) e)) = uOf x0 x2 x3 x4 x5 n ⟨256 + e.val, by omega⟩ :=
    (congrArg (val_main_v27 (F := Ideal) x0 x2 x3 x4 x5) (by blk_ext)).trans (u_apply x0 x2 x3 x4 x5 n ⟨256 + e.val, by omega⟩)
  have pc : val_main_v95 (F := Ideal) (idx_main_v143 (idx_main_v144 (ix3 (seq n) (pos n) e))) = countOf n :=
    (congrArg (val_main_v95 (F := Ideal)) (by blk_ext)).trans (count_apply n)
  simp only [val_main_v147_apply, val_main_v146_apply, val_main_v145_apply, val_main_v144_apply, val_main_v143_apply, val_main_v142_apply, val_main_v141_apply, val_main_v140_apply, val_main_v139_apply, val_main_v138_apply, val_main_v137_apply, val_main_v136_apply, val_main_v135_apply, val_main_v134_apply, val_main_v133_apply, val_main_v132_apply, val_main_v131_apply, val_main_v130_apply, val_main_v129_apply, val_main_v128_apply, val_main_v127_apply, val_main_v126_apply, val_main_v125_apply, val_main_v124_apply, val_main_cst_15_apply, val_main_cst_16_apply, p0, p1, p2, p3, p4, p5, p6, p7, pu, pc]
  rw [show (FloatOps.ofBits .f32 0x00000000#32 : Ideal .f32) = (0 : EReal) from zero_eq]
  unfold lessOf
  simp only [Finset.sum_range_succ, Finset.sum_range_zero]
  exact congrArg (fun z : EReal => z - _) (quotient _ _ _ (by norm_num) (bits_eight))

/-- The group with windows of sixteen. -/
theorem sixteen_apply (e : Fin 128) : val_main_v187 (F := Ideal) x0 x2 x3 x4 x5 (ix3 (seq n) (pos n) e) = lessOf x0 x2 x3 x4 x5 n 16 0x41800000#32 ⟨384 + e.val, by omega⟩ := by
  have p0 := pad_trailing x0 x2 x3 x4 x5 n 0 (by decide) (idx_main_v148 (ix3 (seq n) (pos n) e)) ⟨384 + e.val, by omega⟩ rfl (by show 15 + (pos n).val + 0 = 15 + (pos n).val; omega) rfl
  have p1 := pad_trailing x0 x2 x3 x4 x5 n 1 (by decide) (idx_main_v151 (ix3 (seq n) (pos n) e)) ⟨384 + e.val, by omega⟩ rfl (by show 14 + (pos n).val + 1 = 15 + (pos n).val; omega) rfl
  have p2 := pad_trailing x0 x2 x3 x4 x5 n 2 (by decide) (idx_main_v153 (ix3 (seq n) (pos n) e)) ⟨384 + e.val, by omega⟩ rfl (by show 13 + (pos n).val + 2 = 15 + (pos n).val; omega) rfl
  have p3 := pad_trailing x0 x2 x3 x4 x5 n 3 (by decide) (idx_main_v155 (ix3 (seq n) (pos n) e)) ⟨384 + e.val, by omega⟩ rfl (by show 12 + (pos n).val + 3 = 15 + (pos n).val; omega) rfl
  have p4 := pad_trailing x0 x2 x3 x4 x5 n 4 (by decide) (idx_main_v157 (ix3 (seq n) (pos n) e)) ⟨384 + e.val, by omega⟩ rfl (by show 11 + (pos n).val + 4 = 15 + (pos n).val; omega) rfl
  have p5 := pad_trailing x0 x2 x3 x4 x5 n 5 (by decide) (idx_main_v159 (ix3 (seq n) (pos n) e)) ⟨384 + e.val, by omega⟩ rfl (by show 10 + (pos n).val + 5 = 15 + (pos n).val; omega) rfl
  have p6 := pad_trailing x0 x2 x3 x4 x5 n 6 (by decide) (idx_main_v161 (ix3 (seq n) (pos n) e)) ⟨384 + e.val, by omega⟩ rfl (by show 9 + (pos n).val + 6 = 15 + (pos n).val; omega) rfl
  have p7 := pad_trailing x0 x2 x3 x4 x5 n 7 (by decide) (idx_main_v163 (ix3 (seq n) (pos n) e)) ⟨384 + e.val, by omega⟩ rfl (by show 8 + (pos n).val + 7 = 15 + (pos n).val; omega) rfl
  have p8 := pad_trailing x0 x2 x3 x4 x5 n 8 (by decide) (idx_main_v165 (ix3 (seq n) (pos n) e)) ⟨384 + e.val, by omega⟩ rfl (by show 7 + (pos n).val + 8 = 15 + (pos n).val; omega) rfl
  have p9 := pad_trailing x0 x2 x3 x4 x5 n 9 (by decide) (idx_main_v167 (ix3 (seq n) (pos n) e)) ⟨384 + e.val, by omega⟩ rfl (by show 6 + (pos n).val + 9 = 15 + (pos n).val; omega) rfl
  have p10 := pad_trailing x0 x2 x3 x4 x5 n 10 (by decide) (idx_main_v169 (ix3 (seq n) (pos n) e)) ⟨384 + e.val, by omega⟩ rfl (by show 5 + (pos n).val + 10 = 15 + (pos n).val; omega) rfl
  have p11 := pad_trailing x0 x2 x3 x4 x5 n 11 (by decide) (idx_main_v171 (ix3 (seq n) (pos n) e)) ⟨384 + e.val, by omega⟩ rfl (by show 4 + (pos n).val + 11 = 15 + (pos n).val; omega) rfl
  have p12 := pad_trailing x0 x2 x3 x4 x5 n 12 (by decide) (idx_main_v173 (ix3 (seq n) (pos n) e)) ⟨384 + e.val, by omega⟩ rfl (by show 3 + (pos n).val + 12 = 15 + (pos n).val; omega) rfl
  have p13 := pad_trailing x0 x2 x3 x4 x5 n 13 (by decide) (idx_main_v175 (ix3 (seq n) (pos n) e)) ⟨384 + e.val, by omega⟩ rfl (by show 2 + (pos n).val + 13 = 15 + (pos n).val; omega) rfl
  have p14 := pad_trailing x0 x2 x3 x4 x5 n 14 (by decide) (idx_main_v177 (ix3 (seq n) (pos n) e)) ⟨384 + e.val, by omega⟩ rfl (by show 1 + (pos n).val + 14 = 15 + (pos n).val; omega) rfl
  have p15 := pad_trailing x0 x2 x3 x4 x5 n 15 (by decide) (idx_main_v179 (ix3 (seq n) (pos n) e)) ⟨384 + e.val, by omega⟩ rfl (by show (pos n).val + 15 = 15 + (pos n).val; omega) rfl
  have pu : val_main_v27 (F := Ideal) x0 x2 x3 x4 x5 (idx_main_v186 (ix3 (seq n) (pos n) e)) = uOf x0 x2 x3 x4 x5 n ⟨384 + e.val, by omega⟩ :=
    (congrArg (val_main_v27 (F := Ideal) x0 x2 x3 x4 x5) (by blk_ext)).trans (u_apply x0 x2 x3 x4 x5 n ⟨384 + e.val, by omega⟩)
  have pc : val_main_v95 (F := Ideal) (idx_main_v183 (idx_main_v184 (ix3 (seq n) (pos n) e))) = countOf n :=
    (congrArg (val_main_v95 (F := Ideal)) (by blk_ext)).trans (count_apply n)
  simp only [val_main_v187_apply, val_main_v186_apply, val_main_v185_apply, val_main_v184_apply, val_main_v183_apply, val_main_v182_apply, val_main_v181_apply, val_main_v180_apply, val_main_v179_apply, val_main_v178_apply, val_main_v177_apply, val_main_v176_apply, val_main_v175_apply, val_main_v174_apply, val_main_v173_apply, val_main_v172_apply, val_main_v171_apply, val_main_v170_apply, val_main_v169_apply, val_main_v168_apply, val_main_v167_apply, val_main_v166_apply, val_main_v165_apply, val_main_v164_apply, val_main_v163_apply, val_main_v162_apply, val_main_v161_apply, val_main_v160_apply, val_main_v159_apply, val_main_v158_apply, val_main_v157_apply, val_main_v156_apply, val_main_v155_apply, val_main_v154_apply, val_main_v153_apply, val_main_v152_apply, val_main_v151_apply, val_main_v150_apply, val_main_v149_apply, val_main_v148_apply, val_main_cst_17_apply, val_main_cst_18_apply, p0, p1, p2, p3, p4, p5, p6, p7, p8, p9, p10, p11, p12, p13, p14, p15, pu, pc]
  rw [show (FloatOps.ofBits .f32 0x00000000#32 : Ideal .f32) = (0 : EReal) from zero_eq]
  unfold lessOf
  simp only [Finset.sum_range_succ, Finset.sum_range_zero]
  exact congrArg (fun z : EReal => z - _) (quotient _ _ _ (by norm_num) (bits_sixteen))

/-- The four groups. -/
theorem group_apply (g : Fin 4) (e : Fin 128) : val_main_v192 (F := Ideal) x0 x2 x3 x4 x5 (ix4 (seq n) (pos n) g e)
    = pooledOf x0 x2 x3 x4 x5 n ⟨128 * g.val + e.val, by omega⟩ := by
  have q0 : val_main_v188 (F := Ideal) x0 x2 x3 x4 x5 (ix4 (seq n) (pos n) 0 e) = _ := (val_main_v188_apply x0 x2 x3 x4 x5 _).trans
    ((congrArg (val_main_v107 (F := Ideal) x0 x2 x3 x4 x5) (by blk_ext)).trans (two_apply x0 x2 x3 x4 x5 n e))
  have q1 : val_main_v189 (F := Ideal) x0 x2 x3 x4 x5 (ix4 (seq n) (pos n) 0 e) = _ := (val_main_v189_apply x0 x2 x3 x4 x5 _).trans
    ((congrArg (val_main_v123 (F := Ideal) x0 x2 x3 x4 x5) (by blk_ext)).trans (four_apply x0 x2 x3 x4 x5 n e))
  have q2 : val_main_v190 (F := Ideal) x0 x2 x3 x4 x5 (ix4 (seq n) (pos n) 0 e) = _ := (val_main_v190_apply x0 x2 x3 x4 x5 _).trans
    ((congrArg (val_main_v147 (F := Ideal) x0 x2 x3 x4 x5) (by blk_ext)).trans (eight_apply x0 x2 x3 x4 x5 n e))
  have q3 : val_main_v191 (F := Ideal) x0 x2 x3 x4 x5 (ix4 (seq n) (pos n) 0 e) = _ := (val_main_v191_apply x0 x2 x3 x4 x5 _).trans
    ((congrArg (val_main_v187 (F := Ideal) x0 x2 x3 x4 x5) (by blk_ext)).trans (sixteen_apply x0 x2 x3 x4 x5 n e))
  unfold val_main_v192
  generalize val_main_v188 (F := Ideal) x0 x2 x3 x4 x5 = y0 at *
  generalize val_main_v189 (F := Ideal) x0 x2 x3 x4 x5 = y1 at *
  generalize val_main_v190 (F := Ideal) x0 x2 x3 x4 x5 = y2 at *
  generalize val_main_v191 (F := Ideal) x0 x2 x3 x4 x5 = y3 at *
  have he : e.val < 128 := e.isLt
  unfold pooledOf
  fin_cases g
  · pointwise
    exact q0
  · pointwise
    exact q1
  · pointwise
    rw [if_neg (by omega), if_neg (by omega), if_pos (by omega)]
    exact q2
  · pointwise
    rw [if_neg (by omega), if_neg (by omega), if_neg (by omega)]
    exact q3

/-- The plain program's pooling is the kernel's. -/
theorem out_pool : val_main_v203 (F := Ideal) x0 x2 x3 x4 x5 x8 x9 x10 = fun y : S65536x512.Idx => poolOf x0 x2 x3 x4 x5 x8 x9 x10 (y 0) (y 1) := by
  funext y
  idx_vars y
  rw [val_main_v203_apply, val_main_v202_apply, val_main_v201_apply, val_main_v197_apply, val_main_v194_apply, val_main_v193_apply,
    val_main_v196_apply, val_main_v195_apply, val_main_v200_apply, val_main_v199_apply, val_main_v198_apply]
  have e0 : idx_main_v202 (ix2 y0 y1) = ix4 (seq y0) (pos y0) (⟨y1.val / 128, by omega⟩ : Fin 4) (⟨y1.val % 128, by omega⟩ : Fin 128) := by
    unfold seq pos
    blk_ext
    <;> omega
  rw [e0]
  unfold poolOf
  refine congrArg₂ (· * ·) (congrArg₂ (· + ·) (Finset.sum_congr rfl fun k _ => ?_) (congrArg x9 (by blk_ext))) (congrArg x10 ?_)
  · refine (mul_comm _ _).trans (congrArg₂ (· * ·) ?_ (congrArg x8 (by blk_ext)))
    exact (congrArg (val_main_v192 (F := Ideal) x0 x2 x3 x4 x5) (by blk_ext)).trans (group_apply x0 x2 x3 x4 x5 y0 ⟨y1.val / 128, by omega⟩ k)
  · blk_ext
    <;> omega

theorem pool_same {x0' : Vec Ideal S8x8192x1024 .f32} {x2' x3' : Vec Ideal S8x1x1024 .f32} {x4' : Vec Ideal S1024 .f32}
    {x5' : Vec Ideal S1024x1280 .f32} {x8' : Vec Ideal S4x128x128 .f32} {x9' : Vec Ideal S4x128 .f32} {x10' : Vec Ideal S512 .f32}
    (h0 : x0 = x0') (h2 : x2 = x2') (h3 : x3 = x3') (h4 : x4 = x4') (h5 : x5 = x5') (h8 : x8 = x8') (h9 : x9 = x9') (h10 : x10 = x10') :
    val_main_v203 (F := Ideal) x0 x2 x3 x4 x5 x8 x9 x10 = fun y : S65536x512.Idx => poolOf x0' x2' x3' x4' x5' x8' x9' x10' (y 0) (y 1) := by
  rw [h0, h2, h3, h4, h5, h8, h9, h10, out_pool]

end Cert.InProj.Ref

end
-- ==== Proof.Ada.Array.lean ====
module

public import proofs.«01_k».proof.Proof.Gen.Kernel5Ideal.Value
public import Idealize.ShloMosaic.Lib.Pipeline.ValueKit
public import Idealize.ShloMosaic.Lib.Claim

@[expose] public section

set_option maxRecDepth 16384

noncomputable section

/-! The modulation of both layers after the run, as a function of the argument arrays. -/

namespace Cert.Ada

open Cert.Kernel5Ideal Cert.Kernel5Ideal.Gen
open Idealize.ShloMosaic Idealize.ShloMosaic.TcCoe Idealize.ShloMosaic.Tactic
open Idealize.SL Idealize.SL.Sem

/-- The activation: a value times the logistic function of it. -/
def silu (x : EReal) : EReal :=
  x * Ideal.div (Ideal.ofBits .f32 0x3F800000#32) (Ideal.ofBits .f32 0x3F800000#32 + Ideal.exp (-x))

theorem zero_sub_eq (x : EReal) : Ideal.ofBits .f32 0x00000000#32 - x = -x := by
  have h : Ideal.ofBits .f32 0x00000000#32 = (0 : EReal) := by simp [Ideal.ofBits, Ideal.ieee]
  rw [h, sub_eq_add_neg, zero_add]

/-- What a grid point stores: its columns of the activation's product with the layer's weights, and their bias. -/
theorem pay_apply (x0 : Vec Ideal S8x1024 .f32) (x1 : Vec Ideal S1x1024x1536 .f32) (x2 : Vec Ideal S1x1x1536 .f32) (b : Fin 8) (e : Fin 1536) :
    k0_pay1 x0 x1 x2 (ix3 0 b e) = ∑ k : Fin 1024, silu (x0 (ix2 b k)) * x1 (ix3 0 k e) + x2 (ix3 0 0 e) := by
  simp only [silu, ← zero_sub_eq]
  pointwise [k0_pay1]

theorem out_apply (x0 : Vec Ideal S8x1024 .f32) (x1 : Vec Ideal S1x1024x1536 .f32) (x2 : Vec Ideal S1x1x1536 .f32) (a : Fin 1) (b : Fin 8) (e : Fin 1536) :
    out0_3 x0 x1 x2 (ix3 a b e) = ∑ k : Fin 1024, silu (x0 (ix2 b k)) * x1 (ix3 0 k e) + x2 (ix3 0 0 e) := by
  obtain rfl : a = 0 := Subsingleton.elim _ _
  unfold out0_3
  rw [View.canon_cons_unit_lit _ _ _ (by decide), View.ld_unit_lit _ _ (by decide), View.ld_unit_lit _ _ (by decide), View.ld_unit_lit _ _ (by decide)]
  exact pay_apply x0 x1 x2 b e

variable (m : (ℓ : Loc nD τ sig) → Buf (Elt Ideal) ℓ) (c : Dev nD)

/-- The bias as the call reads it. -/
theorem V_bias (l : Fin 2) (e : Fin 6144) :
    (V m c main_v0 : Vec Ideal S2x1x6144 .f32) (ix3 l 0 e) = m ((c.tc : Thread nD τ).loc main_arg2) (ix2 l e) := by
  entry_read
  pointwise
  blk_ext

/-- Where the blocks lie. -/
theorem idx : ∀ t : Fin grid0.N, win0_0.index t = ![0, 0] ∧ win0_1.index t = ![t.val / 4, 0, t.val % 4] ∧ win0_2.index t = ![t.val / 4, 0, t.val % 4]
    ∧ win0_3.index t = ![t.val / 4, 0, t.val % 4] := by
  decide +kernel

variable (t : Fin grid0.N)

theorem blk_c (b : Fin 8) (k : Fin 1024) :
    (iblk m c 0 t : Vec Ideal S8x1024 .f32) (ix2 b k) = m ((c.tc : Thread nD τ).loc main_arg0) (ix2 b k) := by
  rw [← V_main_arg0 m c]
  blk_ext [iblk, idx t]

theorem blk_w (k : Fin 1024) (e : Fin 1536) (hl : t.val / 4 < 2) (he : t.val % 4 * 1536 + e.val < 6144) :
    (iblk m c 1 t : Vec Ideal S1x1024x1536 .f32) (ix3 0 k e)
      = m ((c.tc : Thread nD τ).loc main_arg1) (ix3 ⟨t.val / 4, hl⟩ k ⟨t.val % 4 * 1536 + e.val, he⟩) := by
  rw [← V_main_arg1 m c]
  blk_ext [iblk, idx t]

theorem blk_bias (e : Fin 1536) (hl : t.val / 4 < 2) (he : t.val % 4 * 1536 + e.val < 6144) :
    (iblk m c 2 t : Vec Ideal S1x1x1536 .f32) (ix3 0 0 e)
      = V m c main_v0 (ix3 ⟨t.val / 4, hl⟩ 0 ⟨t.val % 4 * 1536 + e.val, he⟩) := by
  blk_ext [iblk, idx t]

/-- The modulation, of the argument arrays. -/
def modulation (A0 : Vec Ideal S8x1024 .f32) (A1 : Vec Ideal S2x1024x6144 .f32) (A2 : Vec Ideal S2x6144 .f32) (l : Fin 2) (b : Fin 8) (e : Fin 6144) : EReal :=
  ∑ k : Fin 1024, silu (A0 (ix2 b k)) * A1 (ix3 l k e) + A2 (ix2 l e)

/-- A grid point's entry is the whole's at the place that the block gives it. -/
theorem point_eq (a : Fin 1) (b : Fin 8) (e : Fin 1536) (l : Fin 2) (f : Fin 6144) (hl : l.val = t.val / 4) (hf : f.val = t.val % 4 * 1536 + e.val) :
    out0_3 (iblk m c 0 t) (iblk m c 1 t) (iblk m c 2 t) (ix3 a b e)
    = modulation (m ((c.tc : Thread nD τ).loc main_arg0)) (m ((c.tc : Thread nD τ).loc main_arg1)) (m ((c.tc : Thread nD τ).loc main_arg2)) l b f := by
  have hl2 : t.val / 4 < 2 := hl ▸ l.isLt
  have hf2 : t.val % 4 * 1536 + e.val < 6144 := hf ▸ f.isLt
  obtain rfl : l = ⟨t.val / 4, hl2⟩ := Fin.ext hl
  obtain rfl : f = ⟨t.val % 4 * 1536 + e.val, hf2⟩ := Fin.ext hf
  rw [out_apply]
  unfold modulation
  exact congrArg₂ (· + ·) (Finset.sum_congr rfl fun k _ => congrArg₂ (· * ·) (congrArg silu (blk_c m c t b k)) (blk_w m c t k e hl2 hf2))
    ((blk_bias m c t e hl2 hf2).trans (V_bias m c _ _))

/-- The modulation after the run. -/
theorem arr_eq : (dats m 0 c).arrAt 3 cfg0.N = (fun y : S2x8x6144.Idx =>
    modulation (m ((c.tc : Thread nD τ).loc main_arg0)) (m ((c.tc : Thread nD τ).loc main_arg1)) (m ((c.tc : Thread nD τ).loc main_arg2))
      (y 0) (y 1) (y 2) : Vec Ideal S2x8x6144 .f32) := by
  refine (dats m 0 c).arrAt_eq_of_covers 3 _ (by decide +kernel) fun t hf y => ?_
  blk_simp
  rw [after0_3]
  idx_vars y
  refine (point_eq m c t y0 y1 y2 (((cfg0.win 3).blk t).view.emb (ix3 y0 y1 y2) 0) (((cfg0.win 3).blk t).view.emb (ix3 y0 y1 y2) 2) ?_ ?_).trans ?_
  · blk_simp [idx t]
  · blk_simp [idx t]
  · refine congrArg (fun b => modulation _ _ _ _ b _) (Fin.ext ?_)
    blk_simp [idx t]

end Cert.Ada

end
-- ==== Proof.Ada.Equation.lean ====
module

public import proofs.«01_k».proof.Proof.Ada.Array
public import proofs.«01_k».proof.Proof.Gen.Reference5Ideal.Read

@[expose] public section

set_option maxRecDepth 16384

noncomputable section

/-! What the plain program computes, entry by entry, and that it is what the kernel computes. -/

namespace Cert.Ada.Ref

open Cert.Reference5Ideal Cert.Reference5Ideal.Gen Cert.Reference5Ideal.Read
open Idealize.ShloMosaic Idealize.ShloMosaic.TcCoe Idealize.ShloMosaic.Tactic
open Idealize.SL Idealize.SL.Sem

variable (x0 : Vec Ideal S8x1024 .f32) (x1 : Vec Ideal S2x1024x6144 .f32) (x2 : Vec Ideal S2x6144 .f32)

/-- The activation. -/
theorem act_apply (i : S8x1024.Idx) : val_main_v0 (F := Ideal) x0 i = silu (x0 i) := by
  rw [val_main_v0_apply, val_main_call0_v5_apply, val_main_call0_v4_apply, val_main_call0_v3_apply, val_main_call0_v2_apply,
    val_main_call0_v1_apply, val_main_call0_v0_apply, val_main_call0_cst_apply, val_main_call0_cst_0_apply]
  rfl

/-- The plain program's modulation is the kernel's. -/
theorem out_eq : val_main_v5 (F := Ideal) x0 x1 x2 = fun y : S2x8x6144.Idx => modulation x0 x1 x2 (y 0) (y 1) (y 2) := by
  funext y
  idx_vars y
  rw [val_main_v5_apply, val_main_v2_apply, val_main_v1_apply, val_main_v4_apply, val_main_v3_apply]
  have e1 : ∀ k, lidx_main_v1 (idx_main_v2 (ix3 y0 y1 y2)) k = ix2 y1 k := fun k => by blk_ext
  have e2 : ∀ k, ridx_main_v1 (idx_main_v2 (ix3 y0 y1 y2)) k = ix3 y0 k y2 := fun k => by blk_ext
  have e3 : idx_main_v3 (idx_main_v4 (ix3 y0 y1 y2)) = ix2 y0 y2 := by blk_ext
  simp only [e1, e2, e3, act_apply]
  rfl

end Cert.Ada.Ref

end
-- ==== Proof.Rope.Row.lean ====
module

public import proofs.«01_k».proof.Proof.OutProj.Array

@[expose] public section

set_option maxRecDepth 16384

noncomputable section

/-! One token's rotary record: the cosines, what rounding left of them, the sines, what rounding left of them. -/

namespace Cert.Rope

open Idealize.ShloMosaic Idealize.SL.Sem

/-- A frequency: a power of the base. -/
def freq (f : Fin 8) : EReal :=
  Ideal.pow (Ideal.ofBits .f32 0x48F42400#32)
    (Ideal.div (-(Ideal.ofBits .f32 0x40000000#32 * (((BitVec.ofNat 32 f.val).toInt : ℝ) : EReal)))
      (Ideal.ofBits .f32 0x41800000#32))

/-- An angle: a position times a frequency. -/
def angle (p : BitVec 32) (f : Fin 8) : EReal := ((p.toInt : ℝ) : EReal) * freq f

theorem zero_eq : Ideal.ofBits .f32 0x00000000#32 = (0 : EReal) := by
  simp [Ideal.ofBits, Ideal.ieee]

theorem one_eq : Ideal.ofBits .f32 0x3F800000#32 = (1 : EReal) := by
  simp [Ideal.ofBits, Ideal.ieee, -EReal.coe_mul]
  norm_num

theorem two_eq : Ideal.ofBits .f32 0x40000000#32 = ((2 : ℝ) : EReal) := by
  simp [Ideal.ofBits, Ideal.ieee, -EReal.coe_mul]
  norm_num

theorem sixteen_eq : Ideal.ofBits .f32 0x41800000#32 = ((16 : ℝ) : EReal) := by
  simp [Ideal.ofBits, Ideal.ieee, -EReal.coe_mul]
  norm_num

theorem base_real : ∃ r : ℝ, Ideal.ofBits .f32 0x48F42400#32 = (r : EReal) := by
  simp [Ideal.ofBits, Ideal.ieee, -EReal.coe_mul]

/-- A frequency is a real number. -/
theorem freq_real (f : Fin 8) : ∃ r : ℝ, freq f = (r : EReal) := by
  obtain ⟨b, hb⟩ := base_real
  unfold freq
  rw [two_eq, sixteen_eq, hb, ← EReal.coe_mul, ← EReal.coe_neg, Ideal.div_coe (by norm_num), ← EReal.coe_mul, Ideal.pow_coe_coe]
  exact ⟨_, rfl⟩

/-- And so is an angle. -/
theorem angle_real (p : BitVec 32) (f : Fin 8) : ∃ r : ℝ, angle p f = (r : EReal) := by
  obtain ⟨r, h⟩ := freq_real f
  unfold angle
  rw [h, ← EReal.coe_mul]
  exact ⟨_, rfl⟩

/-- The record as the kernel's body puts it together. -/
def record (a : Fin 8 → EReal) (j : Fin 32) : EReal :=
  if h : j.val < 8 then Ideal.cos (a ⟨j.val, h⟩)
  else if h : j.val - 8 < 8 then Ideal.cos (a ⟨j.val - 8, h⟩) - Ideal.cos (a ⟨j.val - 8, h⟩)
  else if h : j.val - 8 - 8 < 8 then Ideal.sin (a ⟨j.val - 8 - 8, h⟩)
  else Ideal.sin (a ⟨j.val - 8 - 8 - 8, by omega⟩) - Ideal.sin (a ⟨j.val - 8 - 8 - 8, by omega⟩)

/-- The record with zeros for the rests. -/
def plainRecord (a : Fin 8 → EReal) (j : Fin 32) : EReal :=
  if h : j.val < 8 then Ideal.cos (a ⟨j.val, h⟩)
  else if h : j.val - 8 < 8 then Ideal.ofBits .f32 0x00000000#32
  else if h : j.val - 8 - 8 < 8 then Ideal.sin (a ⟨j.val - 8 - 8, h⟩)
  else Ideal.ofBits .f32 0x00000000#32

theorem cos_rest (x : EReal) (h : ∃ r : ℝ, x = (r : EReal)) : Ideal.cos x - Ideal.cos x = Ideal.ofBits .f32 0x00000000#32 := by
  obtain ⟨r, rfl⟩ := h
  rw [zero_eq]
  exact EReal.sub_self (EReal.coe_ne_top _) (EReal.coe_ne_bot _)

theorem sin_rest (x : EReal) (h : ∃ r : ℝ, x = (r : EReal)) : Ideal.sin x - Ideal.sin x = Ideal.ofBits .f32 0x00000000#32 := by
  obtain ⟨r, rfl⟩ := h
  rw [zero_eq]
  exact EReal.sub_self (EReal.coe_ne_top _) (EReal.coe_ne_bot _)

/-- Of real angles nothing is left. -/
theorem record_eq (a : Fin 8 → EReal) (ha : ∀ f, ∃ r : ℝ, a f = (r : EReal)) (j : Fin 32) : record a j = plainRecord a j := by
  unfold record plainRecord
  by_cases e1 : j.val < 8
  · rw [dif_pos e1, dif_pos e1]
  · rw [dif_neg e1, dif_neg e1]
    by_cases e2 : j.val - 8 < 8
    · rw [dif_pos e2, dif_pos e2, cos_rest _ (ha _)]
    · rw [dif_neg e2, dif_neg e2]
      by_cases e3 : j.val - 8 - 8 < 8
      · rw [dif_pos e3, dif_pos e3]
      · rw [dif_neg e3, dif_neg e3, sin_rest _ (ha _)]

/-- One where the row is the column, zero elsewhere. -/
def eye (i k : Fin 1024) : EReal := if i = k then 1 else 0

/-- The product with that matrix gives the column back. -/
theorem sum_eye (i : Fin 1024) (g : Fin 1024 → EReal) : ∑ k : Fin 1024, eye i k * g k = g i := by
  unfold eye
  rw [Finset.sum_eq_single i]
  · rw [if_pos rfl, one_mul]
  · intro k _ hk
    rw [if_neg (Ne.symm hk), zero_mul]
  · intro h
    exact absurd (Finset.mem_univ i) h

theorem eye_word (i k : Fin 1024) :
    IntOp.cmpi CmpIPredicate.eq (BitVec.ofNat 32 i.val) (BitVec.ofNat 32 k.val) = BitVec.ofBool (decide (i = k)) := by
  unfold IntOp.cmpi
  by_cases h : i = k
  · subst h
    simp
  · have : BitVec.ofNat 32 i.val ≠ BitVec.ofNat 32 k.val := fun e => h (Fin.ext (by
      have e2 := congrArg BitVec.toNat e
      simp only [BitVec.toNat_ofNat] at e2
      omega))
    simp only [h, decide_false]
    exact congrArg BitVec.ofBool (beq_eq_false_iff_ne.mpr this)

theorem eye_bit (i k : Fin 1024) : (FloatOps.uitofp .f32 (BitVec.ofBool (decide (i = k))) : Ideal .f32) = eye i k := by
  unfold eye
  by_cases h : i = k <;> simp [FloatOps.uitofp, h]

end Cert.Rope

end
-- ==== Proof.Rope.Array.lean ====
module

public import proofs.«01_k».proof.Proof.Rope.Row
public import proofs.«01_k».proof.Proof.Gen.Kernel6Ideal.Value
public import Idealize.ShloMosaic.Lib.Pipeline.ValueKit
public import Idealize.ShloMosaic.Lib.Claim

@[expose] public section

set_option maxRecDepth 16384

noncomputable section

/-! The rotary table after the run, as a function of the positions. -/

namespace Cert.Rope

open Cert.Kernel6Ideal Cert.Kernel6Ideal.Gen
open Cert.OutProj (seq pos)
open Idealize.ShloMosaic Idealize.ShloMosaic.TcCoe Idealize.ShloMosaic.Tactic
open Idealize.SL Idealize.SL.Sem

/-- What a grid point stores: the product of its matrix with the records, one column for each token. -/
theorem pay_apply (x0 : Vec Ideal S1x1024 .i32) (x1 : Vec Ideal S8x1 .f32) (x2 : Vec Ideal S1024x1024 .bf16) (i : Fin 1024) (j : Fin 32) :
    k0_pay1 x0 x1 x2 (ix2 i j) = ∑ k : Fin 1024, x2 (ix2 i k) * record (fun f => (((x0 (ix2 0 k)).toInt : ℝ) : EReal) * x1 (ix2 f 0)) j := by
  unfold record
  pointwise [k0_pay1]
  rfl

theorem out_apply (x0 : Vec Ideal S1x1024 .i32) (x1 : Vec Ideal S8x1 .f32) (x2 : Vec Ideal S1024x1024 .bf16) (i : Fin 1024) (j : Fin 32) :
    out0_3 x0 x1 x2 (ix2 i j) = ∑ k : Fin 1024, x2 (ix2 i k) * record (fun f => (((x0 (ix2 0 k)).toInt : ℝ) : EReal) * x1 (ix2 f 0)) j := by
  unfold out0_3
  rw [View.canon_cons_unit_lit _ _ _ (by decide), View.ld_unit_lit _ _ (by decide), View.ld_unit_lit _ _ (by decide), View.ld_unit_lit _ _ (by decide)]
  exact pay_apply x0 x1 x2 i j

variable (m : (ℓ : Loc nD τ sig) → Buf (Elt Ideal) ℓ) (c : Dev nD)

/-- The positions as the call reads them. -/
theorem V_pos (n : Fin 65536) :
    (V m c main_v15 : Vec Ideal S1x65536 .i32) (ix2 0 n) = m ((c.tc : Thread nD τ).loc main_arg0) (ix2 (seq n) (pos n)) := by
  unfold seq pos
  entry_read
  pointwise
  blk_ext

/-- The frequencies. -/
theorem V_freq (f : Fin 8) : (V m c main_v16 : Vec Ideal S8x1 .f32) (ix2 f 0) = freq f := by
  entry_read
  pointwise
  rfl

/-- The matrix that gives every column back. -/
theorem V_eye (i k : Fin 1024) : (V m c main_v14 : Vec Ideal S1024x1024 .bf16) (ix2 i k) = eye i k := by
  rw [← eye_bit, ← eye_word]
  entry_read
  pointwise

/-- Where the blocks lie. -/
theorem idx : ∀ t : Fin grid0.N, win0_0.index t = ![0, t.val] ∧ win0_1.index t = ![0, 0] ∧ win0_2.index t = ![0, 0] ∧ win0_3.index t = ![t.val, 0] := by
  decide +kernel

variable (t : Fin grid0.N)

theorem blk_pos (k : Fin 1024) (h : t.val * 1024 + k.val < 65536) :
    (iblk m c 0 t : Vec Ideal S1x1024 .i32) (ix2 0 k) = V m c main_v15 (ix2 0 ⟨t.val * 1024 + k.val, h⟩) := by
  blk_ext [iblk, idx t]

theorem blk_freq (f : Fin 8) : (iblk m c 1 t : Vec Ideal S8x1 .f32) (ix2 f 0) = V m c main_v16 (ix2 f 0) := by
  blk_ext [iblk, idx t]

theorem blk_eye (i k : Fin 1024) : (iblk m c 2 t : Vec Ideal S1024x1024 .bf16) (ix2 i k) = V m c main_v14 (ix2 i k) := by
  blk_ext [iblk, idx t]

/-- The table, of the positions. -/
def tableOf (A0 : Vec Ideal S8x8192 .i32) (n : Fin 65536) (j : Fin 32) : EReal := plainRecord (angle (A0 (ix2 (seq n) (pos n)))) j

/-- A grid point's entry is the whole's at the place that the block gives it. -/
theorem point_eq (i : Fin 1024) (j : Fin 32) (n : Fin 65536) (hn : n.val = t.val * 1024 + i.val) :
    out0_3 (iblk m c 0 t) (iblk m c 1 t) (iblk m c 2 t) (ix2 i j) = tableOf (m ((c.tc : Thread nD τ).loc main_arg0)) n j := by
  have hb : t.val * 1024 + i.val < 65536 := hn ▸ n.isLt
  obtain rfl : n = ⟨t.val * 1024 + i.val, hb⟩ := Fin.ext hn
  rw [out_apply]
  refine (Finset.sum_congr rfl fun k _ => congrArg (fun z : EReal => z * _) ((blk_eye m c t i k).trans (V_eye m c i k))).trans ((sum_eye i _).trans ?_)
  unfold tableOf
  rw [← record_eq _ (angle_real _)]
  refine congrArg (fun a => record a j) (funext fun f => ?_)
  unfold angle
  exact congrArg₂ (fun p q => ((BitVec.toInt p : ℝ) : EReal) * q) ((blk_pos m c t i hb).trans (V_pos m c _)) ((blk_freq m c t f).trans (V_freq m c f))

/-- The table after the run. -/
theorem arr_eq : (dats m 0 c).arrAt 3 cfg0.N = (fun y : S65536x32.Idx =>
    tableOf (m ((c.tc : Thread nD τ).loc main_arg0)) (y 0) (y 1) : Vec Ideal S65536x32 .bf16) := by
  refine (dats m 0 c).arrAt_eq_of_covers 3 _ (by decide +kernel) fun t hf y => ?_
  blk_simp
  rw [after0_3]
  idx_vars y
  refine (point_eq m c t y0 y1 (((cfg0.win 3).blk t).view.emb (ix2 y0 y1) 0) ?_).trans ?_
  · blk_simp [idx t]
  · refine congrArg (tableOf _ _) (Fin.ext ?_)
    blk_simp [idx t]

end Cert.Rope

end
-- ==== Proof.Rope.Equation.lean ====
module

public import proofs.«01_k».proof.Proof.Rope.Array
public import proofs.«01_k».proof.Proof.Gen.Reference6Ideal.Read

@[expose] public section

set_option maxRecDepth 16384

noncomputable section

/-! What the plain program computes, entry by entry, and that it is what the kernel computes. -/

namespace Cert.Rope.Ref

open Cert.Reference6Ideal Cert.Reference6Ideal.Gen Cert.Reference6Ideal.Read
open Cert.OutProj (seq pos)
open Idealize.ShloMosaic Idealize.ShloMosaic.TcCoe Idealize.ShloMosaic.Tactic
open Idealize.SL Idealize.SL.Sem

variable (x0 : Vec Ideal S8x8192 .i32)

/-- The frequencies. -/
theorem freq_apply (f : Fin 8) : val_main_v9 (F := Ideal) (ix1 f) = freq f := by
  rw [val_main_v9_apply, val_main_v8_apply, val_main_v7_apply, val_main_v6_apply, val_main_v5_apply, val_main_v4_apply, val_main_v3_apply,
    val_main_v2_apply, val_main_v1_apply, val_main_cst_apply, val_main_cst_0_apply, val_main_cst_1_apply, val_main_cst_2_apply]
  show Ideal.pow _ (Ideal.div (-(Ideal.ofBits .f32 0x00000000#32 + _)) _) = _
  rw [zero_eq, zero_add]
  rfl

/-- The angles. -/
theorem angle_apply (b : Fin 8) (s : Fin 8192) (f : Fin 8) : val_main_v15 (F := Ideal) x0 (ix3 b s f) = angle (x0 (ix2 b s)) f := by
  rw [val_main_v15_apply, val_main_v13_apply, val_main_v11_apply, val_main_v10_apply, val_main_v14_apply, val_main_v12_apply]
  have e1 : idx_main_v11 (idx_main_v13 (ix3 b s f)) = ix2 b s := by blk_ext
  have e2 : idx_main_v12 (idx_main_v14 (ix3 b s f)) = ix1 f := by blk_ext
  rw [e1, e2, freq_apply]
  rfl

/-- The four parts side by side. -/
theorem table_apply (b : Fin 8) (s : Fin 8192) (j : Fin 32) : val_main_v19 (F := Ideal) x0 (ix3 b s j) = plainRecord (angle (x0 (ix2 b s))) j := by
  have h1 : ∀ f, val_main_v16 (F := Ideal) x0 (ix3 b s f) = Ideal.cos (angle (x0 (ix2 b s)) f) := fun f => by
    rw [val_main_v16_apply, angle_apply]
    rfl
  have h2 : ∀ f, val_main_v17 (F := Ideal) x0 (ix3 b s f) = Ideal.sin (angle (x0 (ix2 b s)) f) := fun f => by
    rw [val_main_v17_apply, angle_apply]
    rfl
  have h3 : ∀ f, val_main_v18 (F := Ideal) (ix3 b s f) = Ideal.ofBits .f32 0x00000000#32 := fun f => by
    rw [val_main_v18_apply, val_main_cst_3_apply]
    rfl
  unfold val_main_v19
  generalize val_main_v16 (F := Ideal) x0 = y1 at *
  generalize val_main_v17 (F := Ideal) x0 = y2 at *
  generalize val_main_v18 (F := Ideal) = y3 at *
  pointwise
  simp only [h1, h2, h3]
  rfl

/-- The plain program's table is the kernel's. -/
theorem out_eq : val_main_v21 (F := Ideal) x0 = fun y : S65536x32.Idx => tableOf x0 (y 0) (y 1) := by
  funext y
  idx_vars y
  rw [val_main_v21_apply, val_main_v20_apply]
  have e : idx_main_v20 (ix2 y0 y1) = ix3 (seq y0) (pos y0) y1 := by
    unfold seq pos
    blk_ext
  rw [e, table_apply]
  rfl

end Cert.Rope.Ref

end
-- ==== Proof.lean ====
module

public import proofs.«01_k».proof.Defs
public import proofs.«01_k».proof.Proof.Gen.Kernel
public import proofs.«01_k».proof.Proof.Gen.Kernel.Frame
public import proofs.«01_k».proof.Proof.Gen.KernelIdeal.Frame
public import proofs.«01_k».proof.Proof.Gen.KernelIdeal.Value
public import proofs.«01_k».proof.Proof.Gen.ReferenceIdeal.Run
public import proofs.«01_k».proof.Proof.Gen.ReferenceIdeal.Read
public import proofs.«01_k».proof.Proof.Gen.Kernel2
public import proofs.«01_k».proof.Proof.Gen.Kernel2Ideal
public import proofs.«01_k».proof.Proof.Gen.Kernel2Ideal.Launch
public import proofs.«01_k».proof.Proof.Gen.Kernel2Ideal.Skeleton
public import proofs.«01_k».proof.Proof.Gen.Kernel2.Skeleton
public import proofs.«01_k».proof.Proof.Gen.Reference2Ideal
public import proofs.«01_k».proof.Proof.Gen.Reference2Ideal.Run
public import proofs.«01_k».proof.Proof.Gen.Reference2Ideal.Read
public import proofs.«01_k».proof.Proof.Gen.Kernel3
public import proofs.«01_k».proof.Proof.Gen.Kernel3.Frame
public import proofs.«01_k».proof.Proof.Gen.Kernel3Ideal
public import proofs.«01_k».proof.Proof.Gen.Kernel3Ideal.Frame
public import proofs.«01_k».proof.Proof.Gen.Kernel3Ideal.Value
public import proofs.«01_k».proof.Proof.Gen.Reference3Ideal
public import proofs.«01_k».proof.Proof.Gen.Reference3Ideal.Run
public import proofs.«01_k».proof.Proof.Gen.Reference3Ideal.Read
public import proofs.«01_k».proof.Proof.Gen.Kernel4
public import proofs.«01_k».proof.Proof.Gen.Kernel4Ideal
public import proofs.«01_k».proof.Proof.Gen.Kernel4Ideal.Frame.Runs
public import proofs.«01_k».proof.Proof.Gen.Reference4Ideal
public import proofs.«01_k».proof.Proof.Gen.Reference4Ideal.Run
public import proofs.«01_k».proof.Proof.Gen.Reference4Ideal.Read
public import proofs.«01_k».proof.Proof.Gen.Kernel5
public import proofs.«01_k».proof.Proof.Gen.Kernel5.Frame
public import proofs.«01_k».proof.Proof.Gen.Kernel5Ideal
public import proofs.«01_k».proof.Proof.Gen.Kernel5Ideal.Frame
public import proofs.«01_k».proof.Proof.Gen.Kernel5Ideal.Value
public import proofs.«01_k».proof.Proof.Gen.Reference5Ideal
public import proofs.«01_k».proof.Proof.Gen.Reference5Ideal.Run
public import proofs.«01_k».proof.Proof.Gen.Reference5Ideal.Read
public import proofs.«01_k».proof.Proof.Gen.Kernel6
public import proofs.«01_k».proof.Proof.Gen.Kernel6.Frame
public import proofs.«01_k».proof.Proof.Gen.Kernel6Ideal
public import proofs.«01_k».proof.Proof.Gen.Kernel6Ideal.Frame
public import proofs.«01_k».proof.Proof.Gen.Kernel6Ideal.Value
public import proofs.«01_k».proof.Proof.Gen.Reference6Ideal
public import proofs.«01_k».proof.Proof.Gen.Reference6Ideal.Run
public import proofs.«01_k».proof.Proof.Gen.Reference6Ideal.Read
public import proofs.«01_k».proof.Proof.Attn.Equation
public import proofs.«01_k».proof.Proof.Experts.Ok
public import proofs.«01_k».proof.Proof.Experts.Text
public import proofs.«01_k».proof.Proof.Experts.Equation
public import proofs.«01_k».proof.Proof.OutProj.Equation
public import proofs.«01_k».proof.Proof.InProj.Frame
public import proofs.«01_k».proof.Proof.InProj.Text
public import proofs.«01_k».proof.Proof.InProj.Equation
public import proofs.«01_k».proof.Proof.InProj.PoolArray
public import proofs.«01_k».proof.Proof.InProj.PoolEquation
public import proofs.«01_k».proof.Proof.Ada.Equation
public import proofs.«01_k».proof.Proof.Rope.Equation
public import Idealize.ShloMosaic.Adequacy
public import Idealize.ShloMosaic.Init

@[expose] public section

noncomputable section

/-! The claims of the attention, the experts, the output projection, the input projection, the modulation and the rotary table programs, put together from the frames and the equations of the results. -/

namespace Cert.Proof

open Idealize.ShloMosaic Idealize.SL.Sem

/-- The shape facts the precondition states. -/
theorem preFacts : Cert.Pre_finite.Facts := ⟨by decide, by decide, by decide⟩

/-- The plain program ends with its arguments unchanged and every counter at zero: it declares no semaphore. -/
theorem referenceFrame (m : (ℓ : Loc Cert.ReferenceIdeal.nD Cert.ReferenceIdeal.τ Cert.ReferenceIdeal.sig) → Buf (Elt Ideal) ℓ)
    (g : Dev Cert.ReferenceIdeal.nD → PrngReg) :
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))
      ∧ r.2.sem = fun _ => 0) :=
  (θ_run _ _ _).mono (fun r h => ⟨fun c => (h c).2, sem_eq_zero_of_no_sems rfl _⟩) (Cert.ReferenceIdeal.Value.run m g)

/-- The value claim: from the same finite arguments both programs end with the tiled attention's result. -/
theorem algebraic : Cert.algebraic_KernelIdeal_ReferenceIdeal_pre_finite (hKernelIdeal := Cert.KernelIdeal.Gen.facts)
    (hReferenceIdeal := Cert.ReferenceIdeal.Gen.facts) (hPre_finite := preFacts) := by
  intro m g m' g' hpre hargs
  refine ⟨_, (θ_run _ _ _).mono (fun r h c => h c) (Cert.KernelIdeal.Value.run_blocks m g),
    (θ_run _ _ _).mono (fun r h c => ⟨(h c).1.trans ?_, (h c).2⟩) (Cert.ReferenceIdeal.Value.run m' g')⟩
  obtain ⟨p0, p1, p3⟩ := hpre c
  obtain ⟨h0, h1, h2, h3⟩ := hargs c
  rw [Cert.ReferenceIdeal.Read.val_main_v62_eq m' c, h0, h1, h2, h3]
  exact ((Cert.Attn.Array.arr_eq m c).trans (Cert.Attn.Equation.out_eq _ _ _ _
    (Cert.Attn.Equation.fin_of_lt preFacts.bcast_S_S8x8192x8x64 _ p0)
    (Cert.Attn.Equation.fin_of_lt preFacts.bcast_S_S8x8192x2x64 _ p1)
    (Cert.Attn.Equation.fin_of_lt preFacts.bcast_S_S8 _ p3))).symm

/-! ## The experts -/

/-- With the tables in range the experts' kernel ends, its arguments unchanged and every counter at zero. -/
theorem expertsFrame : Cert.quiescent_Kernel2Ideal (hKernel2Ideal := Cert.Kernel2Ideal.Gen.facts) (hPre_in_range := Cert.Experts.preFacts) :=
  fun m g hpre => Cert.Experts.frame m g (Cert.Experts.ok_of_range m (Cert.Experts.inRange_of_pre m _ _ _ _ _ _ _ _ (hpre 0)
    (Cert.Experts.tbl0_eq m 0) (Cert.Experts.tbl2_eq m 0)))

/-- With the tables in range every block lies in its array, over machine floats too. -/
theorem expertsOkBits (m : (ℓ : Loc Cert.Kernel2Ideal.nD Cert.Kernel2Ideal.τ Cert.Kernel2Ideal.sig) → Buf (Elt Bits) ℓ)
    (hpre : @Cert.Pre_Kernel2 Cert.Experts.preFacts m) : Cert.Experts.Ok (F := Bits) m :=
  Cert.Experts.ok_of_range (F := Bits) m (Cert.Experts.inRange_of_pre (F := Bits) m _ _ _ _ _ _ _ _ (hpre 0)
    (Cert.Experts.tbl0_eq (F := Bits) m 0) (Cert.Experts.tbl2_eq (F := Bits) m 0))

/-- The same of the program over machine floats, whose text is the same. -/
theorem expertsFrameBits : Cert.quiescent_Kernel2 (hKernel2 := Cert.Kernel2.Gen.facts) (hPre_in_range := Cert.Experts.preFacts) :=
  fun m g hpre => Cert.Experts.run_bits _ _ (Cert.Experts.frame (F := Bits) m g (expertsOkBits m hpre))

/-- The plain experts end with their arguments unchanged and every counter at zero. -/
theorem referenceFrame2 : Cert.quiescent_Reference2Ideal (hReference2Ideal := Cert.Reference2Ideal.Gen.facts) :=
  fun m g _ => (θ_run _ _ _).mono (fun r h => ⟨fun c => (h c).2, sem_eq_zero_of_no_sems rfl _⟩) (Cert.Reference2Ideal.Value.run m g)

/-- The experts' value claim: with the tables in range both programs end with every block's rows through its expert. -/
theorem algebraic2 : Cert.algebraic_Kernel2Ideal_Reference2Ideal (hKernel2Ideal := Cert.Kernel2Ideal.Gen.facts)
    (hReference2Ideal := Cert.Reference2Ideal.Gen.facts) (hPre_in_range := Cert.Experts.preFacts) := by
  intro m g m' g' hpre hargs
  have hR : Cert.Experts.InRange m := Cert.Experts.inRange_of_pre m _ _ _ _ _ _ _ _ (hpre 0) (Cert.Experts.tbl0_eq m 0) (Cert.Experts.tbl2_eq m 0)
  have hO := Cert.Experts.ok_of_range m hR
  refine ⟨_, (θ_run _ _ _).mono (fun r h c => ⟨((h.1 c).1 5).trans (Cert.Experts.arr_eq m c hO hR), Cert.Experts.args_kept m hO r h.1 c⟩)
      (Cert.Experts.run_main m g hO),
    (θ_run _ _ _).mono (fun r h c => ⟨(h c).1.trans ?_, (h c).2⟩) (Cert.Reference2Ideal.Value.run m' g')⟩
  obtain ⟨h0, h1, h2, h3, h4, h5, h6, h7⟩ := hargs c
  rw [Cert.Reference2Ideal.Read.val_main_v76_eq m' c, h0, h1, h2, h3, h4, h5, h6, h7]
  exact (Cert.Experts.out_eq _ _ _ _ _ _ _ _ (fun k => Cert.Experts.tbl0_eq m c ▸ hR.1 k)).symm

/-! ## The output projection -/

/-- The plain output projection ends with its arguments unchanged and every counter at zero. -/
theorem referenceFrame3 : Cert.quiescent_Reference3Ideal (hReference3Ideal := Cert.Reference3Ideal.Gen.facts) :=
  fun m g _ => (θ_run _ _ _).mono (fun r h => ⟨fun c => (h c).2.2, sem_eq_zero_of_no_sems rfl _⟩) (Cert.Reference3Ideal.Value.run m g)

/-- The output projection's value claim: both programs end with the same residual stream and the same norm of it. -/
theorem algebraic3 : Cert.algebraic_Kernel3Ideal_Reference3Ideal (hKernel3Ideal := Cert.Kernel3Ideal.Gen.facts)
    (hReference3Ideal := Cert.Reference3Ideal.Gen.facts) := by
  intro m g m' g' hpre hargs
  refine ⟨_, _, (θ_run _ _ _).mono (fun r h c => ⟨(h c).1.trans (Cert.OutProj.arr13_eq m c), (h c).2.1.trans (Cert.OutProj.arr14_eq m c),
      (h c).2.2.2.2.2.2⟩) (Cert.Kernel3Ideal.Value.run_blocks m g),
    (θ_run _ _ _).mono (fun r h c => ⟨(h c).1.trans ?_, (h c).2.1.trans ?_, (h c).2.2⟩) (Cert.Reference3Ideal.Value.run m' g')⟩
  · obtain ⟨h0, h1, h2, h3, h4, h5, h6, h7, h8, h9⟩ := hargs c
    rw [Cert.Reference3Ideal.Read.val_main_v24_eq, h0, h1, h2, h3, h7]
    exact Cert.OutProj.Ref.out_stream _ _ _ _ _
  · obtain ⟨h0, h1, h2, h3, h4, h5, h6, h7, h8, h9⟩ := hargs c
    rw [Cert.Reference3Ideal.Read.val_main_v26_eq, h0, h1, h2, h3, h4, h5, h6, h7]
    exact Cert.OutProj.Ref.out_normed _ _ _ _ _ _ _ _

/-! ## The input projection -/

/-- The plain input projection ends with its arguments unchanged and every counter at zero. -/
theorem referenceFrame4 : Cert.quiescent_Reference4Ideal (hReference4Ideal := Cert.Reference4Ideal.Gen.facts) :=
  fun m g _ => (θ_run _ _ _).mono (fun r h => ⟨fun c => (h c).2.2.2.2, sem_eq_zero_of_no_sems rfl _⟩) (Cert.Reference4Ideal.Value.run m g)

set_option maxHeartbeats 1000000 in
/-- The input projection's value claim: both programs end with the same queries, keys, values and pooling. -/
theorem algebraic4 : Cert.algebraic_Kernel4Ideal_Reference4Ideal (hKernel4Ideal := Cert.Kernel4Ideal.Gen.facts)
    (hReference4Ideal := Cert.Reference4Ideal.Gen.facts) := by
  intro m g m' g' hpre hargs
  refine ⟨_, _, _, _, (θ_run _ _ _).mono (fun r h c => ⟨((h.2 c).1 15).trans (Cert.InProj.arr15_eq m c), ((h.2 c).1 16).trans (Cert.InProj.arr16_eq m c),
      ((h.2 c).1 17).trans (Cert.InProj.arr17_eq m c), ((h.2 c).1 18).trans (Cert.InProj.arr18_eq m c), h.1 c⟩) (θ_run_and (Cert.InProj.Run.unchanged m g) (Cert.InProj.Run.run_main m g)),
    (θ_run _ _ _).mono (fun r h c => ⟨(h c).1.trans ?_, (h c).2.1.trans ?_, (h c).2.2.1.trans ?_, (h c).2.2.2.1.trans ?_, (h c).2.2.2.2⟩) (Cert.Reference4Ideal.Value.run m' g')⟩
  · obtain ⟨h0, h1, h2, h3, h4, h5, h6, -⟩ := hargs c
    exact (Cert.Reference4Ideal.Read.val_main_v87_eq _).trans (Cert.InProj.Ref.query_same h0 h1 h2 h3 h4 h5 h6)
  · obtain ⟨h0, h1, h2, h3, h4, h5, h6, h7, -⟩ := hargs c
    exact (Cert.Reference4Ideal.Read.val_main_v89_eq _).trans (Cert.InProj.Ref.key_same h0 h1 h2 h3 h4 h5 h7)
  · obtain ⟨h0, h1, h2, h3, h4, h5, -⟩ := hargs c
    exact (Cert.Reference4Ideal.Read.val_main_v91_eq _).trans (Cert.InProj.Ref.value_same h0 h2 h3 h4 h5)
  · obtain ⟨h0, h1, h2, h3, h4, h5, h6, h7, h8, h9, h10⟩ := hargs c
    exact (Cert.Reference4Ideal.Read.val_main_v203_eq _).trans (Cert.InProj.Ref.pool_same _ _ _ _ _ _ _ _ h0 h2 h3 h4 h5 h8 h9 h10)

/-! ## The modulation -/

/-- The plain modulation ends with its arguments unchanged and every counter at zero. -/
theorem referenceFrame5 : Cert.quiescent_Reference5Ideal (hReference5Ideal := Cert.Reference5Ideal.Gen.facts) :=
  fun m g _ => (θ_run _ _ _).mono (fun r h => ⟨fun c => (h c).2, sem_eq_zero_of_no_sems rfl _⟩) (Cert.Reference5Ideal.Value.run m g)

/-- The modulation's value claim: both programs end with the same modulation of both layers. -/
theorem algebraic5 : Cert.algebraic_Kernel5Ideal_Reference5Ideal (hKernel5Ideal := Cert.Kernel5Ideal.Gen.facts)
    (hReference5Ideal := Cert.Reference5Ideal.Gen.facts) := by
  intro m g m' g' hpre hargs
  refine ⟨_, (θ_run _ _ _).mono (fun r h c => ⟨(h c).1.trans (Cert.Ada.arr_eq m c), (h c).2⟩) (Cert.Kernel5Ideal.Value.run_blocks m g),
    (θ_run _ _ _).mono (fun r h c => ⟨(h c).1.trans ?_, (h c).2⟩) (Cert.Reference5Ideal.Value.run m' g')⟩
  obtain ⟨h0, h1, h2⟩ := hargs c
  rw [Cert.Reference5Ideal.Read.val_main_v5_eq, h0, h1, h2]
  exact Cert.Ada.Ref.out_eq _ _ _

/-! ## The rotary table -/

/-- The plain table ends with its argument unchanged and every counter at zero. -/
theorem referenceFrame6 : Cert.quiescent_Reference6Ideal (hReference6Ideal := Cert.Reference6Ideal.Gen.facts) :=
  fun m g _ => (θ_run _ _ _).mono (fun r h => ⟨fun c => (h c).2, sem_eq_zero_of_no_sems rfl _⟩) (Cert.Reference6Ideal.Value.run m g)

/-- The rotary table's value claim: both programs end with the same table. -/
theorem algebraic6 : Cert.algebraic_Kernel6Ideal_Reference6Ideal (hKernel6Ideal := Cert.Kernel6Ideal.Gen.facts)
    (hReference6Ideal := Cert.Reference6Ideal.Gen.facts) := by
  intro m g m' g' hpre hargs
  refine ⟨_, (θ_run _ _ _).mono (fun r h c => ⟨(h c).1.trans (Cert.Rope.arr_eq m c), (h c).2⟩) (Cert.Kernel6Ideal.Value.run_blocks m g),
    (θ_run _ _ _).mono (fun r h c => ⟨(h c).1.trans ?_, (h c).2⟩) (Cert.Reference6Ideal.Value.run m' g')⟩
  have h0 := hargs c
  rw [Cert.Reference6Ideal.Read.val_main_v21_eq, h0]
  exact Cert.Rope.Ref.out_eq _

/-- Everything the certificate claims. -/
theorem claim : Cert.Claim :=
  ⟨Cert.Kernel.Gen.facts, Cert.KernelIdeal.Gen.facts, Cert.ReferenceIdeal.Gen.facts, Cert.Kernel2.Gen.facts,
    Cert.Kernel2Ideal.Gen.facts, Cert.Reference2Ideal.Gen.facts,
    Cert.Kernel3.Gen.facts, Cert.Kernel3Ideal.Gen.facts, Cert.Reference3Ideal.Gen.facts,
    Cert.Kernel4.Gen.facts, Cert.Kernel4Ideal.Gen.facts, Cert.Reference4Ideal.Gen.facts,
    Cert.Kernel5.Gen.facts, Cert.Kernel5Ideal.Gen.facts, Cert.Reference5Ideal.Gen.facts,
    Cert.Kernel6.Gen.facts, Cert.Kernel6Ideal.Gen.facts, Cert.Reference6Ideal.Gen.facts, preFacts, Cert.Experts.preFacts,
    fun m g _ => Cert.Kernel.Gen.frame m g, fun m g _ => Cert.KernelIdeal.Gen.frame m g, fun m g _ => Cert.KernelIdeal.Gen.frame m g,
    fun m g _ => referenceFrame m g, fun m g _ => referenceFrame m g, expertsFrameBits, expertsFrame, referenceFrame2,
    fun m g _ => referenceFrame2 m g trivial, fun m g _ => Cert.Kernel3.Gen.frame m g, fun m g _ => Cert.Kernel3Ideal.Gen.frame m g,
    referenceFrame3, fun m g _ => Cert.InProj.run_bits _ _ (Cert.InProj.Run.frame (F := Bits) m g), fun m g _ => Cert.InProj.Run.frame m g,
    referenceFrame4, fun m g _ => Cert.Kernel5.Gen.frame m g, fun m g _ => Cert.Kernel5Ideal.Gen.frame m g, referenceFrame5,
    fun m g _ => Cert.Kernel6.Gen.frame m g, fun m g _ => Cert.Kernel6Ideal.Gen.frame m g, referenceFrame6,
    trivial, algebraic, trivial, algebraic2, trivial, algebraic3, trivial, algebraic4, trivial, algebraic5, trivial, algebraic6⟩

end Cert.Proof

end
